-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Df (m : (ℓ : Loc Cert.Df.nD Cert.Df.τ Cert.Df.sig) → Buf (Elt Bits) ℓ) : Prop :=
  True

def Pre_DfIdeal (m : (ℓ : Loc Cert.DfIdeal.nD Cert.DfIdeal.τ Cert.DfIdeal.sig) → Buf (Elt Ideal) ℓ) : Prop :=
  True

def Pre_DfRefIdeal (m : (ℓ : Loc Cert.DfRefIdeal.nD Cert.DfRefIdeal.τ Cert.DfRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_DhAdd (m : (ℓ : Loc Cert.DhAdd.nD Cert.DhAdd.τ Cert.DhAdd.sig) → Buf (Elt Bits) ℓ) : Prop :=
  True

def Pre_DhAddIdeal (m : (ℓ : Loc Cert.DhAddIdeal.nD Cert.DhAddIdeal.τ Cert.DhAddIdeal.sig) → Buf (Elt Ideal) ℓ) : Prop :=
  True

def Pre_DhAddRefIdeal (m : (ℓ : Loc Cert.DhAddRefIdeal.nD Cert.DhAddRefIdeal.τ Cert.DhAddRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_Sq (m : (ℓ : Loc Cert.Sq.nD Cert.Sq.τ Cert.Sq.sig) → Buf (Elt Bits) ℓ) : Prop :=
  True

def Pre_SqIdeal (m : (ℓ : Loc Cert.SqIdeal.nD Cert.SqIdeal.τ Cert.SqIdeal.sig) → Buf (Elt Ideal) ℓ) : Prop :=
  True

def Pre_SqRefIdeal (m : (ℓ : Loc Cert.SqRefIdeal.nD Cert.SqRefIdeal.τ Cert.SqRefIdeal.sig) → Buf (Elt Ideal) ℓ) : Prop :=
  True

def Pre_Dsq (m : (ℓ : Loc Cert.Dsq.nD Cert.Dsq.τ Cert.Dsq.sig) → Buf (Elt Bits) ℓ) : Prop :=
  True

def Pre_DsqIdeal (m : (ℓ : Loc Cert.DsqIdeal.nD Cert.DsqIdeal.τ Cert.DsqIdeal.sig) → Buf (Elt Ideal) ℓ) : Prop :=
  True

def Pre_DsqRefIdeal (m : (ℓ : Loc Cert.DsqRefIdeal.nD Cert.DsqRefIdeal.τ Cert.DsqRefIdeal.sig) → Buf (Elt Ideal) ℓ) : Prop :=
  True

def Pre_DwSq (m : (ℓ : Loc Cert.DwSq.nD Cert.DwSq.τ Cert.DwSq.sig) → Buf (Elt Bits) ℓ) : Prop :=
  True

def Pre_DwSqIdeal (m : (ℓ : Loc Cert.DwSqIdeal.nD Cert.DwSqIdeal.τ Cert.DwSqIdeal.sig) → Buf (Elt Ideal) ℓ) : Prop :=
  True

def Pre_DwSqRefIdeal (m : (ℓ : Loc Cert.DwSqRefIdeal.nD Cert.DwSqRefIdeal.τ Cert.DwSqRefIdeal.sig) → Buf (Elt Ideal) ℓ) : Prop :=
  True

def Pre_DoAttn (m : (ℓ : Loc Cert.DoAttn.nD Cert.DoAttn.τ Cert.DoAttn.sig) → Buf (Elt Bits) ℓ) : Prop :=
  True

def Pre_DoAttnIdeal (m : (ℓ : Loc Cert.DoAttnIdeal.nD Cert.DoAttnIdeal.τ Cert.DoAttnIdeal.sig) → Buf (Elt Ideal) ℓ) : Prop :=
  True

def Pre_DoAttnRefIdeal (m : (ℓ : Loc Cert.DoAttnRefIdeal.nD Cert.DoAttnRefIdeal.τ Cert.DoAttnRefIdeal.sig) → Buf (Elt Ideal) ℓ) : Prop :=
  True

def Pre_DsqAdd (m : (ℓ : Loc Cert.DsqAdd.nD Cert.DsqAdd.τ Cert.DsqAdd.sig) → Buf (Elt Bits) ℓ) : Prop :=
  True

def Pre_DsqAddIdeal (m : (ℓ : Loc Cert.DsqAddIdeal.nD Cert.DsqAddIdeal.τ Cert.DsqAddIdeal.sig) → Buf (Elt Ideal) ℓ) : Prop :=
  True

def Pre_DsqAddRefIdeal (m : (ℓ : Loc Cert.DsqAddRefIdeal.nD Cert.DsqAddRefIdeal.τ Cert.DsqAddRefIdeal.sig) → Buf (Elt Ideal) ℓ) : Prop :=
  True

def Pre_DwSqAdd (m : (ℓ : Loc Cert.DwSqAdd.nD Cert.DwSqAdd.τ Cert.DwSqAdd.sig) → Buf (Elt Bits) ℓ) : Prop :=
  True

def Pre_DwSqAddIdeal (m : (ℓ : Loc Cert.DwSqAddIdeal.nD Cert.DwSqAddIdeal.τ Cert.DwSqAddIdeal.sig) → Buf (Elt Ideal) ℓ) : Prop :=
  True

def Pre_DwSqAddRefIdeal (m : (ℓ : Loc Cert.DwSqAddRefIdeal.nD Cert.DwSqAddRefIdeal.τ Cert.DwSqAddRefIdeal.sig) → Buf (Elt Ideal) ℓ) : Prop :=
  True

def Pre_Gab (m : (ℓ : Loc Cert.Gab.nD Cert.Gab.τ Cert.Gab.sig) → Buf (Elt Bits) ℓ) : Prop :=
  True

def Pre_GabIdeal (m : (ℓ : Loc Cert.GabIdeal.nD Cert.GabIdeal.τ Cert.GabIdeal.sig) → Buf (Elt Ideal) ℓ) : Prop :=
  True

def Pre_GabRefIdeal (m : (ℓ : Loc Cert.GabRefIdeal.nD Cert.GabRefIdeal.τ Cert.GabRefIdeal.sig) → Buf (Elt Ideal) ℓ) : Prop :=
  True

def Pre_DhGab (m : (ℓ : Loc Cert.DhGab.nD Cert.DhGab.τ Cert.DhGab.sig) → Buf (Elt Bits) ℓ) : Prop :=
  True

def Pre_DhGabIdeal (m : (ℓ : Loc Cert.DhGabIdeal.nD Cert.DhGabIdeal.τ Cert.DhGabIdeal.sig) → Buf (Elt Ideal) ℓ) : Prop :=
  True

def Pre_DhGabRefIdeal (m : (ℓ : Loc Cert.DhGabRefIdeal.nD Cert.DhGabRefIdeal.τ Cert.DhGabRefIdeal.sig) → Buf (Elt Ideal) ℓ) : Prop :=
  True

def Pre_DwGab (m : (ℓ : Loc Cert.DwGab.nD Cert.DwGab.τ Cert.DwGab.sig) → Buf (Elt Bits) ℓ) : Prop :=
  True

def Pre_DwGabIdeal (m : (ℓ : Loc Cert.DwGabIdeal.nD Cert.DwGabIdeal.τ Cert.DwGabIdeal.sig) → Buf (Elt Ideal) ℓ) : Prop :=
  True

def Pre_DwGabRefIdeal (m : (ℓ : Loc Cert.DwGabRefIdeal.nD Cert.DwGabRefIdeal.τ Cert.DwGabRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_DhKv (m : (ℓ : Loc Cert.DhKv.nD Cert.DhKv.τ Cert.DhKv.sig) → Buf (Elt Bits) ℓ) : Prop :=
  True

def Pre_DhKvIdeal (m : (ℓ : Loc Cert.DhKvIdeal.nD Cert.DhKvIdeal.τ Cert.DhKvIdeal.sig) → Buf (Elt Ideal) ℓ) : Prop :=
  True

def Pre_DhKvRefIdeal (m : (ℓ : Loc Cert.DhKvRefIdeal.nD Cert.DhKvRefIdeal.τ Cert.DhKvRefIdeal.sig) → Buf (Elt Ideal) ℓ) : Prop :=
  True

def Pre_DwKv (m : (ℓ : Loc Cert.DwKv.nD Cert.DwKv.τ Cert.DwKv.sig) → Buf (Elt Bits) ℓ) : Prop :=
  True

def Pre_DwKvIdeal (m : (ℓ : Loc Cert.DwKvIdeal.nD Cert.DwKvIdeal.τ Cert.DwKvIdeal.sig) → Buf (Elt Ideal) ℓ) : Prop :=
  True

def Pre_DwKvRefIdeal (m : (ℓ : Loc Cert.DwKvRefIdeal.nD Cert.DwKvRefIdeal.τ Cert.DwKvRefIdeal.sig) → Buf (Elt Ideal) ℓ) : Prop :=
  True

def Pre_KvCtx (m : (ℓ : Loc Cert.KvCtx.nD Cert.KvCtx.τ Cert.KvCtx.sig) → Buf (Elt Bits) ℓ) : Prop :=
  True

def Pre_KvCtxIdeal (m : (ℓ : Loc Cert.KvCtxIdeal.nD Cert.KvCtxIdeal.τ Cert.KvCtxIdeal.sig) → Buf (Elt Ideal) ℓ) : Prop :=
  True

def Pre_KvCtxRefIdeal (m : (ℓ : Loc Cert.KvCtxRefIdeal.nD Cert.KvCtxRefIdeal.τ Cert.KvCtxRefIdeal.sig) → Buf (Elt Ideal) ℓ) : Prop :=
  True

def Pre_SqCtx (m : (ℓ : Loc Cert.SqCtx.nD Cert.SqCtx.τ Cert.SqCtx.sig) → Buf (Elt Bits) ℓ) : Prop :=
  True

def Pre_SqCtxIdeal (m : (ℓ : Loc Cert.SqCtxIdeal.nD Cert.SqCtxIdeal.τ Cert.SqCtxIdeal.sig) → Buf (Elt Ideal) ℓ) : Prop :=
  True

def Pre_SqCtxRefIdeal (m : (ℓ : Loc Cert.SqCtxRefIdeal.nD Cert.SqCtxRefIdeal.τ Cert.SqCtxRefIdeal.sig) → Buf (Elt Ideal) ℓ) : Prop :=
  True

def Pre_LrCtx (m : (ℓ : Loc Cert.LrCtx.nD Cert.LrCtx.τ Cert.LrCtx.sig) → Buf (Elt Bits) ℓ) : Prop :=
  True

def Pre_LrCtxIdeal (m : (ℓ : Loc Cert.LrCtxIdeal.nD Cert.LrCtxIdeal.τ Cert.LrCtxIdeal.sig) → Buf (Elt Ideal) ℓ) : Prop :=
  True

def Pre_LrCtxRefIdeal (m : (ℓ : Loc Cert.LrCtxRefIdeal.nD Cert.LrCtxRefIdeal.τ Cert.LrCtxRefIdeal.sig) → Buf (Elt Ideal) ℓ) : Prop :=
  True

def Pre_DwKvCtx (m : (ℓ : Loc Cert.DwKvCtx.nD Cert.DwKvCtx.τ Cert.DwKvCtx.sig) → Buf (Elt Bits) ℓ) : Prop :=
  True

def Pre_DwKvCtxIdeal (m : (ℓ : Loc Cert.DwKvCtxIdeal.nD Cert.DwKvCtxIdeal.τ Cert.DwKvCtxIdeal.sig) → Buf (Elt Ideal) ℓ) : Prop :=
  True

def Pre_DwKvCtxRefIdeal (m : (ℓ : Loc Cert.DwKvCtxRefIdeal.nD Cert.DwKvCtxRefIdeal.τ Cert.DwKvCtxRefIdeal.sig) → Buf (Elt Ideal) ℓ) : Prop :=
  True

def Pre_DwSqCtx (m : (ℓ : Loc Cert.DwSqCtx.nD Cert.DwSqCtx.τ Cert.DwSqCtx.sig) → Buf (Elt Bits) ℓ) : Prop :=
  True

def Pre_DwSqCtxIdeal (m : (ℓ : Loc Cert.DwSqCtxIdeal.nD Cert.DwSqCtxIdeal.τ Cert.DwSqCtxIdeal.sig) → Buf (Elt Ideal) ℓ) : Prop :=
  True

def Pre_DwSqCtxRefIdeal (m : (ℓ : Loc Cert.DwSqCtxRefIdeal.nD Cert.DwSqCtxRefIdeal.τ Cert.DwSqCtxRefIdeal.sig) → Buf (Elt Ideal) ℓ) : Prop :=
  True

def Pre_DwLrCtx (m : (ℓ : Loc Cert.DwLrCtx.nD Cert.DwLrCtx.τ Cert.DwLrCtx.sig) → Buf (Elt Bits) ℓ) : Prop :=
  True

def Pre_DwLrCtxIdeal (m : (ℓ : Loc Cert.DwLrCtxIdeal.nD Cert.DwLrCtxIdeal.τ Cert.DwLrCtxIdeal.sig) → Buf (Elt Ideal) ℓ) : Prop :=
  True

def Pre_DwLrCtxRefIdeal (m : (ℓ : Loc Cert.DwLrCtxRefIdeal.nD Cert.DwLrCtxRefIdeal.τ Cert.DwLrCtxRefIdeal.sig) → Buf (Elt Ideal) ℓ) : Prop :=
  True

def Pre_DhcKv (m : (ℓ : Loc Cert.DhcKv.nD Cert.DhcKv.τ Cert.DhcKv.sig) → Buf (Elt Bits) ℓ) : Prop :=
  True

def Pre_DhcKvIdeal (m : (ℓ : Loc Cert.DhcKvIdeal.nD Cert.DhcKvIdeal.τ Cert.DhcKvIdeal.sig) → Buf (Elt Ideal) ℓ) : Prop :=
  True

def Pre_DhcKvRefIdeal (m : (ℓ : Loc Cert.DhcKvRefIdeal.nD Cert.DhcKvRefIdeal.τ Cert.DhcKvRefIdeal.sig) → Buf (Elt Ideal) ℓ) : Prop :=
  True

def Pre_DhcSq (m : (ℓ : Loc Cert.DhcSq.nD Cert.DhcSq.τ Cert.DhcSq.sig) → Buf (Elt Bits) ℓ) : Prop :=
  True

def Pre_DhcSqIdeal (m : (ℓ : Loc Cert.DhcSqIdeal.nD Cert.DhcSqIdeal.τ Cert.DhcSqIdeal.sig) → Buf (Elt Ideal) ℓ) : Prop :=
  True

def Pre_DhcSqRefIdeal (m : (ℓ : Loc Cert.DhcSqRefIdeal.nD Cert.DhcSqRefIdeal.τ Cert.DhcSqRefIdeal.sig) → Buf (Elt Ideal) ℓ) : Prop :=
  True

def Pre_DhcLr (m : (ℓ : Loc Cert.DhcLr.nD Cert.DhcLr.τ Cert.DhcLr.sig) → Buf (Elt Bits) ℓ) : Prop :=
  True

def Pre_DhcLrIdeal (m : (ℓ : Loc Cert.DhcLrIdeal.nD Cert.DhcLrIdeal.τ Cert.DhcLrIdeal.sig) → Buf (Elt Ideal) ℓ) : Prop :=
  True

def Pre_DhcLrRefIdeal (m : (ℓ : Loc Cert.DhcLrRefIdeal.nD Cert.DhcLrRefIdeal.τ Cert.DhcLrRefIdeal.sig) → Buf (Elt Ideal) ℓ) : Prop :=
  True

def Pre_Lr (m : (ℓ : Loc Cert.Lr.nD Cert.Lr.τ Cert.Lr.sig) → Buf (Elt Bits) ℓ) : Prop :=
  True

def Pre_LrIdeal (m : (ℓ : Loc Cert.LrIdeal.nD Cert.LrIdeal.τ Cert.LrIdeal.sig) → Buf (Elt Ideal) ℓ) : Prop :=
  True

def Pre_LrRefIdeal (m : (ℓ : Loc Cert.LrRefIdeal.nD Cert.LrRefIdeal.τ Cert.LrRefIdeal.sig) → Buf (Elt Ideal) ℓ) : Prop :=
  True

def Pre_DhLr (m : (ℓ : Loc Cert.DhLr.nD Cert.DhLr.τ Cert.DhLr.sig) → Buf (Elt Bits) ℓ) : Prop :=
  True

def Pre_DhLrIdeal (m : (ℓ : Loc Cert.DhLrIdeal.nD Cert.DhLrIdeal.τ Cert.DhLrIdeal.sig) → Buf (Elt Ideal) ℓ) : Prop :=
  True

def Pre_DhLrRefIdeal (m : (ℓ : Loc Cert.DhLrRefIdeal.nD Cert.DhLrRefIdeal.τ Cert.DhLrRefIdeal.sig) → Buf (Elt Ideal) ℓ) : Prop :=
  True

def Pre_DwLr (m : (ℓ : Loc Cert.DwLr.nD Cert.DwLr.τ Cert.DwLr.sig) → Buf (Elt Bits) ℓ) : Prop :=
  True

def Pre_DwLrIdeal (m : (ℓ : Loc Cert.DwLrIdeal.nD Cert.DwLrIdeal.τ Cert.DwLrIdeal.sig) → Buf (Elt Ideal) ℓ) : Prop :=
  True

def Pre_DwLrRefIdeal (m : (ℓ : Loc Cert.DwLrRefIdeal.nD Cert.DwLrRefIdeal.τ Cert.DwLrRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Df [hDf : Cert.Df.Facts] : Prop :=
  ∀ (m : (ℓ : Loc Cert.Df.nD Cert.Df.τ Cert.Df.sig) → Buf (Elt Bits) ℓ) (g : Dev Cert.Df.nD → PrngReg), Pre_Df m →
    θ_run (Cert.Df.defs (F := Bits)) (onTc (τ := Cert.Df.τ) (Cert.Df.main (F := Bits))) ⟨m, fun _ => 0, g⟩ (fun r => (∀ c : Dev Cert.Df.nD,
      r.2.mem ((c.tc : Thread Cert.Df.nD Cert.Df.τ).loc Cert.Df.main_arg0) = m ((c.tc : Thread Cert.Df.nD Cert.Df.τ).loc Cert.Df.main_arg0)
      ∧ r.2.mem ((c.tc : Thread Cert.Df.nD Cert.Df.τ).loc Cert.Df.main_arg1) = m ((c.tc : Thread Cert.Df.nD Cert.Df.τ).loc Cert.Df.main_arg1))
      ∧ r.2.sem = fun _ => 0)

def quiescent_DfIdeal [hDfIdeal : Cert.DfIdeal.Facts] : Prop :=
  ∀ (m : (ℓ : Loc Cert.DfIdeal.nD Cert.DfIdeal.τ Cert.DfIdeal.sig) → Buf (Elt Ideal) ℓ) (g : Dev Cert.DfIdeal.nD → PrngReg), Pre_DfIdeal m →
    θ_run (Cert.DfIdeal.defs (F := Ideal)) (onTc (τ := Cert.DfIdeal.τ) (Cert.DfIdeal.main (F := Ideal))) ⟨m, fun _ => 0, g⟩ (fun r => (∀ c : Dev Cert.DfIdeal.nD,
      r.2.mem ((c.tc : Thread Cert.DfIdeal.nD Cert.DfIdeal.τ).loc Cert.DfIdeal.main_arg0) = m ((c.tc : Thread Cert.DfIdeal.nD Cert.DfIdeal.τ).loc Cert.DfIdeal.main_arg0)
      ∧ r.2.mem ((c.tc : Thread Cert.DfIdeal.nD Cert.DfIdeal.τ).loc Cert.DfIdeal.main_arg1) = m ((c.tc : Thread Cert.DfIdeal.nD Cert.DfIdeal.τ).loc Cert.DfIdeal.main_arg1))
      ∧ r.2.sem = fun _ => 0)

def quiescent_DfRefIdeal [hDfRefIdeal : Cert.DfRefIdeal.Facts] : Prop :=
  ∀ (m : (ℓ : Loc Cert.DfRefIdeal.nD Cert.DfRefIdeal.τ Cert.DfRefIdeal.sig) → Buf (Elt Ideal) ℓ) (g : Dev Cert.DfRefIdeal.nD → PrngReg), Pre_DfRefIdeal m →
    θ_run (Cert.DfRefIdeal.defs (F := Ideal)) (onTc (τ := Cert.DfRefIdeal.τ) (Cert.DfRefIdeal.main (F := Ideal))) ⟨m, fun _ => 0, g⟩ (fun r => (∀ c : Dev Cert.DfRefIdeal.nD,
      r.2.mem ((c.tc : Thread Cert.DfRefIdeal.nD Cert.DfRefIdeal.τ).loc Cert.DfRefIdeal.main_arg0) = m ((c.tc : Thread Cert.DfRefIdeal.nD Cert.DfRefIdeal.τ).loc Cert.DfRefIdeal.main_arg0)
      ∧ r.2.mem ((c.tc : Thread Cert.DfRefIdeal.nD Cert.DfRefIdeal.τ).loc Cert.DfRefIdeal.main_arg1) = m ((c.tc : Thread Cert.DfRefIdeal.nD Cert.DfRefIdeal.τ).loc Cert.DfRefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1))
      ∧ r.2.sem = fun _ => 0)

def quiescent_DhAdd [hDhAdd : Cert.DhAdd.Facts] : Prop :=
  ∀ (m : (ℓ : Loc Cert.DhAdd.nD Cert.DhAdd.τ Cert.DhAdd.sig) → Buf (Elt Bits) ℓ) (g : Dev Cert.DhAdd.nD → PrngReg), Pre_DhAdd m →
    θ_run (Cert.DhAdd.defs (F := Bits)) (onTc (τ := Cert.DhAdd.τ) (Cert.DhAdd.main (F := Bits))) ⟨m, fun _ => 0, g⟩ (fun r => (∀ c : Dev Cert.DhAdd.nD,
      r.2.mem ((c.tc : Thread Cert.DhAdd.nD Cert.DhAdd.τ).loc Cert.DhAdd.main_arg0) = m ((c.tc : Thread Cert.DhAdd.nD Cert.DhAdd.τ).loc Cert.DhAdd.main_arg0)
      ∧ r.2.mem ((c.tc : Thread Cert.DhAdd.nD Cert.DhAdd.τ).loc Cert.DhAdd.main_arg1) = m ((c.tc : Thread Cert.DhAdd.nD Cert.DhAdd.τ).loc Cert.DhAdd.main_arg1)
      ∧ r.2.mem ((c.tc : Thread Cert.DhAdd.nD Cert.DhAdd.τ).loc Cert.DhAdd.main_arg2) = m ((c.tc : Thread Cert.DhAdd.nD Cert.DhAdd.τ).loc Cert.DhAdd.main_arg2))
      ∧ r.2.sem = fun _ => 0)

def quiescent_DhAddIdeal [hDhAddIdeal : Cert.DhAddIdeal.Facts] : Prop :=
  ∀ (m : (ℓ : Loc Cert.DhAddIdeal.nD Cert.DhAddIdeal.τ Cert.DhAddIdeal.sig) → Buf (Elt Ideal) ℓ) (g : Dev Cert.DhAddIdeal.nD → PrngReg), Pre_DhAddIdeal m →
    θ_run (Cert.DhAddIdeal.defs (F := Ideal)) (onTc (τ := Cert.DhAddIdeal.τ) (Cert.DhAddIdeal.main (F := Ideal))) ⟨m, fun _ => 0, g⟩ (fun r => (∀ c : Dev Cert.DhAddIdeal.nD,
      r.2.mem ((c.tc : Thread Cert.DhAddIdeal.nD Cert.DhAddIdeal.τ).loc Cert.DhAddIdeal.main_arg0) = m ((c.tc : Thread Cert.DhAddIdeal.nD Cert.DhAddIdeal.τ).loc Cert.DhAddIdeal.main_arg0)
      ∧ r.2.mem ((c.tc : Thread Cert.DhAddIdeal.nD Cert.DhAddIdeal.τ).loc Cert.DhAddIdeal.main_arg1) = m ((c.tc : Thread Cert.DhAddIdeal.nD Cert.DhAddIdeal.τ).loc Cert.DhAddIdeal.main_arg1)
      ∧ r.2.mem ((c.tc : Thread Cert.DhAddIdeal.nD Cert.DhAddIdeal.τ).loc Cert.DhAddIdeal.main_arg2) = m ((c.tc : Thread Cert.DhAddIdeal.nD Cert.DhAddIdeal.τ).loc Cert.DhAddIdeal.main_arg2))
      ∧ r.2.sem = fun _ => 0)

def quiescent_DhAddRefIdeal [hDhAddRefIdeal : Cert.DhAddRefIdeal.Facts] : Prop :=
  ∀ (m : (ℓ : Loc Cert.DhAddRefIdeal.nD Cert.DhAddRefIdeal.τ Cert.DhAddRefIdeal.sig) → Buf (Elt Ideal) ℓ) (g : Dev Cert.DhAddRefIdeal.nD → PrngReg), Pre_DhAddRefIdeal m →
    θ_run (Cert.DhAddRefIdeal.defs (F := Ideal)) (onTc (τ := Cert.DhAddRefIdeal.τ) (Cert.DhAddRefIdeal.main (F := Ideal))) ⟨m, fun _ => 0, g⟩ (fun r => (∀ c : Dev Cert.DhAddRefIdeal.nD,
      r.2.mem ((c.tc : Thread Cert.DhAddRefIdeal.nD Cert.DhAddRefIdeal.τ).loc Cert.DhAddRefIdeal.main_arg0) = m ((c.tc : Thread Cert.DhAddRefIdeal.nD Cert.DhAddRefIdeal.τ).loc Cert.DhAddRefIdeal.main_arg0)
      ∧ r.2.mem ((c.tc : Thread Cert.DhAddRefIdeal.nD Cert.DhAddRefIdeal.τ).loc Cert.DhAddRefIdeal.main_arg1) = m ((c.tc : Thread Cert.DhAddRefIdeal.nD Cert.DhAddRefIdeal.τ).loc Cert.DhAddRefIdeal.main_arg1)
      ∧ r.2.mem ((c.tc : Thread Cert.DhAddRefIdeal.nD Cert.DhAddRefIdeal.τ).loc Cert.DhAddRefIdeal.main_arg2) = m ((c.tc : Thread Cert.DhAddRefIdeal.nD Cert.DhAddRefIdeal.τ).loc Cert.DhAddRefIdeal.main_arg2))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_Sq [hSq : Cert.Sq.Facts] : Prop :=
  ∀ (m : (ℓ : Loc Cert.Sq.nD Cert.Sq.τ Cert.Sq.sig) → Buf (Elt Bits) ℓ) (g : Dev Cert.Sq.nD → PrngReg), Pre_Sq m →
    θ_run (Cert.Sq.defs (F := Bits)) (onTc (τ := Cert.Sq.τ) (Cert.Sq.main (F := Bits))) ⟨m, fun _ => 0, g⟩ (fun r => (∀ c : Dev Cert.Sq.nD,
      r.2.mem ((c.tc : Thread Cert.Sq.nD Cert.Sq.τ).loc Cert.Sq.main_arg0) = m ((c.tc : Thread Cert.Sq.nD Cert.Sq.τ).loc Cert.Sq.main_arg0)
      ∧ r.2.mem ((c.tc : Thread Cert.Sq.nD Cert.Sq.τ).loc Cert.Sq.main_arg1) = m ((c.tc : Thread Cert.Sq.nD Cert.Sq.τ).loc Cert.Sq.main_arg1))
      ∧ r.2.sem = fun _ => 0)

def quiescent_SqIdeal [hSqIdeal : Cert.SqIdeal.Facts] : Prop :=
  ∀ (m : (ℓ : Loc Cert.SqIdeal.nD Cert.SqIdeal.τ Cert.SqIdeal.sig) → Buf (Elt Ideal) ℓ) (g : Dev Cert.SqIdeal.nD → PrngReg), Pre_SqIdeal m →
    θ_run (Cert.SqIdeal.defs (F := Ideal)) (onTc (τ := Cert.SqIdeal.τ) (Cert.SqIdeal.main (F := Ideal))) ⟨m, fun _ => 0, g⟩ (fun r => (∀ c : Dev Cert.SqIdeal.nD,
      r.2.mem ((c.tc : Thread Cert.SqIdeal.nD Cert.SqIdeal.τ).loc Cert.SqIdeal.main_arg0) = m ((c.tc : Thread Cert.SqIdeal.nD Cert.SqIdeal.τ).loc Cert.SqIdeal.main_arg0)
      ∧ r.2.mem ((c.tc : Thread Cert.SqIdeal.nD Cert.SqIdeal.τ).loc Cert.SqIdeal.main_arg1) = m ((c.tc : Thread Cert.SqIdeal.nD Cert.SqIdeal.τ).loc Cert.SqIdeal.main_arg1))
      ∧ r.2.sem = fun _ => 0)

def quiescent_SqRefIdeal [hSqRefIdeal : Cert.SqRefIdeal.Facts] : Prop :=
  ∀ (m : (ℓ : Loc Cert.SqRefIdeal.nD Cert.SqRefIdeal.τ Cert.SqRefIdeal.sig) → Buf (Elt Ideal) ℓ) (g : Dev Cert.SqRefIdeal.nD → PrngReg), Pre_SqRefIdeal m →
    θ_run (Cert.SqRefIdeal.defs (F := Ideal)) (onTc (τ := Cert.SqRefIdeal.τ) (Cert.SqRefIdeal.main (F := Ideal))) ⟨m, fun _ => 0, g⟩ (fun r => (∀ c : Dev Cert.SqRefIdeal.nD,
      r.2.mem ((c.tc : Thread Cert.SqRefIdeal.nD Cert.SqRefIdeal.τ).loc Cert.SqRefIdeal.main_arg0) = m ((c.tc : Thread Cert.SqRefIdeal.nD Cert.SqRefIdeal.τ).loc Cert.SqRefIdeal.main_arg0)
      ∧ r.2.mem ((c.tc : Thread Cert.SqRefIdeal.nD Cert.SqRefIdeal.τ).loc Cert.SqRefIdeal.main_arg1) = m ((c.tc : Thread Cert.SqRefIdeal.nD Cert.SqRefIdeal.τ).loc Cert.SqRefIdeal.main_arg1))
      ∧ r.2.sem = fun _ => 0)

def quiescent_Dsq [hDsq : Cert.Dsq.Facts] : Prop :=
  ∀ (m : (ℓ : Loc Cert.Dsq.nD Cert.Dsq.τ Cert.Dsq.sig) → Buf (Elt Bits) ℓ) (g : Dev Cert.Dsq.nD → PrngReg), Pre_Dsq m →
    θ_run (Cert.Dsq.defs (F := Bits)) (onTc (τ := Cert.Dsq.τ) (Cert.Dsq.main (F := Bits))) ⟨m, fun _ => 0, g⟩ (fun r => (∀ c : Dev Cert.Dsq.nD,
      r.2.mem ((c.tc : Thread Cert.Dsq.nD Cert.Dsq.τ).loc Cert.Dsq.main_arg0) = m ((c.tc : Thread Cert.Dsq.nD Cert.Dsq.τ).loc Cert.Dsq.main_arg0)
      ∧ r.2.mem ((c.tc : Thread Cert.Dsq.nD Cert.Dsq.τ).loc Cert.Dsq.main_arg1) = m ((c.tc : Thread Cert.Dsq.nD Cert.Dsq.τ).loc Cert.Dsq.main_arg1))
      ∧ r.2.sem = fun _ => 0)

def quiescent_DsqIdeal [hDsqIdeal : Cert.DsqIdeal.Facts] : Prop :=
  ∀ (m : (ℓ : Loc Cert.DsqIdeal.nD Cert.DsqIdeal.τ Cert.DsqIdeal.sig) → Buf (Elt Ideal) ℓ) (g : Dev Cert.DsqIdeal.nD → PrngReg), Pre_DsqIdeal m →
    θ_run (Cert.DsqIdeal.defs (F := Ideal)) (onTc (τ := Cert.DsqIdeal.τ) (Cert.DsqIdeal.main (F := Ideal))) ⟨m, fun _ => 0, g⟩ (fun r => (∀ c : Dev Cert.DsqIdeal.nD,
      r.2.mem ((c.tc : Thread Cert.DsqIdeal.nD Cert.DsqIdeal.τ).loc Cert.DsqIdeal.main_arg0) = m ((c.tc : Thread Cert.DsqIdeal.nD Cert.DsqIdeal.τ).loc Cert.DsqIdeal.main_arg0)
      ∧ r.2.mem ((c.tc : Thread Cert.DsqIdeal.nD Cert.DsqIdeal.τ).loc Cert.DsqIdeal.main_arg1) = m ((c.tc : Thread Cert.DsqIdeal.nD Cert.DsqIdeal.τ).loc Cert.DsqIdeal.main_arg1))
      ∧ r.2.sem = fun _ => 0)

def quiescent_DsqRefIdeal [hDsqRefIdeal : Cert.DsqRefIdeal.Facts] : Prop :=
  ∀ (m : (ℓ : Loc Cert.DsqRefIdeal.nD Cert.DsqRefIdeal.τ Cert.DsqRefIdeal.sig) → Buf (Elt Ideal) ℓ) (g : Dev Cert.DsqRefIdeal.nD → PrngReg), Pre_DsqRefIdeal m →
    θ_run (Cert.DsqRefIdeal.defs (F := Ideal)) (onTc (τ := Cert.DsqRefIdeal.τ) (Cert.DsqRefIdeal.main (F := Ideal))) ⟨m, fun _ => 0, g⟩ (fun r => (∀ c : Dev Cert.DsqRefIdeal.nD,
      r.2.mem ((c.tc : Thread Cert.DsqRefIdeal.nD Cert.DsqRefIdeal.τ).loc Cert.DsqRefIdeal.main_arg0) = m ((c.tc : Thread Cert.DsqRefIdeal.nD Cert.DsqRefIdeal.τ).loc Cert.DsqRefIdeal.main_arg0)
      ∧ r.2.mem ((c.tc : Thread Cert.DsqRefIdeal.nD Cert.DsqRefIdeal.τ).loc Cert.DsqRefIdeal.main_arg1) = m ((c.tc : Thread Cert.DsqRefIdeal.nD Cert.DsqRefIdeal.τ).loc Cert.DsqRefIdeal.main_arg1))
      ∧ r.2.sem = fun _ => 0)

def quiescent_DwSq [hDwSq : Cert.DwSq.Facts] : Prop :=
  ∀ (m : (ℓ : Loc Cert.DwSq.nD Cert.DwSq.τ Cert.DwSq.sig) → Buf (Elt Bits) ℓ) (g : Dev Cert.DwSq.nD → PrngReg), Pre_DwSq m →
    θ_run (Cert.DwSq.defs (F := Bits)) (onTc (τ := Cert.DwSq.τ) (Cert.DwSq.main (F := Bits))) ⟨m, fun _ => 0, g⟩ (fun r => (∀ c : Dev Cert.DwSq.nD,
      r.2.mem ((c.tc : Thread Cert.DwSq.nD Cert.DwSq.τ).loc Cert.DwSq.main_arg0) = m ((c.tc : Thread Cert.DwSq.nD Cert.DwSq.τ).loc Cert.DwSq.main_arg0)
      ∧ r.2.mem ((c.tc : Thread Cert.DwSq.nD Cert.DwSq.τ).loc Cert.DwSq.main_arg1) = m ((c.tc : Thread Cert.DwSq.nD Cert.DwSq.τ).loc Cert.DwSq.main_arg1))
      ∧ r.2.sem = fun _ => 0)

def quiescent_DwSqIdeal [hDwSqIdeal : Cert.DwSqIdeal.Facts] : Prop :=
  ∀ (m : (ℓ : Loc Cert.DwSqIdeal.nD Cert.DwSqIdeal.τ Cert.DwSqIdeal.sig) → Buf (Elt Ideal) ℓ) (g : Dev Cert.DwSqIdeal.nD → PrngReg), Pre_DwSqIdeal m →
    θ_run (Cert.DwSqIdeal.defs (F := Ideal)) (onTc (τ := Cert.DwSqIdeal.τ) (Cert.DwSqIdeal.main (F := Ideal))) ⟨m, fun _ => 0, g⟩ (fun r => (∀ c : Dev Cert.DwSqIdeal.nD,
      r.2.mem ((c.tc : Thread Cert.DwSqIdeal.nD Cert.DwSqIdeal.τ).loc Cert.DwSqIdeal.main_arg0) = m ((c.tc : Thread Cert.DwSqIdeal.nD Cert.DwSqIdeal.τ).loc Cert.DwSqIdeal.main_arg0)
      ∧ r.2.mem ((c.tc : Thread Cert.DwSqIdeal.nD Cert.DwSqIdeal.τ).loc Cert.DwSqIdeal.main_arg1) = m ((c.tc : Thread Cert.DwSqIdeal.nD Cert.DwSqIdeal.τ).loc Cert.DwSqIdeal.main_arg1))
      ∧ r.2.sem = fun _ => 0)

def quiescent_DwSqRefIdeal [hDwSqRefIdeal : Cert.DwSqRefIdeal.Facts] : Prop :=
  ∀ (m : (ℓ : Loc Cert.DwSqRefIdeal.nD Cert.DwSqRefIdeal.τ Cert.DwSqRefIdeal.sig) → Buf (Elt Ideal) ℓ) (g : Dev Cert.DwSqRefIdeal.nD → PrngReg), Pre_DwSqRefIdeal m →
    θ_run (Cert.DwSqRefIdeal.defs (F := Ideal)) (onTc (τ := Cert.DwSqRefIdeal.τ) (Cert.DwSqRefIdeal.main (F := Ideal))) ⟨m, fun _ => 0, g⟩ (fun r => (∀ c : Dev Cert.DwSqRefIdeal.nD,
      r.2.mem ((c.tc : Thread Cert.DwSqRefIdeal.nD Cert.DwSqRefIdeal.τ).loc Cert.DwSqRefIdeal.main_arg0) = m ((c.tc : Thread Cert.DwSqRefIdeal.nD Cert.DwSqRefIdeal.τ).loc Cert.DwSqRefIdeal.main_arg0)
      ∧ r.2.mem ((c.tc : Thread Cert.DwSqRefIdeal.nD Cert.DwSqRefIdeal.τ).loc Cert.DwSqRefIdeal.main_arg1) = m ((c.tc : Thread Cert.DwSqRefIdeal.nD Cert.DwSqRefIdeal.τ).loc Cert.DwSqRefIdeal.main_arg1))
      ∧ r.2.sem = fun _ => 0)

def quiescent_DoAttn [hDoAttn : Cert.DoAttn.Facts] : Prop :=
  ∀ (m : (ℓ : Loc Cert.DoAttn.nD Cert.DoAttn.τ Cert.DoAttn.sig) → Buf (Elt Bits) ℓ) (g : Dev Cert.DoAttn.nD → PrngReg), Pre_DoAttn m →
    θ_run (Cert.DoAttn.defs (F := Bits)) (onTc (τ := Cert.DoAttn.τ) (Cert.DoAttn.main (F := Bits))) ⟨m, fun _ => 0, g⟩ (fun r => (∀ c : Dev Cert.DoAttn.nD,
      r.2.mem ((c.tc : Thread Cert.DoAttn.nD Cert.DoAttn.τ).loc Cert.DoAttn.main_arg0) = m ((c.tc : Thread Cert.DoAttn.nD Cert.DoAttn.τ).loc Cert.DoAttn.main_arg0)
      ∧ r.2.mem ((c.tc : Thread Cert.DoAttn.nD Cert.DoAttn.τ).loc Cert.DoAttn.main_arg1) = m ((c.tc : Thread Cert.DoAttn.nD Cert.DoAttn.τ).loc Cert.DoAttn.main_arg1))
      ∧ r.2.sem = fun _ => 0)

def quiescent_DoAttnIdeal [hDoAttnIdeal : Cert.DoAttnIdeal.Facts] : Prop :=
  ∀ (m : (ℓ : Loc Cert.DoAttnIdeal.nD Cert.DoAttnIdeal.τ Cert.DoAttnIdeal.sig) → Buf (Elt Ideal) ℓ) (g : Dev Cert.DoAttnIdeal.nD → PrngReg), Pre_DoAttnIdeal m →
    θ_run (Cert.DoAttnIdeal.defs (F := Ideal)) (onTc (τ := Cert.DoAttnIdeal.τ) (Cert.DoAttnIdeal.main (F := Ideal))) ⟨m, fun _ => 0, g⟩ (fun r => (∀ c : Dev Cert.DoAttnIdeal.nD,
      r.2.mem ((c.tc : Thread Cert.DoAttnIdeal.nD Cert.DoAttnIdeal.τ).loc Cert.DoAttnIdeal.main_arg0) = m ((c.tc : Thread Cert.DoAttnIdeal.nD Cert.DoAttnIdeal.τ).loc Cert.DoAttnIdeal.main_arg0)
      ∧ r.2.mem ((c.tc : Thread Cert.DoAttnIdeal.nD Cert.DoAttnIdeal.τ).loc Cert.DoAttnIdeal.main_arg1) = m ((c.tc : Thread Cert.DoAttnIdeal.nD Cert.DoAttnIdeal.τ).loc Cert.DoAttnIdeal.main_arg1))
      ∧ r.2.sem = fun _ => 0)

def quiescent_DoAttnRefIdeal [hDoAttnRefIdeal : Cert.DoAttnRefIdeal.Facts] : Prop :=
  ∀ (m : (ℓ : Loc Cert.DoAttnRefIdeal.nD Cert.DoAttnRefIdeal.τ Cert.DoAttnRefIdeal.sig) → Buf (Elt Ideal) ℓ) (g : Dev Cert.DoAttnRefIdeal.nD → PrngReg), Pre_DoAttnRefIdeal m →
    θ_run (Cert.DoAttnRefIdeal.defs (F := Ideal)) (onTc (τ := Cert.DoAttnRefIdeal.τ) (Cert.DoAttnRefIdeal.main (F := Ideal))) ⟨m, fun _ => 0, g⟩ (fun r => (∀ c : Dev Cert.DoAttnRefIdeal.nD,
      r.2.mem ((c.tc : Thread Cert.DoAttnRefIdeal.nD Cert.DoAttnRefIdeal.τ).loc Cert.DoAttnRefIdeal.main_arg0) = m ((c.tc : Thread Cert.DoAttnRefIdeal.nD Cert.DoAttnRefIdeal.τ).loc Cert.DoAttnRefIdeal.main_arg0)
      ∧ r.2.mem ((c.tc : Thread Cert.DoAttnRefIdeal.nD Cert.DoAttnRefIdeal.τ).loc Cert.DoAttnRefIdeal.main_arg1) = m ((c.tc : Thread Cert.DoAttnRefIdeal.nD Cert.DoAttnRefIdeal.τ).loc Cert.DoAttnRefIdeal.main_arg1))
      ∧ r.2.sem = fun _ => 0)

def quiescent_DsqAdd [hDsqAdd : Cert.DsqAdd.Facts] : Prop :=
  ∀ (m : (ℓ : Loc Cert.DsqAdd.nD Cert.DsqAdd.τ Cert.DsqAdd.sig) → Buf (Elt Bits) ℓ) (g : Dev Cert.DsqAdd.nD → PrngReg), Pre_DsqAdd m →
    θ_run (Cert.DsqAdd.defs (F := Bits)) (onTc (τ := Cert.DsqAdd.τ) (Cert.DsqAdd.main (F := Bits))) ⟨m, fun _ => 0, g⟩ (fun r => (∀ c : Dev Cert.DsqAdd.nD,
      r.2.mem ((c.tc : Thread Cert.DsqAdd.nD Cert.DsqAdd.τ).loc Cert.DsqAdd.main_arg0) = m ((c.tc : Thread Cert.DsqAdd.nD Cert.DsqAdd.τ).loc Cert.DsqAdd.main_arg0)
      ∧ r.2.mem ((c.tc : Thread Cert.DsqAdd.nD Cert.DsqAdd.τ).loc Cert.DsqAdd.main_arg1) = m ((c.tc : Thread Cert.DsqAdd.nD Cert.DsqAdd.τ).loc Cert.DsqAdd.main_arg1)
      ∧ r.2.mem ((c.tc : Thread Cert.DsqAdd.nD Cert.DsqAdd.τ).loc Cert.DsqAdd.main_arg2) = m ((c.tc : Thread Cert.DsqAdd.nD Cert.DsqAdd.τ).loc Cert.DsqAdd.main_arg2))
      ∧ r.2.sem = fun _ => 0)

def quiescent_DsqAddIdeal [hDsqAddIdeal : Cert.DsqAddIdeal.Facts] : Prop :=
  ∀ (m : (ℓ : Loc Cert.DsqAddIdeal.nD Cert.DsqAddIdeal.τ Cert.DsqAddIdeal.sig) → Buf (Elt Ideal) ℓ) (g : Dev Cert.DsqAddIdeal.nD → PrngReg), Pre_DsqAddIdeal m →
    θ_run (Cert.DsqAddIdeal.defs (F := Ideal)) (onTc (τ := Cert.DsqAddIdeal.τ) (Cert.DsqAddIdeal.main (F := Ideal))) ⟨m, fun _ => 0, g⟩ (fun r => (∀ c : Dev Cert.DsqAddIdeal.nD,
      r.2.mem ((c.tc : Thread Cert.DsqAddIdeal.nD Cert.DsqAddIdeal.τ).loc Cert.DsqAddIdeal.main_arg0) = m ((c.tc : Thread Cert.DsqAddIdeal.nD Cert.DsqAddIdeal.τ).loc Cert.DsqAddIdeal.main_arg0)
      ∧ r.2.mem ((c.tc : Thread Cert.DsqAddIdeal.nD Cert.DsqAddIdeal.τ).loc Cert.DsqAddIdeal.main_arg1) = m ((c.tc : Thread Cert.DsqAddIdeal.nD Cert.DsqAddIdeal.τ).loc Cert.DsqAddIdeal.main_arg1)
      ∧ r.2.mem ((c.tc : Thread Cert.DsqAddIdeal.nD Cert.DsqAddIdeal.τ).loc Cert.DsqAddIdeal.main_arg2) = m ((c.tc : Thread Cert.DsqAddIdeal.nD Cert.DsqAddIdeal.τ).loc Cert.DsqAddIdeal.main_arg2))
      ∧ r.2.sem = fun _ => 0)

def quiescent_DsqAddRefIdeal [hDsqAddRefIdeal : Cert.DsqAddRefIdeal.Facts] : Prop :=
  ∀ (m : (ℓ : Loc Cert.DsqAddRefIdeal.nD Cert.DsqAddRefIdeal.τ Cert.DsqAddRefIdeal.sig) → Buf (Elt Ideal) ℓ) (g : Dev Cert.DsqAddRefIdeal.nD → PrngReg), Pre_DsqAddRefIdeal m →
    θ_run (Cert.DsqAddRefIdeal.defs (F := Ideal)) (onTc (τ := Cert.DsqAddRefIdeal.τ) (Cert.DsqAddRefIdeal.main (F := Ideal))) ⟨m, fun _ => 0, g⟩ (fun r => (∀ c : Dev Cert.DsqAddRefIdeal.nD,
      r.2.mem ((c.tc : Thread Cert.DsqAddRefIdeal.nD Cert.DsqAddRefIdeal.τ).loc Cert.DsqAddRefIdeal.main_arg0) = m ((c.tc : Thread Cert.DsqAddRefIdeal.nD Cert.DsqAddRefIdeal.τ).loc Cert.DsqAddRefIdeal.main_arg0)
      ∧ r.2.mem ((c.tc : Thread Cert.DsqAddRefIdeal.nD Cert.DsqAddRefIdeal.τ).loc Cert.DsqAddRefIdeal.main_arg1) = m ((c.tc : Thread Cert.DsqAddRefIdeal.nD Cert.DsqAddRefIdeal.τ).loc Cert.DsqAddRefIdeal.main_arg1)
      ∧ r.2.mem ((c.tc : Thread Cert.DsqAddRefIdeal.nD Cert.DsqAddRefIdeal.τ).loc Cert.DsqAddRefIdeal.main_arg2) = m ((c.tc : Thread Cert.DsqAddRefIdeal.nD Cert.DsqAddRefIdeal.τ).loc Cert.DsqAddRefIdeal.main_arg2))
      ∧ r.2.sem = fun _ => 0)

def quiescent_DwSqAdd [hDwSqAdd : Cert.DwSqAdd.Facts] : Prop :=
  ∀ (m : (ℓ : Loc Cert.DwSqAdd.nD Cert.DwSqAdd.τ Cert.DwSqAdd.sig) → Buf (Elt Bits) ℓ) (g : Dev Cert.DwSqAdd.nD → PrngReg), Pre_DwSqAdd m →
    θ_run (Cert.DwSqAdd.defs (F := Bits)) (onTc (τ := Cert.DwSqAdd.τ) (Cert.DwSqAdd.main (F := Bits))) ⟨m, fun _ => 0, g⟩ (fun r => (∀ c : Dev Cert.DwSqAdd.nD,
      r.2.mem ((c.tc : Thread Cert.DwSqAdd.nD Cert.DwSqAdd.τ).loc Cert.DwSqAdd.main_arg0) = m ((c.tc : Thread Cert.DwSqAdd.nD Cert.DwSqAdd.τ).loc Cert.DwSqAdd.main_arg0)
      ∧ r.2.mem ((c.tc : Thread Cert.DwSqAdd.nD Cert.DwSqAdd.τ).loc Cert.DwSqAdd.main_arg1) = m ((c.tc : Thread Cert.DwSqAdd.nD Cert.DwSqAdd.τ).loc Cert.DwSqAdd.main_arg1)
      ∧ r.2.mem ((c.tc : Thread Cert.DwSqAdd.nD Cert.DwSqAdd.τ).loc Cert.DwSqAdd.main_arg2) = m ((c.tc : Thread Cert.DwSqAdd.nD Cert.DwSqAdd.τ).loc Cert.DwSqAdd.main_arg2))
      ∧ r.2.sem = fun _ => 0)

def quiescent_DwSqAddIdeal [hDwSqAddIdeal : Cert.DwSqAddIdeal.Facts] : Prop :=
  ∀ (m : (ℓ : Loc Cert.DwSqAddIdeal.nD Cert.DwSqAddIdeal.τ Cert.DwSqAddIdeal.sig) → Buf (Elt Ideal) ℓ) (g : Dev Cert.DwSqAddIdeal.nD → PrngReg), Pre_DwSqAddIdeal m →
    θ_run (Cert.DwSqAddIdeal.defs (F := Ideal)) (onTc (τ := Cert.DwSqAddIdeal.τ) (Cert.DwSqAddIdeal.main (F := Ideal))) ⟨m, fun _ => 0, g⟩ (fun r => (∀ c : Dev Cert.DwSqAddIdeal.nD,
      r.2.mem ((c.tc : Thread Cert.DwSqAddIdeal.nD Cert.DwSqAddIdeal.τ).loc Cert.DwSqAddIdeal.main_arg0) = m ((c.tc : Thread Cert.DwSqAddIdeal.nD Cert.DwSqAddIdeal.τ).loc Cert.DwSqAddIdeal.main_arg0)
      ∧ r.2.mem ((c.tc : Thread Cert.DwSqAddIdeal.nD Cert.DwSqAddIdeal.τ).loc Cert.DwSqAddIdeal.main_arg1) = m ((c.tc : Thread Cert.DwSqAddIdeal.nD Cert.DwSqAddIdeal.τ).loc Cert.DwSqAddIdeal.main_arg1)
      ∧ r.2.mem ((c.tc : Thread Cert.DwSqAddIdeal.nD Cert.DwSqAddIdeal.τ).loc Cert.DwSqAddIdeal.main_arg2) = m ((c.tc : Thread Cert.DwSqAddIdeal.nD Cert.DwSqAddIdeal.τ).loc Cert.DwSqAddIdeal.main_arg2))
      ∧ r.2.sem = fun _ => 0)

def quiescent_DwSqAddRefIdeal [hDwSqAddRefIdeal : Cert.DwSqAddRefIdeal.Facts] : Prop :=
  ∀ (m : (ℓ : Loc Cert.DwSqAddRefIdeal.nD Cert.DwSqAddRefIdeal.τ Cert.DwSqAddRefIdeal.sig) → Buf (Elt Ideal) ℓ) (g : Dev Cert.DwSqAddRefIdeal.nD → PrngReg), Pre_DwSqAddRefIdeal m →
    θ_run (Cert.DwSqAddRefIdeal.defs (F := Ideal)) (onTc (τ := Cert.DwSqAddRefIdeal.τ) (Cert.DwSqAddRefIdeal.main (F := Ideal))) ⟨m, fun _ => 0, g⟩ (fun r => (∀ c : Dev Cert.DwSqAddRefIdeal.nD,
      r.2.mem ((c.tc : Thread Cert.DwSqAddRefIdeal.nD Cert.DwSqAddRefIdeal.τ).loc Cert.DwSqAddRefIdeal.main_arg0) = m ((c.tc : Thread Cert.DwSqAddRefIdeal.nD Cert.DwSqAddRefIdeal.τ).loc Cert.DwSqAddRefIdeal.main_arg0)
      ∧ r.2.mem ((c.tc : Thread Cert.DwSqAddRefIdeal.nD Cert.DwSqAddRefIdeal.τ).loc Cert.DwSqAddRefIdeal.main_arg1) = m ((c.tc : Thread Cert.DwSqAddRefIdeal.nD Cert.DwSqAddRefIdeal.τ).loc Cert.DwSqAddRefIdeal.main_arg1)
      ∧ r.2.mem ((c.tc : Thread Cert.DwSqAddRefIdeal.nD Cert.DwSqAddRefIdeal.τ).loc Cert.DwSqAddRefIdeal.main_arg2) = m ((c.tc : Thread Cert.DwSqAddRefIdeal.nD Cert.DwSqAddRefIdeal.τ).loc Cert.DwSqAddRefIdeal.main_arg2))
      ∧ r.2.sem = fun _ => 0)

def quiescent_Gab [hGab : Cert.Gab.Facts] : Prop :=
  ∀ (m : (ℓ : Loc Cert.Gab.nD Cert.Gab.τ Cert.Gab.sig) → Buf (Elt Bits) ℓ) (g : Dev Cert.Gab.nD → PrngReg), Pre_Gab m →
    θ_run (Cert.Gab.defs (F := Bits)) (onTc (τ := Cert.Gab.τ) (Cert.Gab.main (F := Bits))) ⟨m, fun _ => 0, g⟩ (fun r => (∀ c : Dev Cert.Gab.nD,
      r.2.mem ((c.tc : Thread Cert.Gab.nD Cert.Gab.τ).loc Cert.Gab.main_arg0) = m ((c.tc : Thread Cert.Gab.nD Cert.Gab.τ).loc Cert.Gab.main_arg0)
      ∧ r.2.mem ((c.tc : Thread Cert.Gab.nD Cert.Gab.τ).loc Cert.Gab.main_arg1) = m ((c.tc : Thread Cert.Gab.nD Cert.Gab.τ).loc Cert.Gab.main_arg1))
      ∧ r.2.sem = fun _ => 0)

def quiescent_GabIdeal [hGabIdeal : Cert.GabIdeal.Facts] : Prop :=
  ∀ (m : (ℓ : Loc Cert.GabIdeal.nD Cert.GabIdeal.τ Cert.GabIdeal.sig) → Buf (Elt Ideal) ℓ) (g : Dev Cert.GabIdeal.nD → PrngReg), Pre_GabIdeal m →
    θ_run (Cert.GabIdeal.defs (F := Ideal)) (onTc (τ := Cert.GabIdeal.τ) (Cert.GabIdeal.main (F := Ideal))) ⟨m, fun _ => 0, g⟩ (fun r => (∀ c : Dev Cert.GabIdeal.nD,
      r.2.mem ((c.tc : Thread Cert.GabIdeal.nD Cert.GabIdeal.τ).loc Cert.GabIdeal.main_arg0) = m ((c.tc : Thread Cert.GabIdeal.nD Cert.GabIdeal.τ).loc Cert.GabIdeal.main_arg0)
      ∧ r.2.mem ((c.tc : Thread Cert.GabIdeal.nD Cert.GabIdeal.τ).loc Cert.GabIdeal.main_arg1) = m ((c.tc : Thread Cert.GabIdeal.nD Cert.GabIdeal.τ).loc Cert.GabIdeal.main_arg1))
      ∧ r.2.sem = fun _ => 0)

def quiescent_GabRefIdeal [hGabRefIdeal : Cert.GabRefIdeal.Facts] : Prop :=
  ∀ (m : (ℓ : Loc Cert.GabRefIdeal.nD Cert.GabRefIdeal.τ Cert.GabRefIdeal.sig) → Buf (Elt Ideal) ℓ) (g : Dev Cert.GabRefIdeal.nD → PrngReg), Pre_GabRefIdeal m →
    θ_run (Cert.GabRefIdeal.defs (F := Ideal)) (onTc (τ := Cert.GabRefIdeal.τ) (Cert.GabRefIdeal.main (F := Ideal))) ⟨m, fun _ => 0, g⟩ (fun r => (∀ c : Dev Cert.GabRefIdeal.nD,
      r.2.mem ((c.tc : Thread Cert.GabRefIdeal.nD Cert.GabRefIdeal.τ).loc Cert.GabRefIdeal.main_arg0) = m ((c.tc : Thread Cert.GabRefIdeal.nD Cert.GabRefIdeal.τ).loc Cert.GabRefIdeal.main_arg0)
      ∧ r.2.mem ((c.tc : Thread Cert.GabRefIdeal.nD Cert.GabRefIdeal.τ).loc Cert.GabRefIdeal.main_arg1) = m ((c.tc : Thread Cert.GabRefIdeal.nD Cert.GabRefIdeal.τ).loc Cert.GabRefIdeal.main_arg1))
      ∧ r.2.sem = fun _ => 0)

def quiescent_DhGab [hDhGab : Cert.DhGab.Facts] : Prop :=
  ∀ (m : (ℓ : Loc Cert.DhGab.nD Cert.DhGab.τ Cert.DhGab.sig) → Buf (Elt Bits) ℓ) (g : Dev Cert.DhGab.nD → PrngReg), Pre_DhGab m →
    θ_run (Cert.DhGab.defs (F := Bits)) (onTc (τ := Cert.DhGab.τ) (Cert.DhGab.main (F := Bits))) ⟨m, fun _ => 0, g⟩ (fun r => (∀ c : Dev Cert.DhGab.nD,
      r.2.mem ((c.tc : Thread Cert.DhGab.nD Cert.DhGab.τ).loc Cert.DhGab.main_arg0) = m ((c.tc : Thread Cert.DhGab.nD Cert.DhGab.τ).loc Cert.DhGab.main_arg0)
      ∧ r.2.mem ((c.tc : Thread Cert.DhGab.nD Cert.DhGab.τ).loc Cert.DhGab.main_arg1) = m ((c.tc : Thread Cert.DhGab.nD Cert.DhGab.τ).loc Cert.DhGab.main_arg1)
      ∧ r.2.mem ((c.tc : Thread Cert.DhGab.nD Cert.DhGab.τ).loc Cert.DhGab.main_arg2) = m ((c.tc : Thread Cert.DhGab.nD Cert.DhGab.τ).loc Cert.DhGab.main_arg2))
      ∧ r.2.sem = fun _ => 0)

def quiescent_DhGabIdeal [hDhGabIdeal : Cert.DhGabIdeal.Facts] : Prop :=
  ∀ (m : (ℓ : Loc Cert.DhGabIdeal.nD Cert.DhGabIdeal.τ Cert.DhGabIdeal.sig) → Buf (Elt Ideal) ℓ) (g : Dev Cert.DhGabIdeal.nD → PrngReg), Pre_DhGabIdeal m →
    θ_run (Cert.DhGabIdeal.defs (F := Ideal)) (onTc (τ := Cert.DhGabIdeal.τ) (Cert.DhGabIdeal.main (F := Ideal))) ⟨m, fun _ => 0, g⟩ (fun r => (∀ c : Dev Cert.DhGabIdeal.nD,
      r.2.mem ((c.tc : Thread Cert.DhGabIdeal.nD Cert.DhGabIdeal.τ).loc Cert.DhGabIdeal.main_arg0) = m ((c.tc : Thread Cert.DhGabIdeal.nD Cert.DhGabIdeal.τ).loc Cert.DhGabIdeal.main_arg0)
      ∧ r.2.mem ((c.tc : Thread Cert.DhGabIdeal.nD Cert.DhGabIdeal.τ).loc Cert.DhGabIdeal.main_arg1) = m ((c.tc : Thread Cert.DhGabIdeal.nD Cert.DhGabIdeal.τ).loc Cert.DhGabIdeal.main_arg1)
      ∧ r.2.mem ((c.tc : Thread Cert.DhGabIdeal.nD Cert.DhGabIdeal.τ).loc Cert.DhGabIdeal.main_arg2) = m ((c.tc : Thread Cert.DhGabIdeal.nD Cert.DhGabIdeal.τ).loc Cert.DhGabIdeal.main_arg2))
      ∧ r.2.sem = fun _ => 0)

def quiescent_DhGabRefIdeal [hDhGabRefIdeal : Cert.DhGabRefIdeal.Facts] : Prop :=
  ∀ (m : (ℓ : Loc Cert.DhGabRefIdeal.nD Cert.DhGabRefIdeal.τ Cert.DhGabRefIdeal.sig) → Buf (Elt Ideal) ℓ) (g : Dev Cert.DhGabRefIdeal.nD → PrngReg), Pre_DhGabRefIdeal m →
    θ_run (Cert.DhGabRefIdeal.defs (F := Ideal)) (onTc (τ := Cert.DhGabRefIdeal.τ) (Cert.DhGabRefIdeal.main (F := Ideal))) ⟨m, fun _ => 0, g⟩ (fun r => (∀ c : Dev Cert.DhGabRefIdeal.nD,
      r.2.mem ((c.tc : Thread Cert.DhGabRefIdeal.nD Cert.DhGabRefIdeal.τ).loc Cert.DhGabRefIdeal.main_arg0) = m ((c.tc : Thread Cert.DhGabRefIdeal.nD Cert.DhGabRefIdeal.τ).loc Cert.DhGabRefIdeal.main_arg0)
      ∧ r.2.mem ((c.tc : Thread Cert.DhGabRefIdeal.nD Cert.DhGabRefIdeal.τ).loc Cert.DhGabRefIdeal.main_arg1) = m ((c.tc : Thread Cert.DhGabRefIdeal.nD Cert.DhGabRefIdeal.τ).loc Cert.DhGabRefIdeal.main_arg1)
      ∧ r.2.mem ((c.tc : Thread Cert.DhGabRefIdeal.nD Cert.DhGabRefIdeal.τ).loc Cert.DhGabRefIdeal.main_arg2) = m ((c.tc : Thread Cert.DhGabRefIdeal.nD Cert.DhGabRefIdeal.τ).loc Cert.DhGabRefIdeal.main_arg2))
      ∧ r.2.sem = fun _ => 0)

def quiescent_DwGab [hDwGab : Cert.DwGab.Facts] : Prop :=
  ∀ (m : (ℓ : Loc Cert.DwGab.nD Cert.DwGab.τ Cert.DwGab.sig) → Buf (Elt Bits) ℓ) (g : Dev Cert.DwGab.nD → PrngReg), Pre_DwGab m →
    θ_run (Cert.DwGab.defs (F := Bits)) (onTc (τ := Cert.DwGab.τ) (Cert.DwGab.main (F := Bits))) ⟨m, fun _ => 0, g⟩ (fun r => (∀ c : Dev Cert.DwGab.nD,
      r.2.mem ((c.tc : Thread Cert.DwGab.nD Cert.DwGab.τ).loc Cert.DwGab.main_arg0) = m ((c.tc : Thread Cert.DwGab.nD Cert.DwGab.τ).loc Cert.DwGab.main_arg0)
      ∧ r.2.mem ((c.tc : Thread Cert.DwGab.nD Cert.DwGab.τ).loc Cert.DwGab.main_arg1) = m ((c.tc : Thread Cert.DwGab.nD Cert.DwGab.τ).loc Cert.DwGab.main_arg1))
      ∧ r.2.sem = fun _ => 0)

def quiescent_DwGabIdeal [hDwGabIdeal : Cert.DwGabIdeal.Facts] : Prop :=
  ∀ (m : (ℓ : Loc Cert.DwGabIdeal.nD Cert.DwGabIdeal.τ Cert.DwGabIdeal.sig) → Buf (Elt Ideal) ℓ) (g : Dev Cert.DwGabIdeal.nD → PrngReg), Pre_DwGabIdeal m →
    θ_run (Cert.DwGabIdeal.defs (F := Ideal)) (onTc (τ := Cert.DwGabIdeal.τ) (Cert.DwGabIdeal.main (F := Ideal))) ⟨m, fun _ => 0, g⟩ (fun r => (∀ c : Dev Cert.DwGabIdeal.nD,
      r.2.mem ((c.tc : Thread Cert.DwGabIdeal.nD Cert.DwGabIdeal.τ).loc Cert.DwGabIdeal.main_arg0) = m ((c.tc : Thread Cert.DwGabIdeal.nD Cert.DwGabIdeal.τ).loc Cert.DwGabIdeal.main_arg0)
      ∧ r.2.mem ((c.tc : Thread Cert.DwGabIdeal.nD Cert.DwGabIdeal.τ).loc Cert.DwGabIdeal.main_arg1) = m ((c.tc : Thread Cert.DwGabIdeal.nD Cert.DwGabIdeal.τ).loc Cert.DwGabIdeal.main_arg1))
      ∧ r.2.sem = fun _ => 0)

def quiescent_DwGabRefIdeal [hDwGabRefIdeal : Cert.DwGabRefIdeal.Facts] : Prop :=
  ∀ (m : (ℓ : Loc Cert.DwGabRefIdeal.nD Cert.DwGabRefIdeal.τ Cert.DwGabRefIdeal.sig) → Buf (Elt Ideal) ℓ) (g : Dev Cert.DwGabRefIdeal.nD → PrngReg), Pre_DwGabRefIdeal m →
    θ_run (Cert.DwGabRefIdeal.defs (F := Ideal)) (onTc (τ := Cert.DwGabRefIdeal.τ) (Cert.DwGabRefIdeal.main (F := Ideal))) ⟨m, fun _ => 0, g⟩ (fun r => (∀ c : Dev Cert.DwGabRefIdeal.nD,
      r.2.mem ((c.tc : Thread Cert.DwGabRefIdeal.nD Cert.DwGabRefIdeal.τ).loc Cert.DwGabRefIdeal.main_arg0) = m ((c.tc : Thread Cert.DwGabRefIdeal.nD Cert.DwGabRefIdeal.τ).loc Cert.DwGabRefIdeal.main_arg0)
      ∧ r.2.mem ((c.tc : Thread Cert.DwGabRefIdeal.nD Cert.DwGabRefIdeal.τ).loc Cert.DwGabRefIdeal.main_arg1) = m ((c.tc : Thread Cert.DwGabRefIdeal.nD Cert.DwGabRefIdeal.τ).loc Cert.DwGabRefIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_DhKv [hDhKv : Cert.DhKv.Facts] : Prop :=
  ∀ (m : (ℓ : Loc Cert.DhKv.nD Cert.DhKv.τ Cert.DhKv.sig) → Buf (Elt Bits) ℓ) (g : Dev Cert.DhKv.nD → PrngReg), Pre_DhKv m →
    θ_run (Cert.DhKv.defs (F := Bits)) (onTc (τ := Cert.DhKv.τ) (Cert.DhKv.main (F := Bits))) ⟨m, fun _ => 0, g⟩ (fun r => (∀ c : Dev Cert.DhKv.nD,
      r.2.mem ((c.tc : Thread Cert.DhKv.nD Cert.DhKv.τ).loc Cert.DhKv.main_arg0) = m ((c.tc : Thread Cert.DhKv.nD Cert.DhKv.τ).loc Cert.DhKv.main_arg0)
      ∧ r.2.mem ((c.tc : Thread Cert.DhKv.nD Cert.DhKv.τ).loc Cert.DhKv.main_arg1) = m ((c.tc : Thread Cert.DhKv.nD Cert.DhKv.τ).loc Cert.DhKv.main_arg1)
      ∧ r.2.mem ((c.tc : Thread Cert.DhKv.nD Cert.DhKv.τ).loc Cert.DhKv.main_arg2) = m ((c.tc : Thread Cert.DhKv.nD Cert.DhKv.τ).loc Cert.DhKv.main_arg2))
      ∧ r.2.sem = fun _ => 0)

def quiescent_DhKvIdeal [hDhKvIdeal : Cert.DhKvIdeal.Facts] : Prop :=
  ∀ (m : (ℓ : Loc Cert.DhKvIdeal.nD Cert.DhKvIdeal.τ Cert.DhKvIdeal.sig) → Buf (Elt Ideal) ℓ) (g : Dev Cert.DhKvIdeal.nD → PrngReg), Pre_DhKvIdeal m →
    θ_run (Cert.DhKvIdeal.defs (F := Ideal)) (onTc (τ := Cert.DhKvIdeal.τ) (Cert.DhKvIdeal.main (F := Ideal))) ⟨m, fun _ => 0, g⟩ (fun r => (∀ c : Dev Cert.DhKvIdeal.nD,
      r.2.mem ((c.tc : Thread Cert.DhKvIdeal.nD Cert.DhKvIdeal.τ).loc Cert.DhKvIdeal.main_arg0) = m ((c.tc : Thread Cert.DhKvIdeal.nD Cert.DhKvIdeal.τ).loc Cert.DhKvIdeal.main_arg0)
      ∧ r.2.mem ((c.tc : Thread Cert.DhKvIdeal.nD Cert.DhKvIdeal.τ).loc Cert.DhKvIdeal.main_arg1) = m ((c.tc : Thread Cert.DhKvIdeal.nD Cert.DhKvIdeal.τ).loc Cert.DhKvIdeal.main_arg1)
      ∧ r.2.mem ((c.tc : Thread Cert.DhKvIdeal.nD Cert.DhKvIdeal.τ).loc Cert.DhKvIdeal.main_arg2) = m ((c.tc : Thread Cert.DhKvIdeal.nD Cert.DhKvIdeal.τ).loc Cert.DhKvIdeal.main_arg2))
      ∧ r.2.sem = fun _ => 0)

def quiescent_DhKvRefIdeal [hDhKvRefIdeal : Cert.DhKvRefIdeal.Facts] : Prop :=
  ∀ (m : (ℓ : Loc Cert.DhKvRefIdeal.nD Cert.DhKvRefIdeal.τ Cert.DhKvRefIdeal.sig) → Buf (Elt Ideal) ℓ) (g : Dev Cert.DhKvRefIdeal.nD → PrngReg), Pre_DhKvRefIdeal m →
    θ_run (Cert.DhKvRefIdeal.defs (F := Ideal)) (onTc (τ := Cert.DhKvRefIdeal.τ) (Cert.DhKvRefIdeal.main (F := Ideal))) ⟨m, fun _ => 0, g⟩ (fun r => (∀ c : Dev Cert.DhKvRefIdeal.nD,
      r.2.mem ((c.tc : Thread Cert.DhKvRefIdeal.nD Cert.DhKvRefIdeal.τ).loc Cert.DhKvRefIdeal.main_arg0) = m ((c.tc : Thread Cert.DhKvRefIdeal.nD Cert.DhKvRefIdeal.τ).loc Cert.DhKvRefIdeal.main_arg0)
      ∧ r.2.mem ((c.tc : Thread Cert.DhKvRefIdeal.nD Cert.DhKvRefIdeal.τ).loc Cert.DhKvRefIdeal.main_arg1) = m ((c.tc : Thread Cert.DhKvRefIdeal.nD Cert.DhKvRefIdeal.τ).loc Cert.DhKvRefIdeal.main_arg1)
      ∧ r.2.mem ((c.tc : Thread Cert.DhKvRefIdeal.nD Cert.DhKvRefIdeal.τ).loc Cert.DhKvRefIdeal.main_arg2) = m ((c.tc : Thread Cert.DhKvRefIdeal.nD Cert.DhKvRefIdeal.τ).loc Cert.DhKvRefIdeal.main_arg2))
      ∧ r.2.sem = fun _ => 0)

def quiescent_DwKv [hDwKv : Cert.DwKv.Facts] : Prop :=
  ∀ (m : (ℓ : Loc Cert.DwKv.nD Cert.DwKv.τ Cert.DwKv.sig) → Buf (Elt Bits) ℓ) (g : Dev Cert.DwKv.nD → PrngReg), Pre_DwKv m →
    θ_run (Cert.DwKv.defs (F := Bits)) (onTc (τ := Cert.DwKv.τ) (Cert.DwKv.main (F := Bits))) ⟨m, fun _ => 0, g⟩ (fun r => (∀ c : Dev Cert.DwKv.nD,
      r.2.mem ((c.tc : Thread Cert.DwKv.nD Cert.DwKv.τ).loc Cert.DwKv.main_arg0) = m ((c.tc : Thread Cert.DwKv.nD Cert.DwKv.τ).loc Cert.DwKv.main_arg0)
      ∧ r.2.mem ((c.tc : Thread Cert.DwKv.nD Cert.DwKv.τ).loc Cert.DwKv.main_arg1) = m ((c.tc : Thread Cert.DwKv.nD Cert.DwKv.τ).loc Cert.DwKv.main_arg1)
      ∧ r.2.mem ((c.tc : Thread Cert.DwKv.nD Cert.DwKv.τ).loc Cert.DwKv.main_arg2) = m ((c.tc : Thread Cert.DwKv.nD Cert.DwKv.τ).loc Cert.DwKv.main_arg2))
      ∧ r.2.sem = fun _ => 0)

def quiescent_DwKvIdeal [hDwKvIdeal : Cert.DwKvIdeal.Facts] : Prop :=
  ∀ (m : (ℓ : Loc Cert.DwKvIdeal.nD Cert.DwKvIdeal.τ Cert.DwKvIdeal.sig) → Buf (Elt Ideal) ℓ) (g : Dev Cert.DwKvIdeal.nD → PrngReg), Pre_DwKvIdeal m →
    θ_run (Cert.DwKvIdeal.defs (F := Ideal)) (onTc (τ := Cert.DwKvIdeal.τ) (Cert.DwKvIdeal.main (F := Ideal))) ⟨m, fun _ => 0, g⟩ (fun r => (∀ c : Dev Cert.DwKvIdeal.nD,
      r.2.mem ((c.tc : Thread Cert.DwKvIdeal.nD Cert.DwKvIdeal.τ).loc Cert.DwKvIdeal.main_arg0) = m ((c.tc : Thread Cert.DwKvIdeal.nD Cert.DwKvIdeal.τ).loc Cert.DwKvIdeal.main_arg0)
      ∧ r.2.mem ((c.tc : Thread Cert.DwKvIdeal.nD Cert.DwKvIdeal.τ).loc Cert.DwKvIdeal.main_arg1) = m ((c.tc : Thread Cert.DwKvIdeal.nD Cert.DwKvIdeal.τ).loc Cert.DwKvIdeal.main_arg1)
      ∧ r.2.mem ((c.tc : Thread Cert.DwKvIdeal.nD Cert.DwKvIdeal.τ).loc Cert.DwKvIdeal.main_arg2) = m ((c.tc : Thread Cert.DwKvIdeal.nD Cert.DwKvIdeal.τ).loc Cert.DwKvIdeal.main_arg2))
      ∧ r.2.sem = fun _ => 0)

def quiescent_DwKvRefIdeal [hDwKvRefIdeal : Cert.DwKvRefIdeal.Facts] : Prop :=
  ∀ (m : (ℓ : Loc Cert.DwKvRefIdeal.nD Cert.DwKvRefIdeal.τ Cert.DwKvRefIdeal.sig) → Buf (Elt Ideal) ℓ) (g : Dev Cert.DwKvRefIdeal.nD → PrngReg), Pre_DwKvRefIdeal m →
    θ_run (Cert.DwKvRefIdeal.defs (F := Ideal)) (onTc (τ := Cert.DwKvRefIdeal.τ) (Cert.DwKvRefIdeal.main (F := Ideal))) ⟨m, fun _ => 0, g⟩ (fun r => (∀ c : Dev Cert.DwKvRefIdeal.nD,
      r.2.mem ((c.tc : Thread Cert.DwKvRefIdeal.nD Cert.DwKvRefIdeal.τ).loc Cert.DwKvRefIdeal.main_arg0) = m ((c.tc : Thread Cert.DwKvRefIdeal.nD Cert.DwKvRefIdeal.τ).loc Cert.DwKvRefIdeal.main_arg0)
      ∧ r.2.mem ((c.tc : Thread Cert.DwKvRefIdeal.nD Cert.DwKvRefIdeal.τ).loc Cert.DwKvRefIdeal.main_arg1) = m ((c.tc : Thread Cert.DwKvRefIdeal.nD Cert.DwKvRefIdeal.τ).loc Cert.DwKvRefIdeal.main_arg1)
      ∧ r.2.mem ((c.tc : Thread Cert.DwKvRefIdeal.nD Cert.DwKvRefIdeal.τ).loc Cert.DwKvRefIdeal.main_arg2) = m ((c.tc : Thread Cert.DwKvRefIdeal.nD Cert.DwKvRefIdeal.τ).loc Cert.DwKvRefIdeal.main_arg2))
      ∧ r.2.sem = fun _ => 0)

def quiescent_KvCtx [hKvCtx : Cert.KvCtx.Facts] : Prop :=
  ∀ (m : (ℓ : Loc Cert.KvCtx.nD Cert.KvCtx.τ Cert.KvCtx.sig) → Buf (Elt Bits) ℓ) (g : Dev Cert.KvCtx.nD → PrngReg), Pre_KvCtx m →
    θ_run (Cert.KvCtx.defs (F := Bits)) (onTc (τ := Cert.KvCtx.τ) (Cert.KvCtx.main (F := Bits))) ⟨m, fun _ => 0, g⟩ (fun r => (∀ c : Dev Cert.KvCtx.nD,
      r.2.mem ((c.tc : Thread Cert.KvCtx.nD Cert.KvCtx.τ).loc Cert.KvCtx.main_arg0) = m ((c.tc : Thread Cert.KvCtx.nD Cert.KvCtx.τ).loc Cert.KvCtx.main_arg0)
      ∧ r.2.mem ((c.tc : Thread Cert.KvCtx.nD Cert.KvCtx.τ).loc Cert.KvCtx.main_arg1) = m ((c.tc : Thread Cert.KvCtx.nD Cert.KvCtx.τ).loc Cert.KvCtx.main_arg1))
      ∧ r.2.sem = fun _ => 0)

def quiescent_KvCtxIdeal [hKvCtxIdeal : Cert.KvCtxIdeal.Facts] : Prop :=
  ∀ (m : (ℓ : Loc Cert.KvCtxIdeal.nD Cert.KvCtxIdeal.τ Cert.KvCtxIdeal.sig) → Buf (Elt Ideal) ℓ) (g : Dev Cert.KvCtxIdeal.nD → PrngReg), Pre_KvCtxIdeal m →
    θ_run (Cert.KvCtxIdeal.defs (F := Ideal)) (onTc (τ := Cert.KvCtxIdeal.τ) (Cert.KvCtxIdeal.main (F := Ideal))) ⟨m, fun _ => 0, g⟩ (fun r => (∀ c : Dev Cert.KvCtxIdeal.nD,
      r.2.mem ((c.tc : Thread Cert.KvCtxIdeal.nD Cert.KvCtxIdeal.τ).loc Cert.KvCtxIdeal.main_arg0) = m ((c.tc : Thread Cert.KvCtxIdeal.nD Cert.KvCtxIdeal.τ).loc Cert.KvCtxIdeal.main_arg0)
      ∧ r.2.mem ((c.tc : Thread Cert.KvCtxIdeal.nD Cert.KvCtxIdeal.τ).loc Cert.KvCtxIdeal.main_arg1) = m ((c.tc : Thread Cert.KvCtxIdeal.nD Cert.KvCtxIdeal.τ).loc Cert.KvCtxIdeal.main_arg1))
      ∧ r.2.sem = fun _ => 0)

def quiescent_KvCtxRefIdeal [hKvCtxRefIdeal : Cert.KvCtxRefIdeal.Facts] : Prop :=
  ∀ (m : (ℓ : Loc Cert.KvCtxRefIdeal.nD Cert.KvCtxRefIdeal.τ Cert.KvCtxRefIdeal.sig) → Buf (Elt Ideal) ℓ) (g : Dev Cert.KvCtxRefIdeal.nD → PrngReg), Pre_KvCtxRefIdeal m →
    θ_run (Cert.KvCtxRefIdeal.defs (F := Ideal)) (onTc (τ := Cert.KvCtxRefIdeal.τ) (Cert.KvCtxRefIdeal.main (F := Ideal))) ⟨m, fun _ => 0, g⟩ (fun r => (∀ c : Dev Cert.KvCtxRefIdeal.nD,
      r.2.mem ((c.tc : Thread Cert.KvCtxRefIdeal.nD Cert.KvCtxRefIdeal.τ).loc Cert.KvCtxRefIdeal.main_arg0) = m ((c.tc : Thread Cert.KvCtxRefIdeal.nD Cert.KvCtxRefIdeal.τ).loc Cert.KvCtxRefIdeal.main_arg0)
      ∧ r.2.mem ((c.tc : Thread Cert.KvCtxRefIdeal.nD Cert.KvCtxRefIdeal.τ).loc Cert.KvCtxRefIdeal.main_arg1) = m ((c.tc : Thread Cert.KvCtxRefIdeal.nD Cert.KvCtxRefIdeal.τ).loc Cert.KvCtxRefIdeal.main_arg1))
      ∧ r.2.sem = fun _ => 0)

def quiescent_SqCtx [hSqCtx : Cert.SqCtx.Facts] : Prop :=
  ∀ (m : (ℓ : Loc Cert.SqCtx.nD Cert.SqCtx.τ Cert.SqCtx.sig) → Buf (Elt Bits) ℓ) (g : Dev Cert.SqCtx.nD → PrngReg), Pre_SqCtx m →
    θ_run (Cert.SqCtx.defs (F := Bits)) (onTc (τ := Cert.SqCtx.τ) (Cert.SqCtx.main (F := Bits))) ⟨m, fun _ => 0, g⟩ (fun r => (∀ c : Dev Cert.SqCtx.nD,
      r.2.mem ((c.tc : Thread Cert.SqCtx.nD Cert.SqCtx.τ).loc Cert.SqCtx.main_arg0) = m ((c.tc : Thread Cert.SqCtx.nD Cert.SqCtx.τ).loc Cert.SqCtx.main_arg0)
      ∧ r.2.mem ((c.tc : Thread Cert.SqCtx.nD Cert.SqCtx.τ).loc Cert.SqCtx.main_arg1) = m ((c.tc : Thread Cert.SqCtx.nD Cert.SqCtx.τ).loc Cert.SqCtx.main_arg1))
      ∧ r.2.sem = fun _ => 0)

def quiescent_SqCtxIdeal [hSqCtxIdeal : Cert.SqCtxIdeal.Facts] : Prop :=
  ∀ (m : (ℓ : Loc Cert.SqCtxIdeal.nD Cert.SqCtxIdeal.τ Cert.SqCtxIdeal.sig) → Buf (Elt Ideal) ℓ) (g : Dev Cert.SqCtxIdeal.nD → PrngReg), Pre_SqCtxIdeal m →
    θ_run (Cert.SqCtxIdeal.defs (F := Ideal)) (onTc (τ := Cert.SqCtxIdeal.τ) (Cert.SqCtxIdeal.main (F := Ideal))) ⟨m, fun _ => 0, g⟩ (fun r => (∀ c : Dev Cert.SqCtxIdeal.nD,
      r.2.mem ((c.tc : Thread Cert.SqCtxIdeal.nD Cert.SqCtxIdeal.τ).loc Cert.SqCtxIdeal.main_arg0) = m ((c.tc : Thread Cert.SqCtxIdeal.nD Cert.SqCtxIdeal.τ).loc Cert.SqCtxIdeal.main_arg0)
      ∧ r.2.mem ((c.tc : Thread Cert.SqCtxIdeal.nD Cert.SqCtxIdeal.τ).loc Cert.SqCtxIdeal.main_arg1) = m ((c.tc : Thread Cert.SqCtxIdeal.nD Cert.SqCtxIdeal.τ).loc Cert.SqCtxIdeal.main_arg1))
      ∧ r.2.sem = fun _ => 0)

def quiescent_SqCtxRefIdeal [hSqCtxRefIdeal : Cert.SqCtxRefIdeal.Facts] : Prop :=
  ∀ (m : (ℓ : Loc Cert.SqCtxRefIdeal.nD Cert.SqCtxRefIdeal.τ Cert.SqCtxRefIdeal.sig) → Buf (Elt Ideal) ℓ) (g : Dev Cert.SqCtxRefIdeal.nD → PrngReg), Pre_SqCtxRefIdeal m →
    θ_run (Cert.SqCtxRefIdeal.defs (F := Ideal)) (onTc (τ := Cert.SqCtxRefIdeal.τ) (Cert.SqCtxRefIdeal.main (F := Ideal))) ⟨m, fun _ => 0, g⟩ (fun r => (∀ c : Dev Cert.SqCtxRefIdeal.nD,
      r.2.mem ((c.tc : Thread Cert.SqCtxRefIdeal.nD Cert.SqCtxRefIdeal.τ).loc Cert.SqCtxRefIdeal.main_arg0) = m ((c.tc : Thread Cert.SqCtxRefIdeal.nD Cert.SqCtxRefIdeal.τ).loc Cert.SqCtxRefIdeal.main_arg0)
      ∧ r.2.mem ((c.tc : Thread Cert.SqCtxRefIdeal.nD Cert.SqCtxRefIdeal.τ).loc Cert.SqCtxRefIdeal.main_arg1) = m ((c.tc : Thread Cert.SqCtxRefIdeal.nD Cert.SqCtxRefIdeal.τ).loc Cert.SqCtxRefIdeal.main_arg1))
      ∧ r.2.sem = fun _ => 0)

def quiescent_LrCtx [hLrCtx : Cert.LrCtx.Facts] : Prop :=
  ∀ (m : (ℓ : Loc Cert.LrCtx.nD Cert.LrCtx.τ Cert.LrCtx.sig) → Buf (Elt Bits) ℓ) (g : Dev Cert.LrCtx.nD → PrngReg), Pre_LrCtx m →
    θ_run (Cert.LrCtx.defs (F := Bits)) (onTc (τ := Cert.LrCtx.τ) (Cert.LrCtx.main (F := Bits))) ⟨m, fun _ => 0, g⟩ (fun r => (∀ c : Dev Cert.LrCtx.nD,
      r.2.mem ((c.tc : Thread Cert.LrCtx.nD Cert.LrCtx.τ).loc Cert.LrCtx.main_arg0) = m ((c.tc : Thread Cert.LrCtx.nD Cert.LrCtx.τ).loc Cert.LrCtx.main_arg0)
      ∧ r.2.mem ((c.tc : Thread Cert.LrCtx.nD Cert.LrCtx.τ).loc Cert.LrCtx.main_arg1) = m ((c.tc : Thread Cert.LrCtx.nD Cert.LrCtx.τ).loc Cert.LrCtx.main_arg1))
      ∧ r.2.sem = fun _ => 0)

def quiescent_LrCtxIdeal [hLrCtxIdeal : Cert.LrCtxIdeal.Facts] : Prop :=
  ∀ (m : (ℓ : Loc Cert.LrCtxIdeal.nD Cert.LrCtxIdeal.τ Cert.LrCtxIdeal.sig) → Buf (Elt Ideal) ℓ) (g : Dev Cert.LrCtxIdeal.nD → PrngReg), Pre_LrCtxIdeal m →
    θ_run (Cert.LrCtxIdeal.defs (F := Ideal)) (onTc (τ := Cert.LrCtxIdeal.τ) (Cert.LrCtxIdeal.main (F := Ideal))) ⟨m, fun _ => 0, g⟩ (fun r => (∀ c : Dev Cert.LrCtxIdeal.nD,
      r.2.mem ((c.tc : Thread Cert.LrCtxIdeal.nD Cert.LrCtxIdeal.τ).loc Cert.LrCtxIdeal.main_arg0) = m ((c.tc : Thread Cert.LrCtxIdeal.nD Cert.LrCtxIdeal.τ).loc Cert.LrCtxIdeal.main_arg0)
      ∧ r.2.mem ((c.tc : Thread Cert.LrCtxIdeal.nD Cert.LrCtxIdeal.τ).loc Cert.LrCtxIdeal.main_arg1) = m ((c.tc : Thread Cert.LrCtxIdeal.nD Cert.LrCtxIdeal.τ).loc Cert.LrCtxIdeal.main_arg1))
      ∧ r.2.sem = fun _ => 0)

def quiescent_LrCtxRefIdeal [hLrCtxRefIdeal : Cert.LrCtxRefIdeal.Facts] : Prop :=
  ∀ (m : (ℓ : Loc Cert.LrCtxRefIdeal.nD Cert.LrCtxRefIdeal.τ Cert.LrCtxRefIdeal.sig) → Buf (Elt Ideal) ℓ) (g : Dev Cert.LrCtxRefIdeal.nD → PrngReg), Pre_LrCtxRefIdeal m →
    θ_run (Cert.LrCtxRefIdeal.defs (F := Ideal)) (onTc (τ := Cert.LrCtxRefIdeal.τ) (Cert.LrCtxRefIdeal.main (F := Ideal))) ⟨m, fun _ => 0, g⟩ (fun r => (∀ c : Dev Cert.LrCtxRefIdeal.nD,
      r.2.mem ((c.tc : Thread Cert.LrCtxRefIdeal.nD Cert.LrCtxRefIdeal.τ).loc Cert.LrCtxRefIdeal.main_arg0) = m ((c.tc : Thread Cert.LrCtxRefIdeal.nD Cert.LrCtxRefIdeal.τ).loc Cert.LrCtxRefIdeal.main_arg0)
      ∧ r.2.mem ((c.tc : Thread Cert.LrCtxRefIdeal.nD Cert.LrCtxRefIdeal.τ).loc Cert.LrCtxRefIdeal.main_arg1) = m ((c.tc : Thread Cert.LrCtxRefIdeal.nD Cert.LrCtxRefIdeal.τ).loc Cert.LrCtxRefIdeal.main_arg1))
      ∧ r.2.sem = fun _ => 0)

def quiescent_DwKvCtx [hDwKvCtx : Cert.DwKvCtx.Facts] : Prop :=
  ∀ (m : (ℓ : Loc Cert.DwKvCtx.nD Cert.DwKvCtx.τ Cert.DwKvCtx.sig) → Buf (Elt Bits) ℓ) (g : Dev Cert.DwKvCtx.nD → PrngReg), Pre_DwKvCtx m →
    θ_run (Cert.DwKvCtx.defs (F := Bits)) (onTc (τ := Cert.DwKvCtx.τ) (Cert.DwKvCtx.main (F := Bits))) ⟨m, fun _ => 0, g⟩ (fun r => (∀ c : Dev Cert.DwKvCtx.nD,
      r.2.mem ((c.tc : Thread Cert.DwKvCtx.nD Cert.DwKvCtx.τ).loc Cert.DwKvCtx.main_arg0) = m ((c.tc : Thread Cert.DwKvCtx.nD Cert.DwKvCtx.τ).loc Cert.DwKvCtx.main_arg0)
      ∧ r.2.mem ((c.tc : Thread Cert.DwKvCtx.nD Cert.DwKvCtx.τ).loc Cert.DwKvCtx.main_arg1) = m ((c.tc : Thread Cert.DwKvCtx.nD Cert.DwKvCtx.τ).loc Cert.DwKvCtx.main_arg1))
      ∧ r.2.sem = fun _ => 0)

def quiescent_DwKvCtxIdeal [hDwKvCtxIdeal : Cert.DwKvCtxIdeal.Facts] : Prop :=
  ∀ (m : (ℓ : Loc Cert.DwKvCtxIdeal.nD Cert.DwKvCtxIdeal.τ Cert.DwKvCtxIdeal.sig) → Buf (Elt Ideal) ℓ) (g : Dev Cert.DwKvCtxIdeal.nD → PrngReg), Pre_DwKvCtxIdeal m →
    θ_run (Cert.DwKvCtxIdeal.defs (F := Ideal)) (onTc (τ := Cert.DwKvCtxIdeal.τ) (Cert.DwKvCtxIdeal.main (F := Ideal))) ⟨m, fun _ => 0, g⟩ (fun r => (∀ c : Dev Cert.DwKvCtxIdeal.nD,
      r.2.mem ((c.tc : Thread Cert.DwKvCtxIdeal.nD Cert.DwKvCtxIdeal.τ).loc Cert.DwKvCtxIdeal.main_arg0) = m ((c.tc : Thread Cert.DwKvCtxIdeal.nD Cert.DwKvCtxIdeal.τ).loc Cert.DwKvCtxIdeal.main_arg0)
      ∧ r.2.mem ((c.tc : Thread Cert.DwKvCtxIdeal.nD Cert.DwKvCtxIdeal.τ).loc Cert.DwKvCtxIdeal.main_arg1) = m ((c.tc : Thread Cert.DwKvCtxIdeal.nD Cert.DwKvCtxIdeal.τ).loc Cert.DwKvCtxIdeal.main_arg1))
      ∧ r.2.sem = fun _ => 0)

def quiescent_DwKvCtxRefIdeal [hDwKvCtxRefIdeal : Cert.DwKvCtxRefIdeal.Facts] : Prop :=
  ∀ (m : (ℓ : Loc Cert.DwKvCtxRefIdeal.nD Cert.DwKvCtxRefIdeal.τ Cert.DwKvCtxRefIdeal.sig) → Buf (Elt Ideal) ℓ) (g : Dev Cert.DwKvCtxRefIdeal.nD → PrngReg), Pre_DwKvCtxRefIdeal m →
    θ_run (Cert.DwKvCtxRefIdeal.defs (F := Ideal)) (onTc (τ := Cert.DwKvCtxRefIdeal.τ) (Cert.DwKvCtxRefIdeal.main (F := Ideal))) ⟨m, fun _ => 0, g⟩ (fun r => (∀ c : Dev Cert.DwKvCtxRefIdeal.nD,
      r.2.mem ((c.tc : Thread Cert.DwKvCtxRefIdeal.nD Cert.DwKvCtxRefIdeal.τ).loc Cert.DwKvCtxRefIdeal.main_arg0) = m ((c.tc : Thread Cert.DwKvCtxRefIdeal.nD Cert.DwKvCtxRefIdeal.τ).loc Cert.DwKvCtxRefIdeal.main_arg0)
      ∧ r.2.mem ((c.tc : Thread Cert.DwKvCtxRefIdeal.nD Cert.DwKvCtxRefIdeal.τ).loc Cert.DwKvCtxRefIdeal.main_arg1) = m ((c.tc : Thread Cert.DwKvCtxRefIdeal.nD Cert.DwKvCtxRefIdeal.τ).loc Cert.DwKvCtxRefIdeal.main_arg1))
      ∧ r.2.sem = fun _ => 0)

def quiescent_DwSqCtx [hDwSqCtx : Cert.DwSqCtx.Facts] : Prop :=
  ∀ (m : (ℓ : Loc Cert.DwSqCtx.nD Cert.DwSqCtx.τ Cert.DwSqCtx.sig) → Buf (Elt Bits) ℓ) (g : Dev Cert.DwSqCtx.nD → PrngReg), Pre_DwSqCtx m →
    θ_run (Cert.DwSqCtx.defs (F := Bits)) (onTc (τ := Cert.DwSqCtx.τ) (Cert.DwSqCtx.main (F := Bits))) ⟨m, fun _ => 0, g⟩ (fun r => (∀ c : Dev Cert.DwSqCtx.nD,
      r.2.mem ((c.tc : Thread Cert.DwSqCtx.nD Cert.DwSqCtx.τ).loc Cert.DwSqCtx.main_arg0) = m ((c.tc : Thread Cert.DwSqCtx.nD Cert.DwSqCtx.τ).loc Cert.DwSqCtx.main_arg0)
      ∧ r.2.mem ((c.tc : Thread Cert.DwSqCtx.nD Cert.DwSqCtx.τ).loc Cert.DwSqCtx.main_arg1) = m ((c.tc : Thread Cert.DwSqCtx.nD Cert.DwSqCtx.τ).loc Cert.DwSqCtx.main_arg1))
      ∧ r.2.sem = fun _ => 0)

def quiescent_DwSqCtxIdeal [hDwSqCtxIdeal : Cert.DwSqCtxIdeal.Facts] : Prop :=
  ∀ (m : (ℓ : Loc Cert.DwSqCtxIdeal.nD Cert.DwSqCtxIdeal.τ Cert.DwSqCtxIdeal.sig) → Buf (Elt Ideal) ℓ) (g : Dev Cert.DwSqCtxIdeal.nD → PrngReg), Pre_DwSqCtxIdeal m →
    θ_run (Cert.DwSqCtxIdeal.defs (F := Ideal)) (onTc (τ := Cert.DwSqCtxIdeal.τ) (Cert.DwSqCtxIdeal.main (F := Ideal))) ⟨m, fun _ => 0, g⟩ (fun r => (∀ c : Dev Cert.DwSqCtxIdeal.nD,
      r.2.mem ((c.tc : Thread Cert.DwSqCtxIdeal.nD Cert.DwSqCtxIdeal.τ).loc Cert.DwSqCtxIdeal.main_arg0) = m ((c.tc : Thread Cert.DwSqCtxIdeal.nD Cert.DwSqCtxIdeal.τ).loc Cert.DwSqCtxIdeal.main_arg0)
      ∧ r.2.mem ((c.tc : Thread Cert.DwSqCtxIdeal.nD Cert.DwSqCtxIdeal.τ).loc Cert.DwSqCtxIdeal.main_arg1) = m ((c.tc : Thread Cert.DwSqCtxIdeal.nD Cert.DwSqCtxIdeal.τ).loc Cert.DwSqCtxIdeal.main_arg1))
      ∧ r.2.sem = fun _ => 0)

def quiescent_DwSqCtxRefIdeal [hDwSqCtxRefIdeal : Cert.DwSqCtxRefIdeal.Facts] : Prop :=
  ∀ (m : (ℓ : Loc Cert.DwSqCtxRefIdeal.nD Cert.DwSqCtxRefIdeal.τ Cert.DwSqCtxRefIdeal.sig) → Buf (Elt Ideal) ℓ) (g : Dev Cert.DwSqCtxRefIdeal.nD → PrngReg), Pre_DwSqCtxRefIdeal m →
    θ_run (Cert.DwSqCtxRefIdeal.defs (F := Ideal)) (onTc (τ := Cert.DwSqCtxRefIdeal.τ) (Cert.DwSqCtxRefIdeal.main (F := Ideal))) ⟨m, fun _ => 0, g⟩ (fun r => (∀ c : Dev Cert.DwSqCtxRefIdeal.nD,
      r.2.mem ((c.tc : Thread Cert.DwSqCtxRefIdeal.nD Cert.DwSqCtxRefIdeal.τ).loc Cert.DwSqCtxRefIdeal.main_arg0) = m ((c.tc : Thread Cert.DwSqCtxRefIdeal.nD Cert.DwSqCtxRefIdeal.τ).loc Cert.DwSqCtxRefIdeal.main_arg0)
      ∧ r.2.mem ((c.tc : Thread Cert.DwSqCtxRefIdeal.nD Cert.DwSqCtxRefIdeal.τ).loc Cert.DwSqCtxRefIdeal.main_arg1) = m ((c.tc : Thread Cert.DwSqCtxRefIdeal.nD Cert.DwSqCtxRefIdeal.τ).loc Cert.DwSqCtxRefIdeal.main_arg1))
      ∧ r.2.sem = fun _ => 0)

def quiescent_DwLrCtx [hDwLrCtx : Cert.DwLrCtx.Facts] : Prop :=
  ∀ (m : (ℓ : Loc Cert.DwLrCtx.nD Cert.DwLrCtx.τ Cert.DwLrCtx.sig) → Buf (Elt Bits) ℓ) (g : Dev Cert.DwLrCtx.nD → PrngReg), Pre_DwLrCtx m →
    θ_run (Cert.DwLrCtx.defs (F := Bits)) (onTc (τ := Cert.DwLrCtx.τ) (Cert.DwLrCtx.main (F := Bits))) ⟨m, fun _ => 0, g⟩ (fun r => (∀ c : Dev Cert.DwLrCtx.nD,
      r.2.mem ((c.tc : Thread Cert.DwLrCtx.nD Cert.DwLrCtx.τ).loc Cert.DwLrCtx.main_arg0) = m ((c.tc : Thread Cert.DwLrCtx.nD Cert.DwLrCtx.τ).loc Cert.DwLrCtx.main_arg0)
      ∧ r.2.mem ((c.tc : Thread Cert.DwLrCtx.nD Cert.DwLrCtx.τ).loc Cert.DwLrCtx.main_arg1) = m ((c.tc : Thread Cert.DwLrCtx.nD Cert.DwLrCtx.τ).loc Cert.DwLrCtx.main_arg1))
      ∧ r.2.sem = fun _ => 0)

def quiescent_DwLrCtxIdeal [hDwLrCtxIdeal : Cert.DwLrCtxIdeal.Facts] : Prop :=
  ∀ (m : (ℓ : Loc Cert.DwLrCtxIdeal.nD Cert.DwLrCtxIdeal.τ Cert.DwLrCtxIdeal.sig) → Buf (Elt Ideal) ℓ) (g : Dev Cert.DwLrCtxIdeal.nD → PrngReg), Pre_DwLrCtxIdeal m →
    θ_run (Cert.DwLrCtxIdeal.defs (F := Ideal)) (onTc (τ := Cert.DwLrCtxIdeal.τ) (Cert.DwLrCtxIdeal.main (F := Ideal))) ⟨m, fun _ => 0, g⟩ (fun r => (∀ c : Dev Cert.DwLrCtxIdeal.nD,
      r.2.mem ((c.tc : Thread Cert.DwLrCtxIdeal.nD Cert.DwLrCtxIdeal.τ).loc Cert.DwLrCtxIdeal.main_arg0) = m ((c.tc : Thread Cert.DwLrCtxIdeal.nD Cert.DwLrCtxIdeal.τ).loc Cert.DwLrCtxIdeal.main_arg0)
      ∧ r.2.mem ((c.tc : Thread Cert.DwLrCtxIdeal.nD Cert.DwLrCtxIdeal.τ).loc Cert.DwLrCtxIdeal.main_arg1) = m ((c.tc : Thread Cert.DwLrCtxIdeal.nD Cert.DwLrCtxIdeal.τ).loc Cert.DwLrCtxIdeal.main_arg1))
      ∧ r.2.sem = fun _ => 0)

def quiescent_DwLrCtxRefIdeal [hDwLrCtxRefIdeal : Cert.DwLrCtxRefIdeal.Facts] : Prop :=
  ∀ (m : (ℓ : Loc Cert.DwLrCtxRefIdeal.nD Cert.DwLrCtxRefIdeal.τ Cert.DwLrCtxRefIdeal.sig) → Buf (Elt Ideal) ℓ) (g : Dev Cert.DwLrCtxRefIdeal.nD → PrngReg), Pre_DwLrCtxRefIdeal m →
    θ_run (Cert.DwLrCtxRefIdeal.defs (F := Ideal)) (onTc (τ := Cert.DwLrCtxRefIdeal.τ) (Cert.DwLrCtxRefIdeal.main (F := Ideal))) ⟨m, fun _ => 0, g⟩ (fun r => (∀ c : Dev Cert.DwLrCtxRefIdeal.nD,
      r.2.mem ((c.tc : Thread Cert.DwLrCtxRefIdeal.nD Cert.DwLrCtxRefIdeal.τ).loc Cert.DwLrCtxRefIdeal.main_arg0) = m ((c.tc : Thread Cert.DwLrCtxRefIdeal.nD Cert.DwLrCtxRefIdeal.τ).loc Cert.DwLrCtxRefIdeal.main_arg0)
      ∧ r.2.mem ((c.tc : Thread Cert.DwLrCtxRefIdeal.nD Cert.DwLrCtxRefIdeal.τ).loc Cert.DwLrCtxRefIdeal.main_arg1) = m ((c.tc : Thread Cert.DwLrCtxRefIdeal.nD Cert.DwLrCtxRefIdeal.τ).loc Cert.DwLrCtxRefIdeal.main_arg1))
      ∧ r.2.sem = fun _ => 0)

def quiescent_DhcKv [hDhcKv : Cert.DhcKv.Facts] : Prop :=
  ∀ (m : (ℓ : Loc Cert.DhcKv.nD Cert.DhcKv.τ Cert.DhcKv.sig) → Buf (Elt Bits) ℓ) (g : Dev Cert.DhcKv.nD → PrngReg), Pre_DhcKv m →
    θ_run (Cert.DhcKv.defs (F := Bits)) (onTc (τ := Cert.DhcKv.τ) (Cert.DhcKv.main (F := Bits))) ⟨m, fun _ => 0, g⟩ (fun r => (∀ c : Dev Cert.DhcKv.nD,
      r.2.mem ((c.tc : Thread Cert.DhcKv.nD Cert.DhcKv.τ).loc Cert.DhcKv.main_arg0) = m ((c.tc : Thread Cert.DhcKv.nD Cert.DhcKv.τ).loc Cert.DhcKv.main_arg0)
      ∧ r.2.mem ((c.tc : Thread Cert.DhcKv.nD Cert.DhcKv.τ).loc Cert.DhcKv.main_arg1) = m ((c.tc : Thread Cert.DhcKv.nD Cert.DhcKv.τ).loc Cert.DhcKv.main_arg1))
      ∧ r.2.sem = fun _ => 0)

def quiescent_DhcKvIdeal [hDhcKvIdeal : Cert.DhcKvIdeal.Facts] : Prop :=
  ∀ (m : (ℓ : Loc Cert.DhcKvIdeal.nD Cert.DhcKvIdeal.τ Cert.DhcKvIdeal.sig) → Buf (Elt Ideal) ℓ) (g : Dev Cert.DhcKvIdeal.nD → PrngReg), Pre_DhcKvIdeal m →
    θ_run (Cert.DhcKvIdeal.defs (F := Ideal)) (onTc (τ := Cert.DhcKvIdeal.τ) (Cert.DhcKvIdeal.main (F := Ideal))) ⟨m, fun _ => 0, g⟩ (fun r => (∀ c : Dev Cert.DhcKvIdeal.nD,
      r.2.mem ((c.tc : Thread Cert.DhcKvIdeal.nD Cert.DhcKvIdeal.τ).loc Cert.DhcKvIdeal.main_arg0) = m ((c.tc : Thread Cert.DhcKvIdeal.nD Cert.DhcKvIdeal.τ).loc Cert.DhcKvIdeal.main_arg0)
      ∧ r.2.mem ((c.tc : Thread Cert.DhcKvIdeal.nD Cert.DhcKvIdeal.τ).loc Cert.DhcKvIdeal.main_arg1) = m ((c.tc : Thread Cert.DhcKvIdeal.nD Cert.DhcKvIdeal.τ).loc Cert.DhcKvIdeal.main_arg1))
      ∧ r.2.sem = fun _ => 0)

def quiescent_DhcKvRefIdeal [hDhcKvRefIdeal : Cert.DhcKvRefIdeal.Facts] : Prop :=
  ∀ (m : (ℓ : Loc Cert.DhcKvRefIdeal.nD Cert.DhcKvRefIdeal.τ Cert.DhcKvRefIdeal.sig) → Buf (Elt Ideal) ℓ) (g : Dev Cert.DhcKvRefIdeal.nD → PrngReg), Pre_DhcKvRefIdeal m →
    θ_run (Cert.DhcKvRefIdeal.defs (F := Ideal)) (onTc (τ := Cert.DhcKvRefIdeal.τ) (Cert.DhcKvRefIdeal.main (F := Ideal))) ⟨m, fun _ => 0, g⟩ (fun r => (∀ c : Dev Cert.DhcKvRefIdeal.nD,
      r.2.mem ((c.tc : Thread Cert.DhcKvRefIdeal.nD Cert.DhcKvRefIdeal.τ).loc Cert.DhcKvRefIdeal.main_arg0) = m ((c.tc : Thread Cert.DhcKvRefIdeal.nD Cert.DhcKvRefIdeal.τ).loc Cert.DhcKvRefIdeal.main_arg0)
      ∧ r.2.mem ((c.tc : Thread Cert.DhcKvRefIdeal.nD Cert.DhcKvRefIdeal.τ).loc Cert.DhcKvRefIdeal.main_arg1) = m ((c.tc : Thread Cert.DhcKvRefIdeal.nD Cert.DhcKvRefIdeal.τ).loc Cert.DhcKvRefIdeal.main_arg1))
      ∧ r.2.sem = fun _ => 0)

def quiescent_DhcSq [hDhcSq : Cert.DhcSq.Facts] : Prop :=
  ∀ (m : (ℓ : Loc Cert.DhcSq.nD Cert.DhcSq.τ Cert.DhcSq.sig) → Buf (Elt Bits) ℓ) (g : Dev Cert.DhcSq.nD → PrngReg), Pre_DhcSq m →
    θ_run (Cert.DhcSq.defs (F := Bits)) (onTc (τ := Cert.DhcSq.τ) (Cert.DhcSq.main (F := Bits))) ⟨m, fun _ => 0, g⟩ (fun r => (∀ c : Dev Cert.DhcSq.nD,
      r.2.mem ((c.tc : Thread Cert.DhcSq.nD Cert.DhcSq.τ).loc Cert.DhcSq.main_arg0) = m ((c.tc : Thread Cert.DhcSq.nD Cert.DhcSq.τ).loc Cert.DhcSq.main_arg0)
      ∧ r.2.mem ((c.tc : Thread Cert.DhcSq.nD Cert.DhcSq.τ).loc Cert.DhcSq.main_arg1) = m ((c.tc : Thread Cert.DhcSq.nD Cert.DhcSq.τ).loc Cert.DhcSq.main_arg1)
      ∧ r.2.mem ((c.tc : Thread Cert.DhcSq.nD Cert.DhcSq.τ).loc Cert.DhcSq.main_arg2) = m ((c.tc : Thread Cert.DhcSq.nD Cert.DhcSq.τ).loc Cert.DhcSq.main_arg2))
      ∧ r.2.sem = fun _ => 0)

def quiescent_DhcSqIdeal [hDhcSqIdeal : Cert.DhcSqIdeal.Facts] : Prop :=
  ∀ (m : (ℓ : Loc Cert.DhcSqIdeal.nD Cert.DhcSqIdeal.τ Cert.DhcSqIdeal.sig) → Buf (Elt Ideal) ℓ) (g : Dev Cert.DhcSqIdeal.nD → PrngReg), Pre_DhcSqIdeal m →
    θ_run (Cert.DhcSqIdeal.defs (F := Ideal)) (onTc (τ := Cert.DhcSqIdeal.τ) (Cert.DhcSqIdeal.main (F := Ideal))) ⟨m, fun _ => 0, g⟩ (fun r => (∀ c : Dev Cert.DhcSqIdeal.nD,
      r.2.mem ((c.tc : Thread Cert.DhcSqIdeal.nD Cert.DhcSqIdeal.τ).loc Cert.DhcSqIdeal.main_arg0) = m ((c.tc : Thread Cert.DhcSqIdeal.nD Cert.DhcSqIdeal.τ).loc Cert.DhcSqIdeal.main_arg0)
      ∧ r.2.mem ((c.tc : Thread Cert.DhcSqIdeal.nD Cert.DhcSqIdeal.τ).loc Cert.DhcSqIdeal.main_arg1) = m ((c.tc : Thread Cert.DhcSqIdeal.nD Cert.DhcSqIdeal.τ).loc Cert.DhcSqIdeal.main_arg1)
      ∧ r.2.mem ((c.tc : Thread Cert.DhcSqIdeal.nD Cert.DhcSqIdeal.τ).loc Cert.DhcSqIdeal.main_arg2) = m ((c.tc : Thread Cert.DhcSqIdeal.nD Cert.DhcSqIdeal.τ).loc Cert.DhcSqIdeal.main_arg2))
      ∧ r.2.sem = fun _ => 0)

def quiescent_DhcSqRefIdeal [hDhcSqRefIdeal : Cert.DhcSqRefIdeal.Facts] : Prop :=
  ∀ (m : (ℓ : Loc Cert.DhcSqRefIdeal.nD Cert.DhcSqRefIdeal.τ Cert.DhcSqRefIdeal.sig) → Buf (Elt Ideal) ℓ) (g : Dev Cert.DhcSqRefIdeal.nD → PrngReg), Pre_DhcSqRefIdeal m →
    θ_run (Cert.DhcSqRefIdeal.defs (F := Ideal)) (onTc (τ := Cert.DhcSqRefIdeal.τ) (Cert.DhcSqRefIdeal.main (F := Ideal))) ⟨m, fun _ => 0, g⟩ (fun r => (∀ c : Dev Cert.DhcSqRefIdeal.nD,
      r.2.mem ((c.tc : Thread Cert.DhcSqRefIdeal.nD Cert.DhcSqRefIdeal.τ).loc Cert.DhcSqRefIdeal.main_arg0) = m ((c.tc : Thread Cert.DhcSqRefIdeal.nD Cert.DhcSqRefIdeal.τ).loc Cert.DhcSqRefIdeal.main_arg0)
      ∧ r.2.mem ((c.tc : Thread Cert.DhcSqRefIdeal.nD Cert.DhcSqRefIdeal.τ).loc Cert.DhcSqRefIdeal.main_arg1) = m ((c.tc : Thread Cert.DhcSqRefIdeal.nD Cert.DhcSqRefIdeal.τ).loc Cert.DhcSqRefIdeal.main_arg1)
      ∧ r.2.mem ((c.tc : Thread Cert.DhcSqRefIdeal.nD Cert.DhcSqRefIdeal.τ).loc Cert.DhcSqRefIdeal.main_arg2) = m ((c.tc : Thread Cert.DhcSqRefIdeal.nD Cert.DhcSqRefIdeal.τ).loc Cert.DhcSqRefIdeal.main_arg2))
      ∧ r.2.sem = fun _ => 0)

def quiescent_DhcLr [hDhcLr : Cert.DhcLr.Facts] : Prop :=
  ∀ (m : (ℓ : Loc Cert.DhcLr.nD Cert.DhcLr.τ Cert.DhcLr.sig) → Buf (Elt Bits) ℓ) (g : Dev Cert.DhcLr.nD → PrngReg), Pre_DhcLr m →
    θ_run (Cert.DhcLr.defs (F := Bits)) (onTc (τ := Cert.DhcLr.τ) (Cert.DhcLr.main (F := Bits))) ⟨m, fun _ => 0, g⟩ (fun r => (∀ c : Dev Cert.DhcLr.nD,
      r.2.mem ((c.tc : Thread Cert.DhcLr.nD Cert.DhcLr.τ).loc Cert.DhcLr.main_arg0) = m ((c.tc : Thread Cert.DhcLr.nD Cert.DhcLr.τ).loc Cert.DhcLr.main_arg0)
      ∧ r.2.mem ((c.tc : Thread Cert.DhcLr.nD Cert.DhcLr.τ).loc Cert.DhcLr.main_arg1) = m ((c.tc : Thread Cert.DhcLr.nD Cert.DhcLr.τ).loc Cert.DhcLr.main_arg1)
      ∧ r.2.mem ((c.tc : Thread Cert.DhcLr.nD Cert.DhcLr.τ).loc Cert.DhcLr.main_arg2) = m ((c.tc : Thread Cert.DhcLr.nD Cert.DhcLr.τ).loc Cert.DhcLr.main_arg2))
      ∧ r.2.sem = fun _ => 0)

def quiescent_DhcLrIdeal [hDhcLrIdeal : Cert.DhcLrIdeal.Facts] : Prop :=
  ∀ (m : (ℓ : Loc Cert.DhcLrIdeal.nD Cert.DhcLrIdeal.τ Cert.DhcLrIdeal.sig) → Buf (Elt Ideal) ℓ) (g : Dev Cert.DhcLrIdeal.nD → PrngReg), Pre_DhcLrIdeal m →
    θ_run (Cert.DhcLrIdeal.defs (F := Ideal)) (onTc (τ := Cert.DhcLrIdeal.τ) (Cert.DhcLrIdeal.main (F := Ideal))) ⟨m, fun _ => 0, g⟩ (fun r => (∀ c : Dev Cert.DhcLrIdeal.nD,
      r.2.mem ((c.tc : Thread Cert.DhcLrIdeal.nD Cert.DhcLrIdeal.τ).loc Cert.DhcLrIdeal.main_arg0) = m ((c.tc : Thread Cert.DhcLrIdeal.nD Cert.DhcLrIdeal.τ).loc Cert.DhcLrIdeal.main_arg0)
      ∧ r.2.mem ((c.tc : Thread Cert.DhcLrIdeal.nD Cert.DhcLrIdeal.τ).loc Cert.DhcLrIdeal.main_arg1) = m ((c.tc : Thread Cert.DhcLrIdeal.nD Cert.DhcLrIdeal.τ).loc Cert.DhcLrIdeal.main_arg1)
      ∧ r.2.mem ((c.tc : Thread Cert.DhcLrIdeal.nD Cert.DhcLrIdeal.τ).loc Cert.DhcLrIdeal.main_arg2) = m ((c.tc : Thread Cert.DhcLrIdeal.nD Cert.DhcLrIdeal.τ).loc Cert.DhcLrIdeal.main_arg2))
      ∧ r.2.sem = fun _ => 0)

def quiescent_DhcLrRefIdeal [hDhcLrRefIdeal : Cert.DhcLrRefIdeal.Facts] : Prop :=
  ∀ (m : (ℓ : Loc Cert.DhcLrRefIdeal.nD Cert.DhcLrRefIdeal.τ Cert.DhcLrRefIdeal.sig) → Buf (Elt Ideal) ℓ) (g : Dev Cert.DhcLrRefIdeal.nD → PrngReg), Pre_DhcLrRefIdeal m →
    θ_run (Cert.DhcLrRefIdeal.defs (F := Ideal)) (onTc (τ := Cert.DhcLrRefIdeal.τ) (Cert.DhcLrRefIdeal.main (F := Ideal))) ⟨m, fun _ => 0, g⟩ (fun r => (∀ c : Dev Cert.DhcLrRefIdeal.nD,
      r.2.mem ((c.tc : Thread Cert.DhcLrRefIdeal.nD Cert.DhcLrRefIdeal.τ).loc Cert.DhcLrRefIdeal.main_arg0) = m ((c.tc : Thread Cert.DhcLrRefIdeal.nD Cert.DhcLrRefIdeal.τ).loc Cert.DhcLrRefIdeal.main_arg0)
      ∧ r.2.mem ((c.tc : Thread Cert.DhcLrRefIdeal.nD Cert.DhcLrRefIdeal.τ).loc Cert.DhcLrRefIdeal.main_arg1) = m ((c.tc : Thread Cert.DhcLrRefIdeal.nD Cert.DhcLrRefIdeal.τ).loc Cert.DhcLrRefIdeal.main_arg1)
      ∧ r.2.mem ((c.tc : Thread Cert.DhcLrRefIdeal.nD Cert.DhcLrRefIdeal.τ).loc Cert.DhcLrRefIdeal.main_arg2) = m ((c.tc : Thread Cert.DhcLrRefIdeal.nD Cert.DhcLrRefIdeal.τ).loc Cert.DhcLrRefIdeal.main_arg2))
      ∧ r.2.sem = fun _ => 0)

def quiescent_Lr [hLr : Cert.Lr.Facts] : Prop :=
  ∀ (m : (ℓ : Loc Cert.Lr.nD Cert.Lr.τ Cert.Lr.sig) → Buf (Elt Bits) ℓ) (g : Dev Cert.Lr.nD → PrngReg), Pre_Lr m →
    θ_run (Cert.Lr.defs (F := Bits)) (onTc (τ := Cert.Lr.τ) (Cert.Lr.main (F := Bits))) ⟨m, fun _ => 0, g⟩ (fun r => (∀ c : Dev Cert.Lr.nD,
      r.2.mem ((c.tc : Thread Cert.Lr.nD Cert.Lr.τ).loc Cert.Lr.main_arg0) = m ((c.tc : Thread Cert.Lr.nD Cert.Lr.τ).loc Cert.Lr.main_arg0)
      ∧ r.2.mem ((c.tc : Thread Cert.Lr.nD Cert.Lr.τ).loc Cert.Lr.main_arg1) = m ((c.tc : Thread Cert.Lr.nD Cert.Lr.τ).loc Cert.Lr.main_arg1))
      ∧ r.2.sem = fun _ => 0)

def quiescent_LrIdeal [hLrIdeal : Cert.LrIdeal.Facts] : Prop :=
  ∀ (m : (ℓ : Loc Cert.LrIdeal.nD Cert.LrIdeal.τ Cert.LrIdeal.sig) → Buf (Elt Ideal) ℓ) (g : Dev Cert.LrIdeal.nD → PrngReg), Pre_LrIdeal m →
    θ_run (Cert.LrIdeal.defs (F := Ideal)) (onTc (τ := Cert.LrIdeal.τ) (Cert.LrIdeal.main (F := Ideal))) ⟨m, fun _ => 0, g⟩ (fun r => (∀ c : Dev Cert.LrIdeal.nD,
      r.2.mem ((c.tc : Thread Cert.LrIdeal.nD Cert.LrIdeal.τ).loc Cert.LrIdeal.main_arg0) = m ((c.tc : Thread Cert.LrIdeal.nD Cert.LrIdeal.τ).loc Cert.LrIdeal.main_arg0)
      ∧ r.2.mem ((c.tc : Thread Cert.LrIdeal.nD Cert.LrIdeal.τ).loc Cert.LrIdeal.main_arg1) = m ((c.tc : Thread Cert.LrIdeal.nD Cert.LrIdeal.τ).loc Cert.LrIdeal.main_arg1))
      ∧ r.2.sem = fun _ => 0)

def quiescent_LrRefIdeal [hLrRefIdeal : Cert.LrRefIdeal.Facts] : Prop :=
  ∀ (m : (ℓ : Loc Cert.LrRefIdeal.nD Cert.LrRefIdeal.τ Cert.LrRefIdeal.sig) → Buf (Elt Ideal) ℓ) (g : Dev Cert.LrRefIdeal.nD → PrngReg), Pre_LrRefIdeal m →
    θ_run (Cert.LrRefIdeal.defs (F := Ideal)) (onTc (τ := Cert.LrRefIdeal.τ) (Cert.LrRefIdeal.main (F := Ideal))) ⟨m, fun _ => 0, g⟩ (fun r => (∀ c : Dev Cert.LrRefIdeal.nD,
      r.2.mem ((c.tc : Thread Cert.LrRefIdeal.nD Cert.LrRefIdeal.τ).loc Cert.LrRefIdeal.main_arg0) = m ((c.tc : Thread Cert.LrRefIdeal.nD Cert.LrRefIdeal.τ).loc Cert.LrRefIdeal.main_arg0)
      ∧ r.2.mem ((c.tc : Thread Cert.LrRefIdeal.nD Cert.LrRefIdeal.τ).loc Cert.LrRefIdeal.main_arg1) = m ((c.tc : Thread Cert.LrRefIdeal.nD Cert.LrRefIdeal.τ).loc Cert.LrRefIdeal.main_arg1))
      ∧ r.2.sem = fun _ => 0)

def quiescent_DhLr [hDhLr : Cert.DhLr.Facts] : Prop :=
  ∀ (m : (ℓ : Loc Cert.DhLr.nD Cert.DhLr.τ Cert.DhLr.sig) → Buf (Elt Bits) ℓ) (g : Dev Cert.DhLr.nD → PrngReg), Pre_DhLr m →
    θ_run (Cert.DhLr.defs (F := Bits)) (onTc (τ := Cert.DhLr.τ) (Cert.DhLr.main (F := Bits))) ⟨m, fun _ => 0, g⟩ (fun r => (∀ c : Dev Cert.DhLr.nD,
      r.2.mem ((c.tc : Thread Cert.DhLr.nD Cert.DhLr.τ).loc Cert.DhLr.main_arg0) = m ((c.tc : Thread Cert.DhLr.nD Cert.DhLr.τ).loc Cert.DhLr.main_arg0)
      ∧ r.2.mem ((c.tc : Thread Cert.DhLr.nD Cert.DhLr.τ).loc Cert.DhLr.main_arg1) = m ((c.tc : Thread Cert.DhLr.nD Cert.DhLr.τ).loc Cert.DhLr.main_arg1)
      ∧ r.2.mem ((c.tc : Thread Cert.DhLr.nD Cert.DhLr.τ).loc Cert.DhLr.main_arg2) = m ((c.tc : Thread Cert.DhLr.nD Cert.DhLr.τ).loc Cert.DhLr.main_arg2))
      ∧ r.2.sem = fun _ => 0)

def quiescent_DhLrIdeal [hDhLrIdeal : Cert.DhLrIdeal.Facts] : Prop :=
  ∀ (m : (ℓ : Loc Cert.DhLrIdeal.nD Cert.DhLrIdeal.τ Cert.DhLrIdeal.sig) → Buf (Elt Ideal) ℓ) (g : Dev Cert.DhLrIdeal.nD → PrngReg), Pre_DhLrIdeal m →
    θ_run (Cert.DhLrIdeal.defs (F := Ideal)) (onTc (τ := Cert.DhLrIdeal.τ) (Cert.DhLrIdeal.main (F := Ideal))) ⟨m, fun _ => 0, g⟩ (fun r => (∀ c : Dev Cert.DhLrIdeal.nD,
      r.2.mem ((c.tc : Thread Cert.DhLrIdeal.nD Cert.DhLrIdeal.τ).loc Cert.DhLrIdeal.main_arg0) = m ((c.tc : Thread Cert.DhLrIdeal.nD Cert.DhLrIdeal.τ).loc Cert.DhLrIdeal.main_arg0)
      ∧ r.2.mem ((c.tc : Thread Cert.DhLrIdeal.nD Cert.DhLrIdeal.τ).loc Cert.DhLrIdeal.main_arg1) = m ((c.tc : Thread Cert.DhLrIdeal.nD Cert.DhLrIdeal.τ).loc Cert.DhLrIdeal.main_arg1)
      ∧ r.2.mem ((c.tc : Thread Cert.DhLrIdeal.nD Cert.DhLrIdeal.τ).loc Cert.DhLrIdeal.main_arg2) = m ((c.tc : Thread Cert.DhLrIdeal.nD Cert.DhLrIdeal.τ).loc Cert.DhLrIdeal.main_arg2))
      ∧ r.2.sem = fun _ => 0)

def quiescent_DhLrRefIdeal [hDhLrRefIdeal : Cert.DhLrRefIdeal.Facts] : Prop :=
  ∀ (m : (ℓ : Loc Cert.DhLrRefIdeal.nD Cert.DhLrRefIdeal.τ Cert.DhLrRefIdeal.sig) → Buf (Elt Ideal) ℓ) (g : Dev Cert.DhLrRefIdeal.nD → PrngReg), Pre_DhLrRefIdeal m →
    θ_run (Cert.DhLrRefIdeal.defs (F := Ideal)) (onTc (τ := Cert.DhLrRefIdeal.τ) (Cert.DhLrRefIdeal.main (F := Ideal))) ⟨m, fun _ => 0, g⟩ (fun r => (∀ c : Dev Cert.DhLrRefIdeal.nD,
      r.2.mem ((c.tc : Thread Cert.DhLrRefIdeal.nD Cert.DhLrRefIdeal.τ).loc Cert.DhLrRefIdeal.main_arg0) = m ((c.tc : Thread Cert.DhLrRefIdeal.nD Cert.DhLrRefIdeal.τ).loc Cert.DhLrRefIdeal.main_arg0)
      ∧ r.2.mem ((c.tc : Thread Cert.DhLrRefIdeal.nD Cert.DhLrRefIdeal.τ).loc Cert.DhLrRefIdeal.main_arg1) = m ((c.tc : Thread Cert.DhLrRefIdeal.nD Cert.DhLrRefIdeal.τ).loc Cert.DhLrRefIdeal.main_arg1)
      ∧ r.2.mem ((c.tc : Thread Cert.DhLrRefIdeal.nD Cert.DhLrRefIdeal.τ).loc Cert.DhLrRefIdeal.main_arg2) = m ((c.tc : Thread Cert.DhLrRefIdeal.nD Cert.DhLrRefIdeal.τ).loc Cert.DhLrRefIdeal.main_arg2))
      ∧ r.2.sem = fun _ => 0)

def quiescent_DwLr [hDwLr : Cert.DwLr.Facts] : Prop :=
  ∀ (m : (ℓ : Loc Cert.DwLr.nD Cert.DwLr.τ Cert.DwLr.sig) → Buf (Elt Bits) ℓ) (g : Dev Cert.DwLr.nD → PrngReg), Pre_DwLr m →
    θ_run (Cert.DwLr.defs (F := Bits)) (onTc (τ := Cert.DwLr.τ) (Cert.DwLr.main (F := Bits))) ⟨m, fun _ => 0, g⟩ (fun r => (∀ c : Dev Cert.DwLr.nD,
      r.2.mem ((c.tc : Thread Cert.DwLr.nD Cert.DwLr.τ).loc Cert.DwLr.main_arg0) = m ((c.tc : Thread Cert.DwLr.nD Cert.DwLr.τ).loc Cert.DwLr.main_arg0)
      ∧ r.2.mem ((c.tc : Thread Cert.DwLr.nD Cert.DwLr.τ).loc Cert.DwLr.main_arg1) = m ((c.tc : Thread Cert.DwLr.nD Cert.DwLr.τ).loc Cert.DwLr.main_arg1)
      ∧ r.2.mem ((c.tc : Thread Cert.DwLr.nD Cert.DwLr.τ).loc Cert.DwLr.main_arg2) = m ((c.tc : Thread Cert.DwLr.nD Cert.DwLr.τ).loc Cert.DwLr.main_arg2))
      ∧ r.2.sem = fun _ => 0)

def quiescent_DwLrIdeal [hDwLrIdeal : Cert.DwLrIdeal.Facts] : Prop :=
  ∀ (m : (ℓ : Loc Cert.DwLrIdeal.nD Cert.DwLrIdeal.τ Cert.DwLrIdeal.sig) → Buf (Elt Ideal) ℓ) (g : Dev Cert.DwLrIdeal.nD → PrngReg), Pre_DwLrIdeal m →
    θ_run (Cert.DwLrIdeal.defs (F := Ideal)) (onTc (τ := Cert.DwLrIdeal.τ) (Cert.DwLrIdeal.main (F := Ideal))) ⟨m, fun _ => 0, g⟩ (fun r => (∀ c : Dev Cert.DwLrIdeal.nD,
      r.2.mem ((c.tc : Thread Cert.DwLrIdeal.nD Cert.DwLrIdeal.τ).loc Cert.DwLrIdeal.main_arg0) = m ((c.tc : Thread Cert.DwLrIdeal.nD Cert.DwLrIdeal.τ).loc Cert.DwLrIdeal.main_arg0)
      ∧ r.2.mem ((c.tc : Thread Cert.DwLrIdeal.nD Cert.DwLrIdeal.τ).loc Cert.DwLrIdeal.main_arg1) = m ((c.tc : Thread Cert.DwLrIdeal.nD Cert.DwLrIdeal.τ).loc Cert.DwLrIdeal.main_arg1)
      ∧ r.2.mem ((c.tc : Thread Cert.DwLrIdeal.nD Cert.DwLrIdeal.τ).loc Cert.DwLrIdeal.main_arg2) = m ((c.tc : Thread Cert.DwLrIdeal.nD Cert.DwLrIdeal.τ).loc Cert.DwLrIdeal.main_arg2))
      ∧ r.2.sem = fun _ => 0)

def quiescent_DwLrRefIdeal [hDwLrRefIdeal : Cert.DwLrRefIdeal.Facts] : Prop :=
  ∀ (m : (ℓ : Loc Cert.DwLrRefIdeal.nD Cert.DwLrRefIdeal.τ Cert.DwLrRefIdeal.sig) → Buf (Elt Ideal) ℓ) (g : Dev Cert.DwLrRefIdeal.nD → PrngReg), Pre_DwLrRefIdeal m →
    θ_run (Cert.DwLrRefIdeal.defs (F := Ideal)) (onTc (τ := Cert.DwLrRefIdeal.τ) (Cert.DwLrRefIdeal.main (F := Ideal))) ⟨m, fun _ => 0, g⟩ (fun r => (∀ c : Dev Cert.DwLrRefIdeal.nD,
      r.2.mem ((c.tc : Thread Cert.DwLrRefIdeal.nD Cert.DwLrRefIdeal.τ).loc Cert.DwLrRefIdeal.main_arg0) = m ((c.tc : Thread Cert.DwLrRefIdeal.nD Cert.DwLrRefIdeal.τ).loc Cert.DwLrRefIdeal.main_arg0)
      ∧ r.2.mem ((c.tc : Thread Cert.DwLrRefIdeal.nD Cert.DwLrRefIdeal.τ).loc Cert.DwLrRefIdeal.main_arg1) = m ((c.tc : Thread Cert.DwLrRefIdeal.nD Cert.DwLrRefIdeal.τ).loc Cert.DwLrRefIdeal.main_arg1)
      ∧ r.2.mem ((c.tc : Thread Cert.DwLrRefIdeal.nD Cert.DwLrRefIdeal.τ).loc Cert.DwLrRefIdeal.main_arg2) = m ((c.tc : Thread Cert.DwLrRefIdeal.nD Cert.DwLrRefIdeal.τ).loc Cert.DwLrRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v2_0)) (v3 : (c : Dev Cert.KernelIdeal.nD) → Buf (Elt Ideal) ((c.tc : Thread Cert.KernelIdeal.nD Cert.KernelIdeal.τ).loc Cert.KernelIdeal.main_v2_1)) (v4 : (c : Dev Cert.KernelIdeal.nD) → Buf (Elt Ideal) ((c.tc : Thread Cert.KernelIdeal.nD Cert.KernelIdeal.τ).loc Cert.KernelIdeal.main_v1_1)) (v5 : (c : Dev Cert.KernelIdeal.nD) → Buf (Elt Ideal) ((c.tc : Thread Cert.KernelIdeal.nD Cert.KernelIdeal.τ).loc Cert.KernelIdeal.main_v1_2)) (v6 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v2_0) = v2 c
          ∧ r.2.mem ((c.tc : Thread Cert.KernelIdeal.nD Cert.KernelIdeal.τ).loc Cert.KernelIdeal.main_v2_1) = v3 c
          ∧ r.2.mem ((c.tc : Thread Cert.KernelIdeal.nD Cert.KernelIdeal.τ).loc Cert.KernelIdeal.main_v1_1) = v4 c
          ∧ r.2.mem ((c.tc : Thread Cert.KernelIdeal.nD Cert.KernelIdeal.τ).loc Cert.KernelIdeal.main_v1_2) = v5 c
          ∧ r.2.mem ((c.tc : Thread Cert.KernelIdeal.nD Cert.KernelIdeal.τ).loc Cert.KernelIdeal.main_v1_3) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_v182) = v1 c
          ∧ r.2.mem ((c.tc : Thread Cert.ReferenceIdeal.nD Cert.ReferenceIdeal.τ).loc Cert.ReferenceIdeal.main_v184) = v2 c
          ∧ r.2.mem ((c.tc : Thread Cert.ReferenceIdeal.nD Cert.ReferenceIdeal.τ).loc Cert.ReferenceIdeal.main_v185) = v3 c
          ∧ r.2.mem ((c.tc : Thread Cert.ReferenceIdeal.nD Cert.ReferenceIdeal.τ).loc Cert.ReferenceIdeal.main_v179) = v4 c
          ∧ r.2.mem ((c.tc : Thread Cert.ReferenceIdeal.nD Cert.ReferenceIdeal.τ).loc Cert.ReferenceIdeal.main_v178) = v5 c
          ∧ r.2.mem ((c.tc : Thread Cert.ReferenceIdeal.nD Cert.ReferenceIdeal.τ).loc Cert.ReferenceIdeal.main_v161) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Df_DfIdeal : Prop :=
  True

def algebraic_DfIdeal_DfRefIdeal [hDfIdeal : Cert.DfIdeal.Facts] [hDfRefIdeal : Cert.DfRefIdeal.Facts] : Prop :=
  ∀ (m : (ℓ : Loc Cert.DfIdeal.nD Cert.DfIdeal.τ Cert.DfIdeal.sig) → Buf (Elt Ideal) ℓ) (g : Dev Cert.DfIdeal.nD → PrngReg)
    (m' : (ℓ : Loc Cert.DfRefIdeal.nD Cert.DfRefIdeal.τ Cert.DfRefIdeal.sig) → Buf (Elt Ideal) ℓ) (g' : Dev Cert.DfRefIdeal.nD → PrngReg), Pre_DfIdeal m →
    (∀ c : Dev Cert.DfIdeal.nD,
      m' ((c.tc : Thread Cert.DfRefIdeal.nD Cert.DfRefIdeal.τ).loc Cert.DfRefIdeal.main_arg0) = m ((c.tc : Thread Cert.DfIdeal.nD Cert.DfIdeal.τ).loc Cert.DfIdeal.main_arg0)
      ∧ m' ((c.tc : Thread Cert.DfRefIdeal.nD Cert.DfRefIdeal.τ).loc Cert.DfRefIdeal.main_arg1) = m ((c.tc : Thread Cert.DfIdeal.nD Cert.DfIdeal.τ).loc Cert.DfIdeal.main_arg1)) →
    ∃ (v0 : (c : Dev Cert.DfIdeal.nD) → Buf (Elt Ideal) ((c.tc : Thread Cert.DfIdeal.nD Cert.DfIdeal.τ).loc Cert.DfIdeal.main_v0)),
      θ_run (Cert.DfIdeal.defs (F := Ideal)) (onTc (τ := Cert.DfIdeal.τ) (Cert.DfIdeal.main (F := Ideal))) ⟨m, fun _ => 0, g⟩ (fun r => ∀ c : Dev Cert.DfIdeal.nD,
          r.2.mem ((c.tc : Thread Cert.DfIdeal.nD Cert.DfIdeal.τ).loc Cert.DfIdeal.main_v0) = v0 c
          ∧ r.2.mem ((c.tc : Thread Cert.DfIdeal.nD Cert.DfIdeal.τ).loc Cert.DfIdeal.main_arg0) = m ((c.tc : Thread Cert.DfIdeal.nD Cert.DfIdeal.τ).loc Cert.DfIdeal.main_arg0)
          ∧ r.2.mem ((c.tc : Thread Cert.DfIdeal.nD Cert.DfIdeal.τ).loc Cert.DfIdeal.main_arg1) = m ((c.tc : Thread Cert.DfIdeal.nD Cert.DfIdeal.τ).loc Cert.DfIdeal.main_arg1))
      ∧ θ_run (Cert.DfRefIdeal.defs (F := Ideal)) (onTc (τ := Cert.DfRefIdeal.τ) (Cert.DfRefIdeal.main (F := Ideal))) ⟨m', fun _ => 0, g'⟩ (fun r => ∀ c : Dev Cert.DfRefIdeal.nD,
          r.2.mem ((c.tc : Thread Cert.DfRefIdeal.nD Cert.DfRefIdeal.τ).loc Cert.DfRefIdeal.main_v3) = v0 c
          ∧ r.2.mem ((c.tc : Thread Cert.DfRefIdeal.nD Cert.DfRefIdeal.τ).loc Cert.DfRefIdeal.main_arg0) = m' ((c.tc : Thread Cert.DfRefIdeal.nD Cert.DfRefIdeal.τ).loc Cert.DfRefIdeal.main_arg0)
          ∧ r.2.mem ((c.tc : Thread Cert.DfRefIdeal.nD Cert.DfRefIdeal.τ).loc Cert.DfRefIdeal.main_arg1) = m' ((c.tc : Thread Cert.DfRefIdeal.nD Cert.DfRefIdeal.τ).loc Cert.DfRefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v4) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)) →
    ∃ (v0 : (c : Dev Cert.DhIdeal.nD) → Buf (Elt Ideal) ((c.tc : Thread Cert.DhIdeal.nD Cert.DhIdeal.τ).loc Cert.DhIdeal.main_v0)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v2) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1))

def preserves_DhAdd_DhAddIdeal : Prop :=
  True

def algebraic_DhAddIdeal_DhAddRefIdeal [hDhAddIdeal : Cert.DhAddIdeal.Facts] [hDhAddRefIdeal : Cert.DhAddRefIdeal.Facts] : Prop :=
  ∀ (m : (ℓ : Loc Cert.DhAddIdeal.nD Cert.DhAddIdeal.τ Cert.DhAddIdeal.sig) → Buf (Elt Ideal) ℓ) (g : Dev Cert.DhAddIdeal.nD → PrngReg)
    (m' : (ℓ : Loc Cert.DhAddRefIdeal.nD Cert.DhAddRefIdeal.τ Cert.DhAddRefIdeal.sig) → Buf (Elt Ideal) ℓ) (g' : Dev Cert.DhAddRefIdeal.nD → PrngReg), Pre_DhAddIdeal m →
    (∀ c : Dev Cert.DhAddIdeal.nD,
      m' ((c.tc : Thread Cert.DhAddRefIdeal.nD Cert.DhAddRefIdeal.τ).loc Cert.DhAddRefIdeal.main_arg0) = m ((c.tc : Thread Cert.DhAddIdeal.nD Cert.DhAddIdeal.τ).loc Cert.DhAddIdeal.main_arg0)
      ∧ m' ((c.tc : Thread Cert.DhAddRefIdeal.nD Cert.DhAddRefIdeal.τ).loc Cert.DhAddRefIdeal.main_arg1) = m ((c.tc : Thread Cert.DhAddIdeal.nD Cert.DhAddIdeal.τ).loc Cert.DhAddIdeal.main_arg1)
      ∧ m' ((c.tc : Thread Cert.DhAddRefIdeal.nD Cert.DhAddRefIdeal.τ).loc Cert.DhAddRefIdeal.main_arg2) = m ((c.tc : Thread Cert.DhAddIdeal.nD Cert.DhAddIdeal.τ).loc Cert.DhAddIdeal.main_arg2)) →
    ∃ (v0 : (c : Dev Cert.DhAddIdeal.nD) → Buf (Elt Ideal) ((c.tc : Thread Cert.DhAddIdeal.nD Cert.DhAddIdeal.τ).loc Cert.DhAddIdeal.main_v0)),
      θ_run (Cert.DhAddIdeal.defs (F := Ideal)) (onTc (τ := Cert.DhAddIdeal.τ) (Cert.DhAddIdeal.main (F := Ideal))) ⟨m, fun _ => 0, g⟩ (fun r => ∀ c : Dev Cert.DhAddIdeal.nD,
          r.2.mem ((c.tc : Thread Cert.DhAddIdeal.nD Cert.DhAddIdeal.τ).loc Cert.DhAddIdeal.main_v0) = v0 c
          ∧ r.2.mem ((c.tc : Thread Cert.DhAddIdeal.nD Cert.DhAddIdeal.τ).loc Cert.DhAddIdeal.main_arg0) = m ((c.tc : Thread Cert.DhAddIdeal.nD Cert.DhAddIdeal.τ).loc Cert.DhAddIdeal.main_arg0)
          ∧ r.2.mem ((c.tc : Thread Cert.DhAddIdeal.nD Cert.DhAddIdeal.τ).loc Cert.DhAddIdeal.main_arg1) = m ((c.tc : Thread Cert.DhAddIdeal.nD Cert.DhAddIdeal.τ).loc Cert.DhAddIdeal.main_arg1)
          ∧ r.2.mem ((c.tc : Thread Cert.DhAddIdeal.nD Cert.DhAddIdeal.τ).loc Cert.DhAddIdeal.main_arg2) = m ((c.tc : Thread Cert.DhAddIdeal.nD Cert.DhAddIdeal.τ).loc Cert.DhAddIdeal.main_arg2))
      ∧ θ_run (Cert.DhAddRefIdeal.defs (F := Ideal)) (onTc (τ := Cert.DhAddRefIdeal.τ) (Cert.DhAddRefIdeal.main (F := Ideal))) ⟨m', fun _ => 0, g'⟩ (fun r => ∀ c : Dev Cert.DhAddRefIdeal.nD,
          r.2.mem ((c.tc : Thread Cert.DhAddRefIdeal.nD Cert.DhAddRefIdeal.τ).loc Cert.DhAddRefIdeal.main_v3) = v0 c
          ∧ r.2.mem ((c.tc : Thread Cert.DhAddRefIdeal.nD Cert.DhAddRefIdeal.τ).loc Cert.DhAddRefIdeal.main_arg0) = m' ((c.tc : Thread Cert.DhAddRefIdeal.nD Cert.DhAddRefIdeal.τ).loc Cert.DhAddRefIdeal.main_arg0)
          ∧ r.2.mem ((c.tc : Thread Cert.DhAddRefIdeal.nD Cert.DhAddRefIdeal.τ).loc Cert.DhAddRefIdeal.main_arg1) = m' ((c.tc : Thread Cert.DhAddRefIdeal.nD Cert.DhAddRefIdeal.τ).loc Cert.DhAddRefIdeal.main_arg1)
          ∧ r.2.mem ((c.tc : Thread Cert.DhAddRefIdeal.nD Cert.DhAddRefIdeal.τ).loc Cert.DhAddRefIdeal.main_arg2) = m' ((c.tc : Thread Cert.DhAddRefIdeal.nD Cert.DhAddRefIdeal.τ).loc Cert.DhAddRefIdeal.main_arg2))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v4) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_Sq_SqIdeal : Prop :=
  True

def algebraic_SqIdeal_SqRefIdeal [hSqIdeal : Cert.SqIdeal.Facts] [hSqRefIdeal : Cert.SqRefIdeal.Facts] : Prop :=
  ∀ (m : (ℓ : Loc Cert.SqIdeal.nD Cert.SqIdeal.τ Cert.SqIdeal.sig) → Buf (Elt Ideal) ℓ) (g : Dev Cert.SqIdeal.nD → PrngReg)
    (m' : (ℓ : Loc Cert.SqRefIdeal.nD Cert.SqRefIdeal.τ Cert.SqRefIdeal.sig) → Buf (Elt Ideal) ℓ) (g' : Dev Cert.SqRefIdeal.nD → PrngReg), Pre_SqIdeal m →
    (∀ c : Dev Cert.SqIdeal.nD,
      m' ((c.tc : Thread Cert.SqRefIdeal.nD Cert.SqRefIdeal.τ).loc Cert.SqRefIdeal.main_arg0) = m ((c.tc : Thread Cert.SqIdeal.nD Cert.SqIdeal.τ).loc Cert.SqIdeal.main_arg0)
      ∧ m' ((c.tc : Thread Cert.SqRefIdeal.nD Cert.SqRefIdeal.τ).loc Cert.SqRefIdeal.main_arg1) = m ((c.tc : Thread Cert.SqIdeal.nD Cert.SqIdeal.τ).loc Cert.SqIdeal.main_arg1)) →
    ∃ (v0 : (c : Dev Cert.SqIdeal.nD) → Buf (Elt Ideal) ((c.tc : Thread Cert.SqIdeal.nD Cert.SqIdeal.τ).loc Cert.SqIdeal.main_v0)),
      θ_run (Cert.SqIdeal.defs (F := Ideal)) (onTc (τ := Cert.SqIdeal.τ) (Cert.SqIdeal.main (F := Ideal))) ⟨m, fun _ => 0, g⟩ (fun r => ∀ c : Dev Cert.SqIdeal.nD,
          r.2.mem ((c.tc : Thread Cert.SqIdeal.nD Cert.SqIdeal.τ).loc Cert.SqIdeal.main_v0) = v0 c
          ∧ r.2.mem ((c.tc : Thread Cert.SqIdeal.nD Cert.SqIdeal.τ).loc Cert.SqIdeal.main_arg0) = m ((c.tc : Thread Cert.SqIdeal.nD Cert.SqIdeal.τ).loc Cert.SqIdeal.main_arg0)
          ∧ r.2.mem ((c.tc : Thread Cert.SqIdeal.nD Cert.SqIdeal.τ).loc Cert.SqIdeal.main_arg1) = m ((c.tc : Thread Cert.SqIdeal.nD Cert.SqIdeal.τ).loc Cert.SqIdeal.main_arg1))
      ∧ θ_run (Cert.SqRefIdeal.defs (F := Ideal)) (onTc (τ := Cert.SqRefIdeal.τ) (Cert.SqRefIdeal.main (F := Ideal))) ⟨m', fun _ => 0, g'⟩ (fun r => ∀ c : Dev Cert.SqRefIdeal.nD,
          r.2.mem ((c.tc : Thread Cert.SqRefIdeal.nD Cert.SqRefIdeal.τ).loc Cert.SqRefIdeal.main_v2) = v0 c
          ∧ r.2.mem ((c.tc : Thread Cert.SqRefIdeal.nD Cert.SqRefIdeal.τ).loc Cert.SqRefIdeal.main_arg0) = m' ((c.tc : Thread Cert.SqRefIdeal.nD Cert.SqRefIdeal.τ).loc Cert.SqRefIdeal.main_arg0)
          ∧ r.2.mem ((c.tc : Thread Cert.SqRefIdeal.nD Cert.SqRefIdeal.τ).loc Cert.SqRefIdeal.main_arg1) = m' ((c.tc : Thread Cert.SqRefIdeal.nD Cert.SqRefIdeal.τ).loc Cert.SqRefIdeal.main_arg1))

def preserves_Dsq_DsqIdeal : Prop :=
  True

def algebraic_DsqIdeal_DsqRefIdeal [hDsqIdeal : Cert.DsqIdeal.Facts] [hDsqRefIdeal : Cert.DsqRefIdeal.Facts] : Prop :=
  ∀ (m : (ℓ : Loc Cert.DsqIdeal.nD Cert.DsqIdeal.τ Cert.DsqIdeal.sig) → Buf (Elt Ideal) ℓ) (g : Dev Cert.DsqIdeal.nD → PrngReg)
    (m' : (ℓ : Loc Cert.DsqRefIdeal.nD Cert.DsqRefIdeal.τ Cert.DsqRefIdeal.sig) → Buf (Elt Ideal) ℓ) (g' : Dev Cert.DsqRefIdeal.nD → PrngReg), Pre_DsqIdeal m →
    (∀ c : Dev Cert.DsqIdeal.nD,
      m' ((c.tc : Thread Cert.DsqRefIdeal.nD Cert.DsqRefIdeal.τ).loc Cert.DsqRefIdeal.main_arg0) = m ((c.tc : Thread Cert.DsqIdeal.nD Cert.DsqIdeal.τ).loc Cert.DsqIdeal.main_arg0)
      ∧ m' ((c.tc : Thread Cert.DsqRefIdeal.nD Cert.DsqRefIdeal.τ).loc Cert.DsqRefIdeal.main_arg1) = m ((c.tc : Thread Cert.DsqIdeal.nD Cert.DsqIdeal.τ).loc Cert.DsqIdeal.main_arg1)) →
    ∃ (v0 : (c : Dev Cert.DsqIdeal.nD) → Buf (Elt Ideal) ((c.tc : Thread Cert.DsqIdeal.nD Cert.DsqIdeal.τ).loc Cert.DsqIdeal.main_v0)),
      θ_run (Cert.DsqIdeal.defs (F := Ideal)) (onTc (τ := Cert.DsqIdeal.τ) (Cert.DsqIdeal.main (F := Ideal))) ⟨m, fun _ => 0, g⟩ (fun r => ∀ c : Dev Cert.DsqIdeal.nD,
          r.2.mem ((c.tc : Thread Cert.DsqIdeal.nD Cert.DsqIdeal.τ).loc Cert.DsqIdeal.main_v0) = v0 c
          ∧ r.2.mem ((c.tc : Thread Cert.DsqIdeal.nD Cert.DsqIdeal.τ).loc Cert.DsqIdeal.main_arg0) = m ((c.tc : Thread Cert.DsqIdeal.nD Cert.DsqIdeal.τ).loc Cert.DsqIdeal.main_arg0)
          ∧ r.2.mem ((c.tc : Thread Cert.DsqIdeal.nD Cert.DsqIdeal.τ).loc Cert.DsqIdeal.main_arg1) = m ((c.tc : Thread Cert.DsqIdeal.nD Cert.DsqIdeal.τ).loc Cert.DsqIdeal.main_arg1))
      ∧ θ_run (Cert.DsqRefIdeal.defs (F := Ideal)) (onTc (τ := Cert.DsqRefIdeal.τ) (Cert.DsqRefIdeal.main (F := Ideal))) ⟨m', fun _ => 0, g'⟩ (fun r => ∀ c : Dev Cert.DsqRefIdeal.nD,
          r.2.mem ((c.tc : Thread Cert.DsqRefIdeal.nD Cert.DsqRefIdeal.τ).loc Cert.DsqRefIdeal.main_v2) = v0 c
          ∧ r.2.mem ((c.tc : Thread Cert.DsqRefIdeal.nD Cert.DsqRefIdeal.τ).loc Cert.DsqRefIdeal.main_arg0) = m' ((c.tc : Thread Cert.DsqRefIdeal.nD Cert.DsqRefIdeal.τ).loc Cert.DsqRefIdeal.main_arg0)
          ∧ r.2.mem ((c.tc : Thread Cert.DsqRefIdeal.nD Cert.DsqRefIdeal.τ).loc Cert.DsqRefIdeal.main_arg1) = m' ((c.tc : Thread Cert.DsqRefIdeal.nD Cert.DsqRefIdeal.τ).loc Cert.DsqRefIdeal.main_arg1))

def preserves_DwSq_DwSqIdeal : Prop :=
  True

def algebraic_DwSqIdeal_DwSqRefIdeal [hDwSqIdeal : Cert.DwSqIdeal.Facts] [hDwSqRefIdeal : Cert.DwSqRefIdeal.Facts] : Prop :=
  ∀ (m : (ℓ : Loc Cert.DwSqIdeal.nD Cert.DwSqIdeal.τ Cert.DwSqIdeal.sig) → Buf (Elt Ideal) ℓ) (g : Dev Cert.DwSqIdeal.nD → PrngReg)
    (m' : (ℓ : Loc Cert.DwSqRefIdeal.nD Cert.DwSqRefIdeal.τ Cert.DwSqRefIdeal.sig) → Buf (Elt Ideal) ℓ) (g' : Dev Cert.DwSqRefIdeal.nD → PrngReg), Pre_DwSqIdeal m →
    (∀ c : Dev Cert.DwSqIdeal.nD,
      m' ((c.tc : Thread Cert.DwSqRefIdeal.nD Cert.DwSqRefIdeal.τ).loc Cert.DwSqRefIdeal.main_arg0) = m ((c.tc : Thread Cert.DwSqIdeal.nD Cert.DwSqIdeal.τ).loc Cert.DwSqIdeal.main_arg0)
      ∧ m' ((c.tc : Thread Cert.DwSqRefIdeal.nD Cert.DwSqRefIdeal.τ).loc Cert.DwSqRefIdeal.main_arg1) = m ((c.tc : Thread Cert.DwSqIdeal.nD Cert.DwSqIdeal.τ).loc Cert.DwSqIdeal.main_arg1)) →
    ∃ (v0 : (c : Dev Cert.DwSqIdeal.nD) → Buf (Elt Ideal) ((c.tc : Thread Cert.DwSqIdeal.nD Cert.DwSqIdeal.τ).loc Cert.DwSqIdeal.main_v0)),
      θ_run (Cert.DwSqIdeal.defs (F := Ideal)) (onTc (τ := Cert.DwSqIdeal.τ) (Cert.DwSqIdeal.main (F := Ideal))) ⟨m, fun _ => 0, g⟩ (fun r => ∀ c : Dev Cert.DwSqIdeal.nD,
          r.2.mem ((c.tc : Thread Cert.DwSqIdeal.nD Cert.DwSqIdeal.τ).loc Cert.DwSqIdeal.main_v0) = v0 c
          ∧ r.2.mem ((c.tc : Thread Cert.DwSqIdeal.nD Cert.DwSqIdeal.τ).loc Cert.DwSqIdeal.main_arg0) = m ((c.tc : Thread Cert.DwSqIdeal.nD Cert.DwSqIdeal.τ).loc Cert.DwSqIdeal.main_arg0)
          ∧ r.2.mem ((c.tc : Thread Cert.DwSqIdeal.nD Cert.DwSqIdeal.τ).loc Cert.DwSqIdeal.main_arg1) = m ((c.tc : Thread Cert.DwSqIdeal.nD Cert.DwSqIdeal.τ).loc Cert.DwSqIdeal.main_arg1))
      ∧ θ_run (Cert.DwSqRefIdeal.defs (F := Ideal)) (onTc (τ := Cert.DwSqRefIdeal.τ) (Cert.DwSqRefIdeal.main (F := Ideal))) ⟨m', fun _ => 0, g'⟩ (fun r => ∀ c : Dev Cert.DwSqRefIdeal.nD,
          r.2.mem ((c.tc : Thread Cert.DwSqRefIdeal.nD Cert.DwSqRefIdeal.τ).loc Cert.DwSqRefIdeal.main_v4) = v0 c
          ∧ r.2.mem ((c.tc : Thread Cert.DwSqRefIdeal.nD Cert.DwSqRefIdeal.τ).loc Cert.DwSqRefIdeal.main_arg0) = m' ((c.tc : Thread Cert.DwSqRefIdeal.nD Cert.DwSqRefIdeal.τ).loc Cert.DwSqRefIdeal.main_arg0)
          ∧ r.2.mem ((c.tc : Thread Cert.DwSqRefIdeal.nD Cert.DwSqRefIdeal.τ).loc Cert.DwSqRefIdeal.main_arg1) = m' ((c.tc : Thread Cert.DwSqRefIdeal.nD Cert.DwSqRefIdeal.τ).loc Cert.DwSqRefIdeal.main_arg1))

def preserves_DoAttn_DoAttnIdeal : Prop :=
  True

def algebraic_DoAttnIdeal_DoAttnRefIdeal [hDoAttnIdeal : Cert.DoAttnIdeal.Facts] [hDoAttnRefIdeal : Cert.DoAttnRefIdeal.Facts] : Prop :=
  ∀ (m : (ℓ : Loc Cert.DoAttnIdeal.nD Cert.DoAttnIdeal.τ Cert.DoAttnIdeal.sig) → Buf (Elt Ideal) ℓ) (g : Dev Cert.DoAttnIdeal.nD → PrngReg)
    (m' : (ℓ : Loc Cert.DoAttnRefIdeal.nD Cert.DoAttnRefIdeal.τ Cert.DoAttnRefIdeal.sig) → Buf (Elt Ideal) ℓ) (g' : Dev Cert.DoAttnRefIdeal.nD → PrngReg), Pre_DoAttnIdeal m →
    (∀ c : Dev Cert.DoAttnIdeal.nD,
      m' ((c.tc : Thread Cert.DoAttnRefIdeal.nD Cert.DoAttnRefIdeal.τ).loc Cert.DoAttnRefIdeal.main_arg0) = m ((c.tc : Thread Cert.DoAttnIdeal.nD Cert.DoAttnIdeal.τ).loc Cert.DoAttnIdeal.main_arg0)
      ∧ m' ((c.tc : Thread Cert.DoAttnRefIdeal.nD Cert.DoAttnRefIdeal.τ).loc Cert.DoAttnRefIdeal.main_arg1) = m ((c.tc : Thread Cert.DoAttnIdeal.nD Cert.DoAttnIdeal.τ).loc Cert.DoAttnIdeal.main_arg1)) →
    ∃ (v0 : (c : Dev Cert.DoAttnIdeal.nD) → Buf (Elt Ideal) ((c.tc : Thread Cert.DoAttnIdeal.nD Cert.DoAttnIdeal.τ).loc Cert.DoAttnIdeal.main_v0)),
      θ_run (Cert.DoAttnIdeal.defs (F := Ideal)) (onTc (τ := Cert.DoAttnIdeal.τ) (Cert.DoAttnIdeal.main (F := Ideal))) ⟨m, fun _ => 0, g⟩ (fun r => ∀ c : Dev Cert.DoAttnIdeal.nD,
          r.2.mem ((c.tc : Thread Cert.DoAttnIdeal.nD Cert.DoAttnIdeal.τ).loc Cert.DoAttnIdeal.main_v0) = v0 c
          ∧ r.2.mem ((c.tc : Thread Cert.DoAttnIdeal.nD Cert.DoAttnIdeal.τ).loc Cert.DoAttnIdeal.main_arg0) = m ((c.tc : Thread Cert.DoAttnIdeal.nD Cert.DoAttnIdeal.τ).loc Cert.DoAttnIdeal.main_arg0)
          ∧ r.2.mem ((c.tc : Thread Cert.DoAttnIdeal.nD Cert.DoAttnIdeal.τ).loc Cert.DoAttnIdeal.main_arg1) = m ((c.tc : Thread Cert.DoAttnIdeal.nD Cert.DoAttnIdeal.τ).loc Cert.DoAttnIdeal.main_arg1))
      ∧ θ_run (Cert.DoAttnRefIdeal.defs (F := Ideal)) (onTc (τ := Cert.DoAttnRefIdeal.τ) (Cert.DoAttnRefIdeal.main (F := Ideal))) ⟨m', fun _ => 0, g'⟩ (fun r => ∀ c : Dev Cert.DoAttnRefIdeal.nD,
          r.2.mem ((c.tc : Thread Cert.DoAttnRefIdeal.nD Cert.DoAttnRefIdeal.τ).loc Cert.DoAttnRefIdeal.main_v3) = v0 c
          ∧ r.2.mem ((c.tc : Thread Cert.DoAttnRefIdeal.nD Cert.DoAttnRefIdeal.τ).loc Cert.DoAttnRefIdeal.main_arg0) = m' ((c.tc : Thread Cert.DoAttnRefIdeal.nD Cert.DoAttnRefIdeal.τ).loc Cert.DoAttnRefIdeal.main_arg0)
          ∧ r.2.mem ((c.tc : Thread Cert.DoAttnRefIdeal.nD Cert.DoAttnRefIdeal.τ).loc Cert.DoAttnRefIdeal.main_arg1) = m' ((c.tc : Thread Cert.DoAttnRefIdeal.nD Cert.DoAttnRefIdeal.τ).loc Cert.DoAttnRefIdeal.main_arg1))

def preserves_DsqAdd_DsqAddIdeal : Prop :=
  True

def algebraic_DsqAddIdeal_DsqAddRefIdeal [hDsqAddIdeal : Cert.DsqAddIdeal.Facts] [hDsqAddRefIdeal : Cert.DsqAddRefIdeal.Facts] : Prop :=
  ∀ (m : (ℓ : Loc Cert.DsqAddIdeal.nD Cert.DsqAddIdeal.τ Cert.DsqAddIdeal.sig) → Buf (Elt Ideal) ℓ) (g : Dev Cert.DsqAddIdeal.nD → PrngReg)
    (m' : (ℓ : Loc Cert.DsqAddRefIdeal.nD Cert.DsqAddRefIdeal.τ Cert.DsqAddRefIdeal.sig) → Buf (Elt Ideal) ℓ) (g' : Dev Cert.DsqAddRefIdeal.nD → PrngReg), Pre_DsqAddIdeal m →
    (∀ c : Dev Cert.DsqAddIdeal.nD,
      m' ((c.tc : Thread Cert.DsqAddRefIdeal.nD Cert.DsqAddRefIdeal.τ).loc Cert.DsqAddRefIdeal.main_arg0) = m ((c.tc : Thread Cert.DsqAddIdeal.nD Cert.DsqAddIdeal.τ).loc Cert.DsqAddIdeal.main_arg0)
      ∧ m' ((c.tc : Thread Cert.DsqAddRefIdeal.nD Cert.DsqAddRefIdeal.τ).loc Cert.DsqAddRefIdeal.main_arg1) = m ((c.tc : Thread Cert.DsqAddIdeal.nD Cert.DsqAddIdeal.τ).loc Cert.DsqAddIdeal.main_arg1)
      ∧ m' ((c.tc : Thread Cert.DsqAddRefIdeal.nD Cert.DsqAddRefIdeal.τ).loc Cert.DsqAddRefIdeal.main_arg2) = m ((c.tc : Thread Cert.DsqAddIdeal.nD Cert.DsqAddIdeal.τ).loc Cert.DsqAddIdeal.main_arg2)) →
    ∃ (v0 : (c : Dev Cert.DsqAddIdeal.nD) → Buf (Elt Ideal) ((c.tc : Thread Cert.DsqAddIdeal.nD Cert.DsqAddIdeal.τ).loc Cert.DsqAddIdeal.main_v0)),
      θ_run (Cert.DsqAddIdeal.defs (F := Ideal)) (onTc (τ := Cert.DsqAddIdeal.τ) (Cert.DsqAddIdeal.main (F := Ideal))) ⟨m, fun _ => 0, g⟩ (fun r => ∀ c : Dev Cert.DsqAddIdeal.nD,
          r.2.mem ((c.tc : Thread Cert.DsqAddIdeal.nD Cert.DsqAddIdeal.τ).loc Cert.DsqAddIdeal.main_v0) = v0 c
          ∧ r.2.mem ((c.tc : Thread Cert.DsqAddIdeal.nD Cert.DsqAddIdeal.τ).loc Cert.DsqAddIdeal.main_arg0) = m ((c.tc : Thread Cert.DsqAddIdeal.nD Cert.DsqAddIdeal.τ).loc Cert.DsqAddIdeal.main_arg0)
          ∧ r.2.mem ((c.tc : Thread Cert.DsqAddIdeal.nD Cert.DsqAddIdeal.τ).loc Cert.DsqAddIdeal.main_arg1) = m ((c.tc : Thread Cert.DsqAddIdeal.nD Cert.DsqAddIdeal.τ).loc Cert.DsqAddIdeal.main_arg1)
          ∧ r.2.mem ((c.tc : Thread Cert.DsqAddIdeal.nD Cert.DsqAddIdeal.τ).loc Cert.DsqAddIdeal.main_arg2) = m ((c.tc : Thread Cert.DsqAddIdeal.nD Cert.DsqAddIdeal.τ).loc Cert.DsqAddIdeal.main_arg2))
      ∧ θ_run (Cert.DsqAddRefIdeal.defs (F := Ideal)) (onTc (τ := Cert.DsqAddRefIdeal.τ) (Cert.DsqAddRefIdeal.main (F := Ideal))) ⟨m', fun _ => 0, g'⟩ (fun r => ∀ c : Dev Cert.DsqAddRefIdeal.nD,
          r.2.mem ((c.tc : Thread Cert.DsqAddRefIdeal.nD Cert.DsqAddRefIdeal.τ).loc Cert.DsqAddRefIdeal.main_v3) = v0 c
          ∧ r.2.mem ((c.tc : Thread Cert.DsqAddRefIdeal.nD Cert.DsqAddRefIdeal.τ).loc Cert.DsqAddRefIdeal.main_arg0) = m' ((c.tc : Thread Cert.DsqAddRefIdeal.nD Cert.DsqAddRefIdeal.τ).loc Cert.DsqAddRefIdeal.main_arg0)
          ∧ r.2.mem ((c.tc : Thread Cert.DsqAddRefIdeal.nD Cert.DsqAddRefIdeal.τ).loc Cert.DsqAddRefIdeal.main_arg1) = m' ((c.tc : Thread Cert.DsqAddRefIdeal.nD Cert.DsqAddRefIdeal.τ).loc Cert.DsqAddRefIdeal.main_arg1)
          ∧ r.2.mem ((c.tc : Thread Cert.DsqAddRefIdeal.nD Cert.DsqAddRefIdeal.τ).loc Cert.DsqAddRefIdeal.main_arg2) = m' ((c.tc : Thread Cert.DsqAddRefIdeal.nD Cert.DsqAddRefIdeal.τ).loc Cert.DsqAddRefIdeal.main_arg2))

def preserves_DwSqAdd_DwSqAddIdeal : Prop :=
  True

def algebraic_DwSqAddIdeal_DwSqAddRefIdeal [hDwSqAddIdeal : Cert.DwSqAddIdeal.Facts] [hDwSqAddRefIdeal : Cert.DwSqAddRefIdeal.Facts] : Prop :=
  ∀ (m : (ℓ : Loc Cert.DwSqAddIdeal.nD Cert.DwSqAddIdeal.τ Cert.DwSqAddIdeal.sig) → Buf (Elt Ideal) ℓ) (g : Dev Cert.DwSqAddIdeal.nD → PrngReg)
    (m' : (ℓ : Loc Cert.DwSqAddRefIdeal.nD Cert.DwSqAddRefIdeal.τ Cert.DwSqAddRefIdeal.sig) → Buf (Elt Ideal) ℓ) (g' : Dev Cert.DwSqAddRefIdeal.nD → PrngReg), Pre_DwSqAddIdeal m →
    (∀ c : Dev Cert.DwSqAddIdeal.nD,
      m' ((c.tc : Thread Cert.DwSqAddRefIdeal.nD Cert.DwSqAddRefIdeal.τ).loc Cert.DwSqAddRefIdeal.main_arg0) = m ((c.tc : Thread Cert.DwSqAddIdeal.nD Cert.DwSqAddIdeal.τ).loc Cert.DwSqAddIdeal.main_arg0)
      ∧ m' ((c.tc : Thread Cert.DwSqAddRefIdeal.nD Cert.DwSqAddRefIdeal.τ).loc Cert.DwSqAddRefIdeal.main_arg1) = m ((c.tc : Thread Cert.DwSqAddIdeal.nD Cert.DwSqAddIdeal.τ).loc Cert.DwSqAddIdeal.main_arg1)
      ∧ m' ((c.tc : Thread Cert.DwSqAddRefIdeal.nD Cert.DwSqAddRefIdeal.τ).loc Cert.DwSqAddRefIdeal.main_arg2) = m ((c.tc : Thread Cert.DwSqAddIdeal.nD Cert.DwSqAddIdeal.τ).loc Cert.DwSqAddIdeal.main_arg2)) →
    ∃ (v0 : (c : Dev Cert.DwSqAddIdeal.nD) → Buf (Elt Ideal) ((c.tc : Thread Cert.DwSqAddIdeal.nD Cert.DwSqAddIdeal.τ).loc Cert.DwSqAddIdeal.main_v0)),
      θ_run (Cert.DwSqAddIdeal.defs (F := Ideal)) (onTc (τ := Cert.DwSqAddIdeal.τ) (Cert.DwSqAddIdeal.main (F := Ideal))) ⟨m, fun _ => 0, g⟩ (fun r => ∀ c : Dev Cert.DwSqAddIdeal.nD,
          r.2.mem ((c.tc : Thread Cert.DwSqAddIdeal.nD Cert.DwSqAddIdeal.τ).loc Cert.DwSqAddIdeal.main_v0) = v0 c
          ∧ r.2.mem ((c.tc : Thread Cert.DwSqAddIdeal.nD Cert.DwSqAddIdeal.τ).loc Cert.DwSqAddIdeal.main_arg0) = m ((c.tc : Thread Cert.DwSqAddIdeal.nD Cert.DwSqAddIdeal.τ).loc Cert.DwSqAddIdeal.main_arg0)
          ∧ r.2.mem ((c.tc : Thread Cert.DwSqAddIdeal.nD Cert.DwSqAddIdeal.τ).loc Cert.DwSqAddIdeal.main_arg1) = m ((c.tc : Thread Cert.DwSqAddIdeal.nD Cert.DwSqAddIdeal.τ).loc Cert.DwSqAddIdeal.main_arg1)
          ∧ r.2.mem ((c.tc : Thread Cert.DwSqAddIdeal.nD Cert.DwSqAddIdeal.τ).loc Cert.DwSqAddIdeal.main_arg2) = m ((c.tc : Thread Cert.DwSqAddIdeal.nD Cert.DwSqAddIdeal.τ).loc Cert.DwSqAddIdeal.main_arg2))
      ∧ θ_run (Cert.DwSqAddRefIdeal.defs (F := Ideal)) (onTc (τ := Cert.DwSqAddRefIdeal.τ) (Cert.DwSqAddRefIdeal.main (F := Ideal))) ⟨m', fun _ => 0, g'⟩ (fun r => ∀ c : Dev Cert.DwSqAddRefIdeal.nD,
          r.2.mem ((c.tc : Thread Cert.DwSqAddRefIdeal.nD Cert.DwSqAddRefIdeal.τ).loc Cert.DwSqAddRefIdeal.main_v5) = v0 c
          ∧ r.2.mem ((c.tc : Thread Cert.DwSqAddRefIdeal.nD Cert.DwSqAddRefIdeal.τ).loc Cert.DwSqAddRefIdeal.main_arg0) = m' ((c.tc : Thread Cert.DwSqAddRefIdeal.nD Cert.DwSqAddRefIdeal.τ).loc Cert.DwSqAddRefIdeal.main_arg0)
          ∧ r.2.mem ((c.tc : Thread Cert.DwSqAddRefIdeal.nD Cert.DwSqAddRefIdeal.τ).loc Cert.DwSqAddRefIdeal.main_arg1) = m' ((c.tc : Thread Cert.DwSqAddRefIdeal.nD Cert.DwSqAddRefIdeal.τ).loc Cert.DwSqAddRefIdeal.main_arg1)
          ∧ r.2.mem ((c.tc : Thread Cert.DwSqAddRefIdeal.nD Cert.DwSqAddRefIdeal.τ).loc Cert.DwSqAddRefIdeal.main_arg2) = m' ((c.tc : Thread Cert.DwSqAddRefIdeal.nD Cert.DwSqAddRefIdeal.τ).loc Cert.DwSqAddRefIdeal.main_arg2))

def preserves_Gab_GabIdeal : Prop :=
  True

def algebraic_GabIdeal_GabRefIdeal [hGabIdeal : Cert.GabIdeal.Facts] [hGabRefIdeal : Cert.GabRefIdeal.Facts] : Prop :=
  ∀ (m : (ℓ : Loc Cert.GabIdeal.nD Cert.GabIdeal.τ Cert.GabIdeal.sig) → Buf (Elt Ideal) ℓ) (g : Dev Cert.GabIdeal.nD → PrngReg)
    (m' : (ℓ : Loc Cert.GabRefIdeal.nD Cert.GabRefIdeal.τ Cert.GabRefIdeal.sig) → Buf (Elt Ideal) ℓ) (g' : Dev Cert.GabRefIdeal.nD → PrngReg), Pre_GabIdeal m →
    (∀ c : Dev Cert.GabIdeal.nD,
      m' ((c.tc : Thread Cert.GabRefIdeal.nD Cert.GabRefIdeal.τ).loc Cert.GabRefIdeal.main_arg0) = m ((c.tc : Thread Cert.GabIdeal.nD Cert.GabIdeal.τ).loc Cert.GabIdeal.main_arg0)
      ∧ m' ((c.tc : Thread Cert.GabRefIdeal.nD Cert.GabRefIdeal.τ).loc Cert.GabRefIdeal.main_arg1) = m ((c.tc : Thread Cert.GabIdeal.nD Cert.GabIdeal.τ).loc Cert.GabIdeal.main_arg1)) →
    ∃ (v0 : (c : Dev Cert.GabIdeal.nD) → Buf (Elt Ideal) ((c.tc : Thread Cert.GabIdeal.nD Cert.GabIdeal.τ).loc Cert.GabIdeal.main_v0)),
      θ_run (Cert.GabIdeal.defs (F := Ideal)) (onTc (τ := Cert.GabIdeal.τ) (Cert.GabIdeal.main (F := Ideal))) ⟨m, fun _ => 0, g⟩ (fun r => ∀ c : Dev Cert.GabIdeal.nD,
          r.2.mem ((c.tc : Thread Cert.GabIdeal.nD Cert.GabIdeal.τ).loc Cert.GabIdeal.main_v0) = v0 c
          ∧ r.2.mem ((c.tc : Thread Cert.GabIdeal.nD Cert.GabIdeal.τ).loc Cert.GabIdeal.main_arg0) = m ((c.tc : Thread Cert.GabIdeal.nD Cert.GabIdeal.τ).loc Cert.GabIdeal.main_arg0)
          ∧ r.2.mem ((c.tc : Thread Cert.GabIdeal.nD Cert.GabIdeal.τ).loc Cert.GabIdeal.main_arg1) = m ((c.tc : Thread Cert.GabIdeal.nD Cert.GabIdeal.τ).loc Cert.GabIdeal.main_arg1))
      ∧ θ_run (Cert.GabRefIdeal.defs (F := Ideal)) (onTc (τ := Cert.GabRefIdeal.τ) (Cert.GabRefIdeal.main (F := Ideal))) ⟨m', fun _ => 0, g'⟩ (fun r => ∀ c : Dev Cert.GabRefIdeal.nD,
          r.2.mem ((c.tc : Thread Cert.GabRefIdeal.nD Cert.GabRefIdeal.τ).loc Cert.GabRefIdeal.main_v2) = v0 c
          ∧ r.2.mem ((c.tc : Thread Cert.GabRefIdeal.nD Cert.GabRefIdeal.τ).loc Cert.GabRefIdeal.main_arg0) = m' ((c.tc : Thread Cert.GabRefIdeal.nD Cert.GabRefIdeal.τ).loc Cert.GabRefIdeal.main_arg0)
          ∧ r.2.mem ((c.tc : Thread Cert.GabRefIdeal.nD Cert.GabRefIdeal.τ).loc Cert.GabRefIdeal.main_arg1) = m' ((c.tc : Thread Cert.GabRefIdeal.nD Cert.GabRefIdeal.τ).loc Cert.GabRefIdeal.main_arg1))

def preserves_DhGab_DhGabIdeal : Prop :=
  True

def algebraic_DhGabIdeal_DhGabRefIdeal [hDhGabIdeal : Cert.DhGabIdeal.Facts] [hDhGabRefIdeal : Cert.DhGabRefIdeal.Facts] : Prop :=
  ∀ (m : (ℓ : Loc Cert.DhGabIdeal.nD Cert.DhGabIdeal.τ Cert.DhGabIdeal.sig) → Buf (Elt Ideal) ℓ) (g : Dev Cert.DhGabIdeal.nD → PrngReg)
    (m' : (ℓ : Loc Cert.DhGabRefIdeal.nD Cert.DhGabRefIdeal.τ Cert.DhGabRefIdeal.sig) → Buf (Elt Ideal) ℓ) (g' : Dev Cert.DhGabRefIdeal.nD → PrngReg), Pre_DhGabIdeal m →
    (∀ c : Dev Cert.DhGabIdeal.nD,
      m' ((c.tc : Thread Cert.DhGabRefIdeal.nD Cert.DhGabRefIdeal.τ).loc Cert.DhGabRefIdeal.main_arg0) = m ((c.tc : Thread Cert.DhGabIdeal.nD Cert.DhGabIdeal.τ).loc Cert.DhGabIdeal.main_arg0)
      ∧ m' ((c.tc : Thread Cert.DhGabRefIdeal.nD Cert.DhGabRefIdeal.τ).loc Cert.DhGabRefIdeal.main_arg1) = m ((c.tc : Thread Cert.DhGabIdeal.nD Cert.DhGabIdeal.τ).loc Cert.DhGabIdeal.main_arg1)
      ∧ m' ((c.tc : Thread Cert.DhGabRefIdeal.nD Cert.DhGabRefIdeal.τ).loc Cert.DhGabRefIdeal.main_arg2) = m ((c.tc : Thread Cert.DhGabIdeal.nD Cert.DhGabIdeal.τ).loc Cert.DhGabIdeal.main_arg2)) →
    ∃ (v0 : (c : Dev Cert.DhGabIdeal.nD) → Buf (Elt Ideal) ((c.tc : Thread Cert.DhGabIdeal.nD Cert.DhGabIdeal.τ).loc Cert.DhGabIdeal.main_v0)),
      θ_run (Cert.DhGabIdeal.defs (F := Ideal)) (onTc (τ := Cert.DhGabIdeal.τ) (Cert.DhGabIdeal.main (F := Ideal))) ⟨m, fun _ => 0, g⟩ (fun r => ∀ c : Dev Cert.DhGabIdeal.nD,
          r.2.mem ((c.tc : Thread Cert.DhGabIdeal.nD Cert.DhGabIdeal.τ).loc Cert.DhGabIdeal.main_v0) = v0 c
          ∧ r.2.mem ((c.tc : Thread Cert.DhGabIdeal.nD Cert.DhGabIdeal.τ).loc Cert.DhGabIdeal.main_arg0) = m ((c.tc : Thread Cert.DhGabIdeal.nD Cert.DhGabIdeal.τ).loc Cert.DhGabIdeal.main_arg0)
          ∧ r.2.mem ((c.tc : Thread Cert.DhGabIdeal.nD Cert.DhGabIdeal.τ).loc Cert.DhGabIdeal.main_arg1) = m ((c.tc : Thread Cert.DhGabIdeal.nD Cert.DhGabIdeal.τ).loc Cert.DhGabIdeal.main_arg1)
          ∧ r.2.mem ((c.tc : Thread Cert.DhGabIdeal.nD Cert.DhGabIdeal.τ).loc Cert.DhGabIdeal.main_arg2) = m ((c.tc : Thread Cert.DhGabIdeal.nD Cert.DhGabIdeal.τ).loc Cert.DhGabIdeal.main_arg2))
      ∧ θ_run (Cert.DhGabRefIdeal.defs (F := Ideal)) (onTc (τ := Cert.DhGabRefIdeal.τ) (Cert.DhGabRefIdeal.main (F := Ideal))) ⟨m', fun _ => 0, g'⟩ (fun r => ∀ c : Dev Cert.DhGabRefIdeal.nD,
          r.2.mem ((c.tc : Thread Cert.DhGabRefIdeal.nD Cert.DhGabRefIdeal.τ).loc Cert.DhGabRefIdeal.main_v3) = v0 c
          ∧ r.2.mem ((c.tc : Thread Cert.DhGabRefIdeal.nD Cert.DhGabRefIdeal.τ).loc Cert.DhGabRefIdeal.main_arg0) = m' ((c.tc : Thread Cert.DhGabRefIdeal.nD Cert.DhGabRefIdeal.τ).loc Cert.DhGabRefIdeal.main_arg0)
          ∧ r.2.mem ((c.tc : Thread Cert.DhGabRefIdeal.nD Cert.DhGabRefIdeal.τ).loc Cert.DhGabRefIdeal.main_arg1) = m' ((c.tc : Thread Cert.DhGabRefIdeal.nD Cert.DhGabRefIdeal.τ).loc Cert.DhGabRefIdeal.main_arg1)
          ∧ r.2.mem ((c.tc : Thread Cert.DhGabRefIdeal.nD Cert.DhGabRefIdeal.τ).loc Cert.DhGabRefIdeal.main_arg2) = m' ((c.tc : Thread Cert.DhGabRefIdeal.nD Cert.DhGabRefIdeal.τ).loc Cert.DhGabRefIdeal.main_arg2))

def preserves_DwGab_DwGabIdeal : Prop :=
  True

def algebraic_DwGabIdeal_DwGabRefIdeal [hDwGabIdeal : Cert.DwGabIdeal.Facts] [hDwGabRefIdeal : Cert.DwGabRefIdeal.Facts] : Prop :=
  ∀ (m : (ℓ : Loc Cert.DwGabIdeal.nD Cert.DwGabIdeal.τ Cert.DwGabIdeal.sig) → Buf (Elt Ideal) ℓ) (g : Dev Cert.DwGabIdeal.nD → PrngReg)
    (m' : (ℓ : Loc Cert.DwGabRefIdeal.nD Cert.DwGabRefIdeal.τ Cert.DwGabRefIdeal.sig) → Buf (Elt Ideal) ℓ) (g' : Dev Cert.DwGabRefIdeal.nD → PrngReg), Pre_DwGabIdeal m →
    (∀ c : Dev Cert.DwGabIdeal.nD,
      m' ((c.tc : Thread Cert.DwGabRefIdeal.nD Cert.DwGabRefIdeal.τ).loc Cert.DwGabRefIdeal.main_arg0) = m ((c.tc : Thread Cert.DwGabIdeal.nD Cert.DwGabIdeal.τ).loc Cert.DwGabIdeal.main_arg0)
      ∧ m' ((c.tc : Thread Cert.DwGabRefIdeal.nD Cert.DwGabRefIdeal.τ).loc Cert.DwGabRefIdeal.main_arg1) = m ((c.tc : Thread Cert.DwGabIdeal.nD Cert.DwGabIdeal.τ).loc Cert.DwGabIdeal.main_arg1)) →
    ∃ (v0 : (c : Dev Cert.DwGabIdeal.nD) → Buf (Elt Ideal) ((c.tc : Thread Cert.DwGabIdeal.nD Cert.DwGabIdeal.τ).loc Cert.DwGabIdeal.main_v0)),
      θ_run (Cert.DwGabIdeal.defs (F := Ideal)) (onTc (τ := Cert.DwGabIdeal.τ) (Cert.DwGabIdeal.main (F := Ideal))) ⟨m, fun _ => 0, g⟩ (fun r => ∀ c : Dev Cert.DwGabIdeal.nD,
          r.2.mem ((c.tc : Thread Cert.DwGabIdeal.nD Cert.DwGabIdeal.τ).loc Cert.DwGabIdeal.main_v0) = v0 c
          ∧ r.2.mem ((c.tc : Thread Cert.DwGabIdeal.nD Cert.DwGabIdeal.τ).loc Cert.DwGabIdeal.main_arg0) = m ((c.tc : Thread Cert.DwGabIdeal.nD Cert.DwGabIdeal.τ).loc Cert.DwGabIdeal.main_arg0)
          ∧ r.2.mem ((c.tc : Thread Cert.DwGabIdeal.nD Cert.DwGabIdeal.τ).loc Cert.DwGabIdeal.main_arg1) = m ((c.tc : Thread Cert.DwGabIdeal.nD Cert.DwGabIdeal.τ).loc Cert.DwGabIdeal.main_arg1))
      ∧ θ_run (Cert.DwGabRefIdeal.defs (F := Ideal)) (onTc (τ := Cert.DwGabRefIdeal.τ) (Cert.DwGabRefIdeal.main (F := Ideal))) ⟨m', fun _ => 0, g'⟩ (fun r => ∀ c : Dev Cert.DwGabRefIdeal.nD,
          r.2.mem ((c.tc : Thread Cert.DwGabRefIdeal.nD Cert.DwGabRefIdeal.τ).loc Cert.DwGabRefIdeal.main_v4) = v0 c
          ∧ r.2.mem ((c.tc : Thread Cert.DwGabRefIdeal.nD Cert.DwGabRefIdeal.τ).loc Cert.DwGabRefIdeal.main_arg0) = m' ((c.tc : Thread Cert.DwGabRefIdeal.nD Cert.DwGabRefIdeal.τ).loc Cert.DwGabRefIdeal.main_arg0)
          ∧ r.2.mem ((c.tc : Thread Cert.DwGabRefIdeal.nD Cert.DwGabRefIdeal.τ).loc Cert.DwGabRefIdeal.main_arg1) = m' ((c.tc : Thread Cert.DwGabRefIdeal.nD Cert.DwGabRefIdeal.τ).loc Cert.DwGabRefIdeal.main_arg1))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v0)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v0) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v2) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_DhKv_DhKvIdeal : Prop :=
  True

def algebraic_DhKvIdeal_DhKvRefIdeal [hDhKvIdeal : Cert.DhKvIdeal.Facts] [hDhKvRefIdeal : Cert.DhKvRefIdeal.Facts] : Prop :=
  ∀ (m : (ℓ : Loc Cert.DhKvIdeal.nD Cert.DhKvIdeal.τ Cert.DhKvIdeal.sig) → Buf (Elt Ideal) ℓ) (g : Dev Cert.DhKvIdeal.nD → PrngReg)
    (m' : (ℓ : Loc Cert.DhKvRefIdeal.nD Cert.DhKvRefIdeal.τ Cert.DhKvRefIdeal.sig) → Buf (Elt Ideal) ℓ) (g' : Dev Cert.DhKvRefIdeal.nD → PrngReg), Pre_DhKvIdeal m →
    (∀ c : Dev Cert.DhKvIdeal.nD,
      m' ((c.tc : Thread Cert.DhKvRefIdeal.nD Cert.DhKvRefIdeal.τ).loc Cert.DhKvRefIdeal.main_arg0) = m ((c.tc : Thread Cert.DhKvIdeal.nD Cert.DhKvIdeal.τ).loc Cert.DhKvIdeal.main_arg0)
      ∧ m' ((c.tc : Thread Cert.DhKvRefIdeal.nD Cert.DhKvRefIdeal.τ).loc Cert.DhKvRefIdeal.main_arg1) = m ((c.tc : Thread Cert.DhKvIdeal.nD Cert.DhKvIdeal.τ).loc Cert.DhKvIdeal.main_arg1)
      ∧ m' ((c.tc : Thread Cert.DhKvRefIdeal.nD Cert.DhKvRefIdeal.τ).loc Cert.DhKvRefIdeal.main_arg2) = m ((c.tc : Thread Cert.DhKvIdeal.nD Cert.DhKvIdeal.τ).loc Cert.DhKvIdeal.main_arg2)) →
    ∃ (v0 : (c : Dev Cert.DhKvIdeal.nD) → Buf (Elt Ideal) ((c.tc : Thread Cert.DhKvIdeal.nD Cert.DhKvIdeal.τ).loc Cert.DhKvIdeal.main_v0)),
      θ_run (Cert.DhKvIdeal.defs (F := Ideal)) (onTc (τ := Cert.DhKvIdeal.τ) (Cert.DhKvIdeal.main (F := Ideal))) ⟨m, fun _ => 0, g⟩ (fun r => ∀ c : Dev Cert.DhKvIdeal.nD,
          r.2.mem ((c.tc : Thread Cert.DhKvIdeal.nD Cert.DhKvIdeal.τ).loc Cert.DhKvIdeal.main_v0) = v0 c
          ∧ r.2.mem ((c.tc : Thread Cert.DhKvIdeal.nD Cert.DhKvIdeal.τ).loc Cert.DhKvIdeal.main_arg0) = m ((c.tc : Thread Cert.DhKvIdeal.nD Cert.DhKvIdeal.τ).loc Cert.DhKvIdeal.main_arg0)
          ∧ r.2.mem ((c.tc : Thread Cert.DhKvIdeal.nD Cert.DhKvIdeal.τ).loc Cert.DhKvIdeal.main_arg1) = m ((c.tc : Thread Cert.DhKvIdeal.nD Cert.DhKvIdeal.τ).loc Cert.DhKvIdeal.main_arg1)
          ∧ r.2.mem ((c.tc : Thread Cert.DhKvIdeal.nD Cert.DhKvIdeal.τ).loc Cert.DhKvIdeal.main_arg2) = m ((c.tc : Thread Cert.DhKvIdeal.nD Cert.DhKvIdeal.τ).loc Cert.DhKvIdeal.main_arg2))
      ∧ θ_run (Cert.DhKvRefIdeal.defs (F := Ideal)) (onTc (τ := Cert.DhKvRefIdeal.τ) (Cert.DhKvRefIdeal.main (F := Ideal))) ⟨m', fun _ => 0, g'⟩ (fun r => ∀ c : Dev Cert.DhKvRefIdeal.nD,
          r.2.mem ((c.tc : Thread Cert.DhKvRefIdeal.nD Cert.DhKvRefIdeal.τ).loc Cert.DhKvRefIdeal.main_v3) = v0 c
          ∧ r.2.mem ((c.tc : Thread Cert.DhKvRefIdeal.nD Cert.DhKvRefIdeal.τ).loc Cert.DhKvRefIdeal.main_arg0) = m' ((c.tc : Thread Cert.DhKvRefIdeal.nD Cert.DhKvRefIdeal.τ).loc Cert.DhKvRefIdeal.main_arg0)
          ∧ r.2.mem ((c.tc : Thread Cert.DhKvRefIdeal.nD Cert.DhKvRefIdeal.τ).loc Cert.DhKvRefIdeal.main_arg1) = m' ((c.tc : Thread Cert.DhKvRefIdeal.nD Cert.DhKvRefIdeal.τ).loc Cert.DhKvRefIdeal.main_arg1)
          ∧ r.2.mem ((c.tc : Thread Cert.DhKvRefIdeal.nD Cert.DhKvRefIdeal.τ).loc Cert.DhKvRefIdeal.main_arg2) = m' ((c.tc : Thread Cert.DhKvRefIdeal.nD Cert.DhKvRefIdeal.τ).loc Cert.DhKvRefIdeal.main_arg2))

def preserves_DwKv_DwKvIdeal : Prop :=
  True

def algebraic_DwKvIdeal_DwKvRefIdeal [hDwKvIdeal : Cert.DwKvIdeal.Facts] [hDwKvRefIdeal : Cert.DwKvRefIdeal.Facts] : Prop :=
  ∀ (m : (ℓ : Loc Cert.DwKvIdeal.nD Cert.DwKvIdeal.τ Cert.DwKvIdeal.sig) → Buf (Elt Ideal) ℓ) (g : Dev Cert.DwKvIdeal.nD → PrngReg)
    (m' : (ℓ : Loc Cert.DwKvRefIdeal.nD Cert.DwKvRefIdeal.τ Cert.DwKvRefIdeal.sig) → Buf (Elt Ideal) ℓ) (g' : Dev Cert.DwKvRefIdeal.nD → PrngReg), Pre_DwKvIdeal m →
    (∀ c : Dev Cert.DwKvIdeal.nD,
      m' ((c.tc : Thread Cert.DwKvRefIdeal.nD Cert.DwKvRefIdeal.τ).loc Cert.DwKvRefIdeal.main_arg0) = m ((c.tc : Thread Cert.DwKvIdeal.nD Cert.DwKvIdeal.τ).loc Cert.DwKvIdeal.main_arg0)
      ∧ m' ((c.tc : Thread Cert.DwKvRefIdeal.nD Cert.DwKvRefIdeal.τ).loc Cert.DwKvRefIdeal.main_arg1) = m ((c.tc : Thread Cert.DwKvIdeal.nD Cert.DwKvIdeal.τ).loc Cert.DwKvIdeal.main_arg1)
      ∧ m' ((c.tc : Thread Cert.DwKvRefIdeal.nD Cert.DwKvRefIdeal.τ).loc Cert.DwKvRefIdeal.main_arg2) = m ((c.tc : Thread Cert.DwKvIdeal.nD Cert.DwKvIdeal.τ).loc Cert.DwKvIdeal.main_arg2)) →
    ∃ (v0 : (c : Dev Cert.DwKvIdeal.nD) → Buf (Elt Ideal) ((c.tc : Thread Cert.DwKvIdeal.nD Cert.DwKvIdeal.τ).loc Cert.DwKvIdeal.main_v0)),
      θ_run (Cert.DwKvIdeal.defs (F := Ideal)) (onTc (τ := Cert.DwKvIdeal.τ) (Cert.DwKvIdeal.main (F := Ideal))) ⟨m, fun _ => 0, g⟩ (fun r => ∀ c : Dev Cert.DwKvIdeal.nD,
          r.2.mem ((c.tc : Thread Cert.DwKvIdeal.nD Cert.DwKvIdeal.τ).loc Cert.DwKvIdeal.main_v0) = v0 c
          ∧ r.2.mem ((c.tc : Thread Cert.DwKvIdeal.nD Cert.DwKvIdeal.τ).loc Cert.DwKvIdeal.main_arg0) = m ((c.tc : Thread Cert.DwKvIdeal.nD Cert.DwKvIdeal.τ).loc Cert.DwKvIdeal.main_arg0)
          ∧ r.2.mem ((c.tc : Thread Cert.DwKvIdeal.nD Cert.DwKvIdeal.τ).loc Cert.DwKvIdeal.main_arg1) = m ((c.tc : Thread Cert.DwKvIdeal.nD Cert.DwKvIdeal.τ).loc Cert.DwKvIdeal.main_arg1)
          ∧ r.2.mem ((c.tc : Thread Cert.DwKvIdeal.nD Cert.DwKvIdeal.τ).loc Cert.DwKvIdeal.main_arg2) = m ((c.tc : Thread Cert.DwKvIdeal.nD Cert.DwKvIdeal.τ).loc Cert.DwKvIdeal.main_arg2))
      ∧ θ_run (Cert.DwKvRefIdeal.defs (F := Ideal)) (onTc (τ := Cert.DwKvRefIdeal.τ) (Cert.DwKvRefIdeal.main (F := Ideal))) ⟨m', fun _ => 0, g'⟩ (fun r => ∀ c : Dev Cert.DwKvRefIdeal.nD,
          r.2.mem ((c.tc : Thread Cert.DwKvRefIdeal.nD Cert.DwKvRefIdeal.τ).loc Cert.DwKvRefIdeal.main_v5) = v0 c
          ∧ r.2.mem ((c.tc : Thread Cert.DwKvRefIdeal.nD Cert.DwKvRefIdeal.τ).loc Cert.DwKvRefIdeal.main_arg0) = m' ((c.tc : Thread Cert.DwKvRefIdeal.nD Cert.DwKvRefIdeal.τ).loc Cert.DwKvRefIdeal.main_arg0)
          ∧ r.2.mem ((c.tc : Thread Cert.DwKvRefIdeal.nD Cert.DwKvRefIdeal.τ).loc Cert.DwKvRefIdeal.main_arg1) = m' ((c.tc : Thread Cert.DwKvRefIdeal.nD Cert.DwKvRefIdeal.τ).loc Cert.DwKvRefIdeal.main_arg1)
          ∧ r.2.mem ((c.tc : Thread Cert.DwKvRefIdeal.nD Cert.DwKvRefIdeal.τ).loc Cert.DwKvRefIdeal.main_arg2) = m' ((c.tc : Thread Cert.DwKvRefIdeal.nD Cert.DwKvRefIdeal.τ).loc Cert.DwKvRefIdeal.main_arg2))

def preserves_KvCtx_KvCtxIdeal : Prop :=
  True

def algebraic_KvCtxIdeal_KvCtxRefIdeal [hKvCtxIdeal : Cert.KvCtxIdeal.Facts] [hKvCtxRefIdeal : Cert.KvCtxRefIdeal.Facts] : Prop :=
  ∀ (m : (ℓ : Loc Cert.KvCtxIdeal.nD Cert.KvCtxIdeal.τ Cert.KvCtxIdeal.sig) → Buf (Elt Ideal) ℓ) (g : Dev Cert.KvCtxIdeal.nD → PrngReg)
    (m' : (ℓ : Loc Cert.KvCtxRefIdeal.nD Cert.KvCtxRefIdeal.τ Cert.KvCtxRefIdeal.sig) → Buf (Elt Ideal) ℓ) (g' : Dev Cert.KvCtxRefIdeal.nD → PrngReg), Pre_KvCtxIdeal m →
    (∀ c : Dev Cert.KvCtxIdeal.nD,
      m' ((c.tc : Thread Cert.KvCtxRefIdeal.nD Cert.KvCtxRefIdeal.τ).loc Cert.KvCtxRefIdeal.main_arg0) = m ((c.tc : Thread Cert.KvCtxIdeal.nD Cert.KvCtxIdeal.τ).loc Cert.KvCtxIdeal.main_arg0)
      ∧ m' ((c.tc : Thread Cert.KvCtxRefIdeal.nD Cert.KvCtxRefIdeal.τ).loc Cert.KvCtxRefIdeal.main_arg1) = m ((c.tc : Thread Cert.KvCtxIdeal.nD Cert.KvCtxIdeal.τ).loc Cert.KvCtxIdeal.main_arg1)) →
    ∃ (v0 : (c : Dev Cert.KvCtxIdeal.nD) → Buf (Elt Ideal) ((c.tc : Thread Cert.KvCtxIdeal.nD Cert.KvCtxIdeal.τ).loc Cert.KvCtxIdeal.main_v0)),
      θ_run (Cert.KvCtxIdeal.defs (F := Ideal)) (onTc (τ := Cert.KvCtxIdeal.τ) (Cert.KvCtxIdeal.main (F := Ideal))) ⟨m, fun _ => 0, g⟩ (fun r => ∀ c : Dev Cert.KvCtxIdeal.nD,
          r.2.mem ((c.tc : Thread Cert.KvCtxIdeal.nD Cert.KvCtxIdeal.τ).loc Cert.KvCtxIdeal.main_v0) = v0 c
          ∧ r.2.mem ((c.tc : Thread Cert.KvCtxIdeal.nD Cert.KvCtxIdeal.τ).loc Cert.KvCtxIdeal.main_arg0) = m ((c.tc : Thread Cert.KvCtxIdeal.nD Cert.KvCtxIdeal.τ).loc Cert.KvCtxIdeal.main_arg0)
          ∧ r.2.mem ((c.tc : Thread Cert.KvCtxIdeal.nD Cert.KvCtxIdeal.τ).loc Cert.KvCtxIdeal.main_arg1) = m ((c.tc : Thread Cert.KvCtxIdeal.nD Cert.KvCtxIdeal.τ).loc Cert.KvCtxIdeal.main_arg1))
      ∧ θ_run (Cert.KvCtxRefIdeal.defs (F := Ideal)) (onTc (τ := Cert.KvCtxRefIdeal.τ) (Cert.KvCtxRefIdeal.main (F := Ideal))) ⟨m', fun _ => 0, g'⟩ (fun r => ∀ c : Dev Cert.KvCtxRefIdeal.nD,
          r.2.mem ((c.tc : Thread Cert.KvCtxRefIdeal.nD Cert.KvCtxRefIdeal.τ).loc Cert.KvCtxRefIdeal.main_v2) = v0 c
          ∧ r.2.mem ((c.tc : Thread Cert.KvCtxRefIdeal.nD Cert.KvCtxRefIdeal.τ).loc Cert.KvCtxRefIdeal.main_arg0) = m' ((c.tc : Thread Cert.KvCtxRefIdeal.nD Cert.KvCtxRefIdeal.τ).loc Cert.KvCtxRefIdeal.main_arg0)
          ∧ r.2.mem ((c.tc : Thread Cert.KvCtxRefIdeal.nD Cert.KvCtxRefIdeal.τ).loc Cert.KvCtxRefIdeal.main_arg1) = m' ((c.tc : Thread Cert.KvCtxRefIdeal.nD Cert.KvCtxRefIdeal.τ).loc Cert.KvCtxRefIdeal.main_arg1))

def preserves_SqCtx_SqCtxIdeal : Prop :=
  True

def algebraic_SqCtxIdeal_SqCtxRefIdeal [hSqCtxIdeal : Cert.SqCtxIdeal.Facts] [hSqCtxRefIdeal : Cert.SqCtxRefIdeal.Facts] : Prop :=
  ∀ (m : (ℓ : Loc Cert.SqCtxIdeal.nD Cert.SqCtxIdeal.τ Cert.SqCtxIdeal.sig) → Buf (Elt Ideal) ℓ) (g : Dev Cert.SqCtxIdeal.nD → PrngReg)
    (m' : (ℓ : Loc Cert.SqCtxRefIdeal.nD Cert.SqCtxRefIdeal.τ Cert.SqCtxRefIdeal.sig) → Buf (Elt Ideal) ℓ) (g' : Dev Cert.SqCtxRefIdeal.nD → PrngReg), Pre_SqCtxIdeal m →
    (∀ c : Dev Cert.SqCtxIdeal.nD,
      m' ((c.tc : Thread Cert.SqCtxRefIdeal.nD Cert.SqCtxRefIdeal.τ).loc Cert.SqCtxRefIdeal.main_arg0) = m ((c.tc : Thread Cert.SqCtxIdeal.nD Cert.SqCtxIdeal.τ).loc Cert.SqCtxIdeal.main_arg0)
      ∧ m' ((c.tc : Thread Cert.SqCtxRefIdeal.nD Cert.SqCtxRefIdeal.τ).loc Cert.SqCtxRefIdeal.main_arg1) = m ((c.tc : Thread Cert.SqCtxIdeal.nD Cert.SqCtxIdeal.τ).loc Cert.SqCtxIdeal.main_arg1)) →
    ∃ (v0 : (c : Dev Cert.SqCtxIdeal.nD) → Buf (Elt Ideal) ((c.tc : Thread Cert.SqCtxIdeal.nD Cert.SqCtxIdeal.τ).loc Cert.SqCtxIdeal.main_v0)),
      θ_run (Cert.SqCtxIdeal.defs (F := Ideal)) (onTc (τ := Cert.SqCtxIdeal.τ) (Cert.SqCtxIdeal.main (F := Ideal))) ⟨m, fun _ => 0, g⟩ (fun r => ∀ c : Dev Cert.SqCtxIdeal.nD,
          r.2.mem ((c.tc : Thread Cert.SqCtxIdeal.nD Cert.SqCtxIdeal.τ).loc Cert.SqCtxIdeal.main_v0) = v0 c
          ∧ r.2.mem ((c.tc : Thread Cert.SqCtxIdeal.nD Cert.SqCtxIdeal.τ).loc Cert.SqCtxIdeal.main_arg0) = m ((c.tc : Thread Cert.SqCtxIdeal.nD Cert.SqCtxIdeal.τ).loc Cert.SqCtxIdeal.main_arg0)
          ∧ r.2.mem ((c.tc : Thread Cert.SqCtxIdeal.nD Cert.SqCtxIdeal.τ).loc Cert.SqCtxIdeal.main_arg1) = m ((c.tc : Thread Cert.SqCtxIdeal.nD Cert.SqCtxIdeal.τ).loc Cert.SqCtxIdeal.main_arg1))
      ∧ θ_run (Cert.SqCtxRefIdeal.defs (F := Ideal)) (onTc (τ := Cert.SqCtxRefIdeal.τ) (Cert.SqCtxRefIdeal.main (F := Ideal))) ⟨m', fun _ => 0, g'⟩ (fun r => ∀ c : Dev Cert.SqCtxRefIdeal.nD,
          r.2.mem ((c.tc : Thread Cert.SqCtxRefIdeal.nD Cert.SqCtxRefIdeal.τ).loc Cert.SqCtxRefIdeal.main_v2) = v0 c
          ∧ r.2.mem ((c.tc : Thread Cert.SqCtxRefIdeal.nD Cert.SqCtxRefIdeal.τ).loc Cert.SqCtxRefIdeal.main_arg0) = m' ((c.tc : Thread Cert.SqCtxRefIdeal.nD Cert.SqCtxRefIdeal.τ).loc Cert.SqCtxRefIdeal.main_arg0)
          ∧ r.2.mem ((c.tc : Thread Cert.SqCtxRefIdeal.nD Cert.SqCtxRefIdeal.τ).loc Cert.SqCtxRefIdeal.main_arg1) = m' ((c.tc : Thread Cert.SqCtxRefIdeal.nD Cert.SqCtxRefIdeal.τ).loc Cert.SqCtxRefIdeal.main_arg1))

def preserves_LrCtx_LrCtxIdeal : Prop :=
  True

def algebraic_LrCtxIdeal_LrCtxRefIdeal [hLrCtxIdeal : Cert.LrCtxIdeal.Facts] [hLrCtxRefIdeal : Cert.LrCtxRefIdeal.Facts] : Prop :=
  ∀ (m : (ℓ : Loc Cert.LrCtxIdeal.nD Cert.LrCtxIdeal.τ Cert.LrCtxIdeal.sig) → Buf (Elt Ideal) ℓ) (g : Dev Cert.LrCtxIdeal.nD → PrngReg)
    (m' : (ℓ : Loc Cert.LrCtxRefIdeal.nD Cert.LrCtxRefIdeal.τ Cert.LrCtxRefIdeal.sig) → Buf (Elt Ideal) ℓ) (g' : Dev Cert.LrCtxRefIdeal.nD → PrngReg), Pre_LrCtxIdeal m →
    (∀ c : Dev Cert.LrCtxIdeal.nD,
      m' ((c.tc : Thread Cert.LrCtxRefIdeal.nD Cert.LrCtxRefIdeal.τ).loc Cert.LrCtxRefIdeal.main_arg0) = m ((c.tc : Thread Cert.LrCtxIdeal.nD Cert.LrCtxIdeal.τ).loc Cert.LrCtxIdeal.main_arg0)
      ∧ m' ((c.tc : Thread Cert.LrCtxRefIdeal.nD Cert.LrCtxRefIdeal.τ).loc Cert.LrCtxRefIdeal.main_arg1) = m ((c.tc : Thread Cert.LrCtxIdeal.nD Cert.LrCtxIdeal.τ).loc Cert.LrCtxIdeal.main_arg1)) →
    ∃ (v0 : (c : Dev Cert.LrCtxIdeal.nD) → Buf (Elt Ideal) ((c.tc : Thread Cert.LrCtxIdeal.nD Cert.LrCtxIdeal.τ).loc Cert.LrCtxIdeal.main_v0)),
      θ_run (Cert.LrCtxIdeal.defs (F := Ideal)) (onTc (τ := Cert.LrCtxIdeal.τ) (Cert.LrCtxIdeal.main (F := Ideal))) ⟨m, fun _ => 0, g⟩ (fun r => ∀ c : Dev Cert.LrCtxIdeal.nD,
          r.2.mem ((c.tc : Thread Cert.LrCtxIdeal.nD Cert.LrCtxIdeal.τ).loc Cert.LrCtxIdeal.main_v0) = v0 c
          ∧ r.2.mem ((c.tc : Thread Cert.LrCtxIdeal.nD Cert.LrCtxIdeal.τ).loc Cert.LrCtxIdeal.main_arg0) = m ((c.tc : Thread Cert.LrCtxIdeal.nD Cert.LrCtxIdeal.τ).loc Cert.LrCtxIdeal.main_arg0)
          ∧ r.2.mem ((c.tc : Thread Cert.LrCtxIdeal.nD Cert.LrCtxIdeal.τ).loc Cert.LrCtxIdeal.main_arg1) = m ((c.tc : Thread Cert.LrCtxIdeal.nD Cert.LrCtxIdeal.τ).loc Cert.LrCtxIdeal.main_arg1))
      ∧ θ_run (Cert.LrCtxRefIdeal.defs (F := Ideal)) (onTc (τ := Cert.LrCtxRefIdeal.τ) (Cert.LrCtxRefIdeal.main (F := Ideal))) ⟨m', fun _ => 0, g'⟩ (fun r => ∀ c : Dev Cert.LrCtxRefIdeal.nD,
          r.2.mem ((c.tc : Thread Cert.LrCtxRefIdeal.nD Cert.LrCtxRefIdeal.τ).loc Cert.LrCtxRefIdeal.main_v2) = v0 c
          ∧ r.2.mem ((c.tc : Thread Cert.LrCtxRefIdeal.nD Cert.LrCtxRefIdeal.τ).loc Cert.LrCtxRefIdeal.main_arg0) = m' ((c.tc : Thread Cert.LrCtxRefIdeal.nD Cert.LrCtxRefIdeal.τ).loc Cert.LrCtxRefIdeal.main_arg0)
          ∧ r.2.mem ((c.tc : Thread Cert.LrCtxRefIdeal.nD Cert.LrCtxRefIdeal.τ).loc Cert.LrCtxRefIdeal.main_arg1) = m' ((c.tc : Thread Cert.LrCtxRefIdeal.nD Cert.LrCtxRefIdeal.τ).loc Cert.LrCtxRefIdeal.main_arg1))

def preserves_DwKvCtx_DwKvCtxIdeal : Prop :=
  True

def algebraic_DwKvCtxIdeal_DwKvCtxRefIdeal [hDwKvCtxIdeal : Cert.DwKvCtxIdeal.Facts] [hDwKvCtxRefIdeal : Cert.DwKvCtxRefIdeal.Facts] : Prop :=
  ∀ (m : (ℓ : Loc Cert.DwKvCtxIdeal.nD Cert.DwKvCtxIdeal.τ Cert.DwKvCtxIdeal.sig) → Buf (Elt Ideal) ℓ) (g : Dev Cert.DwKvCtxIdeal.nD → PrngReg)
    (m' : (ℓ : Loc Cert.DwKvCtxRefIdeal.nD Cert.DwKvCtxRefIdeal.τ Cert.DwKvCtxRefIdeal.sig) → Buf (Elt Ideal) ℓ) (g' : Dev Cert.DwKvCtxRefIdeal.nD → PrngReg), Pre_DwKvCtxIdeal m →
    (∀ c : Dev Cert.DwKvCtxIdeal.nD,
      m' ((c.tc : Thread Cert.DwKvCtxRefIdeal.nD Cert.DwKvCtxRefIdeal.τ).loc Cert.DwKvCtxRefIdeal.main_arg0) = m ((c.tc : Thread Cert.DwKvCtxIdeal.nD Cert.DwKvCtxIdeal.τ).loc Cert.DwKvCtxIdeal.main_arg0)
      ∧ m' ((c.tc : Thread Cert.DwKvCtxRefIdeal.nD Cert.DwKvCtxRefIdeal.τ).loc Cert.DwKvCtxRefIdeal.main_arg1) = m ((c.tc : Thread Cert.DwKvCtxIdeal.nD Cert.DwKvCtxIdeal.τ).loc Cert.DwKvCtxIdeal.main_arg1)) →
    ∃ (v0 : (c : Dev Cert.DwKvCtxIdeal.nD) → Buf (Elt Ideal) ((c.tc : Thread Cert.DwKvCtxIdeal.nD Cert.DwKvCtxIdeal.τ).loc Cert.DwKvCtxIdeal.main_v0)),
      θ_run (Cert.DwKvCtxIdeal.defs (F := Ideal)) (onTc (τ := Cert.DwKvCtxIdeal.τ) (Cert.DwKvCtxIdeal.main (F := Ideal))) ⟨m, fun _ => 0, g⟩ (fun r => ∀ c : Dev Cert.DwKvCtxIdeal.nD,
          r.2.mem ((c.tc : Thread Cert.DwKvCtxIdeal.nD Cert.DwKvCtxIdeal.τ).loc Cert.DwKvCtxIdeal.main_v0) = v0 c
          ∧ r.2.mem ((c.tc : Thread Cert.DwKvCtxIdeal.nD Cert.DwKvCtxIdeal.τ).loc Cert.DwKvCtxIdeal.main_arg0) = m ((c.tc : Thread Cert.DwKvCtxIdeal.nD Cert.DwKvCtxIdeal.τ).loc Cert.DwKvCtxIdeal.main_arg0)
          ∧ r.2.mem ((c.tc : Thread Cert.DwKvCtxIdeal.nD Cert.DwKvCtxIdeal.τ).loc Cert.DwKvCtxIdeal.main_arg1) = m ((c.tc : Thread Cert.DwKvCtxIdeal.nD Cert.DwKvCtxIdeal.τ).loc Cert.DwKvCtxIdeal.main_arg1))
      ∧ θ_run (Cert.DwKvCtxRefIdeal.defs (F := Ideal)) (onTc (τ := Cert.DwKvCtxRefIdeal.τ) (Cert.DwKvCtxRefIdeal.main (F := Ideal))) ⟨m', fun _ => 0, g'⟩ (fun r => ∀ c : Dev Cert.DwKvCtxRefIdeal.nD,
          r.2.mem ((c.tc : Thread Cert.DwKvCtxRefIdeal.nD Cert.DwKvCtxRefIdeal.τ).loc Cert.DwKvCtxRefIdeal.main_v3) = v0 c
          ∧ r.2.mem ((c.tc : Thread Cert.DwKvCtxRefIdeal.nD Cert.DwKvCtxRefIdeal.τ).loc Cert.DwKvCtxRefIdeal.main_arg0) = m' ((c.tc : Thread Cert.DwKvCtxRefIdeal.nD Cert.DwKvCtxRefIdeal.τ).loc Cert.DwKvCtxRefIdeal.main_arg0)
          ∧ r.2.mem ((c.tc : Thread Cert.DwKvCtxRefIdeal.nD Cert.DwKvCtxRefIdeal.τ).loc Cert.DwKvCtxRefIdeal.main_arg1) = m' ((c.tc : Thread Cert.DwKvCtxRefIdeal.nD Cert.DwKvCtxRefIdeal.τ).loc Cert.DwKvCtxRefIdeal.main_arg1))

def preserves_DwSqCtx_DwSqCtxIdeal : Prop :=
  True

def algebraic_DwSqCtxIdeal_DwSqCtxRefIdeal [hDwSqCtxIdeal : Cert.DwSqCtxIdeal.Facts] [hDwSqCtxRefIdeal : Cert.DwSqCtxRefIdeal.Facts] : Prop :=
  ∀ (m : (ℓ : Loc Cert.DwSqCtxIdeal.nD Cert.DwSqCtxIdeal.τ Cert.DwSqCtxIdeal.sig) → Buf (Elt Ideal) ℓ) (g : Dev Cert.DwSqCtxIdeal.nD → PrngReg)
    (m' : (ℓ : Loc Cert.DwSqCtxRefIdeal.nD Cert.DwSqCtxRefIdeal.τ Cert.DwSqCtxRefIdeal.sig) → Buf (Elt Ideal) ℓ) (g' : Dev Cert.DwSqCtxRefIdeal.nD → PrngReg), Pre_DwSqCtxIdeal m →
    (∀ c : Dev Cert.DwSqCtxIdeal.nD,
      m' ((c.tc : Thread Cert.DwSqCtxRefIdeal.nD Cert.DwSqCtxRefIdeal.τ).loc Cert.DwSqCtxRefIdeal.main_arg0) = m ((c.tc : Thread Cert.DwSqCtxIdeal.nD Cert.DwSqCtxIdeal.τ).loc Cert.DwSqCtxIdeal.main_arg0)
      ∧ m' ((c.tc : Thread Cert.DwSqCtxRefIdeal.nD Cert.DwSqCtxRefIdeal.τ).loc Cert.DwSqCtxRefIdeal.main_arg1) = m ((c.tc : Thread Cert.DwSqCtxIdeal.nD Cert.DwSqCtxIdeal.τ).loc Cert.DwSqCtxIdeal.main_arg1)) →
    ∃ (v0 : (c : Dev Cert.DwSqCtxIdeal.nD) → Buf (Elt Ideal) ((c.tc : Thread Cert.DwSqCtxIdeal.nD Cert.DwSqCtxIdeal.τ).loc Cert.DwSqCtxIdeal.main_v0)),
      θ_run (Cert.DwSqCtxIdeal.defs (F := Ideal)) (onTc (τ := Cert.DwSqCtxIdeal.τ) (Cert.DwSqCtxIdeal.main (F := Ideal))) ⟨m, fun _ => 0, g⟩ (fun r => ∀ c : Dev Cert.DwSqCtxIdeal.nD,
          r.2.mem ((c.tc : Thread Cert.DwSqCtxIdeal.nD Cert.DwSqCtxIdeal.τ).loc Cert.DwSqCtxIdeal.main_v0) = v0 c
          ∧ r.2.mem ((c.tc : Thread Cert.DwSqCtxIdeal.nD Cert.DwSqCtxIdeal.τ).loc Cert.DwSqCtxIdeal.main_arg0) = m ((c.tc : Thread Cert.DwSqCtxIdeal.nD Cert.DwSqCtxIdeal.τ).loc Cert.DwSqCtxIdeal.main_arg0)
          ∧ r.2.mem ((c.tc : Thread Cert.DwSqCtxIdeal.nD Cert.DwSqCtxIdeal.τ).loc Cert.DwSqCtxIdeal.main_arg1) = m ((c.tc : Thread Cert.DwSqCtxIdeal.nD Cert.DwSqCtxIdeal.τ).loc Cert.DwSqCtxIdeal.main_arg1))
      ∧ θ_run (Cert.DwSqCtxRefIdeal.defs (F := Ideal)) (onTc (τ := Cert.DwSqCtxRefIdeal.τ) (Cert.DwSqCtxRefIdeal.main (F := Ideal))) ⟨m', fun _ => 0, g'⟩ (fun r => ∀ c : Dev Cert.DwSqCtxRefIdeal.nD,
          r.2.mem ((c.tc : Thread Cert.DwSqCtxRefIdeal.nD Cert.DwSqCtxRefIdeal.τ).loc Cert.DwSqCtxRefIdeal.main_v3) = v0 c
          ∧ r.2.mem ((c.tc : Thread Cert.DwSqCtxRefIdeal.nD Cert.DwSqCtxRefIdeal.τ).loc Cert.DwSqCtxRefIdeal.main_arg0) = m' ((c.tc : Thread Cert.DwSqCtxRefIdeal.nD Cert.DwSqCtxRefIdeal.τ).loc Cert.DwSqCtxRefIdeal.main_arg0)
          ∧ r.2.mem ((c.tc : Thread Cert.DwSqCtxRefIdeal.nD Cert.DwSqCtxRefIdeal.τ).loc Cert.DwSqCtxRefIdeal.main_arg1) = m' ((c.tc : Thread Cert.DwSqCtxRefIdeal.nD Cert.DwSqCtxRefIdeal.τ).loc Cert.DwSqCtxRefIdeal.main_arg1))

def preserves_DwLrCtx_DwLrCtxIdeal : Prop :=
  True

def algebraic_DwLrCtxIdeal_DwLrCtxRefIdeal [hDwLrCtxIdeal : Cert.DwLrCtxIdeal.Facts] [hDwLrCtxRefIdeal : Cert.DwLrCtxRefIdeal.Facts] : Prop :=
  ∀ (m : (ℓ : Loc Cert.DwLrCtxIdeal.nD Cert.DwLrCtxIdeal.τ Cert.DwLrCtxIdeal.sig) → Buf (Elt Ideal) ℓ) (g : Dev Cert.DwLrCtxIdeal.nD → PrngReg)
    (m' : (ℓ : Loc Cert.DwLrCtxRefIdeal.nD Cert.DwLrCtxRefIdeal.τ Cert.DwLrCtxRefIdeal.sig) → Buf (Elt Ideal) ℓ) (g' : Dev Cert.DwLrCtxRefIdeal.nD → PrngReg), Pre_DwLrCtxIdeal m →
    (∀ c : Dev Cert.DwLrCtxIdeal.nD,
      m' ((c.tc : Thread Cert.DwLrCtxRefIdeal.nD Cert.DwLrCtxRefIdeal.τ).loc Cert.DwLrCtxRefIdeal.main_arg0) = m ((c.tc : Thread Cert.DwLrCtxIdeal.nD Cert.DwLrCtxIdeal.τ).loc Cert.DwLrCtxIdeal.main_arg0)
      ∧ m' ((c.tc : Thread Cert.DwLrCtxRefIdeal.nD Cert.DwLrCtxRefIdeal.τ).loc Cert.DwLrCtxRefIdeal.main_arg1) = m ((c.tc : Thread Cert.DwLrCtxIdeal.nD Cert.DwLrCtxIdeal.τ).loc Cert.DwLrCtxIdeal.main_arg1)) →
    ∃ (v0 : (c : Dev Cert.DwLrCtxIdeal.nD) → Buf (Elt Ideal) ((c.tc : Thread Cert.DwLrCtxIdeal.nD Cert.DwLrCtxIdeal.τ).loc Cert.DwLrCtxIdeal.main_v0)),
      θ_run (Cert.DwLrCtxIdeal.defs (F := Ideal)) (onTc (τ := Cert.DwLrCtxIdeal.τ) (Cert.DwLrCtxIdeal.main (F := Ideal))) ⟨m, fun _ => 0, g⟩ (fun r => ∀ c : Dev Cert.DwLrCtxIdeal.nD,
          r.2.mem ((c.tc : Thread Cert.DwLrCtxIdeal.nD Cert.DwLrCtxIdeal.τ).loc Cert.DwLrCtxIdeal.main_v0) = v0 c
          ∧ r.2.mem ((c.tc : Thread Cert.DwLrCtxIdeal.nD Cert.DwLrCtxIdeal.τ).loc Cert.DwLrCtxIdeal.main_arg0) = m ((c.tc : Thread Cert.DwLrCtxIdeal.nD Cert.DwLrCtxIdeal.τ).loc Cert.DwLrCtxIdeal.main_arg0)
          ∧ r.2.mem ((c.tc : Thread Cert.DwLrCtxIdeal.nD Cert.DwLrCtxIdeal.τ).loc Cert.DwLrCtxIdeal.main_arg1) = m ((c.tc : Thread Cert.DwLrCtxIdeal.nD Cert.DwLrCtxIdeal.τ).loc Cert.DwLrCtxIdeal.main_arg1))
      ∧ θ_run (Cert.DwLrCtxRefIdeal.defs (F := Ideal)) (onTc (τ := Cert.DwLrCtxRefIdeal.τ) (Cert.DwLrCtxRefIdeal.main (F := Ideal))) ⟨m', fun _ => 0, g'⟩ (fun r => ∀ c : Dev Cert.DwLrCtxRefIdeal.nD,
          r.2.mem ((c.tc : Thread Cert.DwLrCtxRefIdeal.nD Cert.DwLrCtxRefIdeal.τ).loc Cert.DwLrCtxRefIdeal.main_v3) = v0 c
          ∧ r.2.mem ((c.tc : Thread Cert.DwLrCtxRefIdeal.nD Cert.DwLrCtxRefIdeal.τ).loc Cert.DwLrCtxRefIdeal.main_arg0) = m' ((c.tc : Thread Cert.DwLrCtxRefIdeal.nD Cert.DwLrCtxRefIdeal.τ).loc Cert.DwLrCtxRefIdeal.main_arg0)
          ∧ r.2.mem ((c.tc : Thread Cert.DwLrCtxRefIdeal.nD Cert.DwLrCtxRefIdeal.τ).loc Cert.DwLrCtxRefIdeal.main_arg1) = m' ((c.tc : Thread Cert.DwLrCtxRefIdeal.nD Cert.DwLrCtxRefIdeal.τ).loc Cert.DwLrCtxRefIdeal.main_arg1))

def preserves_DhcKv_DhcKvIdeal : Prop :=
  True

def algebraic_DhcKvIdeal_DhcKvRefIdeal [hDhcKvIdeal : Cert.DhcKvIdeal.Facts] [hDhcKvRefIdeal : Cert.DhcKvRefIdeal.Facts] : Prop :=
  ∀ (m : (ℓ : Loc Cert.DhcKvIdeal.nD Cert.DhcKvIdeal.τ Cert.DhcKvIdeal.sig) → Buf (Elt Ideal) ℓ) (g : Dev Cert.DhcKvIdeal.nD → PrngReg)
    (m' : (ℓ : Loc Cert.DhcKvRefIdeal.nD Cert.DhcKvRefIdeal.τ Cert.DhcKvRefIdeal.sig) → Buf (Elt Ideal) ℓ) (g' : Dev Cert.DhcKvRefIdeal.nD → PrngReg), Pre_DhcKvIdeal m →
    (∀ c : Dev Cert.DhcKvIdeal.nD,
      m' ((c.tc : Thread Cert.DhcKvRefIdeal.nD Cert.DhcKvRefIdeal.τ).loc Cert.DhcKvRefIdeal.main_arg0) = m ((c.tc : Thread Cert.DhcKvIdeal.nD Cert.DhcKvIdeal.τ).loc Cert.DhcKvIdeal.main_arg0)
      ∧ m' ((c.tc : Thread Cert.DhcKvRefIdeal.nD Cert.DhcKvRefIdeal.τ).loc Cert.DhcKvRefIdeal.main_arg1) = m ((c.tc : Thread Cert.DhcKvIdeal.nD Cert.DhcKvIdeal.τ).loc Cert.DhcKvIdeal.main_arg1)) →
    ∃ (v0 : (c : Dev Cert.DhcKvIdeal.nD) → Buf (Elt Ideal) ((c.tc : Thread Cert.DhcKvIdeal.nD Cert.DhcKvIdeal.τ).loc Cert.DhcKvIdeal.main_v0)),
      θ_run (Cert.DhcKvIdeal.defs (F := Ideal)) (onTc (τ := Cert.DhcKvIdeal.τ) (Cert.DhcKvIdeal.main (F := Ideal))) ⟨m, fun _ => 0, g⟩ (fun r => ∀ c : Dev Cert.DhcKvIdeal.nD,
          r.2.mem ((c.tc : Thread Cert.DhcKvIdeal.nD Cert.DhcKvIdeal.τ).loc Cert.DhcKvIdeal.main_v0) = v0 c
          ∧ r.2.mem ((c.tc : Thread Cert.DhcKvIdeal.nD Cert.DhcKvIdeal.τ).loc Cert.DhcKvIdeal.main_arg0) = m ((c.tc : Thread Cert.DhcKvIdeal.nD Cert.DhcKvIdeal.τ).loc Cert.DhcKvIdeal.main_arg0)
          ∧ r.2.mem ((c.tc : Thread Cert.DhcKvIdeal.nD Cert.DhcKvIdeal.τ).loc Cert.DhcKvIdeal.main_arg1) = m ((c.tc : Thread Cert.DhcKvIdeal.nD Cert.DhcKvIdeal.τ).loc Cert.DhcKvIdeal.main_arg1))
      ∧ θ_run (Cert.DhcKvRefIdeal.defs (F := Ideal)) (onTc (τ := Cert.DhcKvRefIdeal.τ) (Cert.DhcKvRefIdeal.main (F := Ideal))) ⟨m', fun _ => 0, g'⟩ (fun r => ∀ c : Dev Cert.DhcKvRefIdeal.nD,
          r.2.mem ((c.tc : Thread Cert.DhcKvRefIdeal.nD Cert.DhcKvRefIdeal.τ).loc Cert.DhcKvRefIdeal.main_v2) = v0 c
          ∧ r.2.mem ((c.tc : Thread Cert.DhcKvRefIdeal.nD Cert.DhcKvRefIdeal.τ).loc Cert.DhcKvRefIdeal.main_arg0) = m' ((c.tc : Thread Cert.DhcKvRefIdeal.nD Cert.DhcKvRefIdeal.τ).loc Cert.DhcKvRefIdeal.main_arg0)
          ∧ r.2.mem ((c.tc : Thread Cert.DhcKvRefIdeal.nD Cert.DhcKvRefIdeal.τ).loc Cert.DhcKvRefIdeal.main_arg1) = m' ((c.tc : Thread Cert.DhcKvRefIdeal.nD Cert.DhcKvRefIdeal.τ).loc Cert.DhcKvRefIdeal.main_arg1))

def preserves_DhcSq_DhcSqIdeal : Prop :=
  True

def algebraic_DhcSqIdeal_DhcSqRefIdeal [hDhcSqIdeal : Cert.DhcSqIdeal.Facts] [hDhcSqRefIdeal : Cert.DhcSqRefIdeal.Facts] : Prop :=
  ∀ (m : (ℓ : Loc Cert.DhcSqIdeal.nD Cert.DhcSqIdeal.τ Cert.DhcSqIdeal.sig) → Buf (Elt Ideal) ℓ) (g : Dev Cert.DhcSqIdeal.nD → PrngReg)
    (m' : (ℓ : Loc Cert.DhcSqRefIdeal.nD Cert.DhcSqRefIdeal.τ Cert.DhcSqRefIdeal.sig) → Buf (Elt Ideal) ℓ) (g' : Dev Cert.DhcSqRefIdeal.nD → PrngReg), Pre_DhcSqIdeal m →
    (∀ c : Dev Cert.DhcSqIdeal.nD,
      m' ((c.tc : Thread Cert.DhcSqRefIdeal.nD Cert.DhcSqRefIdeal.τ).loc Cert.DhcSqRefIdeal.main_arg0) = m ((c.tc : Thread Cert.DhcSqIdeal.nD Cert.DhcSqIdeal.τ).loc Cert.DhcSqIdeal.main_arg0)
      ∧ m' ((c.tc : Thread Cert.DhcSqRefIdeal.nD Cert.DhcSqRefIdeal.τ).loc Cert.DhcSqRefIdeal.main_arg1) = m ((c.tc : Thread Cert.DhcSqIdeal.nD Cert.DhcSqIdeal.τ).loc Cert.DhcSqIdeal.main_arg1)
      ∧ m' ((c.tc : Thread Cert.DhcSqRefIdeal.nD Cert.DhcSqRefIdeal.τ).loc Cert.DhcSqRefIdeal.main_arg2) = m ((c.tc : Thread Cert.DhcSqIdeal.nD Cert.DhcSqIdeal.τ).loc Cert.DhcSqIdeal.main_arg2)) →
    ∃ (v0 : (c : Dev Cert.DhcSqIdeal.nD) → Buf (Elt Ideal) ((c.tc : Thread Cert.DhcSqIdeal.nD Cert.DhcSqIdeal.τ).loc Cert.DhcSqIdeal.main_v0)),
      θ_run (Cert.DhcSqIdeal.defs (F := Ideal)) (onTc (τ := Cert.DhcSqIdeal.τ) (Cert.DhcSqIdeal.main (F := Ideal))) ⟨m, fun _ => 0, g⟩ (fun r => ∀ c : Dev Cert.DhcSqIdeal.nD,
          r.2.mem ((c.tc : Thread Cert.DhcSqIdeal.nD Cert.DhcSqIdeal.τ).loc Cert.DhcSqIdeal.main_v0) = v0 c
          ∧ r.2.mem ((c.tc : Thread Cert.DhcSqIdeal.nD Cert.DhcSqIdeal.τ).loc Cert.DhcSqIdeal.main_arg0) = m ((c.tc : Thread Cert.DhcSqIdeal.nD Cert.DhcSqIdeal.τ).loc Cert.DhcSqIdeal.main_arg0)
          ∧ r.2.mem ((c.tc : Thread Cert.DhcSqIdeal.nD Cert.DhcSqIdeal.τ).loc Cert.DhcSqIdeal.main_arg1) = m ((c.tc : Thread Cert.DhcSqIdeal.nD Cert.DhcSqIdeal.τ).loc Cert.DhcSqIdeal.main_arg1)
          ∧ r.2.mem ((c.tc : Thread Cert.DhcSqIdeal.nD Cert.DhcSqIdeal.τ).loc Cert.DhcSqIdeal.main_arg2) = m ((c.tc : Thread Cert.DhcSqIdeal.nD Cert.DhcSqIdeal.τ).loc Cert.DhcSqIdeal.main_arg2))
      ∧ θ_run (Cert.DhcSqRefIdeal.defs (F := Ideal)) (onTc (τ := Cert.DhcSqRefIdeal.τ) (Cert.DhcSqRefIdeal.main (F := Ideal))) ⟨m', fun _ => 0, g'⟩ (fun r => ∀ c : Dev Cert.DhcSqRefIdeal.nD,
          r.2.mem ((c.tc : Thread Cert.DhcSqRefIdeal.nD Cert.DhcSqRefIdeal.τ).loc Cert.DhcSqRefIdeal.main_v3) = v0 c
          ∧ r.2.mem ((c.tc : Thread Cert.DhcSqRefIdeal.nD Cert.DhcSqRefIdeal.τ).loc Cert.DhcSqRefIdeal.main_arg0) = m' ((c.tc : Thread Cert.DhcSqRefIdeal.nD Cert.DhcSqRefIdeal.τ).loc Cert.DhcSqRefIdeal.main_arg0)
          ∧ r.2.mem ((c.tc : Thread Cert.DhcSqRefIdeal.nD Cert.DhcSqRefIdeal.τ).loc Cert.DhcSqRefIdeal.main_arg1) = m' ((c.tc : Thread Cert.DhcSqRefIdeal.nD Cert.DhcSqRefIdeal.τ).loc Cert.DhcSqRefIdeal.main_arg1)
          ∧ r.2.mem ((c.tc : Thread Cert.DhcSqRefIdeal.nD Cert.DhcSqRefIdeal.τ).loc Cert.DhcSqRefIdeal.main_arg2) = m' ((c.tc : Thread Cert.DhcSqRefIdeal.nD Cert.DhcSqRefIdeal.τ).loc Cert.DhcSqRefIdeal.main_arg2))

def preserves_DhcLr_DhcLrIdeal : Prop :=
  True

def algebraic_DhcLrIdeal_DhcLrRefIdeal [hDhcLrIdeal : Cert.DhcLrIdeal.Facts] [hDhcLrRefIdeal : Cert.DhcLrRefIdeal.Facts] : Prop :=
  ∀ (m : (ℓ : Loc Cert.DhcLrIdeal.nD Cert.DhcLrIdeal.τ Cert.DhcLrIdeal.sig) → Buf (Elt Ideal) ℓ) (g : Dev Cert.DhcLrIdeal.nD → PrngReg)
    (m' : (ℓ : Loc Cert.DhcLrRefIdeal.nD Cert.DhcLrRefIdeal.τ Cert.DhcLrRefIdeal.sig) → Buf (Elt Ideal) ℓ) (g' : Dev Cert.DhcLrRefIdeal.nD → PrngReg), Pre_DhcLrIdeal m →
    (∀ c : Dev Cert.DhcLrIdeal.nD,
      m' ((c.tc : Thread Cert.DhcLrRefIdeal.nD Cert.DhcLrRefIdeal.τ).loc Cert.DhcLrRefIdeal.main_arg0) = m ((c.tc : Thread Cert.DhcLrIdeal.nD Cert.DhcLrIdeal.τ).loc Cert.DhcLrIdeal.main_arg0)
      ∧ m' ((c.tc : Thread Cert.DhcLrRefIdeal.nD Cert.DhcLrRefIdeal.τ).loc Cert.DhcLrRefIdeal.main_arg1) = m ((c.tc : Thread Cert.DhcLrIdeal.nD Cert.DhcLrIdeal.τ).loc Cert.DhcLrIdeal.main_arg1)
      ∧ m' ((c.tc : Thread Cert.DhcLrRefIdeal.nD Cert.DhcLrRefIdeal.τ).loc Cert.DhcLrRefIdeal.main_arg2) = m ((c.tc : Thread Cert.DhcLrIdeal.nD Cert.DhcLrIdeal.τ).loc Cert.DhcLrIdeal.main_arg2)) →
    ∃ (v0 : (c : Dev Cert.DhcLrIdeal.nD) → Buf (Elt Ideal) ((c.tc : Thread Cert.DhcLrIdeal.nD Cert.DhcLrIdeal.τ).loc Cert.DhcLrIdeal.main_v0)),
      θ_run (Cert.DhcLrIdeal.defs (F := Ideal)) (onTc (τ := Cert.DhcLrIdeal.τ) (Cert.DhcLrIdeal.main (F := Ideal))) ⟨m, fun _ => 0, g⟩ (fun r => ∀ c : Dev Cert.DhcLrIdeal.nD,
          r.2.mem ((c.tc : Thread Cert.DhcLrIdeal.nD Cert.DhcLrIdeal.τ).loc Cert.DhcLrIdeal.main_v0) = v0 c
          ∧ r.2.mem ((c.tc : Thread Cert.DhcLrIdeal.nD Cert.DhcLrIdeal.τ).loc Cert.DhcLrIdeal.main_arg0) = m ((c.tc : Thread Cert.DhcLrIdeal.nD Cert.DhcLrIdeal.τ).loc Cert.DhcLrIdeal.main_arg0)
          ∧ r.2.mem ((c.tc : Thread Cert.DhcLrIdeal.nD Cert.DhcLrIdeal.τ).loc Cert.DhcLrIdeal.main_arg1) = m ((c.tc : Thread Cert.DhcLrIdeal.nD Cert.DhcLrIdeal.τ).loc Cert.DhcLrIdeal.main_arg1)
          ∧ r.2.mem ((c.tc : Thread Cert.DhcLrIdeal.nD Cert.DhcLrIdeal.τ).loc Cert.DhcLrIdeal.main_arg2) = m ((c.tc : Thread Cert.DhcLrIdeal.nD Cert.DhcLrIdeal.τ).loc Cert.DhcLrIdeal.main_arg2))
      ∧ θ_run (Cert.DhcLrRefIdeal.defs (F := Ideal)) (onTc (τ := Cert.DhcLrRefIdeal.τ) (Cert.DhcLrRefIdeal.main (F := Ideal))) ⟨m', fun _ => 0, g'⟩ (fun r => ∀ c : Dev Cert.DhcLrRefIdeal.nD,
          r.2.mem ((c.tc : Thread Cert.DhcLrRefIdeal.nD Cert.DhcLrRefIdeal.τ).loc Cert.DhcLrRefIdeal.main_v3) = v0 c
          ∧ r.2.mem ((c.tc : Thread Cert.DhcLrRefIdeal.nD Cert.DhcLrRefIdeal.τ).loc Cert.DhcLrRefIdeal.main_arg0) = m' ((c.tc : Thread Cert.DhcLrRefIdeal.nD Cert.DhcLrRefIdeal.τ).loc Cert.DhcLrRefIdeal.main_arg0)
          ∧ r.2.mem ((c.tc : Thread Cert.DhcLrRefIdeal.nD Cert.DhcLrRefIdeal.τ).loc Cert.DhcLrRefIdeal.main_arg1) = m' ((c.tc : Thread Cert.DhcLrRefIdeal.nD Cert.DhcLrRefIdeal.τ).loc Cert.DhcLrRefIdeal.main_arg1)
          ∧ r.2.mem ((c.tc : Thread Cert.DhcLrRefIdeal.nD Cert.DhcLrRefIdeal.τ).loc Cert.DhcLrRefIdeal.main_arg2) = m' ((c.tc : Thread Cert.DhcLrRefIdeal.nD Cert.DhcLrRefIdeal.τ).loc Cert.DhcLrRefIdeal.main_arg2))

def preserves_Lr_LrIdeal : Prop :=
  True

def algebraic_LrIdeal_LrRefIdeal [hLrIdeal : Cert.LrIdeal.Facts] [hLrRefIdeal : Cert.LrRefIdeal.Facts] : Prop :=
  ∀ (m : (ℓ : Loc Cert.LrIdeal.nD Cert.LrIdeal.τ Cert.LrIdeal.sig) → Buf (Elt Ideal) ℓ) (g : Dev Cert.LrIdeal.nD → PrngReg)
    (m' : (ℓ : Loc Cert.LrRefIdeal.nD Cert.LrRefIdeal.τ Cert.LrRefIdeal.sig) → Buf (Elt Ideal) ℓ) (g' : Dev Cert.LrRefIdeal.nD → PrngReg), Pre_LrIdeal m →
    (∀ c : Dev Cert.LrIdeal.nD,
      m' ((c.tc : Thread Cert.LrRefIdeal.nD Cert.LrRefIdeal.τ).loc Cert.LrRefIdeal.main_arg0) = m ((c.tc : Thread Cert.LrIdeal.nD Cert.LrIdeal.τ).loc Cert.LrIdeal.main_arg0)
      ∧ m' ((c.tc : Thread Cert.LrRefIdeal.nD Cert.LrRefIdeal.τ).loc Cert.LrRefIdeal.main_arg1) = m ((c.tc : Thread Cert.LrIdeal.nD Cert.LrIdeal.τ).loc Cert.LrIdeal.main_arg1)) →
    ∃ (v0 : (c : Dev Cert.LrIdeal.nD) → Buf (Elt Ideal) ((c.tc : Thread Cert.LrIdeal.nD Cert.LrIdeal.τ).loc Cert.LrIdeal.main_v0)),
      θ_run (Cert.LrIdeal.defs (F := Ideal)) (onTc (τ := Cert.LrIdeal.τ) (Cert.LrIdeal.main (F := Ideal))) ⟨m, fun _ => 0, g⟩ (fun r => ∀ c : Dev Cert.LrIdeal.nD,
          r.2.mem ((c.tc : Thread Cert.LrIdeal.nD Cert.LrIdeal.τ).loc Cert.LrIdeal.main_v0) = v0 c
          ∧ r.2.mem ((c.tc : Thread Cert.LrIdeal.nD Cert.LrIdeal.τ).loc Cert.LrIdeal.main_arg0) = m ((c.tc : Thread Cert.LrIdeal.nD Cert.LrIdeal.τ).loc Cert.LrIdeal.main_arg0)
          ∧ r.2.mem ((c.tc : Thread Cert.LrIdeal.nD Cert.LrIdeal.τ).loc Cert.LrIdeal.main_arg1) = m ((c.tc : Thread Cert.LrIdeal.nD Cert.LrIdeal.τ).loc Cert.LrIdeal.main_arg1))
      ∧ θ_run (Cert.LrRefIdeal.defs (F := Ideal)) (onTc (τ := Cert.LrRefIdeal.τ) (Cert.LrRefIdeal.main (F := Ideal))) ⟨m', fun _ => 0, g'⟩ (fun r => ∀ c : Dev Cert.LrRefIdeal.nD,
          r.2.mem ((c.tc : Thread Cert.LrRefIdeal.nD Cert.LrRefIdeal.τ).loc Cert.LrRefIdeal.main_v2) = v0 c
          ∧ r.2.mem ((c.tc : Thread Cert.LrRefIdeal.nD Cert.LrRefIdeal.τ).loc Cert.LrRefIdeal.main_arg0) = m' ((c.tc : Thread Cert.LrRefIdeal.nD Cert.LrRefIdeal.τ).loc Cert.LrRefIdeal.main_arg0)
          ∧ r.2.mem ((c.tc : Thread Cert.LrRefIdeal.nD Cert.LrRefIdeal.τ).loc Cert.LrRefIdeal.main_arg1) = m' ((c.tc : Thread Cert.LrRefIdeal.nD Cert.LrRefIdeal.τ).loc Cert.LrRefIdeal.main_arg1))

def preserves_DhLr_DhLrIdeal : Prop :=
  True

def algebraic_DhLrIdeal_DhLrRefIdeal [hDhLrIdeal : Cert.DhLrIdeal.Facts] [hDhLrRefIdeal : Cert.DhLrRefIdeal.Facts] : Prop :=
  ∀ (m : (ℓ : Loc Cert.DhLrIdeal.nD Cert.DhLrIdeal.τ Cert.DhLrIdeal.sig) → Buf (Elt Ideal) ℓ) (g : Dev Cert.DhLrIdeal.nD → PrngReg)
    (m' : (ℓ : Loc Cert.DhLrRefIdeal.nD Cert.DhLrRefIdeal.τ Cert.DhLrRefIdeal.sig) → Buf (Elt Ideal) ℓ) (g' : Dev Cert.DhLrRefIdeal.nD → PrngReg), Pre_DhLrIdeal m →
    (∀ c : Dev Cert.DhLrIdeal.nD,
      m' ((c.tc : Thread Cert.DhLrRefIdeal.nD Cert.DhLrRefIdeal.τ).loc Cert.DhLrRefIdeal.main_arg0) = m ((c.tc : Thread Cert.DhLrIdeal.nD Cert.DhLrIdeal.τ).loc Cert.DhLrIdeal.main_arg0)
      ∧ m' ((c.tc : Thread Cert.DhLrRefIdeal.nD Cert.DhLrRefIdeal.τ).loc Cert.DhLrRefIdeal.main_arg1) = m ((c.tc : Thread Cert.DhLrIdeal.nD Cert.DhLrIdeal.τ).loc Cert.DhLrIdeal.main_arg1)
      ∧ m' ((c.tc : Thread Cert.DhLrRefIdeal.nD Cert.DhLrRefIdeal.τ).loc Cert.DhLrRefIdeal.main_arg2) = m ((c.tc : Thread Cert.DhLrIdeal.nD Cert.DhLrIdeal.τ).loc Cert.DhLrIdeal.main_arg2)) →
    ∃ (v0 : (c : Dev Cert.DhLrIdeal.nD) → Buf (Elt Ideal) ((c.tc : Thread Cert.DhLrIdeal.nD Cert.DhLrIdeal.τ).loc Cert.DhLrIdeal.main_v0)),
      θ_run (Cert.DhLrIdeal.defs (F := Ideal)) (onTc (τ := Cert.DhLrIdeal.τ) (Cert.DhLrIdeal.main (F := Ideal))) ⟨m, fun _ => 0, g⟩ (fun r => ∀ c : Dev Cert.DhLrIdeal.nD,
          r.2.mem ((c.tc : Thread Cert.DhLrIdeal.nD Cert.DhLrIdeal.τ).loc Cert.DhLrIdeal.main_v0) = v0 c
          ∧ r.2.mem ((c.tc : Thread Cert.DhLrIdeal.nD Cert.DhLrIdeal.τ).loc Cert.DhLrIdeal.main_arg0) = m ((c.tc : Thread Cert.DhLrIdeal.nD Cert.DhLrIdeal.τ).loc Cert.DhLrIdeal.main_arg0)
          ∧ r.2.mem ((c.tc : Thread Cert.DhLrIdeal.nD Cert.DhLrIdeal.τ).loc Cert.DhLrIdeal.main_arg1) = m ((c.tc : Thread Cert.DhLrIdeal.nD Cert.DhLrIdeal.τ).loc Cert.DhLrIdeal.main_arg1)
          ∧ r.2.mem ((c.tc : Thread Cert.DhLrIdeal.nD Cert.DhLrIdeal.τ).loc Cert.DhLrIdeal.main_arg2) = m ((c.tc : Thread Cert.DhLrIdeal.nD Cert.DhLrIdeal.τ).loc Cert.DhLrIdeal.main_arg2))
      ∧ θ_run (Cert.DhLrRefIdeal.defs (F := Ideal)) (onTc (τ := Cert.DhLrRefIdeal.τ) (Cert.DhLrRefIdeal.main (F := Ideal))) ⟨m', fun _ => 0, g'⟩ (fun r => ∀ c : Dev Cert.DhLrRefIdeal.nD,
          r.2.mem ((c.tc : Thread Cert.DhLrRefIdeal.nD Cert.DhLrRefIdeal.τ).loc Cert.DhLrRefIdeal.main_v3) = v0 c
          ∧ r.2.mem ((c.tc : Thread Cert.DhLrRefIdeal.nD Cert.DhLrRefIdeal.τ).loc Cert.DhLrRefIdeal.main_arg0) = m' ((c.tc : Thread Cert.DhLrRefIdeal.nD Cert.DhLrRefIdeal.τ).loc Cert.DhLrRefIdeal.main_arg0)
          ∧ r.2.mem ((c.tc : Thread Cert.DhLrRefIdeal.nD Cert.DhLrRefIdeal.τ).loc Cert.DhLrRefIdeal.main_arg1) = m' ((c.tc : Thread Cert.DhLrRefIdeal.nD Cert.DhLrRefIdeal.τ).loc Cert.DhLrRefIdeal.main_arg1)
          ∧ r.2.mem ((c.tc : Thread Cert.DhLrRefIdeal.nD Cert.DhLrRefIdeal.τ).loc Cert.DhLrRefIdeal.main_arg2) = m' ((c.tc : Thread Cert.DhLrRefIdeal.nD Cert.DhLrRefIdeal.τ).loc Cert.DhLrRefIdeal.main_arg2))

def preserves_DwLr_DwLrIdeal : Prop :=
  True

def algebraic_DwLrIdeal_DwLrRefIdeal [hDwLrIdeal : Cert.DwLrIdeal.Facts] [hDwLrRefIdeal : Cert.DwLrRefIdeal.Facts] : Prop :=
  ∀ (m : (ℓ : Loc Cert.DwLrIdeal.nD Cert.DwLrIdeal.τ Cert.DwLrIdeal.sig) → Buf (Elt Ideal) ℓ) (g : Dev Cert.DwLrIdeal.nD → PrngReg)
    (m' : (ℓ : Loc Cert.DwLrRefIdeal.nD Cert.DwLrRefIdeal.τ Cert.DwLrRefIdeal.sig) → Buf (Elt Ideal) ℓ) (g' : Dev Cert.DwLrRefIdeal.nD → PrngReg), Pre_DwLrIdeal m →
    (∀ c : Dev Cert.DwLrIdeal.nD,
      m' ((c.tc : Thread Cert.DwLrRefIdeal.nD Cert.DwLrRefIdeal.τ).loc Cert.DwLrRefIdeal.main_arg0) = m ((c.tc : Thread Cert.DwLrIdeal.nD Cert.DwLrIdeal.τ).loc Cert.DwLrIdeal.main_arg0)
      ∧ m' ((c.tc : Thread Cert.DwLrRefIdeal.nD Cert.DwLrRefIdeal.τ).loc Cert.DwLrRefIdeal.main_arg1) = m ((c.tc : Thread Cert.DwLrIdeal.nD Cert.DwLrIdeal.τ).loc Cert.DwLrIdeal.main_arg1)
      ∧ m' ((c.tc : Thread Cert.DwLrRefIdeal.nD Cert.DwLrRefIdeal.τ).loc Cert.DwLrRefIdeal.main_arg2) = m ((c.tc : Thread Cert.DwLrIdeal.nD Cert.DwLrIdeal.τ).loc Cert.DwLrIdeal.main_arg2)) →
    ∃ (v0 : (c : Dev Cert.DwLrIdeal.nD) → Buf (Elt Ideal) ((c.tc : Thread Cert.DwLrIdeal.nD Cert.DwLrIdeal.τ).loc Cert.DwLrIdeal.main_v0)),
      θ_run (Cert.DwLrIdeal.defs (F := Ideal)) (onTc (τ := Cert.DwLrIdeal.τ) (Cert.DwLrIdeal.main (F := Ideal))) ⟨m, fun _ => 0, g⟩ (fun r => ∀ c : Dev Cert.DwLrIdeal.nD,
          r.2.mem ((c.tc : Thread Cert.DwLrIdeal.nD Cert.DwLrIdeal.τ).loc Cert.DwLrIdeal.main_v0) = v0 c
          ∧ r.2.mem ((c.tc : Thread Cert.DwLrIdeal.nD Cert.DwLrIdeal.τ).loc Cert.DwLrIdeal.main_arg0) = m ((c.tc : Thread Cert.DwLrIdeal.nD Cert.DwLrIdeal.τ).loc Cert.DwLrIdeal.main_arg0)
          ∧ r.2.mem ((c.tc : Thread Cert.DwLrIdeal.nD Cert.DwLrIdeal.τ).loc Cert.DwLrIdeal.main_arg1) = m ((c.tc : Thread Cert.DwLrIdeal.nD Cert.DwLrIdeal.τ).loc Cert.DwLrIdeal.main_arg1)
          ∧ r.2.mem ((c.tc : Thread Cert.DwLrIdeal.nD Cert.DwLrIdeal.τ).loc Cert.DwLrIdeal.main_arg2) = m ((c.tc : Thread Cert.DwLrIdeal.nD Cert.DwLrIdeal.τ).loc Cert.DwLrIdeal.main_arg2))
      ∧ θ_run (Cert.DwLrRefIdeal.defs (F := Ideal)) (onTc (τ := Cert.DwLrRefIdeal.τ) (Cert.DwLrRefIdeal.main (F := Ideal))) ⟨m', fun _ => 0, g'⟩ (fun r => ∀ c : Dev Cert.DwLrRefIdeal.nD,
          r.2.mem ((c.tc : Thread Cert.DwLrRefIdeal.nD Cert.DwLrRefIdeal.τ).loc Cert.DwLrRefIdeal.main_v5) = v0 c
          ∧ r.2.mem ((c.tc : Thread Cert.DwLrRefIdeal.nD Cert.DwLrRefIdeal.τ).loc Cert.DwLrRefIdeal.main_arg0) = m' ((c.tc : Thread Cert.DwLrRefIdeal.nD Cert.DwLrRefIdeal.τ).loc Cert.DwLrRefIdeal.main_arg0)
          ∧ r.2.mem ((c.tc : Thread Cert.DwLrRefIdeal.nD Cert.DwLrRefIdeal.τ).loc Cert.DwLrRefIdeal.main_arg1) = m' ((c.tc : Thread Cert.DwLrRefIdeal.nD Cert.DwLrRefIdeal.τ).loc Cert.DwLrRefIdeal.main_arg1)
          ∧ r.2.mem ((c.tc : Thread Cert.DwLrRefIdeal.nD Cert.DwLrRefIdeal.τ).loc Cert.DwLrRefIdeal.main_arg2) = m' ((c.tc : Thread Cert.DwLrRefIdeal.nD Cert.DwLrRefIdeal.τ).loc Cert.DwLrRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v17) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v32) = v0 c
          ∧ r.2.mem ((c.tc : Thread Cert.MergeBwdRefIdeal.nD Cert.MergeBwdRefIdeal.τ).loc Cert.MergeBwdRefIdeal.main_v33) = v1 c
          ∧ r.2.mem ((c.tc : Thread Cert.MergeBwdRefIdeal.nD Cert.MergeBwdRefIdeal.τ).loc Cert.MergeBwdRefIdeal.main_v34) = v2 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v50) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hDf : Cert.Df.Facts) (hDfIdeal : Cert.DfIdeal.Facts) (hDfRefIdeal : Cert.DfRefIdeal.Facts) (hDwDown : Cert.DwDown.Facts) (hDwDownIdeal : Cert.DwDownIdeal.Facts) (hDwDownRefIdeal : Cert.DwDownRefIdeal.Facts) (hDh : Cert.Dh.Facts) (hDhIdeal : Cert.DhIdeal.Facts) (hDhRefIdeal : Cert.DhRefIdeal.Facts) (hDhAdd : Cert.DhAdd.Facts) (hDhAddIdeal : Cert.DhAddIdeal.Facts) (hDhAddRefIdeal : Cert.DhAddRefIdeal.Facts) (hDwUp : Cert.DwUp.Facts) (hDwUpIdeal : Cert.DwUpIdeal.Facts) (hDwUpRefIdeal : Cert.DwUpRefIdeal.Facts) (hSq : Cert.Sq.Facts) (hSqIdeal : Cert.SqIdeal.Facts) (hSqRefIdeal : Cert.SqRefIdeal.Facts) (hDsq : Cert.Dsq.Facts) (hDsqIdeal : Cert.DsqIdeal.Facts) (hDsqRefIdeal : Cert.DsqRefIdeal.Facts) (hDwSq : Cert.DwSq.Facts) (hDwSqIdeal : Cert.DwSqIdeal.Facts) (hDwSqRefIdeal : Cert.DwSqRefIdeal.Facts) (hDoAttn : Cert.DoAttn.Facts) (hDoAttnIdeal : Cert.DoAttnIdeal.Facts) (hDoAttnRefIdeal : Cert.DoAttnRefIdeal.Facts) (hDsqAdd : Cert.DsqAdd.Facts) (hDsqAddIdeal : Cert.DsqAddIdeal.Facts) (hDsqAddRefIdeal : Cert.DsqAddRefIdeal.Facts) (hDwSqAdd : Cert.DwSqAdd.Facts) (hDwSqAddIdeal : Cert.DwSqAddIdeal.Facts) (hDwSqAddRefIdeal : Cert.DwSqAddRefIdeal.Facts) (hGab : Cert.Gab.Facts) (hGabIdeal : Cert.GabIdeal.Facts) (hGabRefIdeal : Cert.GabRefIdeal.Facts) (hDhGab : Cert.DhGab.Facts) (hDhGabIdeal : Cert.DhGabIdeal.Facts) (hDhGabRefIdeal : Cert.DhGabRefIdeal.Facts) (hDwGab : Cert.DwGab.Facts) (hDwGabIdeal : Cert.DwGabIdeal.Facts) (hDwGabRefIdeal : Cert.DwGabRefIdeal.Facts) (hKv : Cert.Kv.Facts) (hKvIdeal : Cert.KvIdeal.Facts) (hKvRefIdeal : Cert.KvRefIdeal.Facts) (hDhKv : Cert.DhKv.Facts) (hDhKvIdeal : Cert.DhKvIdeal.Facts) (hDhKvRefIdeal : Cert.DhKvRefIdeal.Facts) (hDwKv : Cert.DwKv.Facts) (hDwKvIdeal : Cert.DwKvIdeal.Facts) (hDwKvRefIdeal : Cert.DwKvRefIdeal.Facts) (hKvCtx : Cert.KvCtx.Facts) (hKvCtxIdeal : Cert.KvCtxIdeal.Facts) (hKvCtxRefIdeal : Cert.KvCtxRefIdeal.Facts) (hSqCtx : Cert.SqCtx.Facts) (hSqCtxIdeal : Cert.SqCtxIdeal.Facts) (hSqCtxRefIdeal : Cert.SqCtxRefIdeal.Facts) (hLrCtx : Cert.LrCtx.Facts) (hLrCtxIdeal : Cert.LrCtxIdeal.Facts) (hLrCtxRefIdeal : Cert.LrCtxRefIdeal.Facts) (hDwKvCtx : Cert.DwKvCtx.Facts) (hDwKvCtxIdeal : Cert.DwKvCtxIdeal.Facts) (hDwKvCtxRefIdeal : Cert.DwKvCtxRefIdeal.Facts) (hDwSqCtx : Cert.DwSqCtx.Facts) (hDwSqCtxIdeal : Cert.DwSqCtxIdeal.Facts) (hDwSqCtxRefIdeal : Cert.DwSqCtxRefIdeal.Facts) (hDwLrCtx : Cert.DwLrCtx.Facts) (hDwLrCtxIdeal : Cert.DwLrCtxIdeal.Facts) (hDwLrCtxRefIdeal : Cert.DwLrCtxRefIdeal.Facts) (hDhcKv : Cert.DhcKv.Facts) (hDhcKvIdeal : Cert.DhcKvIdeal.Facts) (hDhcKvRefIdeal : Cert.DhcKvRefIdeal.Facts) (hDhcSq : Cert.DhcSq.Facts) (hDhcSqIdeal : Cert.DhcSqIdeal.Facts) (hDhcSqRefIdeal : Cert.DhcSqRefIdeal.Facts) (hDhcLr : Cert.DhcLr.Facts) (hDhcLrIdeal : Cert.DhcLrIdeal.Facts) (hDhcLrRefIdeal : Cert.DhcLrRefIdeal.Facts) (hLr : Cert.Lr.Facts) (hLrIdeal : Cert.LrIdeal.Facts) (hLrRefIdeal : Cert.LrRefIdeal.Facts) (hDhLr : Cert.DhLr.Facts) (hDhLrIdeal : Cert.DhLrIdeal.Facts) (hDhLrRefIdeal : Cert.DhLrRefIdeal.Facts) (hDwLr : Cert.DwLr.Facts) (hDwLrIdeal : Cert.DwLrIdeal.Facts) (hDwLrRefIdeal : Cert.DwLrRefIdeal.Facts) (hMerge : Cert.Merge.Facts) (hMergeIdeal : Cert.MergeIdeal.Facts) (hMergeRefIdeal : Cert.MergeRefIdeal.Facts) (hMergeBwd : Cert.MergeBwd.Facts) (hMergeBwdIdeal : Cert.MergeBwdIdeal.Facts) (hMergeBwdRefIdeal : Cert.MergeBwdRefIdeal.Facts) (hConv : Cert.Conv.Facts) (hConvIdeal : Cert.ConvIdeal.Facts) (hConvRefIdeal : Cert.ConvRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Df (hDf := hDf)
    ∧ quiescent_DfIdeal (hDfIdeal := hDfIdeal)
    ∧ quiescent_DfRefIdeal (hDfRefIdeal := hDfRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_Dh (hDh := hDh)
    ∧ quiescent_DhIdeal (hDhIdeal := hDhIdeal)
    ∧ quiescent_DhRefIdeal (hDhRefIdeal := hDhRefIdeal)
    ∧ quiescent_DhAdd (hDhAdd := hDhAdd)
    ∧ quiescent_DhAddIdeal (hDhAddIdeal := hDhAddIdeal)
    ∧ quiescent_DhAddRefIdeal (hDhAddRefIdeal := hDhAddRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_Sq (hSq := hSq)
    ∧ quiescent_SqIdeal (hSqIdeal := hSqIdeal)
    ∧ quiescent_SqRefIdeal (hSqRefIdeal := hSqRefIdeal)
    ∧ quiescent_Dsq (hDsq := hDsq)
    ∧ quiescent_DsqIdeal (hDsqIdeal := hDsqIdeal)
    ∧ quiescent_DsqRefIdeal (hDsqRefIdeal := hDsqRefIdeal)
    ∧ quiescent_DwSq (hDwSq := hDwSq)
    ∧ quiescent_DwSqIdeal (hDwSqIdeal := hDwSqIdeal)
    ∧ quiescent_DwSqRefIdeal (hDwSqRefIdeal := hDwSqRefIdeal)
    ∧ quiescent_DoAttn (hDoAttn := hDoAttn)
    ∧ quiescent_DoAttnIdeal (hDoAttnIdeal := hDoAttnIdeal)
    ∧ quiescent_DoAttnRefIdeal (hDoAttnRefIdeal := hDoAttnRefIdeal)
    ∧ quiescent_DsqAdd (hDsqAdd := hDsqAdd)
    ∧ quiescent_DsqAddIdeal (hDsqAddIdeal := hDsqAddIdeal)
    ∧ quiescent_DsqAddRefIdeal (hDsqAddRefIdeal := hDsqAddRefIdeal)
    ∧ quiescent_DwSqAdd (hDwSqAdd := hDwSqAdd)
    ∧ quiescent_DwSqAddIdeal (hDwSqAddIdeal := hDwSqAddIdeal)
    ∧ quiescent_DwSqAddRefIdeal (hDwSqAddRefIdeal := hDwSqAddRefIdeal)
    ∧ quiescent_Gab (hGab := hGab)
    ∧ quiescent_GabIdeal (hGabIdeal := hGabIdeal)
    ∧ quiescent_GabRefIdeal (hGabRefIdeal := hGabRefIdeal)
    ∧ quiescent_DhGab (hDhGab := hDhGab)
    ∧ quiescent_DhGabIdeal (hDhGabIdeal := hDhGabIdeal)
    ∧ quiescent_DhGabRefIdeal (hDhGabRefIdeal := hDhGabRefIdeal)
    ∧ quiescent_DwGab (hDwGab := hDwGab)
    ∧ quiescent_DwGabIdeal (hDwGabIdeal := hDwGabIdeal)
    ∧ quiescent_DwGabRefIdeal (hDwGabRefIdeal := hDwGabRefIdeal)
    ∧ quiescent_Kv (hKv := hKv)
    ∧ quiescent_KvIdeal (hKvIdeal := hKvIdeal)
    ∧ quiescent_KvRefIdeal (hKvRefIdeal := hKvRefIdeal)
    ∧ quiescent_DhKv (hDhKv := hDhKv)
    ∧ quiescent_DhKvIdeal (hDhKvIdeal := hDhKvIdeal)
    ∧ quiescent_DhKvRefIdeal (hDhKvRefIdeal := hDhKvRefIdeal)
    ∧ quiescent_DwKv (hDwKv := hDwKv)
    ∧ quiescent_DwKvIdeal (hDwKvIdeal := hDwKvIdeal)
    ∧ quiescent_DwKvRefIdeal (hDwKvRefIdeal := hDwKvRefIdeal)
    ∧ quiescent_KvCtx (hKvCtx := hKvCtx)
    ∧ quiescent_KvCtxIdeal (hKvCtxIdeal := hKvCtxIdeal)
    ∧ quiescent_KvCtxRefIdeal (hKvCtxRefIdeal := hKvCtxRefIdeal)
    ∧ quiescent_SqCtx (hSqCtx := hSqCtx)
    ∧ quiescent_SqCtxIdeal (hSqCtxIdeal := hSqCtxIdeal)
    ∧ quiescent_SqCtxRefIdeal (hSqCtxRefIdeal := hSqCtxRefIdeal)
    ∧ quiescent_LrCtx (hLrCtx := hLrCtx)
    ∧ quiescent_LrCtxIdeal (hLrCtxIdeal := hLrCtxIdeal)
    ∧ quiescent_LrCtxRefIdeal (hLrCtxRefIdeal := hLrCtxRefIdeal)
    ∧ quiescent_DwKvCtx (hDwKvCtx := hDwKvCtx)
    ∧ quiescent_DwKvCtxIdeal (hDwKvCtxIdeal := hDwKvCtxIdeal)
    ∧ quiescent_DwKvCtxRefIdeal (hDwKvCtxRefIdeal := hDwKvCtxRefIdeal)
    ∧ quiescent_DwSqCtx (hDwSqCtx := hDwSqCtx)
    ∧ quiescent_DwSqCtxIdeal (hDwSqCtxIdeal := hDwSqCtxIdeal)
    ∧ quiescent_DwSqCtxRefIdeal (hDwSqCtxRefIdeal := hDwSqCtxRefIdeal)
    ∧ quiescent_DwLrCtx (hDwLrCtx := hDwLrCtx)
    ∧ quiescent_DwLrCtxIdeal (hDwLrCtxIdeal := hDwLrCtxIdeal)
    ∧ quiescent_DwLrCtxRefIdeal (hDwLrCtxRefIdeal := hDwLrCtxRefIdeal)
    ∧ quiescent_DhcKv (hDhcKv := hDhcKv)
    ∧ quiescent_DhcKvIdeal (hDhcKvIdeal := hDhcKvIdeal)
    ∧ quiescent_DhcKvRefIdeal (hDhcKvRefIdeal := hDhcKvRefIdeal)
    ∧ quiescent_DhcSq (hDhcSq := hDhcSq)
    ∧ quiescent_DhcSqIdeal (hDhcSqIdeal := hDhcSqIdeal)
    ∧ quiescent_DhcSqRefIdeal (hDhcSqRefIdeal := hDhcSqRefIdeal)
    ∧ quiescent_DhcLr (hDhcLr := hDhcLr)
    ∧ quiescent_DhcLrIdeal (hDhcLrIdeal := hDhcLrIdeal)
    ∧ quiescent_DhcLrRefIdeal (hDhcLrRefIdeal := hDhcLrRefIdeal)
    ∧ quiescent_Lr (hLr := hLr)
    ∧ quiescent_LrIdeal (hLrIdeal := hLrIdeal)
    ∧ quiescent_LrRefIdeal (hLrRefIdeal := hLrRefIdeal)
    ∧ quiescent_DhLr (hDhLr := hDhLr)
    ∧ quiescent_DhLrIdeal (hDhLrIdeal := hDhLrIdeal)
    ∧ quiescent_DhLrRefIdeal (hDhLrRefIdeal := hDhLrRefIdeal)
    ∧ quiescent_DwLr (hDwLr := hDwLr)
    ∧ quiescent_DwLrIdeal (hDwLrIdeal := hDwLrIdeal)
    ∧ quiescent_DwLrRefIdeal (hDwLrRefIdeal := hDwLrRefIdeal)
    ∧ quiescent_Merge (hMerge := hMerge)
    ∧ quiescent_MergeIdeal (hMergeIdeal := hMergeIdeal)
    ∧ quiescent_MergeRefIdeal (hMergeRefIdeal := hMergeRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_Conv (hConv := hConv)
    ∧ quiescent_ConvIdeal (hConvIdeal := hConvIdeal)
    ∧ quiescent_ConvRefIdeal (hConvRefIdeal := hConvRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Df_DfIdeal
    ∧ algebraic_DfIdeal_DfRefIdeal (hDfIdeal := hDfIdeal) (hDfRefIdeal := hDfRefIdeal)
    ∧ preserves_DwDown_DwDownIdeal
    ∧ algebraic_DwDownIdeal_DwDownRefIdeal (hDwDownIdeal := hDwDownIdeal) (hDwDownRefIdeal := hDwDownRefIdeal)
    ∧ preserves_Dh_DhIdeal
    ∧ algebraic_DhIdeal_DhRefIdeal (hDhIdeal := hDhIdeal) (hDhRefIdeal := hDhRefIdeal)
    ∧ preserves_DhAdd_DhAddIdeal
    ∧ algebraic_DhAddIdeal_DhAddRefIdeal (hDhAddIdeal := hDhAddIdeal) (hDhAddRefIdeal := hDhAddRefIdeal)
    ∧ preserves_DwUp_DwUpIdeal
    ∧ algebraic_DwUpIdeal_DwUpRefIdeal (hDwUpIdeal := hDwUpIdeal) (hDwUpRefIdeal := hDwUpRefIdeal)
    ∧ preserves_Sq_SqIdeal
    ∧ algebraic_SqIdeal_SqRefIdeal (hSqIdeal := hSqIdeal) (hSqRefIdeal := hSqRefIdeal)
    ∧ preserves_Dsq_DsqIdeal
    ∧ algebraic_DsqIdeal_DsqRefIdeal (hDsqIdeal := hDsqIdeal) (hDsqRefIdeal := hDsqRefIdeal)
    ∧ preserves_DwSq_DwSqIdeal
    ∧ algebraic_DwSqIdeal_DwSqRefIdeal (hDwSqIdeal := hDwSqIdeal) (hDwSqRefIdeal := hDwSqRefIdeal)
    ∧ preserves_DoAttn_DoAttnIdeal
    ∧ algebraic_DoAttnIdeal_DoAttnRefIdeal (hDoAttnIdeal := hDoAttnIdeal) (hDoAttnRefIdeal := hDoAttnRefIdeal)
    ∧ preserves_DsqAdd_DsqAddIdeal
    ∧ algebraic_DsqAddIdeal_DsqAddRefIdeal (hDsqAddIdeal := hDsqAddIdeal) (hDsqAddRefIdeal := hDsqAddRefIdeal)
    ∧ preserves_DwSqAdd_DwSqAddIdeal
    ∧ algebraic_DwSqAddIdeal_DwSqAddRefIdeal (hDwSqAddIdeal := hDwSqAddIdeal) (hDwSqAddRefIdeal := hDwSqAddRefIdeal)
    ∧ preserves_Gab_GabIdeal
    ∧ algebraic_GabIdeal_GabRefIdeal (hGabIdeal := hGabIdeal) (hGabRefIdeal := hGabRefIdeal)
    ∧ preserves_DhGab_DhGabIdeal
    ∧ algebraic_DhGabIdeal_DhGabRefIdeal (hDhGabIdeal := hDhGabIdeal) (hDhGabRefIdeal := hDhGabRefIdeal)
    ∧ preserves_DwGab_DwGabIdeal
    ∧ algebraic_DwGabIdeal_DwGabRefIdeal (hDwGabIdeal := hDwGabIdeal) (hDwGabRefIdeal := hDwGabRefIdeal)
    ∧ preserves_Kv_KvIdeal
    ∧ algebraic_KvIdeal_KvRefIdeal (hKvIdeal := hKvIdeal) (hKvRefIdeal := hKvRefIdeal)
    ∧ preserves_DhKv_DhKvIdeal
    ∧ algebraic_DhKvIdeal_DhKvRefIdeal (hDhKvIdeal := hDhKvIdeal) (hDhKvRefIdeal := hDhKvRefIdeal)
    ∧ preserves_DwKv_DwKvIdeal
    ∧ algebraic_DwKvIdeal_DwKvRefIdeal (hDwKvIdeal := hDwKvIdeal) (hDwKvRefIdeal := hDwKvRefIdeal)
    ∧ preserves_KvCtx_KvCtxIdeal
    ∧ algebraic_KvCtxIdeal_KvCtxRefIdeal (hKvCtxIdeal := hKvCtxIdeal) (hKvCtxRefIdeal := hKvCtxRefIdeal)
    ∧ preserves_SqCtx_SqCtxIdeal
    ∧ algebraic_SqCtxIdeal_SqCtxRefIdeal (hSqCtxIdeal := hSqCtxIdeal) (hSqCtxRefIdeal := hSqCtxRefIdeal)
    ∧ preserves_LrCtx_LrCtxIdeal
    ∧ algebraic_LrCtxIdeal_LrCtxRefIdeal (hLrCtxIdeal := hLrCtxIdeal) (hLrCtxRefIdeal := hLrCtxRefIdeal)
    ∧ preserves_DwKvCtx_DwKvCtxIdeal
    ∧ algebraic_DwKvCtxIdeal_DwKvCtxRefIdeal (hDwKvCtxIdeal := hDwKvCtxIdeal) (hDwKvCtxRefIdeal := hDwKvCtxRefIdeal)
    ∧ preserves_DwSqCtx_DwSqCtxIdeal
    ∧ algebraic_DwSqCtxIdeal_DwSqCtxRefIdeal (hDwSqCtxIdeal := hDwSqCtxIdeal) (hDwSqCtxRefIdeal := hDwSqCtxRefIdeal)
    ∧ preserves_DwLrCtx_DwLrCtxIdeal
    ∧ algebraic_DwLrCtxIdeal_DwLrCtxRefIdeal (hDwLrCtxIdeal := hDwLrCtxIdeal) (hDwLrCtxRefIdeal := hDwLrCtxRefIdeal)
    ∧ preserves_DhcKv_DhcKvIdeal
    ∧ algebraic_DhcKvIdeal_DhcKvRefIdeal (hDhcKvIdeal := hDhcKvIdeal) (hDhcKvRefIdeal := hDhcKvRefIdeal)
    ∧ preserves_DhcSq_DhcSqIdeal
    ∧ algebraic_DhcSqIdeal_DhcSqRefIdeal (hDhcSqIdeal := hDhcSqIdeal) (hDhcSqRefIdeal := hDhcSqRefIdeal)
    ∧ preserves_DhcLr_DhcLrIdeal
    ∧ algebraic_DhcLrIdeal_DhcLrRefIdeal (hDhcLrIdeal := hDhcLrIdeal) (hDhcLrRefIdeal := hDhcLrRefIdeal)
    ∧ preserves_Lr_LrIdeal
    ∧ algebraic_LrIdeal_LrRefIdeal (hLrIdeal := hLrIdeal) (hLrRefIdeal := hLrRefIdeal)
    ∧ preserves_DhLr_DhLrIdeal
    ∧ algebraic_DhLrIdeal_DhLrRefIdeal (hDhLrIdeal := hDhLrIdeal) (hDhLrRefIdeal := hDhLrRefIdeal)
    ∧ preserves_DwLr_DwLrIdeal
    ∧ algebraic_DwLrIdeal_DwLrRefIdeal (hDwLrIdeal := hDwLrIdeal) (hDwLrRefIdeal := hDwLrRefIdeal)
    ∧ preserves_Merge_MergeIdeal
    ∧ algebraic_MergeIdeal_MergeRefIdeal (hMergeIdeal := hMergeIdeal) (hMergeRefIdeal := hMergeRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_Conv_ConvIdeal
    ∧ algebraic_ConvIdeal_ConvRefIdeal (hConvIdeal := hConvIdeal) (hConvRefIdeal := hConvRefIdeal)
-- ==== Pre_finite.lean ====
abbrev S8192x2048 : Shape := ⟨2, ![8192, 2048]⟩
abbrev S8192x512 : Shape := ⟨2, ![8192, 512]⟩
abbrev S8192x1024 : Shape := ⟨2, ![8192, 1024]⟩
abbrev S256x512 : Shape := ⟨2, ![256, 512]⟩
abbrev S256x1024 : Shape := ⟨2, ![256, 1024]⟩
abbrev S16x1x1 : Shape := ⟨3, ![16, 1, 1]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S256x512 : S_.BroadcastsInDim S256x512 (![] : Fin 0 → Fin S256x512.rank)
  reducesTo_S256x512_S_d0_1 : S256x512.ReducesTo [0, 1] S_
  bcast_S_S256x1024 : S_.BroadcastsInDim S256x1024 (![] : Fin 0 → Fin S256x1024.rank)
  reducesTo_S256x1024_S_d0_1 : S256x1024.ReducesTo [0, 1] S_
  bcast_S_S16x1x1 : S_.BroadcastsInDim S16x1x1 (![] : Fin 0 → Fin S16x1x1.rank)
  reducesTo_S16x1x1_S_d0_1_2 : S16x1x1.ReducesTo [0, 1, 2] S_

variable [Facts]

def fn_part2 {F : FTy → Type} [FloatOps F] (main_v31 : IVec S_ 1) (main_v33 : FVec F S8192x2048 .f32) (main_v34 : FVec F S8192x2048 .f32) : IVec S_ 1 :=
  let main_v35 : IVec S8192x2048 1 := cmpf .olt main_v33 main_v34
  let main_c_11 : IVec S_ 1 := constantI S_ 1 1#1
  let main_v36 : IVec S_ 1 := (fun x v => Host.reduce IntOp.andi x v reducesTo_S8192x2048_S_d0_1 h_S_) main_v35 main_c_11
  let main_v37 : IVec S_ 1 := andi main_v31 main_v36
  main_v37

def fn_part1 {F : FTy → Type} [FloatOps F] (main_arg4 : FVec F S256x1024 .f32) (main_arg5 : FVec F S16x1x1 .f32) (main_arg6 : FVec F S8192x2048 .bf16) (main_v15 : IVec S_ 1) (main_v17 : FVec F S256x512 .f32) : IVec S_ 1 :=
  let main_cst_4 : FVec F S_ .f32 := constant S_ .f32 0x7F800000#32
  let main_v18 : FVec F S256x512 .f32 := broadcastInDim S256x512 ![] bcast_S_S256x512 main_cst_4
  let main_v19 : IVec S256x512 1 := cmpf .olt main_v17 main_v18
  let main_c_5 : IVec S_ 1 := constantI S_ 1 1#1
  let main_v20 : IVec S_ 1 := (fun x v => Host.reduce IntOp.andi x v reducesTo_S256x512_S_d0_1 h_S_) main_v19 main_c_5
  let main_v21 : IVec S_ 1 := andi main_v15 main_v20
  let main_v22 : FVec F S256x1024 .f32 := Host.absf main_arg4
  let main_cst_6 : FVec F S_ .f32 := constant S_ .f32 0x7F800000#32
  let main_v23 : FVec F S256x1024 .f32 := broadcastInDim S256x1024 ![] bcast_S_S256x1024 main_cst_6
  let main_v24 : IVec S256x1024 1 := cmpf .olt main_v22 main_v23
  let main_c_7 : IVec S_ 1 := constantI S_ 1 1#1
  let main_v25 : IVec S_ 1 := (fun x v => Host.reduce IntOp.andi x v reducesTo_S256x1024_S_d0_1 h_S_) main_v24 main_c_7
  let main_v26 : IVec S_ 1 := andi main_v21 main_v25
  let main_v27 : FVec F S16x1x1 .f32 := Host.absf main_arg5
  let main_cst_8 : FVec F S_ .f32 := constant S_ .f32 0x7F800000#32
  let main_v28 : FVec F S16x1x1 .f32 := broadcastInDim S16x1x1 ![] bcast_S_S16x1x1 main_cst_8
  let main_v29 : IVec S16x1x1 1 := cmpf .olt main_v27 main_v28
  let main_c_9 : IVec S_ 1 := constantI S_ 1 1#1
  let main_v30 : IVec S_ 1 := (fun x v => Host.reduce IntOp.andi x v reducesTo_S16x1x1_S_d0_1_2 h_S_) main_v29 main_c_9
  let main_v31 : IVec S_ 1 := andi main_v26 main_v30
  let main_v32 : FVec F S8192x2048 .f32 := (extf .f32 · bitsLt_bf16_f32) main_arg6
  let main_v33 : FVec F S8192x2048 .f32 := Host.absf main_v32
  let main_cst_10 : FVec F S_ .f32 := constant S_ .f32 0x7F800000#32
  let main_v34 : FVec F S8192x2048 .f32 := broadcastInDim S8192x2048 ![] bcast_S_S8192x2048 main_cst_10
  fn_part2 (F := F) main_v31 main_v33 main_v34

def fn {F : FTy → Type} [FloatOps F] (main_arg0 : FVec F S8192x2048 .bf16) (main_arg1 : FVec F S8192x512 .bf16) (main_arg2 : FVec F S8192x1024 .f32) (main_arg3 : FVec F S256x512 .bf16) (main_arg4 : FVec F S256x1024 .f32) (main_arg5 : FVec F S16x1x1 .f32) (main_arg6 : FVec F S8192x2048 .bf16) : IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S8192x512 .f32 := (extf .f32 · bitsLt_bf16_f32) main_arg1
  let main_v6 : FVec F S8192x512 .f32 := Host.absf main_v5
  let main_cst_0 : FVec F S_ .f32 := constant S_ .f32 0x7F800000#32
  let main_v7 : FVec F S8192x512 .f32 := broadcastInDim S8192x512 ![] bcast_S_S8192x512 main_cst_0
  let main_v8 : IVec S8192x512 1 := cmpf .olt main_v6 main_v7
  let main_c_1 : IVec S_ 1 := constantI S_ 1 1#1
  let main_v9 : IVec S_ 1 := (fun x v => Host.reduce IntOp.andi x v reducesTo_S8192x512_S_d0_1 h_S_) main_v8 main_c_1
  let main_v10 : IVec S_ 1 := andi main_v4 main_v9
  let main_v11 : FVec F S8192x1024 .f32 := Host.absf main_arg2
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_c_3 : IVec S_ 1 := constantI S_ 1 1#1
  let main_v14 : IVec S_ 1 := (fun x v => Host.reduce IntOp.andi x v reducesTo_S8192x1024_S_d0_1 h_S_) main_v13 main_c_3
  let main_v15 : IVec S_ 1 := andi main_v10 main_v14
  let main_v16 : FVec F S256x512 .f32 := (extf .f32 · bitsLt_bf16_f32) main_arg3
  let main_v17 : FVec F S256x512 .f32 := Host.absf main_v16
  fn_part1 (F := F) main_arg4 main_arg5 main_arg6 main_v15 main_v17
-- ==== Kernel.lean ====
abbrev S8192x2048 : Shape := ⟨2, ![8192, 2048]⟩
abbrev S8192x512 : Shape := ⟨2, ![8192, 512]⟩
abbrev S8192x1024 : Shape := ⟨2, ![8192, 1024]⟩
abbrev S256x512 : Shape := ⟨2, ![256, 512]⟩
abbrev S256x1024 : Shape := ⟨2, ![256, 1024]⟩
abbrev S16x1x1 : Shape := ⟨3, ![16, 1, 1]⟩
abbrev S16x8192x1 : Shape := ⟨3, ![16, 8192, 1]⟩
abbrev S16x1x8192 : Shape := ⟨3, ![16, 1, 8192]⟩
abbrev S128x512 : Shape := ⟨2, ![128, 512]⟩
abbrev S128x128 : Shape := ⟨2, ![128, 128]⟩
abbrev S256x128 : Shape := ⟨2, ![256, 128]⟩
abbrev S4x1x1 : Shape := ⟨3, ![4, 1, 1]⟩
abbrev S4x128x1 : Shape := ⟨3, ![4, 128, 1]⟩
abbrev S4x1x128 : Shape := ⟨3, ![4, 1, 128]⟩
abbrev S384x128 : Shape := ⟨2, ![384, 128]⟩
abbrev S128x384 : Shape := ⟨2, ![128, 384]⟩
abbrev S1x1x1 : Shape := ⟨3, ![1, 1, 1]⟩
abbrev S1x1 : Shape := ⟨2, ![1, 1]⟩
abbrev S128x256 : Shape := ⟨2, ![128, 256]⟩
abbrev S128 : Shape := ⟨1, ![128]⟩
abbrev S128x1 : Shape := ⟨2, ![128, 1]⟩
abbrev S1x128x1 : Shape := ⟨3, ![1, 128, 1]⟩
abbrev S1x128 : Shape := ⟨2, ![1, 128]⟩
abbrev S1x1x128 : Shape := ⟨3, ![1, 1, 128]⟩
abbrev S1 : Shape := ⟨1, ![1]⟩
abbrev S128x1536 : Shape := ⟨2, ![128, 1536]⟩
abbrev S1536x128 : Shape := ⟨2, ![1536, 128]⟩
abbrev S1x1536 : Shape := ⟨2, ![1, 1536]⟩

abbrev nBuf : Space → Nat
  | .hbm => 17
  | .vmem => 94
  | .smem => 0
  | _ => 0

abbrev bufTy : (tb : Table) → Fin (tcTables nBuf tb) → BufTy
  | .hbm, ⟨0, _⟩ => ⟨S8192x2048, .bf16⟩
  | .hbm, ⟨1, _⟩ => ⟨S8192x512, .bf16⟩
  | .hbm, ⟨2, _⟩ => ⟨S8192x1024, .f32⟩
  | .hbm, ⟨3, _⟩ => ⟨S256x512, .bf16⟩
  | .hbm, ⟨4, _⟩ => ⟨S256x1024, .f32⟩
  | .hbm, ⟨5, _⟩ => ⟨S16x1x1, .f32⟩
  | .hbm, ⟨6, _⟩ => ⟨S8192x2048, .bf16⟩
  | .hbm, ⟨7, _⟩ => ⟨S8192x2048, .bf16⟩
  | .hbm, ⟨8, _⟩ => ⟨S16x8192x1, .f32⟩
  | .hbm, ⟨9, _⟩ => ⟨S16x1x8192, .f32⟩
  | .hbm, ⟨10, _⟩ => ⟨S8192x2048, .f32⟩
  | .hbm, ⟨11, _⟩ => ⟨S256x512, .f32⟩
  | .hbm, ⟨12, _⟩ => ⟨S256x512, .f32⟩
  | .hbm, ⟨13, _⟩ => ⟨S16x1x1, .f32⟩
  | .hbm, ⟨14, _⟩ => ⟨S16x1x8192, .f32⟩
  | .hbm, ⟨15, _⟩ => ⟨S8192x512, .bf16⟩
  | .hbm, ⟨16, _⟩ => ⟨S8192x512, .bf16⟩
  | .local _ .vmem, ⟨0, _⟩ => ⟨S128x512, .bf16⟩
  | .local _ .vmem, ⟨1, _⟩ => ⟨S128x512, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S256x128, .bf16⟩
  | .local _ .vmem, ⟨15, _⟩ => ⟨S256x128, .bf16⟩
  | .local _ .vmem, ⟨16, _⟩ => ⟨S256x128, .f32⟩
  | .local _ .vmem, ⟨17, _⟩ => ⟨S256x128, .f32⟩
  | .local _ .vmem, ⟨18, _⟩ => ⟨S4x1x1, .f32⟩
  | .local _ .vmem, ⟨19, _⟩ => ⟨S4x1x1, .f32⟩
  | .local _ .vmem, ⟨20, _⟩ => ⟨S128x512, .bf16⟩
  | .local _ .vmem, ⟨21, _⟩ => ⟨S128x512, .bf16⟩
  | .local _ .vmem, ⟨22, _⟩ => ⟨S4x128x1, .f32⟩
  | .local _ .vmem, ⟨23, _⟩ => ⟨S4x128x1, .f32⟩
  | .local _ .vmem, ⟨24, _⟩ => ⟨S4x1x128, .f32⟩
  | .local _ .vmem, ⟨25, _⟩ => ⟨S4x1x128, .f32⟩
  | .local _ .vmem, ⟨26, _⟩ => ⟨S128x512, .bf16⟩
  | .local _ .vmem, ⟨27, _⟩ => ⟨S128x512, .bf16⟩
  | .local _ .vmem, ⟨28, _⟩ => ⟨S128x128, .bf16⟩
  | .local _ .vmem, ⟨29, _⟩ => ⟨S128x128, .bf16⟩
  | .local _ .vmem, ⟨30, _⟩ => ⟨S128x128, .bf16⟩
  | .local _ .vmem, ⟨31, _⟩ => ⟨S128x128, .bf16⟩
  | .local _ .vmem, ⟨32, _⟩ => ⟨S128x128, .bf16⟩
  | .local _ .vmem, ⟨33, _⟩ => ⟨S128x128, .bf16⟩
  | .local _ .vmem, ⟨34, _⟩ => ⟨S128x128, .f32⟩
  | .local _ .vmem, ⟨35, _⟩ => ⟨S128x128, .f32⟩
  | .local _ .vmem, ⟨36, _⟩ => ⟨S128x128, .f32⟩
  | .local _ .vmem, ⟨37, _⟩ => ⟨S128x128, .f32⟩
  | .local _ .vmem, ⟨38, _⟩ => ⟨S128x128, .f32⟩
  | .local _ .vmem, ⟨39, _⟩ => ⟨S128x128, .f32⟩
  | .local _ .vmem, ⟨40, _⟩ => ⟨S256x128, .bf16⟩
  | .local _ .vmem, ⟨41, _⟩ => ⟨S256x128, .bf16⟩
  | .local _ .vmem, ⟨42, _⟩ => ⟨S256x128, .f32⟩
  | .local _ .vmem, ⟨43, _⟩ => ⟨S256x128, .f32⟩
  | .local _ .vmem, ⟨44, _⟩ => ⟨S4x1x1, .f32⟩
  | .local _ .vmem, ⟨45, _⟩ => ⟨S4x1x1, .f32⟩
  | .local _ .vmem, ⟨46, _⟩ => ⟨S128x512, .bf16⟩
  | .local _ .vmem, ⟨47, _⟩ => ⟨S128x512, .bf16⟩
  | .local _ .vmem, ⟨48, _⟩ => ⟨S128x512, .bf16⟩
  | .local _ .vmem, ⟨49, _⟩ => ⟨S128x512, .bf16⟩
  | .local _ .vmem, ⟨50, _⟩ => ⟨S4x128x1, .f32⟩
  | .local _ .vmem, ⟨51, _⟩ => ⟨S4x128x1, .f32⟩
  | .local _ .vmem, ⟨52, _⟩ => ⟨S128x512, .f32⟩
  | .local _ .vmem, ⟨53, _⟩ => ⟨S128x512, .f32⟩
  | .local _ .vmem, ⟨54, _⟩ => ⟨S256x128, .f32⟩
  | .local _ .vmem, ⟨55, _⟩ => ⟨S256x128, .f32⟩
  | .local _ .vmem, ⟨56, _⟩ => ⟨S256x128, .f32⟩
  | .local _ .vmem, ⟨57, _⟩ => ⟨S256x128, .f32⟩
  | .local _ .vmem, ⟨58, _⟩ => ⟨S4x1x1, .f32⟩
  | .local _ .vmem, ⟨59, _⟩ => ⟨S4x1x1, .f32⟩
  | .local _ .vmem, ⟨60, _⟩ => ⟨S4x1x128, .f32⟩
  | .local _ .vmem, ⟨61, _⟩ => ⟨S4x1x128, .f32⟩
  | .local _ .vmem, ⟨62, _⟩ => ⟨S128x128, .bf16⟩
  | .local _ .vmem, ⟨63, _⟩ => ⟨S128x128, .bf16⟩
  | .local _ .vmem, ⟨64, _⟩ => ⟨S128x128, .f32⟩
  | .local _ .vmem, ⟨65, _⟩ => ⟨S128x128, .f32⟩
  | .local _ .vmem, ⟨66, _⟩ => ⟨S128x512, .bf16⟩
  | .local _ .vmem, ⟨67, _⟩ => ⟨S128x512, .bf16⟩
  | .local _ .vmem, ⟨68, _⟩ => ⟨S128x512, .bf16⟩
  | .local _ .vmem, ⟨69, _⟩ => ⟨S128x512, .bf16⟩
  | .local _ .vmem, ⟨70, _⟩ => ⟨S128x512, .bf16⟩
  | .local _ .vmem, ⟨71, _⟩ => ⟨S128x512, .bf16⟩
  | .local _ .vmem, ⟨72, _⟩ => ⟨S128x512, .bf16⟩
  | .local _ .vmem, ⟨73, _⟩ => ⟨S128x512, .bf16⟩
  | .local _ .vmem, ⟨74, _⟩ => ⟨S128x512, .bf16⟩
  | .local _ .vmem, ⟨75, _⟩ => ⟨S128x512, .bf16⟩
  | .local _ .vmem, ⟨76, _⟩ => ⟨S128x512, .bf16⟩
  | .local _ .vmem, ⟨77, _⟩ => ⟨S128x512, .bf16⟩
  | .local _ .vmem, ⟨78, _⟩ => ⟨S4x1x128, .f32⟩
  | .local _ .vmem, ⟨79, _⟩ => ⟨S4x1x128, .f32⟩
  | .local _ .vmem, ⟨80, _⟩ => ⟨S4x1x128, .f32⟩
  | .local _ .vmem, ⟨81, _⟩ => ⟨S4x1x128, .f32⟩
  | .local _ .vmem, ⟨82, _⟩ => ⟨S4x1x128, .f32⟩
  | .local _ .vmem, ⟨83, _⟩ => ⟨S4x1x128, .f32⟩
  | .local _ .vmem, ⟨84, _⟩ => ⟨S4x1x128, .f32⟩
  | .local _ .vmem, ⟨85, _⟩ => ⟨S4x1x128, .f32⟩
  | .local _ .vmem, ⟨86, _⟩ => ⟨S4x1x128, .f32⟩
  | .local _ .vmem, ⟨87, _⟩ => ⟨S4x1x128, .f32⟩
  | .local _ .vmem, ⟨88, _⟩ => ⟨S4x1x128, .f32⟩
  | .local _ .vmem, ⟨89, _⟩ => ⟨S4x1x128, .f32⟩
  | .local _ .vmem, ⟨90, _⟩ => ⟨S128x128, .bf16⟩
  | .local _ .vmem, ⟨91, _⟩ => ⟨S128x128, .bf16⟩
  | .local _ .vmem, ⟨92, _⟩ => ⟨S128x128, .bf16⟩
  | .local _ .vmem, ⟨93, _⟩ => ⟨S128x128, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | _, _ => false

abbrev semScoped : Fin 0 → Bool
  | ⟨_, h⟩ => absurd h (Nat.not_lt_zero _)

abbrev dmaSemScoped : Fin 94 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | _ => false

abbrev sig : RefSig :=
  ofTc nBuf bufTy 0 94 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev main_v2_0 : Ref sig .tc := ⟨.hbm, 15, rfl⟩
abbrev main_v2_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg2_1 : Ref sig .tc := ⟨.vmem, 31, rfl⟩
abbrev cc1_stg3_0 : Ref sig .tc := ⟨.vmem, 32, rfl⟩
abbrev cc1_stg3_1 : Ref sig .tc := ⟨.vmem, 33, rfl⟩
abbrev cc1_stg4_0 : Ref sig .tc := ⟨.vmem, 34, rfl⟩
abbrev cc1_stg4_1 : Ref sig .tc := ⟨.vmem, 35, rfl⟩
abbrev cc1_stg5_0 : Ref sig .tc := ⟨.vmem, 36, rfl⟩
abbrev cc1_stg5_1 : Ref sig .tc := ⟨.vmem, 37, rfl⟩
abbrev cc1_stg6_0 : Ref sig .tc := ⟨.vmem, 38, rfl⟩
abbrev cc1_stg6_1 : Ref sig .tc := ⟨.vmem, 39, rfl⟩
abbrev cc1_stg7_0 : Ref sig .tc := ⟨.vmem, 40, rfl⟩
abbrev cc1_stg7_1 : Ref sig .tc := ⟨.vmem, 41, rfl⟩
abbrev cc1_stg8_0 : Ref sig .tc := ⟨.vmem, 42, rfl⟩
abbrev cc1_stg8_1 : Ref sig .tc := ⟨.vmem, 43, rfl⟩
abbrev cc1_stg9_0 : Ref sig .tc := ⟨.vmem, 44, rfl⟩
abbrev cc1_stg9_1 : Ref sig .tc := ⟨.vmem, 45, rfl⟩
abbrev cc1_stg10_0 : Ref sig .tc := ⟨.vmem, 46, rfl⟩
abbrev cc1_stg10_1 : Ref sig .tc := ⟨.vmem, 47, rfl⟩
abbrev cc1_stg11_0 : Ref sig .tc := ⟨.vmem, 48, rfl⟩
abbrev cc1_stg11_1 : Ref sig .tc := ⟨.vmem, 49, rfl⟩
abbrev cc1_stg12_0 : Ref sig .tc := ⟨.vmem, 50, rfl⟩
abbrev cc1_stg12_1 : Ref sig .tc := ⟨.vmem, 51, rfl⟩
abbrev cc1_stg13_0 : Ref sig .tc := ⟨.vmem, 52, rfl⟩
abbrev cc1_stg13_1 : Ref sig .tc := ⟨.vmem, 53, rfl⟩
abbrev cc1_stg14_0 : Ref sig .tc := ⟨.vmem, 54, rfl⟩
abbrev cc1_stg14_1 : Ref sig .tc := ⟨.vmem, 55, rfl⟩
abbrev cc1_stg15_0 : Ref sig .tc := ⟨.vmem, 56, rfl⟩
abbrev cc1_stg15_1 : Ref sig .tc := ⟨.vmem, 57, rfl⟩
abbrev cc1_stg16_0 : Ref sig .tc := ⟨.vmem, 58, rfl⟩
abbrev cc1_stg16_1 : Ref sig .tc := ⟨.vmem, 59, rfl⟩
abbrev cc1_stg17_0 : Ref sig .tc := ⟨.vmem, 60, rfl⟩
abbrev cc1_stg17_1 : Ref sig .tc := ⟨.vmem, 61, rfl⟩
abbrev cc2_stg0_0 : Ref sig .tc := ⟨.vmem, 62, rfl⟩
abbrev cc2_stg0_1 : Ref sig .tc := ⟨.vmem, 63, rfl⟩
abbrev cc2_stg1_0 : Ref sig .tc := ⟨.vmem, 64, rfl⟩
abbrev cc2_stg1_1 : Ref sig .tc := ⟨.vmem, 65, rfl⟩
abbrev cc2_stg2_0 : Ref sig .tc := ⟨.vmem, 66, rfl⟩
abbrev cc2_stg2_1 : Ref sig .tc := ⟨.vmem, 67, rfl⟩
abbrev cc2_stg3_0 : Ref sig .tc := ⟨.vmem, 68, rfl⟩
abbrev cc2_stg3_1 : Ref sig .tc := ⟨.vmem, 69, rfl⟩
abbrev cc2_stg4_0 : Ref sig .tc := ⟨.vmem, 70, rfl⟩
abbrev cc2_stg4_1 : Ref sig .tc := ⟨.vmem, 71, rfl⟩
abbrev cc2_stg5_0 : Ref sig .tc := ⟨.vmem, 72, rfl⟩
abbrev cc2_stg5_1 : Ref sig .tc := ⟨.vmem, 73, rfl⟩
abbrev cc2_stg6_0 : Ref sig .tc := ⟨.vmem, 74, rfl⟩
abbrev cc2_stg6_1 : Ref sig .tc := ⟨.vmem, 75, rfl⟩
abbrev cc2_stg7_0 : Ref sig .tc := ⟨.vmem, 76, rfl⟩
abbrev cc2_stg7_1 : Ref sig .tc := ⟨.vmem, 77, rfl⟩
abbrev cc2_stg8_0 : Ref sig .tc := ⟨.vmem, 78, rfl⟩
abbrev cc2_stg8_1 : Ref sig .tc := ⟨.vmem, 79, rfl⟩
abbrev cc2_stg9_0 : Ref sig .tc := ⟨.vmem, 80, rfl⟩
abbrev cc2_stg9_1 : Ref sig .tc := ⟨.vmem, 81, rfl⟩
abbrev cc2_stg10_0 : Ref sig .tc := ⟨.vmem, 82, rfl⟩
abbrev cc2_stg10_1 : Ref sig .tc := ⟨.vmem, 83, rfl⟩
abbrev cc2_stg11_0 : Ref sig .tc := ⟨.vmem, 84, rfl⟩
abbrev cc2_stg11_1 : Ref sig .tc := ⟨.vmem, 85, rfl⟩
abbrev cc2_stg12_0 : Ref sig .tc := ⟨.vmem, 86, rfl⟩
abbrev cc2_stg12_1 : Ref sig .tc := ⟨.vmem, 87, rfl⟩
abbrev cc2_stg13_0 : Ref sig .tc := ⟨.vmem, 88, rfl⟩
abbrev cc2_stg13_1 : Ref sig .tc := ⟨.vmem, 89, rfl⟩
abbrev cc2_stg14_0 : Ref sig .tc := ⟨.vmem, 90, rfl⟩
abbrev cc2_stg14_1 : Ref sig .tc := ⟨.vmem, 91, rfl⟩
abbrev cc2_stg15_0 : Ref sig .tc := ⟨.vmem, 92, rfl⟩
abbrev cc2_stg15_1 : Ref sig .tc := ⟨.vmem, 93, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc1_sem0_0 : DmaSem sig := 26
abbrev cc1_sem0_1 : DmaSem sig := 27
abbrev cc1_sem1_0 : DmaSem sig := 28
abbrev cc1_sem1_1 : DmaSem sig := 29
abbrev cc1_sem2_0 : DmaSem sig := 30
abbrev cc1_sem2_1 : DmaSem sig := 31
abbrev cc1_sem3_0 : DmaSem sig := 32
abbrev cc1_sem3_1 : DmaSem sig := 33
abbrev cc1_sem4_0 : DmaSem sig := 34
abbrev cc1_sem4_1 : DmaSem sig := 35
abbrev cc1_sem5_0 : DmaSem sig := 36
abbrev cc1_sem5_1 : DmaSem sig := 37
abbrev cc1_sem6_0 : DmaSem sig := 38
abbrev cc1_sem6_1 : DmaSem sig := 39
abbrev cc1_sem7_0 : DmaSem sig := 40
abbrev cc1_sem7_1 : DmaSem sig := 41
abbrev cc1_sem8_0 : DmaSem sig := 42
abbrev cc1_sem8_1 : DmaSem sig := 43
abbrev cc1_sem9_0 : DmaSem sig := 44
abbrev cc1_sem9_1 : DmaSem sig := 45
abbrev cc1_sem10_0 : DmaSem sig := 46
abbrev cc1_sem10_1 : DmaSem sig := 47
abbrev cc1_sem11_0 : DmaSem sig := 48
abbrev cc1_sem11_1 : DmaSem sig := 49
abbrev cc1_sem12_0 : DmaSem sig := 50
abbrev cc1_sem12_1 : DmaSem sig := 51
abbrev cc1_sem13_0 : DmaSem sig := 52
abbrev cc1_sem13_1 : DmaSem sig := 53
abbrev cc1_sem14_0 : DmaSem sig := 54
abbrev cc1_sem14_1 : DmaSem sig := 55
abbrev cc1_sem15_0 : DmaSem sig := 56
abbrev cc1_sem15_1 : DmaSem sig := 57
abbrev cc1_sem16_0 : DmaSem sig := 58
abbrev cc1_sem16_1 : DmaSem sig := 59
abbrev cc1_sem17_0 : DmaSem sig := 60
abbrev cc1_sem17_1 : DmaSem sig := 61
abbrev cc2_sem0_0 : DmaSem sig := 62
abbrev cc2_sem0_1 : DmaSem sig := 63
abbrev cc2_sem1_0 : DmaSem sig := 64
abbrev cc2_sem1_1 : DmaSem sig := 65
abbrev cc2_sem2_0 : DmaSem sig := 66
abbrev cc2_sem2_1 : DmaSem sig := 67
abbrev cc2_sem3_0 : DmaSem sig := 68
abbrev cc2_sem3_1 : DmaSem sig := 69
abbrev cc2_sem4_0 : DmaSem sig := 70
abbrev cc2_sem4_1 : DmaSem sig := 71
abbrev cc2_sem5_0 : DmaSem sig := 72
abbrev cc2_sem5_1 : DmaSem sig := 73
abbrev cc2_sem6_0 : DmaSem sig := 74
abbrev cc2_sem6_1 : DmaSem sig := 75
abbrev cc2_sem7_0 : DmaSem sig := 76
abbrev cc2_sem7_1 : DmaSem sig := 77
abbrev cc2_sem8_0 : DmaSem sig := 78
abbrev cc2_sem8_1 : DmaSem sig := 79
abbrev cc2_sem9_0 : DmaSem sig := 80
abbrev cc2_sem9_1 : DmaSem sig := 81
abbrev cc2_sem10_0 : DmaSem sig := 82
abbrev cc2_sem10_1 : DmaSem sig := 83
abbrev cc2_sem11_0 : DmaSem sig := 84
abbrev cc2_sem11_1 : DmaSem sig := 85
abbrev cc2_sem12_0 : DmaSem sig := 86
abbrev cc2_sem12_1 : DmaSem sig := 87
abbrev cc2_sem13_0 : DmaSem sig := 88
abbrev cc2_sem13_1 : DmaSem sig := 89
abbrev cc2_sem14_0 : DmaSem sig := 90
abbrev cc2_sem14_1 : DmaSem sig := 91
abbrev cc2_sem15_0 : DmaSem sig := 92
abbrev cc2_sem15_1 : DmaSem sig := 93

abbrev nD : Nat := 1
abbrev τ : Topo := Topo.v7x

variable {F : FTy → Type} [FloatOps F]

abbrev grid0 : Pipeline.Grid := ⟨2, ![4, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c63_i32 : BitVec 32 := 63#32
  let v1 : BitVec 32 := Scalar.minsi v0 c63_i32
  let c0_i32 : BitVec 32 := 0#32
  ![v1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c4_i32 : BitVec 32 := 4#32
  let v2 : BitVec 32 := Scalar.addi c4_i32 arg0
  let c0_i32_0 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c63_i32 : BitVec 32 := 63#32
  let v1 : BitVec 32 := Scalar.minsi v0 c63_i32
  let c4_i32 : BitVec 32 := 4#32
  let v2 : BitVec 32 := Scalar.addi c4_i32 arg0
  let c0_i32 : BitVec 32 := 0#32
  ![v1.toNat, v2.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S4x128x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S4x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev grid1 : Pipeline.Grid := ⟨2, ![4, 64], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c63_i32 : BitVec 32 := 63#32
  let v1 : BitVec 32 := Scalar.minsi v0 c63_i32
  let c0_i32 : BitVec 32 := 0#32
  ![v1.toNat, arg0.toNat]

def cc1_transform_4 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c4_i32 : BitVec 32 := 4#32
  let v2 : BitVec 32 := Scalar.addi c4_i32 arg0
  let c0_i32_0 : BitVec 32 := 0#32
  ![v1.toNat, v2.toNat]

def cc1_transform_5 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc1_transform_6 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c63_i32 : BitVec 32 := 63#32
  let v1 : BitVec 32 := Scalar.minsi v0 c63_i32
  let c4_i32 : BitVec 32 := 4#32
  let v2 : BitVec 32 := Scalar.addi c4_i32 arg0
  let c0_i32 : BitVec 32 := 0#32
  ![v1.toNat, v2.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_15 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_16 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_17 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S128x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S128x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S128x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S128x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S256x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S256x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S4x1x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S128x512 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S128x512 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S4x128x1 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S128x512 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S256x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, false]

abbrev stage1_15 : Fin 2 → Memref sig .tc .vmem S256x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, false]

abbrev stage1_16 : Fin 2 → Memref sig .tc .vmem S4x1x1 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, false]

abbrev stage1_17 : Fin 2 → Memref sig .tc .vmem S4x1x128 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true, true]

abbrev grid2 : Pipeline.Grid := ⟨2, ![4, 64], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc2_transform_2 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_4 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c63_i32 : BitVec 32 := 63#32
  let v1 : BitVec 32 := Scalar.minsi v0 c63_i32
  let c0_i32 : BitVec 32 := 0#32
  ![v1.toNat, arg0.toNat]

def cc2_transform_5 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_7 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c63_i32 : BitVec 32 := 63#32
  let v1 : BitVec 32 := Scalar.minsi v0 c63_i32
  let c0_i32 : BitVec 32 := 0#32
  ![v1.toNat, arg0.toNat]

def cc2_transform_8 (i : grid2.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc2_transform_9 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_10 (i : grid2.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c63_i32 : BitVec 32 := 63#32
  let v1 : BitVec 32 := Scalar.minsi v0 c63_i32
  let c0_i32 : BitVec 32 := 0#32
  let c0_i32_0 : BitVec 32 := 0#32
  ![arg0.toNat, c0_i32.toNat, v1.toNat]

def cc2_transform_11 (i : grid2.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc2_transform_12 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_13 (i : grid2.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c63_i32 : BitVec 32 := 63#32
  let v1 : BitVec 32 := Scalar.minsi v0 c63_i32
  let c0_i32 : BitVec 32 := 0#32
  let c0_i32_0 : BitVec 32 := 0#32
  ![arg0.toNat, c0_i32.toNat, v1.toNat]

def cc2_transform_14 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_15 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S128x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S128x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S128x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S128x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S128x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S128x512 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S128x512 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S128x512 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S4x1x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev stage2_9 : Fin 2 → Memref sig .tc .vmem S4x1x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev stage2_10 : Fin 2 → Memref sig .tc .vmem S4x1x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true]

abbrev stage2_11 : Fin 2 → Memref sig .tc .vmem S4x1x128 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true, true]

abbrev stage2_12 : Fin 2 → Memref sig .tc .vmem S4x1x128 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true, true]

abbrev stage2_13 : Fin 2 → Memref sig .tc .vmem S4x1x128 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true, true]

abbrev stage2_14 : Fin 2 → Memref sig .tc .vmem S128x128 .bf16 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true, true]

abbrev stage2_15 : Fin 2 → Memref sig .tc .vmem S128x128 .bf16 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true, true]
-- ==== KernelIdeal.lean ====
variable {F : FTy → Type} [FloatOps F] [Named F]
def κ : String → Option EReal := fun
  | "mask" => some ⊥
  | _ => none
-- ==== ReferenceIdeal.lean ====
abbrev S8192x2048 : Shape := ⟨2, ![8192, 2048]⟩
abbrev S8192x512 : Shape := ⟨2, ![8192, 512]⟩
abbrev S8192x1024 : Shape := ⟨2, ![8192, 1024]⟩
abbrev S256x512 : Shape := ⟨2, ![256, 512]⟩
abbrev S256x1024 : Shape := ⟨2, ![256, 1024]⟩
abbrev S16x1x1 : Shape := ⟨3, ![16, 1, 1]⟩
abbrev S8192x4x4x128 : Shape := ⟨4, ![8192, 4, 4, 128]⟩
abbrev S8192x4x128 : Shape := ⟨3, ![8192, 4, 128]⟩
abbrev S256x4x128 : Shape := ⟨3, ![256, 4, 128]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S4x8192x8192x4 : Shape := ⟨4, ![4, 8192, 8192, 4]⟩
abbrev S4x4x8192x8192 : Shape := ⟨4, ![4, 4, 8192, 8192]⟩
abbrev S4x256x8192x4 : Shape := ⟨4, ![4, 256, 8192, 4]⟩
abbrev S4x4x8192x256 : Shape := ⟨4, ![4, 4, 8192, 256]⟩
abbrev S4x4 : Shape := ⟨2, ![4, 4]⟩
abbrev S4x4x1 : Shape := ⟨3, ![4, 4, 1]⟩
abbrev S4x4x8192 : Shape := ⟨3, ![4, 4, 8192]⟩
abbrev S4x4x8192x1 : Shape := ⟨4, ![4, 4, 8192, 1]⟩
abbrev S4x128x4x8192 : Shape := ⟨4, ![4, 128, 4, 8192]⟩
abbrev S8192x4x4 : Shape := ⟨3, ![8192, 4, 4]⟩
abbrev S8192x4x4x1 : Shape := ⟨4, ![8192, 4, 4, 1]⟩
abbrev S4x128x256 : Shape := ⟨3, ![4, 128, 256]⟩
abbrev S4x128x8192 : Shape := ⟨3, ![4, 128, 8192]⟩
abbrev S4x8192x4x128 : Shape := ⟨4, ![4, 8192, 4, 128]⟩
abbrev S4x256x128 : Shape := ⟨3, ![4, 256, 128]⟩
abbrev S4x8192x128 : Shape := ⟨3, ![4, 8192, 128]⟩

abbrev nBuf : Space → Nat
  | .hbm => 234
  | .vmem => 0
  | .smem => 0
  | _ => 0

abbrev hbmTy0_0 (i : Nat) : BufTy := match i % 128 with
  | 0 => ⟨S8192x2048, .bf16⟩
  | 1 => ⟨S8192x512, .bf16⟩
  | 2 => ⟨S8192x1024, .f32⟩
  | 3 => ⟨S256x512, .bf16⟩
  | 4 => ⟨S256x1024, .f32⟩
  | 5 => ⟨S16x1x1, .f32⟩
  | 6 => ⟨S8192x2048, .bf16⟩
  | 7 => ⟨S8192x512, .f32⟩
  | 8 => ⟨S256x512, .f32⟩
  | 9 => ⟨S8192x2048, .f32⟩
  | 10 => ⟨S8192x512, .f32⟩
  | 11 => ⟨S256x512, .f32⟩
  | 12 => ⟨S8192x4x4x128, .f32⟩
  | 13 => ⟨S8192x4x128, .f32⟩
  | 14 => ⟨S8192x4x128, .f32⟩
  | 15 => ⟨S256x4x128, .f32⟩
  | 16 => ⟨S256x4x128, .f32⟩
  | 17 => ⟨S8192, .i32⟩
  | 18 => ⟨S8192x1, .i32⟩
  | 19 => ⟨S1x8192, .i32⟩
  | 20 => ⟨S8192x8192, .i32⟩
  | 21 => ⟨S8192x8192, .i32⟩
  | 22 => ⟨S8192x8192, .i32⟩
  | 23 => ⟨S8192x8192, .i32⟩
  | 24 => ⟨S_, .i32⟩
  | 25 => ⟨S8192x8192, .i32⟩
  | 26 => ⟨S8192x8192, .i1⟩
  | 27 => ⟨S4x8192x8192x4, .f32⟩
  | 28 => ⟨S4x4x8192x8192, .f32⟩
  | 29 => ⟨S_, .f32⟩
  | 30 => ⟨S4x4x8192x8192, .f32⟩
  | 31 => ⟨S4x4x8192x8192, .f32⟩
  | 32 => ⟨S_, .f32⟩
  | 33 => ⟨S_, .f32⟩
  | 34 => ⟨S4x4x8192x8192, .i1⟩
  | 35 => ⟨S4x4x8192x8192, .f32⟩
  | 36 => ⟨S4x4x8192x8192, .f32⟩
  | 37 => ⟨S_, .f32⟩
  | 38 => ⟨S4x4x8192x8192, .f32⟩
  | 39 => ⟨S4x256x8192x4, .f32⟩
  | 40 => ⟨S4x4x8192x256, .f32⟩
  | 41 => ⟨S_, .f32⟩
  | 42 => ⟨S4x4x8192x256, .f32⟩
  | 43 => ⟨S4x4x8192x256, .f32⟩
  | 44 => ⟨S4x4, .f32⟩
  | 45 => ⟨S4x4x1, .f32⟩
  | 46 => ⟨S_, .f32⟩
  | 47 => ⟨S4x4x8192, .f32⟩
  | 48 => ⟨S4x4x8192x1, .f32⟩
  | 49 => ⟨S4x4x8192x8192, .f32⟩
  | 50 => ⟨S4x4x8192x8192, .i1⟩
  | 51 => ⟨S4x4x8192x8192, .f32⟩
  | 52 => ⟨S_, .f32⟩
  | 53 => ⟨S4x4x8192, .f32⟩
  | 54 => ⟨S4x4x8192, .f32⟩
  | 55 => ⟨S4x4x8192, .f32⟩
  | 56 => ⟨S4x4x8192, .f32⟩
  | 57 => ⟨S4x4x8192, .i1⟩
  | 58 => ⟨S4x4x8192, .f32⟩
  | 59 => ⟨S4x4x8192, .i1⟩
  | 60 => ⟨S_, .f32⟩
  | 61 => ⟨S4x4x8192, .f32⟩
  | 62 => ⟨S_, .f32⟩
  | 63 => ⟨S4x4x8192, .f32⟩
  | 64 => ⟨S_, .f32⟩
  | 65 => ⟨S4x4x8192, .f32⟩
  | 66 => ⟨S4x4x8192, .f32⟩
  | 67 => ⟨S4x4x8192, .f32⟩
  | 68 => ⟨S4x4x8192, .f32⟩
  | 69 => ⟨S4x4x8192, .i1⟩
  | 70 => ⟨S4x4x8192, .f32⟩
  | 71 => ⟨S4x4x8192, .i1⟩
  | 72 => ⟨S_, .f32⟩
  | 73 => ⟨S4x4x8192, .f32⟩
  | 74 => ⟨S_, .f32⟩
  | 75 => ⟨S4x4x8192, .f32⟩
  | 76 => ⟨S_, .f32⟩
  | 77 => ⟨S4x4x8192, .f32⟩
  | 78 => ⟨S4x4x8192, .f32⟩
  | 79 => ⟨S4x4x8192, .f32⟩
  | 80 => ⟨S_, .f32⟩
  | 81 => ⟨S4x4x8192, .f32⟩
  | 82 => ⟨S4x4x8192x1, .f32⟩
  | 83 => ⟨S4x4x8192x256, .f32⟩
  | 84 => ⟨S4x4x8192x256, .i1⟩
  | 85 => ⟨S4x4x8192x256, .f32⟩
  | 86 => ⟨S_, .f32⟩
  | 87 => ⟨S4x4x8192, .f32⟩
  | 88 => ⟨S4x4x8192, .f32⟩
  | 89 => ⟨S4x4x8192, .i1⟩
  | 90 => ⟨S4x4x8192, .i1⟩
  | 91 => ⟨S_, .f32⟩
  | 92 => ⟨S4x4x8192, .f32⟩
  | 93 => ⟨S_, .f32⟩
  | 94 => ⟨S4x4x8192, .f32⟩
  | 95 => ⟨S_, .f32⟩
  | 96 => ⟨S4x4x8192, .f32⟩
  | 97 => ⟨S4x4x8192, .f32⟩
  | 98 => ⟨S4x4x8192, .f32⟩
  | 99 => ⟨S4x4x8192, .i1⟩
  | 100 => ⟨S4x4x8192, .i1⟩
  | 101 => ⟨S_, .f32⟩
  | 102 => ⟨S4x4x8192, .f32⟩
  | 103 => ⟨S_, .f32⟩
  | 104 => ⟨S4x4x8192, .f32⟩
  | 105 => ⟨S_, .f32⟩
  | 106 => ⟨S4x4x8192, .f32⟩
  | 107 => ⟨S4x4x8192, .f32⟩
  | 108 => ⟨S4x4x8192, .f32⟩
  | 109 => ⟨S4x4x8192, .f32⟩
  | 110 => ⟨S4x4x8192, .f32⟩
  | 111 => ⟨S4x4x8192, .f32⟩
  | 112 => ⟨S4x4x8192x1, .f32⟩
  | 113 => ⟨S4x4x8192x8192, .f32⟩
  | 114 => ⟨S4x4x8192x8192, .f32⟩
  | 115 => ⟨S4x4x8192x8192, .f32⟩
  | 116 => ⟨S_, .f32⟩
  | 117 => ⟨S4x4x8192, .f32⟩
  | 118 => ⟨S4x4x8192, .f32⟩
  | 119 => ⟨S4x128x4x8192, .f32⟩
  | 120 => ⟨S8192x4x4x128, .f32⟩
  | 121 => ⟨S4x4x8192x1, .f32⟩
  | 122 => ⟨S4x4x8192x256, .f32⟩
  | 123 => ⟨S4x4x8192x256, .f32⟩
  | 124 => ⟨S4x4x8192x256, .f32⟩
  | 125 => ⟨S_, .f32⟩
  | 126 => ⟨S4x4x8192, .f32⟩
  | 127 => ⟨S4x4x8192, .f32⟩
  | _ => ⟨S8192x2048, .bf16⟩

abbrev hbmTy0_1 (i : Nat) : BufTy := match i % 128 with
  | 0 => ⟨S4x128x4x8192, .f32⟩
  | 1 => ⟨S8192x4x4x128, .f32⟩
  | 2 => ⟨S8192x4x4x128, .f32⟩
  | 3 => ⟨S8192x4x4, .f32⟩
  | 4 => ⟨S8192x4x4x1, .f32⟩
  | 5 => ⟨S8192x4x4x128, .f32⟩
  | 6 => ⟨S8192x4x4x128, .f32⟩
  | 7 => ⟨S8192x4x4x1, .f32⟩
  | 8 => ⟨S_, .f32⟩
  | 9 => ⟨S8192x4x4x1, .f32⟩
  | 10 => ⟨S8192x4x4x1, .f32⟩
  | 11 => ⟨S8192x2048, .f32⟩
  | 12 => ⟨S8192x2048, .f32⟩
  | 13 => ⟨S8192x4x4x128, .f32⟩
  | 14 => ⟨S8192x4x4x128, .f32⟩
  | 15 => ⟨S8192x4x4x128, .f32⟩
  | 16 => ⟨S8192x4x4x128, .f32⟩
  | 17 => ⟨S_, .f32⟩
  | 18 => ⟨S8192x4x4, .f32⟩
  | 19 => ⟨S8192x4x4x1, .f32⟩
  | 20 => ⟨S8192x4x4x1, .f32⟩
  | 21 => ⟨S8192x4x4x128, .f32⟩
  | 22 => ⟨S8192x4x4x128, .f32⟩
  | 23 => ⟨S_, .f32⟩
  | 24 => ⟨S8192x4x4, .f32⟩
  | 25 => ⟨S4x4x8192, .f32⟩
  | 26 => ⟨S4x128x4x8192, .f32⟩
  | 27 => ⟨S4x4x8192x256, .f32⟩
  | 28 => ⟨S4x128x256, .f32⟩
  | 29 => ⟨S256x4x128, .f32⟩
  | 30 => ⟨S4x4x8192x256, .f32⟩
  | 31 => ⟨S4x4x8192x256, .f32⟩
  | 32 => ⟨S4x4x8192x256, .f32⟩
  | 33 => ⟨S4x4x8192x256, .f32⟩
  | 34 => ⟨S_, .f32⟩
  | 35 => ⟨S4x4x8192, .f32⟩
  | 36 => ⟨S4x4x8192x1, .f32⟩
  | 37 => ⟨S_, .f32⟩
  | 38 => ⟨S4x4x8192, .f32⟩
  | 39 => ⟨S4x128x4x8192, .f32⟩
  | 40 => ⟨S4x4x8192x8192, .f32⟩
  | 41 => ⟨S4x128x8192, .f32⟩
  | 42 => ⟨S8192x4x128, .f32⟩
  | 43 => ⟨S4x4x8192x8192, .f32⟩
  | 44 => ⟨S4x4x8192x8192, .f32⟩
  | 45 => ⟨S4x4x8192x8192, .f32⟩
  | 46 => ⟨S4x4x8192x8192, .f32⟩
  | 47 => ⟨S_, .f32⟩
  | 48 => ⟨S4x4x8192, .f32⟩
  | 49 => ⟨S4x4x8192x1, .f32⟩
  | 50 => ⟨S_, .f32⟩
  | 51 => ⟨S4x4x8192, .f32⟩
  | 52 => ⟨S4x4x8192, .f32⟩
  | 53 => ⟨S4x4x8192, .f32⟩
  | 54 => ⟨S_, .f32⟩
  | 55 => ⟨S4x4, .f32⟩
  | 56 => ⟨S4x4x1, .f32⟩
  | 57 => ⟨S4x4x8192, .f32⟩
  | 58 => ⟨S4x4x8192, .f32⟩
  | 59 => ⟨S4x4x8192, .f32⟩
  | 60 => ⟨S4x4x8192, .f32⟩
  | 61 => ⟨S4x4x8192, .f32⟩
  | 62 => ⟨S4x4x8192x256, .f32⟩
  | 63 => ⟨S4x4x8192x256, .f32⟩
  | 64 => ⟨S4x4x8192x256, .f32⟩
  | 65 => ⟨S4x4x8192, .f32⟩
  | 66 => ⟨S4x4x8192, .f32⟩
  | 67 => ⟨S_, .f32⟩
  | 68 => ⟨S4x4, .f32⟩
  | 69 => ⟨S4x4x1, .f32⟩
  | 70 => ⟨S4x4x1, .f32⟩
  | 71 => ⟨S4x4x8192, .f32⟩
  | 72 => ⟨S4x4x8192x8192, .f32⟩
  | 73 => ⟨S4x4x8192x8192, .f32⟩
  | 74 => ⟨S4x4x8192x8192, .f32⟩
  | 75 => ⟨S_, .f32⟩
  | 76 => ⟨S4x4, .f32⟩
  | 77 => ⟨S16x1x1, .f32⟩
  | 78 => ⟨S_, .f32⟩
  | 79 => ⟨S4x4x8192x256, .f32⟩
  | 80 => ⟨S4x4x8192x256, .f32⟩
  | 81 => ⟨S4x256x8192x4, .f32⟩
  | 82 => ⟨S4x8192x4x128, .f32⟩
  | 83 => ⟨S8192x4x4x128, .f32⟩
  | 84 => ⟨S4x256x128, .f32⟩
  | 85 => ⟨S256x4x128, .f32⟩
  | 86 => ⟨S_, .f32⟩
  | 87 => ⟨S4x4x8192x8192, .f32⟩
  | 88 => ⟨S4x4x8192x8192, .f32⟩
  | 89 => ⟨S_, .f32⟩
  | 90 => ⟨S4x4x8192x8192, .f32⟩
  | 91 => ⟨S4x4x8192x8192, .f32⟩
  | 92 => ⟨S4x8192x8192x4, .f32⟩
  | 93 => ⟨S4x8192x4x128, .f32⟩
  | 94 => ⟨S8192x4x4x128, .f32⟩
  | 95 => ⟨S8192x4x4x128, .f32⟩
  | 96 => ⟨S4x8192x128, .f32⟩
  | 97 => ⟨S8192x4x128, .f32⟩
  | 98 => ⟨S256x512, .f32⟩
  | 99 => ⟨S256x512, .f32⟩
  | 100 => ⟨S8192x512, .f32⟩
  | 101 => ⟨S8192x512, .f32⟩
  | 102 => ⟨S8192x2048, .f32⟩
  | 103 => ⟨S8192x2048, .bf16⟩
  | 104 => ⟨S8192x512, .bf16⟩
  | 105 => ⟨S8192x512, .bf16⟩
  | _ => ⟨S8192x2048, .bf16⟩

abbrev hbmTy (i : Nat) : BufTy := match i / 128 with
  | 0 => hbmTy0_0 i
  | 1 => hbmTy0_1 i
  | _ => ⟨S8192x2048, .bf16⟩

abbrev bufTy : (tb : Table) → Fin (tcTables nBuf tb) → BufTy
  | .hbm, ⟨i, _⟩ => hbmTy i
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_cst_0 : Ref sig .tc := ⟨.hbm, 32, rfl⟩
abbrev main_call0_v0 : Ref sig .tc := ⟨.hbm, 33, rfl⟩
abbrev main_v23_1 : Ref sig .tc := ⟨.hbm, 34, rfl⟩
abbrev main_call0_v2 : Ref sig .tc := ⟨.hbm, 35, rfl⟩
abbrev main_v23_0 : Ref sig .tc := ⟨.hbm, 36, rfl⟩
abbrev main_call0_cst : Ref sig .tc := ⟨.hbm, 37, rfl⟩
abbrev main_v23_2 : Ref sig .tc := ⟨.hbm, 38, rfl⟩
abbrev main_v24 : Ref sig .tc := ⟨.hbm, 39, rfl⟩
abbrev main_v25 : Ref sig .tc := ⟨.hbm, 40, rfl⟩
abbrev main_cst_1 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_2 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_4 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_cst_6 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_7 : Ref sig .tc := ⟨.hbm, 72, rfl⟩
abbrev main_v51 : Ref sig .tc := ⟨.hbm, 73, rfl⟩
abbrev main_cst_8 : Ref sig .tc := ⟨.hbm, 74, rfl⟩
abbrev main_v52 : Ref sig .tc := ⟨.hbm, 75, rfl⟩
abbrev main_cst_9 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_10 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_12 : Ref sig .tc := ⟨.hbm, 91, rfl⟩
abbrev main_v65 : Ref sig .tc := ⟨.hbm, 92, rfl⟩
abbrev main_cst_13 : Ref sig .tc := ⟨.hbm, 93, rfl⟩
abbrev main_v66 : Ref sig .tc := ⟨.hbm, 94, rfl⟩
abbrev main_cst_14 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_15 : Ref sig .tc := ⟨.hbm, 101, rfl⟩
abbrev main_v72 : Ref sig .tc := ⟨.hbm, 102, rfl⟩
abbrev main_cst_16 : Ref sig .tc := ⟨.hbm, 103, rfl⟩
abbrev main_v73 : Ref sig .tc := ⟨.hbm, 104, rfl⟩
abbrev main_cst_17 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_18 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_19 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_20 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_cst_21 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_cst_22 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_cst_23 : Ref sig .tc := ⟨.hbm, 162, rfl⟩
abbrev main_v125 : Ref sig .tc := ⟨.hbm, 163, rfl⟩
abbrev main_v126 : Ref sig .tc := ⟨.hbm, 164, rfl⟩
abbrev main_cst_24 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_cst_25 : Ref sig .tc := ⟨.hbm, 175, rfl⟩
abbrev main_v136 : Ref sig .tc := ⟨.hbm, 176, rfl⟩
abbrev main_v137 : Ref sig .tc := ⟨.hbm, 177, rfl⟩
abbrev main_cst_26 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_cst_27 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_cst_28 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_cst_29 : Ref sig .tc := ⟨.hbm, 203, rfl⟩
abbrev main_v160 : Ref sig .tc := ⟨.hbm, 204, rfl⟩
abbrev main_v161 : Ref sig .tc := ⟨.hbm, 205, rfl⟩
abbrev main_cst_30 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_call1_cst : Ref sig .tc := ⟨.hbm, 214, rfl⟩
abbrev main_call1_v0 : Ref sig .tc := ⟨.hbm, 215, rfl⟩
abbrev main_v169 : Ref sig .tc := ⟨.hbm, 216, rfl⟩
abbrev main_cst_31 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩

abbrev nD : Nat := 1
abbrev τ : Topo := Topo.v7x

variable {F : FTy → Type} [FloatOps F]
-- ==== Up.lean ====
abbrev S8192x2048 : Shape := ⟨2, ![8192, 2048]⟩
abbrev S2048x5632 : Shape := ⟨2, ![2048, 5632]⟩
abbrev S8192x5632 : Shape := ⟨2, ![8192, 5632]⟩
abbrev S1024x2048 : Shape := ⟨2, ![1024, 2048]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S8192x5632, .f32⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S8192x2048 : Shape := ⟨2, ![8192, 2048]⟩
abbrev S2048x5632 : Shape := ⟨2, ![2048, 5632]⟩
abbrev S8192x5632 : Shape := ⟨2, ![8192, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S8192x2048, .f32⟩
  | .hbm, ⟨3, _⟩ => ⟨S2048x5632, .f32⟩
  | .hbm, ⟨4, _⟩ => ⟨S8192x5632, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Down.lean ====
abbrev S8192x5632 : Shape := ⟨2, ![8192, 5632]⟩
abbrev S5632x2048 : Shape := ⟨2, ![5632, 2048]⟩
abbrev S8192x2048 : Shape := ⟨2, ![8192, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x5632, .f32⟩
  | .hbm, ⟨3, _⟩ => ⟨S5632x2048, .f32⟩
  | .hbm, ⟨4, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Df.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DfRefIdeal.lean ====
abbrev S8192x2048 : Shape := ⟨2, ![8192, 2048]⟩
abbrev S5632x2048 : Shape := ⟨2, ![5632, 2048]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S5632x2048, .f32⟩
  | .hbm, ⟨3, _⟩ => ⟨S8192x2048, .f32⟩
  | .hbm, ⟨4, _⟩ => ⟨S8192x5632, .f32⟩
  | .hbm, ⟨5, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwDown.lean ====
abbrev S8192x5632 : Shape := ⟨2, ![8192, 5632]⟩
abbrev S8192x2048 : Shape := ⟨2, ![8192, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S8192x5632 : Shape := ⟨2, ![8192, 5632]⟩
abbrev S8192x2048 : Shape := ⟨2, ![8192, 2048]⟩
abbrev S2048x5632 : Shape := ⟨2, ![2048, 5632]⟩
abbrev S5632x2048 : Shape := ⟨2, ![5632, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S8192x5632, .f32⟩
  | .hbm, ⟨3, _⟩ => ⟨S8192x2048, .f32⟩
  | .hbm, ⟨4, _⟩ => ⟨S2048x5632, .f32⟩
  | .hbm, ⟨5, _⟩ => ⟨S5632x2048, .f32⟩
  | .hbm, ⟨6, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Dh.lean ====
abbrev S8192x5632 : Shape := ⟨2, ![8192, 5632]⟩
abbrev S2048x5632 : Shape := ⟨2, ![2048, 5632]⟩
abbrev S8192x2048 : Shape := ⟨2, ![8192, 2048]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhRefIdeal.lean ====
abbrev S8192x5632 : Shape := ⟨2, ![8192, 5632]⟩
abbrev S2048x5632 : Shape := ⟨2, ![2048, 5632]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S2048x5632, .f32⟩
  | .hbm, ⟨3, _⟩ => ⟨S8192x5632, .f32⟩
  | .hbm, ⟨4, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DhAdd.lean ====
abbrev S8192x5632 : Shape := ⟨2, ![8192, 5632]⟩
abbrev S2048x5632 : Shape := ⟨2, ![2048, 5632]⟩
abbrev S8192x2048 : Shape := ⟨2, ![8192, 2048]⟩
abbrev S1024x2816 : Shape := ⟨2, ![1024, 2816]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x2048, .f32⟩
  | .hbm, ⟨3, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhAddRefIdeal.lean ====
abbrev S8192x5632 : Shape := ⟨2, ![8192, 5632]⟩
abbrev S2048x5632 : Shape := ⟨2, ![2048, 5632]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x2048, .f32⟩
  | .hbm, ⟨3, _⟩ => ⟨S2048x5632, .f32⟩
  | .hbm, ⟨4, _⟩ => ⟨S8192x5632, .f32⟩
  | .hbm, ⟨5, _⟩ => ⟨S8192x2048, .f32⟩
  | .hbm, ⟨6, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwUp.lean ====
abbrev S8192x2048 : Shape := ⟨2, ![8192, 2048]⟩
abbrev S8192x5632 : Shape := ⟨2, ![8192, 5632]⟩
abbrev S2048x5632 : Shape := ⟨2, ![2048, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S2048x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S8192x2048 : Shape := ⟨2, ![8192, 2048]⟩
abbrev S8192x5632 : Shape := ⟨2, ![8192, 5632]⟩
abbrev S5632x2048 : Shape := ⟨2, ![5632, 2048]⟩
abbrev S2048x5632 : Shape := ⟨2, ![2048, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S8192x2048, .f32⟩
  | .hbm, ⟨3, _⟩ => ⟨S8192x5632, .f32⟩
  | .hbm, ⟨4, _⟩ => ⟨S5632x2048, .f32⟩
  | .hbm, ⟨5, _⟩ => ⟨S2048x5632, .f32⟩
  | .hbm, ⟨6, _⟩ => ⟨S2048x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Sq.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SqRefIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Dsq.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DsqRefIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S2048x2048, .f32⟩
  | .hbm, ⟨3, _⟩ => ⟨S8192x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwSq.lean ====
abbrev S8192x2048 : Shape := ⟨2, ![8192, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwSqRefIdeal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DoAttn.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DoAttnRefIdeal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S2048x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DsqAdd.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DsqAddRefIdeal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwSqAdd.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .f32⟩
  | .hbm, ⟨3, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DwSqAddRefIdeal.lean ====
abbrev S8192x2048 : Shape := ⟨2, ![8192, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .f32⟩
  | .hbm, ⟨3, _⟩ => ⟨S8192x2048, .f32⟩
  | .hbm, ⟨4, _⟩ => ⟨S8192x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Gab.lean ====
abbrev S8192x2048 : Shape := ⟨2, ![8192, 2048]⟩
abbrev S2048x4096 : Shape := ⟨2, ![2048, 4096]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GabRefIdeal.lean ====
abbrev S8192x2048 : Shape := ⟨2, ![8192, 2048]⟩
abbrev S2048x4096 : Shape := ⟨2, ![2048, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192x2048, .f32⟩
  | .hbm, ⟨3, _⟩ => ⟨S2048x4096, .f32⟩
  | .hbm, ⟨4, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DhGab.lean ====
abbrev S8192x4096 : Shape := ⟨2, ![8192, 4096]⟩
abbrev S2048x4096 : Shape := ⟨2, ![2048, 4096]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S2048x4096, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhGabRefIdeal.lean ====
abbrev S8192x4096 : Shape := ⟨2, ![8192, 4096]⟩
abbrev S2048x4096 : Shape := ⟨2, ![2048, 4096]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2048x4096, .bf16⟩
  | .hbm, ⟨2, _⟩ => ⟨S8192x2048, .f32⟩
  | .hbm, ⟨3, _⟩ => ⟨S2048x4096, .f32⟩
  | .hbm, ⟨4, _⟩ => ⟨S8192x4096, .f32⟩
  | .hbm, ⟨5, _⟩ => ⟨S8192x2048, .f32⟩
  | .hbm, ⟨6, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwGab.lean ====
abbrev S8192x2048 : Shape := ⟨2, ![8192, 2048]⟩
abbrev S8192x4096 : Shape := ⟨2, ![8192, 4096]⟩
abbrev S2048x4096 : Shape := ⟨2, ![2048, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S2048x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGabRefIdeal.lean ====
abbrev S8192x2048 : Shape := ⟨2, ![8192, 2048]⟩
abbrev S8192x4096 : Shape := ⟨2, ![8192, 4096]⟩
abbrev S4096x2048 : Shape := ⟨2, ![4096, 2048]⟩
abbrev S2048x4096 : Shape := ⟨2, ![2048, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S8192x2048, .f32⟩
  | .hbm, ⟨3, _⟩ => ⟨S8192x4096, .f32⟩
  | .hbm, ⟨4, _⟩ => ⟨S4096x2048, .f32⟩
  | .hbm, ⟨5, _⟩ => ⟨S2048x4096, .f32⟩
  | .hbm, ⟨6, _⟩ => ⟨S2048x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kv.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvRefIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x2048, .f32⟩
  | .hbm, ⟨3, _⟩ => ⟨S2048x1024, .f32⟩
  | .hbm, ⟨4, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DhKv.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .f32⟩
  | .hbm, ⟨3, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhKvRefIdeal.lean ====
abbrev S8192x1024 : Shape := ⟨2, ![8192, 1024]⟩
abbrev S2048x1024 : Shape := ⟨2, ![2048, 1024]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .f32⟩
  | .hbm, ⟨3, _⟩ => ⟨S2048x1024, .f32⟩
  | .hbm, ⟨4, _⟩ => ⟨S8192x1024, .f32⟩
  | .hbm, ⟨5, _⟩ => ⟨S8192x2048, .f32⟩
  | .hbm, ⟨6, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwKv.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .hbm, ⟨3, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DwKvRefIdeal.lean ====
abbrev S8192x2048 : Shape := ⟨2, ![8192, 2048]⟩
abbrev S8192x1024 : Shape := ⟨2, ![8192, 1024]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .hbm, ⟨3, _⟩ => ⟨S8192x2048, .f32⟩
  | .hbm, ⟨4, _⟩ => ⟨S8192x1024, .f32⟩
  | .hbm, ⟨5, _⟩ => ⟨S1024x2048, .f32⟩
  | .hbm, ⟨6, _⟩ => ⟨S2048x1024, .f32⟩
  | .hbm, ⟨7, _⟩ => ⟨S2048x1024, .f32⟩
  | .hbm, ⟨8, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KvCtx.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x1024, .f32⟩
  | .local _ .vmem, ⟨0, _⟩ => ⟨S256x2048, .bf16⟩
  | .local _ .vmem, ⟨1, _⟩ => ⟨S2048x1024, .bf16⟩
  | .local _ .vmem, ⟨2, _⟩ => ⟨S256x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KvCtxRefIdeal.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 5
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x2048, .f32⟩
  | .hbm, ⟨3, _⟩ => ⟨S2048x1024, .f32⟩
  | .hbm, ⟨4, _⟩ => ⟨S256x1024, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SqCtx.lean ====
abbrev S256x2048 : Shape := ⟨2, ![256, 2048]⟩
abbrev S2048x2048 : Shape := ⟨2, ![2048, 2048]⟩
abbrev S2048x1024 : Shape := ⟨2, ![2048, 1024]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .f32⟩
  | .local _ .vmem, ⟨0, _⟩ => ⟨S256x2048, .bf16⟩
  | .local _ .vmem, ⟨1, _⟩ => ⟨S2048x1024, .bf16⟩
  | .local _ .vmem, ⟨2, _⟩ => ⟨S2048x1024, .bf16⟩
  | .local _ .vmem, ⟨3, _⟩ => ⟨S256x1024, .f32⟩
  | .local _ .vmem, ⟨4, _⟩ => ⟨S256x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SqCtxRefIdeal.lean ====
abbrev S256x2048 : Shape := ⟨2, ![256, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .f32⟩
  | .hbm, ⟨3, _⟩ => ⟨S2048x2048, .f32⟩
  | .hbm, ⟨4, _⟩ => ⟨S256x2048, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== LrCtx.lean ====
abbrev S256x2048 : Shape := ⟨2, ![256, 2048]⟩
abbrev S2048x128 : Shape := ⟨2, ![2048, 128]⟩
abbrev S256x128 : Shape := ⟨2, ![256, 128]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .bf16⟩
  | .hbm, ⟨1, _⟩ => ⟨S2048x128, .bf16⟩
  | .hbm, ⟨2, _⟩ => ⟨S256x128, .f32⟩
  | .local _ .vmem, ⟨0, _⟩ => ⟨S256x2048, .bf16⟩
  | .local _ .vmem, ⟨1, _⟩ => ⟨S2048x128, .bf16⟩
  | .local _ .vmem, ⟨2, _⟩ => ⟨S256x128, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== LrCtxRefIdeal.lean ====
abbrev S256x2048 : Shape := ⟨2, ![256, 2048]⟩
abbrev S2048x128 : Shape := ⟨2, ![2048, 128]⟩
abbrev S256x128 : Shape := ⟨2, ![256, 128]⟩

abbrev nBuf : Space → Nat
  | .hbm => 5
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x128, .bf16⟩
  | .hbm, ⟨2, _⟩ => ⟨S256x2048, .f32⟩
  | .hbm, ⟨3, _⟩ => ⟨S2048x128, .f32⟩
  | .hbm, ⟨4, _⟩ => ⟨S256x128, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwKvCtx.lean ====
abbrev S256x2048 : Shape := ⟨2, ![256, 2048]⟩
abbrev S256x1024 : Shape := ⟨2, ![256, 1024]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S256x1024, .bf16⟩
  | .hbm, ⟨2, _⟩ => ⟨S2048x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwKvCtxRefIdeal.lean ====
abbrev S256x2048 : Shape := ⟨2, ![256, 2048]⟩
abbrev S256x1024 : Shape := ⟨2, ![256, 1024]⟩
abbrev S1024x2048 : Shape := ⟨2, ![1024, 2048]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x1024, .bf16⟩
  | .hbm, ⟨2, _⟩ => ⟨S256x2048, .f32⟩
  | .hbm, ⟨3, _⟩ => ⟨S256x1024, .f32⟩
  | .hbm, ⟨4, _⟩ => ⟨S1024x2048, .f32⟩
  | .hbm, ⟨5, _⟩ => ⟨S2048x1024, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwSqCtx.lean ====
abbrev S256x2048 : Shape := ⟨2, ![256, 2048]⟩
abbrev S2048x2048 : Shape := ⟨2, ![2048, 2048]⟩
abbrev S256x1024 : Shape := ⟨2, ![256, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S256x2048, .bf16⟩
  | .hbm, ⟨2, _⟩ => ⟨S2048x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwSqCtxRefIdeal.lean ====
abbrev S256x2048 : Shape := ⟨2, ![256, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x2048, .bf16⟩
  | .hbm, ⟨2, _⟩ => ⟨S256x2048, .f32⟩
  | .hbm, ⟨3, _⟩ => ⟨S256x2048, .f32⟩
  | .hbm, ⟨4, _⟩ => ⟨S2048x2048, .f32⟩
  | .hbm, ⟨5, _⟩ => ⟨S2048x2048, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwLrCtx.lean ====
abbrev S256x2048 : Shape := ⟨2, ![256, 2048]⟩
abbrev S256x128 : Shape := ⟨2, ![256, 128]⟩
abbrev S2048x128 : Shape := ⟨2, ![2048, 128]⟩
abbrev S256x1024 : Shape := ⟨2, ![256, 1024]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S256x128, .bf16⟩
  | .hbm, ⟨2, _⟩ => ⟨S2048x128, .f32⟩
  | .local _ .vmem, ⟨0, _⟩ => ⟨S256x1024, .bf16⟩
  | .local _ .vmem, ⟨1, _⟩ => ⟨S256x1024, .bf16⟩
  | .local _ .vmem, ⟨2, _⟩ => ⟨S256x128, .bf16⟩
  | .local _ .vmem, ⟨3, _⟩ => ⟨S1024x128, .f32⟩
  | .local _ .vmem, ⟨4, _⟩ => ⟨S1024x128, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwLrCtxRefIdeal.lean ====
abbrev S256x2048 : Shape := ⟨2, ![256, 2048]⟩
abbrev S256x128 : Shape := ⟨2, ![256, 128]⟩
abbrev S128x2048 : Shape := ⟨2, ![128, 2048]⟩
abbrev S2048x128 : Shape := ⟨2, ![2048, 128]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x128, .bf16⟩
  | .hbm, ⟨2, _⟩ => ⟨S256x2048, .f32⟩
  | .hbm, ⟨3, _⟩ => ⟨S256x128, .f32⟩
  | .hbm, ⟨4, _⟩ => ⟨S128x2048, .f32⟩
  | .hbm, ⟨5, _⟩ => ⟨S2048x128, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DhcKv.lean ====
abbrev S256x1024 : Shape := ⟨2, ![256, 1024]⟩
abbrev S2048x1024 : Shape := ⟨2, ![2048, 1024]⟩
abbrev S256x2048 : Shape := ⟨2, ![256, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S2048x1024, .bf16⟩
  | .hbm, ⟨2, _⟩ => ⟨S256x2048, .f32⟩
  | .local _ .vmem, ⟨0, _⟩ => ⟨S256x1024, .bf16⟩
  | .local _ .vmem, ⟨1, _⟩ => ⟨S1024x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhcKvRefIdeal.lean ====
abbrev S256x1024 : Shape := ⟨2, ![256, 1024]⟩
abbrev S2048x1024 : Shape := ⟨2, ![2048, 1024]⟩
abbrev S256x2048 : Shape := ⟨2, ![256, 2048]⟩

abbrev nBuf : Space → Nat
  | .hbm => 5
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S2048x1024, .bf16⟩
  | .hbm, ⟨2, _⟩ => ⟨S2048x1024, .f32⟩
  | .hbm, ⟨3, _⟩ => ⟨S256x1024, .f32⟩
  | .hbm, ⟨4, _⟩ => ⟨S256x2048, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DhcSq.lean ====
abbrev S256x2048 : Shape := ⟨2, ![256, 2048]⟩
abbrev S2048x2048 : Shape := ⟨2, ![2048, 2048]⟩
abbrev S1024x2048 : Shape := ⟨2, ![1024, 2048]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .f32⟩
  | .hbm, ⟨3, _⟩ => ⟨S256x2048, .f32⟩
  | .local _ .vmem, ⟨0, _⟩ => ⟨S256x2048, .bf16⟩
  | .local _ .vmem, ⟨1, _⟩ => ⟨S1024x2048, .bf16⟩
  | .local _ .vmem, ⟨2, _⟩ => ⟨S1024x2048, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhcSqRefIdeal.lean ====
abbrev S256x2048 : Shape := ⟨2, ![256, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .f32⟩
  | .hbm, ⟨3, _⟩ => ⟨S2048x2048, .f32⟩
  | .hbm, ⟨4, _⟩ => ⟨S256x2048, .f32⟩
  | .hbm, ⟨5, _⟩ => ⟨S256x2048, .f32⟩
  | .hbm, ⟨6, _⟩ => ⟨S256x2048, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DhcLr.lean ====
abbrev S256x128 : Shape := ⟨2, ![256, 128]⟩
abbrev S2048x128 : Shape := ⟨2, ![2048, 128]⟩
abbrev S256x2048 : Shape := ⟨2, ![256, 2048]⟩
abbrev S1024x128 : Shape := ⟨2, ![1024, 128]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S256x128, .bf16⟩
  | .hbm, ⟨1, _⟩ => ⟨S2048x128, .bf16⟩
  | .hbm, ⟨2, _⟩ => ⟨S256x2048, .f32⟩
  | .hbm, ⟨3, _⟩ => ⟨S256x2048, .f32⟩
  | .local _ .vmem, ⟨0, _⟩ => ⟨S256x128, .bf16⟩
  | .local _ .vmem, ⟨1, _⟩ => ⟨S1024x128, .bf16⟩
  | .local _ .vmem, ⟨2, _⟩ => ⟨S1024x128, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhcLrRefIdeal.lean ====
abbrev S256x128 : Shape := ⟨2, ![256, 128]⟩
abbrev S2048x128 : Shape := ⟨2, ![2048, 128]⟩
abbrev S256x2048 : Shape := ⟨2, ![256, 2048]⟩

abbrev nBuf : Space → Nat
  | .hbm => 7
  | .vmem => 0
  | .smem => 0
  | _ => 0

abbrev bufTy : (tb : Table) → Fin (tcTables nBuf tb) → BufTy
  | .hbm, ⟨0, _⟩ => ⟨S256x128, .bf16⟩
  | .hbm, ⟨1, _⟩ => ⟨S2048x128, .bf16⟩
  | .hbm, ⟨2, _⟩ => ⟨S256x2048, .f32⟩
  | .hbm, ⟨3, _⟩ => ⟨S2048x128, .f32⟩
  | .hbm, ⟨4, _⟩ => ⟨S256x128, .f32⟩
  | .hbm, ⟨5, _⟩ => ⟨S256x2048, .f32⟩
  | .hbm, ⟨6, _⟩ => ⟨S256x2048, .f32⟩
  | _, _ => ⟨S256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Lr.lean ====
abbrev S8192x2048 : Shape := ⟨2, ![8192, 2048]⟩
abbrev S2048x128 : Shape := ⟨2, ![2048, 128]⟩
abbrev S8192x128 : Shape := ⟨2, ![8192, 128]⟩
abbrev S1024x2048 : Shape := ⟨2, ![1024, 2048]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x128, .bf16⟩
  | .hbm, ⟨2, _⟩ => ⟨S8192x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LrRefIdeal.lean ====
abbrev S8192x2048 : Shape := ⟨2, ![8192, 2048]⟩
abbrev S2048x128 : Shape := ⟨2, ![2048, 128]⟩
abbrev S8192x128 : Shape := ⟨2, ![8192, 128]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x128, .bf16⟩
  | .hbm, ⟨2, _⟩ => ⟨S8192x2048, .f32⟩
  | .hbm, ⟨3, _⟩ => ⟨S2048x128, .f32⟩
  | .hbm, ⟨4, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DhLr.lean ====
abbrev S8192x128 : Shape := ⟨2, ![8192, 128]⟩
abbrev S2048x128 : Shape := ⟨2, ![2048, 128]⟩
abbrev S8192x2048 : Shape := ⟨2, ![8192, 2048]⟩
abbrev S1024x128 : Shape := ⟨2, ![1024, 128]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x128, .bf16⟩
  | .hbm, ⟨1, _⟩ => ⟨S2048x128, .bf16⟩
  | .hbm, ⟨2, _⟩ => ⟨S8192x2048, .f32⟩
  | .hbm, ⟨3, _⟩ => ⟨S8192x2048, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhLrRefIdeal.lean ====
abbrev S8192x128 : Shape := ⟨2, ![8192, 128]⟩
abbrev S2048x128 : Shape := ⟨2, ![2048, 128]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S2048x128, .bf16⟩
  | .hbm, ⟨2, _⟩ => ⟨S8192x2048, .f32⟩
  | .hbm, ⟨3, _⟩ => ⟨S2048x128, .f32⟩
  | .hbm, ⟨4, _⟩ => ⟨S8192x128, .f32⟩
  | .hbm, ⟨5, _⟩ => ⟨S8192x2048, .f32⟩
  | .hbm, ⟨6, _⟩ => ⟨S8192x2048, .f32⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwLr.lean ====
abbrev S8192x2048 : Shape := ⟨2, ![8192, 2048]⟩
abbrev S8192x128 : Shape := ⟨2, ![8192, 128]⟩
abbrev S2048x128 : Shape := ⟨2, ![2048, 128]⟩
abbrev S8192x1024 : Shape := ⟨2, ![8192, 1024]⟩
abbrev S1024x128 : Shape := ⟨2, ![1024, 128]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x128, .bf16⟩
  | .hbm, ⟨2, _⟩ => ⟨S2048x128, .f32⟩
  | .hbm, ⟨3, _⟩ => ⟨S2048x128, .bf16⟩
  | .local _ .vmem, ⟨0, _⟩ => ⟨S8192x1024, .bf16⟩
  | .local _ .vmem, ⟨1, _⟩ => ⟨S8192x1024, .bf16⟩
  | .local _ .vmem, ⟨2, _⟩ => ⟨S8192x128, .bf16⟩
  | .local _ .vmem, ⟨3, _⟩ => ⟨S1024x128, .f32⟩
  | .local _ .vmem, ⟨4, _⟩ => ⟨S1024x128, .f32⟩
  | .local _ .vmem, ⟨5, _⟩ => ⟨S1024x128, .bf16⟩
  | .local _ .vmem, ⟨6, _⟩ => ⟨S1024x128, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DwLrRefIdeal.lean ====
abbrev S8192x2048 : Shape := ⟨2, ![8192, 2048]⟩
abbrev S8192x128 : Shape := ⟨2, ![8192, 128]⟩
abbrev S2048x128 : Shape := ⟨2, ![2048, 128]⟩
abbrev S128x2048 : Shape := ⟨2, ![128, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x128, .bf16⟩
  | .hbm, ⟨2, _⟩ => ⟨S2048x128, .f32⟩
  | .hbm, ⟨3, _⟩ => ⟨S8192x2048, .f32⟩
  | .hbm, ⟨4, _⟩ => ⟨S8192x128, .f32⟩
  | .hbm, ⟨5, _⟩ => ⟨S128x2048, .f32⟩
  | .hbm, ⟨6, _⟩ => ⟨S2048x128, .f32⟩
  | .hbm, ⟨7, _⟩ => ⟨S2048x128, .f32⟩
  | .hbm, ⟨8, _⟩ => ⟨S2048x128, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Merge.lean ====
abbrev S8192x2048 : Shape := ⟨2, ![8192, 2048]⟩
abbrev S8192x4096 : Shape := ⟨2, ![8192, 4096]⟩
abbrev S256x2048 : Shape := ⟨2, ![256, 2048]⟩

abbrev nBuf : Space → Nat
  | .hbm => 4
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x4096, .f32⟩
  | .hbm, ⟨3, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeRefIdeal.lean ====
abbrev S8192x2048 : Shape := ⟨2, ![8192, 2048]⟩
abbrev S8192x4096 : Shape := ⟨2, ![8192, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x4096, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== MergeBwd.lean ====
abbrev S8192x2048 : Shape := ⟨2, ![8192, 2048]⟩
abbrev S8192x4096 : Shape := ⟨2, ![8192, 4096]⟩
abbrev S256x2048 : Shape := ⟨2, ![256, 2048]⟩
abbrev S256x4096 : Shape := ⟨2, ![256, 4096]⟩

abbrev nBuf : Space → Nat
  | .hbm => 7
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x4096, .f32⟩
  | .hbm, ⟨4, _⟩ => ⟨S8192x2048, .bf16⟩
  | .hbm, ⟨5, _⟩ => ⟨S8192x2048, .bf16⟩
  | .hbm, ⟨6, _⟩ => ⟨S8192x4096, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x4096, .bf16⟩
  | .local _ .vmem, ⟨15, _⟩ => ⟨S256x4096, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MergeBwdRefIdeal.lean ====
abbrev S8192x2048 : Shape := ⟨2, ![8192, 2048]⟩
abbrev S8192x4096 : Shape := ⟨2, ![8192, 4096]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x4096, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x4096, .f32⟩
  | .hbm, ⟨42, _⟩ => ⟨S8192x2048, .bf16⟩
  | .hbm, ⟨43, _⟩ => ⟨S8192x2048, .bf16⟩
  | .hbm, ⟨44, _⟩ => ⟨S8192x4096, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Conv.lean ====
abbrev S8192x5632 : Shape := ⟨2, ![8192, 5632]⟩
abbrev S3x1x11264 : Shape := ⟨3, ![3, 1, 11264]⟩
abbrev S1x11264 : Shape := ⟨2, ![1, 11264]⟩
abbrev S1024x512 : Shape := ⟨2, ![1024, 512]⟩
abbrev S16x512 : Shape := ⟨2, ![16, 512]⟩
abbrev S3x1x512 : Shape := ⟨3, ![3, 1, 512]⟩
abbrev S1x512 : Shape := ⟨2, ![1, 512]⟩
abbrev S1056x512 : Shape := ⟨2, ![1056, 512]⟩
abbrev S1x1x512 : Shape := ⟨3, ![1, 1, 512]⟩

abbrev nBuf : Space → Nat
  | .hbm => 5
  | .vmem => 22
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S3x1x11264, .f32⟩
  | .hbm, ⟨3, _⟩ => ⟨S1x11264, .f32⟩
  | .hbm, ⟨4, _⟩ => ⟨S8192x5632, .bf16⟩
  | .local _ .vmem, ⟨0, _⟩ => ⟨S1024x512, .f32⟩
  | .local _ .vmem, ⟨1, _⟩ => ⟨S1024x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S1024x512, .f32⟩
  | .local _ .vmem, ⟨7, _⟩ => ⟨S1024x512, .f32⟩
  | .local _ .vmem, ⟨8, _⟩ => ⟨S16x512, .f32⟩
  | .local _ .vmem, ⟨9, _⟩ => ⟨S16x512, .f32⟩
  | .local _ .vmem, ⟨10, _⟩ => ⟨S16x512, .f32⟩
  | .local _ .vmem, ⟨11, _⟩ => ⟨S16x512, .f32⟩
  | .local _ .vmem, ⟨12, _⟩ => ⟨S3x1x512, .f32⟩
  | .local _ .vmem, ⟨13, _⟩ => ⟨S3x1x512, .f32⟩
  | .local _ .vmem, ⟨14, _⟩ => ⟨S3x1x512, .f32⟩
  | .local _ .vmem, ⟨15, _⟩ => ⟨S3x1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1024x512, .bf16⟩
  | .local _ .vmem, ⟨21, _⟩ => ⟨S1024x512, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let v3 : BitVec 32 := Scalar.addi arg0 c0_i32
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let v3 : BitVec 32 := Scalar.addi arg0 c0_i32
  let c0_i32_0 : BitVec 32 := 0#32
  ![v2.toNat, v3.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_7 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  let c0_i32_1 : BitVec 32 := 0#32
  ![c0_i32.toNat, c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S3x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ConvRefIdeal.lean ====
abbrev S8192x5632 : Shape := ⟨2, ![8192, 5632]⟩
abbrev S3x1x11264 : Shape := ⟨3, ![3, 1, 11264]⟩
abbrev S1x11264 : Shape := ⟨2, ![1, 11264]⟩
abbrev S3x1x5632 : Shape := ⟨3, ![3, 1, 5632]⟩
abbrev S1x5632 : Shape := ⟨2, ![1, 5632]⟩
abbrev S_ : Shape := ⟨0, ![]⟩
abbrev S8194x5632 : Shape := ⟨2, ![8194, 5632]⟩
abbrev S1x1x5632 : Shape := ⟨3, ![1, 1, 5632]⟩

abbrev nBuf : Space → Nat
  | .hbm => 69
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S3x1x11264, .f32⟩
  | .hbm, ⟨3, _⟩ => ⟨S1x11264, .f32⟩
  | .hbm, ⟨4, _⟩ => ⟨S3x1x5632, .f32⟩
  | .hbm, ⟨5, _⟩ => ⟨S1x5632, .f32⟩
  | .hbm, ⟨6, _⟩ => ⟨S_, .i32⟩
  | .hbm, ⟨7, _⟩ => ⟨S_, .f32⟩
  | .hbm, ⟨8, _⟩ => ⟨S8194x5632, .f32⟩
  | .hbm, ⟨9, _⟩ => ⟨S8192x5632, .f32⟩
  | .hbm, ⟨10, _⟩ => ⟨S1x1x5632, .f32⟩
  | .hbm, ⟨11, _⟩ => ⟨S1x5632, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S1x1x5632, .f32⟩
  | .hbm, ⟨19, _⟩ => ⟨S1x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S1x1x5632, .f32⟩
  | .hbm, ⟨25, _⟩ => ⟨S1x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S3x1x5632, .f32⟩
  | .hbm, ⟨32, _⟩ => ⟨S1x5632, .f32⟩
  | .hbm, ⟨33, _⟩ => ⟨S_, .i32⟩
  | .hbm, ⟨34, _⟩ => ⟨S_, .f32⟩
  | .hbm, ⟨35, _⟩ => ⟨S8194x5632, .f32⟩
  | .hbm, ⟨36, _⟩ => ⟨S8192x5632, .f32⟩
  | .hbm, ⟨37, _⟩ => ⟨S1x1x5632, .f32⟩
  | .hbm, ⟨38, _⟩ => ⟨S1x5632, .f32⟩
  | .hbm, ⟨39, _⟩ => ⟨S8192x5632, .f32⟩
  | .hbm, ⟨40, _⟩ => ⟨S8192x5632, .f32⟩
  | .hbm, ⟨41, _⟩ => ⟨S_, .f32⟩
  | .hbm, ⟨42, _⟩ => ⟨S8192x5632, .f32⟩
  | .hbm, ⟨43, _⟩ => ⟨S8192x5632, .f32⟩
  | .hbm, ⟨44, _⟩ => ⟨S8192x5632, .f32⟩
  | .hbm, ⟨45, _⟩ => ⟨S1x1x5632, .f32⟩
  | .hbm, ⟨46, _⟩ => ⟨S1x5632, .f32⟩
  | .hbm, ⟨47, _⟩ => ⟨S8192x5632, .f32⟩
  | .hbm, ⟨48, _⟩ => ⟨S8192x5632, .f32⟩
  | .hbm, ⟨49, _⟩ => ⟨S8192x5632, .f32⟩
  | .hbm, ⟨50, _⟩ => ⟨S8192x5632, .f32⟩
  | .hbm, ⟨51, _⟩ => ⟨S1x1x5632, .f32⟩
  | .hbm, ⟨52, _⟩ => ⟨S1x5632, .f32⟩
  | .hbm, ⟨53, _⟩ => ⟨S8192x5632, .f32⟩
  | .hbm, ⟨54, _⟩ => ⟨S8192x5632, .f32⟩
  | .hbm, ⟨55, _⟩ => ⟨S8192x5632, .f32⟩
  | .hbm, ⟨56, _⟩ => ⟨S8192x5632, .f32⟩
  | .hbm, ⟨57, _⟩ => ⟨S8192x5632, .f32⟩
  | .hbm, ⟨58, _⟩ => ⟨S8192x5632, .f32⟩
  | .hbm, ⟨59, _⟩ => ⟨S8192x5632, .f32⟩
  | .hbm, ⟨60, _⟩ => ⟨S_, .f32⟩
  | .hbm, ⟨61, _⟩ => ⟨S8192x5632, .f32⟩
  | .hbm, ⟨62, _⟩ => ⟨S8192x5632, .f32⟩
  | .hbm, ⟨63, _⟩ => ⟨S_, .f32⟩
  | .hbm, ⟨64, _⟩ => ⟨S8192x5632, .f32⟩
  | .hbm, ⟨65, _⟩ => ⟨S8192x5632, .f32⟩
  | .hbm, ⟨66, _⟩ => ⟨S8192x5632, .f32⟩
  | .hbm, ⟨67, _⟩ => ⟨S8192x5632, .f32⟩
  | .hbm, ⟨68, _⟩ => ⟨S8192x5632, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_0 : Ref sig .tc := ⟨.hbm, 33, rfl⟩
abbrev main_call1_v0 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_1 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_call2_v0 : Ref sig .tc := ⟨.hbm, 58, rfl⟩
abbrev main_call2_v1 : Ref sig .tc := ⟨.hbm, 59, rfl⟩
abbrev main_call2_cst : Ref sig .tc := ⟨.hbm, 60, rfl⟩
abbrev main_call2_v2 : Ref sig .tc := ⟨.hbm, 61, rfl⟩
abbrev main_call2_v3 : Ref sig .tc := ⟨.hbm, 62, rfl⟩
abbrev main_call2_cst_0 : Ref sig .tc := ⟨.hbm, 63, rfl⟩
abbrev main_call2_v4 : Ref sig .tc := ⟨.hbm, 64, rfl⟩
abbrev main_call2_v5 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Proof.BwdOuts.lean ====
/- The second call's body: the values of its outputs as functions of its input blocks. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Bwd

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # What the body of the second call leaves in its output blocks

The names `v6`, `v11`, … are those of the printed body. -/

abbrev rK : Rect S128x128 := Rect.unit (s := S128x128) ![0, 0] S128x128.size inb_S128x128_S128x128_0_0
abbrev rC : Rect S256x128 := Rect.unit (s := S256x128) ![0, 0] S256x128.size inb_S256x128_S256x128_0_0
abbrev rQ : Rect S128x512 := Rect.unit (s := S128x512) ![0, 0] S128x512.size inb_S128x512_S128x512_0_0
abbrev rS : Rect S4x1x1 := Rect.unit (s := S4x1x1) ![0, 0, 0] S4x1x1.size inb_S4x1x1_S4x1x1_0_0_0
abbrev rS0 : Rect S4x1x1 := Rect.unit (s := S4x1x1) ![0, 0, 0] S1x1x1.size inb_S4x1x1_S1x1x1_0_0_0
abbrev rS1 : Rect S4x1x1 := Rect.unit (s := S4x1x1) ![1, 0, 0] S1x1x1.size inb_S4x1x1_S1x1x1_1_0_0
abbrev rS2 : Rect S4x1x1 := Rect.unit (s := S4x1x1) ![2, 0, 0] S1x1x1.size inb_S4x1x1_S1x1x1_2_0_0
abbrev rS3 : Rect S4x1x1 := Rect.unit (s := S4x1x1) ![3, 0, 0] S1x1x1.size inb_S4x1x1_S1x1x1_3_0_0
abbrev rL0 : Rect S4x128x1 := Rect.unit (s := S4x128x1) ![0, 0, 0] S1x128x1.size inb_S4x128x1_S1x128x1_0_0_0
abbrev rL1 : Rect S4x128x1 := Rect.unit (s := S4x128x1) ![1, 0, 0] S1x128x1.size inb_S4x128x1_S1x128x1_1_0_0
abbrev rL2 : Rect S4x128x1 := Rect.unit (s := S4x128x1) ![2, 0, 0] S1x128x1.size inb_S4x128x1_S1x128x1_2_0_0
abbrev rL3 : Rect S4x128x1 := Rect.unit (s := S4x128x1) ![3, 0, 0] S1x128x1.size inb_S4x128x1_S1x128x1_3_0_0
abbrev rR0 : Rect S4x1x128 := Rect.unit (s := S4x1x128) ![0, 0, 0] S1x1x128.size inb_S4x1x128_S1x1x128_0_0_0
abbrev rR1 : Rect S4x1x128 := Rect.unit (s := S4x1x128) ![1, 0, 0] S1x1x128.size inb_S4x1x128_S1x1x128_1_0_0
abbrev rR2 : Rect S4x1x128 := Rect.unit (s := S4x1x128) ![2, 0, 0] S1x1x128.size inb_S4x1x128_S1x1x128_2_0_0
abbrev rR3 : Rect S4x1x128 := Rect.unit (s := S4x1x128) ![3, 0, 0] S1x1x128.size inb_S4x1x128_S1x1x128_3_0_0

/-- The thirteen input blocks of a point. -/
structure Ins (F : FTy → Type) where
  x0 : Vec F S128x512 .bf16
  x1 : Vec F S128x128 .bf16
  x2 : Vec F S128x128 .bf16
  x3 : Vec F S128x128 .bf16
  x4 : Vec F S128x128 .f32
  x5 : Vec F S128x128 .f32
  x6 : Vec F S128x128 .f32
  x7 : Vec F S256x128 .bf16
  x8 : Vec F S256x128 .f32
  x9 : Vec F S4x1x1 .f32
  x10 : Vec F S128x512 .bf16
  x11 : Vec F S128x512 .bf16
  x12 : Vec F S4x128x1 .f32

namespace Ins

variable (b : Ins F) (i : grid1.Coords)

def v6 : FVec F S384x128 .bf16 := k1_pay6 (View.ld b.x1 rK) (View.ld b.x2 rK) (View.ld b.x3 rK)
def v11 : FVec F S384x128 .bf16 := k1_pay7 (View.ld b.x4 rK) (View.ld b.x5 rK) (View.ld b.x6 rK)
def v12 : Vec F S256x128 .bf16 := View.ld b.x7 rC
def v14 : FVec F S256x128 .bf16 := k1_pay8 (View.ld b.x8 rC)
def v34 : IVec S128x384 1 := k1_pay12 (k1_pay9 i) k1_pay10 (k1_pay11 i)
def v38 : FVec F S128x512 .bf16 := k1_pay13 (View.ld b.x11 rQ)
def v39 : FVec F S128x128 .bf16 := k1_pay14 (View.ld b.x0 rQ)
def v40 : FVec F S128x128 .bf16 := k1_pay15 (View.ld b.x0 rQ)
def v41 : FVec F S128x128 .bf16 := k1_pay16 (View.ld b.x0 rQ)
def v42 : FVec F S128x128 .bf16 := k1_pay17 (View.ld b.x0 rQ)
def v43 : FVec F S128x128 .bf16 := k1_pay18 (View.ld b.x10 rQ)
def v44 : FVec F S128x128 .bf16 := k1_pay19 (View.ld b.x10 rQ)
def v45 : FVec F S128x128 .bf16 := k1_pay20 (View.ld b.x10 rQ)
def v46 : FVec F S128x128 .bf16 := k1_pay21 (View.ld b.x10 rQ)
def v48 : FVec F S128x1 .f32 := k1_pay22 (View.ld b.x12 rL0)
def v50 : FVec F S128x1 .f32 := k1_pay23 (View.ld b.x12 rL1)
def v52 : FVec F S128x1 .f32 := k1_pay24 (View.ld b.x12 rL2)
def v54 : FVec F S128x1 .f32 := k1_pay25 (View.ld b.x12 rL3)
def v56 : FVec F S1x1 .f32 := k1_pay26 (View.ld b.x9 rS0)
def v58 : FVec F S1x1 .f32 := k1_pay27 (View.ld b.x9 rS1)
def v60 : FVec F S1x1 .f32 := k1_pay28 (View.ld b.x9 rS2)
def v62 : FVec F S1x1 .f32 := k1_pay29 (View.ld b.x9 rS3)
def v67 : FVec F S128x384 .f32 := k1_pay30 b.v6 (v34 i) b.v39
def v72 : FVec F S128x384 .f32 := k1_pay31 b.v6 (v34 i) b.v40
def v77 : FVec F S128x384 .f32 := k1_pay32 b.v6 (v34 i) b.v41
def v82 : FVec F S128x384 .f32 := k1_pay33 b.v6 (v34 i) b.v42
def v85 : FVec F S128x256 .f32 := k1_pay34 b.v12 b.v39
def v88 : FVec F S128x256 .f32 := k1_pay35 b.v12 b.v40
def v91 : FVec F S128x256 .f32 := k1_pay36 b.v12 b.v41
def v94 : FVec F S128x256 .f32 := k1_pay37 b.v12 b.v42
def v95 : FVec F S128x384 .f32 := k1_pay38 b.v11 b.v43
def v96 : FVec F S128x384 .f32 := k1_pay39 b.v11 b.v44
def v97 : FVec F S128x384 .f32 := k1_pay40 b.v11 b.v45
def v98 : FVec F S128x384 .f32 := k1_pay41 b.v11 b.v46
def v99 : FVec F S128x256 .f32 := k1_pay42 b.v14 b.v43
def v100 : FVec F S128x256 .f32 := k1_pay43 b.v14 b.v44
def v101 : FVec F S128x256 .f32 := k1_pay44 b.v14 b.v45
def v102 : FVec F S128x256 .f32 := k1_pay45 b.v14 b.v46
def v108 : FVec F S128x1 .f32 := k1_pay46 b.v38 b.v43
def v114 : FVec F S128x1 .f32 := k1_pay47 b.v38 b.v44
def v120 : FVec F S128x1 .f32 := k1_pay48 b.v38 b.v45
def v126 : FVec F S128x1 .f32 := k1_pay49 b.v38 b.v46
def v129 : FVec F S128x384 .f32 := k1_pay50 b.v48 (b.v67 i)
def v132 : FVec F S128x384 .f32 := k1_pay51 b.v50 (b.v72 i)
def v135 : FVec F S128x384 .f32 := k1_pay52 b.v52 (b.v77 i)
def v138 : FVec F S128x384 .f32 := k1_pay53 b.v54 (b.v82 i)
def v141 : FVec F S128x256 .f32 := k1_pay54 b.v48 b.v85
def v144 : FVec F S128x256 .f32 := k1_pay55 b.v50 b.v88
def v147 : FVec F S128x256 .f32 := k1_pay56 b.v52 b.v91
def v150 : FVec F S128x256 .f32 := k1_pay57 b.v54 b.v94
def v162 : FVec F S128x384 .bf16 := k1_pay58 b.v96 b.v114 (b.v132 i)
def v168 : FVec F S128x384 .bf16 := k1_pay59 b.v97 b.v120 (b.v135 i)
def v174 : FVec F S128x384 .bf16 := k1_pay60 b.v98 b.v126 (b.v138 i)
def v180 : FVec F S128x256 .bf16 := k1_pay61 b.v99 b.v108 b.v141
def v186 : FVec F S128x256 .bf16 := k1_pay62 b.v100 b.v114 b.v144
def v192 : FVec F S128x256 .bf16 := k1_pay63 b.v101 b.v120 b.v147
def v198 : FVec F S128x256 .bf16 := k1_pay64 b.v102 b.v126 b.v150
def v199 : FVec F S128x128 .f32 := k1_pay65 b.v6 b.v95 b.v108 (b.v129 i)
def v200 : FVec F S128x128 .f32 := k1_pay66 b.v12 b.v99 b.v108 b.v141

/-- The block of the queries' gradient. -/
def dq : Vec F S128x512 .f32 :=
  View.canon [⟨rQ, k1_pay67 b.v6 b.v12 (b.v162 i) (b.v168 i) (b.v174 i) b.v186 b.v192 b.v198 (b.v199 i) b.v200⟩]

/-- The block of the context keys' gradient, over its former contents. -/
def dck (y : Vec F S256x128 .f32) : Vec F S256x128 .f32 :=
  View.canon [⟨rC, k1_pay68 b.v39 b.v40 b.v41 b.v42 b.v180 b.v186 b.v192 b.v198 (View.ld y rC)⟩]

/-- The block of the context values' gradient, over its former contents. -/
def dcv (y : Vec F S256x128 .f32) : Vec F S256x128 .f32 :=
  View.canon [⟨rC, k1_pay71 (k1_pay69 (View.ld y rC)) (k1_pay70 b.v43 b.v44 b.v45 b.v46 b.v141 b.v144 b.v147 b.v150)⟩]

/-- The block of the sinks' gradient, over its former contents. -/
def dsink (y : Vec F S4x1x1 .f32) : Vec F S4x1x1 .f32 :=
  View.canon [⟨rS3, k1_pay1 b.v54 b.v62 b.v126 (k1_pay81 (View.ld y rS3))⟩,
    ⟨rS2, k1_pay79 b.v52 b.v60 b.v120 (View.ld y rS2)⟩,
    ⟨rS1, k1_pay77 (k1_pay75 (View.ld y rS1)) (k1_pay76 b.v50 b.v58 b.v114)⟩,
    ⟨rS0, k1_pay73 b.v48 b.v56 b.v108 (View.ld y rS0)⟩]

/-- The block of the row sums, laid out along a row. -/
def drow : Vec F S4x1x128 .f32 :=
  View.canon [⟨rR3, k1_pay2 b.v126 (k1_pay72 (F := F))⟩, ⟨rR2, k1_pay80 b.v120 (k1_pay72 (F := F))⟩,
    ⟨rR1, k1_pay78 b.v114 (k1_pay72 (F := F))⟩, ⟨rR0, k1_pay74 b.v108⟩]

end Ins

/-- The cleared sums. -/
def zero2 : Vec F S256x128 .f32 := k1_pay3 (F := F)
def zero3 : Vec F S4x1x1 .f32 := k1_pay5 (F := F)

theorem cover512 (p : Vec F S128x512 .f32) (y : S128x512.Idx) :
    ∃ pc ∈ ([⟨rQ, p⟩] : List (View.Piece (Elt F) S128x512 .f32)), y ∈ pc.1.set :=
  View.cover_of_tiled [⟨rQ, p⟩] S128x512.size (by rfl) y

theorem cover256 (p : Vec F S256x128 .f32) (y : S256x128.Idx) :
    ∃ pc ∈ ([⟨rC, p⟩] : List (View.Piece (Elt F) S256x128 .f32)), y ∈ pc.1.set :=
  View.cover_of_tiled [⟨rC, p⟩] S256x128.size (by rfl) y

theorem coverSink (p q r s : Vec F S1x1x1 .f32) (y : S4x1x1.Idx) :
    ∃ pc ∈ ([⟨rS3, p⟩, ⟨rS2, q⟩, ⟨rS1, r⟩, ⟨rS0, s⟩] : List (View.Piece (Elt F) S4x1x1 .f32)), y ∈ pc.1.set :=
  View.cover_of_tiled [⟨rS3, p⟩, ⟨rS2, q⟩, ⟨rS1, r⟩, ⟨rS0, s⟩] S1x1x1.size (by rfl) y

theorem coverRow (p q r s : Vec F S1x1x128 .f32) (y : S4x1x128.Idx) :
    ∃ pc ∈ ([⟨rR3, p⟩, ⟨rR2, q⟩, ⟨rR1, r⟩, ⟨rR0, s⟩] : List (View.Piece (Elt F) S4x1x128 .f32)), y ∈ pc.1.set :=
  View.cover_of_tiled [⟨rR3, p⟩, ⟨rR2, q⟩, ⟨rR1, r⟩, ⟨rR0, s⟩] S1x1x128.size (by rfl) y

/-- Reading a rectangle that the last store does not meet. -/
theorem ld_skip {S : Shape} {e : EltTy} (p q : Rect S) (w : p.shape.Idx → Elt F e) (L : List (View.Piece (Elt F) S e))
    (h : ∀ x : q.shape.Idx, q.emb x ∉ p.set) :
    View.ld (View.canon (⟨p, w⟩ :: L)) q = View.ld (View.canon L) q :=
  funext fun x => View.canon_cons_of_not_mem _ _ (h x)

/-- What earlier stores left does not matter where later ones cover. -/
theorem canon_head {S : Shape} {e : EltTy} (L' : List (View.Piece (Elt F) S e)) (y : S.Idx) :
    ∀ L : List (View.Piece (Elt F) S e), (∃ p ∈ L, y ∈ p.1.set) → View.canon (L ++ L') y = View.canon L y
  | [], h => by obtain ⟨p, hp, _⟩ := h; simp at hp
  | p :: L, h => by
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem _ _ hm, View.canon_cons_of_not_mem _ _ hm]
      refine canon_head L' y L ?_
      obtain ⟨q, hq, hy⟩ := h
      rcases List.mem_cons.mp hq with rfl | hq'
      · exact absurd hy hm
      · exact ⟨q, hq', hy⟩

theorem off2 : (![0, 0] : Fin 2 → ℕ) = fun _ => 0 := by decide
theorem off3 : (![0, 0, 0] : Fin 3 → ℕ) = fun _ => 0 := by decide

/-- A sum cleared and then added to reads the cleared contents. -/
theorem sum_first (v : View sig .tc .vmem S256x128 .f32) (f : v.ty.Contents (Elt F)) (z : Vec F S256x128 .f32)
    (p : Vec F S256x128 .f32 → Vec F S256x128 .f32) :
    v.read (Elt F) (v.writes (Elt F) f [⟨rC, p (v.readCov [⟨rC, z⟩] rC.toLoadRect)⟩, ⟨rC, z⟩])
      = View.canon [⟨rC, p (View.ld z rC)⟩] := by
  refine (View.read_writes_eq_canon _ _ _ fun y => ⟨_, List.mem_cons_self, View.mem_set_unit_zero off2 inb_S256x128_S256x128_0_0 y⟩).trans ?_
  refine (View.canon_cons_unit_zero off2 _ _ _).trans (Eq.trans ?_ (View.canon_unit_zero off2 _ _).symm)
  exact congrArg p ((View.readCov_unit_zero v off2 _ z).trans (View.ld_unit_zero off2 _ z).symm)

theorem skip01 : ∀ x : rS1.shape.Idx, rS1.emb x ∉ rS0.set := by decide +kernel
theorem skip02 : ∀ x : rS2.shape.Idx, rS2.emb x ∉ rS0.set := by decide +kernel
theorem skip12 : ∀ x : rS2.shape.Idx, rS2.emb x ∉ rS1.set := by decide +kernel
theorem skip03 : ∀ x : rS3.shape.Idx, rS3.emb x ∉ rS0.set := by decide +kernel
theorem skip13 : ∀ x : rS3.shape.Idx, rS3.emb x ∉ rS1.set := by decide +kernel
theorem skip23 : ∀ x : rS3.shape.Idx, rS3.emb x ∉ rS2.set := by decide +kernel

/-- A load of what stores left, the whole buffer among them. -/
theorem readCov_sink (v : View sig .tc .vmem S4x1x1 .f32) (z : Vec F S4x1x1 .f32) (L : List (View.Piece (Elt F) S4x1x1 .f32)) (q : Rect S4x1x1) :
    v.readCov (L ++ [⟨rS, z⟩]) q.toLoadRect = View.ld (View.canon (L ++ [⟨rS, z⟩])) q :=
  View.readCov_eq_canon_ld _ _ _ fun y => ⟨⟨rS, z⟩, by simp, View.mem_set_unit_zero off3 inb_S4x1x1_S4x1x1_0_0_0 y⟩

/-- The four sink sums, cleared and then added to one by one. -/
theorem sink_first (v : View sig .tc .vmem S4x1x1 .f32) (f : v.ty.Contents (Elt F)) (z : Vec F S4x1x1 .f32)
    (p0 p1 p2 p3 : Vec F S1x1x1 .f32 → Vec F S1x1x1 .f32) (L0 L1 L2 L3 : List (View.Piece (Elt F) S4x1x1 .f32))
    (h0 : L0 = [⟨rS, z⟩]) (h1 : L1 = ⟨rS0, p0 (v.readCov L0 rS0.toLoadRect)⟩ :: L0)
    (h2 : L2 = ⟨rS1, p1 (v.readCov L1 rS1.toLoadRect)⟩ :: L1) (h3 : L3 = ⟨rS2, p2 (v.readCov L2 rS2.toLoadRect)⟩ :: L2) :
    v.read (Elt F) (v.writes (Elt F) f (⟨rS3, p3 (v.readCov L3 rS3.toLoadRect)⟩ :: L3))
      = View.canon [⟨rS3, p3 (View.ld z rS3)⟩, ⟨rS2, p2 (View.ld z rS2)⟩, ⟨rS1, p1 (View.ld z rS1)⟩, ⟨rS0, p0 (View.ld z rS0)⟩] := by
  have c0 : View.canon (Val := Elt F) [⟨rS, z⟩] = z := View.canon_unit_zero off3 _ z
  have e0 : v.readCov L0 rS0.toLoadRect = View.ld z rS0 := by
    rw [h0]; exact (readCov_sink v z [] rS0).trans (congrArg (View.ld · rS0) c0)
  rw [e0, h0] at h1
  have e1 : v.readCov L1 rS1.toLoadRect = View.ld z rS1 := by
    rw [h1]; exact (readCov_sink v z [_] rS1).trans ((ld_skip _ _ _ _ skip01).trans (congrArg (View.ld · rS1) c0))
  rw [e1, h1] at h2
  have e2 : v.readCov L2 rS2.toLoadRect = View.ld z rS2 := by
    rw [h2]; exact (readCov_sink v z [_, _] rS2).trans ((ld_skip _ _ _ _ skip12).trans ((ld_skip _ _ _ _ skip02).trans (congrArg (View.ld · rS2) c0)))
  rw [e2, h2] at h3
  have e3 : v.readCov L3 rS3.toLoadRect = View.ld z rS3 := by
    rw [h3]; exact (readCov_sink v z [_, _, _] rS3).trans ((ld_skip _ _ _ _ skip23).trans ((ld_skip _ _ _ _ skip13).trans
      ((ld_skip _ _ _ _ skip03).trans (congrArg (View.ld · rS3) c0))))
  rw [e3, h3]
  refine (View.read_writes_eq_canon _ _ _ fun y => ⟨⟨rS, z⟩, by simp, View.mem_set_unit_zero off3 inb_S4x1x1_S4x1x1_0_0_0 y⟩).trans ?_
  exact funext fun y => canon_head [⟨rS, z⟩] y [_, _, _, _] (coverSink _ _ _ _ y)

/-- The condition of the body's conditional: the second grid coordinate is zero. -/
abbrev cond1_0 (i : grid1.Coords) : Prop := (Scalar.cmpi .ne (Scalar.extui (Scalar.cmpi .eq (BitVec.ofNat 32 (i 1).val) 0#32)) 0#32) = 1#1

end Cert.KernelIdeal.Bwd

end
-- ==== Proof.BwdBody.lean ====
/- The second call's body as a triple over its staging buffers. -/
module

public import proofs.«01_k».proof.Proof.BwdOuts

@[expose] public section

-- membership in a rectangle of production extents (`View.cover_of_tiled`): the elaborator's structural look
-- recurses once per coordinate of the long axes
set_option maxRecDepth 16384

noncomputable section

namespace Cert.KernelIdeal.Bwd

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- At the first point of a head group the three sums are cleared first: the body on whole staging buffers runs to the continuation holding the inputs as they were and each
    output at its value from them. -/
theorem runA (c : Dev nD) (i : grid1.Coords) (arg2 : Memref sig .tc .vmem S128x512 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S256x128 .bf16) (harg9 : arg9.IsWhole) (arg10 : Memref sig .tc .vmem S256x128 .f32) (harg10 : arg10.IsWhole) (arg11 : Memref sig .tc .vmem S4x1x1 .f32) (harg11 : arg11.IsWhole) (arg12 : Memref sig .tc .vmem S128x512 .bf16) (harg12 : arg12.IsWhole) (arg13 : Memref sig .tc .vmem S128x512 .bf16) (harg13 : arg13.IsWhole) (arg14 : Memref sig .tc .vmem S4x128x1 .f32) (harg14 : arg14.IsWhole) (arg15 : Memref sig .tc .vmem S128x512 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S4x1x1 .f32) (harg18 : arg18.IsWhole) (arg19 : Memref sig .tc .vmem S4x1x128 .f32) (harg19 : arg19.IsWhole) (hc0 : cond1_0 i) (b : Ins F) (E : Set ℕ) (K : PUnit → sProp 𝕄) :
    iprop(owns (c : Thread nD τ) arg2 fullShare b.x0 ∗ owns (c : Thread nD τ) arg3 fullShare b.x1 ∗ owns (c : Thread nD τ) arg4 fullShare b.x2 ∗ owns (c : Thread nD τ) arg5 fullShare b.x3 ∗ owns (c : Thread nD τ) arg6 fullShare b.x4 ∗ owns (c : Thread nD τ) arg7 fullShare b.x5 ∗ owns (c : Thread nD τ) arg8 fullShare b.x6 ∗ owns (c : Thread nD τ) arg9 fullShare b.x7 ∗ owns (c : Thread nD τ) arg10 fullShare b.x8 ∗ owns (c : Thread nD τ) arg11 fullShare b.x9 ∗ owns (c : Thread nD τ) arg12 fullShare b.x10 ∗ owns (c : Thread nD τ) arg13 fullShare b.x11 ∗ owns (c : Thread nD τ) arg14 fullShare b.x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg2 fullShare b.x0 ∗ owns (c : Thread nD τ) arg3 fullShare b.x1 ∗ owns (c : Thread nD τ) arg4 fullShare b.x2 ∗ owns (c : Thread nD τ) arg5 fullShare b.x3 ∗ owns (c : Thread nD τ) arg6 fullShare b.x4 ∗ owns (c : Thread nD τ) arg7 fullShare b.x5 ∗ owns (c : Thread nD τ) arg8 fullShare b.x6 ∗ owns (c : Thread nD τ) arg9 fullShare b.x7 ∗ owns (c : Thread nD τ) arg10 fullShare b.x8 ∗ owns (c : Thread nD τ) arg11 fullShare b.x9 ∗ owns (c : Thread nD τ) arg12 fullShare b.x10 ∗ owns (c : Thread nD τ) arg13 fullShare b.x11 ∗ owns (c : Thread nD τ) arg14 fullShare b.x12 ∗ owns (c : Thread nD τ) arg15 fullShare (b.dq i) ∗ owns (c : Thread nD τ) arg16 fullShare (b.dck (zero2 (F := F))) ∗ owns (c : Thread nD τ) arg17 fullShare (b.dcv (zero2 (F := F))) ∗ owns (c : Thread nD τ) arg18 fullShare (b.dsink (zero3 (F := F))) ∗ owns (c : Thread nD τ) arg19 fullShare (b.drow)) -∗ K ⟨⟩))
      ⊢ wp frame (wpE (defs₀ (F := F)) Variants.none c none) E (cc1_attn_bwd_q i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1_attn_bwd_q_eq_skeleton]; unfold cc1_attn_bwd_q_skel
  simp only [k1_part1_eq_skeleton, k1_part2_eq_skeleton, k1_part3_eq_skeleton, k1_part4_eq_skeleton, k1_part5_eq_skeleton, k1_part6_eq_skeleton, k1_part7_eq_skeleton, k1_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, Hk⟩
  obtain rfl : b = ⟨arg2.view.read (Elt F) f0, arg3.view.read (Elt F) f1, arg4.view.read (Elt F) f2, arg5.view.read (Elt F) f3, arg6.view.read (Elt F) f4, arg7.view.read (Elt F) f5, arg8.view.read (Elt F) f6, arg9.view.read (Elt F) f7, arg10.view.read (Elt F) f8, arg11.view.read (Elt F) f9, arg12.view.read (Elt F) f10, arg13.view.read (Elt F) f11, arg14.view.read (Elt F) f12⟩ := by
    obtain ⟨⟩ := b; subst hf0 hf1 hf2 hf3 hf4 hf5 hf6 hf7 hf8 hf9 hf10 hf11 hf12; rfl
  set b : Ins F := ⟨arg2.view.read (Elt F) f0, arg3.view.read (Elt F) f1, arg4.view.read (Elt F) f2, arg5.view.read (Elt F) f3, arg6.view.read (Elt F) f4, arg7.view.read (Elt F) f5, arg8.view.read (Elt F) f6, arg9.view.read (Elt F) f7, arg10.view.read (Elt F) f8, arg11.view.read (Elt F) f9, arg12.view.read (Elt F) f10, arg13.view.read (Elt F) f11, arg14.view.read (Elt F) f12⟩ with hb
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    refine (View.read_writes_eq_canon _ _ _ (cover512 _)).trans ?_
    rfl
  isplitl [H14]
  · iexists _; isplitr
    swap; · iexact H14
    ipureintro
    exact sum_first arg16.view f14 zero2 fun y => k1_pay68 b.v39 b.v40 b.v41 b.v42 b.v180 b.v186 b.v192 b.v198 y
  isplitl [H15]
  · iexists _; isplitr
    swap; · iexact H15
    ipureintro
    exact sum_first arg17.view f15 zero2 fun y => k1_pay71 (k1_pay69 y) (k1_pay70 b.v43 b.v44 b.v45 b.v46 b.v141 b.v144 b.v147 b.v150)
  isplitl [H16]
  · iexists _; isplitr
    swap; · iexact H16
    ipureintro
    exact sink_first arg18.view f16 zero3 (fun y => k1_pay73 b.v48 b.v56 b.v108 y) (fun y => k1_pay77 (k1_pay75 y) (k1_pay76 b.v50 b.v58 b.v114))
      (fun y => k1_pay79 b.v52 b.v60 b.v120 y) (fun y => k1_pay1 b.v54 b.v62 b.v126 (k1_pay81 y)) _ _ _ _ rfl rfl rfl rfl
  · iexists _; isplitr
    swap; · iexact H17
    ipureintro
    refine (View.read_writes_eq_canon _ _ _ (coverRow _ _ _ _)).trans ?_
    rfl

set_option maxHeartbeats 4000000 in
/-- At a later point the three sums are added to: the body on whole staging buffers runs to the continuation holding the inputs as they were and each
    output at its value from them. -/
theorem runB (c : Dev nD) (i : grid1.Coords) (arg2 : Memref sig .tc .vmem S128x512 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S256x128 .bf16) (harg9 : arg9.IsWhole) (arg10 : Memref sig .tc .vmem S256x128 .f32) (harg10 : arg10.IsWhole) (arg11 : Memref sig .tc .vmem S4x1x1 .f32) (harg11 : arg11.IsWhole) (arg12 : Memref sig .tc .vmem S128x512 .bf16) (harg12 : arg12.IsWhole) (arg13 : Memref sig .tc .vmem S128x512 .bf16) (harg13 : arg13.IsWhole) (arg14 : Memref sig .tc .vmem S4x128x1 .f32) (harg14 : arg14.IsWhole) (arg15 : Memref sig .tc .vmem S128x512 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S4x1x1 .f32) (harg18 : arg18.IsWhole) (arg19 : Memref sig .tc .vmem S4x1x128 .f32) (harg19 : arg19.IsWhole) (hc0 : ¬cond1_0 i) (b : Ins F) (y16 y17 : Vec F S256x128 .f32) (y18 : Vec F S4x1x1 .f32) (E : Set ℕ) (K : PUnit → sProp 𝕄) :
    iprop(owns (c : Thread nD τ) arg2 fullShare b.x0 ∗ owns (c : Thread nD τ) arg3 fullShare b.x1 ∗ owns (c : Thread nD τ) arg4 fullShare b.x2 ∗ owns (c : Thread nD τ) arg5 fullShare b.x3 ∗ owns (c : Thread nD τ) arg6 fullShare b.x4 ∗ owns (c : Thread nD τ) arg7 fullShare b.x5 ∗ owns (c : Thread nD τ) arg8 fullShare b.x6 ∗ owns (c : Thread nD τ) arg9 fullShare b.x7 ∗ owns (c : Thread nD τ) arg10 fullShare b.x8 ∗ owns (c : Thread nD τ) arg11 fullShare b.x9 ∗ owns (c : Thread nD τ) arg12 fullShare b.x10 ∗ owns (c : Thread nD τ) arg13 fullShare b.x11 ∗ owns (c : Thread nD τ) arg14 fullShare b.x12 ∗ (∃ d, owns (c : Thread nD τ) arg15 fullShare d) ∗ owns (c : Thread nD τ) arg16 fullShare y16 ∗ owns (c : Thread nD τ) arg17 fullShare y17 ∗ owns (c : Thread nD τ) arg18 fullShare y18 ∗ (∃ d, owns (c : Thread nD τ) arg19 fullShare d)
        ∗ (iprop(owns (c : Thread nD τ) arg2 fullShare b.x0 ∗ owns (c : Thread nD τ) arg3 fullShare b.x1 ∗ owns (c : Thread nD τ) arg4 fullShare b.x2 ∗ owns (c : Thread nD τ) arg5 fullShare b.x3 ∗ owns (c : Thread nD τ) arg6 fullShare b.x4 ∗ owns (c : Thread nD τ) arg7 fullShare b.x5 ∗ owns (c : Thread nD τ) arg8 fullShare b.x6 ∗ owns (c : Thread nD τ) arg9 fullShare b.x7 ∗ owns (c : Thread nD τ) arg10 fullShare b.x8 ∗ owns (c : Thread nD τ) arg11 fullShare b.x9 ∗ owns (c : Thread nD τ) arg12 fullShare b.x10 ∗ owns (c : Thread nD τ) arg13 fullShare b.x11 ∗ owns (c : Thread nD τ) arg14 fullShare b.x12 ∗ owns (c : Thread nD τ) arg15 fullShare (b.dq i) ∗ owns (c : Thread nD τ) arg16 fullShare (b.dck y16) ∗ owns (c : Thread nD τ) arg17 fullShare (b.dcv y17) ∗ owns (c : Thread nD τ) arg18 fullShare (b.dsink y18) ∗ owns (c : Thread nD τ) arg19 fullShare (b.drow)) -∗ K ⟨⟩))
      ⊢ wp frame (wpE (defs₀ (F := F)) Variants.none c none) E (cc1_attn_bwd_q i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1_attn_bwd_q_eq_skeleton]; unfold cc1_attn_bwd_q_skel
  simp only [k1_part1_eq_skeleton, k1_part2_eq_skeleton, k1_part3_eq_skeleton, k1_part4_eq_skeleton, k1_part5_eq_skeleton, k1_part6_eq_skeleton, k1_part7_eq_skeleton, k1_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%f15, %hf15, H15⟩, ⟨%f16, %hf16, H16⟩, ⟨%d17, %f17, -, H17⟩, Hk⟩
  obtain rfl : b = ⟨arg2.view.read (Elt F) f0, arg3.view.read (Elt F) f1, arg4.view.read (Elt F) f2, arg5.view.read (Elt F) f3, arg6.view.read (Elt F) f4, arg7.view.read (Elt F) f5, arg8.view.read (Elt F) f6, arg9.view.read (Elt F) f7, arg10.view.read (Elt F) f8, arg11.view.read (Elt F) f9, arg12.view.read (Elt F) f10, arg13.view.read (Elt F) f11, arg14.view.read (Elt F) f12⟩ := by
    obtain ⟨⟩ := b; subst hf0 hf1 hf2 hf3 hf4 hf5 hf6 hf7 hf8 hf9 hf10 hf11 hf12; rfl
  set b : Ins F := ⟨arg2.view.read (Elt F) f0, arg3.view.read (Elt F) f1, arg4.view.read (Elt F) f2, arg5.view.read (Elt F) f3, arg6.view.read (Elt F) f4, arg7.view.read (Elt F) f5, arg8.view.read (Elt F) f6, arg9.view.read (Elt F) f7, arg10.view.read (Elt F) f8, arg11.view.read (Elt F) f9, arg12.view.read (Elt F) f10, arg13.view.read (Elt F) f11, arg14.view.read (Elt F) f12⟩ with hb
  subst hf14 hf15 hf16
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    refine (View.read_writes_eq_canon _ _ _ (cover512 _)).trans ?_
    rfl
  isplitl [H14]
  · iexists _; isplitr
    swap; · iexact H14
    ipureintro
    refine (View.read_writes_eq_canon _ _ _ (cover256 _)).trans ?_
    rfl
  isplitl [H15]
  · iexists _; isplitr
    swap; · iexact H15
    ipureintro
    refine (View.read_writes_eq_canon _ _ _ (cover256 _)).trans ?_
    rfl
  isplitl [H16]
  · iexists _; isplitr
    swap; · iexact H16
    ipureintro
    refine (View.read_writes_eq_canon _ _ _ (coverSink _ _ _ _)).trans ?_
    rfl
  · iexists _; isplitr
    swap; · iexact H17
    ipureintro
    refine (View.read_writes_eq_canon _ _ _ (coverRow _ _ _ _)).trans ?_
    rfl

end Cert.KernelIdeal.Bwd

end
-- ==== Proof.BwdRegion.lean ====
/- The second call's region: what the body leaves at each point of its grid, and the body's obligation. -/
module

public import proofs.«01_k».proof.Proof.BwdBody

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Regions
-- the buffers' contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's staging buffer holds its block at every point. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's staging buffer holds its block at every point. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's staging buffer holds its block at every point. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's staging buffer holds its block at every point. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's staging buffer holds its block at every point. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input window 10's staging buffer holds its block at every point. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
/-- Input window 11's staging buffer holds its block at every point. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
/-- Input window 12's staging buffer holds its block at every point. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

/-- The first point of a run of 64. -/
theorem hcond1_0 : ∀ t : Fin cfg1.N, cond1_0 (grid1.coords t) ↔ t.val % 64 = 0 :=
  (fun t => by
    have ht : t.val < 256 := Nat.lt_of_lt_of_eq t.isLt N_1
    have e0 : (grid1.coords t 0).val = t.val / 64 % 4 := Pipeline.Grid.coords_val t 0 (by decide) rfl
    have e1 : (grid1.coords t 1).val = t.val / 1 % 64 := Pipeline.Grid.coords_val t 1 (by decide) rfl
    simp only [cond1_0, e0, e1]
    word_cmp
   : ∀ t : Fin grid1.N, cond1_0 (grid1.coords t) ↔ t.val % 64 = 0)

/-- Each window's staging memref at point `t`, as the pipeline passes it, and its wholeness. -/
abbrev ms1_0 (t : Fin cfg1.N) : Memref sig .tc .vmem S128x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S256x128 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S256x128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S4x1x1 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S128x512 .bf16 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S128x512 .bf16 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S4x128x1 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S128x512 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S256x128 .f32 := win1_14.stage (cfg1.slots t 14)
abbrev hs1_14 (t : Fin cfg1.N) : (ms1_14 t).IsWhole := hstage1_14 ((cfg1.slots t 14).cast nbuf1_14)
abbrev ms1_15 (t : Fin cfg1.N) : Memref sig .tc .vmem S256x128 .f32 := win1_15.stage (cfg1.slots t 15)
abbrev hs1_15 (t : Fin cfg1.N) : (ms1_15 t).IsWhole := hstage1_15 ((cfg1.slots t 15).cast nbuf1_15)
abbrev ms1_16 (t : Fin cfg1.N) : Memref sig .tc .vmem S4x1x1 .f32 := win1_16.stage (cfg1.slots t 16)
abbrev hs1_16 (t : Fin cfg1.N) : (ms1_16 t).IsWhole := hstage1_16 ((cfg1.slots t 16).cast nbuf1_16)
abbrev ms1_17 (t : Fin cfg1.N) : Memref sig .tc .vmem S4x1x128 .f32 := win1_17.stage (cfg1.slots t 17)
abbrev hs1_17 (t : Fin cfg1.N) : (ms1_17 t).IsWhole := hstage1_17 ((cfg1.slots t 17).cast nbuf1_17)

/-- The input blocks at point `t`. -/
def ins (c : Dev nD) (t : Fin cfg1.N) : Ins F :=
  ⟨iblk1 V c 0 t, iblk1 V c 1 t, iblk1 V c 2 t, iblk1 V c 3 t, iblk1 V c 4 t, iblk1 V c 5 t, iblk1 V c 6 t, iblk1 V c 7 t, iblk1 V c 8 t, iblk1 V c 9 t, iblk1 V c 10 t, iblk1 V c 11 t, iblk1 V c 12 t⟩

/-- The three sums after the point at position `n`: cleared and added to at the first point of a run of 64, added to the
    point before's at a later one. -/
def sums (c : Dev nD) : (n : ℕ) → n < cfg1.N → Vec F S256x128 .f32 × Vec F S256x128 .f32 × Vec F S4x1x1 .f32
  | 0, hn => ((ins V c ⟨0, hn⟩).dck zero2, (ins V c ⟨0, hn⟩).dcv zero2, (ins V c ⟨0, hn⟩).dsink zero3)
  | n + 1, hn =>
    if (n + 1) % 64 = 0 then
      ((ins V c ⟨n + 1, hn⟩).dck zero2, (ins V c ⟨n + 1, hn⟩).dcv zero2, (ins V c ⟨n + 1, hn⟩).dsink zero3)
    else
      ((ins V c ⟨n + 1, hn⟩).dck (sums c n (Nat.lt_of_succ_lt hn)).1, (ins V c ⟨n + 1, hn⟩).dcv (sums c n (Nat.lt_of_succ_lt hn)).2.1,
        (ins V c ⟨n + 1, hn⟩).dsink (sums c n (Nat.lt_of_succ_lt hn)).2.2)

/-- The sums at the first point of a run. -/
theorem sums_A (c : Dev nD) (t : Fin cfg1.N) (h0 : t.val % 64 = 0) :
    sums V c t.val t.isLt = ((ins V c t).dck zero2, (ins V c t).dcv zero2, (ins V c t).dsink zero3) := by
  obtain ⟨n, hn⟩ := t
  cases n with
  | zero => exact rfl
  | succ n => exact (if_pos h0).trans rfl

/-- The sums at a later point. -/
theorem sums_B (c : Dev nD) (t : Fin cfg1.N) (h0 : ¬t.val % 64 = 0) :
    sums V c t.val t.isLt = ((ins V c t).dck (sums V c (t.val - 1) (Nat.lt_of_le_of_lt (Nat.sub_le _ _) t.isLt)).1,
      (ins V c t).dcv (sums V c (t.val - 1) (Nat.lt_of_le_of_lt (Nat.sub_le _ _) t.isLt)).2.1,
      (ins V c t).dsink (sums V c (t.val - 1) (Nat.lt_of_le_of_lt (Nat.sub_le _ _) t.isLt)).2.2) := by
  obtain ⟨n, hn⟩ := t
  cases n with
  | zero => exact absurd (Nat.zero_mod _) h0
  | succ n => exact (if_neg h0).trans rfl

/-- The proof data of the region: the arrays as it finds them; after the body at point `t` each input's buffer at its
    block and each output's at its value. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => (ins V c t).dq (grid1.coords t)
    | ⟨14, _⟩ => (sums V c t.val t.isLt).1
    | ⟨15, _⟩ => (sums V c t.val t.isLt).2.1
    | ⟨16, _⟩ => (sums V c t.val t.isLt).2.2
    | ⟨17, _⟩ => (ins V c t).drow
    | ⟨_ + 18, h⟩ => absurd h (Nat.not_lt.2 (Nat.le_add_left _ _))
  Φ _ := Pipeline.ΦA spec1 c
  q w := Pipeline.shareOf spec1 w
  owed _ := 0

/-- The proof data's arrays are the contents at entry. -/
theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = (ins V c t).dq (grid1.coords t) := by dsimp only [dat1]
theorem after1_14 (c : Dev nD) (t : Fin cfg1.N) : (dat1 V c).after 14 t = (sums V c t.val t.isLt).1 := by dsimp only [dat1]
theorem after1_15 (c : Dev nD) (t : Fin cfg1.N) : (dat1 V c).after 15 t = (sums V c t.val t.isLt).2.1 := by dsimp only [dat1]
theorem after1_16 (c : Dev nD) (t : Fin cfg1.N) : (dat1 V c).after 16 t = (sums V c t.val t.isLt).2.2 := by dsimp only [dat1]
theorem after1_17 (c : Dev nD) (t : Fin cfg1.N) : (dat1 V c).after 17 t = (ins V c t).drow := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d

/-- At a later point output 14's staging buffer holds what the point before left. -/
theorem before1_14_B (c : Dev nD) (t : Fin cfg1.N) (h0 : ¬t.val % 64 = 0) (d) :
    (dat1 V c).before 14 t d = (sums V c (t.val - 1) (Nat.lt_of_le_of_lt (Nat.sub_le _ _) t.isLt)).1 := by
  have hN : t.val < 256 := lt_of_lt_of_eq t.isLt (show cfg1.N = 256 from N_1)
  rw [Dat.before_out_kept _ 14 rfl t (by omega) (Bool.eq_false_iff.mpr fun h => by have := (flush1_14 _).mp h; dsimp only at this; omega)
    (fun _ => rfl) (fun _ _ => rfl)]
  dsimp only [dat1]

/-- At a later point output 15's staging buffer holds what the point before left. -/
theorem before1_15_B (c : Dev nD) (t : Fin cfg1.N) (h0 : ¬t.val % 64 = 0) (d) :
    (dat1 V c).before 15 t d = (sums V c (t.val - 1) (Nat.lt_of_le_of_lt (Nat.sub_le _ _) t.isLt)).2.1 := by
  have hN : t.val < 256 := lt_of_lt_of_eq t.isLt (show cfg1.N = 256 from N_1)
  rw [Dat.before_out_kept _ 15 rfl t (by omega) (Bool.eq_false_iff.mpr fun h => by have := (flush1_15 _).mp h; dsimp only at this; omega)
    (fun _ => rfl) (fun _ _ => rfl)]
  dsimp only [dat1]

/-- At a later point output 16's staging buffer holds what the point before left. -/
theorem before1_16_B (c : Dev nD) (t : Fin cfg1.N) (h0 : ¬t.val % 64 = 0) (d) :
    (dat1 V c).before 16 t d = (sums V c (t.val - 1) (Nat.lt_of_le_of_lt (Nat.sub_le _ _) t.isLt)).2.2 := by
  have hN : t.val < 256 := lt_of_lt_of_eq t.isLt (show cfg1.N = 256 from N_1)
  rw [Dat.before_out_kept _ 16 rfl t (by omega) (Bool.eq_false_iff.mpr fun h => by have := (flush1_16 _).mp h; dsimp only at this; omega)
    (fun _ => rfl) (fun _ _ => rfl)]
  dsimp only [dat1]

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d))
    ∗ (∃ d, owns (c : Thread nD τ) (ms1_15 t) fullShare ((dat1 V c).before 15 t d))
    ∗ (∃ d, owns (c : Thread nD τ) (ms1_16 t) fullShare ((dat1 V c).before 16 t d))
    ∗ (∃ d, owns (c : Thread nD τ) (ms1_17 t) fullShare ((dat1 V c).before 17 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t)
    ∗ owns (c : Thread nD τ) (ms1_14 t) fullShare ((dat1 V c).after 14 t)
    ∗ owns (c : Thread nD τ) (ms1_15 t) fullShare ((dat1 V c).after 15 t)
    ∗ owns (c : Thread nD τ) (ms1_16 t) fullShare ((dat1 V c).after 16 t)
    ∗ owns (c : Thread nD τ) (ms1_17 t) fullShare ((dat1 V c).after 17 t))

set_option maxHeartbeats 3200000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17]
  have hN : t.val < 256 := lt_of_lt_of_eq t.isLt (show cfg1.N = 256 from N_1)
  by_cases h0 : t.val % 64 = 0
  · rw [sums_A V c t h0]
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply (runA c (grid1.coords t) _ _ _ _ _ _ _ _ _ _ _ _ _ _ _ _ _ _ _ _ _ _ _ _ _ _ _ _ _ _ _ _ _ _ _ _ ((hcond1_0 t).mpr h0) (ins V c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    iintro ⟨H0, H1, H2, H3, H4, H5, H6, H7, H8, H9, H10, H11, H12, H13, H14, H15, H16, H17⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · rw [sums_B V c t h0]
    dsimp only
    simp only [before1_14_B V c t h0, before1_15_B V c t h0, before1_16_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply (runB c (grid1.coords t) _ _ _ _ _ _ _ _ _ _ _ _ _ _ _ _ _ _ _ _ _ _ _ _ _ _ _ _ _ _ _ _ _ _ _ _ (fun h => h0 ((hcond1_0 t).mp h)) (ins V c t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexact H14
    isplitl [H15]; · iexact H15
    isplitl [H16]; · iexact H16
    isplitl [H17]; · iexists _; iexact H17
    iintro ⟨H0, H1, H2, H3, H4, H5, H6, H7, H8, H9, H10, H11, H12, H13, H14, H15, H16, H17⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

/-- The body table's row at point `t`'s slots. -/
theorem defs₀_row1 (t : Fin cfg1.N) :
    defs₀ (F := F) .tc cfg1.body (cfg1.bodyArgs t (cfg1.slots t)) = bodyAt1 t := by
  unfold defs₀; rw [Defs.onTc_tc]

/-- The body's obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Bwd

end
-- ==== Proof.Run.lean ====
/- The run of the three calls: the buffers' contents at the boundaries of the regions, each region as a segment of @main, and
   what every execution ends in. -/
module

public import proofs.«01_k».proof.Proof.Gen.KernelIdeal.Frame.Region0
public import proofs.«01_k».proof.Proof.BwdRegion
public import proofs.«01_k».proof.Proof.Gen.KernelIdeal.Frame.Region2
public import proofs.«01_k».proof.Proof.Gen.KernelIdeal.Frame.Hosts0

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered  (region 1's entry). -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact (dat0 (V0 m ρ) c).withArrays_arrAt launch₀0.sharedIn _ (A_eq0 (V0 m ρ) c) w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of . -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves (the inputs as entered, each output's write-backs
    folded: `Dat.arrAt … N`), every other buffer as entered  (region 2's entry). -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact (dat1 (V1 m ρ) c).withArrays_arrAt launch₀1.sharedIn _ (A_eq1 (V1 m ρ) c) w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- A reference that is none of region 1's OUTPUT arrays keeps its entry contents across it: an input window's
    array is never written back (`Dat.arrAt_in`, `A_eq1`); any other buffer is left as is. -/
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn1 a ha)).trans (W1_args m ρ c a ha)
/-- The same read at the TensorCore's references (region 1's exit contents). -/
abbrev V2 : (c : Dev nD) → (b : Ref sig .tc) → Buf (Elt F) ((c : Thread nD τ).loc b) := fun c b => W2 m ρ c b
/-- At region 1's exit each of its arrays holds what the pipeline leaves (`hF1`) and every other buffer what it
    held at entry (`hrest1`): the two hypotheses of . -/
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- At region 2's exit: its arrays at what the pipeline leaves (the inputs as entered, each output's write-backs
    folded: `Dat.arrAt … N`), every other buffer as entered . -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact (dat2 (V2 m ρ) c).withArrays_arrAt launch₀2.sharedIn _ (A_eq2 (V2 m ρ) c) w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- A reference that is none of region 2's OUTPUT arrays keeps its entry contents across it: an input window's
    array is never written back (`Dat.arrAt_in`, `A_eq2`); any other buffer is left as is. -/
theorem W3_of (c : Dev nD) (r : Ref sig .tc) (h : ∀ w : Fin cfg2.W, Pipeline.arrRef spec2 w = r → (cfg2.win w).isOut = false) :
    W3 m ρ c (Proc.devRef .tc r) = W2 m ρ c (Proc.devRef .tc r) := by
  by_cases hw : ∃ w : Fin cfg2.W, Pipeline.arrRef spec2 w = r
  · obtain ⟨w, rfl⟩ := hw
    exact (W3_arr m ρ c w).trans (((dat2 (V2 m ρ) c).arrAt_in w (h w rfl) _).trans (A_eq2 (V2 m ρ) c w))
  · exact W3_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn2 a ha)).trans (W2_args m ρ c a ha)
/-- The same read at the TensorCore's references (region 2's exit contents). -/
abbrev V3 : (c : Dev nD) → (b : Ref sig .tc) → Buf (Elt F) ((c : Thread nD τ).loc b) := fun c b => W3 m ρ c b
/-- At region 2's exit each of its arrays holds what the pipeline leaves (`hF2`) and every other buffer what it
    held at entry (`hrest2`): the two hypotheses of . -/
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

theorem W3_main_arg0 (c : Dev nD) : W3 m ρ c (Proc.devRef .tc main_arg0) = m ((c : Thread nD τ).loc main_arg0) :=
  W3_args m ρ c main_arg0 (by decide)
theorem W3_main_arg1 (c : Dev nD) : W3 m ρ c (Proc.devRef .tc main_arg1) = m ((c : Thread nD τ).loc main_arg1) :=
  W3_args m ρ c main_arg1 (by decide)
theorem W3_main_arg2 (c : Dev nD) : W3 m ρ c (Proc.devRef .tc main_arg2) = m ((c : Thread nD τ).loc main_arg2) :=
  W3_args m ρ c main_arg2 (by decide)
theorem W3_main_arg3 (c : Dev nD) : W3 m ρ c (Proc.devRef .tc main_arg3) = m ((c : Thread nD τ).loc main_arg3) :=
  W3_args m ρ c main_arg3 (by decide)
theorem W3_main_arg4 (c : Dev nD) : W3 m ρ c (Proc.devRef .tc main_arg4) = m ((c : Thread nD τ).loc main_arg4) :=
  W3_args m ρ c main_arg4 (by decide)
theorem W3_main_arg5 (c : Dev nD) : W3 m ρ c (Proc.devRef .tc main_arg5) = m ((c : Thread nD τ).loc main_arg5) :=
  W3_args m ρ c main_arg5 (by decide)
theorem W3_main_arg6 (c : Dev nD) : W3 m ρ c (Proc.devRef .tc main_arg6) = m ((c : Thread nD τ).loc main_arg6) :=
  W3_args m ρ c main_arg6 (by decide)

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W3`, the generator register at some state. -/
abbrev Tₙ (c : Dev nD) : sProp 𝕄 := iprop(StableHlo.held (c : Thread nD τ) (Pipeline.ucRefs τ sig) (W3 m ρ c) ∗ ∃ r, prngReg c r)

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs_shared`) and put back at the exit contents (`unscopedBufs_of_arrays_shared`; its input windows on one array (`launch₀0.sharedIn`) each dealt their share of it, `Pipeline.shareOf`, by the proof data); the generator register into the
    class invariant `ΦA` and out; nothing owed; no semaphore of the kernel's own. -/
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W1`, left at `W2`
    (what the next segment is entered from). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W2`, left at `W3`
    (what the launch reads at the end). Its arrays split out of the unscoped buffers
    (`arrays_of_unscopedBufs_shared`) and put back at the exit contents (`unscopedBufs_of_arrays_shared`; its input windows on one array (`launch₀2.sharedIn`) each dealt their share of it, `Pipeline.shareOf`, by the proof data); the generator register into the
    class invariant `ΦA` and out; nothing owed; no semaphore of the kernel's own. -/
def reg2 : Pipeline.RegionSeg (pcfgs (F := F)) adm (pdats m ρ) () defs₀ 𝒱₀ L lv 2 where
  win := launch₀2.win
  block_pos := launch₀2.block_pos
  stage_whole := launch₀2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs_shared (p := 2) (pcfgs (F := F)) adm (pdats m ρ) launch₀2.win launch₀2.sharedIn launch₀2.arr_whole c
      (fun _ _ => rfl) (V2 m ρ c) (A_eq2 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays_shared (p := 2) (pcfgs (F := F)) adm (Ix := Unit) (Name := ℕ) (U := UR sig nD τ) (Lvl := ℕ)
      launch₀2.win launch₀2.sharedIn launch₀2.arr_whole c (pdats m ρ) (fun _ _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's 3 segments in order: a host segment per stretch from its boundary's contents, a region per pallas_call. -/
abbrev segs : List (Pipeline.Seg (pcfgs (F := F)) adm (pdats m ρ) () defs₀ 𝒱₀ L lv) :=
  [ .region (reg0 m ρ),
    .region (reg1 m ρ),
    .region (reg2 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- From any memory with zero counters every weakly fair execution ends without a fault, every buffer at the contents after the
    last region and every counter at zero. -/
theorem run : θ_run defs (onTc (τ := τ) (main (F := F))) ⟨m, fun _ => 0, ρ⟩ (fun r => (∀ c : Dev nD,
      ∀ b ∈ Pipeline.ucRefs τ sig, r.2.mem ((c : Thread nD τ).1, b) = W3 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

/-- The arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
      ⟨(h.1 c _ (mem_uc main_arg0 (by decide))).trans (W3_main_arg0 m ρ c),
       (h.1 c _ (mem_uc main_arg1 (by decide))).trans (W3_main_arg1 m ρ c),
       (h.1 c _ (mem_uc main_arg2 (by decide))).trans (W3_main_arg2 m ρ c),
       (h.1 c _ (mem_uc main_arg3 (by decide))).trans (W3_main_arg3 m ρ c),
       (h.1 c _ (mem_uc main_arg4 (by decide))).trans (W3_main_arg4 m ρ c),
       (h.1 c _ (mem_uc main_arg5 (by decide))).trans (W3_main_arg5 m ρ c),
       (h.1 c _ (mem_uc main_arg6 (by decide))).trans (W3_main_arg6 m ρ c)⟩, h.2⟩) (run m ρ)

end Cert.KernelIdeal.Bwd

end
-- ==== Proof.Spec.lean ====
/-
  The attention of one training step over the real numbers, forward and backward, head by head: the functions that both
  programs are shown to compute. A query head is named by its key/value head `h` and its place `g` in that head's group;
  `t` is a query's position, `j` a key's, `l` a context key's, `d` a coordinate of the head.
-/
module

public import Idealize.ShloMosaic.PureOps
public import Idealize.ShloMosaic.PureOps.Ideal
public import Mathlib.Analysis.SpecialFunctions.Log.Basic
public import Mathlib.Data.EReal.Inv
public import Idealize.ShloMosaic.Lib.Pointwise

@[expose] public section

noncomputable section

namespace Cert.Attn

open Idealize.ShloMosaic

/-- The arrays of one device as real numbers, read head by head. -/
structure Data where
  q : Fin 4 → Fin 4 → Fin 8192 → Fin 128 → ℝ
  k : Fin 4 → Fin 8192 → Fin 128 → ℝ
  v : Fin 4 → Fin 8192 → Fin 128 → ℝ
  kc : Fin 4 → Fin 256 → Fin 128 → ℝ
  vc : Fin 4 → Fin 256 → Fin 128 → ℝ
  sink : Fin 4 → Fin 4 → ℝ
  dout : Fin 4 → Fin 4 → Fin 8192 → Fin 128 → ℝ

/-- The real number that the programs' scale word denotes. -/
def scale : ℝ := 11863283 / 134217728

theorem ofBits_scale : Ideal.ofBits .f32 0x3DB504F3#32 = (scale : EReal) := by
  simp [Ideal.ofBits, Ideal.ieee, -EReal.coe_mul, scale]; norm_num

/-- Query `t` sees key `j`. -/
abbrev Near (t j : Fin 8192) : Prop := (t : ℕ) ≤ j + 128 ∧ (j : ℕ) ≤ t + 128

theorem near_comm (t j : Fin 8192) : Near t j ↔ Near j t := And.comm

namespace Data

variable (D : Data) (h g : Fin 4) (t j : Fin 8192) (l : Fin 256) (d : Fin 128)

/-- The scaled score of query `t` and key `j`. -/
def s : ℝ := (∑ d, D.q h g t d * D.k h j d) * scale
/-- The scaled score of query `t` and context key `l`. -/
def sc : ℝ := (∑ d, D.q h g t d * D.kc h l d) * scale
/-- The weight of key `j`: zero out of the window. -/
def E : ℝ := if Near t j then Real.exp (D.s h g t j) else 0
/-- The weight of context key `l`. -/
def Ec : ℝ := Real.exp (D.sc h g t l)
/-- The sum of all weights, the sink's included. -/
def Z : ℝ := Real.exp (D.sink h g) + ∑ j, D.E h g t j + ∑ l, D.Ec h g t l
/-- The weighted sum of the values. -/
def N : ℝ := ∑ j, D.E h g t j * D.v h j d + ∑ l, D.Ec h g t l * D.vc h l d
/-- The attention's output. -/
def O : ℝ := D.N h g t d / D.Z h g t
/-- The inner product of the output and its cotangent. -/
def dr : ℝ := ∑ d, D.dout h g t d * D.O h g t d
/-- The cotangent's product with value `j`. -/
def dp : ℝ := ∑ d, D.dout h g t d * D.v h j d
/-- The cotangent's product with context value `l`. -/
def dpc : ℝ := ∑ d, D.dout h g t d * D.vc h l d
/-- The gradient of the unscaled score of key `j`. -/
def dS : ℝ := D.E h g t j / D.Z h g t * (D.dp h g t j - D.dr h g t) * scale
/-- The gradient of the unscaled score of context key `l`. -/
def dSc : ℝ := D.Ec h g t l / D.Z h g t * (D.dpc h g t l - D.dr h g t) * scale
/-- The gradient of the query. -/
def dq : ℝ := ∑ j, D.dS h g t j * D.k h j d + ∑ l, D.dSc h g t l * D.kc h l d
/-- The gradient of the key: over the group and over the queries. -/
def dk : ℝ := ∑ g, ∑ t, D.dS h g t j * D.q h g t d
/-- The gradient of the value. -/
def dv : ℝ := ∑ g, ∑ t, D.E h g t j / D.Z h g t * D.dout h g t d
/-- The gradient of the context key. -/
def dkc : ℝ := ∑ g, ∑ t, D.dSc h g t l * D.q h g t d
/-- The gradient of the context value. -/
def dvc : ℝ := ∑ g, ∑ t, D.Ec h g t l / D.Z h g t * D.dout h g t d
/-- The gradient of the sink's logit. -/
def dsink : ℝ := -∑ t, Real.exp (D.sink h g) / D.Z h g t * D.dr h g t

theorem E_nonneg : 0 ≤ D.E h g t j := by unfold E; split_ifs <;> positivity
theorem Z_pos : 0 < D.Z h g t :=
  add_pos_of_pos_of_nonneg (add_pos_of_pos_of_nonneg (Real.exp_pos _) (Finset.sum_nonneg fun _ _ => D.E_nonneg _ _ _ _))
    (Finset.sum_nonneg fun _ _ => (Real.exp_pos _).le)
theorem Z_ne : D.Z h g t ≠ 0 := (D.Z_pos h g t).ne'

/-- The output's product with its cotangent, over the unnormalised sum. -/
theorem dr_eq : D.dr h g t = (∑ d, D.dout h g t d * D.N h g t d) / D.Z h g t := by
  simp only [dr, O, Finset.sum_div, mul_div_assoc]

/-- The gradients of all scores of a row, the sink's included, add up to zero. -/
theorem total_zero : -∑ l, D.Ec h g t l / D.Z h g t * (D.dpc h g t l - D.dr h g t)
    + -∑ j, D.E h g t j / D.Z h g t * (D.dp h g t j - D.dr h g t)
    + -(-(Real.exp (D.sink h g) / D.Z h g t * D.dr h g t)) = 0 := by
  have h2 := D.Z_ne h g t
  have e1 : ∑ l, D.Ec h g t l / D.Z h g t * (D.dpc h g t l - D.dr h g t)
      = (∑ l, D.Ec h g t l * D.dpc h g t l - (∑ l, D.Ec h g t l) * D.dr h g t) / D.Z h g t := by
    rw [Finset.sum_mul, ← Finset.sum_sub_distrib, Finset.sum_div]; exact Finset.sum_congr rfl fun _ _ => by ring
  have e2 : ∑ j, D.E h g t j / D.Z h g t * (D.dp h g t j - D.dr h g t)
      = (∑ j, D.E h g t j * D.dp h g t j - (∑ j, D.E h g t j) * D.dr h g t) / D.Z h g t := by
    rw [Finset.sum_mul, ← Finset.sum_sub_distrib, Finset.sum_div]; exact Finset.sum_congr rfl fun _ _ => by ring
  have e3 : ∑ j, D.E h g t j * D.dp h g t j + ∑ l, D.Ec h g t l * D.dpc h g t l = D.dr h g t * D.Z h g t := by
    rw [D.dr_eq, div_mul_cancel₀ _ h2]
    simp only [Data.N, Data.dp, Data.dpc, mul_add, Finset.mul_sum, Finset.sum_add_distrib]
    rw [Finset.sum_comm, Finset.sum_comm (s := (Finset.univ : Finset (Fin 256)))]
    refine congrArg₂ (· + ·) ?_ ?_ <;> exact Finset.sum_congr rfl fun _ _ => Finset.sum_congr rfl fun _ _ => by ring
  have e4 : D.Z h g t = Real.exp (D.sink h g) + ∑ j, D.E h g t j + ∑ l, D.Ec h g t l := rfl
  rw [e1, e2]
  field_simp
  linear_combination -e3 - D.dr h g t * e4

end Data

/-! ## Sums and quotients of reals in the extended reals -/

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_real (x : ℝ) {y : ℝ} (hy : y ≠ 0) : Ideal.div (x : EReal) (y : EReal) = ((x / y : ℝ) : EReal) := by
  rw [Ideal.div_coe hy, ← EReal.coe_mul, mul_one_div]

/-- A choice between a real exponent and minus infinity has the exponential that is zero at the latter. -/
theorem exp_masked {p : Prop} [Decidable p] (a m : ℝ) :
    Ideal.exp ((if p then (a : EReal) else ⊥) - (m : EReal)) = ((if p then Real.exp (a - m) else 0 : ℝ) : EReal) := by
  split_ifs
  · rw [← EReal.coe_sub, Ideal.exp_coe]
  · rw [EReal.bot_sub, Ideal.exp_bot, EReal.coe_zero]

/-- The greatest of finitely many values none of which is plus infinity, and of one that is real, is real. -/
theorem max_real {ι : Type*} (s : Finset ι) (f : ι → EReal) (hf : ∀ i ∈ s, f i ≠ ⊤) : s.fold max ⊥ f ≠ ⊤ := by
  classical
  induction s using Finset.induction_on with
  | empty => simp
  | insert a s ha ih =>
    rw [Finset.fold_insert ha]
    intro h
    rcases max_choice (f a) (s.fold max ⊥ f) with h' | h' <;> rw [h'] at h
    · exact hf a (Finset.mem_insert_self _ _) h
    · exact ih (fun i hi => hf i (Finset.mem_insert_of_mem hi)) h

theorem real_of_ne {x : EReal} (h1 : x ≠ ⊤) (h2 : x ≠ ⊥) : ∃ r : ℝ, x = (r : EReal) :=
  ⟨x.toReal, (EReal.coe_toReal h1 h2).symm⟩

/-- The greatest of a real and of a value that is not plus infinity is real. -/
theorem max_coe_real {x : EReal} (hx : x ≠ ⊤) (r : ℝ) : ∃ m : ℝ, max x (r : EReal) = (m : EReal) := by
  refine real_of_ne ?_ ?_
  · rcases max_choice x (r : EReal) with h | h <;> rw [h]
    · exact hx
    · exact EReal.coe_ne_top r
  · exact ne_of_gt (lt_of_lt_of_le (EReal.bot_lt_coe r) (le_max_right _ _))

theorem max_ne_top {x y : EReal} (hx : x ≠ ⊤) (hy : y ≠ ⊤) : max x y ≠ ⊤ := by
  rcases max_choice x y with h | h <;> rw [h] <;> assumption

theorem masked_ne_top {p : Prop} [Decidable p] (a : ℝ) : (if p then (a : EReal) else ⊥) ≠ ⊤ := by
  split_ifs
  · exact EReal.coe_ne_top a
  · exact bot_ne_top

theorem ofBits_bot : Ideal.ofBits .f32 0xFF800000#32 = ⊥ := by simp [Ideal.ofBits, Ideal.ieee]
theorem ofBits_one : Ideal.ofBits .f32 0x3F800000#32 = ((1 : ℝ) : EReal) := by
  simp [Ideal.ofBits, Ideal.ieee, -EReal.coe_mul]; norm_num

/-- A choice by the bit of a proposition. -/
theorem select_bit {α : Type} (p : Prop) [Decidable p] (a b : α) :
    Scalar.select (BitVec.ofBool (decide p)) a b = if p then a else b := by
  by_cases hp : p <;> simp [Scalar.select, hp]

/-! ## The arrays read as reals -/

/-- Lane `(h, g, d)` of an array that holds all query heads side by side. -/
abbrev qcol (h g : Fin 4) (d : Fin 128) : Fin 2048 := ⟨h * 512 + g * 128 + d, by omega⟩
/-- Lane `(h, d)` of an array that holds all key heads side by side. -/
abbrev kcol (h : Fin 4) (d : Fin 128) : Fin 512 := ⟨h * 128 + d, by omega⟩
/-- Lane `(h, d)` of the values, which stand after the keys' lanes. -/
abbrev vcol (h : Fin 4) (d : Fin 128) : Fin 1024 := ⟨512 + (h * 128 + d), by omega⟩
/-- The number of query head `(h, g)`. -/
abbrev qhead (h g : Fin 4) : Fin 16 := ⟨h * 4 + g, by omega⟩

/-- The seven argument arrays hold the reals of `D`. -/
structure Reads (D : Data) (a0 : FVec Ideal ⟨2, ![8192, 2048]⟩ .bf16) (a1 : FVec Ideal ⟨2, ![8192, 512]⟩ .bf16)
    (a2 : FVec Ideal ⟨2, ![8192, 1024]⟩ .f32) (a3 : FVec Ideal ⟨2, ![256, 512]⟩ .bf16) (a4 : FVec Ideal ⟨2, ![256, 1024]⟩ .f32)
    (a5 : FVec Ideal ⟨3, ![16, 1, 1]⟩ .f32) (a6 : FVec Ideal ⟨2, ![8192, 2048]⟩ .bf16) : Prop where
  q : ∀ h g t d, a0 (ix2 t (qcol h g d)) = (D.q h g t d : EReal)
  k : ∀ h t d, a1 (ix2 t (kcol h d)) = (D.k h t d : EReal)
  v : ∀ h t d, a2 (ix2 t (vcol h d)) = (D.v h t d : EReal)
  kc : ∀ h l d, a3 (ix2 l (kcol h d)) = (D.kc h l d : EReal)
  vc : ∀ h l d, a4 (ix2 l (vcol h d)) = (D.vc h l d : EReal)
  sink : ∀ h g, a5 (ix3 (qhead h g) 0 0) = (D.sink h g : EReal)
  dout : ∀ h g t d, a6 (ix2 t (qcol h g d)) = (D.dout h g t d : EReal)

/-! ## The window of three blocks of keys -/

/-- Row `w` of the three blocks around block `i`: the blocks beside the first and the last are that block again. -/
def wrow (i : Fin 64) (w : Fin 384) : Fin 8192 :=
  if h : (w : ℕ) < 128 then ⟨(i - 1) * 128 + w, by omega⟩
  else if h' : (w : ℕ) < 256 then ⟨i * 128 + (w - 128), by omega⟩
  else ⟨min ((i : ℕ) + 1) 63 * 128 + (w - 256), by omega⟩

/-- Window row `w` is a neighbour of row `r` of block `i`, and not a repeated block's. -/
abbrev Val (i : Fin 64) (r : Fin 128) (w : Fin 384) : Prop :=
  ((w : ℕ) ≤ r + 256 ∧ (r : ℕ) ≤ w) ∧ (128 ≤ (w : ℕ) ∨ 0 < (i : ℕ)) ∧ ((w : ℕ) < 256 ∨ (i : ℕ) < 63)

/-- The position of row `r` of block `i`. -/
def pos (i : Fin 64) (r : Fin 128) : Fin 8192 := ⟨i * 128 + r, by omega⟩

/-- The block before block `i`, the first block again at the first. -/
def prev (i : Fin 64) : Fin 64 := ⟨i - 1, by omega⟩
/-- The block after block `i`, the last block again at the last. -/
def next (i : Fin 64) : Fin 64 := ⟨min ((i : ℕ) + 1) 63, by omega⟩

theorem wrow_val {i : Fin 64} {r : Fin 128} {w : Fin 384} (h : Val i r w) : (wrow i w : ℕ) + 128 = i * 128 + w := by
  obtain ⟨h1, h2, h3⟩ := h
  unfold wrow
  split_ifs
  · show ((i : ℕ) - 1) * 128 + w + 128 = _; omega
  · show (i : ℕ) * 128 + (w - 128) + 128 = _; omega
  · show min ((i : ℕ) + 1) 63 * 128 + (w - 256) + 128 = _; omega

theorem near_wrow {i : Fin 64} {r : Fin 128} {w : Fin 384} (h : Val i r w) : Near (pos i r) (wrow i w) := by
  have := wrow_val h
  obtain ⟨h1, h2, h3⟩ := h
  constructor <;> simp only [pos] <;> omega

/-- A sum over the window's rows that are neighbours is the sum over all neighbours. -/
theorem sum_window (i : Fin 64) (r : Fin 128) (f : Fin 8192 → ℝ) :
    (∑ w : Fin 384, if Val i r w then f (wrow i w) else 0) = ∑ j : Fin 8192, if Near (pos i r) j then f j else 0 := by
  rw [← Finset.sum_filter, ← Finset.sum_filter]
  refine Finset.sum_bij' (fun w _ => wrow i w) (fun j hj => ⟨j + 128 - i * 128, ?_⟩) ?_ ?_ ?_ ?_ ?_
  · have := (Finset.mem_filter.mp hj).2
    simp only [Near, pos] at this; omega
  · intro w hw
    exact Finset.mem_filter.mpr ⟨Finset.mem_univ _, near_wrow (Finset.mem_filter.mp hw).2⟩
  · intro j hj
    have := (Finset.mem_filter.mp hj).2
    simp only [Near, pos] at this
    refine Finset.mem_filter.mpr ⟨Finset.mem_univ _, ?_⟩
    simp only [Val]; omega
  · intro w hw
    have := wrow_val (Finset.mem_filter.mp hw).2
    apply Fin.ext; show (wrow i w : ℕ) + 128 - i * 128 = w; omega
  · intro j hj
    have := (Finset.mem_filter.mp hj).2
    simp only [Near, pos] at this
    have hv : Val i r ⟨j + 128 - i * 128, by omega⟩ := by simp only [Val]; omega
    have := wrow_val hv
    apply Fin.ext; simp only at this ⊢; omega
  · intro w hw; rfl

/-- The window's weights times a function, summed: the sum over all keys. -/
theorem Data.sum_val (D : Data) (h g : Fin 4) (i : Fin 64) (r : Fin 128) (f : Fin 8192 → ℝ) :
    (∑ w : Fin 384, (if Val i r w then Real.exp (D.s h g (pos i r) (wrow i w)) else 0) * f (wrow i w))
      = ∑ j : Fin 8192, D.E h g (pos i r) j * f j := by
  have e := sum_window i r fun j => Real.exp (D.s h g (pos i r) j) * f j
  refine Eq.trans (Finset.sum_congr rfl fun w _ => ?_) (e.trans (Finset.sum_congr rfl fun j _ => ?_))
  · split_ifs <;> simp
  · unfold Data.E; split_ifs <;> simp

theorem val_near_iff {i : Fin 64} {r : Fin 128} {w : Fin 384} (h : Val i r w) (a : ℝ) :
    (if Near (pos i r) (wrow i w) then a else 0) = a := if_pos (near_wrow h)

end Cert.Attn

end
-- ==== Proof.Pre.lean ====
/-
  The precondition read back: it holds only of arrays whose elements are all real numbers, and such arrays hold the reals of
  a `Data`.
-/
module

public import proofs.«01_k».proof.Pre_finite
public import proofs.«01_k».proof.Proof.Spec
public import Idealize.ShloMosaic.Lib.ReduceAll
public import Idealize.ShloMosaic.Lib.Decide

@[expose] public section

set_option maxRecDepth 16384

noncomputable section

namespace Cert.Pre_finite.Gen

/-- The shape relations of the precondition's operations. -/
instance facts : Cert.Pre_finite.Facts := by constructor <;> decide

end Cert.Pre_finite.Gen

namespace Cert.Attn

open Idealize.ShloMosaic Cert.Pre_finite Cert.Pre_finite.Facts

instance : Subsingleton S_.Idx := ⟨fun _ _ => funext fun k => k.elim0⟩

/-- A value whose magnitude is below plus infinity is a real number. -/
theorem real_of_abs {x : EReal} (h : max x (-x) < ⊤) : ∃ r : ℝ, x = (r : EReal) := by
  refine real_of_ne (fun e => ?_) (fun e => ?_)
  · rw [e] at h; exact absurd (le_max_left _ _) (not_le.mpr h)
  · rw [e, EReal.neg_bot] at h; exact absurd (le_max_right _ _) (not_le.mpr h)

theorem ofBits_top : Ideal.ofBits .f32 0x7F800000#32 = ⊤ := by simp [Ideal.ofBits, Ideal.ieee]

/-- The test of one array, passed: every element is a real number. -/
theorem all_real {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant (F := Ideal) S_ .f32 0x7F800000#32)))
      (constantI S_ 1 1#1) hr hu j = 1#1) (i : s.Idx) : ∃ r : ℝ, x i = (r : EReal) := by
  have h := Host.reduce_andi_all _ _ hr hu j e i
  have h' : BitVec.ofBool (decide (max (x i) (-(x i)) < Ideal.ofBits .f32 0x7F800000#32)) = 1#1 := h
  rw [ofBits_top] at h'
  refine real_of_abs ?_
  by_contra hc
  rw [decide_eq_false hc] at h'
  exact absurd h' (by decide)

/-- The precondition holds only of arrays of real numbers. -/
theorem finite_real (a0 : FVec Ideal S8192x2048 .bf16) (a1 : FVec Ideal S8192x512 .bf16) (a2 : FVec Ideal S8192x1024 .f32)
    (a3 : FVec Ideal S256x512 .bf16) (a4 : FVec Ideal S256x1024 .f32) (a5 : FVec Ideal S16x1x1 .f32) (a6 : FVec Ideal S8192x2048 .bf16)
    (e : Cert.Pre_finite.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ ∀ i, ∃ r : ℝ, a6 i = (r : EReal) := by
  have e := congrFun e (fun k => k.elim0)
  unfold Cert.Pre_finite.fn Cert.Pre_finite.fn_part1 Cert.Pre_finite.fn_part2 at e
  dsimp only at e
  replace ⟨e, e6⟩ := IntOp.andi_eq_one.1 e
  replace ⟨e, e5⟩ := IntOp.andi_eq_one.1 e
  replace ⟨e, e4⟩ := IntOp.andi_eq_one.1 e
  replace ⟨e, e3⟩ := IntOp.andi_eq_one.1 e
  replace ⟨e, e2⟩ := IntOp.andi_eq_one.1 e
  obtain ⟨e0, e1⟩ := IntOp.andi_eq_one.1 e
  exact ⟨fun i => all_real (extf .f32 a0 _) _ _ _ _ e0 i, fun i => all_real (extf .f32 a1 _) _ _ _ _ e1 i, fun i => all_real a2 _ _ _ _ e2 i,
    fun i => all_real (extf .f32 a3 _) _ _ _ _ e3 i, fun i => all_real a4 _ _ _ _ e4 i, fun i => all_real a5 _ _ _ _ e5 i,
    fun i => all_real (extf .f32 a6 _) _ _ _ _ e6 i⟩

/-- The reals that seven arrays hold. -/
def dataOf (a0 : FVec Ideal ⟨2, ![8192, 2048]⟩ .bf16) (a1 : FVec Ideal ⟨2, ![8192, 512]⟩ .bf16)
    (a2 : FVec Ideal ⟨2, ![8192, 1024]⟩ .f32) (a3 : FVec Ideal ⟨2, ![256, 512]⟩ .bf16) (a4 : FVec Ideal ⟨2, ![256, 1024]⟩ .f32)
    (a5 : FVec Ideal ⟨3, ![16, 1, 1]⟩ .f32) (a6 : FVec Ideal ⟨2, ![8192, 2048]⟩ .bf16) : Data where
  q h g t d := EReal.toReal (a0 (ix2 t (qcol h g d)))
  k h t d := EReal.toReal (a1 (ix2 t (kcol h d)))
  v h t d := EReal.toReal (a2 (ix2 t (vcol h d)))
  kc h l d := EReal.toReal (a3 (ix2 l (kcol h d)))
  vc h l d := EReal.toReal (a4 (ix2 l (vcol h d)))
  sink h g := EReal.toReal (a5 (ix3 (qhead h g) 0 0))
  dout h g t d := EReal.toReal (a6 (ix2 t (qcol h g d)))

theorem toReal_of {x : EReal} (h : ∃ r : ℝ, x = (r : EReal)) : x = ((EReal.toReal x : ℝ) : EReal) := by
  obtain ⟨r, rfl⟩ := h
  rw [EReal.toReal_coe]

/-- Arrays that meet the precondition hold the reals of `dataOf`. -/
theorem reads_of (a0 : FVec Ideal S8192x2048 .bf16) (a1 : FVec Ideal S8192x512 .bf16) (a2 : FVec Ideal S8192x1024 .f32)
    (a3 : FVec Ideal S256x512 .bf16) (a4 : FVec Ideal S256x1024 .f32) (a5 : FVec Ideal S16x1x1 .f32) (a6 : FVec Ideal S8192x2048 .bf16)
    (e : Cert.Pre_finite.fn (F := Ideal) a0 a1 a2 a3 a4 a5 a6 = fun _ => 1#1) :
    Reads (dataOf a0 a1 a2 a3 a4 a5 a6) a0 a1 a2 a3 a4 a5 a6 := by
  obtain ⟨h0, h1, h2, h3, h4, h5, h6⟩ := finite_real a0 a1 a2 a3 a4 a5 a6 e
  exact ⟨fun _ _ _ _ => toReal_of (h0 _), fun _ _ _ => toReal_of (h1 _), fun _ _ _ => toReal_of (h2 _), fun _ _ _ => toReal_of (h3 _),
    fun _ _ _ => toReal_of (h4 _), fun _ _ => toReal_of (h5 _), fun _ _ _ _ => toReal_of (h6 _)⟩

end Cert.Attn

end
-- ==== Proof.Mask.lean ====
/-
  The mask's comparison of positions, which the programs do on words.
-/
module

public import proofs.«01_k».proof.Proof.Spec

@[expose] public section

noncomputable section

namespace Cert.Attn

open Idealize.ShloMosaic

/-- A small number's word reads back as the number. -/
theorem toInt_small {n : ℕ} (h : n < 2 ^ 20) : (BitVec.ofNat 32 n).toInt = n := by
  rw [BitVec.toInt_eq_toNat_bmod, BitVec.toNat_ofNat, Int.bmod_def]
  split_ifs <;> omega

/-- The difference of two words of small numbers reads as the numbers' difference. -/
theorem toInt_subi {x y : BitVec 32} {a b : ℤ} (hx : x.toInt = a) (hy : y.toInt = b) (h1 : -2 ^ 30 < a - b) (h2 : a - b < 2 ^ 30) :
    (IntOp.subi x y).toInt = a - b := by
  rw [show IntOp.subi x y = x - y from rfl, BitVec.toInt_sub, hx, hy, Int.bmod_def]
  split_ifs <;> omega

/-- The sum of two words of small numbers reads as the numbers' sum. -/
theorem toInt_addi {x y : BitVec 32} {a b : ℤ} (hx : x.toInt = a) (hy : y.toInt = b) (h1 : -2 ^ 30 < a + b) (h2 : a + b < 2 ^ 30) :
    (IntOp.addi x y).toInt = a + b := by
  rw [show IntOp.addi x y = x + y from rfl, BitVec.toInt_add, hx, hy, Int.bmod_def]
  split_ifs <;> omega

/-- A word whose number is at most 128 from zero. -/
theorem abs_word {x : BitVec 32} {a : ℤ} (hx : x.toInt = a) (h : -2 ^ 30 < a) {p : Prop} [Decidable p] (hp : p ↔ a ≤ 128 ∧ -128 ≤ a) :
    IntOp.cmpi CmpIPredicate.sle (IntOp.absi x) 128#32 = BitVec.ofBool (decide p) := by
  show BitVec.ofBool (BitVec.sle (if x.msb then -x else x) 128#32) = _
  refine congrArg _ ?_
  rw [BitVec.sle_eq_decide, decide_eq_decide, hp]
  have h128 : (128#32).toInt = 128 := by decide
  rw [h128]
  by_cases hm : x.msb = true
  · rw [if_pos hm]
    rw [BitVec.msb_eq_toInt, decide_eq_true_eq] at hm
    have e : (-x).toInt = -x.toInt := by
      rw [BitVec.toInt_neg, Int.bmod_def]
      split_ifs <;> omega
    rw [e]; omega
  · rw [if_neg hm]
    rw [BitVec.msb_eq_toInt, decide_eq_true_eq] at hm
    omega

/-- Whether two rows lie within 128 of each other, as words decide it. -/
theorem near_rows (t j : ℕ) (ht : t < 2 ^ 20) (hj : j < 2 ^ 20) :
    IntOp.cmpi CmpIPredicate.sle (IntOp.absi (IntOp.subi (BitVec.ofNat 32 t) (BitVec.ofNat 32 j))) 128#32
      = BitVec.ofBool (decide (t ≤ j + 128 ∧ j ≤ t + 128)) :=
  abs_word (toInt_subi (toInt_small ht) (toInt_small hj) (by omega) (by omega)) (by omega) (by omega)

/-- Whether window row `w` lies within 128 of row `r`, as words decide it. -/
theorem near_word (r : Fin 128) (w : Fin 384) :
    IntOp.cmpi CmpIPredicate.sle (IntOp.absi (IntOp.subi (IntOp.subi (BitVec.ofNat 32 w) 128#32) (BitVec.ofNat 32 r))) 128#32
      = BitVec.ofBool (decide ((w : ℕ) ≤ r + 256 ∧ (r : ℕ) ≤ w)) :=
  abs_word (toInt_subi (toInt_subi (toInt_small (by omega)) (show (128#32).toInt = 128 by decide) (by omega) (by omega))
    (toInt_small (by omega)) (by omega) (by omega)) (by omega) (by omega)

/-- Row `r` against row `r'` of the block before. -/
theorem near_before (r r' : Fin 128) :
    IntOp.cmpi CmpIPredicate.sle (IntOp.absi (IntOp.subi (IntOp.subi (BitVec.ofNat 32 r) (BitVec.ofNat 32 r')) 4294967168#32)) 128#32
      = BitVec.ofBool (decide ((r : ℕ) ≤ r')) :=
  abs_word (toInt_subi (toInt_subi (toInt_small (by omega)) (toInt_small (by omega)) (by omega) (by omega))
    (show (4294967168#32).toInt = -128 by decide) (by omega) (by omega)) (by omega) (by omega)

/-- Row `r` against row `r'` of the same block: always near. -/
theorem near_same (r r' : Fin 128) :
    IntOp.cmpi CmpIPredicate.sle (IntOp.absi (IntOp.subi (IntOp.subi (BitVec.ofNat 32 r) (BitVec.ofNat 32 r')) 0#32)) 128#32
      = BitVec.ofBool (decide True) :=
  abs_word (toInt_subi (toInt_subi (toInt_small (by omega)) (toInt_small (by omega)) (by omega) (by omega))
    (show (0#32).toInt = 0 by decide) (by omega) (by omega)) (by omega) ⟨fun _ => by omega, fun _ => trivial⟩

/-- Row `r` against row `r'` of the block after. -/
theorem near_after (r r' : Fin 128) :
    IntOp.cmpi CmpIPredicate.sle (IntOp.absi (IntOp.subi (IntOp.subi (BitVec.ofNat 32 r) (BitVec.ofNat 32 r')) 128#32)) 128#32
      = BitVec.ofBool (decide ((r' : ℕ) ≤ r)) :=
  abs_word (toInt_subi (toInt_subi (toInt_small (by omega)) (toInt_small (by omega)) (by omega) (by omega))
    (show (128#32).toInt = 128 by decide) (by omega) (by omega)) (by omega) (by omega)

/-- Whether there is a block before, as words decide it. -/
theorem blk_ge (i k : ℕ) (hi : i < 64) (hk : k < 3) :
    Scalar.cmpi CmpIPredicate.sge (Scalar.subi (Scalar.addi (BitVec.ofNat 32 i) (BitVec.ofNat 32 k)) 1#32) 0#32 = BitVec.ofBool (decide (1 ≤ i + k)) := by
  have e : (IntOp.subi (IntOp.addi (BitVec.ofNat 32 i) (BitVec.ofNat 32 k)) 1#32).toInt = (i : ℤ) + k - 1 :=
    toInt_subi (toInt_addi (toInt_small (by omega)) (toInt_small (by omega)) (by omega) (by omega)) (show (1#32).toInt = 1 by decide) (by omega) (by omega)
  show BitVec.ofBool (BitVec.sle 0#32 (IntOp.subi (IntOp.addi (BitVec.ofNat 32 i) (BitVec.ofNat 32 k)) 1#32)) = _
  rw [BitVec.sle_eq_decide, e, show (0#32).toInt = 0 by decide]
  exact congrArg _ (decide_eq_decide.mpr (by omega))

/-- Whether there is a block after, as words decide it. -/
theorem blk_lt (i k : ℕ) (hi : i < 64) (hk : k < 3) :
    Scalar.cmpi CmpIPredicate.slt (Scalar.subi (Scalar.addi (BitVec.ofNat 32 i) (BitVec.ofNat 32 k)) 1#32) 64#32 = BitVec.ofBool (decide (i + k < 65)) := by
  have e : (IntOp.subi (IntOp.addi (BitVec.ofNat 32 i) (BitVec.ofNat 32 k)) 1#32).toInt = (i : ℤ) + k - 1 :=
    toInt_subi (toInt_addi (toInt_small (by omega)) (toInt_small (by omega)) (by omega) (by omega)) (show (1#32).toInt = 1 by decide) (by omega) (by omega)
  show BitVec.ofBool (BitVec.slt (IntOp.subi (IntOp.addi (BitVec.ofNat 32 i) (BitVec.ofNat 32 k)) 1#32) 64#32) = _
  rw [BitVec.slt_eq_decide, e, show (64#32).toInt = 64 by decide]
  exact congrArg _ (decide_eq_decide.mpr (by omega))

/-- Two bits joined. -/
theorem andi_bit (a b : Prop) [Decidable a] [Decidable b] :
    IntOp.andi (BitVec.ofBool (decide a)) (BitVec.ofBool (decide b)) = BitVec.ofBool (decide (a ∧ b)) := by
  by_cases ha : a <;> by_cases hb : b <;> simp [ha, hb, IntOp.andi]

end Cert.Attn

end
-- ==== Proof.Head.lean ====
/-
  What one head of one block of queries computes: the scores of the window and of the context, forward, as the real
  numbers of `Spec.lean`.
-/
module

public import proofs.«01_k».proof.Proof.Gen.KernelIdeal.Frame.Region0
public import proofs.«01_k».proof.Proof.Spec
public import proofs.«01_k».proof.Proof.Mask
public import Idealize.ShloMosaic.Lib.Pointwise
public import Idealize.ShloMosaic.Lib.WordCmp

@[expose] public section

set_option maxRecDepth 16384

noncomputable section

namespace Cert.KernelIdeal.Attn

open Idealize.ShloMosaic Idealize.ShloMosaic.TcCoe Idealize.SL.Sem
open Cert.KernelIdeal Cert.KernelIdeal.Gen Cert.Attn

/-- Three blocks laid end to end hold the window's rows. -/
theorem cat3_at {φ : FTy} {a b c : FVec Ideal S128x128 φ} (f : Fin 8192 → Fin 128 → ℝ) (i : Fin 64)
    (ha : ∀ r d, a (ix2 r d) = (f (pos (prev i) r) d : EReal)) (hb : ∀ r d, b (ix2 r d) = (f (pos i r) d : EReal))
    (hc : ∀ r d, c (ix2 r d) = (f (pos (next i) r) d : EReal)) (hw : Shape.Concatenates _ S384x128 0) (w : Fin 384) (d : Fin 128) :
    concatenate S384x128 0 [⟨S128x128, a⟩, ⟨S128x128, b⟩, ⟨S128x128, c⟩] hw (ix2 w d) = (f (wrow i w) d : EReal) := by
  pointwise []
  unfold wrow
  by_cases h1 : (w : ℕ) < 128
  · rw [dif_pos h1, dif_pos h1]
    exact ha _ _
  by_cases h2 : (w : ℕ) - 128 < 128
  · rw [dif_neg h1, dif_pos h2, dif_neg h1, dif_pos (show (w : ℕ) < 256 by omega)]
    exact hb _ _
  · rw [dif_neg h1, dif_neg h2, dif_neg h1, dif_neg (show ¬(w : ℕ) < 256 by omega)]
    exact (hc _ _).trans (congrArg (fun j => (f j d : EReal)) (Fin.ext (by simp only [pos, next]; omega)))

/-- The mask of block `i`'s window. -/
theorem valid_at (c : grid0.Coords) (r : Fin 128) (w : Fin 384) :
    k0_pay5 c (ix2 r w) = BitVec.ofBool (decide (Val (c 1) r w)) := by
  pointwise [k0_pay5]
  have h := (c 1).isLt
  rw [near_word]
  word_cmp
  simp only [Val, Bool.decide_and, Bool.decide_or, Bool.and_assoc]

/-- The arrays of one head at block `i` of queries hold the reals of `D`. -/
structure Head (D : Data) (h g : Fin 4) (i : Fin 64) (kw vw : FVec Ideal S384x128 .bf16) (kc vc : FVec Ideal S256x128 .bf16)
    (val : IVec S128x384 1) (q : FVec Ideal S128x128 .bf16) : Prop where
  kw : ∀ w d, kw (ix2 w d) = (D.k h (wrow i w) d : EReal)
  vw : ∀ w d, vw (ix2 w d) = (D.v h (wrow i w) d : EReal)
  kc : ∀ l d, kc (ix2 l d) = (D.kc h l d : EReal)
  vc : ∀ l d, vc (ix2 l d) = (D.vc h l d : EReal)
  val : ∀ r w, val (ix2 r w) = BitVec.ofBool (decide (Val i r w))
  q : ∀ r d, q (ix2 r d) = (D.q h g (pos i r) d : EReal)

/-- The weight of window row `w`, zero where the mask is off. -/
def Wt (D : Data) (h g : Fin 4) (i : Fin 64) (r : Fin 128) (w : Fin 384) : ℝ :=
  if Val i r w then Real.exp (D.s h g (pos i r) (wrow i w)) else 0

variable {D : Data} {h g : Fin 4} {i : Fin 64} {kw vw : FVec Ideal S384x128 .bf16} {kc vc : FVec Ideal S256x128 .bf16}
  {val : IVec S128x384 1} {q : FVec Ideal S128x128 .bf16} (H : Head D h g i kw vw kc vc val q)
include H

theorem s_at (r : Fin 128) (w : Fin 384) :
    k0_pay14 kw val q (ix2 r w) = if Val i r w then (D.s h g (pos i r) (wrow i w) : EReal) else ⊥ := by
  pointwise [k0_pay14]
  rw [H.val, select_bit]
  refine if_congr Iff.rfl ?_ rfl
  simp only [H.q, H.kw, ofBits_scale, ← EReal.coe_mul, coe_sum, Data.s]

theorem sc_at (r : Fin 128) (l : Fin 256) : k0_pay18 kc q (ix2 r l) = (D.sc h g (pos i r) l : EReal) := by
  pointwise [k0_pay18]
  simp only [H.q, H.kc, ofBits_scale, ← EReal.coe_mul, coe_sum, Data.sc]

/-! ## Forward -/

variable {sk : FVec Ideal S1x1 .f32} (hs : sk (ix2 0 0) = (D.sink h g : EReal))
include hs

/-- A row's maximum is a real number. -/
theorem m_real (r : Fin 128) : ∃ m : ℝ, k0_pay22 sk (k0_pay14 kw val q) (k0_pay18 kc q) (ix2 r 0) = (m : EReal) := by
  have e : k0_pay22 sk (k0_pay14 kw val q) (k0_pay18 kc q) (ix2 r 0)
      = max (max (Finset.univ.fold max (⊥ : EReal) fun w => k0_pay14 kw val q (ix2 r w))
          (Finset.univ.fold max (⊥ : EReal) fun l => k0_pay18 kc q (ix2 r l))) (D.sink h g) := by
    rw [← hs, ← ofBits_bot]
    pointwise [k0_pay22]
  obtain ⟨m, hm⟩ := max_coe_real (Cert.Attn.max_ne_top (max_real Finset.univ (fun w => k0_pay14 kw val q (ix2 r w)) fun w _ => by rw [s_at H]; exact masked_ne_top _)
    (max_real Finset.univ (fun l => k0_pay18 kc q (ix2 r l)) fun l _ => by rw [sc_at H]; exact EReal.coe_ne_top _)) (D.sink h g)
  exact ⟨m, e.trans hm⟩

/-- The factor that the row's maximum puts on every weight. -/
theorem m_fac (r : Fin 128) : ∃ m : ℝ, k0_pay22 sk (k0_pay14 kw val q) (k0_pay18 kc q) (ix2 r 0) = (m : EReal)
    ∧ (∀ w, k0_pay26 sk (k0_pay14 kw val q) (k0_pay18 kc q) (ix2 r w) = ((Real.exp (-m) * Wt D h g i r w : ℝ) : EReal))
    ∧ (∀ l, k0_pay30 (k0_pay18 kc q) (k0_pay22 sk (k0_pay14 kw val q) (k0_pay18 kc q)) (ix2 r l) = ((Real.exp (-m) * D.Ec h g (pos i r) l : ℝ) : EReal)) := by
  obtain ⟨m, hm⟩ := m_real H hs r
  refine ⟨m, hm, fun w => ?_, fun l => ?_⟩
  · generalize hM : k0_pay22 sk (k0_pay14 kw val q) (k0_pay18 kc q) = M at hm
    generalize hS : k0_pay14 kw val q = S at hM
    generalize hC : k0_pay18 kc q = C at hM
    have e : k0_pay26 sk S C (ix2 r w) = Ideal.exp (S (ix2 r w) - M (ix2 r 0)) := by rw [← hM]; pointwise [k0_pay26]
    rw [e, hm, ← hS, s_at H, exp_masked, Wt]
    split_ifs
    · rw [← Real.exp_add, neg_add_eq_sub]
    · rw [mul_zero]
  · have e : ∀ (C : FVec Ideal S128x256 .f32) (M : FVec Ideal S128x1 .f32), k0_pay30 C M (ix2 r l) = Ideal.exp (C (ix2 r l) - M (ix2 r 0)) := by
      intro C M; pointwise [k0_pay30]
    rw [e, hm, sc_at H, ← EReal.coe_sub, Ideal.exp_coe, Data.Ec, ← Real.exp_add, neg_add_eq_sub]

/-- The sum of a row's weights. -/
theorem den_at (r : Fin 128) {m : ℝ} (hm : k0_pay22 sk (k0_pay14 kw val q) (k0_pay18 kc q) (ix2 r 0) = (m : EReal)) :
    k0_pay38 sk (k0_pay18 kc q) (k0_pay22 sk (k0_pay14 kw val q) (k0_pay18 kc q)) (k0_pay26 sk (k0_pay14 kw val q) (k0_pay18 kc q)) (ix2 r 0)
      = ((Real.exp (-m) * D.Z h g (pos i r) : ℝ) : EReal) := by
  obtain ⟨m', hm', hp, hpc⟩ := m_fac H hs r
  obtain rfl : m' = m := EReal.coe_eq_coe_iff.mp (hm'.symm.trans hm)
  generalize k0_pay26 sk (k0_pay14 kw val q) (k0_pay18 kc q) = P at hp ⊢
  generalize k0_pay22 sk (k0_pay14 kw val q) (k0_pay18 kc q) = M at hm hpc ⊢
  pointwise [k0_pay38]
  simp only [hm, hs, hp, hpc, ← EReal.coe_sub, Ideal.exp_coe, coe_sum, ← EReal.coe_add]
  refine congrArg _ ?_
  have e := D.sum_val h g i r fun _ => 1
  simp only [mul_one] at e
  rw [Data.Z, mul_add, mul_add, ← Real.exp_add, neg_add_eq_sub, ← e, Finset.mul_sum, Finset.mul_sum]
  rfl

/-- The weighted sum of the values. -/
theorem num_at (r : Fin 128) (d : Fin 128) {m : ℝ} (hm : k0_pay22 sk (k0_pay14 kw val q) (k0_pay18 kc q) (ix2 r 0) = (m : EReal)) :
    k0_pay34 vw vc (k0_pay18 kc q) (k0_pay22 sk (k0_pay14 kw val q) (k0_pay18 kc q)) (k0_pay26 sk (k0_pay14 kw val q) (k0_pay18 kc q)) (ix2 r d)
      = ((Real.exp (-m) * D.N h g (pos i r) d : ℝ) : EReal) := by
  obtain ⟨m', hm', hp, hpc⟩ := m_fac H hs r
  obtain rfl : m' = m := EReal.coe_eq_coe_iff.mp (hm'.symm.trans hm)
  generalize k0_pay26 sk (k0_pay14 kw val q) (k0_pay18 kc q) = P at hp ⊢
  generalize k0_pay22 sk (k0_pay14 kw val q) (k0_pay18 kc q) = M at hm hpc ⊢
  pointwise [k0_pay34]
  simp only [hp, hpc, H.vw, H.vc, ← EReal.coe_mul, coe_sum, ← EReal.coe_add]
  refine congrArg _ ?_
  rw [Data.N, mul_add, ← D.sum_val h g i r fun j => D.v h j d, Finset.mul_sum, Finset.mul_sum]
  exact congrArg₂ (· + ·) (Finset.sum_congr rfl fun _ _ => by rw [mul_assoc]; rfl) (Finset.sum_congr rfl fun _ _ => by rw [mul_assoc])

/-- The head's output. -/
theorem o_at (r : Fin 128) (d : Fin 128) :
    truncf .bf16 (divf (k0_pay34 vw vc (k0_pay18 kc q) (k0_pay22 sk (k0_pay14 kw val q) (k0_pay18 kc q)) (k0_pay26 sk (k0_pay14 kw val q) (k0_pay18 kc q)))
      (broadcastTo S128x128 (k0_pay38 sk (k0_pay18 kc q) (k0_pay22 sk (k0_pay14 kw val q) (k0_pay18 kc q)) (k0_pay26 sk (k0_pay14 kw val q) (k0_pay18 kc q))) broadcasts_S128x1_S128x128))
      bitsLt_bf16_f32 (ix2 r d) = (D.O h g (pos i r) d : EReal) := by
  obtain ⟨m, hm, -⟩ := m_fac H hs r
  have hd := den_at H hs r hm
  have hn := num_at H hs r d hm
  generalize k0_pay34 (F := Ideal) _ _ _ _ _ = N at hn ⊢
  generalize k0_pay38 (F := Ideal) _ _ _ _ = Z at hd ⊢
  pointwise []
  rw [hd, hn]
  refine (div_real _ (mul_ne_zero (Real.exp_pos _).ne' (D.Z_ne h g _))).trans ?_
  rw [mul_div_mul_left _ _ (Real.exp_pos _).ne']; rfl

/-- The logarithm of the sum of a row's weights. -/
theorem lse_at (r : Fin 128) :
    k0_pay46 (k0_pay22 sk (k0_pay14 kw val q) (k0_pay18 kc q)) (k0_pay38 sk (k0_pay18 kc q) (k0_pay22 sk (k0_pay14 kw val q) (k0_pay18 kc q)) (k0_pay26 sk (k0_pay14 kw val q) (k0_pay18 kc q))) (ix2 r 0)
      = (Real.log (D.Z h g (pos i r)) : EReal) := by
  obtain ⟨m, hm, -⟩ := m_fac H hs r
  have hd := den_at H hs r hm
  generalize k0_pay38 (F := Ideal) _ _ _ _ = Z at hd ⊢
  generalize k0_pay22 (F := Ideal) _ _ _ = M at hm ⊢
  have e : k0_pay46 M Z (ix2 r 0) = M (ix2 r 0) + Ideal.log (Z (ix2 r 0)) := by pointwise [k0_pay46]
  have hz := D.Z_pos h g (pos i r)
  have hp : 0 < Real.exp (-m) * D.Z h g (pos i r) := mul_pos (Real.exp_pos _) hz
  rw [e, hm, hd, Ideal.log_coe, if_neg (not_le.mpr hp), ← EReal.coe_add, Real.log_mul (Real.exp_pos _).ne' hz.ne', Real.log_exp]
  refine congrArg _ (by ring)

end Cert.KernelIdeal.Attn

end
-- ==== Proof.FwdBlock.lean ====
/-
  What the forward kernel's body leaves of one key/value head and one block of queries: the four heads' outputs and the
  logarithms of their rows' sums, as the real numbers of `Spec.lean`.
-/
module

public import proofs.«01_k».proof.Proof.Head
public import Idealize.ShloMosaic.Lib.Pipeline.Value

@[expose] public section

set_option maxRecDepth 16384

noncomputable section

namespace Cert.KernelIdeal.Attn

open Idealize.ShloMosaic Idealize.ShloMosaic.TcCoe Idealize.SL.Sem Idealize.ShloMosaic.Pipeline
open Cert.KernelIdeal Cert.KernelIdeal.Gen Cert.Attn

/-- Lane `(g, d)` of a block that holds the heads of one group side by side. -/
abbrev lane (g : Fin 4) (d : Fin 128) : Fin 512 := ⟨g * 128 + d, by omega⟩

theorem zero2 : (![0, 0] : Fin 2 → ℕ) = fun _ => 0 := by decide
theorem zero3 : (![0, 0, 0] : Fin 3 → ℕ) = fun _ => 0 := by decide

/-- Four blocks laid side by side. -/
theorem cat4_at {φ : FTy} (a : Fin 4 → FVec Ideal S128x128 φ) (hw : Shape.Concatenates _ S128x512 1) (r : Fin 128) (g : Fin 4) (d : Fin 128) :
    concatenate S128x512 1 [⟨S128x128, a 0⟩, ⟨S128x128, a 1⟩, ⟨S128x128, a 2⟩, ⟨S128x128, a 3⟩] hw (ix2 r (lane g d)) = a g (ix2 r d) := by
  pointwise []
  have hi : ∀ (g' : Fin 4) (n : Fin 128), g' = g → n = d → a g' (ix2 r n) = a g (ix2 r d) := by rintro _ _ rfl rfl; rfl
  have hg := g.isLt
  have h4 : ∀ n : ℕ, n < 4 → n = 0 ∨ n = 1 ∨ n = 2 ∨ n = 3 := by omega
  rcases h4 g hg with h | h | h | h
  · rw [dif_pos (by omega)]
    exact hi _ _ (Fin.ext h.symm) (Fin.ext (by simp only; omega))
  · rw [dif_neg (by omega), dif_pos (by omega)]
    exact hi _ _ (Fin.ext h.symm) (Fin.ext (by simp only; omega))
  · rw [dif_neg (by omega), dif_neg (by omega), dif_pos (by omega)]
    exact hi _ _ (Fin.ext h.symm) (Fin.ext (by simp only; omega))
  · rw [dif_neg (by omega), dif_neg (by omega), dif_neg (by omega)]
    exact hi _ _ (Fin.ext h.symm) (Fin.ext (by simp only; omega))

/-- The identity matrix that turns a column into a row. -/
theorem eye_at (r r' : Fin 128) : k0_pay45 (F := Ideal) (ix2 r r') = ((if r = r' then (1 : ℝ) else 0 : ℝ) : EReal) := by
  pointwise [k0_pay45]
  have e : IntOp.cmpi CmpIPredicate.eq (BitVec.ofNat 32 (r : ℕ)) (BitVec.ofNat 32 (r' : ℕ)) = BitVec.ofBool (decide (r = r')) := by
    word_cmp
    simp only [Fin.ext_iff]
  rw [e]
  by_cases h : r = r'
  · rw [if_pos h, decide_eq_true h]
    show (((BitVec.setWidth 32 (BitVec.ofBool true)).toInt : ℝ) : EReal) = _
    simp
  · rw [if_neg h, decide_eq_false h]
    show (((BitVec.setWidth 32 (BitVec.ofBool false)).toInt : ℝ) : EReal) = _
    simp

/-- A column written as a row. -/
def rowOf (L : FVec Ideal S128x1 .f32) : FVec Ideal S1x1x128 .f32 :=
  k0_pay49 (mulf (broadcastTo S128x128 L broadcasts_S128x1_S128x128) (k0_pay45 (F := Ideal)))

theorem rowOf_at {L : FVec Ideal S128x1 .f32} {f : Fin 128 → ℝ} (hL : ∀ r, L (ix2 r 0) = (f r : EReal)) (r : Fin 128) :
    rowOf L (ix3 0 0 r) = (f r : EReal) := by
  have he := fun r' => eye_at r' r
  unfold rowOf
  generalize k0_pay45 (F := Ideal) = E at he ⊢
  pointwise [k0_pay49]
  simp only [hL, he, ← EReal.coe_mul, coe_sum]
  refine congrArg _ ?_
  simp

section Terms

variable (kw vw : FVec Ideal S384x128 .bf16) (kc vc : FVec Ideal S256x128 .bf16) (val : IVec S128x384 1)
  (q : FVec Ideal S128x128 .bf16) (sk : FVec Ideal S1x1 .f32)

/-- A head's output block. -/
def oF : FVec Ideal S128x128 .bf16 :=
  truncf .bf16 (divf (k0_pay34 vw vc (k0_pay18 kc q) (k0_pay22 sk (k0_pay14 kw val q) (k0_pay18 kc q)) (k0_pay26 sk (k0_pay14 kw val q) (k0_pay18 kc q)))
      (broadcastTo S128x128 (k0_pay38 sk (k0_pay18 kc q) (k0_pay22 sk (k0_pay14 kw val q) (k0_pay18 kc q)) (k0_pay26 sk (k0_pay14 kw val q) (k0_pay18 kc q))) broadcasts_S128x1_S128x128))
      bitsLt_bf16_f32

/-- A head's logarithms. -/
def lF : FVec Ideal S128x1 .f32 :=
  k0_pay46 (k0_pay22 sk (k0_pay14 kw val q) (k0_pay18 kc q)) (k0_pay38 sk (k0_pay18 kc q) (k0_pay22 sk (k0_pay14 kw val q) (k0_pay18 kc q)) (k0_pay26 sk (k0_pay14 kw val q) (k0_pay18 kc q)))

end Terms

/-- The queries of head `g` of a block. -/
def qOf (x : FVec Ideal S128x512 .bf16) : Fin 4 → FVec Ideal S128x128 .bf16 := ![k0_pay6 x, k0_pay7 x, k0_pay8 x, k0_pay9 x]

theorem qOf_at (x : FVec Ideal S128x512 .bf16) (g : Fin 4) (r d : Fin 128) : qOf x g (ix2 r d) = x (ix2 r (lane g d)) := by
  fin_cases g
  · show k0_pay6 (F := Ideal) x (ix2 r d) = _
    pointwise [k0_pay6]
    exact congrArg (fun l => x (ix2 r l)) (Fin.ext (by show _ = 0 * 128 + (d : ℕ); simp only; omega))
  · show k0_pay7 (F := Ideal) x (ix2 r d) = _
    pointwise [k0_pay7]
    exact congrArg (fun l => x (ix2 r l)) (Fin.ext (by show _ = 1 * 128 + (d : ℕ); simp only))
  · show k0_pay8 (F := Ideal) x (ix2 r d) = _
    pointwise [k0_pay8]
    exact congrArg (fun l => x (ix2 r l)) (Fin.ext (by show _ = 2 * 128 + (d : ℕ); simp only))
  · show k0_pay9 (F := Ideal) x (ix2 r d) = _
    pointwise [k0_pay9]
    exact congrArg (fun l => x (ix2 r l)) (Fin.ext (by show _ = 3 * 128 + (d : ℕ); simp only))

/-- The sink of head `g` of a block. -/
def skOf (x : FVec Ideal S4x1x1 .f32) : Fin 4 → FVec Ideal S1x1 .f32 :=
  ![k0_pay10 (View.ld x r0_3), k0_pay11 (View.ld x r0_4), k0_pay12 (View.ld x r0_5), k0_pay13 (View.ld x r0_6)]

theorem skOf_at (x : FVec Ideal S4x1x1 .f32) (g : Fin 4) : skOf x g (ix2 0 0) = x (ix3 g 0 0) := by
  fin_cases g
  · show k0_pay10 (F := Ideal) (View.ld (Val := Elt Ideal) x r0_3) (ix2 0 0) = _
    pointwise [k0_pay10]
  · show k0_pay11 (F := Ideal) (View.ld (Val := Elt Ideal) x r0_4) (ix2 0 0) = _
    pointwise [k0_pay11]
  · show k0_pay12 (F := Ideal) (View.ld (Val := Elt Ideal) x r0_5) (ix2 0 0) = _
    pointwise [k0_pay12]
  · show k0_pay13 (F := Ideal) (View.ld (Val := Elt Ideal) x r0_6) (ix2 0 0) = _
    pointwise [k0_pay13]

/-- The blocks of a point hold the reals of `D`. -/
structure Blocks (D : Data) (h : Fin 4) (i : Fin 64) (x0 : FVec Ideal S128x512 .bf16) (x1 x2 x3 : FVec Ideal S128x128 .bf16)
    (x4 x5 x6 : FVec Ideal S128x128 .f32) (x7 : FVec Ideal S256x128 .bf16) (x8 : FVec Ideal S256x128 .f32) (x9 : FVec Ideal S4x1x1 .f32) : Prop where
  x0 : ∀ g r d, x0 (ix2 r (lane g d)) = (D.q h g (pos i r) d : EReal)
  x1 : ∀ r d, x1 (ix2 r d) = (D.k h (pos (prev i) r) d : EReal)
  x2 : ∀ r d, x2 (ix2 r d) = (D.k h (pos i r) d : EReal)
  x3 : ∀ r d, x3 (ix2 r d) = (D.k h (pos (next i) r) d : EReal)
  x4 : ∀ r d, x4 (ix2 r d) = (D.v h (pos (prev i) r) d : EReal)
  x5 : ∀ r d, x5 (ix2 r d) = (D.v h (pos i r) d : EReal)
  x6 : ∀ r d, x6 (ix2 r d) = (D.v h (pos (next i) r) d : EReal)
  x7 : ∀ l d, x7 (ix2 l d) = (D.kc h l d : EReal)
  x8 : ∀ l d, x8 (ix2 l d) = (D.vc h l d : EReal)
  x9 : ∀ g, x9 (ix3 g 0 0) = (D.sink h g : EReal)

variable {D : Data} {h : Fin 4} {c : grid0.Coords} {x0 : FVec Ideal S128x512 .bf16} {x1 x2 x3 : FVec Ideal S128x128 .bf16}
    {x4 x5 x6 : FVec Ideal S128x128 .f32} {x7 : FVec Ideal S256x128 .bf16} {x8 : FVec Ideal S256x128 .f32} {x9 : FVec Ideal S4x1x1 .f32}
    (B : Blocks D h (c 1) x0 x1 x2 x3 x4 x5 x6 x7 x8 x9)
include B

/-- Each head's arrays, as the body takes them from the blocks. -/
theorem Blocks.head (g : Fin 4) : Head D h g (c 1) (k0_pay2 x1 x2 x3) (k0_pay3 x4 x5 x6) x7 (k0_pay4 x8) (k0_pay5 c) (qOf x0 g) where
  kw w d := cat3_at (D.k h) (c 1) B.x1 B.x2 B.x3 concatenates_S128x128_S128x128_S128x128_S384x128_d0 w d
  vw w d := cat3_at (D.v h) (c 1) B.x4 B.x5 B.x6 concatenates_S128x128_S128x128_S128x128_S384x128_d0 w d
  kc := B.x7
  vc l d := B.x8 l d
  val r w := valid_at c r w
  q r d := (qOf_at x0 g r d).trans (B.x0 g r d)

/-- The block of the outputs. -/
theorem out0_10_at (g : Fin 4) (r d : Fin 128) :
    out0_10 (F := Ideal) c x0 x1 x2 x3 x4 x5 x6 x7 x8 x9 (ix2 r (lane g d)) = (D.O h g (pos (c 1) r) d : EReal) := by
  have e : out0_10 (F := Ideal) c x0 x1 x2 x3 x4 x5 x6 x7 x8 x9
      = concatenate S128x512 1 [⟨S128x128, oF (k0_pay2 x1 x2 x3) (k0_pay3 x4 x5 x6) x7 (k0_pay4 x8) (k0_pay5 c) (qOf x0 0) (skOf x9 0)⟩,
          ⟨S128x128, oF (k0_pay2 x1 x2 x3) (k0_pay3 x4 x5 x6) x7 (k0_pay4 x8) (k0_pay5 c) (qOf x0 1) (skOf x9 1)⟩,
          ⟨S128x128, oF (k0_pay2 x1 x2 x3) (k0_pay3 x4 x5 x6) x7 (k0_pay4 x8) (k0_pay5 c) (qOf x0 2) (skOf x9 2)⟩,
          ⟨S128x128, oF (k0_pay2 x1 x2 x3) (k0_pay3 x4 x5 x6) x7 (k0_pay4 x8) (k0_pay5 c) (qOf x0 3) (skOf x9 3)⟩]
          concatenates_S128x128_S128x128_S128x128_S128x128_S128x512_d1 := by
    have l0 : ∀ x : FVec Ideal S128x128 .bf16, View.ld (Val := Elt Ideal) (e' := .bf16) x r0_0 = x := fun x => View.ld_unit_zero (Val := Elt Ideal) (S := S128x128) (e := .bf16) zero2 _ x
    have l0' : ∀ x : FVec Ideal S128x128 .f32, View.ld (Val := Elt Ideal) (e' := .f32) x r0_0 = x := fun x => View.ld_unit_zero (Val := Elt Ideal) (S := S128x128) (e := .f32) zero2 _ x
    have l1 : ∀ x : FVec Ideal S256x128 .bf16, View.ld (Val := Elt Ideal) (e' := .bf16) x r0_1 = x := fun x => View.ld_unit_zero (Val := Elt Ideal) (S := S256x128) (e := .bf16) zero2 _ x
    have l1' : ∀ x : FVec Ideal S256x128 .f32, View.ld (Val := Elt Ideal) (e' := .f32) x r0_1 = x := fun x => View.ld_unit_zero (Val := Elt Ideal) (S := S256x128) (e := .f32) zero2 _ x
    have l2 : ∀ x : FVec Ideal S128x512 .bf16, View.ld (Val := Elt Ideal) (e' := .bf16) x r0_2 = x := fun x => View.ld_unit_zero (Val := Elt Ideal) (S := S128x512) (e := .bf16) zero2 _ x
    unfold_out out0_10
    rw [View.canon_unit_zero zero2, l2, l0, l0, l0, l0', l0', l0', l1, l1']
    rfl
  rw [e]
  exact (cat4_at (fun g => oF (k0_pay2 x1 x2 x3) (k0_pay3 x4 x5 x6) x7 (k0_pay4 x8) (k0_pay5 c) (qOf x0 g) (skOf x9 g)) _ r g d).trans
    (o_at (B.head g) ((skOf_at x9 g).trans (B.x9 g)) r d)

theorem lF_at (g : Fin 4) (r : Fin 128) : lF (k0_pay2 x1 x2 x3) x7 (k0_pay5 c) (qOf x0 g) (skOf x9 g) (ix2 r 0)
    = (Real.log (D.Z h g (pos (c 1) r)) : EReal) :=
  lse_at (B.head g) ((skOf_at x9 g).trans (B.x9 g)) r

omit B in
/-- A column under a new leading axis. -/
theorem col_at (L : FVec Ideal S128x1 .f32) (r : Fin 128) : shapeCast S1x128x1 L shapeCasts_S128x1_S1x128x1 (ix3 0 r 0) = L (ix2 r 0) := by
  pointwise []

omit B in
/-- A piece's index has its first and last coordinates at zero. -/
theorem piece_col (x : Shape.Idx S1x128x1) : x = ix3 0 (x 1) 0 := by
  funext a
  match a with
  | 0 => exact Fin.ext (by have : (x 0 : ℕ) < 1 := (x 0).isLt; show (x 0 : ℕ) = 0; omega)
  | 1 => rfl
  | 2 => exact Fin.ext (by have : (x 2 : ℕ) < 1 := (x 2).isLt; show (x 2 : ℕ) = 0; omega)

omit B in
theorem piece_row (x : Shape.Idx S1x1x128) : x = ix3 0 0 (x 2) := by
  funext a
  match a with
  | 0 => exact Fin.ext (by have : (x 0 : ℕ) < 1 := (x 0).isLt; show (x 0 : ℕ) = 0; omega)
  | 1 => exact Fin.ext (by have : (x 1 : ℕ) < 1 := (x 1).isLt; show (x 1 : ℕ) = 0; omega)
  | 2 => rfl

section Logs

variable (h c x0 x1 x2 x3 x7 x9)

/-- A head's logarithms, from the blocks. -/
abbrev lOf (g : Fin 4) : FVec Ideal S128x1 .f32 := lF (k0_pay2 x1 x2 x3) x7 (k0_pay5 c) (qOf x0 g) (skOf x9 g)

end Logs

/-- The block of the logarithms, a column for each head. -/
theorem out0_11_at (y : Shape.Idx S4x128x1) :
    out0_11 (F := Ideal) c x0 x1 x2 x3 x4 x5 x6 x7 x8 x9 y = (Real.log (D.Z h (y 0) (pos (c 1) (y 1))) : EReal) := by
  have e : out0_11 (F := Ideal) c x0 x1 x2 x3 x4 x5 x6 x7 x8 x9
      = View.canon [⟨r0_13, shapeCast S1x128x1 (lOf c x0 x1 x2 x3 x7 x9 3) shapeCasts_S128x1_S1x128x1⟩,
          ⟨r0_11, shapeCast S1x128x1 (lOf c x0 x1 x2 x3 x7 x9 2) shapeCasts_S128x1_S1x128x1⟩,
          ⟨r0_9, shapeCast S1x128x1 (lOf c x0 x1 x2 x3 x7 x9 1) shapeCasts_S128x1_S1x128x1⟩,
          ⟨r0_7, shapeCast S1x128x1 (lOf c x0 x1 x2 x3 x7 x9 0) shapeCasts_S128x1_S1x128x1⟩] := by
    have l0 : ∀ x : FVec Ideal S128x128 .bf16, View.ld (Val := Elt Ideal) (e' := .bf16) x r0_0 = x := fun x => View.ld_unit_zero (Val := Elt Ideal) (S := S128x128) (e := .bf16) zero2 _ x
    have l1 : ∀ x : FVec Ideal S256x128 .bf16, View.ld (Val := Elt Ideal) (e' := .bf16) x r0_1 = x := fun x => View.ld_unit_zero (Val := Elt Ideal) (S := S256x128) (e := .bf16) zero2 _ x
    have l2 : ∀ x : FVec Ideal S128x512 .bf16, View.ld (Val := Elt Ideal) (e' := .bf16) x r0_2 = x := fun x => View.ld_unit_zero (Val := Elt Ideal) (S := S128x512) (e := .bf16) zero2 _ x
    unfold_out out0_11
    rw [l2, l0, l0, l0, l1]
    rfl
  have hG : ∀ (g : Fin 4) (x : Shape.Idx S1x128x1) (z : Shape.Idx S4x128x1), (z 0 : ℕ) = g → (z 1 : ℕ) = x 1 →
      shapeCast S1x128x1 (lOf c x0 x1 x2 x3 x7 x9 g) shapeCasts_S128x1_S1x128x1 x = (Real.log (D.Z h (z 0) (pos (c 1) (z 1))) : EReal) := by
    intro g x z h0 h1
    obtain rfl : z 0 = g := Fin.ext h0
    rw [show z 1 = x 1 from Fin.ext h1]
    exact ((congrArg _ (piece_col x)).trans (col_at _ _)).trans (lF_at B _ _)
  rw [e]
  refine View.canon_apply_of_pieces (Val := Elt Ideal) (fun z : Shape.Idx S4x128x1 => ((Real.log (D.Z h (z 0) (pos (c 1) (z 1))) : ℝ) : EReal)) _ ?_ y (cover0_11 _ _ _ _ y)
  intro p hm x
  simp only [List.mem_cons, List.not_mem_nil, or_false] at hm
  rcases hm with rfl | rfl | rfl | rfl
  · exact hG 3 x _ (by have : (x 0 : ℕ) < 1 := (x 0).isLt; show 3 + 1 * (x 0 : ℕ) = 3; omega) (by show 0 + 1 * (x 1 : ℕ) = x 1; omega)
  · exact hG 2 x _ (by have : (x 0 : ℕ) < 1 := (x 0).isLt; show 2 + 1 * (x 0 : ℕ) = 2; omega) (by show 0 + 1 * (x 1 : ℕ) = x 1; omega)
  · exact hG 1 x _ (by have : (x 0 : ℕ) < 1 := (x 0).isLt; show 1 + 1 * (x 0 : ℕ) = 1; omega) (by show 0 + 1 * (x 1 : ℕ) = x 1; omega)
  · exact hG 0 x _ (by have : (x 0 : ℕ) < 1 := (x 0).isLt; show 0 + 1 * (x 0 : ℕ) = 0; omega) (by show 0 + 1 * (x 1 : ℕ) = x 1; omega)

/-- The block of the logarithms, a row for each head. -/
theorem out0_12_at (y : Shape.Idx S4x1x128) :
    out0_12 (F := Ideal) c x0 x1 x2 x3 x4 x5 x6 x7 x8 x9 y = (Real.log (D.Z h (y 0) (pos (c 1) (y 2))) : EReal) := by
  have e : out0_12 (F := Ideal) c x0 x1 x2 x3 x4 x5 x6 x7 x8 x9
      = View.canon [⟨r0_14, rowOf (lOf c x0 x1 x2 x3 x7 x9 3)⟩, ⟨r0_12, rowOf (lOf c x0 x1 x2 x3 x7 x9 2)⟩,
          ⟨r0_10, rowOf (lOf c x0 x1 x2 x3 x7 x9 1)⟩, ⟨r0_8, rowOf (lOf c x0 x1 x2 x3 x7 x9 0)⟩] := by
    have l0 : ∀ x : FVec Ideal S128x128 .bf16, View.ld (Val := Elt Ideal) (e' := .bf16) x r0_0 = x := fun x => View.ld_unit_zero (Val := Elt Ideal) (S := S128x128) (e := .bf16) zero2 _ x
    have l1 : ∀ x : FVec Ideal S256x128 .bf16, View.ld (Val := Elt Ideal) (e' := .bf16) x r0_1 = x := fun x => View.ld_unit_zero (Val := Elt Ideal) (S := S256x128) (e := .bf16) zero2 _ x
    have l2 : ∀ x : FVec Ideal S128x512 .bf16, View.ld (Val := Elt Ideal) (e' := .bf16) x r0_2 = x := fun x => View.ld_unit_zero (Val := Elt Ideal) (S := S128x512) (e := .bf16) zero2 _ x
    unfold_out out0_12
    rw [l2, l0, l0, l0, l1]
    rfl
  have hG : ∀ (g : Fin 4) (x : Shape.Idx S1x1x128) (z : Shape.Idx S4x1x128), (z 0 : ℕ) = g → (z 2 : ℕ) = x 2 →
      rowOf (lOf c x0 x1 x2 x3 x7 x9 g) x = (Real.log (D.Z h (z 0) (pos (c 1) (z 2))) : EReal) := by
    intro g x z h0 h1
    obtain rfl : z 0 = g := Fin.ext h0
    rw [show z 2 = x 2 from Fin.ext h1]
    exact (congrArg _ (piece_row x)).trans (rowOf_at (fun r => lF_at B _ r) _)
  rw [e]
  refine View.canon_apply_of_pieces (Val := Elt Ideal) (fun z : Shape.Idx S4x1x128 => ((Real.log (D.Z h (z 0) (pos (c 1) (z 2))) : ℝ) : EReal)) _ ?_ y (cover0_12 _ _ _ _ y)
  intro p hm x
  simp only [List.mem_cons, List.not_mem_nil, or_false] at hm
  rcases hm with rfl | rfl | rfl | rfl
  · exact hG 3 x _ (by have : (x 0 : ℕ) < 1 := (x 0).isLt; show 3 + 1 * (x 0 : ℕ) = 3; omega) (by show 0 + 1 * (x 2 : ℕ) = x 2; omega)
  · exact hG 2 x _ (by have : (x 0 : ℕ) < 1 := (x 0).isLt; show 2 + 1 * (x 0 : ℕ) = 2; omega) (by show 0 + 1 * (x 2 : ℕ) = x 2; omega)
  · exact hG 1 x _ (by have : (x 0 : ℕ) < 1 := (x 0).isLt; show 1 + 1 * (x 0 : ℕ) = 1; omega) (by show 0 + 1 * (x 2 : ℕ) = x 2; omega)
  · exact hG 0 x _ (by have : (x 0 : ℕ) < 1 := (x 0).isLt; show 0 + 1 * (x 0 : ℕ) = 0; omega) (by show 0 + 1 * (x 2 : ℕ) = x 2; omega)

end Cert.KernelIdeal.Attn

end
-- ==== Proof.Arrays.lean ====
/-
  The arrays of the results, element by element, as functions of the reals of `Spec.lean`: heads stand side by side in lanes
  or one behind the other.
-/
module

public import proofs.«01_k».proof.Proof.Spec

@[expose] public section

noncomputable section

namespace Cert.Attn

open Idealize.ShloMosaic

/-- All query heads side by side. -/
def qArr (f : Fin 4 → Fin 4 → Fin 8192 → Fin 128 → ℝ) (i : Shape.Idx ⟨2, ![8192, 2048]⟩) : EReal :=
  (f ⟨(i 1 : ℕ) / 512, by have := (i 1).isLt; simp at this; omega⟩ ⟨(i 1 : ℕ) % 512 / 128, by omega⟩ (i 0) ⟨(i 1 : ℕ) % 128, by omega⟩ : ℝ)

/-- All key heads side by side, over the sequence. -/
def kArr (f : Fin 4 → Fin 8192 → Fin 128 → ℝ) (i : Shape.Idx ⟨2, ![8192, 512]⟩) : EReal :=
  (f ⟨(i 1 : ℕ) / 128, by have := (i 1).isLt; simp at this; omega⟩ (i 0) ⟨(i 1 : ℕ) % 128, by omega⟩ : ℝ)

/-- All key heads side by side, over the context. -/
def cArr (f : Fin 4 → Fin 256 → Fin 128 → ℝ) (i : Shape.Idx ⟨2, ![256, 512]⟩) : EReal :=
  (f ⟨(i 1 : ℕ) / 128, by have := (i 1).isLt; simp at this; omega⟩ (i 0) ⟨(i 1 : ℕ) % 128, by omega⟩ : ℝ)

/-- One number for each query head. -/
def sArr (f : Fin 4 → Fin 4 → ℝ) (i : Shape.Idx ⟨3, ![16, 1, 1]⟩) : EReal :=
  (f ⟨(i 0 : ℕ) / 4, by have := (i 0).isLt; simp at this; omega⟩ ⟨(i 0 : ℕ) % 4, by omega⟩ : ℝ)

/-- A column for each query head. -/
def lArr (f : Fin 4 → Fin 4 → Fin 8192 → ℝ) (i : Shape.Idx ⟨3, ![16, 8192, 1]⟩) : EReal :=
  (f ⟨(i 0 : ℕ) / 4, by have := (i 0).isLt; simp at this; omega⟩ ⟨(i 0 : ℕ) % 4, by omega⟩ (i 1) : ℝ)

/-- A row for each query head. -/
def rArr (f : Fin 4 → Fin 4 → Fin 8192 → ℝ) (i : Shape.Idx ⟨3, ![16, 1, 8192]⟩) : EReal :=
  (f ⟨(i 0 : ℕ) / 4, by have := (i 0).isLt; simp at this; omega⟩ ⟨(i 0 : ℕ) % 4, by omega⟩ (i 2) : ℝ)

theorem qArr_at (f : Fin 4 → Fin 4 → Fin 8192 → Fin 128 → ℝ) (h g : Fin 4) (t : Fin 8192) (d : Fin 128) (i : Shape.Idx ⟨2, ![8192, 2048]⟩)
    (h0 : (i 0 : ℕ) = t) (h1 : (i 1 : ℕ) = h * 512 + g * 128 + d) : qArr f i = (f h g t d : EReal) := by
  have e1 : (⟨(i 1 : ℕ) / 512, by have := (i 1).isLt; simp at this; omega⟩ : Fin 4) = h := Fin.ext (by simp only; omega)
  have e2 : (⟨(i 1 : ℕ) % 512 / 128, by omega⟩ : Fin 4) = g := Fin.ext (by simp only; omega)
  have e3 : (⟨(i 1 : ℕ) % 128, by omega⟩ : Fin 128) = d := Fin.ext (by simp only; omega)
  have e0 : (i 0 : Fin 8192) = t := Fin.ext h0
  unfold qArr
  rw [e1, e2, e3, e0]

theorem kArr_at (f : Fin 4 → Fin 8192 → Fin 128 → ℝ) (h : Fin 4) (t : Fin 8192) (d : Fin 128) (i : Shape.Idx ⟨2, ![8192, 512]⟩)
    (h0 : (i 0 : ℕ) = t) (h1 : (i 1 : ℕ) = h * 128 + d) : kArr f i = (f h t d : EReal) := by
  have e1 : (⟨(i 1 : ℕ) / 128, by have := (i 1).isLt; simp at this; omega⟩ : Fin 4) = h := Fin.ext (by simp only; omega)
  have e3 : (⟨(i 1 : ℕ) % 128, by omega⟩ : Fin 128) = d := Fin.ext (by simp only; omega)
  have e0 : (i 0 : Fin 8192) = t := Fin.ext h0
  unfold kArr
  rw [e1, e3, e0]

theorem cArr_at (f : Fin 4 → Fin 256 → Fin 128 → ℝ) (h : Fin 4) (t : Fin 256) (d : Fin 128) (i : Shape.Idx ⟨2, ![256, 512]⟩)
    (h0 : (i 0 : ℕ) = t) (h1 : (i 1 : ℕ) = h * 128 + d) : cArr f i = (f h t d : EReal) := by
  have e1 : (⟨(i 1 : ℕ) / 128, by have := (i 1).isLt; simp at this; omega⟩ : Fin 4) = h := Fin.ext (by simp only; omega)
  have e3 : (⟨(i 1 : ℕ) % 128, by omega⟩ : Fin 128) = d := Fin.ext (by simp only; omega)
  have e0 : (i 0 : Fin 256) = t := Fin.ext h0
  unfold cArr
  rw [e1, e3, e0]

theorem sArr_at (f : Fin 4 → Fin 4 → ℝ) (h g : Fin 4) (i : Shape.Idx ⟨3, ![16, 1, 1]⟩) (h0 : (i 0 : ℕ) = h * 4 + g) :
    sArr f i = (f h g : EReal) := by
  have e1 : (⟨(i 0 : ℕ) / 4, by have := (i 0).isLt; simp at this; omega⟩ : Fin 4) = h := Fin.ext (by simp only; omega)
  have e2 : (⟨(i 0 : ℕ) % 4, by omega⟩ : Fin 4) = g := Fin.ext (by simp only; omega)
  unfold sArr
  rw [e1, e2]

theorem lArr_at (f : Fin 4 → Fin 4 → Fin 8192 → ℝ) (h g : Fin 4) (t : Fin 8192) (i : Shape.Idx ⟨3, ![16, 8192, 1]⟩)
    (h0 : (i 0 : ℕ) = h * 4 + g) (h1 : (i 1 : ℕ) = t) : lArr f i = (f h g t : EReal) := by
  have e1 : (⟨(i 0 : ℕ) / 4, by have := (i 0).isLt; simp at this; omega⟩ : Fin 4) = h := Fin.ext (by simp only; omega)
  have e2 : (⟨(i 0 : ℕ) % 4, by omega⟩ : Fin 4) = g := Fin.ext (by simp only; omega)
  have e0 : (i 1 : Fin 8192) = t := Fin.ext h1
  unfold lArr
  rw [e1, e2, e0]

theorem rArr_at (f : Fin 4 → Fin 4 → Fin 8192 → ℝ) (h g : Fin 4) (t : Fin 8192) (i : Shape.Idx ⟨3, ![16, 1, 8192]⟩)
    (h0 : (i 0 : ℕ) = h * 4 + g) (h1 : (i 2 : ℕ) = t) : rArr f i = (f h g t : EReal) := by
  have e1 : (⟨(i 0 : ℕ) / 4, by have := (i 0).isLt; simp at this; omega⟩ : Fin 4) = h := Fin.ext (by simp only; omega)
  have e2 : (⟨(i 0 : ℕ) % 4, by omega⟩ : Fin 4) = g := Fin.ext (by simp only; omega)
  have e0 : (i 2 : Fin 8192) = t := Fin.ext h1
  unfold rArr
  rw [e1, e2, e0]

/-- An array known at every head, row and coordinate. -/
theorem qArr_ext {A : Shape.Idx ⟨2, ![8192, 2048]⟩ → EReal} {f : Fin 4 → Fin 4 → Fin 8192 → Fin 128 → ℝ}
    (h : ∀ h g t d, A (ix2 t (qcol h g d)) = (f h g t d : EReal)) : A = qArr f := by
  funext i
  have hl : (i 1 : ℕ) < 2048 := (i 1).isLt
  refine Eq.trans (congrArg A (funext fun a => ?_)) (h _ _ _ _)
  match a with
  | 0 => rfl
  | 1 => exact Fin.ext (by show (i 1 : ℕ) = (i 1 : ℕ) / 512 * 512 + (i 1 : ℕ) % 512 / 128 * 128 + (i 1 : ℕ) % 128; omega)

theorem kArr_ext {A : Shape.Idx ⟨2, ![8192, 512]⟩ → EReal} {f : Fin 4 → Fin 8192 → Fin 128 → ℝ}
    (h : ∀ h t d, A (ix2 t (kcol h d)) = (f h t d : EReal)) : A = kArr f := by
  funext i
  have hl : (i 1 : ℕ) < 512 := (i 1).isLt
  refine Eq.trans (congrArg A (funext fun a => ?_)) (h _ _ _)
  match a with
  | 0 => rfl
  | 1 => exact Fin.ext (by show (i 1 : ℕ) = (i 1 : ℕ) / 128 * 128 + (i 1 : ℕ) % 128; omega)

theorem cArr_ext {A : Shape.Idx ⟨2, ![256, 512]⟩ → EReal} {f : Fin 4 → Fin 256 → Fin 128 → ℝ}
    (h : ∀ h t d, A (ix2 t (kcol h d)) = (f h t d : EReal)) : A = cArr f := by
  funext i
  have hl : (i 1 : ℕ) < 512 := (i 1).isLt
  refine Eq.trans (congrArg A (funext fun a => ?_)) (h _ _ _)
  match a with
  | 0 => rfl
  | 1 => exact Fin.ext (by show (i 1 : ℕ) = (i 1 : ℕ) / 128 * 128 + (i 1 : ℕ) % 128; omega)

theorem sArr_ext {A : Shape.Idx ⟨3, ![16, 1, 1]⟩ → EReal} {f : Fin 4 → Fin 4 → ℝ}
    (h : ∀ h g, A (ix3 (qhead h g) 0 0) = (f h g : EReal)) : A = sArr f := by
  funext i
  have hl : (i 0 : ℕ) < 16 := (i 0).isLt
  refine Eq.trans (congrArg A (funext fun a => ?_)) (h _ _)
  match a with
  | 0 => exact Fin.ext (by show (i 0 : ℕ) = (i 0 : ℕ) / 4 * 4 + (i 0 : ℕ) % 4; omega)
  | 1 => exact Fin.ext (by have : (i 1 : ℕ) < 1 := (i 1).isLt; show (i 1 : ℕ) = 0; omega)
  | 2 => exact Fin.ext (by have : (i 2 : ℕ) < 1 := (i 2).isLt; show (i 2 : ℕ) = 0; omega)

end Cert.Attn

end
-- ==== Proof.FwdArr.lean ====
/-
  The arrays that the first call leaves: the attention's output and the logarithms of the rows' sums, as a column and as a
  row for each head.
-/
module

public import proofs.«01_k».proof.Proof.FwdBlock
public import proofs.«01_k».proof.Proof.Arrays
public import proofs.«01_k».proof.Proof.Gen.KernelIdeal.Frame.Region0
public import Idealize.ShloMosaic.Lib.Pipeline.ValueKit

@[expose] public section

set_option maxRecDepth 16384

noncomputable section

namespace Cert.KernelIdeal.Attn

open Idealize.ShloMosaic Idealize.ShloMosaic.TcCoe Idealize.SL.Sem Idealize.ShloMosaic.Pipeline
open Cert.KernelIdeal Cert.KernelIdeal.Gen Cert.Attn

/-- The buffers of every device. -/
abbrev Bufs := (c : Dev nD) → (b : Ref sig .tc) → Buf (Elt Ideal) ((c : Thread nD τ).loc b)

/-- The argument arrays hold the reals of `D`. -/
abbrev ReadsV (D : Data) (V : Bufs) (c : Dev nD) : Prop :=
  Reads D (V c main_arg0) (V c main_arg1) (V c main_arg2) (V c main_arg3) (V c main_arg4) (V c main_arg5) (V c main_arg6)

/-- Where each window's block lies at a point. -/
theorem idx0 : ∀ t : Fin cfg0.N,
    win0_0.index t = ![(grid0.coords t 1).val, (grid0.coords t 0).val]
    ∧ win0_1.index t = ![(grid0.coords t 1).val - 1, (grid0.coords t 0).val]
    ∧ win0_2.index t = ![(grid0.coords t 1).val, (grid0.coords t 0).val]
    ∧ win0_3.index t = ![min ((grid0.coords t 1).val + 1) 63, (grid0.coords t 0).val]
    ∧ win0_4.index t = ![(grid0.coords t 1).val - 1, 4 + (grid0.coords t 0).val]
    ∧ win0_5.index t = ![(grid0.coords t 1).val, 4 + (grid0.coords t 0).val]
    ∧ win0_6.index t = ![min ((grid0.coords t 1).val + 1) 63, 4 + (grid0.coords t 0).val]
    ∧ win0_7.index t = ![0, (grid0.coords t 0).val]
    ∧ win0_8.index t = ![0, 4 + (grid0.coords t 0).val]
    ∧ win0_9.index t = ![(grid0.coords t 0).val, 0, 0]
    ∧ win0_10.index t = ![(grid0.coords t 1).val, (grid0.coords t 0).val]
    ∧ win0_11.index t = ![(grid0.coords t 0).val, (grid0.coords t 1).val, 0]
    ∧ win0_12.index t = ![(grid0.coords t 0).val, 0, (grid0.coords t 1).val] :=
  (by decide +kernel : ∀ t : Fin grid0.N, _)

variable {D : Data} (V : Bufs) (c : Dev nD) (R : ReadsV D V c)
include R

set_option maxHeartbeats 4000000 in
/-- The blocks of every point hold the reals of `D`. -/
theorem blocks0 (t : Fin cfg0.N) : Blocks D (grid0.coords t 0) (grid0.coords t 1) (iblk0 V c 0 t) (iblk0 V c 1 t) (iblk0 V c 2 t)
    (iblk0 V c 3 t) (iblk0 V c 4 t) (iblk0 V c 5 t) (iblk0 V c 6 t) (iblk0 V c 7 t) (iblk0 V c 8 t) (iblk0 V c 9 t) where
  x0 g r d := by
    refine Eq.trans ?_ (R.q (grid0.coords t 0) g (pos (grid0.coords t 1) r) d)
    blk_ext [iblk0, idx0 t, pos]
  x1 r d := by
    refine Eq.trans ?_ (R.k (grid0.coords t 0) (pos (prev (grid0.coords t 1)) r) d)
    blk_ext [iblk0, idx0 t, pos, prev]
  x2 r d := by
    refine Eq.trans ?_ (R.k (grid0.coords t 0) (pos (grid0.coords t 1) r) d)
    blk_ext [iblk0, idx0 t, pos]
  x3 r d := by
    refine Eq.trans ?_ (R.k (grid0.coords t 0) (pos (next (grid0.coords t 1)) r) d)
    blk_ext [iblk0, idx0 t, pos, next]
  x4 r d := by
    refine Eq.trans ?_ (R.v (grid0.coords t 0) (pos (prev (grid0.coords t 1)) r) d)
    blk_ext [iblk0, idx0 t, pos, prev]
  x5 r d := by
    refine Eq.trans ?_ (R.v (grid0.coords t 0) (pos (grid0.coords t 1) r) d)
    blk_ext [iblk0, idx0 t, pos]
  x6 r d := by
    refine Eq.trans ?_ (R.v (grid0.coords t 0) (pos (next (grid0.coords t 1)) r) d)
    blk_ext [iblk0, idx0 t, pos, next]
  x7 l d := by
    refine Eq.trans ?_ (R.kc (grid0.coords t 0) l d)
    blk_ext [iblk0, idx0 t]
  x8 l d := by
    refine Eq.trans ?_ (R.vc (grid0.coords t 0) l d)
    blk_ext [iblk0, idx0 t]
  x9 g := by
    refine Eq.trans ?_ (R.sink (grid0.coords t 0) g)
    blk_ext [iblk0, idx0 t]

omit R in
/-- An index of a block of a group, by head and coordinate. -/
theorem lane_idx (y : Shape.Idx S128x512) : y = ix2 (y 0) (lane ⟨(y 1 : ℕ) / 128, by have : (y 1 : ℕ) < 512 := (y 1).isLt; omega⟩ ⟨(y 1 : ℕ) % 128, by omega⟩) := by
  funext a
  match a with
  | 0 => rfl
  | 1 => exact Fin.ext (by show (y 1 : ℕ) = (y 1 : ℕ) / 128 * 128 + (y 1 : ℕ) % 128; omega)

/-- The output. -/
theorem arr0_10 : (dat0 V c).arrAt 10 cfg0.N = qArr D.O := by
  refine (dat0 V c).arrAt_eq_of_covers 10 (qArr D.O) (by decide +kernel) fun t hf y => ?_
  blk_simp
  rw [after0_10]
  have hy : (y 1 : ℕ) < 512 := (y 1).isLt
  refine ((congrArg _ (lane_idx y)).trans (out0_10_at (blocks0 V c R t) ⟨(y 1 : ℕ) / 128, by omega⟩ (y 0) ⟨(y 1 : ℕ) % 128, by omega⟩)).trans
    (qArr_at D.O _ _ _ _ _ ?_ ?_).symm
  · blk_simp [idx0 t]; rfl
  · blk_simp [idx0 t]
    show (grid0.coords t 0 : ℕ) * 512 + (y 1 : ℕ) = (grid0.coords t 0 : ℕ) * 512 + (y 1 : ℕ) / 128 * 128 + (y 1 : ℕ) % 128
    omega

/-- The logarithms, as columns. -/
theorem arr0_11 : (dat0 V c).arrAt 11 cfg0.N = lArr fun h g t => Real.log (D.Z h g t) := by
  refine (dat0 V c).arrAt_eq_of_covers 11 (lArr fun h g t => Real.log (D.Z h g t)) (by decide +kernel) fun t hf y => ?_
  blk_simp
  rw [after0_11]
  refine (out0_11_at (blocks0 V c R t) y).trans (lArr_at (fun h g t => Real.log (D.Z h g t)) (grid0.coords t 0) (y 0) (pos (grid0.coords t 1) (y 1)) _ ?_ ?_).symm
  · blk_simp [idx0 t]
  · blk_simp [idx0 t]; rfl

/-- The logarithms, as rows. -/
theorem arr0_12 : (dat0 V c).arrAt 12 cfg0.N = rArr fun h g t => Real.log (D.Z h g t) := by
  refine (dat0 V c).arrAt_eq_of_covers 12 (rArr fun h g t => Real.log (D.Z h g t)) (by decide +kernel) fun t hf y => ?_
  blk_simp
  rw [after0_12]
  refine (out0_12_at (blocks0 V c R t) y).trans (rArr_at (fun h g t => Real.log (D.Z h g t)) (grid0.coords t 0) (y 0) (pos (grid0.coords t 1) (y 2)) _ ?_ ?_).symm
  · blk_simp [idx0 t]
  · blk_simp [idx0 t]; rfl

end Cert.KernelIdeal.Attn

end
-- ==== Proof.BwdHead.lean ====
/-
  What one head of one block of queries computes in the backward pass for the queries, the context and the sink, as the
  real numbers of `Spec.lean`.
-/
module

public import proofs.«01_k».proof.Proof.Head

@[expose] public section

set_option maxRecDepth 16384

noncomputable section

namespace Cert.KernelIdeal.Attn

open Idealize.ShloMosaic Idealize.ShloMosaic.TcCoe Idealize.SL.Sem
open Cert.KernelIdeal Cert.KernelIdeal.Gen Cert.Attn

/-- The rows' inner products of an output with its cotangent. -/
def drow (o dy : FVec Ideal S128x128 .bf16) : FVec Ideal S128x1 .f32 :=
  shapeCast S128x1 (multiReduction .add [1] S128 (mulf (extf .f32 dy bitsLt_bf16_f32) (extf .f32 o bitsLt_bf16_f32))
    0x00000000#32 reduces_S128x128_S128_2 (.inl rfl) rfl) shapeCasts_S128_S128x1

/-- A head's part of the queries' gradient. -/
def dqPart (ds : FVec Ideal S128x384 .bf16) (dsc : FVec Ideal S128x256 .bf16) (kw : FVec Ideal S384x128 .bf16)
    (kc : FVec Ideal S256x128 .bf16) : FVec Ideal S128x128 .f32 :=
  addf (matmul dot_S128x384_S384x128_S128x128_1_0_0_1_n_n none ds kw (constant S128x128 .f32 0x00000000#32))
    (matmul dot_S128x256_S256x128_S128x128_1_0_0_1_n_n none dsc kc (constant S128x128 .f32 0x00000000#32))

/-- A head's part of a context gradient: the scores' array transposed times the rows' array. -/
def ctxPart (p : FVec Ideal S128x256 .bf16) (x : FVec Ideal S128x128 .bf16) : FVec Ideal S256x128 .f32 :=
  matmul dot_S128x256_S128x128_S256x128_0_0_1_1_n_n none p x (constant S256x128 .f32 0x00000000#32)

/-- A head's part of its sink's gradient. -/
def sinkPart (lg : FVec Ideal S128x1 .f32) (sk : FVec Ideal S1x1 .f32) (dr : FVec Ideal S128x1 .f32) : FVec Ideal S1x1 .f32 :=
  k1_pay76 lg sk dr

/-- One head's arrays, with the cotangent, the output and the logarithms of the rows' sums. -/
structure BHead (D : Data) (h g : Fin 4) (i : Fin 64) (kw vw : FVec Ideal S384x128 .bf16) (kc vc : FVec Ideal S256x128 .bf16)
    (val : IVec S128x384 1) (q dy o : FVec Ideal S128x128 .bf16) (lg : FVec Ideal S128x1 .f32) (sk : FVec Ideal S1x1 .f32) : Prop
    extends Head D h g i kw vw kc vc val q where
  dy : ∀ r d, dy (ix2 r d) = (D.dout h g (pos i r) d : EReal)
  o : ∀ r d, o (ix2 r d) = (D.O h g (pos i r) d : EReal)
  lg : ∀ r, lg (ix2 r 0) = (Real.log (D.Z h g (pos i r)) : EReal)
  sk : sk (ix2 0 0) = (D.sink h g : EReal)

variable {D : Data} {h g : Fin 4} {i : Fin 64} {kw vw : FVec Ideal S384x128 .bf16} {kc vc : FVec Ideal S256x128 .bf16}
  {val : IVec S128x384 1} {q dy o : FVec Ideal S128x128 .bf16} {lg : FVec Ideal S128x1 .f32} {sk : FVec Ideal S1x1 .f32}
  (H : BHead D h g i kw vw kc vc val q dy o lg sk)

/-- An exponential less a row's logarithm is the quotient. -/
theorem exp_log (D : Data) (h g : Fin 4) (t : Fin 8192) (a : ℝ) : Real.exp (a - Real.log (D.Z h g t)) = Real.exp a / D.Z h g t := by
  rw [Real.exp_sub, Real.exp_log (D.Z_pos h g t)]

include H

theorem p_at (r : Fin 128) (w : Fin 384) :
    k1_pay50 lg (k1_pay30 kw val q) (ix2 r w) = ((Wt D h g i r w / D.Z h g (pos i r) : ℝ) : EReal) := by
  have hs := s_at H.toHead r w
  change k1_pay30 kw val q (ix2 r w) = _ at hs
  generalize k1_pay30 kw val q = S at hs ⊢
  have e : k1_pay50 lg S (ix2 r w) = Ideal.exp (S (ix2 r w) - lg (ix2 r 0)) := by pointwise [k1_pay50]
  rw [e, hs, H.lg, exp_masked, Wt]
  split_ifs
  · rw [exp_log]
  · rw [zero_div]

theorem pc_at (r : Fin 128) (l : Fin 256) :
    k1_pay54 lg (k1_pay34 kc q) (ix2 r l) = ((D.Ec h g (pos i r) l / D.Z h g (pos i r) : ℝ) : EReal) := by
  have hs := sc_at H.toHead r l
  change k1_pay34 kc q (ix2 r l) = _ at hs
  generalize k1_pay34 kc q = S at hs ⊢
  have e : k1_pay54 lg S (ix2 r l) = Ideal.exp (S (ix2 r l) - lg (ix2 r 0)) := by pointwise [k1_pay54]
  rw [e, hs, H.lg, ← EReal.coe_sub, Ideal.exp_coe, exp_log, Data.Ec]

theorem dp_at (r : Fin 128) (w : Fin 384) : k1_pay38 vw dy (ix2 r w) = (D.dp h g (pos i r) (wrow i w) : EReal) := by
  pointwise [k1_pay38]
  simp only [H.dy, H.vw, ← EReal.coe_mul, coe_sum, Data.dp]

theorem dpc_at (r : Fin 128) (l : Fin 256) : k1_pay42 vc dy (ix2 r l) = (D.dpc h g (pos i r) l : EReal) := by
  pointwise [k1_pay42]
  simp only [H.dy, H.vc, ← EReal.coe_mul, coe_sum, Data.dpc]

theorem dr_at (r : Fin 128) : drow o dy (ix2 r 0) = (D.dr h g (pos i r) : EReal) := by
  pointwise [drow]
  simp only [H.dy, H.o, ← EReal.coe_mul, coe_sum, Data.dr]

/-- The scores' gradient in the window. -/
theorem ds_at (r : Fin 128) (w : Fin 384) :
    k1_pay58 (k1_pay38 vw dy) (drow o dy) (k1_pay50 lg (k1_pay30 kw val q)) (ix2 r w)
      = ((Wt D h g i r w / D.Z h g (pos i r) * (D.dp h g (pos i r) (wrow i w) - D.dr h g (pos i r)) * scale : ℝ) : EReal) := by
  have h1 := dp_at H r w
  have h2 := dr_at H r
  have h3 := p_at H r w
  generalize k1_pay38 vw dy = A at h1 ⊢
  generalize drow o dy = B at h2 ⊢
  generalize k1_pay50 (F := Ideal) _ _ = C at h3 ⊢
  pointwise [k1_pay58]
  rw [h1, h2, h3, ofBits_scale, ← EReal.coe_sub, ← EReal.coe_mul, ← EReal.coe_mul]

/-- The context scores' gradient. -/
theorem dsc_at (r : Fin 128) (l : Fin 256) :
    k1_pay61 (k1_pay42 vc dy) (drow o dy) (k1_pay54 lg (k1_pay34 kc q)) (ix2 r l) = (D.dSc h g (pos i r) l : EReal) := by
  have h1 := dpc_at H r l
  have h2 := dr_at H r
  have h3 := pc_at H r l
  generalize k1_pay42 vc dy = A at h1 ⊢
  generalize drow o dy = B at h2 ⊢
  generalize k1_pay54 (F := Ideal) _ _ = C at h3 ⊢
  pointwise [k1_pay61]
  rw [h1, h2, h3, ofBits_scale, ← EReal.coe_sub, ← EReal.coe_mul, ← EReal.coe_mul]; rfl

/-- The queries' gradient of one head. -/
theorem dqPart_at (r d : Fin 128) :
    dqPart (k1_pay58 (k1_pay38 vw dy) (drow o dy) (k1_pay50 lg (k1_pay30 kw val q)))
      (k1_pay61 (k1_pay42 vc dy) (drow o dy) (k1_pay54 lg (k1_pay34 kc q))) kw kc (ix2 r d) = (D.dq h g (pos i r) d : EReal) := by
  have h1 := ds_at H r
  have h2 := dsc_at H r
  generalize k1_pay58 (F := Ideal) _ _ _ = A at h1 ⊢
  generalize k1_pay61 (F := Ideal) _ _ _ = B at h2 ⊢
  pointwise [dqPart]
  simp only [h1, h2, H.kw, H.kc, ← EReal.coe_mul, coe_sum, ← EReal.coe_add]
  refine congrArg _ ?_
  have e := D.sum_val h g i r fun j => 1 / D.Z h g (pos i r) * (D.dp h g (pos i r) j - D.dr h g (pos i r)) * scale * D.k h j d
  rw [Data.dq]
  congr 1
  refine Eq.trans (Finset.sum_congr rfl fun w _ => ?_) (e.trans (Finset.sum_congr rfl fun j _ => ?_))
  · rw [Wt]; ring
  · rw [Data.dS]; ring

/-- A block's part of a head's context keys' gradient. -/
theorem dkcPart_at (l : Fin 256) (d : Fin 128) :
    ctxPart (k1_pay61 (k1_pay42 vc dy) (drow o dy) (k1_pay54 lg (k1_pay34 kc q))) q (ix2 l d)
      = ((∑ r, D.dSc h g (pos i r) l * D.q h g (pos i r) d : ℝ) : EReal) := by
  have h2 := fun r => dsc_at H r l
  generalize k1_pay61 (F := Ideal) _ _ _ = B at h2 ⊢
  pointwise [ctxPart]
  simp only [h2, H.q, ← EReal.coe_mul, coe_sum]

/-- A block's part of a head's context values' gradient. -/
theorem dvcPart_at (l : Fin 256) (d : Fin 128) :
    ctxPart (truncf .bf16 (k1_pay54 lg (k1_pay34 kc q)) bitsLt_bf16_f32) dy (ix2 l d)
      = ((∑ r, D.Ec h g (pos i r) l / D.Z h g (pos i r) * D.dout h g (pos i r) d : ℝ) : EReal) := by
  have h2 := fun r => pc_at H r l
  generalize k1_pay54 (F := Ideal) _ _ = B at h2 ⊢
  pointwise [ctxPart]
  simp only [h2, H.dy, ← EReal.coe_mul, coe_sum]

/-- A block's part of a head's sink's gradient. -/
theorem sinkPart_at : sinkPart lg sk (drow o dy) (ix2 0 0)
    = ((-∑ r, Real.exp (D.sink h g) / D.Z h g (pos i r) * D.dr h g (pos i r) : ℝ) : EReal) := by
  have h2 := dr_at H
  generalize drow o dy = B at h2 ⊢
  pointwise [sinkPart, k1_pay76]
  simp only [h2, H.lg, H.sk, ← EReal.coe_sub, Ideal.exp_coe, exp_log, ← EReal.coe_mul, coe_sum]
  rw [zero_sub, EReal.coe_neg]

end Cert.KernelIdeal.Attn

end
-- ==== Proof.BwdBlock.lean ====
/-
  What the second kernel's body leaves of one key/value head and one block of queries: the queries' gradient, the block's
  parts of the gradients of the context and of the sinks, and the row sums, as the real numbers of `Spec.lean`.
-/
module

public import proofs.«01_k».proof.Proof.BwdHead
public import proofs.«01_k».proof.Proof.FwdBlock
public import proofs.«01_k».proof.Proof.BwdOuts

@[expose] public section

set_option maxRecDepth 16384

noncomputable section

namespace Cert.KernelIdeal.Attn

open Idealize.ShloMosaic Idealize.ShloMosaic.TcCoe Idealize.SL.Sem Idealize.ShloMosaic.Pipeline
open Cert.KernelIdeal Cert.KernelIdeal.Gen Cert.Attn
open Cert.KernelIdeal.Bwd (Ins rK rC rQ rS0 rS1 rS2 rS3 rL0 rL1 rL2 rL3 rR0 rR1 rR2 rR3)

/-- Head `g`'s part of a block of the outputs. -/
def oOf (x : FVec Ideal S128x512 .bf16) : Fin 4 → FVec Ideal S128x128 .bf16 :=
  ![extractStridedSlice S128x128 ![0, 0] (k1_pay13 (F := Ideal) x) slices_S128x512_o0_0_S128x128,
    extractStridedSlice S128x128 ![0, 128] (k1_pay13 (F := Ideal) x) slices_S128x512_o0_128_S128x128,
    extractStridedSlice S128x128 ![0, 256] (k1_pay13 (F := Ideal) x) slices_S128x512_o0_256_S128x128,
    extractStridedSlice S128x128 ![0, 384] (k1_pay13 (F := Ideal) x) slices_S128x512_o0_384_S128x128]

theorem oOf_at (x : FVec Ideal S128x512 .bf16) (g : Fin 4) (r d : Fin 128) : oOf x g (ix2 r d) = x (ix2 r (lane g d)) := by
  fin_cases g
  · show extractStridedSlice S128x128 ![0, 0] (k1_pay13 (F := Ideal) x) slices_S128x512_o0_0_S128x128 (ix2 r d) = _
    pointwise [k1_pay13]
    exact congrArg (fun l => x (ix2 r l)) (Fin.ext (by show _ = 0 * 128 + (d : ℕ); simp only; omega))
  · show extractStridedSlice S128x128 ![0, 128] (k1_pay13 (F := Ideal) x) slices_S128x512_o0_128_S128x128 (ix2 r d) = _
    pointwise [k1_pay13]
    exact congrArg (fun l => x (ix2 r l)) (Fin.ext (by show _ = 1 * 128 + (d : ℕ); simp only))
  · show extractStridedSlice S128x128 ![0, 256] (k1_pay13 (F := Ideal) x) slices_S128x512_o0_256_S128x128 (ix2 r d) = _
    pointwise [k1_pay13]
    exact congrArg (fun l => x (ix2 r l)) (Fin.ext (by show _ = 2 * 128 + (d : ℕ); simp only))
  · show extractStridedSlice S128x128 ![0, 384] (k1_pay13 (F := Ideal) x) slices_S128x512_o0_384_S128x128 (ix2 r d) = _
    pointwise [k1_pay13]
    exact congrArg (fun l => x (ix2 r l)) (Fin.ext (by show _ = 3 * 128 + (d : ℕ); simp only))

/-- Head `g`'s column of a block of columns. -/
def cOf (x : FVec Ideal S4x128x1 .f32) : Fin 4 → FVec Ideal S128x1 .f32 :=
  ![k1_pay22 (View.ld x rL0), k1_pay23 (View.ld x rL1), k1_pay24 (View.ld x rL2), k1_pay25 (View.ld x rL3)]

theorem cOf_at (x : FVec Ideal S4x128x1 .f32) (g : Fin 4) (r : Fin 128) : cOf x g (ix2 r 0) = x (ix3 g r 0) := by
  fin_cases g
  · show k1_pay22 (F := Ideal) (View.ld (Val := Elt Ideal) x rL0) (ix2 r 0) = _
    pointwise [k1_pay22]
  · show k1_pay23 (F := Ideal) (View.ld (Val := Elt Ideal) x rL1) (ix2 r 0) = _
    pointwise [k1_pay23]
  · show k1_pay24 (F := Ideal) (View.ld (Val := Elt Ideal) x rL2) (ix2 r 0) = _
    pointwise [k1_pay24]
  · show k1_pay25 (F := Ideal) (View.ld (Val := Elt Ideal) x rL3) (ix2 r 0) = _
    pointwise [k1_pay25]

/-- A sink's part added to its former value. -/
def sinkOut (lg : FVec Ideal S128x1 .f32) (sk : FVec Ideal S1x1 .f32) (dr : FVec Ideal S128x1 .f32) (z : FVec Ideal S1x1x1 .f32) :
    FVec Ideal S1x1x1 .f32 := k1_pay77 (k1_pay75 z) (sinkPart lg sk dr)

theorem sinkOut_at (lg : FVec Ideal S128x1 .f32) (sk : FVec Ideal S1x1 .f32) (dr : FVec Ideal S128x1 .f32) (z : FVec Ideal S1x1x1 .f32)
    (x : Shape.Idx S1x1x1) : sinkOut lg sk dr z x = z x + sinkPart lg sk dr (ix2 0 0) := by
  have hx : x = ix3 0 0 0 := by
    funext a
    match a with
    | 0 => exact Fin.ext (by have : (x 0 : ℕ) < 1 := (x 0).isLt; show (x 0 : ℕ) = 0; omega)
    | 1 => exact Fin.ext (by have : (x 1 : ℕ) < 1 := (x 1).isLt; show (x 1 : ℕ) = 0; omega)
    | 2 => exact Fin.ext (by have : (x 2 : ℕ) < 1 := (x 2).isLt; show (x 2 : ℕ) = 0; omega)
  subst hx
  unfold sinkOut
  generalize sinkPart lg sk dr = s
  pointwise [k1_pay77, k1_pay75]

/-- The blocks of a point hold the reals of `D`. -/
structure BBlocks (D : Data) (h : Fin 4) (i : Fin 64) (b : Ins Ideal) : Prop where
  fwd : Blocks D h i b.x0 b.x1 b.x2 b.x3 b.x4 b.x5 b.x6 b.x7 b.x8 b.x9
  x10 : ∀ g r d, b.x10 (ix2 r (lane g d)) = (D.dout h g (pos i r) d : EReal)
  x11 : ∀ g r d, b.x11 (ix2 r (lane g d)) = (D.O h g (pos i r) d : EReal)
  x12 : ∀ g r, b.x12 (ix3 g r 0) = (Real.log (D.Z h g (pos i r)) : EReal)

section Block

variable {D : Data} {h : Fin 4} {c : grid1.Coords} {b : Ins Ideal}

/-- The keys, the values, the mask and the context as every head of the block takes them. -/
abbrev kwOf (b : Ins Ideal) : FVec Ideal S384x128 .bf16 := k1_pay6 b.x1 b.x2 b.x3
abbrev vwOf (b : Ins Ideal) : FVec Ideal S384x128 .bf16 := k1_pay7 b.x4 b.x5 b.x6
abbrev valOf (c : grid1.Coords) : IVec S128x384 1 := k1_pay12 (k1_pay9 c) k1_pay10 (k1_pay11 c)

variable (B : BBlocks D h (c 1) b)
include B

/-- Each head's arrays, as the body takes them from the blocks. -/
theorem BBlocks.head (g : Fin 4) : BHead D h g (c 1) (kwOf b) (vwOf b) b.x7 (k1_pay8 b.x8) (valOf c)
    (qOf b.x0 g) (qOf b.x10 g) (oOf b.x11 g) (cOf b.x12 g) (skOf b.x9 g) where
  kw w d := cat3_at (D.k h) (c 1) B.fwd.x1 B.fwd.x2 B.fwd.x3 concatenates_S128x128_S128x128_S128x128_S384x128_d0 w d
  vw w d := cat3_at (D.v h) (c 1) B.fwd.x4 B.fwd.x5 B.fwd.x6 concatenates_S128x128_S128x128_S128x128_S384x128_d0 w d
  kc := B.fwd.x7
  vc l d := B.fwd.x8 l d
  val r w := valid_at c r w
  q r d := (qOf_at b.x0 g r d).trans (B.fwd.x0 g r d)
  dy r d := (qOf_at b.x10 g r d).trans (B.x10 g r d)
  o r d := (oOf_at b.x11 g r d).trans (B.x11 g r d)
  lg r := (cOf_at b.x12 g r).trans (B.x12 g r)
  sk := (skOf_at b.x9 g).trans (B.fwd.x9 g)

omit B in
theorem ld128 (x : FVec Ideal S128x128 .bf16) : View.ld (Val := Elt Ideal) (e' := .bf16) x rK = x := View.ld_unit_zero (Val := Elt Ideal) (S := S128x128) (e := .bf16) zero2 _ x
omit B in
theorem ld128' (x : FVec Ideal S128x128 .f32) : View.ld (Val := Elt Ideal) (e' := .f32) x rK = x := View.ld_unit_zero (Val := Elt Ideal) (S := S128x128) (e := .f32) zero2 _ x
omit B in
theorem ld256 (x : FVec Ideal S256x128 .bf16) : View.ld (Val := Elt Ideal) (e' := .bf16) x rC = x := View.ld_unit_zero (Val := Elt Ideal) (S := S256x128) (e := .bf16) zero2 _ x
omit B in
theorem ld256' (x : FVec Ideal S256x128 .f32) : View.ld (Val := Elt Ideal) (e' := .f32) x rC = x := View.ld_unit_zero (Val := Elt Ideal) (S := S256x128) (e := .f32) zero2 _ x
omit B in
theorem ld512 (x : FVec Ideal S128x512 .bf16) : View.ld (Val := Elt Ideal) (e' := .bf16) x rQ = x := View.ld_unit_zero (Val := Elt Ideal) (S := S128x512) (e := .bf16) zero2 _ x

section Parts

variable (c b)

/-- Head `g`'s part of the queries' gradient. -/
abbrev dqOf (g : Fin 4) : FVec Ideal S128x128 .f32 :=
  dqPart (k1_pay58 (k1_pay38 (vwOf b) (qOf b.x10 g)) (drow (oOf b.x11 g) (qOf b.x10 g)) (k1_pay50 (cOf b.x12 g) (k1_pay30 (kwOf b) (valOf c) (qOf b.x0 g))))
    (k1_pay61 (k1_pay42 (k1_pay8 b.x8) (qOf b.x10 g)) (drow (oOf b.x11 g) (qOf b.x10 g)) (k1_pay54 (cOf b.x12 g) (k1_pay34 b.x7 (qOf b.x0 g)))) (kwOf b) b.x7
/-- Head `g`'s part of the context keys' gradient. -/
abbrev dkcOf (g : Fin 4) : FVec Ideal S256x128 .f32 :=
  ctxPart (k1_pay61 (k1_pay42 (k1_pay8 b.x8) (qOf b.x10 g)) (drow (oOf b.x11 g) (qOf b.x10 g)) (k1_pay54 (cOf b.x12 g) (k1_pay34 b.x7 (qOf b.x0 g)))) (qOf b.x0 g)
/-- Head `g`'s part of the context values' gradient. -/
abbrev dvcOf (g : Fin 4) : FVec Ideal S256x128 .f32 :=
  ctxPart (truncf .bf16 (k1_pay54 (cOf b.x12 g) (k1_pay34 b.x7 (qOf b.x0 g))) bitsLt_bf16_f32) (qOf b.x10 g)

end Parts

/-- The block of the queries' gradient. -/
theorem dq_at (g : Fin 4) (r d : Fin 128) : b.dq c (ix2 r (lane g d)) = (D.dq h g (pos (c 1) r) d : EReal) := by
  have e : b.dq c = concatenate S128x512 1 [⟨S128x128, dqOf c b 0⟩, ⟨S128x128, dqOf c b 1⟩, ⟨S128x128, dqOf c b 2⟩, ⟨S128x128, dqOf c b 3⟩]
      concatenates_S128x128_S128x128_S128x128_S128x128_S128x512_d1 := by
    unfold Ins.dq Ins.v200 Ins.v199 Ins.v198 Ins.v192 Ins.v186 Ins.v174 Ins.v168 Ins.v162 Ins.v150 Ins.v147 Ins.v144 Ins.v141 Ins.v138 Ins.v135 Ins.v132 Ins.v129
      Ins.v126 Ins.v120 Ins.v114 Ins.v108 Ins.v102 Ins.v101 Ins.v100 Ins.v99 Ins.v98 Ins.v97 Ins.v96 Ins.v95 Ins.v94 Ins.v91 Ins.v88 Ins.v85 Ins.v82 Ins.v77 Ins.v72 Ins.v67
      Ins.v54 Ins.v52 Ins.v50 Ins.v48 Ins.v46 Ins.v45 Ins.v44 Ins.v43 Ins.v42 Ins.v41 Ins.v40 Ins.v39 Ins.v38 Ins.v34 Ins.v14 Ins.v12 Ins.v11 Ins.v6
    rw [View.canon_unit_zero zero2]
    simp only [ld128, ld128', ld256, ld256', ld512]
    rfl
  rw [e]
  exact (cat4_at (fun g => dqOf c b g) _ r g d).trans (dqPart_at (B.head g) r d)

/-- The context keys' gradient after the block: what was there and the block's part. -/
theorem dck_at (y : FVec Ideal S256x128 .f32) (l : Fin 256) (d : Fin 128) :
    b.dck y (ix2 l d) = y (ix2 l d) + ((∑ g, ∑ r, D.dSc h g (pos (c 1) r) l * D.q h g (pos (c 1) r) d : ℝ) : EReal) := by
  have e : b.dck y = addf (shapeCast S256x128 y shapeCasts_S256x128_S256x128)
      (addf (addf (dkcOf b 0) (dkcOf b 1)) (addf (dkcOf b 2) (dkcOf b 3))) := by
    unfold Ins.dck Ins.v198 Ins.v192 Ins.v186 Ins.v180 Ins.v150 Ins.v147 Ins.v144 Ins.v141
      Ins.v126 Ins.v120 Ins.v114 Ins.v108 Ins.v102 Ins.v101 Ins.v100 Ins.v99 Ins.v94 Ins.v91 Ins.v88 Ins.v85
      Ins.v54 Ins.v52 Ins.v50 Ins.v48 Ins.v46 Ins.v45 Ins.v44 Ins.v43 Ins.v42 Ins.v41 Ins.v40 Ins.v39 Ins.v38 Ins.v14 Ins.v12
    rw [View.canon_unit_zero zero2]
    simp only [ld128, ld128', ld256, ld256', ld512]
    rfl
  have h0 := dkcPart_at (B.head 0) l d
  have h1 := dkcPart_at (B.head 1) l d
  have h2 := dkcPart_at (B.head 2) l d
  have h3 := dkcPart_at (B.head 3) l d
  change dkcOf b 0 (ix2 l d) = _ at h0
  change dkcOf b 1 (ix2 l d) = _ at h1
  change dkcOf b 2 (ix2 l d) = _ at h2
  change dkcOf b 3 (ix2 l d) = _ at h3
  rw [e]
  generalize dkcOf b 0 = A0 at h0 ⊢
  generalize dkcOf b 1 = A1 at h1 ⊢
  generalize dkcOf b 2 = A2 at h2 ⊢
  generalize dkcOf b 3 = A3 at h3 ⊢
  pointwise []
  rw [h0, h1, h2, h3, Fin.sum_univ_four]
  simp only [EReal.coe_add, add_assoc]

/-- The context values' gradient after the block. -/
theorem dcv_at (y : FVec Ideal S256x128 .f32) (l : Fin 256) (d : Fin 128) :
    b.dcv y (ix2 l d) = y (ix2 l d)
      + ((∑ g, ∑ r, D.Ec h g (pos (c 1) r) l / D.Z h g (pos (c 1) r) * D.dout h g (pos (c 1) r) d : ℝ) : EReal) := by
  have e : b.dcv y = addf (shapeCast S256x128 y shapeCasts_S256x128_S256x128)
      (addf (addf (dvcOf b 0) (dvcOf b 1)) (addf (dvcOf b 2) (dvcOf b 3))) := by
    unfold Ins.dcv Ins.v150 Ins.v147 Ins.v144 Ins.v141 Ins.v94 Ins.v91 Ins.v88 Ins.v85
      Ins.v54 Ins.v52 Ins.v50 Ins.v48 Ins.v46 Ins.v45 Ins.v44 Ins.v43 Ins.v42 Ins.v41 Ins.v40 Ins.v39 Ins.v12
    rw [View.canon_unit_zero zero2]
    simp only [ld128, ld128', ld256, ld256', ld512]
    rfl
  have h0 := dvcPart_at (B.head 0) l d
  have h1 := dvcPart_at (B.head 1) l d
  have h2 := dvcPart_at (B.head 2) l d
  have h3 := dvcPart_at (B.head 3) l d
  change dvcOf b 0 (ix2 l d) = _ at h0
  change dvcOf b 1 (ix2 l d) = _ at h1
  change dvcOf b 2 (ix2 l d) = _ at h2
  change dvcOf b 3 (ix2 l d) = _ at h3
  rw [e]
  generalize dvcOf b 0 = A0 at h0 ⊢
  generalize dvcOf b 1 = A1 at h1 ⊢
  generalize dvcOf b 2 = A2 at h2 ⊢
  generalize dvcOf b 3 = A3 at h3 ⊢
  pointwise []
  rw [h0, h1, h2, h3, Fin.sum_univ_four]
  simp only [EReal.coe_add, add_assoc]

/-- The sinks' gradient after the block. -/
theorem dsink_at (y : FVec Ideal S4x1x1 .f32) (z : Shape.Idx S4x1x1) :
    b.dsink y z = y z + ((-∑ r, Real.exp (D.sink h (z 0)) / D.Z h (z 0) (pos (c 1) r) * D.dr h (z 0) (pos (c 1) r) : ℝ) : EReal) := by
  have e : b.dsink y = View.canon [⟨rS3, sinkOut (cOf b.x12 3) (skOf b.x9 3) (drow (oOf b.x11 3) (qOf b.x10 3)) (View.ld (Val := Elt Ideal) (e' := .f32) y rS3)⟩,
      ⟨rS2, sinkOut (cOf b.x12 2) (skOf b.x9 2) (drow (oOf b.x11 2) (qOf b.x10 2)) (View.ld (Val := Elt Ideal) (e' := .f32) y rS2)⟩,
      ⟨rS1, sinkOut (cOf b.x12 1) (skOf b.x9 1) (drow (oOf b.x11 1) (qOf b.x10 1)) (View.ld (Val := Elt Ideal) (e' := .f32) y rS1)⟩,
      ⟨rS0, sinkOut (cOf b.x12 0) (skOf b.x9 0) (drow (oOf b.x11 0) (qOf b.x10 0)) (View.ld (Val := Elt Ideal) (e' := .f32) y rS0)⟩] := by
    unfold Ins.dsink Ins.v126 Ins.v120 Ins.v114 Ins.v108 Ins.v62 Ins.v60 Ins.v58 Ins.v56 Ins.v54 Ins.v52 Ins.v50 Ins.v48 Ins.v46 Ins.v45 Ins.v44 Ins.v43 Ins.v38
    simp only [ld512]
    rfl
  have hG : ∀ (g : Fin 4) (q : Rect S4x1x1) (x : q.shape.Idx) (s : FVec Ideal S1x1x1 .f32) (x' : Shape.Idx S1x1x1), (q.emb x 0 : ℕ) = g →
      s x' = y (q.emb x) →
      sinkOut (cOf b.x12 g) (skOf b.x9 g) (drow (oOf b.x11 g) (qOf b.x10 g)) s x'
        = y (q.emb x) + ((-∑ r, Real.exp (D.sink h (q.emb x 0)) / D.Z h (q.emb x 0) (pos (c 1) r) * D.dr h (q.emb x 0) (pos (c 1) r) : ℝ) : EReal) := by
    intro g q x s x' h0 hs
    have h0' : (q.emb x 0 : Fin 4) = g := Fin.ext h0
    rw [h0', ← hs]
    exact (sinkOut_at _ _ _ _ _).trans (congrArg _ (sinkPart_at (B.head g)))
  rw [e]
  refine View.canon_apply_of_pieces (Val := Elt Ideal)
    (fun z : Shape.Idx S4x1x1 => y z + ((-∑ r, Real.exp (D.sink h (z 0)) / D.Z h (z 0) (pos (c 1) r) * D.dr h (z 0) (pos (c 1) r) : ℝ) : EReal)) _ ?_ z
    (Bwd.coverSink _ _ _ _ z)
  intro p hm x
  simp only [List.mem_cons, List.not_mem_nil, or_false] at hm
  rcases hm with rfl | rfl | rfl | rfl
  · exact hG 3 rS3 x _ x (by have : (x 0 : ℕ) < 1 := (x 0).isLt; show 3 + 1 * (x 0 : ℕ) = 3; omega) rfl
  · exact hG 2 rS2 x _ x (by have : (x 0 : ℕ) < 1 := (x 0).isLt; show 2 + 1 * (x 0 : ℕ) = 2; omega) rfl
  · exact hG 1 rS1 x _ x (by have : (x 0 : ℕ) < 1 := (x 0).isLt; show 1 + 1 * (x 0 : ℕ) = 1; omega) rfl
  · exact hG 0 rS0 x _ x (by have : (x 0 : ℕ) < 1 := (x 0).isLt; show 0 + 1 * (x 0 : ℕ) = 0; omega) rfl

/-- The block of the row sums, a row for each head. -/
theorem drow_at (z : Shape.Idx S4x1x128) : b.drow z = (D.dr h (z 0) (pos (c 1) (z 2)) : EReal) := by
  have e : b.drow = View.canon [⟨rR3, rowOf (drow (oOf b.x11 3) (qOf b.x10 3))⟩, ⟨rR2, rowOf (drow (oOf b.x11 2) (qOf b.x10 2))⟩,
      ⟨rR1, rowOf (drow (oOf b.x11 1) (qOf b.x10 1))⟩, ⟨rR0, rowOf (drow (oOf b.x11 0) (qOf b.x10 0))⟩] := by
    unfold Ins.drow Ins.v126 Ins.v120 Ins.v114 Ins.v108 Ins.v46 Ins.v45 Ins.v44 Ins.v43 Ins.v38
    simp only [ld512]
    rfl
  have hG : ∀ (g : Fin 4) (x : Shape.Idx S1x1x128) (z : Shape.Idx S4x1x128), (z 0 : ℕ) = g → (z 2 : ℕ) = x 2 →
      rowOf (drow (oOf b.x11 g) (qOf b.x10 g)) x = (D.dr h (z 0) (pos (c 1) (z 2)) : EReal) := by
    intro g x z h0 h1
    obtain rfl : z 0 = g := Fin.ext h0
    rw [show z 2 = x 2 from Fin.ext h1]
    exact (congrArg _ (piece_row x)).trans (rowOf_at (fun r => dr_at (B.head _) r) _)
  rw [e]
  refine View.canon_apply_of_pieces (Val := Elt Ideal) (fun z : Shape.Idx S4x1x128 => ((D.dr h (z 0) (pos (c 1) (z 2)) : ℝ) : EReal)) _ ?_ z (Bwd.coverRow _ _ _ _ z)
  intro p hm x
  simp only [List.mem_cons, List.not_mem_nil, or_false] at hm
  rcases hm with rfl | rfl | rfl | rfl
  · exact hG 3 x _ (by have : (x 0 : ℕ) < 1 := (x 0).isLt; show 3 + 1 * (x 0 : ℕ) = 3; omega) (by show 0 + 1 * (x 2 : ℕ) = x 2; omega)
  · exact hG 2 x _ (by have : (x 0 : ℕ) < 1 := (x 0).isLt; show 2 + 1 * (x 0 : ℕ) = 2; omega) (by show 0 + 1 * (x 2 : ℕ) = x 2; omega)
  · exact hG 1 x _ (by have : (x 0 : ℕ) < 1 := (x 0).isLt; show 1 + 1 * (x 0 : ℕ) = 1; omega) (by show 0 + 1 * (x 2 : ℕ) = x 2; omega)
  · exact hG 0 x _ (by have : (x 0 : ℕ) < 1 := (x 0).isLt; show 0 + 1 * (x 0 : ℕ) = 0; omega) (by show 0 + 1 * (x 2 : ℕ) = x 2; omega)

end Block

end Cert.KernelIdeal.Attn

end
-- ==== Proof.BwdArr.lean ====
/-
  The arrays that the second call leaves: the gradients of the queries, of the context's keys and values and of the sinks,
  and the row sums. The gradients of the context and of the sinks are added up over the blocks of queries.
-/
module

public import proofs.«01_k».proof.Proof.BwdBlock
public import proofs.«01_k».proof.Proof.BwdRegion
public import proofs.«01_k».proof.Proof.FwdArr

@[expose] public section

set_option maxRecDepth 16384

noncomputable section

namespace Cert.KernelIdeal.Attn

open Idealize.ShloMosaic Idealize.ShloMosaic.TcCoe Idealize.SL.Sem Idealize.ShloMosaic.Pipeline
open Cert.KernelIdeal Cert.KernelIdeal.Gen Cert.Attn
open Cert.KernelIdeal.Bwd (Ins iblk1 ins sums sums_A sums_B dat1 after1_13 after1_14 after1_15 after1_16 after1_17)

/-- Where each window's block lies at a point. -/
theorem idx1 : ∀ t : Fin cfg1.N,
    win1_0.index t = ![(grid1.coords t 1).val, (grid1.coords t 0).val]
    ∧ win1_1.index t = ![(grid1.coords t 1).val - 1, (grid1.coords t 0).val]
    ∧ win1_2.index t = ![(grid1.coords t 1).val, (grid1.coords t 0).val]
    ∧ win1_3.index t = ![min ((grid1.coords t 1).val + 1) 63, (grid1.coords t 0).val]
    ∧ win1_4.index t = ![(grid1.coords t 1).val - 1, 4 + (grid1.coords t 0).val]
    ∧ win1_5.index t = ![(grid1.coords t 1).val, 4 + (grid1.coords t 0).val]
    ∧ win1_6.index t = ![min ((grid1.coords t 1).val + 1) 63, 4 + (grid1.coords t 0).val]
    ∧ win1_7.index t = ![0, (grid1.coords t 0).val]
    ∧ win1_8.index t = ![0, 4 + (grid1.coords t 0).val]
    ∧ win1_9.index t = ![(grid1.coords t 0).val, 0, 0]
    ∧ win1_10.index t = ![(grid1.coords t 1).val, (grid1.coords t 0).val]
    ∧ win1_11.index t = ![(grid1.coords t 1).val, (grid1.coords t 0).val]
    ∧ win1_12.index t = ![(grid1.coords t 0).val, (grid1.coords t 1).val, 0]
    ∧ win1_13.index t = ![(grid1.coords t 1).val, (grid1.coords t 0).val]
    ∧ win1_14.index t = ![0, (grid1.coords t 0).val]
    ∧ win1_15.index t = ![0, (grid1.coords t 0).val]
    ∧ win1_16.index t = ![(grid1.coords t 0).val, 0, 0]
    ∧ win1_17.index t = ![(grid1.coords t 0).val, 0, (grid1.coords t 1).val] :=
  (by decide +kernel : ∀ t : Fin grid1.N, _)

/-- The point of head `h` and block `i`. -/
abbrev pt (h : Fin 4) (k : ℕ) (hk : k < 64) : Fin cfg1.N := ⟨h * 64 + k, Nat.lt_of_lt_of_eq (by omega : (h : ℕ) * 64 + k < 256) N_1.symm⟩

theorem pt_coords (h : Fin 4) (k : ℕ) (hk : k < 64) : grid1.coords (pt h k hk) 0 = h ∧ grid1.coords (pt h k hk) 1 = (⟨k, hk⟩ : Fin 64) := by
  have e0 : (grid1.coords (pt h k hk) 0).val = (pt h k hk).val / 64 % 4 := Pipeline.Grid.coords_val _ 0 (by decide) rfl
  have e1 : (grid1.coords (pt h k hk) 1).val = (pt h k hk).val / 1 % 64 := Pipeline.Grid.coords_val _ 1 (by decide) rfl
  constructor
  · apply Fin.ext
    rw [e0]
    show ((h : ℕ) * 64 + k) / 64 % 4 = h
    omega
  · apply Fin.ext
    rw [e1]
    show ((h : ℕ) * 64 + k) / 1 % 64 = k
    omega

/-- A quantity set at the first of a head's 64 points and added to at the others is the sum over the head's points. -/
theorem run_sum (f : (n : ℕ) → n < cfg1.N → EReal) (p : Fin 4 → Fin 64 → ℝ)
    (hA : ∀ t : Fin cfg1.N, t.val % 64 = 0 → f t.val t.isLt = ((p (grid1.coords t 0) (grid1.coords t 1) : ℝ) : EReal))
    (hB : ∀ t : Fin cfg1.N, ¬t.val % 64 = 0 →
      f t.val t.isLt = f (t.val - 1) (Nat.lt_of_le_of_lt (Nat.sub_le _ _) t.isLt) + ((p (grid1.coords t 0) (grid1.coords t 1) : ℝ) : EReal))
    (t : Fin cfg1.N) (ht : t.val % 64 = 63) : f t.val t.isLt = ((∑ i, p (grid1.coords t 0) i : ℝ) : EReal) := by
  have aux : ∀ (h : Fin 4) (k : ℕ) (hk : k < 64), f (pt h k hk).val (pt h k hk).isLt
      = ((∑ i ∈ Finset.range (k + 1), (if hi : i < 64 then p h ⟨i, hi⟩ else 0) : ℝ) : EReal) := by
    intro h k
    induction k with
    | zero =>
      intro hk
      rw [hA (pt h 0 hk) (by show ((h : ℕ) * 64 + 0) % 64 = 0; omega), (pt_coords h 0 hk).1, (pt_coords h 0 hk).2]
      simp
    | succ k ih =>
      intro hk
      have e := ih (by omega)
      rw [hB (pt h (k + 1) hk) (by show ¬((h : ℕ) * 64 + (k + 1)) % 64 = 0; omega), (pt_coords h (k + 1) hk).1, (pt_coords h (k + 1) hk).2,
        Finset.sum_range_succ _ (k + 1), EReal.coe_add, dif_pos hk]
      exact congrArg (· + _) e
  have hN : t.val < 256 := Nat.lt_of_lt_of_eq t.isLt N_1
  obtain ⟨h, rfl⟩ : ∃ h : Fin 4, t = pt h 63 (Nat.lt_succ_self 63) := ⟨⟨t.val / 64, by omega⟩, Fin.ext (by show t.val = t.val / 64 * 64 + 63; omega)⟩
  rw [aux h 63 (Nat.lt_succ_self 63), (pt_coords h 63 (Nat.lt_succ_self 63)).1, Finset.sum_range]
  refine congrArg _ (Finset.sum_congr rfl fun i _ => ?_)
  exact dif_pos i.isLt

/-- A sum over all positions, block by block. -/
theorem sum_pos {M : Type*} [AddCommMonoid M] (F : Fin 8192 → M) : ∑ t, F t = ∑ i, ∑ r, F (pos i r) := by
  refine (Equiv.sum_comp (finProdFinEquiv (m := 64) (n := 128)) F).symm.trans ?_
  rw [Fintype.sum_prod_type]
  refine Finset.sum_congr rfl fun i _ => Finset.sum_congr rfl fun r _ => congrArg F (Fin.ext ?_)
  show (r : ℕ) + 128 * i = i * 128 + r
  omega

theorem zero_word : Ideal.ofBits .f32 0x00000000#32 = 0 := by simp [Ideal.ofBits, Ideal.ieee]

variable {D : Data} (V : Bufs) (c : Dev nD) (R : ReadsV D V c)
  (ho : V c main_v0_0 = qArr D.O) (hl : V c main_v0_1 = lArr fun h g t => Real.log (D.Z h g t))
include R ho hl

set_option maxHeartbeats 4000000 in
/-- The blocks of every point hold the reals of `D`. -/
theorem blocks1 (t : Fin cfg1.N) : BBlocks D (grid1.coords t 0) (grid1.coords t 1) (ins V c t) where
  fwd := {
    x0 := fun g r d => by
      refine Eq.trans ?_ (R.q (grid1.coords t 0) g (pos (grid1.coords t 1) r) d)
      show (iblk1 V c 0 t : FVec Ideal S128x512 .bf16) _ = _
      blk_ext [iblk1, idx1 t, pos]
    x1 := fun r d => by
      refine Eq.trans ?_ (R.k (grid1.coords t 0) (pos (prev (grid1.coords t 1)) r) d)
      show (iblk1 V c 1 t : FVec Ideal S128x128 .bf16) _ = _
      blk_ext [iblk1, idx1 t, pos, prev]
    x2 := fun r d => by
      refine Eq.trans ?_ (R.k (grid1.coords t 0) (pos (grid1.coords t 1) r) d)
      show (iblk1 V c 2 t : FVec Ideal S128x128 .bf16) _ = _
      blk_ext [iblk1, idx1 t, pos]
    x3 := fun r d => by
      refine Eq.trans ?_ (R.k (grid1.coords t 0) (pos (next (grid1.coords t 1)) r) d)
      show (iblk1 V c 3 t : FVec Ideal S128x128 .bf16) _ = _
      blk_ext [iblk1, idx1 t, pos, next]
    x4 := fun r d => by
      refine Eq.trans ?_ (R.v (grid1.coords t 0) (pos (prev (grid1.coords t 1)) r) d)
      show (iblk1 V c 4 t : FVec Ideal S128x128 .f32) _ = _
      blk_ext [iblk1, idx1 t, pos, prev]
    x5 := fun r d => by
      refine Eq.trans ?_ (R.v (grid1.coords t 0) (pos (grid1.coords t 1) r) d)
      show (iblk1 V c 5 t : FVec Ideal S128x128 .f32) _ = _
      blk_ext [iblk1, idx1 t, pos]
    x6 := fun r d => by
      refine Eq.trans ?_ (R.v (grid1.coords t 0) (pos (next (grid1.coords t 1)) r) d)
      show (iblk1 V c 6 t : FVec Ideal S128x128 .f32) _ = _
      blk_ext [iblk1, idx1 t, pos, next]
    x7 := fun l d => by
      refine Eq.trans ?_ (R.kc (grid1.coords t 0) l d)
      show (iblk1 V c 7 t : FVec Ideal S256x128 .bf16) _ = _
      blk_ext [iblk1, idx1 t]
    x8 := fun l d => by
      refine Eq.trans ?_ (R.vc (grid1.coords t 0) l d)
      show (iblk1 V c 8 t : FVec Ideal S256x128 .f32) _ = _
      blk_ext [iblk1, idx1 t]
    x9 := fun g => by
      refine Eq.trans ?_ (R.sink (grid1.coords t 0) g)
      show (iblk1 V c 9 t : FVec Ideal S4x1x1 .f32) _ = _
      blk_ext [iblk1, idx1 t] }
  x10 g r d := by
    refine Eq.trans ?_ (R.dout (grid1.coords t 0) g (pos (grid1.coords t 1) r) d)
    show (iblk1 V c 10 t : FVec Ideal S128x512 .bf16) _ = _
    blk_ext [iblk1, idx1 t, pos]
  x11 g r d := by
    refine Eq.trans ?_ ((congrFun ho (ix2 (pos (grid1.coords t 1) r) (qcol (grid1.coords t 0) g d))).trans
      (qArr_at D.O (grid1.coords t 0) g (pos (grid1.coords t 1) r) d _ rfl rfl))
    show (iblk1 V c 11 t : FVec Ideal S128x512 .bf16) _ = _
    blk_ext [iblk1, idx1 t, pos]
  x12 g r := by
    refine Eq.trans ?_ ((congrFun hl (ix3 (qhead (grid1.coords t 0) g) (pos (grid1.coords t 1) r) 0)).trans
      (lArr_at (fun h g t => Real.log (D.Z h g t)) (grid1.coords t 0) g (pos (grid1.coords t 1) r) _ rfl rfl))
    show (iblk1 V c 12 t : FVec Ideal S4x128x1 .f32) _ = _
    blk_ext [iblk1, idx1 t, pos]

/-- The queries' gradient. -/
theorem arr1_13 : (dat1 V c).arrAt 13 cfg1.N = qArr D.dq := by
  refine (dat1 V c).arrAt_eq_of_covers 13 (qArr D.dq) (by decide +kernel) fun t hf y => ?_
  blk_simp
  rw [after1_13]
  have hy : (y 1 : ℕ) < 512 := (y 1).isLt
  refine ((congrArg _ (lane_idx y)).trans (dq_at (blocks1 V c R ho hl t) ⟨(y 1 : ℕ) / 128, by omega⟩ (y 0) ⟨(y 1 : ℕ) % 128, by omega⟩)).trans
    (qArr_at D.dq _ _ _ _ _ ?_ ?_).symm
  · blk_simp [idx1 t]; rfl
  · blk_simp [idx1 t]
    show (grid1.coords t 0 : ℕ) * 512 + (y 1 : ℕ) = (grid1.coords t 0 : ℕ) * 512 + (y 1 : ℕ) / 128 * 128 + (y 1 : ℕ) % 128
    omega

/-- The row sums, as rows. -/
theorem arr1_17 : (dat1 V c).arrAt 17 cfg1.N = rArr D.dr := by
  refine (dat1 V c).arrAt_eq_of_covers 17 (rArr D.dr) (by decide +kernel) fun t hf y => ?_
  blk_simp
  rw [after1_17]
  refine (drow_at (blocks1 V c R ho hl t) y).trans (rArr_at D.dr (grid1.coords t 0) (y 0) (pos (grid1.coords t 1) (y 2)) _ ?_ ?_).symm
  · blk_simp [idx1 t]
  · blk_simp [idx1 t]; rfl

/-- The context keys' gradient after a head's last point. -/
theorem sum_dck (t : Fin cfg1.N) (ht : t.val % 64 = 63) (l : Fin 256) (d : Fin 128) :
    (sums V c t.val t.isLt).1 (ix2 l d) = (D.dkc (grid1.coords t 0) l d : EReal) := by
  refine (run_sum (fun n hn => (sums V c n hn).1 (ix2 l d))
    (fun h i => ∑ g, ∑ r, D.dSc h g (pos i r) l * D.q h g (pos i r) d) ?_ ?_ t ht).trans ?_
  · intro t h0
    show (sums V c t.val t.isLt).1 (ix2 l d) = _
    rw [sums_A V c t h0]
    refine (dck_at (blocks1 V c R ho hl t) (Bwd.zero2 (F := Ideal)) l d).trans ?_
    rw [show (Bwd.zero2 (F := Ideal)) (ix2 l d) = 0 from zero_word, zero_add]
  · intro t h0
    show (sums V c t.val t.isLt).1 (ix2 l d) = _
    rw [sums_B V c t h0]
    exact dck_at (blocks1 V c R ho hl t) _ l d
  · refine congrArg _ ?_
    exact Finset.sum_comm.trans <| Finset.sum_congr rfl fun g _ => (sum_pos fun t' => D.dSc (grid1.coords t 0) g t' l * D.q (grid1.coords t 0) g t' d).symm

/-- The context values' gradient after a head's last point. -/
theorem sum_dcv (t : Fin cfg1.N) (ht : t.val % 64 = 63) (l : Fin 256) (d : Fin 128) :
    (sums V c t.val t.isLt).2.1 (ix2 l d) = (D.dvc (grid1.coords t 0) l d : EReal) := by
  refine (run_sum (fun n hn => (sums V c n hn).2.1 (ix2 l d))
    (fun h i => ∑ g, ∑ r, D.Ec h g (pos i r) l / D.Z h g (pos i r) * D.dout h g (pos i r) d) ?_ ?_ t ht).trans ?_
  · intro t h0
    show (sums V c t.val t.isLt).2.1 (ix2 l d) = _
    rw [sums_A V c t h0]
    refine (dcv_at (blocks1 V c R ho hl t) (Bwd.zero2 (F := Ideal)) l d).trans ?_
    rw [show (Bwd.zero2 (F := Ideal)) (ix2 l d) = 0 from zero_word, zero_add]
  · intro t h0
    show (sums V c t.val t.isLt).2.1 (ix2 l d) = _
    rw [sums_B V c t h0]
    exact dcv_at (blocks1 V c R ho hl t) _ l d
  · refine congrArg _ ?_
    exact Finset.sum_comm.trans <| Finset.sum_congr rfl fun g _ => (sum_pos fun t' => D.Ec (grid1.coords t 0) g t' l / D.Z (grid1.coords t 0) g t' * D.dout (grid1.coords t 0) g t' d).symm

/-- The sinks' gradient after a head's last point. -/
theorem sum_dsink (t : Fin cfg1.N) (ht : t.val % 64 = 63) (z : Shape.Idx S4x1x1) :
    (sums V c t.val t.isLt).2.2 z = (D.dsink (grid1.coords t 0) (z 0) : EReal) := by
  refine (run_sum (fun n hn => (sums V c n hn).2.2 z)
    (fun h i => -∑ r, Real.exp (D.sink h (z 0)) / D.Z h (z 0) (pos i r) * D.dr h (z 0) (pos i r)) ?_ ?_ t ht).trans ?_
  · intro t h0
    show (sums V c t.val t.isLt).2.2 z = _
    rw [sums_A V c t h0]
    refine (dsink_at (blocks1 V c R ho hl t) (Bwd.zero3 (F := Ideal)) z).trans ?_
    rw [show (Bwd.zero3 (F := Ideal)) z = 0 from zero_word, zero_add]
  · intro t h0
    show (sums V c t.val t.isLt).2.2 z = _
    rw [sums_B V c t h0]
    exact dsink_at (blocks1 V c R ho hl t) _ z
  · refine congrArg _ ?_
    refine Eq.trans ?_ (congrArg Neg.neg (sum_pos fun t' => Real.exp (D.sink (grid1.coords t 0) (z 0)) / D.Z (grid1.coords t 0) (z 0) t' * D.dr (grid1.coords t 0) (z 0) t').symm)
    exact Finset.sum_neg_distrib _

/-- The context keys' gradient. -/
theorem arr1_14 : (dat1 V c).arrAt 14 cfg1.N = cArr D.dkc := by
  refine (dat1 V c).arrAt_eq_of_covers 14 (cArr D.dkc) (by decide +kernel) fun t hf y => ?_
  blk_simp
  rw [after1_14]
  refine ((congrArg _ (eq_ix2 y)).trans (sum_dck V c R ho hl t ((flush1_14 t).mp hf) (y 0) (y 1))).trans
    (cArr_at D.dkc (grid1.coords t 0) (y 0) (y 1) _ ?_ ?_).symm
  · blk_simp [idx1 t]
  · blk_simp [idx1 t]

/-- The context values' gradient. -/
theorem arr1_15 : (dat1 V c).arrAt 15 cfg1.N = cArr D.dvc := by
  refine (dat1 V c).arrAt_eq_of_covers 15 (cArr D.dvc) (by decide +kernel) fun t hf y => ?_
  blk_simp
  rw [after1_15]
  refine ((congrArg _ (eq_ix2 y)).trans (sum_dcv V c R ho hl t ((flush1_15 t).mp hf) (y 0) (y 1))).trans
    (cArr_at D.dvc (grid1.coords t 0) (y 0) (y 1) _ ?_ ?_).symm
  · blk_simp [idx1 t]
  · blk_simp [idx1 t]

/-- The sinks' gradient. -/
theorem arr1_16 : (dat1 V c).arrAt 16 cfg1.N = sArr D.dsink := by
  refine (dat1 V c).arrAt_eq_of_covers 16 (sArr D.dsink) (by decide +kernel) fun t hf y => ?_
  blk_simp
  rw [after1_16]
  refine (sum_dsink V c R ho hl t ((flush1_16 t).mp hf) y).trans (sArr_at D.dsink (grid1.coords t 0) (y 0) _ ?_).symm
  blk_simp [idx1 t]

end Cert.KernelIdeal.Attn

end
-- ==== Proof.KvBlock.lean ====
/-
  What the last kernel's body leaves of one key/value head and one block of keys: the gradients of the keys and of the
  values, as the real numbers of `Spec.lean`. The queries of the window's three blocks and of the four heads of the group
  stand in one column of 1536.
-/
module

public import proofs.«01_k».proof.Proof.FwdBlock
public import proofs.«01_k».proof.Proof.Gen.KernelIdeal.Frame.Region2

@[expose] public section

set_option maxRecDepth 16384

noncomputable section

namespace Cert.KernelIdeal.Attn

open Idealize.ShloMosaic Idealize.ShloMosaic.TcCoe Idealize.SL.Sem Idealize.ShloMosaic.Pipeline
open Cert.KernelIdeal Cert.KernelIdeal.Gen Cert.Attn

/-- Row `r` of the window's block `b`. -/
abbrev wof (b : Fin 3) (r : Fin 128) : Fin 384 := ⟨b * 128 + r, by omega⟩
/-- The place of row `r` of block `b` of head `g` in the column. -/
abbrev col (b : Fin 3) (g : Fin 4) (r : Fin 128) : Fin 1536 := ⟨b * 512 + g * 128 + r, by omega⟩
/-- The number of the piece that holds block `b` of head `g`. -/
abbrev pce (b : Fin 3) (g : Fin 4) : Fin 12 := ⟨b * 4 + g, by omega⟩

/-- The three blocks of a window. -/
def blk3 (i : Fin 64) : Fin 3 → Fin 64 := ![prev i, i, next i]

theorem wrow_wof (i : Fin 64) (b : Fin 3) (r : Fin 128) : wrow i (wof b r) = pos (blk3 i b) r := by
  apply Fin.ext
  fin_cases b
  · show (wrow i ⟨0 * 128 + r, _⟩ : ℕ) = (pos (prev i) r : ℕ)
    unfold wrow pos prev; rw [dif_pos (by show 0 * 128 + (r : ℕ) < 128; omega)]; simp
  · show (wrow i ⟨1 * 128 + r, _⟩ : ℕ) = (pos i r : ℕ)
    unfold wrow pos; rw [dif_neg (by show ¬ 1 * 128 + (r : ℕ) < 128; omega), dif_pos (by show 1 * 128 + (r : ℕ) < 256; omega)]; simp
  · show (wrow i ⟨2 * 128 + r, _⟩ : ℕ) = (pos (next i) r : ℕ)
    unfold wrow pos next; rw [dif_neg (by show ¬ 2 * 128 + (r : ℕ) < 128; omega), dif_neg (by show ¬ 2 * 128 + (r : ℕ) < 256; omega)]; simp

/-- A sum over the column, head by head and block by block. -/
theorem sum_col {M : Type*} [AddCommMonoid M] (F : Fin 1536 → M) : ∑ c, F c = ∑ g, ∑ b, ∑ r, F (col b g r) := by
  refine (Equiv.sum_comp (finProdFinEquiv (m := 3) (n := 512)) F).symm.trans ?_
  rw [Fintype.sum_prod_type]
  refine Eq.trans ?_ Finset.sum_comm
  refine Finset.sum_congr rfl fun b _ => ?_
  refine (Equiv.sum_comp (finProdFinEquiv (m := 4) (n := 128)) fun e => F (finProdFinEquiv (m := 3) (n := 512) (b, e))).symm.trans ?_
  rw [Fintype.sum_prod_type]
  refine Finset.sum_congr rfl fun g _ => Finset.sum_congr rfl fun r _ => congrArg F (Fin.ext ?_)
  show (r : ℕ) + 128 * g + 512 * b = b * 512 + g * 128 + r
  omega

/-- A sum over the window's rows, block by block. -/
theorem sum_wof {M : Type*} [AddCommMonoid M] (F : Fin 384 → M) : ∑ w, F w = ∑ b, ∑ r, F (wof b r) := by
  refine (Equiv.sum_comp (finProdFinEquiv (m := 3) (n := 128)) F).symm.trans ?_
  rw [Fintype.sum_prod_type]
  refine Finset.sum_congr rfl fun b _ => Finset.sum_congr rfl fun r _ => congrArg F (Fin.ext ?_)
  show (r : ℕ) + 128 * b = b * 128 + r
  omega

/-- Twelve pieces end to end, read in one of them. -/
theorem stack_at {φ : FTy} (f : Fin 12 → FVec Ideal S128x128 φ) (hw : Shape.Concatenates _ S1536x128 0) (b : Fin 3) (g : Fin 4) (r d : Fin 128) :
    concatenate S1536x128 0 (List.ofFn fun n : Fin 12 => (⟨S128x128, f n⟩ : (s : Shape) × FVec Ideal s φ)) hw (ix2 (col b g r) d) = f (pce b g) (ix2 r d) := by
  have hb := b.isLt
  have hg := g.isLt
  refine concatenate_ofFn_apply 0 f hw rfl 128 rfl _ (pce b g) ?_ (ix2 r d) ?_ ?_
  · show ((b : ℕ) * 512 + g * 128 + r) / 128 = b * 4 + g; omega
  · show (r : ℕ) = ((b : ℕ) * 512 + g * 128 + r) % 128; omega
  · intro a ha
    match a with
    | 0 => exact absurd rfl ha
    | 1 => rfl

/-- Twelve blocks side by side, read in one of them. -/
theorem wide_at {φ : FTy} (f : Fin 12 → FVec Ideal S128x128 φ) (hw : Shape.Concatenates _ S128x1536 1) (b : Fin 3) (g : Fin 4) (r r' : Fin 128) :
    concatenate S128x1536 1 (List.ofFn fun n : Fin 12 => (⟨S128x128, f n⟩ : (s : Shape) × FVec Ideal s φ)) hw (ix2 r (col b g r')) = f (pce b g) (ix2 r r') := by
  have hb := b.isLt
  have hg := g.isLt
  refine concatenate_ofFn_apply 1 f hw rfl 128 rfl _ (pce b g) ?_ (ix2 r r') ?_ ?_
  · show ((b : ℕ) * 512 + g * 128 + r') / 128 = b * 4 + g; omega
  · show (r' : ℕ) = ((b : ℕ) * 512 + g * 128 + r') % 128; omega
  · intro a ha
    match a with
    | 0 => rfl
    | 1 => exact absurd rfl ha

/-- Twelve rows side by side, read in one of them. -/
theorem rows_at (f : Fin 12 → FVec Ideal S1x128 .f32) (hw : Shape.Concatenates _ S1x1536 1) (b : Fin 3) (g : Fin 4) (r : Fin 128) :
    concatenate S1x1536 1 (List.ofFn fun n : Fin 12 => (⟨S1x128, f n⟩ : (s : Shape) × FVec Ideal s .f32)) hw (ix2 0 (col b g r)) = f (pce b g) (ix2 0 r) := by
  have hb := b.isLt
  have hg := g.isLt
  refine concatenate_ofFn_apply 1 f hw rfl 128 rfl _ (pce b g) ?_ (ix2 0 r) ?_ ?_
  · show ((b : ℕ) * 512 + g * 128 + r) / 128 = b * 4 + g; omega
  · show (r : ℕ) = ((b : ℕ) * 512 + g * 128 + r) % 128; omega
  · intro a ha
    match a with
    | 0 => rfl
    | 1 => exact absurd rfl ha

/-- Twelve things, four of each of three. -/
def of12 {α : Type} (f : Fin 3 → Fin 4 → α) : Fin 12 → α :=
  ![f 0 0, f 0 1, f 0 2, f 0 3, f 1 0, f 1 1, f 1 2, f 1 3, f 2 0, f 2 1, f 2 2, f 2 3]

theorem of12_pce {α : Type} (f : Fin 3 → Fin 4 → α) (b : Fin 3) (g : Fin 4) : of12 f (pce b g) = f b g := by
  fin_cases b <;> fin_cases g <;> rfl

/-- A row of a block that has one for each head. -/
def rOf (x : FVec Ideal S4x1x128 .f32) : Fin 4 → FVec Ideal S1x128 .f32 :=
  ![k2_pay14 (View.ld x r2_2), k2_pay14 (View.ld x r2_3), k2_pay14 (View.ld x r2_4), k2_pay14 (View.ld x r2_5)]

theorem rOf_at (x : FVec Ideal S4x1x128 .f32) (g : Fin 4) (r : Fin 128) : rOf x g (ix2 0 r) = x (ix3 g 0 r) := by
  fin_cases g
  · show k2_pay14 (F := Ideal) (View.ld (Val := Elt Ideal) x r2_2) (ix2 0 r) = _
    pointwise [k2_pay14]
  · show k2_pay14 (F := Ideal) (View.ld (Val := Elt Ideal) x r2_3) (ix2 0 r) = _
    pointwise [k2_pay14]
  · show k2_pay14 (F := Ideal) (View.ld (Val := Elt Ideal) x r2_4) (ix2 0 r) = _
    pointwise [k2_pay14]
  · show k2_pay14 (F := Ideal) (View.ld (Val := Elt Ideal) x r2_5) (ix2 0 r) = _
    pointwise [k2_pay14]

/-- The bias of the block after the keys'. -/
def bias2 (c : grid2.Coords) : FVec Ideal S128x128 .f32 :=
  select (andi (andi (cmpi .sle (absi (subi (subi (iota .tc S128x128 32 [0] iota_S128x128_d0_w32) (iota .tc S128x128 32 [1] iota_S128x128_d1_w32))
      (broadcast S128x128 128#32))) (broadcast S128x128 128#32))
      (broadcast S128x128 (Scalar.cmpi .sge (Scalar.subi (Scalar.addi (BitVec.ofNat 32 (c 1).val) 2#32) 1#32) 0#32)))
      (broadcast S128x128 (Scalar.cmpi .slt (Scalar.subi (Scalar.addi (BitVec.ofNat 32 (c 1).val) 2#32) 1#32) 64#32)))
    (broadcast S128x128 (Scalar.ofBits (F := Ideal) .f32 0x00000000#32)) (broadcast S128x128 (Named.named (F := Ideal) κ "mask" 0xF149F2CA#32))

/-- The bias of each block of the window: zero where the mask is on, minus infinity where it is off. -/
def biasOf (c : grid2.Coords) : Fin 3 → FVec Ideal S128x128 .f32 :=
  ![k2_pay5 c, select (k2_pay6 c) (k2_pay7 (F := Ideal)) (k2_pay8 (F := Ideal)), bias2 c]

theorem biasOf_at (c : grid2.Coords) (b : Fin 3) (r r' : Fin 128) :
    biasOf c b (ix2 r r') = if Val (c 1) r (wof b r') then ((0 : ℝ) : EReal) else ⊥ := by
  have h : (c 1 : ℕ) < 64 := (c 1).isLt
  fin_cases b
  · show k2_pay5 (F := Ideal) c (ix2 r r') = if Val (c 1) r (wof 0 r') then ((0 : ℝ) : EReal) else ⊥
    pointwise [k2_pay5]
    rw [near_before, blk_ge (c 1) 0 h (by omega), blk_lt (c 1) 0 h (by omega), andi_bit, andi_bit, select_bit]
    exact if_congr (by unfold Val; simp only [wof, true_and]; omega) EReal.coe_zero.symm rfl
  · show select (k2_pay6 c) (k2_pay7 (F := Ideal)) (k2_pay8 (F := Ideal)) (ix2 r r') = if Val (c 1) r (wof 1 r') then ((0 : ℝ) : EReal) else ⊥
    pointwise [k2_pay6, k2_pay7, k2_pay8]
    rw [near_same, blk_ge (c 1) 1 h (by omega), blk_lt (c 1) 1 h (by omega), andi_bit, andi_bit, select_bit]
    exact if_congr (by unfold Val; simp only [wof, true_and]; omega) EReal.coe_zero.symm rfl
  · show bias2 c (ix2 r r') = if Val (c 1) r (wof 2 r') then ((0 : ℝ) : EReal) else ⊥
    pointwise [bias2]
    rw [near_after, blk_ge (c 1) 2 h (by omega), blk_lt (c 1) 2 h (by omega), andi_bit, andi_bit, select_bit]
    exact if_congr (by unfold Val; simp only [wof, true_and]; omega) EReal.coe_zero.symm rfl

/-- The keys' gradient, from the weights. -/
def dkPart (v : FVec Ideal S128x128 .bf16) (q dy : FVec Ideal S1536x128 .bf16) (dr : FVec Ideal S1x1536 .f32) (p : FVec Ideal S128x1536 .f32) : FVec Ideal S128x128 .bf16 :=
  truncf .bf16 (matmul dot_S128x1536_S1536x128_S128x128_1_0_0_1_n_n none
    (truncf .bf16 (mulf (mulf p (subf (matmul dot_S128x128_S1536x128_S128x1536_1_1_0_0_n_n none v dy (constant S128x1536 .f32 0x00000000#32))
      (broadcastTo S128x1536 dr broadcasts_S1x1536_S128x1536))) (broadcast S128x1536 (Scalar.ofBits .f32 0x3DB504F3#32))) bitsLt_bf16_f32)
    q (constant S128x128 .f32 0x00000000#32)) bitsLt_bf16_f32

/-- The arrays of one block of keys hold the reals of `D`. -/
structure KvIn (D : Data) (h : Fin 4) (i : Fin 64) (k v : FVec Ideal S128x128 .bf16) (bias : FVec Ideal S128x1536 .f32)
    (q dy : FVec Ideal S1536x128 .bf16) (lg dr : FVec Ideal S1x1536 .f32) : Prop where
  k : ∀ r d, k (ix2 r d) = (D.k h (pos i r) d : EReal)
  v : ∀ r d, v (ix2 r d) = (D.v h (pos i r) d : EReal)
  bias : ∀ r b g r', bias (ix2 r (col b g r')) = if Val i r (wof b r') then ((0 : ℝ) : EReal) else ⊥
  q : ∀ b g r d, q (ix2 (col b g r) d) = (D.q h g (wrow i (wof b r)) d : EReal)
  dy : ∀ b g r d, dy (ix2 (col b g r) d) = (D.dout h g (wrow i (wof b r)) d : EReal)
  lg : ∀ b g r, lg (ix2 0 (col b g r)) = (Real.log (D.Z h g (wrow i (wof b r))) : EReal)
  dr : ∀ b g r, dr (ix2 0 (col b g r)) = (D.dr h g (wrow i (wof b r)) : EReal)

section Kv

variable {D : Data} {h : Fin 4} {i : Fin 64} {k v : FVec Ideal S128x128 .bf16} {bias : FVec Ideal S128x1536 .f32}
    {q dy : FVec Ideal S1536x128 .bf16} {lg dr : FVec Ideal S1x1536 .f32} (H : KvIn D h i k v bias q dy lg dr)
include H

/-- A key's weights in the rows of the queries that see it. -/
theorem kvP_at (r : Fin 128) (b : Fin 3) (g : Fin 4) (r' : Fin 128) :
    k2_pay1 k bias q lg (ix2 r (col b g r'))
      = ((if Val i r (wof b r') then Real.exp (D.s h g (wrow i (wof b r')) (pos i r)) / D.Z h g (wrow i (wof b r')) else 0 : ℝ) : EReal) := by
  have e : k2_pay1 k bias q lg (ix2 r (col b g r')) = Ideal.exp ((∑ d, k (ix2 r d) * q (ix2 (col b g r') d)) * Ideal.ofBits .f32 0x3DB504F3#32
      + bias (ix2 r (col b g r')) - lg (ix2 0 (col b g r'))) := by
    pointwise [k2_pay1]
  rw [e, H.bias, H.lg, ofBits_scale]
  simp only [H.k, H.q, ← EReal.coe_mul, coe_sum]
  have hs : (∑ d, D.k h (pos i r) d * D.q h g (wrow i (wof b r')) d) * scale = D.s h g (wrow i (wof b r')) (pos i r) := by
    simp only [Data.s, mul_comm (D.k _ _ _)]
  rw [hs]
  split_ifs
  · rw [← EReal.coe_add, add_zero, ← EReal.coe_sub, Ideal.exp_coe, Real.exp_sub, Real.exp_log (D.Z_pos h g _)]
  · rw [EReal.add_bot, EReal.bot_sub, Ideal.exp_bot, EReal.coe_zero]

/-- A sum over the column of the rows that see a key is the sum over all queries. -/
theorem sum_kv (r : Fin 128) (f : Fin 4 → Fin 8192 → ℝ) :
    ∑ g : Fin 4, ∑ b, ∑ r', (if Val i r (wof b r') then Real.exp (D.s h g (wrow i (wof b r')) (pos i r)) / D.Z h g (wrow i (wof b r')) else 0) * f g (wrow i (wof b r'))
      = ∑ g, ∑ t, D.E h g t (pos i r) / D.Z h g t * f g t := by
  refine Finset.sum_congr rfl fun g _ => ?_
  rw [← sum_wof fun w => (if Val i r w then Real.exp (D.s h g (wrow i w) (pos i r)) / D.Z h g (wrow i w) else 0) * f g (wrow i w)]
  have e := sum_window i r fun t => Real.exp (D.s h g t (pos i r)) / D.Z h g t * f g t
  refine Eq.trans (Finset.sum_congr rfl fun w _ => ?_) (e.trans (Finset.sum_congr rfl fun t _ => ?_))
  · split_ifs <;> simp
  · unfold Data.E
    by_cases hn : Near t (pos i r)
    · rw [if_pos hn, if_pos ((near_comm _ _).mp hn)]
    · rw [if_neg hn, if_neg fun hh => hn ((near_comm _ _).mp hh)]; simp

/-- The values' gradient. -/
theorem dvPart_at (r d : Fin 128) : k2_pay3 dy (k2_pay1 k bias q lg) (ix2 r d) = (D.dv h (pos i r) d : EReal) := by
  have hp := kvP_at H r
  generalize k2_pay1 k bias q lg = P at hp ⊢
  have e : k2_pay3 dy P (ix2 r d) = ∑ c, P (ix2 r c) * dy (ix2 c d) := by pointwise [k2_pay3]
  rw [e, sum_col]
  simp only [hp, H.dy, ← EReal.coe_mul, coe_sum]
  exact congrArg _ (sum_kv H r fun g t => D.dout h g t d)

/-- The keys' gradient. -/
theorem dkPart_at (r d : Fin 128) : dkPart v q dy dr (k2_pay1 k bias q lg) (ix2 r d) = (D.dk h (pos i r) d : EReal) := by
  have hp := kvP_at H r
  generalize k2_pay1 k bias q lg = P at hp ⊢
  have e : dkPart v q dy dr P (ix2 r d)
      = ∑ c, P (ix2 r c) * ((∑ d', v (ix2 r d') * dy (ix2 c d')) - dr (ix2 0 c)) * Ideal.ofBits .f32 0x3DB504F3#32 * q (ix2 c d) := by
    pointwise [dkPart]
  rw [e, sum_col, ofBits_scale]
  simp only [hp, H.dy, H.v, H.dr, H.q, ← EReal.coe_mul, coe_sum, ← EReal.coe_sub]
  refine congrArg _ ?_
  refine Eq.trans ?_ ((sum_kv H r fun g t => (D.dp h g t (pos i r) - D.dr h g t) * scale * D.q h g t d).trans ?_)
  · refine Finset.sum_congr rfl fun g _ => Finset.sum_congr rfl fun b _ => Finset.sum_congr rfl fun r' _ => ?_
    simp only [Data.dp, mul_comm (D.v _ _ _)]; ring
  · refine Finset.sum_congr rfl fun g _ => Finset.sum_congr rfl fun t _ => ?_
    rw [Data.dS]; ring

end Kv

/-- The blocks of a point hold the reals of `D`. -/
structure KvBlocks (D : Data) (h : Fin 4) (i : Fin 64) (x0 : FVec Ideal S128x128 .bf16) (x1 : FVec Ideal S128x128 .f32)
    (xq xd : Fin 3 → FVec Ideal S128x512 .bf16) (xl xr : Fin 3 → FVec Ideal S4x1x128 .f32) : Prop where
  k : ∀ r d, x0 (ix2 r d) = (D.k h (pos i r) d : EReal)
  v : ∀ r d, x1 (ix2 r d) = (D.v h (pos i r) d : EReal)
  q : ∀ b g r d, xq b (ix2 r (lane g d)) = (D.q h g (pos (blk3 i b) r) d : EReal)
  dy : ∀ b g r d, xd b (ix2 r (lane g d)) = (D.dout h g (pos (blk3 i b) r) d : EReal)
  lg : ∀ b g r, xl b (ix3 g 0 r) = (Real.log (D.Z h g (pos (blk3 i b) r)) : EReal)
  dr : ∀ b g r, xr b (ix3 g 0 r) = (D.dr h g (pos (blk3 i b) r) : EReal)

/-- The stacked blocks of the queries, or of their cotangents. -/
def stk (x : Fin 3 → FVec Ideal S128x512 .bf16) : FVec Ideal S1536x128 .bf16 :=
  concatenate S1536x128 0 (List.ofFn fun n : Fin 12 => (⟨S128x128, of12 (fun b g => qOf (x b) g) n⟩ : (s : Shape) × FVec Ideal s .bf16))
    concatenates_S128x128_S128x128_S128x128_S128x128_S128x128_S128x128_S128x128_S128x128_S128x128_S128x128_S128x128_S128x128_S1536x128_d0

/-- The rows of three blocks, side by side. -/
def rws (x : Fin 3 → FVec Ideal S4x1x128 .f32) : FVec Ideal S1x1536 .f32 :=
  concatenate S1x1536 1 (List.ofFn fun n : Fin 12 => (⟨S1x128, of12 (fun b g => rOf (x b) g) n⟩ : (s : Shape) × FVec Ideal s .f32))
    concatenates_S1x128_S1x128_S1x128_S1x128_S1x128_S1x128_S1x128_S1x128_S1x128_S1x128_S1x128_S1x128_S1x1536_d1

/-- The whole bias. -/
def biases (c : grid2.Coords) : FVec Ideal S128x1536 .f32 :=
  concatenate S128x1536 1 (List.ofFn fun n : Fin 12 => (⟨S128x128, of12 (fun b _ => biasOf c b) n⟩ : (s : Shape) × FVec Ideal s .f32))
    concatenates_S128x128_S128x128_S128x128_S128x128_S128x128_S128x128_S128x128_S128x128_S128x128_S128x128_S128x128_S128x128_S128x1536_d1

section Blocks

variable {D : Data} {h : Fin 4} {c : grid2.Coords} {x0 : FVec Ideal S128x128 .bf16} {x1 : FVec Ideal S128x128 .f32}
    {x2 x3 x4 x5 x6 x7 : FVec Ideal S128x512 .bf16} {x8 x9 x10 x11 x12 x13 : FVec Ideal S4x1x128 .f32}
    (B : KvBlocks D h (c 1) x0 x1 ![x2, x3, x4] ![x5, x6, x7] ![x8, x9, x10] ![x11, x12, x13])
include B

theorem KvBlocks.kvIn : KvIn D h (c 1) x0 (k2_pay4 x1) (biases c) (stk ![x2, x3, x4]) (stk ![x5, x6, x7]) (rws ![x8, x9, x10]) (rws ![x11, x12, x13]) where
  k := B.k
  v r d := B.v r d
  bias r b g r' := (wide_at _ _ b g r r').trans (by rw [of12_pce, biasOf_at])
  q b g r d := (stack_at _ _ b g r d).trans (by rw [of12_pce, qOf_at, B.q]; exact congrArg (fun x => (D.q h g x d : EReal)) (wrow_wof (c 1) b r).symm)
  dy b g r d := (stack_at _ _ b g r d).trans (by rw [of12_pce, qOf_at, B.dy]; exact congrArg (fun x => (D.dout h g x d : EReal)) (wrow_wof (c 1) b r).symm)
  lg b g r := (rows_at _ _ b g r).trans (by rw [of12_pce, rOf_at, B.lg]; exact congrArg (fun x => (Real.log (D.Z h g x) : EReal)) (wrow_wof (c 1) b r).symm)
  dr b g r := (rows_at _ _ b g r).trans (by rw [of12_pce, rOf_at, B.dr]; exact congrArg (fun x => (D.dr h g x : EReal)) (wrow_wof (c 1) b r).symm)

/-- The block of the keys' gradient. -/
theorem out2_14_at (r d : Fin 128) :
    out2_14 (F := Ideal) c x0 x1 x2 x3 x4 x5 x6 x7 x8 x9 x10 x11 x12 x13 (ix2 r d) = (D.dk h (pos (c 1) r) d : EReal) := by
  have e : out2_14 (F := Ideal) c x0 x1 x2 x3 x4 x5 x6 x7 x8 x9 x10 x11 x12 x13
      = dkPart (k2_pay4 x1) (stk ![x2, x3, x4]) (stk ![x5, x6, x7]) (rws ![x11, x12, x13]) (k2_pay1 x0 (biases c) (stk ![x2, x3, x4]) (rws ![x8, x9, x10])) := by
    have l0 : ∀ x : FVec Ideal S128x128 .bf16, View.ld (Val := Elt Ideal) (e' := .bf16) x r2_0 = x := fun x => View.ld_unit_zero (Val := Elt Ideal) (S := S128x128) (e := .bf16) zero2 _ x
    have l0' : ∀ x : FVec Ideal S128x128 .f32, View.ld (Val := Elt Ideal) (e' := .f32) x r2_0 = x := fun x => View.ld_unit_zero (Val := Elt Ideal) (S := S128x128) (e := .f32) zero2 _ x
    have l1 : ∀ x : FVec Ideal S128x512 .bf16, View.ld (Val := Elt Ideal) (e' := .bf16) x r2_1 = x := fun x => View.ld_unit_zero (Val := Elt Ideal) (S := S128x512) (e := .bf16) zero2 _ x
    unfold_out out2_14
    rw [View.canon_unit_zero zero2, l0, l0', l1, l1, l1, l1, l1, l1]
    rfl
  rw [e]
  exact dkPart_at B.kvIn r d

/-- The block of the values' gradient. -/
theorem out2_15_at (r d : Fin 128) :
    out2_15 (F := Ideal) c x0 x1 x2 x3 x4 x5 x6 x7 x8 x9 x10 x11 x12 x13 (ix2 r d) = (D.dv h (pos (c 1) r) d : EReal) := by
  have e : out2_15 (F := Ideal) c x0 x1 x2 x3 x4 x5 x6 x7 x8 x9 x10 x11 x12 x13
      = k2_pay3 (stk ![x5, x6, x7]) (k2_pay1 x0 (biases c) (stk ![x2, x3, x4]) (rws ![x8, x9, x10])) := by
    have l0 : ∀ x : FVec Ideal S128x128 .bf16, View.ld (Val := Elt Ideal) (e' := .bf16) x r2_0 = x := fun x => View.ld_unit_zero (Val := Elt Ideal) (S := S128x128) (e := .bf16) zero2 _ x
    have l1 : ∀ x : FVec Ideal S128x512 .bf16, View.ld (Val := Elt Ideal) (e' := .bf16) x r2_1 = x := fun x => View.ld_unit_zero (Val := Elt Ideal) (S := S128x512) (e := .bf16) zero2 _ x
    unfold_out out2_15
    rw [View.canon_unit_zero zero2, l0, l1, l1, l1, l1, l1, l1]
    rfl
  rw [e]
  exact dvPart_at B.kvIn r d

end Blocks

end Cert.KernelIdeal.Attn

end
-- ==== Proof.KvArr.lean ====
/-
  The arrays that the last call leaves: the gradients of the keys and of the values.
-/
module

public import proofs.«01_k».proof.Proof.KvBlock
public import proofs.«01_k».proof.Proof.FwdArr

@[expose] public section

set_option maxRecDepth 16384

noncomputable section

namespace Cert.KernelIdeal.Attn

open Idealize.ShloMosaic Idealize.ShloMosaic.TcCoe Idealize.SL.Sem Idealize.ShloMosaic.Pipeline
open Cert.KernelIdeal Cert.KernelIdeal.Gen Cert.Attn

/-- Where each window's block lies at a point. -/
theorem idx2 : ∀ t : Fin cfg2.N,
    win2_0.index t = ![(grid2.coords t 1).val, (grid2.coords t 0).val]
    ∧ win2_1.index t = ![(grid2.coords t 1).val, 4 + (grid2.coords t 0).val]
    ∧ win2_2.index t = ![(grid2.coords t 1).val - 1, (grid2.coords t 0).val]
    ∧ win2_3.index t = ![(grid2.coords t 1).val, (grid2.coords t 0).val]
    ∧ win2_4.index t = ![min ((grid2.coords t 1).val + 1) 63, (grid2.coords t 0).val]
    ∧ win2_5.index t = ![(grid2.coords t 1).val - 1, (grid2.coords t 0).val]
    ∧ win2_6.index t = ![(grid2.coords t 1).val, (grid2.coords t 0).val]
    ∧ win2_7.index t = ![min ((grid2.coords t 1).val + 1) 63, (grid2.coords t 0).val]
    ∧ win2_8.index t = ![(grid2.coords t 0).val, 0, (grid2.coords t 1).val - 1]
    ∧ win2_9.index t = ![(grid2.coords t 0).val, 0, (grid2.coords t 1).val]
    ∧ win2_10.index t = ![(grid2.coords t 0).val, 0, min ((grid2.coords t 1).val + 1) 63]
    ∧ win2_11.index t = ![(grid2.coords t 0).val, 0, (grid2.coords t 1).val - 1]
    ∧ win2_12.index t = ![(grid2.coords t 0).val, 0, (grid2.coords t 1).val]
    ∧ win2_13.index t = ![(grid2.coords t 0).val, 0, min ((grid2.coords t 1).val + 1) 63]
    ∧ win2_14.index t = ![(grid2.coords t 1).val, (grid2.coords t 0).val]
    ∧ win2_15.index t = ![(grid2.coords t 1).val, (grid2.coords t 0).val] :=
  (by decide +kernel : ∀ t : Fin grid2.N, _)

variable {D : Data} (V : Bufs) (c : Dev nD) (R : ReadsV D V c)
  (hl : V c main_v0_2 = rArr fun h g t => Real.log (D.Z h g t)) (hd : V c main_v1_4 = rArr D.dr)
include R hl hd

set_option maxHeartbeats 4000000 in
/-- The blocks of every point hold the reals of `D`. -/
theorem blocks2 (t : Fin cfg2.N) : KvBlocks D (grid2.coords t 0) (grid2.coords t 1) (iblk2 V c 0 t) (iblk2 V c 1 t)
    ![iblk2 V c 2 t, iblk2 V c 3 t, iblk2 V c 4 t] ![iblk2 V c 5 t, iblk2 V c 6 t, iblk2 V c 7 t]
    ![iblk2 V c 8 t, iblk2 V c 9 t, iblk2 V c 10 t] ![iblk2 V c 11 t, iblk2 V c 12 t, iblk2 V c 13 t] where
  k r d := by
    refine Eq.trans ?_ (R.k (grid2.coords t 0) (pos (grid2.coords t 1) r) d)
    blk_ext [iblk2, idx2 t, pos]
  v r d := by
    refine Eq.trans ?_ (R.v (grid2.coords t 0) (pos (grid2.coords t 1) r) d)
    blk_ext [iblk2, idx2 t, pos]
  q b g r d := by
    refine Eq.trans ?_ (R.q (grid2.coords t 0) g (pos (blk3 (grid2.coords t 1) b) r) d)
    fin_cases b
    · show (iblk2 V c 2 t : FVec Ideal S128x512 .bf16) _ = V c main_arg0 (ix2 (pos (prev (grid2.coords t 1)) r) (qcol (grid2.coords t 0) g d))
      blk_ext [iblk2, idx2 t, pos, prev]
    · show (iblk2 V c 3 t : FVec Ideal S128x512 .bf16) _ = V c main_arg0 (ix2 (pos (grid2.coords t 1) r) (qcol (grid2.coords t 0) g d))
      blk_ext [iblk2, idx2 t, pos]
    · show (iblk2 V c 4 t : FVec Ideal S128x512 .bf16) _ = V c main_arg0 (ix2 (pos (next (grid2.coords t 1)) r) (qcol (grid2.coords t 0) g d))
      blk_ext [iblk2, idx2 t, pos, next]
  dy b g r d := by
    refine Eq.trans ?_ (R.dout (grid2.coords t 0) g (pos (blk3 (grid2.coords t 1) b) r) d)
    fin_cases b
    · show (iblk2 V c 5 t : FVec Ideal S128x512 .bf16) _ = V c main_arg6 (ix2 (pos (prev (grid2.coords t 1)) r) (qcol (grid2.coords t 0) g d))
      blk_ext [iblk2, idx2 t, pos, prev]
    · show (iblk2 V c 6 t : FVec Ideal S128x512 .bf16) _ = V c main_arg6 (ix2 (pos (grid2.coords t 1) r) (qcol (grid2.coords t 0) g d))
      blk_ext [iblk2, idx2 t, pos]
    · show (iblk2 V c 7 t : FVec Ideal S128x512 .bf16) _ = V c main_arg6 (ix2 (pos (next (grid2.coords t 1)) r) (qcol (grid2.coords t 0) g d))
      blk_ext [iblk2, idx2 t, pos, next]
  lg b g r := by
    refine Eq.trans ?_ ((congrFun hl (ix3 (qhead (grid2.coords t 0) g) 0 (pos (blk3 (grid2.coords t 1) b) r))).trans
      (rArr_at (fun h g t => Real.log (D.Z h g t)) (grid2.coords t 0) g (pos (blk3 (grid2.coords t 1) b) r) _ rfl rfl))
    fin_cases b
    · show (iblk2 V c 8 t : FVec Ideal S4x1x128 .f32) _ = V c main_v0_2 (ix3 (qhead (grid2.coords t 0) g) 0 (pos (prev (grid2.coords t 1)) r))
      blk_ext [iblk2, idx2 t, pos, prev]
    · show (iblk2 V c 9 t : FVec Ideal S4x1x128 .f32) _ = V c main_v0_2 (ix3 (qhead (grid2.coords t 0) g) 0 (pos (grid2.coords t 1) r))
      blk_ext [iblk2, idx2 t, pos]
    · show (iblk2 V c 10 t : FVec Ideal S4x1x128 .f32) _ = V c main_v0_2 (ix3 (qhead (grid2.coords t 0) g) 0 (pos (next (grid2.coords t 1)) r))
      blk_ext [iblk2, idx2 t, pos, next]
  dr b g r := by
    refine Eq.trans ?_ ((congrFun hd (ix3 (qhead (grid2.coords t 0) g) 0 (pos (blk3 (grid2.coords t 1) b) r))).trans
      (rArr_at D.dr (grid2.coords t 0) g (pos (blk3 (grid2.coords t 1) b) r) _ rfl rfl))
    fin_cases b
    · show (iblk2 V c 11 t : FVec Ideal S4x1x128 .f32) _ = V c main_v1_4 (ix3 (qhead (grid2.coords t 0) g) 0 (pos (prev (grid2.coords t 1)) r))
      blk_ext [iblk2, idx2 t, pos, prev]
    · show (iblk2 V c 12 t : FVec Ideal S4x1x128 .f32) _ = V c main_v1_4 (ix3 (qhead (grid2.coords t 0) g) 0 (pos (grid2.coords t 1) r))
      blk_ext [iblk2, idx2 t, pos]
    · show (iblk2 V c 13 t : FVec Ideal S4x1x128 .f32) _ = V c main_v1_4 (ix3 (qhead (grid2.coords t 0) g) 0 (pos (next (grid2.coords t 1)) r))
      blk_ext [iblk2, idx2 t, pos, next]

/-- The keys' gradient. -/
theorem arr2_14 : (dat2 V c).arrAt 14 cfg2.N = kArr D.dk := by
  refine (dat2 V c).arrAt_eq_of_covers 14 (kArr D.dk) (by decide +kernel) fun t hf y => ?_
  blk_simp
  rw [after2_14]
  refine ((congrArg _ (eq_ix2 y)).trans (out2_14_at (blocks2 V c R hl hd t) (y 0) (y 1))).trans
    (kArr_at D.dk (grid2.coords t 0) (pos (grid2.coords t 1) (y 0)) (y 1) _ ?_ ?_).symm
  · blk_simp [idx2 t]; rfl
  · blk_simp [idx2 t]

/-- The values' gradient. -/
theorem arr2_15 : (dat2 V c).arrAt 15 cfg2.N = kArr D.dv := by
  refine (dat2 V c).arrAt_eq_of_covers 15 (kArr D.dv) (by decide +kernel) fun t hf y => ?_
  blk_simp
  rw [after2_15]
  refine ((congrArg _ (eq_ix2 y)).trans (out2_15_at (blocks2 V c R hl hd t) (y 0) (y 1))).trans
    (kArr_at D.dv (grid2.coords t 0) (pos (grid2.coords t 1) (y 0)) (y 1) _ ?_ ?_).symm
  · blk_simp [idx2 t]; rfl
  · blk_simp [idx2 t]

end Cert.KernelIdeal.Attn

end
-- ==== Proof.Values.lean ====
/-
  What the optimised program computes: from arguments that hold the reals of `D`, its run ends with the seven results at the
  arrays of `Spec.lean`. Each call's entry contents are the arguments and what the calls before it left.
-/
module

public import proofs.«01_k».proof.Proof.Run
public import proofs.«01_k».proof.Proof.FwdArr
public import proofs.«01_k».proof.Proof.BwdArr
public import proofs.«01_k».proof.Proof.KvArr

@[expose] public section

set_option maxRecDepth 16384

noncomputable section

namespace Cert.KernelIdeal.Bwd

open Cert.KernelIdeal.Gen Cert.KernelIdeal.Attn Cert.Attn
open Idealize.ShloMosaic Idealize.ShloMosaic.TcCoe Idealize.SL.Sem

variable {D : Data} (m : (ℓ : Loc nD τ sig) → Buf (Elt Ideal) ℓ) (ρ : Dev nD → PrngReg) (c : Dev nD)

/-- The arguments at launch hold the reals of `D`. -/
abbrev Launch (D : Data) (m : (ℓ : Loc nD τ sig) → Buf (Elt Ideal) ℓ) (c : Dev nD) : Prop :=
  Reads D (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

variable (R : Launch D m c)
include R

theorem reads0 : ReadsV D (V0 m ρ) c := R

theorem reads1 : ReadsV D (V1 m ρ) c := by
  have e := W1_args m ρ c
  show Reads D (W1 m ρ c (Proc.devRef .tc main_arg0)) (W1 m ρ c (Proc.devRef .tc main_arg1)) (W1 m ρ c (Proc.devRef .tc main_arg2))
    (W1 m ρ c (Proc.devRef .tc main_arg3)) (W1 m ρ c (Proc.devRef .tc main_arg4)) (W1 m ρ c (Proc.devRef .tc main_arg5)) (W1 m ρ c (Proc.devRef .tc main_arg6))
  rw [e main_arg0 (by decide), e main_arg1 (by decide), e main_arg2 (by decide), e main_arg3 (by decide), e main_arg4 (by decide),
    e main_arg5 (by decide), e main_arg6 (by decide)]
  exact R

theorem reads2 : ReadsV D (V2 m ρ) c := by
  have e := W2_args m ρ c
  show Reads D (W2 m ρ c (Proc.devRef .tc main_arg0)) (W2 m ρ c (Proc.devRef .tc main_arg1)) (W2 m ρ c (Proc.devRef .tc main_arg2))
    (W2 m ρ c (Proc.devRef .tc main_arg3)) (W2 m ρ c (Proc.devRef .tc main_arg4)) (W2 m ρ c (Proc.devRef .tc main_arg5)) (W2 m ρ c (Proc.devRef .tc main_arg6))
  rw [e main_arg0 (by decide), e main_arg1 (by decide), e main_arg2 (by decide), e main_arg3 (by decide), e main_arg4 (by decide),
    e main_arg5 (by decide), e main_arg6 (by decide)]
  exact R

/-! ## After the forward call -/

theorem out0 : W1 m ρ c (Proc.devRef .tc main_v0_0) = qArr D.O := (W1_arr m ρ c 10).trans (arr0_10 (V0 m ρ) c (reads0 m ρ c R))
theorem lse0 : W1 m ρ c (Proc.devRef .tc main_v0_1) = lArr fun h g t => Real.log (D.Z h g t) := (W1_arr m ρ c 11).trans (arr0_11 (V0 m ρ) c (reads0 m ρ c R))
theorem lseRow0 : W1 m ρ c (Proc.devRef .tc main_v0_2) = rArr fun h g t => Real.log (D.Z h g t) := (W1_arr m ρ c 12).trans (arr0_12 (V0 m ρ) c (reads0 m ρ c R))

/-! ## After the queries' backward call -/

theorem dq1 : W2 m ρ c (Proc.devRef .tc main_v1_0) = qArr D.dq :=
  (W2_arr m ρ c 13).trans (arr1_13 (V1 m ρ) c (reads1 m ρ c R) (out0 m ρ c R) (lse0 m ρ c R))
theorem dkc1 : W2 m ρ c (Proc.devRef .tc main_v1_1) = cArr D.dkc :=
  (W2_arr m ρ c 14).trans (arr1_14 (V1 m ρ) c (reads1 m ρ c R) (out0 m ρ c R) (lse0 m ρ c R))
theorem dvc1 : W2 m ρ c (Proc.devRef .tc main_v1_2) = cArr D.dvc :=
  (W2_arr m ρ c 15).trans (arr1_15 (V1 m ρ) c (reads1 m ρ c R) (out0 m ρ c R) (lse0 m ρ c R))
theorem dsink1 : W2 m ρ c (Proc.devRef .tc main_v1_3) = sArr D.dsink :=
  (W2_arr m ρ c 16).trans (arr1_16 (V1 m ρ) c (reads1 m ρ c R) (out0 m ρ c R) (lse0 m ρ c R))
theorem dr1 : W2 m ρ c (Proc.devRef .tc main_v1_4) = rArr D.dr :=
  (W2_arr m ρ c 17).trans (arr1_17 (V1 m ρ) c (reads1 m ρ c R) (out0 m ρ c R) (lse0 m ρ c R))
theorem lseRow1 : W2 m ρ c (Proc.devRef .tc main_v0_2) = rArr fun h g t => Real.log (D.Z h g t) :=
  (W2_of m ρ c main_v0_2 (by decide +kernel)).trans (lseRow0 m ρ c R)

/-! ## At the end -/

theorem o_end : W3 m ρ c (Proc.devRef .tc main_v0_0) = qArr D.O :=
  (W3_of m ρ c main_v0_0 (by decide +kernel)).trans ((W2_of m ρ c main_v0_0 (by decide +kernel)).trans (out0 m ρ c R))
theorem dq_end : W3 m ρ c (Proc.devRef .tc main_v1_0) = qArr D.dq :=
  (W3_of m ρ c main_v1_0 (by decide +kernel)).trans (dq1 m ρ c R)
theorem dk_end : W3 m ρ c (Proc.devRef .tc main_v2_0) = kArr D.dk :=
  (W3_arr m ρ c 14).trans (arr2_14 (V2 m ρ) c (reads2 m ρ c R) (lseRow1 m ρ c R) (dr1 m ρ c R))
theorem dv_end : W3 m ρ c (Proc.devRef .tc main_v2_1) = kArr D.dv :=
  (W3_arr m ρ c 15).trans (arr2_15 (V2 m ρ) c (reads2 m ρ c R) (lseRow1 m ρ c R) (dr1 m ρ c R))
theorem dkc_end : W3 m ρ c (Proc.devRef .tc main_v1_1) = cArr D.dkc :=
  (W3_of m ρ c main_v1_1 (by decide +kernel)).trans (dkc1 m ρ c R)
theorem dvc_end : W3 m ρ c (Proc.devRef .tc main_v1_2) = cArr D.dvc :=
  (W3_of m ρ c main_v1_2 (by decide +kernel)).trans (dvc1 m ρ c R)
theorem dsink_end : W3 m ρ c (Proc.devRef .tc main_v1_3) = sArr D.dsink :=
  (W3_of m ρ c main_v1_3 (by decide +kernel)).trans (dsink1 m ρ c R)

omit R in
/-- The run, read at the results and the arguments. -/
theorem values (E : Dev nD → Data) (R : ∀ c, Launch (E c) m c) :
    θ_run defs (onTc (τ := τ) (main (F := Ideal))) ⟨m, fun _ => 0, ρ⟩ (fun r => ∀ c : Dev nD,
      r.2.mem ((c.tc : Thread nD τ).loc main_v0_0) = qArr (E c).O
      ∧ r.2.mem ((c.tc : Thread nD τ).loc main_v1_0) = qArr (E c).dq
      ∧ r.2.mem ((c.tc : Thread nD τ).loc main_v2_0) = kArr (E c).dk
      ∧ r.2.mem ((c.tc : Thread nD τ).loc main_v2_1) = kArr (E c).dv
      ∧ r.2.mem ((c.tc : Thread nD τ).loc main_v1_1) = cArr (E c).dkc
      ∧ r.2.mem ((c.tc : Thread nD τ).loc main_v1_2) = cArr (E c).dvc
      ∧ r.2.mem ((c.tc : Thread nD τ).loc main_v1_3) = sArr (E c).dsink
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨(h.1 c _ (mem_uc main_v0_0 (by decide))).trans (o_end m ρ c (R c)),
       (h.1 c _ (mem_uc main_v1_0 (by decide))).trans (dq_end m ρ c (R c)),
       (h.1 c _ (mem_uc main_v2_0 (by decide))).trans (dk_end m ρ c (R c)),
       (h.1 c _ (mem_uc main_v2_1 (by decide))).trans (dv_end m ρ c (R c)),
       (h.1 c _ (mem_uc main_v1_1 (by decide))).trans (dkc_end m ρ c (R c)),
       (h.1 c _ (mem_uc main_v1_2 (by decide))).trans (dvc_end m ρ c (R c)),
       (h.1 c _ (mem_uc main_v1_3 (by decide))).trans (dsink_end m ρ c (R c)),
       (h.1 c _ (mem_uc main_arg0 (by decide))).trans (W3_main_arg0 m ρ c),
       (h.1 c _ (mem_uc main_arg1 (by decide))).trans (W3_main_arg1 m ρ c),
       (h.1 c _ (mem_uc main_arg2 (by decide))).trans (W3_main_arg2 m ρ c),
       (h.1 c _ (mem_uc main_arg3 (by decide))).trans (W3_main_arg3 m ρ c),
       (h.1 c _ (mem_uc main_arg4 (by decide))).trans (W3_main_arg4 m ρ c),
       (h.1 c _ (mem_uc main_arg5 (by decide))).trans (W3_main_arg5 m ρ c),
       (h.1 c _ (mem_uc main_arg6 (by decide))).trans (W3_main_arg6 m ρ c)⟩) (run m ρ)

end Cert.KernelIdeal.Bwd

end
-- ==== Proof.Reference.lean ====
/-
  The reference's values: each array that its run names holds, index by index, the real numbers of `Spec.lean`.
-/
module

public import proofs.«01_k».proof.Proof.Gen.ReferenceIdeal.Run
public import proofs.«01_k».proof.Proof.Arrays
public import proofs.«01_k».proof.Proof.Mask
public import Idealize.ShloMosaic.Lib.Pointwise
public import Idealize.ShloMosaic.Lib.WordCmp

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.ReferenceIdeal.Value Cert.Attn

variable (V0 : Valuation τ sig (Elt Ideal)) (D : Data)

/-- The arguments in `V0` hold the reals of `D`. -/
abbrev Holds : Prop := Reads D (V0 (Proc.devRef .tc main_arg0)) (V0 (Proc.devRef .tc main_arg1)) (V0 (Proc.devRef .tc main_arg2))
  (V0 (Proc.devRef .tc main_arg3)) (V0 (Proc.devRef .tc main_arg4)) (V0 (Proc.devRef .tc main_arg5)) (V0 (Proc.devRef .tc main_arg6))

variable {V0} {D} (H : Holds V0 D) (h g : Fin 4) (t j : Fin 8192) (l : Fin 256) (d : Fin 128)
include H

theorem v5_at : res_main_v5 V0 (ix4 t h g d) = (D.q h g t d : EReal) := by
  rw [← H.q]; pointwise [res_main_v5]

theorem v6_at : res_main_v6 V0 (ix3 j h d) = (D.k h j d : EReal) := by
  rw [← H.k]; pointwise [res_main_v6]

theorem v7_at : res_main_v7 V0 (ix3 j h d) = (D.v h j d : EReal) := by
  rw [← H.v]; pointwise [res_main_v7]

theorem v8_at : res_main_v8 V0 (ix3 l h d) = (D.kc h l d : EReal) := by
  rw [← H.kc]; pointwise [res_main_v8]

theorem v9_at : res_main_v9 V0 (ix3 l h d) = (D.vc h l d : EReal) := by
  rw [← H.vc]; pointwise [res_main_v9]

theorem v106_at : res_main_v106 V0 (ix4 t h g d) = (D.dout h g t d : EReal) := by
  rw [← H.dout]; pointwise [res_main_v106]

theorem v29_at : res_main_v29 V0 (ix3 h g 0) = (D.sink h g : EReal) := by
  rw [← H.sink]; pointwise [res_main_v29]

omit H in
theorem v23_1_at : res_main_v23_1 V0 (ix4 h g t j) = BitVec.ofBool (decide (Near t j)) := by
  pointwise [res_main_v23_1, res_main_v10]
  exact near_rows t j (by omega) (by omega)

theorem v23_0_at : res_main_v23_0 V0 (ix4 h g t j) = (if Near t j then (D.s h g t j : EReal) else ⊥) := by
  pointwise [res_main_v23_0]
  rw [v23_1_at, select_bit]
  refine if_congr Iff.rfl ?_ ofBits_bot
  simp only [v5_at H, v6_at H, ofBits_scale, ← EReal.coe_mul, coe_sum, Data.s, mul_comm (D.k _ _ _)]

theorem v27_at : res_main_v27 V0 (ix4 h g t l) = (D.sc h g t l : EReal) := by
  pointwise [res_main_v27]
  simp only [v5_at H, v8_at H, ofBits_scale, ← EReal.coe_mul, coe_sum, Data.sc, mul_comm (D.kc _ _ _)]

theorem v30_at : res_main_v30 V0 (ix3 h g t) = Finset.univ.fold max (⊥ : EReal) fun j => if Near t j then (D.s h g t j : EReal) else ⊥ := by
  pointwise [res_main_v30]
  refine (Shape.ReducesTo.fold_fiber_r4_a3 _ _ (max : EReal → EReal → EReal) _ _).trans ?_
  rw [ofBits_bot]
  exact congrArg (fun f => Finset.univ.fold max (⊥ : EReal) f) (funext fun j => v23_0_at H h g t j)

theorem v56_at : res_main_v56 V0 (ix3 h g t) = Finset.univ.fold max (⊥ : EReal) fun l => (D.sc h g t l : EReal) := by
  pointwise [res_main_v56]
  refine (Shape.ReducesTo.fold_fiber_r4_a3 _ _ (max : EReal → EReal → EReal) _ _).trans ?_
  rw [ofBits_bot]
  exact congrArg (fun f => Finset.univ.fold max (⊥ : EReal) f) (funext fun l => v27_at H h g t l)

/-- The reference's row maximum is a real number. -/
theorem v62_real : ∃ m : ℝ, res_main_v62 V0 (ix3 h g t) = (m : EReal) := by
  have e : res_main_v62 V0 (ix3 h g t) = max (max (D.sink h g : EReal) (res_main_v30 V0 (ix3 h g t))) (res_main_v56 V0 (ix3 h g t)) := by
    pointwise [res_main_v62, res_main_v37]; rw [v29_at H]
  obtain ⟨m, hm⟩ := max_coe_real (Cert.Attn.max_ne_top (max_real Finset.univ (fun j => if Near t j then (D.s h g t j : EReal) else ⊥) fun j _ => masked_ne_top _)
    (max_real Finset.univ (fun l => (D.sc h g t l : EReal)) fun l _ => EReal.coe_ne_top _)) (D.sink h g)
  exact ⟨m, by rw [e, v30_at H, v56_at H, max_assoc, max_comm, hm]⟩

variable (V0) in
omit H in
/-- The row's factor: the exponential of minus the maximum. -/
def fac (h g : Fin 4) (t : Fin 8192) : ℝ := Real.exp (-(res_main_v62 V0 (ix3 h g t)).toReal)

variable (V0) in
omit H in
theorem fac_ne : fac V0 h g t ≠ 0 := (Real.exp_pos _).ne'

/-- An exponential of a difference with the maximum. -/
theorem exp_fac (a : ℝ) : Ideal.exp ((a : EReal) - res_main_v62 V0 (ix3 h g t)) = ((fac V0 h g t * Real.exp a : ℝ) : EReal) := by
  obtain ⟨m, hm⟩ := v62_real H h g t
  rw [fac, hm, EReal.toReal_coe, ← EReal.coe_sub, Ideal.exp_coe, ← Real.exp_add, neg_add_eq_sub]

theorem v79_at : res_main_v79 V0 (ix3 h g t) = ((fac V0 h g t * Real.exp (D.sink h g) : ℝ) : EReal) := by
  pointwise [res_main_v79]
  rw [v29_at H]
  exact exp_fac H h g t _

theorem v83_at : res_main_v83 V0 (ix4 h g t j) = ((fac V0 h g t * D.E h g t j : ℝ) : EReal) := by
  pointwise [res_main_v83]
  rw [v23_0_at H]
  refine (show _ = Ideal.exp (_ - _) from rfl).trans ?_
  unfold Data.E
  split_ifs
  · exact exp_fac H h g t _
  · rw [EReal.bot_sub, Ideal.exp_bot, mul_zero, EReal.coe_zero]

theorem v91_at : res_main_v91 V0 (ix4 h g t l) = ((fac V0 h g t * D.Ec h g t l : ℝ) : EReal) := by
  pointwise [res_main_v91]
  rw [v27_at H]
  exact exp_fac H h g t _

theorem v96_at : res_main_v96 V0 (ix4 t h g d) = ((fac V0 h g t * D.N h g t d : ℝ) : EReal) := by
  pointwise [res_main_v96]
  simp only [v7_at H, v83_at H, v9_at H, v91_at H, ← EReal.coe_mul, coe_sum, ← EReal.coe_add]
  refine congrArg _ ?_
  simp only [Data.N, mul_add, Finset.mul_sum]
  congr 1 <;> exact Finset.sum_congr rfl fun _ _ => by ring

theorem v98_at : res_main_v98 V0 (ix4 t h g 0) = ((fac V0 h g t * D.Z h g t : ℝ) : EReal) := by
  pointwise [res_main_v98]
  simp only [v79_at H, v83_at H, v91_at H, coe_sum, ← EReal.coe_add]
  refine congrArg _ ?_
  simp only [Data.Z, mul_add, Finset.mul_sum]

omit H in
theorem facZ_ne : fac V0 h g t * D.Z h g t ≠ 0 := mul_ne_zero (fac_ne V0 h g t) (D.Z_ne h g t)

theorem v114_at : res_main_v114 V0 (ix4 t h g d) = ((D.dout h g t d / (fac V0 h g t * D.Z h g t) : ℝ) : EReal) := by
  pointwise [res_main_v114]
  rw [v106_at H, v98_at H]
  exact div_real _ (facZ_ne h g t)

theorem v116_at : res_main_v116 V0 (ix3 h g t) = ((-(D.dr h g t / (fac V0 h g t * D.Z h g t)) : ℝ) : EReal) := by
  pointwise [res_main_v116]
  have hz : fac V0 h g t * D.Z h g t * (fac V0 h g t * D.Z h g t) ≠ 0 := mul_ne_zero (facZ_ne h g t) (facZ_ne h g t)
  have hi : ∀ x : EReal, x = ((fac V0 h g t * D.Z h g t : ℝ) : EReal) →
      Ideal.div 1 (x * x) = ((1 / (fac V0 h g t * D.Z h g t * (fac V0 h g t * D.Z h g t)) : ℝ) : EReal) := by
    intro x e
    rw [e, ← EReal.coe_mul]; exact div_real 1 hz
  rw [Fin.sum_univ_one]
  refine (congrArg (fun x : EReal => -x) (Finset.sum_congr rfl fun d _ => ?_)).trans (b := -∑ d, ((D.dout h g t d * (1 / (fac V0 h g t * D.Z h g t * (fac V0 h g t * D.Z h g t))) * (fac V0 h g t * D.N h g t d) : ℝ) : EReal)) ?_
  · rw [v106_at H, v96_at H, hi _ (v98_at H h g t), ← EReal.coe_mul, ← EReal.coe_mul]
  · rw [coe_sum, ← EReal.coe_neg]
    refine congrArg _ (congrArg _ ?_)
    have h1 := fac_ne V0 h g t
    have h2 := D.Z_ne h g t
    rw [D.dr_eq, div_div, Finset.sum_div]
    refine Finset.sum_congr rfl fun d _ => ?_
    field_simp

/-- The context score's gradient before the maximum's part, which is zero. -/
theorem v123_at : res_main_v123 V0 (ix4 h g t l) = ((D.Ec h g t l / D.Z h g t * (D.dpc h g t l - D.dr h g t) : ℝ) : EReal) := by
  pointwise [res_main_v123, res_main_v117]
  simp only [v114_at H, v9_at H, v116_at H, v91_at H, ← EReal.coe_mul, coe_sum, ← EReal.coe_add]
  refine congrArg _ ?_
  have h1 := fac_ne V0 h g t
  have h2 := D.Z_ne h g t
  have e : ∑ d, D.dout h g t d / (fac V0 h g t * D.Z h g t) * D.vc h l d = D.dpc h g t l / (fac V0 h g t * D.Z h g t) := by
    rw [Data.dpc, Finset.sum_div]; exact Finset.sum_congr rfl fun d _ => by ring
  rw [e]; field_simp; ring

/-- The score's gradient before the maximum's part. -/
theorem v134_at : res_main_v134 V0 (ix4 h g t j) = ((D.E h g t j / D.Z h g t * (D.dp h g t j - D.dr h g t) : ℝ) : EReal) := by
  pointwise [res_main_v134, res_main_v128]
  simp only [v114_at H, v7_at H, v116_at H, v83_at H, ← EReal.coe_mul, coe_sum, ← EReal.coe_add]
  refine congrArg _ ?_
  have h1 := fac_ne V0 h g t
  have h2 := D.Z_ne h g t
  have e : ∑ d, D.dout h g t d / (fac V0 h g t * D.Z h g t) * D.v h j d = D.dp h g t j / (fac V0 h g t * D.Z h g t) := by
    rw [Data.dp, Finset.sum_div]; exact Finset.sum_congr rfl fun d _ => by ring
  rw [e]; field_simp; ring

theorem v140_at : res_main_v140 V0 (ix3 h g t) = ((-(Real.exp (D.sink h g) / D.Z h g t * D.dr h g t) : ℝ) : EReal) := by
  pointwise [res_main_v140]
  rw [v116_at H, v79_at H, ← EReal.coe_mul]
  refine congrArg _ ?_
  have h1 := fac_ne V0 h g t
  have h2 := D.Z_ne h g t
  field_simp

/-- The gradient of the maximum is zero: the quotient does not depend on it. -/
theorem v144_at : res_main_v144 V0 (ix3 h g t) = ((0 : ℝ) : EReal) := by
  pointwise [res_main_v144]
  simp only [v123_at H, v134_at H, v140_at H, ← EReal.coe_neg, coe_sum, ← EReal.coe_add, Fin.sum_univ_one]
  refine congrArg _ ?_
  rw [Finset.sum_neg_distrib, Finset.sum_neg_distrib]
  exact D.total_zero h g t

end Cert.ReferenceIdeal.Attn

end
-- ==== Proof.RefShare.lean ====
/-
  What the reference adds for the gradient of a maximum: the number added is zero, whichever places the maximum is taken at.
-/
module

public import proofs.«01_k».proof.Proof.Reference
public import Idealize.ShloMosaic.Lib.Pointwise
public import Idealize.ShloMosaic.Lib.WordCmp

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.ReferenceIdeal.Value Cert.Attn

variable {V0 : Valuation τ sig (Elt Ideal)} {D : Data}
variable (H : Holds V0 D) (h g : Fin 4) (t j : Fin 8192) (l : Fin 256) (d : Fin 128)
include H

omit H in
/-- The share of a maximum's gradient that an operand takes is a real number. -/
theorem share_real (X Y : FVec Ideal S4x4x8192 .f32) (i : S4x4x8192.Idx) : ∃ r : ℝ,
    (select (cmpf .ogt X Y) (broadcastInDim S4x4x8192 ![] bcast_S_S4x4x8192 (constant (F := Ideal) S_ .f32 0x3F800000#32))
      (select (cmpf .oeq X Y) (broadcastInDim S4x4x8192 ![] bcast_S_S4x4x8192 (constant (F := Ideal) S_ .f32 0x3F000000#32))
        (broadcastInDim S4x4x8192 ![] bcast_S_S4x4x8192 (constant (F := Ideal) S_ .f32 0x00000000#32))) : FVec Ideal S4x4x8192 .f32) i = (r : EReal) := by
  show ∃ r : ℝ, Scalar.select _ (Ideal.ofBits .f32 0x3F800000#32) (Scalar.select _ (Ideal.ofBits .f32 0x3F000000#32) (Ideal.ofBits .f32 0x00000000#32)) = (r : EReal)
  unfold Scalar.select
  split_ifs
  · exact ⟨1, ofBits_one⟩
  · exact ⟨1 / 2, by simp [Ideal.ofBits, Ideal.ieee, -EReal.coe_mul]; norm_num⟩
  · exact ⟨0, by simp [Ideal.ofBits, Ideal.ieee]⟩

omit H in
theorem mul_zero_real {x s : EReal} (hx : x = ((0 : ℝ) : EReal)) (hs : ∃ r : ℝ, s = (r : EReal)) : x * s = ((0 : ℝ) : EReal) := by
  obtain ⟨s, rfl⟩ := hs
  rw [hx, ← EReal.coe_mul, zero_mul]

theorem v146_at : res_main_v146 V0 (ix3 h g t) = ((0 : ℝ) : EReal) := by
  unfold res_main_v146
  exact mul_zero_real (v144_at H h g t) (share_real (res_main_v37 V0) (res_main_v56 V0) (ix3 h g t))

omit H in
theorem v60_at : ∃ r : ℝ, res_main_v60 V0 (ix4 h g t l) = (r : EReal) ∧ 0 ≤ r ∧ (res_main_v27 V0 (ix4 h g t l) = res_main_v56 V0 (ix3 h g t) → r = 1) := by
  have e : res_main_v60 V0 (ix4 h g t l) = (((BitVec.ofBool (decide (res_main_v27 V0 (ix4 h g t l) = res_main_v56 V0 (ix3 h g t)))).toNat : ℝ) : EReal) := by
    pointwise [res_main_v60]; rfl
  exact ⟨_, e, Nat.cast_nonneg _, fun h => by simp [h]⟩

omit H in
theorem v34_at : ∃ r : ℝ, res_main_v34 V0 (ix4 h g t j) = (r : EReal) ∧ 0 ≤ r ∧ (res_main_v23_0 V0 (ix4 h g t j) = res_main_v30 V0 (ix3 h g t) → r = 1) := by
  have e : res_main_v34 V0 (ix4 h g t j) = (((BitVec.ofBool (decide (res_main_v23_0 V0 (ix4 h g t j) = res_main_v30 V0 (ix3 h g t)))).toNat : ℝ) : EReal) := by
    pointwise [res_main_v34]; rfl
  exact ⟨_, e, Nat.cast_nonneg _, fun h => by simp [h]⟩

omit H in
/-- A count of the places of a maximum is a real number other than zero. -/
theorem count_ne {n : ℕ} (c : Fin n → EReal) (p : Fin n → Prop) (hp : ∃ i, p i)
    (hc : ∀ i, ∃ r : ℝ, c i = (r : EReal) ∧ 0 ≤ r ∧ (p i → r = 1)) : ∃ r : ℝ, r ≠ 0 ∧ ∑ i, c i = (r : EReal) := by
  choose r hr using hc
  refine ⟨∑ i, r i, ?_, by rw [← coe_sum]; exact Finset.sum_congr rfl fun i _ => (hr i).1⟩
  obtain ⟨i, hi⟩ := hp
  have h1 : r i ≤ ∑ i, r i := Finset.single_le_sum (f := r) (fun j _ => (hr j).2.1) (Finset.mem_univ i)
  rw [(hr i).2.2 hi] at h1
  exact (lt_of_lt_of_le one_pos h1).ne'

omit H in
/-- A maximum of finitely many values is one of them. -/
theorem max_mem {ι : Type} [Fintype ι] [Nonempty ι] (f : ι → EReal) : ∃ i, f i = Finset.univ.fold max ⊥ f := by
  obtain ⟨i, -, hi⟩ := Finset.exists_mem_eq_sup Finset.univ Finset.univ_nonempty f
  exact ⟨i, hi.symm⟩

theorem count60 : ∃ r : ℝ, r ≠ 0 ∧ Finset.sum (M := EReal) (Finset.univ : Finset (Fin 256)) (fun l => res_main_v60 V0 (ix4 h g t l)) = (r : EReal) := by
  refine count_ne _ (fun l => res_main_v27 V0 (ix4 h g t l) = res_main_v56 V0 (ix3 h g t)) ?_ fun l => v60_at h g t l
  obtain ⟨i, hi⟩ := max_mem fun l : Fin 256 => (D.sc h g t l : EReal)
  exact ⟨i, by rw [v27_at H, v56_at H]; exact hi⟩

theorem count34 : ∃ r : ℝ, r ≠ 0 ∧ Finset.sum (M := EReal) (Finset.univ : Finset (Fin 8192)) (fun j => res_main_v34 V0 (ix4 h g t j)) = (r : EReal) := by
  refine count_ne _ (fun j => res_main_v23_0 V0 (ix4 h g t j) = res_main_v30 V0 (ix3 h g t)) ?_ fun j => v34_at h g t j
  obtain ⟨i, hi⟩ := max_mem fun j : Fin 8192 => if Near t j then (D.s h g t j : EReal) else ⊥
  exact ⟨i, by rw [v23_0_at H, v30_at H]; exact hi⟩

omit H in
theorem zero_part {x s c w : EReal} (hx : x = ((0 : ℝ) : EReal)) (hs : ∃ r : ℝ, s = (r : EReal)) (hc : ∃ r : ℝ, r ≠ 0 ∧ c = (r : EReal))
    (hw : ∃ r : ℝ, w = (r : EReal)) : Ideal.div (x * s) c * w = ((0 : ℝ) : EReal) := by
  obtain ⟨s, rfl⟩ := hs; obtain ⟨c, h0, rfl⟩ := hc; obtain ⟨w, rfl⟩ := hw
  rw [hx, ← EReal.coe_mul, div_real _ h0, ← EReal.coe_mul]; simp

end Cert.ReferenceIdeal.Attn

end
-- ==== Proof.RefGrad.lean ====
/-
  The reference's gradients: each result is an array of the reals of `Spec.lean`.
-/
module

public import proofs.«01_k».proof.Proof.RefShare
public import Idealize.ShloMosaic.Lib.Pointwise
public import Idealize.ShloMosaic.Lib.WordCmp

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.ReferenceIdeal.Value Cert.Attn

variable {V0 : Valuation τ sig (Elt Ideal)} {D : Data}
variable (H : Holds V0 D) (h g : Fin 4) (t j : Fin 8192) (l : Fin 256) (d : Fin 128)
include H

/-- The context score's gradient. -/
theorem v164_at : res_main_v164 V0 (ix4 h l t g) = (D.dSc h g t l : EReal) := by
  have sum60 : Host.reduceAdd (res_main_v60 V0) (constant (F := Ideal) S_ .f32 0x00000000#32) reducesTo_S4x4x8192x256_S4x4x8192_d3 h_S_ (ix3 h g t)
      = Finset.sum (M := EReal) (Finset.univ : Finset (Fin 256)) (fun l => res_main_v60 V0 (ix4 h g t l)) := by pointwise []
  unfold res_main_v164
  obtain ⟨S, hS⟩ : ∃ S : FVec Ideal S4x4x8192 .f32, S = (select (cmpf .ogt (res_main_v56 V0) (res_main_v37 V0)) (broadcastInDim S4x4x8192 ![] bcast_S_S4x4x8192 (constant (F := Ideal) S_ .f32 0x3F800000#32)) (select (cmpf .oeq (res_main_v56 V0) (res_main_v37 V0)) (broadcastInDim S4x4x8192 ![] bcast_S_S4x4x8192 (constant (F := Ideal) S_ .f32 0x3F000000#32)) (broadcastInDim S4x4x8192 ![] bcast_S_S4x4x8192 (constant (F := Ideal) S_ .f32 0x00000000#32)))) := ⟨_, rfl⟩
  have hr := share_real (res_main_v56 V0) (res_main_v37 V0) (ix3 h g t)
  rw [← hS] at hr ⊢
  obtain ⟨C, hC⟩ : ∃ C : FVec Ideal S4x4x8192 .f32, C = Host.reduceAdd (res_main_v60 V0) (constant (F := Ideal) S_ .f32 0x00000000#32) reducesTo_S4x4x8192x256_S4x4x8192_d3 h_S_ := ⟨_, rfl⟩
  have hc := count60 H h g t
  rw [← sum60, ← hC] at hc
  rw [← hC]
  have hw : ∃ r : ℝ, res_main_v60 V0 (ix4 h g t l) = (r : EReal) := by obtain ⟨r, h, -⟩ := v60_at (V0 := V0) h g t l; exact ⟨r, h⟩
  have key := zero_part (v144_at H h g t) hr hc hw
  clear hS hC sum60
  pointwise []
  rw [ofBits_scale, v123_at H]
  refine (congrArg (fun x : EReal => (((D.Ec h g t l / D.Z h g t * (D.dpc h g t l - D.dr h g t) : ℝ) : EReal) + x) * (scale : EReal)) key).trans ?_
  rw [← EReal.coe_add, ← EReal.coe_mul, add_zero]; rfl

/-- The score's gradient. -/
theorem v172_at : res_main_v172 V0 (ix4 h j t g) = (D.dS h g t j : EReal) := by
  have sum34 : Host.reduceAdd (res_main_v34 V0) (constant (F := Ideal) S_ .f32 0x00000000#32) reducesTo_S4x4x8192x8192_S4x4x8192_d3 h_S_ (ix3 h g t)
      = Finset.sum (M := EReal) (Finset.univ : Finset (Fin 8192)) (fun j => res_main_v34 V0 (ix4 h g t j)) := by pointwise []
  unfold res_main_v172
  have hr := share_real (res_main_v30 V0) (broadcastInDim S4x4x8192 ![0, 1, 2] bcast_S4x4x1_S4x4x8192_0_1_2 (res_main_v29 V0)) (ix3 h g t)
  obtain ⟨S, hS⟩ : ∃ S : FVec Ideal S4x4x8192 .f32, S = (select (cmpf .ogt (res_main_v30 V0) (broadcastInDim S4x4x8192 ![0, 1, 2] bcast_S4x4x1_S4x4x8192_0_1_2 (res_main_v29 V0))) (broadcastInDim S4x4x8192 ![] bcast_S_S4x4x8192 (constant (F := Ideal) S_ .f32 0x3F800000#32)) (select (cmpf .oeq (res_main_v30 V0) (broadcastInDim S4x4x8192 ![0, 1, 2] bcast_S4x4x1_S4x4x8192_0_1_2 (res_main_v29 V0))) (broadcastInDim S4x4x8192 ![] bcast_S_S4x4x8192 (constant (F := Ideal) S_ .f32 0x3F000000#32)) (broadcastInDim S4x4x8192 ![] bcast_S_S4x4x8192 (constant (F := Ideal) S_ .f32 0x00000000#32)))) := ⟨_, rfl⟩
  rw [← hS] at hr ⊢
  obtain ⟨C, hC⟩ : ∃ C : FVec Ideal S4x4x8192 .f32, C = Host.reduceAdd (res_main_v34 V0) (constant (F := Ideal) S_ .f32 0x00000000#32) reducesTo_S4x4x8192x8192_S4x4x8192_d3 h_S_ := ⟨_, rfl⟩
  have hc := count34 H h g t
  rw [← sum34, ← hC] at hc
  rw [← hC]
  have hw : ∃ r : ℝ, res_main_v34 V0 (ix4 h g t j) = (r : EReal) := by obtain ⟨r, h, -⟩ := v34_at (V0 := V0) h g t j; exact ⟨r, h⟩
  have key := zero_part (v146_at H h g t) hr hc hw
  clear hS hC sum34
  pointwise []
  rw [ofBits_scale, v134_at H, v23_1_at, select_bit]
  refine (congrArg (fun x : EReal => if Near t j then (((D.E h g t j / D.Z h g t * (D.dp h g t j - D.dr h g t) : ℝ) : EReal) + x) * (scale : EReal) else 0) key).trans ?_
  unfold Data.dS
  split_ifs with hn
  · rw [← EReal.coe_add, ← EReal.coe_mul, add_zero]
  · rw [Data.E, if_neg hn]; simp [Ideal.ofBits, Ideal.ieee]

omit H in
/-- A query lane's head, group and coordinate. -/
theorem lane_h (h g : Fin 4) (d : Fin 128) (p) : (⟨((h : ℕ) * 512 + g * 128 + d) / 512, p⟩ : Fin 4) = h := Fin.ext (by simp only; omega)
omit H in
theorem lane_g (h g : Fin 4) (d : Fin 128) (p) : (⟨((h : ℕ) * 512 + g * 128 + d) / 128 % 4, p⟩ : Fin 4) = g := Fin.ext (by simp only; omega)
omit H in
theorem lane_d (h g : Fin 4) (d : Fin 128) (p) : (⟨((h : ℕ) * 512 + g * 128 + d) % 128, p⟩ : Fin 128) = d := Fin.ext (by simp only; omega)
omit H in
/-- A key lane's head and coordinate. -/
theorem klane_h (h : Fin 4) (d : Fin 128) (p) : (⟨((h : ℕ) * 128 + d) / 128, p⟩ : Fin 4) = h := Fin.ext (by simp only; omega)
omit H in
theorem klane_d (h : Fin 4) (d : Fin 128) (p) : (⟨((h : ℕ) * 128 + d) % 128, p⟩ : Fin 128) = d := Fin.ext (by simp only; omega)

omit H in
/-- A head's number, read back. -/
theorem head_h (h g : Fin 4) (p) : (⟨((h : ℕ) * 4 + g) / 4, p⟩ : Fin 4) = h := Fin.ext (by simp only; omega)
omit H in
theorem head_g (h g : Fin 4) (p) : (⟨((h : ℕ) * 4 + g) % 4, p⟩ : Fin 4) = g := Fin.ext (by simp only; omega)

/-! ## The results -/

/-- The attention's output. -/
theorem o_eq : truncf .bf16 (shapeCast S8192x2048 (Host.divf (res_main_v96 V0) (broadcastInDim S8192x4x4x128 ![0, 1, 2, 3] bcast_S8192x4x4x1_S8192x4x4x128_0_1_2_3 (res_main_v98 V0))) shapeCasts_S8192x4x4x128_S8192x2048) bitsLt_bf16_f32 = qArr D.O := qArr_ext fun h g t d => by
  pointwise []
  simp only [lane_h, lane_g, lane_d, v96_at H, v98_at H]
  refine (div_real _ (facZ_ne h g t)).trans ?_
  rw [mul_div_mul_left _ _ (fac_ne V0 h g t)]; rfl

/-- The queries' gradient. -/
theorem dq_eq : shapeCast S8192x2048 (addf (transpose S8192x4x4x128 [1, 0, 2, 3] (Host.dotGeneral (φ₁ := .f32) (φ₂ := .f32) dot_S4x256x8192x4_S256x4x128_S4x8192x4x128_1_0_23_2_0_1 none (res_main_v164 V0) (res_main_v8 V0)) transposes_S4x8192x4x128_S8192x4x4x128_1_0_2_3) (transpose S8192x4x4x128 [1, 0, 2, 3] (Host.dotGeneral (φ₁ := .f32) (φ₂ := .f32) dot_S4x8192x8192x4_S8192x4x128_S4x8192x4x128_1_0_23_2_0_1 none (res_main_v172 V0) (res_main_v6 V0)) transposes_S4x8192x4x128_S8192x4x4x128_1_0_2_3)) shapeCasts_S8192x4x4x128_S8192x2048 = qArr D.dq := qArr_ext fun h g t d => by
  pointwise []
  simp only [lane_h, lane_g, lane_d, v164_at H, v172_at H, v8_at H, v6_at H, ← EReal.coe_mul, coe_sum, ← EReal.coe_add]
  refine congrArg _ ?_
  rw [add_comm]; rfl

/-- The keys' gradient. -/
theorem dk_eq : truncf .bf16 (shapeCast S8192x512 (transpose S8192x4x128 [1, 0, 2] (Host.dotGeneral (φ₁ := .f32) (φ₂ := .f32) dot_S4x8192x8192x4_S8192x4x4x128_S4x8192x128_23_02_1_3_0_1 none (res_main_v172 V0) (res_main_v5 V0)) transposes_S4x8192x128_S8192x4x128_1_0_2) shapeCasts_S8192x4x128_S8192x512) bitsLt_bf16_f32 = kArr D.dk := kArr_ext fun h j d => by
  pointwise []
  simp only [klane_h, klane_d, v172_at H, v5_at H, ← EReal.coe_mul, coe_sum]
  refine congrArg _ ?_
  rw [Finset.sum_comm]; rfl

/-- The values' gradient. -/
theorem dv_eq : truncf .bf16 (shapeCast S8192x512 (transpose S8192x4x128 [2, 0, 1] (Host.dotGeneral (φ₁ := .f32) (φ₂ := .f32) dot_S4x128x4x8192_S4x4x8192x8192_S4x128x8192_23_12_1_3_0_0 none (res_main_v128 V0) (res_main_v83 V0)) transposes_S4x128x8192_S8192x4x128_2_0_1) shapeCasts_S8192x4x128_S8192x512) bitsLt_bf16_f32 = kArr D.dv := kArr_ext fun h j d => by
  pointwise [res_main_v128]
  simp only [klane_h, klane_d, v114_at H, v83_at H, ← EReal.coe_mul, coe_sum]
  refine congrArg _ (Finset.sum_congr rfl fun g _ => Finset.sum_congr rfl fun t _ => ?_)
  have h1 := fac_ne V0 h g t
  have h2 := D.Z_ne h g t
  field_simp

/-- The context keys' gradient. -/
theorem dkc_eq : shapeCast S256x512 (transpose S256x4x128 [1, 0, 2] (Host.dotGeneral (φ₁ := .f32) (φ₂ := .f32) dot_S4x256x8192x4_S8192x4x4x128_S4x256x128_23_02_1_3_0_1 none (res_main_v164 V0) (res_main_v5 V0)) transposes_S4x256x128_S256x4x128_1_0_2) shapeCasts_S256x4x128_S256x512 = cArr D.dkc := cArr_ext fun h l d => by
  pointwise []
  simp only [klane_h, klane_d, v164_at H, v5_at H, ← EReal.coe_mul, coe_sum]
  refine congrArg _ ?_
  rw [Finset.sum_comm]; rfl

/-- The context values' gradient. -/
theorem dvc_eq : shapeCast S256x512 (transpose S256x4x128 [2, 0, 1] (Host.dotGeneral (φ₁ := .f32) (φ₂ := .f32) dot_S4x128x4x8192_S4x4x8192x256_S4x128x256_23_12_1_3_0_0 none (res_main_v117 V0) (res_main_v91 V0)) transposes_S4x128x256_S256x4x128_2_0_1) shapeCasts_S256x4x128_S256x512 = cArr D.dvc := cArr_ext fun h l d => by
  pointwise [res_main_v117]
  simp only [klane_h, klane_d, v114_at H, v91_at H, ← EReal.coe_mul, coe_sum]
  refine congrArg _ (Finset.sum_congr rfl fun g _ => Finset.sum_congr rfl fun t _ => ?_)
  have h1 := fac_ne V0 h g t
  have h2 := D.Z_ne h g t
  field_simp

/-- The sinks' gradient. -/
theorem dsink_eq : shapeCast S16x1x1 (Host.reduceAdd (addf (shapeCast S4x4x1 (Host.reduceAdd (res_main_v140 V0) (constant (F := Ideal) S_ .f32 0x00000000#32) reducesTo_S4x4x8192_S4x4_d2 h_S_) shapeCasts_S4x4_S4x4x1) (shapeCast S4x4x1 (Host.reduceAdd (mulf (res_main_v146 V0) (select (cmpf .ogt (broadcastInDim S4x4x8192 ![0, 1, 2] bcast_S4x4x1_S4x4x8192_0_1_2 (res_main_v29 V0)) (res_main_v30 V0)) (broadcastInDim S4x4x8192 ![] bcast_S_S4x4x8192 (constant (F := Ideal) S_ .f32 0x3F800000#32)) (select (cmpf .oeq (broadcastInDim S4x4x8192 ![0, 1, 2] bcast_S4x4x1_S4x4x8192_0_1_2 (res_main_v29 V0)) (res_main_v30 V0)) (broadcastInDim S4x4x8192 ![] bcast_S_S4x4x8192 (constant (F := Ideal) S_ .f32 0x3F000000#32)) (broadcastInDim S4x4x8192 ![] bcast_S_S4x4x8192 (constant (F := Ideal) S_ .f32 0x00000000#32))))) (constant (F := Ideal) S_ .f32 0x00000000#32) reducesTo_S4x4x8192_S4x4_d2 h_S_) shapeCasts_S4x4_S4x4x1)) (constant (F := Ideal) S_ .f32 0x00000000#32) reducesTo_S4x4x1_S4x4_d2 h_S_) shapeCasts_S4x4_S16x1x1 = sArr D.dsink := sArr_ext fun h g => by
  have hr := fun t => share_real (broadcastInDim S4x4x8192 ![0, 1, 2] bcast_S4x4x1_S4x4x8192_0_1_2 (res_main_v29 V0)) (res_main_v30 V0) (ix3 h g t)
  generalize select (cmpf .ogt (broadcastInDim S4x4x8192 ![0, 1, 2] bcast_S4x4x1_S4x4x8192_0_1_2 (res_main_v29 V0)) (res_main_v30 V0)) _ _ = S at hr ⊢
  pointwise []
  simp only [head_h, head_g, v140_at H, coe_sum, Fin.sum_univ_one]
  rw [Finset.sum_eq_zero fun x _ => (mul_zero_real (v146_at H h g x) (hr x)).trans EReal.coe_zero, add_zero]
  refine congrArg _ ?_
  rw [Data.dsink, Finset.sum_neg_distrib]

end Cert.ReferenceIdeal.Attn

end
-- ==== Proof.RefValues.lean ====
/-
  What the reference computes: from arguments that hold the reals of `D`, its run ends with the seven results at the arrays of
  `Spec.lean`.
-/
module

public import proofs.«01_k».proof.Proof.RefGrad

@[expose] public section

set_option maxRecDepth 16384

noncomputable section

namespace Cert.ReferenceIdeal.Attn

open Idealize.ShloMosaic Idealize.ShloMosaic.TcCoe Idealize.ShloMosaic.StableHlo Idealize.SL.Sem
open Cert.ReferenceIdeal Cert.ReferenceIdeal.Gen Cert.ReferenceIdeal.Value Cert.Attn

/-- A memory whose arguments equal arrays that hold the reals of `D` holds them too. -/
theorem holds_of {m : (ℓ : Loc nD τ sig) → Buf (Elt Ideal) ℓ} {c : Dev nD} {D : Data} {a0 a1 a2 a3 a4 a5 a6}
    (h0 : m ((c.tc : Thread nD τ).loc main_arg0) = a0) (h1 : m ((c.tc : Thread nD τ).loc main_arg1) = a1)
    (h2 : m ((c.tc : Thread nD τ).loc main_arg2) = a2) (h3 : m ((c.tc : Thread nD τ).loc main_arg3) = a3)
    (h4 : m ((c.tc : Thread nD τ).loc main_arg4) = a4) (h5 : m ((c.tc : Thread nD τ).loc main_arg5) = a5)
    (h6 : m ((c.tc : Thread nD τ).loc main_arg6) = a6) (R : Reads D a0 a1 a2 a3 a4 a5 a6) : Holds (launchContents m c) D := by
  subst h0 h1 h2 h3 h4 h5 h6
  exact R

/-- The run, read at the results and the arguments. -/
theorem values (m : (ℓ : Loc nD τ sig) → Buf (Elt Ideal) ℓ) (ρ : Dev nD → PrngReg) (E : Dev nD → Data)
    (H : ∀ c, Holds (launchContents m c) (E c)) :
    θ_run defs (onTc (τ := τ) (main (F := Ideal))) ⟨m, fun _ => 0, ρ⟩ (fun r => ∀ c : Dev nD,
      r.2.mem ((c.tc : Thread nD τ).loc main_v183) = qArr (E c).O
      ∧ r.2.mem ((c.tc : Thread nD τ).loc main_v182) = qArr (E c).dq
      ∧ r.2.mem ((c.tc : Thread nD τ).loc main_v184) = kArr (E c).dk
      ∧ r.2.mem ((c.tc : Thread nD τ).loc main_v185) = kArr (E c).dv
      ∧ r.2.mem ((c.tc : Thread nD τ).loc main_v179) = cArr (E c).dkc
      ∧ r.2.mem ((c.tc : Thread nD τ).loc main_v178) = cArr (E c).dvc
      ∧ r.2.mem ((c.tc : Thread nD τ).loc main_v161) = sArr (E c).dsink
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => by
    obtain ⟨h0, h1, h2, h3, h4, h5, h6, ha⟩ := h c
    exact ⟨h0.trans (o_eq (H c)), h1.trans (dq_eq (H c)), h2.trans (dk_eq (H c)), h3.trans (dv_eq (H c)), h4.trans (dkc_eq (H c)),
      h5.trans (dvc_eq (H c)), h6.trans (dsink_eq (H c)), ha⟩)
    (Cert.ReferenceIdeal.Value.run (F := Ideal) m ρ)

end Cert.ReferenceIdeal.Attn

end
-- ==== Proof.MatSum.lean ====
/-
  The three products of a layer and its gradients, as sums over one axis, and a sum over an axis cut into blocks: what a
  program that adds up its blocks one after another has to do with the product.
-/
module

public import Idealize.ShloMosaic.Lib.Pointwise
public import Mathlib.Logic.Equiv.Fin.Basic

@[expose] public section

noncomputable section

namespace Cert.Mat

open Idealize.ShloMosaic

/-- A sum over an axis is the sum over its blocks of the sums over each block. -/
theorem sum_blocks {M : Type} [AddCommMonoid M] {N : ℕ} (n b : ℕ) (hN : N = n * b) (g : Fin N → M) (idx : Fin n → Fin b → Fin N)
    (hidx : ∀ s r, (idx s r).val = b * s.val + r.val) : ∑ k, g k = ∑ s, ∑ r, g (idx s r) := by
  subst hN
  rw [← Fintype.sum_prod_type']
  refine (Fintype.sum_equiv finProdFinEquiv _ _ fun x => congrArg g (Fin.ext ?_)).symm
  rw [hidx]
  exact (Nat.add_comm _ _)

variable {K M N : ℕ}

/-- The indices of a matrix. -/
abbrev Ix (M N : ℕ) : Type := Shape.Idx ⟨2, ![M, N]⟩

/-- An entry of `A · B`. -/
def nn (A : Ix M K → EReal) (B : Ix K N → EReal) (i : Fin M) (j : Fin N) : EReal := ∑ k : Fin K, A (ix2 i k) * B (ix2 k j)

/-- An entry of `A · Bᵀ`. -/
def nt (A : Ix M K → EReal) (B : Ix N K → EReal) (i : Fin M) (j : Fin N) : EReal := ∑ k : Fin K, A (ix2 i k) * B (ix2 j k)

/-- An entry of `Aᵀ · B`. -/
def tn (A : Ix K M → EReal) (B : Ix K N → EReal) (i : Fin M) (j : Fin N) : EReal := ∑ k : Fin K, A (ix2 k i) * B (ix2 k j)

/-- An entry of a sum with an array. -/
def plus (C : Ix M N → EReal) (f : Fin M → Fin N → EReal) (i : Fin M) (j : Fin N) : EReal := C (ix2 i j) + f i j

/-- The array with given entries. -/
def arr (f : Fin M → Fin N → EReal) : Ix M N → EReal := fun y => f (y 0) (y 1)

/-- An array's entry at an index given by its coordinates. -/
theorem arr_at (f : Fin M → Fin N → EReal) (i : Fin M) (j : Fin N) (y : Ix M N) (h0 : (y 0).val = i.val) (h1 : (y 1).val = j.val) :
    arr f y = f i j := congrArg₂ f (Fin.ext h0) (Fin.ext h1)

end Cert.Mat

end
-- ==== Proof.MatUp.lean ====
/-
  An up projection: the tiled product `h · w`, each of its blocks formed at once, holds the product, and so does the
  reference's array.
-/
module

public import proofs.«01_k».proof.Defs
public import proofs.«01_k».proof.Proof.MatSum
public import proofs.«01_k».proof.Proof.Gen.UpIdeal.Value
public import proofs.«01_k».proof.Proof.Gen.UpRefIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.UpIdeal.Mat

open Idealize.ShloMosaic Idealize.ShloMosaic.TcCoe Idealize.ShloMosaic.Pipeline Idealize.SL.Sem
open Cert.UpIdeal Cert.UpIdeal.Gen Cert.Mat

variable (m : (ℓ : Loc nD τ sig) → Buf (Elt Ideal) ℓ) (c : Dev nD)

/-- Where each window's block lies at a point. -/
theorem idx : ∀ t : Fin cfg0.N, win0_0.index t = ![t.val / 4, 0] ∧ win0_1.index t = ![0, t.val % 4]
    ∧ win0_2.index t = ![t.val / 4, t.val % 4] :=
  (by decide +kernel : ∀ t : Fin grid0.N, _)

/-- The two arguments. -/
abbrev argA : FVec Ideal S8192x2048 .bf16 := V m c main_arg0
abbrev argB : FVec Ideal S2048x5632 .bf16 := V m c main_arg1

/-- A block of the output is that block of the product. -/
theorem out (t : Fin cfg0.N) (i : Fin 1024) (j : Fin 1408) (I : Fin 8192) (J : Fin 5632)
    (hI : I.val = t.val / 4 * 1024 + i.val) (hJ : J.val = t.val % 4 * 1408 + j.val) :
    out0_2 (F := Ideal) (iblk m c 0 t) (iblk m c 1 t) (ix2 i j) = nn (argA m c) (argB m c) I J := by
  refine Eq.trans (b := nn (iblk m c 0 t : FVec Ideal S1024x2048 .bf16) (iblk m c 1 t : FVec Ideal S2048x1408 .bf16) i j) ?_
    (Finset.sum_congr rfl fun r _ => congrArg₂ (· * ·) ?_ ?_)
  · frame_out
    pointwise [k0_pay1, nn]
  · blk_ext [iblk, idx t]
  · blk_ext [iblk, idx t]

/-- The output holds the product. -/
theorem final : (dats m 0 c).arrAt 2 cfg0.N = arr (nn (argA m c) (argB m c)) := by
  refine (dats m 0 c).arrAt_eq_of_covers 2 (arr (nn (argA m c) (argB m c))) (by decide +kernel) fun t hf y => ?_
  blk_simp
  rw [after0_2]
  refine ((congrArg _ (eq_ix2 y)).trans (out m c t (y 0) (y 1) _ _ ?_ ?_)).trans rfl
  · blk_simp [idx t]
  · blk_simp [idx t]

/-- The reference's array is the product too. -/
theorem reference (A : FVec Ideal S8192x2048 .bf16) (B : FVec Ideal S2048x5632 .bf16) :
    Host.dotGeneral Cert.UpRefIdeal.dot_S8192x2048_S2048x5632_S8192x5632_1_0_0_1_n_n none (extf .f32 A Cert.UpRefIdeal.Gen.bitsLt_bf16_f32)
      (extf .f32 B Cert.UpRefIdeal.Gen.bitsLt_bf16_f32) = arr (nn A B) := by
  funext y
  refine Eq.trans ?_ (arr_at (nn A B) (y 0) (y 1) y rfl rfl).symm
  pointwise [nn]

/-- From equal arguments the tiled product and the reference end with equal results. -/
theorem same : Cert.algebraic_UpIdeal_UpRefIdeal := by
  intro m ρ m' ρ' _ hagree
  refine ⟨fun c => arr (nn (argA m c) (argB m c)),
    (θ_run _ _ _).mono (fun r h c => ⟨(h c).1.trans (final m c), (h c).2⟩) (Cert.UpIdeal.Value.run_blocks (F := Ideal) m ρ),
    (θ_run _ _ _).mono (fun r h c => ⟨(h c).1.trans ((reference _ _).trans ?_), (h c).2⟩) (Cert.UpRefIdeal.Value.run (F := Ideal) m' ρ')⟩
  rw [(hagree c).1, (hagree c).2]

/-- The reference runs without fault, keeps its arguments, and has no counter. -/
theorem ref_frame : Cert.quiescent_UpRefIdeal := fun m ρ _ =>
  (θ_run _ _ _).mono (fun r h => ⟨fun c => (h c).2, sem_eq_zero_of_no_sems (by decide) r.2⟩) (Cert.UpRefIdeal.Value.run (F := Ideal) m ρ)

end Cert.UpIdeal.Mat

end
-- ==== Proof.MatDown.lean ====
/-
  The down projection: the tiled product `f · w`, its summed axis in two blocks added up in a scratch, holds the
  product, and so does the reference's array.
-/
module

public import proofs.«01_k».proof.Defs
public import proofs.«01_k».proof.Proof.MatSum
public import proofs.«01_k».proof.Proof.Gen.DownIdeal.Value
public import proofs.«01_k».proof.Proof.Gen.DownRefIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.DownIdeal.Mat

open Idealize.ShloMosaic Idealize.ShloMosaic.TcCoe Idealize.ShloMosaic.Pipeline Idealize.SL.Sem
open Cert.DownIdeal Cert.DownIdeal.Gen Cert.Mat

variable (m : (ℓ : Loc nD τ sig) → Buf (Elt Ideal) ℓ) (c : Dev nD)

/-- Place `r` of block `s` of the summed axis. -/
abbrev kpos (s : Fin 2) (r : Fin 2816) : Fin 5632 := ⟨2816 * s.val + r.val, by omega⟩

/-- Where each window's block lies at a point. -/
theorem idx : ∀ t : Fin cfg0.N, win0_0.index t = ![t.val / 4, t.val % 2] ∧ win0_1.index t = ![t.val % 2, t.val / 2 % 2]
    ∧ win0_2.index t = ![t.val / 4, t.val / 2 % 2] :=
  (by decide +kernel : ∀ t : Fin grid0.N, _)

/-- The two arguments. -/
abbrev argA : FVec Ideal S8192x5632 .bf16 := V m c main_arg0
abbrev argB : FVec Ideal S5632x2048 .bf16 := V m c main_arg1

/-- A block's product: the part of the sum in that block. -/
theorem part (t : Fin cfg0.N) (s : Fin 2) (i : Fin 1024) (j : Fin 1024) (I : Fin 8192) (J : Fin 2048) (hs : t.val % 2 = s.val)
    (hI : I.val = t.val / 4 * 1024 + i.val) (hJ : J.val = t.val / 2 % 2 * 1024 + j.val) :
    nn (iblk m c 0 t : FVec Ideal S1024x2816 .bf16) (iblk m c 1 t : FVec Ideal S2816x1024 .bf16) i j
      = ∑ r : Fin 2816, argA m c (ix2 I (kpos s r)) * argB m c (ix2 (kpos s r) J) := by
  refine Finset.sum_congr rfl fun r _ => congrArg₂ (· * ·) ?_ ?_
  · blk_ext [iblk, idx t, kpos]
  · blk_ext [iblk, idx t, kpos]

/-- The scratch after the first block. -/
theorem acc (t : Fin cfg0.N) (h : t.val % 2 = 0) (i : Fin 1024) (j : Fin 1024) :
    (outsAt0 m c t.val t.isLt).2 (ix2 i j) = nn (iblk m c 0 t : FVec Ideal S1024x2816 .bf16) (iblk m c 1 t : FVec Ideal S2816x1024 .bf16) i j := by
  rw [outsAt0_A m c t h (by omega)]
  dsimp only
  frame_out
  pointwise [k0_pay1, nn]

/-- The output's block after the second. -/
theorem out_B (t : Fin cfg0.N) (h : t.val % 2 = 1) (i : Fin 1024) (j : Fin 1024) :
    (outsAt0 m c t.val t.isLt).1 (ix2 i j) = (outsAt0 m c (t.val - 1) (by omega)).2 (ix2 i j)
      + nn (iblk m c 0 t : FVec Ideal S1024x2816 .bf16) (iblk m c 1 t : FVec Ideal S2816x1024 .bf16) i j := by
  rw [outsAt0_B m c t (by omega) h]
  dsimp only
  frame_out
  simp only [read_unread_whole]
  pointwise [k0_pay2, nn]

/-- A block of the output is that block of the product. -/
theorem out (t : Fin cfg0.N) (h : t.val % 2 = 1) (i : Fin 1024) (j : Fin 1024) (I : Fin 8192) (J : Fin 2048)
    (hI : I.val = t.val / 4 * 1024 + i.val) (hJ : J.val = t.val / 2 % 2 * 1024 + j.val) :
    (outsAt0 m c t.val t.isLt).1 (ix2 i j) = nn (argA m c) (argB m c) I J := by
  rw [out_B m c t h, acc m c ⟨t.val - 1, by omega⟩ (by dsimp only; omega), part m c t 1 i j I J h hI hJ,
    part m c ⟨t.val - 1, by omega⟩ 0 i j I J (by dsimp only; omega) (by dsimp only; omega) (by dsimp only; omega)]
  unfold nn
  rw [sum_blocks 2 2816 rfl _ kpos fun _ _ => rfl, Fin.sum_univ_two]

/-- The output holds the product. -/
theorem final : (dats m 0 c).arrAt 2 cfg0.N = arr (nn (argA m c) (argB m c)) := by
  refine (dats m 0 c).arrAt_eq_of_covers 2 (arr (nn (argA m c) (argB m c))) (by decide +kernel) fun t hf y => ?_
  have h : t.val % 2 = 1 := (by decide +kernel : ∀ t : Fin cfg0.N, win0_2.flush t = true → t.val % 2 = 1) t hf
  blk_simp
  rw [after0_2]
  refine ((congrArg _ (eq_ix2 y)).trans (out m c t h (y 0) (y 1) _ _ ?_ ?_)).trans rfl
  · blk_simp [idx t]
  · blk_simp [idx t]

/-- The reference's array is the product too. -/
theorem reference (A : FVec Ideal S8192x5632 .bf16) (B : FVec Ideal S5632x2048 .bf16) :
    Host.dotGeneral Cert.DownRefIdeal.dot_S8192x5632_S5632x2048_S8192x2048_1_0_0_1_n_n none (extf .f32 A Cert.DownRefIdeal.Gen.bitsLt_bf16_f32)
      (extf .f32 B Cert.DownRefIdeal.Gen.bitsLt_bf16_f32) = arr (nn A B) := by
  funext y
  refine Eq.trans ?_ (arr_at (nn A B) (y 0) (y 1) y rfl rfl).symm
  pointwise [nn]

/-- From equal arguments the tiled product and the reference end with equal results. -/
theorem same : Cert.algebraic_DownIdeal_DownRefIdeal := by
  intro m ρ m' ρ' _ hagree
  refine ⟨fun c => arr (nn (argA m c) (argB m c)),
    (θ_run _ _ _).mono (fun r h c => ⟨(h c).1.trans (final m c), (h c).2⟩) (Cert.DownIdeal.Value.run_blocks (F := Ideal) m ρ),
    (θ_run _ _ _).mono (fun r h c => ⟨(h c).1.trans ((reference _ _).trans ?_), (h c).2⟩) (Cert.DownRefIdeal.Value.run (F := Ideal) m' ρ')⟩
  rw [(hagree c).1, (hagree c).2]

/-- The reference runs without fault, keeps its arguments, and has no counter. -/
theorem ref_frame : Cert.quiescent_DownRefIdeal := fun m ρ _ =>
  (θ_run _ _ _).mono (fun r h => ⟨fun c => (h c).2, sem_eq_zero_of_no_sems (by decide) r.2⟩) (Cert.DownRefIdeal.Value.run (F := Ideal) m ρ)

end Cert.DownIdeal.Mat

end
-- ==== Proof.MatDf.lean ====
/-
  The down projection's input gradient: the tiled product `d · wᵀ`, each of its blocks formed at once, holds the
  product, and so does the reference's array.
-/
module

public import proofs.«01_k».proof.Defs
public import proofs.«01_k».proof.Proof.MatSum
public import proofs.«01_k».proof.Proof.Gen.DfIdeal.Value
public import proofs.«01_k».proof.Proof.Gen.DfRefIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.DfIdeal.Mat

open Idealize.ShloMosaic Idealize.ShloMosaic.TcCoe Idealize.ShloMosaic.Pipeline Idealize.SL.Sem
open Cert.DfIdeal Cert.DfIdeal.Gen Cert.Mat

variable (m : (ℓ : Loc nD τ sig) → Buf (Elt Ideal) ℓ) (c : Dev nD)

/-- Where each window's block lies at a point. -/
theorem idx : ∀ t : Fin cfg0.N, win0_0.index t = ![t.val / 4, 0] ∧ win0_1.index t = ![t.val % 4, 0]
    ∧ win0_2.index t = ![t.val / 4, t.val % 4] :=
  (by decide +kernel : ∀ t : Fin grid0.N, _)

/-- The two arguments. -/
abbrev argA : FVec Ideal S8192x2048 .bf16 := V m c main_arg0
abbrev argB : FVec Ideal S5632x2048 .bf16 := V m c main_arg1

/-- A block of the output is that block of the product. -/
theorem out (t : Fin cfg0.N) (i : Fin 1024) (j : Fin 1408) (I : Fin 8192) (J : Fin 5632)
    (hI : I.val = t.val / 4 * 1024 + i.val) (hJ : J.val = t.val % 4 * 1408 + j.val) :
    out0_2 (F := Ideal) (iblk m c 0 t) (iblk m c 1 t) (ix2 i j) = nt (argA m c) (argB m c) I J := by
  refine Eq.trans (b := nt (iblk m c 0 t : FVec Ideal S1024x2048 .bf16) (iblk m c 1 t : FVec Ideal S1408x2048 .bf16) i j) ?_
    (Finset.sum_congr rfl fun r _ => congrArg₂ (· * ·) ?_ ?_)
  · frame_out
    pointwise [k0_pay1, nt]
  · blk_ext [iblk, idx t]
  · blk_ext [iblk, idx t]

/-- The output holds the product. -/
theorem final : (dats m 0 c).arrAt 2 cfg0.N = arr (nt (argA m c) (argB m c)) := by
  refine (dats m 0 c).arrAt_eq_of_covers 2 (arr (nt (argA m c) (argB m c))) (by decide +kernel) fun t hf y => ?_
  blk_simp
  rw [after0_2]
  refine ((congrArg _ (eq_ix2 y)).trans (out m c t (y 0) (y 1) _ _ ?_ ?_)).trans rfl
  · blk_simp [idx t]
  · blk_simp [idx t]

/-- The reference's array is the product too. -/
theorem reference (A : FVec Ideal S8192x2048 .bf16) (B : FVec Ideal S5632x2048 .bf16) :
    truncf .bf16 (Host.dotGeneral Cert.DfRefIdeal.dot_S8192x2048_S5632x2048_S8192x5632_1_1_0_0_n_n none (extf .f32 A Cert.DfRefIdeal.Gen.bitsLt_bf16_f32)
      (extf .f32 B Cert.DfRefIdeal.Gen.bitsLt_bf16_f32)) Cert.DfRefIdeal.Gen.bitsLt_bf16_f32 = arr (nt A B) := by
  funext y
  refine Eq.trans ?_ (arr_at (nt A B) (y 0) (y 1) y rfl rfl).symm
  pointwise [nt]

/-- From equal arguments the tiled product and the reference end with equal results. -/
theorem same : Cert.algebraic_DfIdeal_DfRefIdeal := by
  intro m ρ m' ρ' _ hagree
  refine ⟨fun c => arr (nt (argA m c) (argB m c)),
    (θ_run _ _ _).mono (fun r h c => ⟨(h c).1.trans (final m c), (h c).2⟩) (Cert.DfIdeal.Value.run_blocks (F := Ideal) m ρ),
    (θ_run _ _ _).mono (fun r h c => ⟨(h c).1.trans ((reference _ _).trans ?_), (h c).2⟩) (Cert.DfRefIdeal.Value.run (F := Ideal) m' ρ')⟩
  rw [(hagree c).1, (hagree c).2]

/-- The reference runs without fault, keeps its arguments, and has no counter. -/
theorem ref_frame : Cert.quiescent_DfRefIdeal := fun m ρ _ =>
  (θ_run _ _ _).mono (fun r h => ⟨fun c => (h c).2, sem_eq_zero_of_no_sems (by decide) r.2⟩) (Cert.DfRefIdeal.Value.run (F := Ideal) m ρ)

end Cert.DfIdeal.Mat

end
-- ==== Proof.MatDwDown.lean ====
/-
  The down projection's weight gradient: the tiled product `fᵀ · d`, its rows in four blocks added up in a scratch,
  holds the product, and so does the reference's array.
-/
module

public import proofs.«01_k».proof.Defs
public import proofs.«01_k».proof.Proof.MatSum
public import proofs.«01_k».proof.Proof.Gen.DwDownIdeal.Value
public import proofs.«01_k».proof.Proof.Gen.DwDownRefIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.DwDownIdeal.Mat

open Idealize.ShloMosaic Idealize.ShloMosaic.TcCoe Idealize.ShloMosaic.Pipeline Idealize.SL.Sem
open Cert.DwDownIdeal Cert.DwDownIdeal.Gen Cert.Mat

variable (m : (ℓ : Loc nD τ sig) → Buf (Elt Ideal) ℓ) (c : Dev nD)

/-- Row `r` of block `s` of the summed axis. -/
abbrev kpos (s : Fin 4) (r : Fin 2048) : Fin 8192 := ⟨2048 * s.val + r.val, by omega⟩

/-- Where each window's block lies at a point. -/
theorem idx : ∀ t : Fin cfg0.N, win0_0.index t = ![t.val % 4, t.val / 8] ∧ win0_1.index t = ![t.val % 4, t.val / 4 % 2]
    ∧ win0_2.index t = ![t.val / 8, t.val / 4 % 2] :=
  (by decide +kernel : ∀ t : Fin grid0.N, _)

/-- The two arguments. -/
abbrev argA : FVec Ideal S8192x5632 .bf16 := V m c main_arg0
abbrev argB : FVec Ideal S8192x2048 .bf16 := V m c main_arg1

/-- A block's product: the part of the sum in that block. -/
theorem part (t : Fin cfg0.N) (s : Fin 4) (i : Fin 1408) (j : Fin 1024) (I : Fin 5632) (J : Fin 2048) (hs : t.val % 4 = s.val)
    (hI : I.val = t.val / 8 * 1408 + i.val) (hJ : J.val = t.val / 4 % 2 * 1024 + j.val) :
    tn (iblk m c 0 t : FVec Ideal S2048x1408 .bf16) (iblk m c 1 t : FVec Ideal S2048x1024 .bf16) i j
      = ∑ r : Fin 2048, argA m c (ix2 (kpos s r) I) * argB m c (ix2 (kpos s r) J) := by
  refine Finset.sum_congr rfl fun r _ => congrArg₂ (· * ·) ?_ ?_
  · blk_ext [iblk, idx t, kpos]
  · blk_ext [iblk, idx t, kpos]

/-- The scratch after the first block. -/
theorem acc_A (t : Fin cfg0.N) (h : t.val % 4 = 0) (i : Fin 1408) (j : Fin 1024) :
    (outsAt0 m c t.val t.isLt).2 (ix2 i j) = tn (iblk m c 0 t : FVec Ideal S2048x1408 .bf16) (iblk m c 1 t : FVec Ideal S2048x1024 .bf16) i j := by
  rw [outsAt0_A m c t h (by omega) (by omega)]
  dsimp only
  frame_out
  pointwise [k0_pay1, tn]

/-- The scratch after a later block. -/
theorem acc_B (t : Fin cfg0.N) (h : 1 ≤ t.val % 4 ∧ t.val % 4 ≤ 2) (i : Fin 1408) (j : Fin 1024) :
    (outsAt0 m c t.val t.isLt).2 (ix2 i j) = (outsAt0 m c (t.val - 1) (by omega)).2 (ix2 i j)
      + tn (iblk m c 0 t : FVec Ideal S2048x1408 .bf16) (iblk m c 1 t : FVec Ideal S2048x1024 .bf16) i j := by
  rw [outsAt0_B m c t (by omega) h (by omega)]
  dsimp only
  frame_out
  simp only [read_unread_whole]
  pointwise [k0_pay2, tn]

/-- The output's block after the last block. -/
theorem out_C (t : Fin cfg0.N) (h : t.val % 4 = 3) (i : Fin 1408) (j : Fin 1024) :
    (outsAt0 m c t.val t.isLt).1 (ix2 i j) = (outsAt0 m c (t.val - 1) (by omega)).2 (ix2 i j)
      + tn (iblk m c 0 t : FVec Ideal S2048x1408 .bf16) (iblk m c 1 t : FVec Ideal S2048x1024 .bf16) i j := by
  rw [outsAt0_C m c t (by omega) (by omega) h]
  dsimp only
  frame_out
  simp only [read_unread_whole]
  pointwise [k0_pay3, tn]

/-- A block of the output is that block of the product. -/
theorem out (t : Fin cfg0.N) (h : t.val % 4 = 3) (i : Fin 1408) (j : Fin 1024) (I : Fin 5632) (J : Fin 2048)
    (hI : I.val = t.val / 8 * 1408 + i.val) (hJ : J.val = t.val / 4 % 2 * 1024 + j.val) :
    (outsAt0 m c t.val t.isLt).1 (ix2 i j) = tn (argA m c) (argB m c) I J := by
  rw [out_C m c t h, acc_B m c ⟨t.val - 1, by omega⟩ (by dsimp only; omega), acc_B m c ⟨t.val - 1 - 1, by omega⟩ (by dsimp only; omega),
    acc_A m c ⟨t.val - 1 - 1 - 1, by omega⟩ (by dsimp only; omega),
    part m c t 3 i j I J h hI hJ, part m c ⟨t.val - 1, by omega⟩ 2 i j I J (by dsimp only; omega) (by dsimp only; omega) (by dsimp only; omega),
    part m c ⟨t.val - 1 - 1, by omega⟩ 1 i j I J (by dsimp only; omega) (by dsimp only; omega) (by dsimp only; omega),
    part m c ⟨t.val - 1 - 1 - 1, by omega⟩ 0 i j I J (by dsimp only; omega) (by dsimp only; omega) (by dsimp only; omega)]
  unfold tn
  rw [sum_blocks 4 2048 rfl _ kpos fun _ _ => rfl, Fin.sum_univ_four]

/-- The output holds the product. -/
theorem final : (dats m 0 c).arrAt 2 cfg0.N = arr (tn (argA m c) (argB m c)) := by
  refine (dats m 0 c).arrAt_eq_of_covers 2 (arr (tn (argA m c) (argB m c))) (by decide +kernel) fun t hf y => ?_
  have h : t.val % 4 = 3 := (by decide +kernel : ∀ t : Fin cfg0.N, win0_2.flush t = true → t.val % 4 = 3) t hf
  blk_simp
  rw [after0_2]
  refine ((congrArg _ (eq_ix2 y)).trans (out m c t h (y 0) (y 1) _ _ ?_ ?_)).trans rfl
  · blk_simp [idx t]
  · blk_simp [idx t]

/-- The reference's array is the product too. -/
theorem reference (A : FVec Ideal S8192x5632 .bf16) (B : FVec Ideal S8192x2048 .bf16) :
    truncf .bf16 (transpose S5632x2048 [1, 0] (Host.dotGeneral Cert.DwDownRefIdeal.dot_S8192x2048_S8192x5632_S2048x5632_0_0_1_1_n_n none
      (extf .f32 B Cert.DwDownRefIdeal.Gen.bitsLt_bf16_f32) (extf .f32 A Cert.DwDownRefIdeal.Gen.bitsLt_bf16_f32))
      Cert.DwDownRefIdeal.Gen.transposes_S2048x5632_S5632x2048_1_0) Cert.DwDownRefIdeal.Gen.bitsLt_bf16_f32
      = arr (tn A B) := by
  funext y
  refine Eq.trans ?_ (arr_at (tn A B) (y 0) (y 1) y rfl rfl).symm
  pointwise [tn]
  exact Finset.sum_congr rfl fun k _ => mul_comm _ _

/-- From equal arguments the tiled product and the reference end with equal results. -/
theorem same : Cert.algebraic_DwDownIdeal_DwDownRefIdeal := by
  intro m ρ m' ρ' _ hagree
  refine ⟨fun c => arr (tn (argA m c) (argB m c)),
    (θ_run _ _ _).mono (fun r h c => ⟨(h c).1.trans (final m c), (h c).2⟩) (Cert.DwDownIdeal.Value.run_blocks (F := Ideal) m ρ),
    (θ_run _ _ _).mono (fun r h c => ⟨(h c).1.trans ((reference _ _).trans ?_), (h c).2⟩) (Cert.DwDownRefIdeal.Value.run (F := Ideal) m' ρ')⟩
  rw [(hagree c).1, (hagree c).2]

/-- The reference runs without fault, keeps its arguments, and has no counter. -/
theorem ref_frame : Cert.quiescent_DwDownRefIdeal := fun m ρ _ =>
  (θ_run _ _ _).mono (fun r h => ⟨fun c => (h c).2, sem_eq_zero_of_no_sems (by decide) r.2⟩) (Cert.DwDownRefIdeal.Value.run (F := Ideal) m ρ)

end Cert.DwDownIdeal.Mat

end
-- ==== Proof.MatDh.lean ====
/-
  The input's gradient of an up projection: the tiled product `d · wᵀ`, its summed axis in two blocks added up in a
  scratch, holds the product, and so does the reference's array.
-/
module

public import proofs.«01_k».proof.Defs
public import proofs.«01_k».proof.Proof.MatSum
public import proofs.«01_k».proof.Proof.Gen.DhIdeal.Value
public import proofs.«01_k».proof.Proof.Gen.DhRefIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.DhIdeal.Mat

open Idealize.ShloMosaic Idealize.ShloMosaic.TcCoe Idealize.ShloMosaic.Pipeline Idealize.SL.Sem
open Cert.DhIdeal Cert.DhIdeal.Gen Cert.Mat

variable (m : (ℓ : Loc nD τ sig) → Buf (Elt Ideal) ℓ) (c : Dev nD)

/-- Place `r` of block `s` of the summed axis. -/
abbrev kpos (s : Fin 2) (r : Fin 2816) : Fin 5632 := ⟨2816 * s.val + r.val, by omega⟩

/-- Where each window's block lies at a point. -/
theorem idx : ∀ t : Fin cfg0.N, win0_0.index t = ![t.val / 4, t.val % 2] ∧ win0_1.index t = ![t.val / 2 % 2, t.val % 2]
    ∧ win0_2.index t = ![t.val / 4, t.val / 2 % 2] :=
  (by decide +kernel : ∀ t : Fin grid0.N, _)

/-- The two arguments. -/
abbrev argA : FVec Ideal S8192x5632 .bf16 := V m c main_arg0
abbrev argB : FVec Ideal S2048x5632 .bf16 := V m c main_arg1

/-- A block's product: the part of the sum in that block. -/
theorem part (t : Fin cfg0.N) (s : Fin 2) (i : Fin 1024) (j : Fin 1024) (I : Fin 8192) (J : Fin 2048) (hs : t.val % 2 = s.val)
    (hI : I.val = t.val / 4 * 1024 + i.val) (hJ : J.val = t.val / 2 % 2 * 1024 + j.val) :
    nt (iblk m c 0 t : FVec Ideal S1024x2816 .bf16) (iblk m c 1 t : FVec Ideal S1024x2816 .bf16) i j
      = ∑ r : Fin 2816, argA m c (ix2 I (kpos s r)) * argB m c (ix2 J (kpos s r)) := by
  refine Finset.sum_congr rfl fun r _ => congrArg₂ (· * ·) ?_ ?_
  · blk_ext [iblk, idx t, kpos]
  · blk_ext [iblk, idx t, kpos]

/-- The scratch after the first block. -/
theorem acc (t : Fin cfg0.N) (h : t.val % 2 = 0) (i : Fin 1024) (j : Fin 1024) :
    (outsAt0 m c t.val t.isLt).2 (ix2 i j) = nt (iblk m c 0 t : FVec Ideal S1024x2816 .bf16) (iblk m c 1 t : FVec Ideal S1024x2816 .bf16) i j := by
  rw [outsAt0_A m c t h (by omega)]
  dsimp only
  frame_out
  pointwise [k0_pay1, nt]

/-- The output's block after the second. -/
theorem out_B (t : Fin cfg0.N) (h : t.val % 2 = 1) (i : Fin 1024) (j : Fin 1024) :
    (outsAt0 m c t.val t.isLt).1 (ix2 i j) = (outsAt0 m c (t.val - 1) (by omega)).2 (ix2 i j)
      + nt (iblk m c 0 t : FVec Ideal S1024x2816 .bf16) (iblk m c 1 t : FVec Ideal S1024x2816 .bf16) i j := by
  rw [outsAt0_B m c t (by omega) h]
  dsimp only
  frame_out
  simp only [read_unread_whole]
  pointwise [k0_pay2, nt]

/-- A block of the output is that block of the product. -/
theorem out (t : Fin cfg0.N) (h : t.val % 2 = 1) (i : Fin 1024) (j : Fin 1024) (I : Fin 8192) (J : Fin 2048)
    (hI : I.val = t.val / 4 * 1024 + i.val) (hJ : J.val = t.val / 2 % 2 * 1024 + j.val) :
    (outsAt0 m c t.val t.isLt).1 (ix2 i j) = nt (argA m c) (argB m c) I J := by
  rw [out_B m c t h, acc m c ⟨t.val - 1, by omega⟩ (by dsimp only; omega), part m c t 1 i j I J h hI hJ,
    part m c ⟨t.val - 1, by omega⟩ 0 i j I J (by dsimp only; omega) (by dsimp only; omega) (by dsimp only; omega)]
  unfold nt
  rw [sum_blocks 2 2816 rfl _ kpos fun _ _ => rfl, Fin.sum_univ_two]

/-- The output holds the product. -/
theorem final : (dats m 0 c).arrAt 2 cfg0.N = arr (nt (argA m c) (argB m c)) := by
  refine (dats m 0 c).arrAt_eq_of_covers 2 (arr (nt (argA m c) (argB m c))) (by decide +kernel) fun t hf y => ?_
  have h : t.val % 2 = 1 := (by decide +kernel : ∀ t : Fin cfg0.N, win0_2.flush t = true → t.val % 2 = 1) t hf
  blk_simp
  rw [after0_2]
  refine ((congrArg _ (eq_ix2 y)).trans (out m c t h (y 0) (y 1) _ _ ?_ ?_)).trans rfl
  · blk_simp [idx t]
  · blk_simp [idx t]

/-- The reference's array is the product too. -/
theorem reference (A : FVec Ideal S8192x5632 .bf16) (B : FVec Ideal S2048x5632 .bf16) :
    Host.dotGeneral Cert.DhRefIdeal.dot_S8192x5632_S2048x5632_S8192x2048_1_1_0_0_n_n none (extf .f32 A Cert.DhRefIdeal.Gen.bitsLt_bf16_f32)
      (extf .f32 B Cert.DhRefIdeal.Gen.bitsLt_bf16_f32) = arr (nt A B) := by
  funext y
  refine Eq.trans ?_ (arr_at (nt A B) (y 0) (y 1) y rfl rfl).symm
  pointwise [nt]

/-- From equal arguments the tiled product and the reference end with equal results. -/
theorem same : Cert.algebraic_DhIdeal_DhRefIdeal := by
  intro m ρ m' ρ' _ hagree
  refine ⟨fun c => arr (nt (argA m c) (argB m c)),
    (θ_run _ _ _).mono (fun r h c => ⟨(h c).1.trans (final m c), (h c).2⟩) (Cert.DhIdeal.Value.run_blocks (F := Ideal) m ρ),
    (θ_run _ _ _).mono (fun r h c => ⟨(h c).1.trans ((reference _ _).trans ?_), (h c).2⟩) (Cert.DhRefIdeal.Value.run (F := Ideal) m' ρ')⟩
  rw [(hagree c).1, (hagree c).2]

/-- The reference runs without fault, keeps its arguments, and has no counter. -/
theorem ref_frame : Cert.quiescent_DhRefIdeal := fun m ρ _ =>
  (θ_run _ _ _).mono (fun r h => ⟨fun c => (h c).2, sem_eq_zero_of_no_sems (by decide) r.2⟩) (Cert.DhRefIdeal.Value.run (F := Ideal) m ρ)

end Cert.DhIdeal.Mat

end
-- ==== Proof.MatDhAdd.lean ====
/-
  The input's gradient of an up projection, added to another: the tiled product `d · wᵀ`, its summed axis in two
  blocks added up in a scratch, and the array it is added to, hold the sum, and so does the reference's array.
-/
module

public import proofs.«01_k».proof.Defs
public import proofs.«01_k».proof.Proof.MatSum
public import proofs.«01_k».proof.Proof.Gen.DhAddIdeal.Value
public import proofs.«01_k».proof.Proof.Gen.DhAddRefIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.DhAddIdeal.Mat

open Idealize.ShloMosaic Idealize.ShloMosaic.TcCoe Idealize.ShloMosaic.Pipeline Idealize.SL.Sem
open Cert.DhAddIdeal Cert.DhAddIdeal.Gen Cert.Mat

variable (m : (ℓ : Loc nD τ sig) → Buf (Elt Ideal) ℓ) (c : Dev nD)

/-- Place `r` of block `s` of the summed axis. -/
abbrev kpos (s : Fin 2) (r : Fin 2816) : Fin 5632 := ⟨2816 * s.val + r.val, by omega⟩

/-- Where each window's block lies at a point. -/
theorem idx : ∀ t : Fin cfg0.N, win0_0.index t = ![t.val / 4, t.val % 2] ∧ win0_1.index t = ![t.val / 2 % 2, t.val % 2]
    ∧ win0_2.index t = ![t.val / 4, t.val / 2 % 2] ∧ win0_3.index t = ![t.val / 4, t.val / 2 % 2] :=
  (by decide +kernel : ∀ t : Fin grid0.N, _)

/-- The three arguments. -/
abbrev argA : FVec Ideal S8192x5632 .bf16 := V m c main_arg0
abbrev argB : FVec Ideal S2048x5632 .bf16 := V m c main_arg1
abbrev argC : FVec Ideal S8192x2048 .f32 := V m c main_arg2

/-- A block's product: the part of the sum in that block. -/
theorem part (t : Fin cfg0.N) (s : Fin 2) (i : Fin 1024) (j : Fin 1024) (I : Fin 8192) (J : Fin 2048) (hs : t.val % 2 = s.val)
    (hI : I.val = t.val / 4 * 1024 + i.val) (hJ : J.val = t.val / 2 % 2 * 1024 + j.val) :
    nt (iblk m c 0 t : FVec Ideal S1024x2816 .bf16) (iblk m c 1 t : FVec Ideal S1024x2816 .bf16) i j
      = ∑ r : Fin 2816, argA m c (ix2 I (kpos s r)) * argB m c (ix2 J (kpos s r)) := by
  refine Finset.sum_congr rfl fun r _ => congrArg₂ (· * ·) ?_ ?_
  · blk_ext [iblk, idx t, kpos]
  · blk_ext [iblk, idx t, kpos]

/-- The scratch after the first block. -/
theorem acc (t : Fin cfg0.N) (h : t.val % 2 = 0) (i : Fin 1024) (j : Fin 1024) :
    (outsAt0 m c t.val t.isLt).2 (ix2 i j) = nt (iblk m c 0 t : FVec Ideal S1024x2816 .bf16) (iblk m c 1 t : FVec Ideal S1024x2816 .bf16) i j := by
  rw [outsAt0_A m c t h (by omega)]
  dsimp only
  frame_out
  pointwise [k0_pay1, nt]

/-- The output's block after the second. -/
theorem out_B (t : Fin cfg0.N) (h : t.val % 2 = 1) (i : Fin 1024) (j : Fin 1024) :
    (outsAt0 m c t.val t.isLt).1 (ix2 i j) = (outsAt0 m c (t.val - 1) (by omega)).2 (ix2 i j)
      + nt (iblk m c 0 t : FVec Ideal S1024x2816 .bf16) (iblk m c 1 t : FVec Ideal S1024x2816 .bf16) i j
      + (iblk m c 2 t : FVec Ideal S1024x1024 .f32) (ix2 i j) := by
  rw [outsAt0_B m c t (by omega) h]
  dsimp only
  frame_out
  simp only [read_unread_whole]
  pointwise [k0_pay2, nt]

/-- A block of the output is that block of the sum. -/
theorem out (t : Fin cfg0.N) (h : t.val % 2 = 1) (i : Fin 1024) (j : Fin 1024) (I : Fin 8192) (J : Fin 2048)
    (hI : I.val = t.val / 4 * 1024 + i.val) (hJ : J.val = t.val / 2 % 2 * 1024 + j.val) :
    (outsAt0 m c t.val t.isLt).1 (ix2 i j) = plus (argC m c) (nt (argA m c) (argB m c)) I J := by
  have hC : (iblk m c 2 t : FVec Ideal S1024x1024 .f32) (ix2 i j) = argC m c (ix2 I J) := by blk_ext [iblk, idx t]
  rw [out_B m c t h, acc m c ⟨t.val - 1, by omega⟩ (by dsimp only; omega), part m c t 1 i j I J h hI hJ,
    part m c ⟨t.val - 1, by omega⟩ 0 i j I J (by dsimp only; omega) (by dsimp only; omega) (by dsimp only; omega), hC]
  unfold plus nt
  rw [sum_blocks 2 2816 rfl _ kpos fun _ _ => rfl, Fin.sum_univ_two]
  exact add_comm _ _

/-- The output holds the sum. -/
theorem final : (dats m 0 c).arrAt 3 cfg0.N = arr (plus (argC m c) (nt (argA m c) (argB m c))) := by
  refine (dats m 0 c).arrAt_eq_of_covers 3 (arr (plus (argC m c) (nt (argA m c) (argB m c)))) (by decide +kernel) fun t hf y => ?_
  have h : t.val % 2 = 1 := (by decide +kernel : ∀ t : Fin cfg0.N, win0_3.flush t = true → t.val % 2 = 1) t hf
  blk_simp
  rw [after0_3]
  refine ((congrArg _ (eq_ix2 y)).trans (out m c t h (y 0) (y 1) _ _ ?_ ?_)).trans rfl
  · blk_simp [idx t]
  · blk_simp [idx t]

/-- The reference's array is the sum too. -/
theorem reference (A : FVec Ideal S8192x5632 .bf16) (B : FVec Ideal S2048x5632 .bf16) (C : FVec Ideal S8192x2048 .f32) :
    addf C (Host.dotGeneral Cert.DhAddRefIdeal.dot_S8192x5632_S2048x5632_S8192x2048_1_1_0_0_n_n none (extf .f32 A Cert.DhAddRefIdeal.Gen.bitsLt_bf16_f32)
      (extf .f32 B Cert.DhAddRefIdeal.Gen.bitsLt_bf16_f32)) = arr (plus C (nt A B)) := by
  funext y
  refine Eq.trans ?_ (arr_at (plus C (nt A B)) (y 0) (y 1) y rfl rfl).symm
  pointwise [plus, nt]

/-- From equal arguments the optimised program and the reference end with equal results. -/
theorem same : Cert.algebraic_DhAddIdeal_DhAddRefIdeal := by
  intro m ρ m' ρ' _ hagree
  refine ⟨fun c => arr (plus (argC m c) (nt (argA m c) (argB m c))),
    (θ_run _ _ _).mono (fun r h c => ⟨(h c).1.trans (final m c), (h c).2⟩) (Cert.DhAddIdeal.Value.run_blocks (F := Ideal) m ρ),
    (θ_run _ _ _).mono (fun r h c => ⟨(h c).1.trans ((reference _ _ _).trans ?_), (h c).2⟩) (Cert.DhAddRefIdeal.Value.run (F := Ideal) m' ρ')⟩
  rw [(hagree c).1, (hagree c).2.1, (hagree c).2.2]

/-- The reference runs without fault, keeps its arguments, and has no counter. -/
theorem ref_frame : Cert.quiescent_DhAddRefIdeal := fun m ρ _ =>
  (θ_run _ _ _).mono (fun r h => ⟨fun c => (h c).2, sem_eq_zero_of_no_sems (by decide) r.2⟩) (Cert.DhAddRefIdeal.Value.run (F := Ideal) m ρ)

end Cert.DhAddIdeal.Mat

end
-- ==== Proof.MatDwUp.lean ====
/-
  An up projection's weight gradient: the tiled product `hᵀ · d`, its rows in four blocks added up in a scratch, holds
  the product, and so does the reference's array.
-/
module

public import proofs.«01_k».proof.Defs
public import proofs.«01_k».proof.Proof.MatSum
public import proofs.«01_k».proof.Proof.Gen.DwUpIdeal.Value
public import proofs.«01_k».proof.Proof.Gen.DwUpRefIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.DwUpIdeal.Mat

open Idealize.ShloMosaic Idealize.ShloMosaic.TcCoe Idealize.ShloMosaic.Pipeline Idealize.SL.Sem
open Cert.DwUpIdeal Cert.DwUpIdeal.Gen Cert.Mat

variable (m : (ℓ : Loc nD τ sig) → Buf (Elt Ideal) ℓ) (c : Dev nD)

/-- Row `r` of block `s` of the summed axis. -/
abbrev kpos (s : Fin 4) (r : Fin 2048) : Fin 8192 := ⟨2048 * s.val + r.val, by omega⟩

/-- Where each window's block lies at a point. -/
theorem idx : ∀ t : Fin cfg0.N, win0_0.index t = ![t.val % 4, t.val / 16] ∧ win0_1.index t = ![t.val % 4, t.val / 4 % 4]
    ∧ win0_2.index t = ![t.val / 16, t.val / 4 % 4] :=
  (by decide +kernel : ∀ t : Fin grid0.N, _)

/-- The two arguments. -/
abbrev argA : FVec Ideal S8192x2048 .bf16 := V m c main_arg0
abbrev argB : FVec Ideal S8192x5632 .bf16 := V m c main_arg1

/-- A block's product: the part of the sum in that block. -/
theorem part (t : Fin cfg0.N) (s : Fin 4) (i : Fin 1024) (j : Fin 1408) (I : Fin 2048) (J : Fin 5632) (hs : t.val % 4 = s.val)
    (hI : I.val = t.val / 16 * 1024 + i.val) (hJ : J.val = t.val / 4 % 4 * 1408 + j.val) :
    tn (iblk m c 0 t : FVec Ideal S2048x1024 .bf16) (iblk m c 1 t : FVec Ideal S2048x1408 .bf16) i j
      = ∑ r : Fin 2048, argA m c (ix2 (kpos s r) I) * argB m c (ix2 (kpos s r) J) := by
  refine Finset.sum_congr rfl fun r _ => congrArg₂ (· * ·) ?_ ?_
  · blk_ext [iblk, idx t, kpos]
  · blk_ext [iblk, idx t, kpos]

/-- The scratch after the first block. -/
theorem acc_A (t : Fin cfg0.N) (h : t.val % 4 = 0) (i : Fin 1024) (j : Fin 1408) :
    (outsAt0 m c t.val t.isLt).2 (ix2 i j) = tn (iblk m c 0 t : FVec Ideal S2048x1024 .bf16) (iblk m c 1 t : FVec Ideal S2048x1408 .bf16) i j := by
  rw [outsAt0_A m c t h (by omega) (by omega)]
  dsimp only
  frame_out
  pointwise [k0_pay1, tn]

/-- The scratch after a later block. -/
theorem acc_B (t : Fin cfg0.N) (h : 1 ≤ t.val % 4 ∧ t.val % 4 ≤ 2) (i : Fin 1024) (j : Fin 1408) :
    (outsAt0 m c t.val t.isLt).2 (ix2 i j) = (outsAt0 m c (t.val - 1) (by omega)).2 (ix2 i j)
      + tn (iblk m c 0 t : FVec Ideal S2048x1024 .bf16) (iblk m c 1 t : FVec Ideal S2048x1408 .bf16) i j := by
  rw [outsAt0_B m c t (by omega) h (by omega)]
  dsimp only
  frame_out
  simp only [read_unread_whole]
  pointwise [k0_pay2, tn]

/-- The output's block after the last block. -/
theorem out_C (t : Fin cfg0.N) (h : t.val % 4 = 3) (i : Fin 1024) (j : Fin 1408) :
    (outsAt0 m c t.val t.isLt).1 (ix2 i j) = (outsAt0 m c (t.val - 1) (by omega)).2 (ix2 i j)
      + tn (iblk m c 0 t : FVec Ideal S2048x1024 .bf16) (iblk m c 1 t : FVec Ideal S2048x1408 .bf16) i j := by
  rw [outsAt0_C m c t (by omega) (by omega) h]
  dsimp only
  frame_out
  simp only [read_unread_whole]
  pointwise [k0_pay3, tn]

/-- A block of the output is that block of the product. -/
theorem out (t : Fin cfg0.N) (h : t.val % 4 = 3) (i : Fin 1024) (j : Fin 1408) (I : Fin 2048) (J : Fin 5632)
    (hI : I.val = t.val / 16 * 1024 + i.val) (hJ : J.val = t.val / 4 % 4 * 1408 + j.val) :
    (outsAt0 m c t.val t.isLt).1 (ix2 i j) = tn (argA m c) (argB m c) I J := by
  rw [out_C m c t h, acc_B m c ⟨t.val - 1, by omega⟩ (by dsimp only; omega), acc_B m c ⟨t.val - 1 - 1, by omega⟩ (by dsimp only; omega),
    acc_A m c ⟨t.val - 1 - 1 - 1, by omega⟩ (by dsimp only; omega),
    part m c t 3 i j I J h hI hJ, part m c ⟨t.val - 1, by omega⟩ 2 i j I J (by dsimp only; omega) (by dsimp only; omega) (by dsimp only; omega),
    part m c ⟨t.val - 1 - 1, by omega⟩ 1 i j I J (by dsimp only; omega) (by dsimp only; omega) (by dsimp only; omega),
    part m c ⟨t.val - 1 - 1 - 1, by omega⟩ 0 i j I J (by dsimp only; omega) (by dsimp only; omega) (by dsimp only; omega)]
  unfold tn
  rw [sum_blocks 4 2048 rfl _ kpos fun _ _ => rfl, Fin.sum_univ_four]

/-- The output holds the product. -/
theorem final : (dats m 0 c).arrAt 2 cfg0.N = arr (tn (argA m c) (argB m c)) := by
  refine (dats m 0 c).arrAt_eq_of_covers 2 (arr (tn (argA m c) (argB m c))) (by decide +kernel) fun t hf y => ?_
  have h : t.val % 4 = 3 := (by decide +kernel : ∀ t : Fin cfg0.N, win0_2.flush t = true → t.val % 4 = 3) t hf
  blk_simp
  rw [after0_2]
  refine ((congrArg _ (eq_ix2 y)).trans (out m c t h (y 0) (y 1) _ _ ?_ ?_)).trans rfl
  · blk_simp [idx t]
  · blk_simp [idx t]

/-- The reference's array is the product too. -/
theorem reference (A : FVec Ideal S8192x2048 .bf16) (B : FVec Ideal S8192x5632 .bf16) :
    truncf .bf16 (transpose S2048x5632 [1, 0] (Host.dotGeneral Cert.DwUpRefIdeal.dot_S8192x5632_S8192x2048_S5632x2048_0_0_1_1_n_n none
      (extf .f32 B Cert.DwUpRefIdeal.Gen.bitsLt_bf16_f32) (extf .f32 A Cert.DwUpRefIdeal.Gen.bitsLt_bf16_f32))
      Cert.DwUpRefIdeal.Gen.transposes_S5632x2048_S2048x5632_1_0) Cert.DwUpRefIdeal.Gen.bitsLt_bf16_f32
      = arr (tn A B) := by
  funext y
  refine Eq.trans ?_ (arr_at (tn A B) (y 0) (y 1) y rfl rfl).symm
  pointwise [tn]
  exact Finset.sum_congr rfl fun k _ => mul_comm _ _

/-- From equal arguments the tiled product and the reference end with equal results. -/
theorem same : Cert.algebraic_DwUpIdeal_DwUpRefIdeal := by
  intro m ρ m' ρ' _ hagree
  refine ⟨fun c => arr (tn (argA m c) (argB m c)),
    (θ_run _ _ _).mono (fun r h c => ⟨(h c).1.trans (final m c), (h c).2⟩) (Cert.DwUpIdeal.Value.run_blocks (F := Ideal) m ρ),
    (θ_run _ _ _).mono (fun r h c => ⟨(h c).1.trans ((reference _ _).trans ?_), (h c).2⟩) (Cert.DwUpRefIdeal.Value.run (F := Ideal) m' ρ')⟩
  rw [(hagree c).1, (hagree c).2]

/-- The reference runs without fault, keeps its arguments, and has no counter. -/
theorem ref_frame : Cert.quiescent_DwUpRefIdeal := fun m ρ _ =>
  (θ_run _ _ _).mono (fun r h => ⟨fun c => (h c).2, sem_eq_zero_of_no_sems (by decide) r.2⟩) (Cert.DwUpRefIdeal.Value.run (F := Ideal) m ρ)

end Cert.DwUpIdeal.Mat

end
-- ==== Proof.MatSq.lean ====
/-
  A projection by a square matrix: the tiled product `a · w`, each of its blocks formed at once, holds the product,
  and so does the reference's array.
-/
module

public import proofs.«01_k».proof.Defs
public import proofs.«01_k».proof.Proof.MatSum
public import proofs.«01_k».proof.Proof.Gen.SqIdeal.Value
public import proofs.«01_k».proof.Proof.Gen.SqRefIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.SqIdeal.Mat

open Idealize.ShloMosaic Idealize.ShloMosaic.TcCoe Idealize.ShloMosaic.Pipeline Idealize.SL.Sem
open Cert.SqIdeal Cert.SqIdeal.Gen Cert.Mat

variable (m : (ℓ : Loc nD τ sig) → Buf (Elt Ideal) ℓ) (c : Dev nD)

/-- Where each window's block lies at a point. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

/-- The two arguments. -/
abbrev argA : FVec Ideal S8192x2048 .bf16 := V m c main_arg0
abbrev argB : FVec Ideal S2048x2048 .bf16 := V m c main_arg1

/-- A block of the output is that block of the product. -/
theorem out (t : Fin cfg0.N) (i : Fin 1024) (j : Fin 1024) (I : Fin 8192) (J : Fin 2048)
    (hI : I.val = t.val / 2 * 1024 + i.val) (hJ : J.val = t.val % 2 * 1024 + j.val) :
    out0_2 (F := Ideal) (iblk m c 0 t) (iblk m c 1 t) (ix2 i j) = nn (argA m c) (argB m c) I J := by
  refine Eq.trans (b := nn (iblk m c 0 t : FVec Ideal S1024x2048 .bf16) (iblk m c 1 t : FVec Ideal S2048x1024 .bf16) i j) ?_
    (Finset.sum_congr rfl fun r _ => congrArg₂ (· * ·) ?_ ?_)
  · frame_out
    pointwise [k0_pay1, nn]
  · blk_ext [iblk, idx t]
  · blk_ext [iblk, idx t]

/-- The output holds the product. -/
theorem final : (dats m 0 c).arrAt 2 cfg0.N = arr (nn (argA m c) (argB m c)) := by
  refine (dats m 0 c).arrAt_eq_of_covers 2 (arr (nn (argA m c) (argB m c))) (by decide +kernel) fun t hf y => ?_
  blk_simp
  rw [after0_2]
  refine ((congrArg _ (eq_ix2 y)).trans (out m c t (y 0) (y 1) _ _ ?_ ?_)).trans rfl
  · blk_simp [idx t]
  · blk_simp [idx t]

/-- The reference's array is the product too. -/
theorem reference (A : FVec Ideal S8192x2048 .bf16) (B : FVec Ideal S2048x2048 .bf16) :
    Host.dotGeneral Cert.SqRefIdeal.dot_S8192x2048_S2048x2048_S8192x2048_1_0_0_1_n_n none (extf .f32 A Cert.SqRefIdeal.Gen.bitsLt_bf16_f32)
      (extf .f32 B Cert.SqRefIdeal.Gen.bitsLt_bf16_f32) = arr (nn A B) := by
  funext y
  refine Eq.trans ?_ (arr_at (nn A B) (y 0) (y 1) y rfl rfl).symm
  pointwise [nn]

/-- From equal arguments the tiled product and the reference end with equal results. -/
theorem same : Cert.algebraic_SqIdeal_SqRefIdeal := by
  intro m ρ m' ρ' _ hagree
  refine ⟨fun c => arr (nn (argA m c) (argB m c)),
    (θ_run _ _ _).mono (fun r h c => ⟨(h c).1.trans (final m c), (h c).2⟩) (Cert.SqIdeal.Value.run_blocks (F := Ideal) m ρ),
    (θ_run _ _ _).mono (fun r h c => ⟨(h c).1.trans ((reference _ _).trans ?_), (h c).2⟩) (Cert.SqRefIdeal.Value.run (F := Ideal) m' ρ')⟩
  rw [(hagree c).1, (hagree c).2]

/-- The reference runs without fault, keeps its arguments, and has no counter. -/
theorem ref_frame : Cert.quiescent_SqRefIdeal := fun m ρ _ =>
  (θ_run _ _ _).mono (fun r h => ⟨fun c => (h c).2, sem_eq_zero_of_no_sems (by decide) r.2⟩) (Cert.SqRefIdeal.Value.run (F := Ideal) m ρ)

end Cert.SqIdeal.Mat

end
-- ==== Proof.MatDsq.lean ====
/-
  The input's gradient of a projection by a square matrix: the tiled product `d · wᵀ`, each of its blocks formed at
  once, holds the product, and so does the reference's array.
-/
module

public import proofs.«01_k».proof.Defs
public import proofs.«01_k».proof.Proof.MatSum
public import proofs.«01_k».proof.Proof.Gen.DsqIdeal.Value
public import proofs.«01_k».proof.Proof.Gen.DsqRefIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.DsqIdeal.Mat

open Idealize.ShloMosaic Idealize.ShloMosaic.TcCoe Idealize.ShloMosaic.Pipeline Idealize.SL.Sem
open Cert.DsqIdeal Cert.DsqIdeal.Gen Cert.Mat

variable (m : (ℓ : Loc nD τ sig) → Buf (Elt Ideal) ℓ) (c : Dev nD)

/-- Where each window's block lies at a point. -/
theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

/-- The two arguments. -/
abbrev argA : FVec Ideal S8192x2048 .bf16 := V m c main_arg0
abbrev argB : FVec Ideal S2048x2048 .bf16 := V m c main_arg1

/-- A block of the output is that block of the product. -/
theorem out (t : Fin cfg0.N) (i : Fin 1024) (j : Fin 1024) (I : Fin 8192) (J : Fin 2048)
    (hI : I.val = t.val / 2 * 1024 + i.val) (hJ : J.val = t.val % 2 * 1024 + j.val) :
    out0_2 (F := Ideal) (iblk m c 0 t) (iblk m c 1 t) (ix2 i j) = nt (argA m c) (argB m c) I J := by
  refine Eq.trans (b := nt (iblk m c 0 t : FVec Ideal S1024x2048 .bf16) (iblk m c 1 t : FVec Ideal S1024x2048 .bf16) i j) ?_
    (Finset.sum_congr rfl fun r _ => congrArg₂ (· * ·) ?_ ?_)
  · frame_out
    pointwise [k0_pay1, nt]
  · blk_ext [iblk, idx t]
  · blk_ext [iblk, idx t]

/-- The output holds the product. -/
theorem final : (dats m 0 c).arrAt 2 cfg0.N = arr (nt (argA m c) (argB m c)) := by
  refine (dats m 0 c).arrAt_eq_of_covers 2 (arr (nt (argA m c) (argB m c))) (by decide +kernel) fun t hf y => ?_
  blk_simp
  rw [after0_2]
  refine ((congrArg _ (eq_ix2 y)).trans (out m c t (y 0) (y 1) _ _ ?_ ?_)).trans rfl
  · blk_simp [idx t]
  · blk_simp [idx t]

/-- The reference's array is the product too. -/
theorem reference (A : FVec Ideal S8192x2048 .bf16) (B : FVec Ideal S2048x2048 .bf16) :
    Host.dotGeneral Cert.DsqRefIdeal.dot_S8192x2048_S2048x2048_S8192x2048_1_1_0_0_n_n none (extf .f32 A Cert.DsqRefIdeal.Gen.bitsLt_bf16_f32)
      (extf .f32 B Cert.DsqRefIdeal.Gen.bitsLt_bf16_f32) = arr (nt A B) := by
  funext y
  refine Eq.trans ?_ (arr_at (nt A B) (y 0) (y 1) y rfl rfl).symm
  pointwise [nt]

/-- From equal arguments the tiled product and the reference end with equal results. -/
theorem same : Cert.algebraic_DsqIdeal_DsqRefIdeal := by
  intro m ρ m' ρ' _ hagree
  refine ⟨fun c => arr (nt (argA m c) (argB m c)),
    (θ_run _ _ _).mono (fun r h c => ⟨(h c).1.trans (final m c), (h c).2⟩) (Cert.DsqIdeal.Value.run_blocks (F := Ideal) m ρ),
    (θ_run _ _ _).mono (fun r h c => ⟨(h c).1.trans ((reference _ _).trans ?_), (h c).2⟩) (Cert.DsqRefIdeal.Value.run (F := Ideal) m' ρ')⟩
  rw [(hagree c).1, (hagree c).2]

/-- The reference runs without fault, keeps its arguments, and has no counter. -/
theorem ref_frame : Cert.quiescent_DsqRefIdeal := fun m ρ _ =>
  (θ_run _ _ _).mono (fun r h => ⟨fun c => (h c).2, sem_eq_zero_of_no_sems (by decide) r.2⟩) (Cert.DsqRefIdeal.Value.run (F := Ideal) m ρ)

end Cert.DsqIdeal.Mat

end
-- ==== Proof.MatDwSq.lean ====
/-
  The weight's gradient of a projection by a square matrix: the tiled product `aᵀ · d`, its summed axis in two blocks
  added up in a scratch, holds the product, and so does the reference's array.
-/
module

public import proofs.«01_k».proof.Defs
public import proofs.«01_k».proof.Proof.MatSum
public import proofs.«01_k».proof.Proof.Gen.DwSqIdeal.Value
public import proofs.«01_k».proof.Proof.Gen.DwSqRefIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.DwSqIdeal.Mat

open Idealize.ShloMosaic Idealize.ShloMosaic.TcCoe Idealize.ShloMosaic.Pipeline Idealize.SL.Sem
open Cert.DwSqIdeal Cert.DwSqIdeal.Gen Cert.Mat

variable (m : (ℓ : Loc nD τ sig) → Buf (Elt Ideal) ℓ) (c : Dev nD)

/-- Place `r` of block `s` of the summed axis. -/
abbrev kpos (s : Fin 2) (r : Fin 4096) : Fin 8192 := ⟨4096 * s.val + r.val, by omega⟩

/-- Where each window's block lies at a point. -/
theorem idx : ∀ t : Fin cfg0.N, win0_0.index t = ![t.val % 2, t.val / 4] ∧ win0_1.index t = ![t.val % 2, t.val / 2 % 2]
    ∧ win0_2.index t = ![t.val / 4, t.val / 2 % 2] :=
  (by decide +kernel : ∀ t : Fin grid0.N, _)

/-- The two arguments. -/
abbrev argA : FVec Ideal S8192x2048 .bf16 := V m c main_arg0
abbrev argB : FVec Ideal S8192x2048 .bf16 := V m c main_arg1

/-- A block's product: the part of the sum in that block. -/
theorem part (t : Fin cfg0.N) (s : Fin 2) (i : Fin 1024) (j : Fin 1024) (I : Fin 2048) (J : Fin 2048) (hs : t.val % 2 = s.val)
    (hI : I.val = t.val / 4 * 1024 + i.val) (hJ : J.val = t.val / 2 % 2 * 1024 + j.val) :
    tn (iblk m c 0 t : FVec Ideal S4096x1024 .bf16) (iblk m c 1 t : FVec Ideal S4096x1024 .bf16) i j
      = ∑ r : Fin 4096, argA m c (ix2 (kpos s r) I) * argB m c (ix2 (kpos s r) J) := by
  refine Finset.sum_congr rfl fun r _ => congrArg₂ (· * ·) ?_ ?_
  · blk_ext [iblk, idx t, kpos]
  · blk_ext [iblk, idx t, kpos]

/-- The scratch after the first block. -/
theorem acc (t : Fin cfg0.N) (h : t.val % 2 = 0) (i : Fin 1024) (j : Fin 1024) :
    (outsAt0 m c t.val t.isLt).2 (ix2 i j) = tn (iblk m c 0 t : FVec Ideal S4096x1024 .bf16) (iblk m c 1 t : FVec Ideal S4096x1024 .bf16) i j := by
  rw [outsAt0_A m c t h (by omega)]
  dsimp only
  frame_out
  pointwise [k0_pay1, tn]

/-- The output's block after the second. -/
theorem out_B (t : Fin cfg0.N) (h : t.val % 2 = 1) (i : Fin 1024) (j : Fin 1024) :
    (outsAt0 m c t.val t.isLt).1 (ix2 i j) = (outsAt0 m c (t.val - 1) (by omega)).2 (ix2 i j)
      + tn (iblk m c 0 t : FVec Ideal S4096x1024 .bf16) (iblk m c 1 t : FVec Ideal S4096x1024 .bf16) i j := by
  rw [outsAt0_B m c t (by omega) h]
  dsimp only
  frame_out
  simp only [read_unread_whole]
  pointwise [k0_pay2, tn]

/-- A block of the output is that block of the product. -/
theorem out (t : Fin cfg0.N) (h : t.val % 2 = 1) (i : Fin 1024) (j : Fin 1024) (I : Fin 2048) (J : Fin 2048)
    (hI : I.val = t.val / 4 * 1024 + i.val) (hJ : J.val = t.val / 2 % 2 * 1024 + j.val) :
    (outsAt0 m c t.val t.isLt).1 (ix2 i j) = tn (argA m c) (argB m c) I J := by
  rw [out_B m c t h, acc m c ⟨t.val - 1, by omega⟩ (by dsimp only; omega), part m c t 1 i j I J h hI hJ,
    part m c ⟨t.val - 1, by omega⟩ 0 i j I J (by dsimp only; omega) (by dsimp only; omega) (by dsimp only; omega)]
  unfold tn
  rw [sum_blocks 2 4096 rfl _ kpos fun _ _ => rfl, Fin.sum_univ_two]

/-- The output holds the product. -/
theorem final : (dats m 0 c).arrAt 2 cfg0.N = arr (tn (argA m c) (argB m c)) := by
  refine (dats m 0 c).arrAt_eq_of_covers 2 (arr (tn (argA m c) (argB m c))) (by decide +kernel) fun t hf y => ?_
  have h : t.val % 2 = 1 := (by decide +kernel : ∀ t : Fin cfg0.N, win0_2.flush t = true → t.val % 2 = 1) t hf
  blk_simp
  rw [after0_2]
  refine ((congrArg _ (eq_ix2 y)).trans (out m c t h (y 0) (y 1) _ _ ?_ ?_)).trans rfl
  · blk_simp [idx t]
  · blk_simp [idx t]

/-- The reference's array is the product too. -/
theorem reference (A : FVec Ideal S8192x2048 .bf16) (B : FVec Ideal S8192x2048 .bf16) :
    truncf .bf16 (transpose S2048x2048 [1, 0] (Host.dotGeneral Cert.DwSqRefIdeal.dot_S8192x2048_S8192x2048_S2048x2048_0_0_1_1_n_n none
      (extf .f32 B Cert.DwSqRefIdeal.Gen.bitsLt_bf16_f32) (extf .f32 A Cert.DwSqRefIdeal.Gen.bitsLt_bf16_f32))
      Cert.DwSqRefIdeal.Gen.transposes_S2048x2048_S2048x2048_1_0) Cert.DwSqRefIdeal.Gen.bitsLt_bf16_f32
      = arr (tn A B) := by
  funext y
  refine Eq.trans ?_ (arr_at (tn A B) (y 0) (y 1) y rfl rfl).symm
  pointwise [tn]
  exact Finset.sum_congr rfl fun k _ => mul_comm _ _

/-- From equal arguments the tiled product and the reference end with equal results. -/
theorem same : Cert.algebraic_DwSqIdeal_DwSqRefIdeal := by
  intro m ρ m' ρ' _ hagree
  refine ⟨fun c => arr (tn (argA m c) (argB m c)),
    (θ_run _ _ _).mono (fun r h c => ⟨(h c).1.trans (final m c), (h c).2⟩) (Cert.DwSqIdeal.Value.run_blocks (F := Ideal) m ρ),
    (θ_run _ _ _).mono (fun r h c => ⟨(h c).1.trans ((reference _ _).trans ?_), (h c).2⟩) (Cert.DwSqRefIdeal.Value.run (F := Ideal) m' ρ')⟩
  rw [(hagree c).1, (hagree c).2]

/-- The reference runs without fault, keeps its arguments, and has no counter. -/
theorem ref_frame : Cert.quiescent_DwSqRefIdeal := fun m ρ _ =>
  (θ_run _ _ _).mono (fun r h => ⟨fun c => (h c).2, sem_eq_zero_of_no_sems (by decide) r.2⟩) (Cert.DwSqRefIdeal.Value.run (F := Ideal) m ρ)

end Cert.DwSqIdeal.Mat

end
-- ==== Proof.MatDoAttn.lean ====
/-
  The gradient of the attention's output projection in its input: the tiled product `d · wᵀ`, each of its blocks
  formed at once, holds the product, and so does the reference's array.
-/
module

public import proofs.«01_k».proof.Defs
public import proofs.«01_k».proof.Proof.MatSum
public import proofs.«01_k».proof.Proof.Gen.DoAttnIdeal.Value
public import proofs.«01_k».proof.Proof.Gen.DoAttnRefIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.DoAttnIdeal.Mat

open Idealize.ShloMosaic Idealize.ShloMosaic.TcCoe Idealize.ShloMosaic.Pipeline Idealize.SL.Sem
open Cert.DoAttnIdeal Cert.DoAttnIdeal.Gen Cert.Mat

variable (m : (ℓ : Loc nD τ sig) → Buf (Elt Ideal) ℓ) (c : Dev nD)

/-- Where each window's block lies at a point. -/
theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

/-- The two arguments. -/
abbrev argA : FVec Ideal S8192x2048 .bf16 := V m c main_arg0
abbrev argB : FVec Ideal S2048x2048 .bf16 := V m c main_arg1

/-- A block of the output is that block of the product. -/
theorem out (t : Fin cfg0.N) (i : Fin 1024) (j : Fin 1024) (I : Fin 8192) (J : Fin 2048)
    (hI : I.val = t.val / 2 * 1024 + i.val) (hJ : J.val = t.val % 2 * 1024 + j.val) :
    out0_2 (F := Ideal) (iblk m c 0 t) (iblk m c 1 t) (ix2 i j) = nt (argA m c) (argB m c) I J := by
  refine Eq.trans (b := nt (iblk m c 0 t : FVec Ideal S1024x2048 .bf16) (iblk m c 1 t : FVec Ideal S1024x2048 .bf16) i j) ?_
    (Finset.sum_congr rfl fun r _ => congrArg₂ (· * ·) ?_ ?_)
  · frame_out
    pointwise [k0_pay1, nt]
  · blk_ext [iblk, idx t]
  · blk_ext [iblk, idx t]

/-- The output holds the product. -/
theorem final : (dats m 0 c).arrAt 2 cfg0.N = arr (nt (argA m c) (argB m c)) := by
  refine (dats m 0 c).arrAt_eq_of_covers 2 (arr (nt (argA m c) (argB m c))) (by decide +kernel) fun t hf y => ?_
  blk_simp
  rw [after0_2]
  refine ((congrArg _ (eq_ix2 y)).trans (out m c t (y 0) (y 1) _ _ ?_ ?_)).trans rfl
  · blk_simp [idx t]
  · blk_simp [idx t]

/-- The reference's array is the product too. -/
theorem reference (A : FVec Ideal S8192x2048 .bf16) (B : FVec Ideal S2048x2048 .bf16) :
    truncf .bf16 (Host.dotGeneral Cert.DoAttnRefIdeal.dot_S8192x2048_S2048x2048_S8192x2048_1_1_0_0_n_n none (extf .f32 A Cert.DoAttnRefIdeal.Gen.bitsLt_bf16_f32)
      (extf .f32 B Cert.DoAttnRefIdeal.Gen.bitsLt_bf16_f32)) Cert.DoAttnRefIdeal.Gen.bitsLt_bf16_f32 = arr (nt A B) := by
  funext y
  refine Eq.trans ?_ (arr_at (nt A B) (y 0) (y 1) y rfl rfl).symm
  pointwise [nt]

/-- From equal arguments the tiled product and the reference end with equal results. -/
theorem same : Cert.algebraic_DoAttnIdeal_DoAttnRefIdeal := by
  intro m ρ m' ρ' _ hagree
  refine ⟨fun c => arr (nt (argA m c) (argB m c)),
    (θ_run _ _ _).mono (fun r h c => ⟨(h c).1.trans (final m c), (h c).2⟩) (Cert.DoAttnIdeal.Value.run_blocks (F := Ideal) m ρ),
    (θ_run _ _ _).mono (fun r h c => ⟨(h c).1.trans ((reference _ _).trans ?_), (h c).2⟩) (Cert.DoAttnRefIdeal.Value.run (F := Ideal) m' ρ')⟩
  rw [(hagree c).1, (hagree c).2]

/-- The reference runs without fault, keeps its arguments, and has no counter. -/
theorem ref_frame : Cert.quiescent_DoAttnRefIdeal := fun m ρ _ =>
  (θ_run _ _ _).mono (fun r h => ⟨fun c => (h c).2, sem_eq_zero_of_no_sems (by decide) r.2⟩) (Cert.DoAttnRefIdeal.Value.run (F := Ideal) m ρ)

end Cert.DoAttnIdeal.Mat

end
-- ==== Proof.MatDsqAdd.lean ====
/-
  The input's gradient of a projection by a square matrix: the tiled product `d · wᵀ`, each of its blocks formed at
  once and added to a block of another array, holds the sum, and so does the reference's array.
-/
module

public import proofs.«01_k».proof.Defs
public import proofs.«01_k».proof.Proof.MatSum
public import proofs.«01_k».proof.Proof.Gen.DsqAddIdeal.Value
public import proofs.«01_k».proof.Proof.Gen.DsqAddRefIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.DsqAddIdeal.Mat

open Idealize.ShloMosaic Idealize.ShloMosaic.TcCoe Idealize.ShloMosaic.Pipeline Idealize.SL.Sem
open Cert.DsqAddIdeal Cert.DsqAddIdeal.Gen Cert.Mat

variable (m : (ℓ : Loc nD τ sig) → Buf (Elt Ideal) ℓ) (c : Dev nD)

/-- Where each window's block lies at a point. -/
theorem idx : ∀ t : Fin cfg0.N, win0_0.index t = ![t.val / 2, 0] ∧ win0_1.index t = ![t.val % 2, 0]
    ∧ win0_2.index t = ![t.val / 2, t.val % 2] ∧ win0_3.index t = ![t.val / 2, t.val % 2] :=
  (by decide +kernel : ∀ t : Fin grid0.N, _)

/-- The three arguments. -/
abbrev argA : FVec Ideal S8192x2048 .bf16 := V m c main_arg0
abbrev argB : FVec Ideal S2048x2048 .bf16 := V m c main_arg1
abbrev argC : FVec Ideal S8192x2048 .f32 := V m c main_arg2

/-- A block of the output is that block of the sum. -/
theorem out (t : Fin cfg0.N) (i : Fin 1024) (j : Fin 1024) (I : Fin 8192) (J : Fin 2048)
    (hI : I.val = t.val / 2 * 1024 + i.val) (hJ : J.val = t.val % 2 * 1024 + j.val) :
    out0_3 (F := Ideal) (iblk m c 0 t) (iblk m c 1 t) (iblk m c 2 t) (ix2 i j) = plus (argC m c) (nt (argA m c) (argB m c)) I J := by
  refine Eq.trans (b := plus (iblk m c 2 t : FVec Ideal S1024x1024 .f32)
    (nt (iblk m c 0 t : FVec Ideal S1024x2048 .bf16) (iblk m c 1 t : FVec Ideal S1024x2048 .bf16)) i j) ?_
    (congrArg₂ (· + ·) ?_ (Finset.sum_congr rfl fun r _ => congrArg₂ (· * ·) ?_ ?_))
  · frame_out
    pointwise [k0_pay1, plus, nt]
    exact add_comm _ _
  · blk_ext [iblk, idx t]
  · blk_ext [iblk, idx t]
  · blk_ext [iblk, idx t]

/-- The output holds the sum. -/
theorem final : (dats m 0 c).arrAt 3 cfg0.N = arr (plus (argC m c) (nt (argA m c) (argB m c))) := by
  refine (dats m 0 c).arrAt_eq_of_covers 3 (arr (plus (argC m c) (nt (argA m c) (argB m c)))) (by decide +kernel) fun t hf y => ?_
  blk_simp
  rw [after0_3]
  refine ((congrArg _ (eq_ix2 y)).trans (out m c t (y 0) (y 1) _ _ ?_ ?_)).trans rfl
  · blk_simp [idx t]
  · blk_simp [idx t]

/-- The reference's array is the sum too. -/
theorem reference (A : FVec Ideal S8192x2048 .bf16) (B : FVec Ideal S2048x2048 .bf16) (C : FVec Ideal S8192x2048 .f32) :
    addf C (Host.dotGeneral Cert.DsqAddRefIdeal.dot_S8192x2048_S2048x2048_S8192x2048_1_1_0_0_n_n none (extf .f32 A Cert.DsqAddRefIdeal.Gen.bitsLt_bf16_f32)
      (extf .f32 B Cert.DsqAddRefIdeal.Gen.bitsLt_bf16_f32)) = arr (plus C (nt A B)) := by
  funext y
  refine Eq.trans ?_ (arr_at (plus C (nt A B)) (y 0) (y 1) y rfl rfl).symm
  pointwise [plus, nt]

/-- From equal arguments the optimised program and the reference end with equal results. -/
theorem same : Cert.algebraic_DsqAddIdeal_DsqAddRefIdeal := by
  intro m ρ m' ρ' _ hagree
  refine ⟨fun c => arr (plus (argC m c) (nt (argA m c) (argB m c))),
    (θ_run _ _ _).mono (fun r h c => ⟨(h c).1.trans (final m c), (h c).2⟩) (Cert.DsqAddIdeal.Value.run_blocks (F := Ideal) m ρ),
    (θ_run _ _ _).mono (fun r h c => ⟨(h c).1.trans ((reference _ _ _).trans ?_), (h c).2⟩) (Cert.DsqAddRefIdeal.Value.run (F := Ideal) m' ρ')⟩
  rw [(hagree c).1, (hagree c).2.1, (hagree c).2.2]

/-- The reference runs without fault, keeps its arguments, and has no counter. -/
theorem ref_frame : Cert.quiescent_DsqAddRefIdeal := fun m ρ _ =>
  (θ_run _ _ _).mono (fun r h => ⟨fun c => (h c).2, sem_eq_zero_of_no_sems (by decide) r.2⟩) (Cert.DsqAddRefIdeal.Value.run (F := Ideal) m ρ)

end Cert.DsqAddIdeal.Mat

end
-- ==== Proof.MatDwSqAdd.lean ====
/-
  The weight's gradient of a projection by a square matrix, added to another: the tiled product `hᵀ · d`, its rows in
  four blocks added up in a scratch, and the array it is added to, hold the sum, and so does the reference's array.
-/
module

public import proofs.«01_k».proof.Defs
public import proofs.«01_k».proof.Proof.MatSum
public import proofs.«01_k».proof.Proof.Gen.DwSqAddIdeal.Value
public import proofs.«01_k».proof.Proof.Gen.DwSqAddRefIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.DwSqAddIdeal.Mat

open Idealize.ShloMosaic Idealize.ShloMosaic.TcCoe Idealize.ShloMosaic.Pipeline Idealize.SL.Sem
open Cert.DwSqAddIdeal Cert.DwSqAddIdeal.Gen Cert.Mat

variable (m : (ℓ : Loc nD τ sig) → Buf (Elt Ideal) ℓ) (c : Dev nD)

/-- Row `r` of block `s` of the summed axis. -/
abbrev kpos (s : Fin 4) (r : Fin 2048) : Fin 8192 := ⟨2048 * s.val + r.val, by omega⟩

/-- Where each window's block lies at a point. -/
theorem idx : ∀ t : Fin cfg0.N, win0_0.index t = ![t.val % 4, t.val / 8] ∧ win0_1.index t = ![t.val % 4, t.val / 4 % 2]
    ∧ win0_2.index t = ![t.val / 8, t.val / 4 % 2] ∧ win0_3.index t = ![t.val / 8, t.val / 4 % 2] :=
  (by decide +kernel : ∀ t : Fin grid0.N, _)

/-- The three arguments. -/
abbrev argA : FVec Ideal S8192x2048 .bf16 := V m c main_arg0
abbrev argB : FVec Ideal S8192x2048 .bf16 := V m c main_arg1
abbrev argC : FVec Ideal S2048x2048 .f32 := V m c main_arg2

/-- A block's product: the part of the sum in that block. -/
theorem part (t : Fin cfg0.N) (s : Fin 4) (i : Fin 1024) (j : Fin 1024) (I : Fin 2048) (J : Fin 2048) (hs : t.val % 4 = s.val)
    (hI : I.val = t.val / 8 * 1024 + i.val) (hJ : J.val = t.val / 4 % 2 * 1024 + j.val) :
    tn (iblk m c 0 t : FVec Ideal S2048x1024 .bf16) (iblk m c 1 t : FVec Ideal S2048x1024 .bf16) i j
      = ∑ r : Fin 2048, argA m c (ix2 (kpos s r) I) * argB m c (ix2 (kpos s r) J) := by
  refine Finset.sum_congr rfl fun r _ => congrArg₂ (· * ·) ?_ ?_
  · blk_ext [iblk, idx t, kpos]
  · blk_ext [iblk, idx t, kpos]

/-- The scratch after the first block. -/
theorem acc_A (t : Fin cfg0.N) (h : t.val % 4 = 0) (i : Fin 1024) (j : Fin 1024) :
    (outsAt0 m c t.val t.isLt).2 (ix2 i j) = tn (iblk m c 0 t : FVec Ideal S2048x1024 .bf16) (iblk m c 1 t : FVec Ideal S2048x1024 .bf16) i j := by
  rw [outsAt0_A m c t h (by omega) (by omega)]
  dsimp only
  frame_out
  pointwise [k0_pay1, tn]

/-- The scratch after a later block. -/
theorem acc_B (t : Fin cfg0.N) (h : 1 ≤ t.val % 4 ∧ t.val % 4 ≤ 2) (i : Fin 1024) (j : Fin 1024) :
    (outsAt0 m c t.val t.isLt).2 (ix2 i j) = (outsAt0 m c (t.val - 1) (by omega)).2 (ix2 i j)
      + tn (iblk m c 0 t : FVec Ideal S2048x1024 .bf16) (iblk m c 1 t : FVec Ideal S2048x1024 .bf16) i j := by
  rw [outsAt0_B m c t (by omega) h (by omega)]
  dsimp only
  frame_out
  simp only [read_unread_whole]
  pointwise [k0_pay2, tn]

/-- The output's block after the last block. -/
theorem out_C (t : Fin cfg0.N) (h : t.val % 4 = 3) (i : Fin 1024) (j : Fin 1024) :
    (outsAt0 m c t.val t.isLt).1 (ix2 i j) = (outsAt0 m c (t.val - 1) (by omega)).2 (ix2 i j)
      + tn (iblk m c 0 t : FVec Ideal S2048x1024 .bf16) (iblk m c 1 t : FVec Ideal S2048x1024 .bf16) i j
      + (iblk m c 2 t : FVec Ideal S1024x1024 .f32) (ix2 i j) := by
  rw [outsAt0_C m c t (by omega) (by omega) h]
  dsimp only
  frame_out
  simp only [read_unread_whole]
  pointwise [k0_pay3, tn]

/-- A block of the output is that block of the sum. -/
theorem out (t : Fin cfg0.N) (h : t.val % 4 = 3) (i : Fin 1024) (j : Fin 1024) (I : Fin 2048) (J : Fin 2048)
    (hI : I.val = t.val / 8 * 1024 + i.val) (hJ : J.val = t.val / 4 % 2 * 1024 + j.val) :
    (outsAt0 m c t.val t.isLt).1 (ix2 i j) = plus (argC m c) (tn (argA m c) (argB m c)) I J := by
  have hC : (iblk m c 2 t : FVec Ideal S1024x1024 .f32) (ix2 i j) = argC m c (ix2 I J) := by blk_ext [iblk, idx t]
  rw [out_C m c t h, acc_B m c ⟨t.val - 1, by omega⟩ (by dsimp only; omega), acc_B m c ⟨t.val - 1 - 1, by omega⟩ (by dsimp only; omega),
    acc_A m c ⟨t.val - 1 - 1 - 1, by omega⟩ (by dsimp only; omega),
    part m c t 3 i j I J h hI hJ, part m c ⟨t.val - 1, by omega⟩ 2 i j I J (by dsimp only; omega) (by dsimp only; omega) (by dsimp only; omega),
    part m c ⟨t.val - 1 - 1, by omega⟩ 1 i j I J (by dsimp only; omega) (by dsimp only; omega) (by dsimp only; omega),
    part m c ⟨t.val - 1 - 1 - 1, by omega⟩ 0 i j I J (by dsimp only; omega) (by dsimp only; omega) (by dsimp only; omega), hC]
  unfold plus tn
  rw [sum_blocks 4 2048 rfl _ kpos fun _ _ => rfl, Fin.sum_univ_four]
  exact add_comm _ _

/-- The output holds the sum. -/
theorem final : (dats m 0 c).arrAt 3 cfg0.N = arr (plus (argC m c) (tn (argA m c) (argB m c))) := by
  refine (dats m 0 c).arrAt_eq_of_covers 3 (arr (plus (argC m c) (tn (argA m c) (argB m c)))) (by decide +kernel) fun t hf y => ?_
  have h : t.val % 4 = 3 := (by decide +kernel : ∀ t : Fin cfg0.N, win0_3.flush t = true → t.val % 4 = 3) t hf
  blk_simp
  rw [after0_3]
  refine ((congrArg _ (eq_ix2 y)).trans (out m c t h (y 0) (y 1) _ _ ?_ ?_)).trans rfl
  · blk_simp [idx t]
  · blk_simp [idx t]

/-- The reference's array is the sum too. -/
theorem reference (A : FVec Ideal S8192x2048 .bf16) (B : FVec Ideal S8192x2048 .bf16) (C : FVec Ideal S2048x2048 .f32) :
    truncf .bf16 (addf C (transpose S2048x2048 [1, 0] (Host.dotGeneral Cert.DwSqAddRefIdeal.dot_S8192x2048_S8192x2048_S2048x2048_0_0_1_1_n_n none
      (extf .f32 B Cert.DwSqAddRefIdeal.Gen.bitsLt_bf16_f32) (extf .f32 A Cert.DwSqAddRefIdeal.Gen.bitsLt_bf16_f32))
      Cert.DwSqAddRefIdeal.Gen.transposes_S2048x2048_S2048x2048_1_0)) Cert.DwSqAddRefIdeal.Gen.bitsLt_bf16_f32
      = arr (plus C (tn A B)) := by
  funext y
  refine Eq.trans ?_ (arr_at (plus C (tn A B)) (y 0) (y 1) y rfl rfl).symm
  pointwise [plus, tn]
  exact congrArg _ <| Finset.sum_congr rfl fun k _ => mul_comm _ _

/-- From equal arguments the optimised program and the reference end with equal results. -/
theorem same : Cert.algebraic_DwSqAddIdeal_DwSqAddRefIdeal := by
  intro m ρ m' ρ' _ hagree
  refine ⟨fun c => arr (plus (argC m c) (tn (argA m c) (argB m c))),
    (θ_run _ _ _).mono (fun r h c => ⟨(h c).1.trans (final m c), (h c).2⟩) (Cert.DwSqAddIdeal.Value.run_blocks (F := Ideal) m ρ),
    (θ_run _ _ _).mono (fun r h c => ⟨(h c).1.trans ((reference _ _ _).trans ?_), (h c).2⟩) (Cert.DwSqAddRefIdeal.Value.run (F := Ideal) m' ρ')⟩
  rw [(hagree c).1, (hagree c).2.1, (hagree c).2.2]

/-- The reference runs without fault, keeps its arguments, and has no counter. -/
theorem ref_frame : Cert.quiescent_DwSqAddRefIdeal := fun m ρ _ =>
  (θ_run _ _ _).mono (fun r h => ⟨fun c => (h c).2, sem_eq_zero_of_no_sems (by decide) r.2⟩) (Cert.DwSqAddRefIdeal.Value.run (F := Ideal) m ρ)

end Cert.DwSqAddIdeal.Mat

end
-- ==== Proof.MatGab.lean ====
/-
  The projection to the two merge gates: the tiled product `h · w`, each of its blocks formed at once, holds the
  product, and so does the reference's array.
-/
module

public import proofs.«01_k».proof.Defs
public import proofs.«01_k».proof.Proof.MatSum
public import proofs.«01_k».proof.Proof.Gen.GabIdeal.Value
public import proofs.«01_k».proof.Proof.Gen.GabRefIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.GabIdeal.Mat

open Idealize.ShloMosaic Idealize.ShloMosaic.TcCoe Idealize.ShloMosaic.Pipeline Idealize.SL.Sem
open Cert.GabIdeal Cert.GabIdeal.Gen Cert.Mat

variable (m : (ℓ : Loc nD τ sig) → Buf (Elt Ideal) ℓ) (c : Dev nD)

/-- Where each window's block lies at a point. -/
theorem idx : ∀ t : Fin cfg0.N, win0_0.index t = ![t.val / 4, 0] ∧ win0_1.index t = ![0, t.val % 4]
    ∧ win0_2.index t = ![t.val / 4, t.val % 4] :=
  (by decide +kernel : ∀ t : Fin grid0.N, _)

/-- The two arguments. -/
abbrev argA : FVec Ideal S8192x2048 .bf16 := V m c main_arg0
abbrev argB : FVec Ideal S2048x4096 .bf16 := V m c main_arg1

/-- A block of the output is that block of the product. -/
theorem out (t : Fin cfg0.N) (i : Fin 1024) (j : Fin 1024) (I : Fin 8192) (J : Fin 4096)
    (hI : I.val = t.val / 4 * 1024 + i.val) (hJ : J.val = t.val % 4 * 1024 + j.val) :
    out0_2 (F := Ideal) (iblk m c 0 t) (iblk m c 1 t) (ix2 i j) = nn (argA m c) (argB m c) I J := by
  refine Eq.trans (b := nn (iblk m c 0 t : FVec Ideal S1024x2048 .bf16) (iblk m c 1 t : FVec Ideal S2048x1024 .bf16) i j) ?_
    (Finset.sum_congr rfl fun r _ => congrArg₂ (· * ·) ?_ ?_)
  · frame_out
    pointwise [k0_pay1, nn]
  · blk_ext [iblk, idx t]
  · blk_ext [iblk, idx t]

/-- The output holds the product. -/
theorem final : (dats m 0 c).arrAt 2 cfg0.N = arr (nn (argA m c) (argB m c)) := by
  refine (dats m 0 c).arrAt_eq_of_covers 2 (arr (nn (argA m c) (argB m c))) (by decide +kernel) fun t hf y => ?_
  blk_simp
  rw [after0_2]
  refine ((congrArg _ (eq_ix2 y)).trans (out m c t (y 0) (y 1) _ _ ?_ ?_)).trans rfl
  · blk_simp [idx t]
  · blk_simp [idx t]

/-- The reference's array is the product too. -/
theorem reference (A : FVec Ideal S8192x2048 .bf16) (B : FVec Ideal S2048x4096 .bf16) :
    Host.dotGeneral Cert.GabRefIdeal.dot_S8192x2048_S2048x4096_S8192x4096_1_0_0_1_n_n none (extf .f32 A Cert.GabRefIdeal.Gen.bitsLt_bf16_f32)
      (extf .f32 B Cert.GabRefIdeal.Gen.bitsLt_bf16_f32) = arr (nn A B) := by
  funext y
  refine Eq.trans ?_ (arr_at (nn A B) (y 0) (y 1) y rfl rfl).symm
  pointwise [nn]

/-- From equal arguments the tiled product and the reference end with equal results. -/
theorem same : Cert.algebraic_GabIdeal_GabRefIdeal := by
  intro m ρ m' ρ' _ hagree
  refine ⟨fun c => arr (nn (argA m c) (argB m c)),
    (θ_run _ _ _).mono (fun r h c => ⟨(h c).1.trans (final m c), (h c).2⟩) (Cert.GabIdeal.Value.run_blocks (F := Ideal) m ρ),
    (θ_run _ _ _).mono (fun r h c => ⟨(h c).1.trans ((reference _ _).trans ?_), (h c).2⟩) (Cert.GabRefIdeal.Value.run (F := Ideal) m' ρ')⟩
  rw [(hagree c).1, (hagree c).2]

/-- The reference runs without fault, keeps its arguments, and has no counter. -/
theorem ref_frame : Cert.quiescent_GabRefIdeal := fun m ρ _ =>
  (θ_run _ _ _).mono (fun r h => ⟨fun c => (h c).2, sem_eq_zero_of_no_sems (by decide) r.2⟩) (Cert.GabRefIdeal.Value.run (F := Ideal) m ρ)

end Cert.GabIdeal.Mat

end
-- ==== Proof.MatDhGab.lean ====
/-
  The input's gradient of the projection to the merge gates, added to another: the tiled product `d · wᵀ`, its summed
  axis in two blocks added up in a scratch, and the array it is added to, hold the sum, and so does the reference's
  array.
-/
module

public import proofs.«01_k».proof.Defs
public import proofs.«01_k».proof.Proof.MatSum
public import proofs.«01_k».proof.Proof.Gen.DhGabIdeal.Value
public import proofs.«01_k».proof.Proof.Gen.DhGabRefIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.DhGabIdeal.Mat

open Idealize.ShloMosaic Idealize.ShloMosaic.TcCoe Idealize.ShloMosaic.Pipeline Idealize.SL.Sem
open Cert.DhGabIdeal Cert.DhGabIdeal.Gen Cert.Mat

variable (m : (ℓ : Loc nD τ sig) → Buf (Elt Ideal) ℓ) (c : Dev nD)

/-- Place `r` of block `s` of the summed axis. -/
abbrev kpos (s : Fin 2) (r : Fin 2048) : Fin 4096 := ⟨2048 * s.val + r.val, by omega⟩

/-- Where each window's block lies at a point. -/
theorem idx : ∀ t : Fin cfg0.N, win0_0.index t = ![t.val / 4, t.val % 2] ∧ win0_1.index t = ![t.val / 2 % 2, t.val % 2]
    ∧ win0_2.index t = ![t.val / 4, t.val / 2 % 2] ∧ win0_3.index t = ![t.val / 4, t.val / 2 % 2] :=
  (by decide +kernel : ∀ t : Fin grid0.N, _)

/-- The three arguments. -/
abbrev argA : FVec Ideal S8192x4096 .bf16 := V m c main_arg0
abbrev argB : FVec Ideal S2048x4096 .bf16 := V m c main_arg1
abbrev argC : FVec Ideal S8192x2048 .f32 := V m c main_arg2

/-- A block's product: the part of the sum in that block. -/
theorem part (t : Fin cfg0.N) (s : Fin 2) (i : Fin 1024) (j : Fin 1024) (I : Fin 8192) (J : Fin 2048) (hs : t.val % 2 = s.val)
    (hI : I.val = t.val / 4 * 1024 + i.val) (hJ : J.val = t.val / 2 % 2 * 1024 + j.val) :
    nt (iblk m c 0 t : FVec Ideal S1024x2048 .bf16) (iblk m c 1 t : FVec Ideal S1024x2048 .bf16) i j
      = ∑ r : Fin 2048, argA m c (ix2 I (kpos s r)) * argB m c (ix2 J (kpos s r)) := by
  refine Finset.sum_congr rfl fun r _ => congrArg₂ (· * ·) ?_ ?_
  · blk_ext [iblk, idx t, kpos]
  · blk_ext [iblk, idx t, kpos]

/-- The scratch after the first block. -/
theorem acc (t : Fin cfg0.N) (h : t.val % 2 = 0) (i : Fin 1024) (j : Fin 1024) :
    (outsAt0 m c t.val t.isLt).2 (ix2 i j) = nt (iblk m c 0 t : FVec Ideal S1024x2048 .bf16) (iblk m c 1 t : FVec Ideal S1024x2048 .bf16) i j := by
  rw [outsAt0_A m c t h (by omega)]
  dsimp only
  frame_out
  pointwise [k0_pay1, nt]

/-- The output's block after the second. -/
theorem out_B (t : Fin cfg0.N) (h : t.val % 2 = 1) (i : Fin 1024) (j : Fin 1024) :
    (outsAt0 m c t.val t.isLt).1 (ix2 i j) = (outsAt0 m c (t.val - 1) (by omega)).2 (ix2 i j)
      + nt (iblk m c 0 t : FVec Ideal S1024x2048 .bf16) (iblk m c 1 t : FVec Ideal S1024x2048 .bf16) i j
      + (iblk m c 2 t : FVec Ideal S1024x1024 .f32) (ix2 i j) := by
  rw [outsAt0_B m c t (by omega) h]
  dsimp only
  frame_out
  simp only [read_unread_whole]
  pointwise [k0_pay2, nt]

/-- A block of the output is that block of the sum. -/
theorem out (t : Fin cfg0.N) (h : t.val % 2 = 1) (i : Fin 1024) (j : Fin 1024) (I : Fin 8192) (J : Fin 2048)
    (hI : I.val = t.val / 4 * 1024 + i.val) (hJ : J.val = t.val / 2 % 2 * 1024 + j.val) :
    (outsAt0 m c t.val t.isLt).1 (ix2 i j) = plus (argC m c) (nt (argA m c) (argB m c)) I J := by
  have hC : (iblk m c 2 t : FVec Ideal S1024x1024 .f32) (ix2 i j) = argC m c (ix2 I J) := by blk_ext [iblk, idx t]
  rw [out_B m c t h, acc m c ⟨t.val - 1, by omega⟩ (by dsimp only; omega), part m c t 1 i j I J h hI hJ,
    part m c ⟨t.val - 1, by omega⟩ 0 i j I J (by dsimp only; omega) (by dsimp only; omega) (by dsimp only; omega), hC]
  unfold plus nt
  rw [sum_blocks 2 2048 rfl _ kpos fun _ _ => rfl, Fin.sum_univ_two]
  exact add_comm _ _

/-- The output holds the sum. -/
theorem final : (dats m 0 c).arrAt 3 cfg0.N = arr (plus (argC m c) (nt (argA m c) (argB m c))) := by
  refine (dats m 0 c).arrAt_eq_of_covers 3 (arr (plus (argC m c) (nt (argA m c) (argB m c)))) (by decide +kernel) fun t hf y => ?_
  have h : t.val % 2 = 1 := (by decide +kernel : ∀ t : Fin cfg0.N, win0_3.flush t = true → t.val % 2 = 1) t hf
  blk_simp
  rw [after0_3]
  refine ((congrArg _ (eq_ix2 y)).trans (out m c t h (y 0) (y 1) _ _ ?_ ?_)).trans rfl
  · blk_simp [idx t]
  · blk_simp [idx t]

/-- The reference's array is the sum too. -/
theorem reference (A : FVec Ideal S8192x4096 .bf16) (B : FVec Ideal S2048x4096 .bf16) (C : FVec Ideal S8192x2048 .f32) :
    addf C (Host.dotGeneral Cert.DhGabRefIdeal.dot_S8192x4096_S2048x4096_S8192x2048_1_1_0_0_n_n none (extf .f32 A Cert.DhGabRefIdeal.Gen.bitsLt_bf16_f32)
      (extf .f32 B Cert.DhGabRefIdeal.Gen.bitsLt_bf16_f32)) = arr (plus C (nt A B)) := by
  funext y
  refine Eq.trans ?_ (arr_at (plus C (nt A B)) (y 0) (y 1) y rfl rfl).symm
  pointwise [plus, nt]

/-- From equal arguments the optimised program and the reference end with equal results. -/
theorem same : Cert.algebraic_DhGabIdeal_DhGabRefIdeal := by
  intro m ρ m' ρ' _ hagree
  refine ⟨fun c => arr (plus (argC m c) (nt (argA m c) (argB m c))),
    (θ_run _ _ _).mono (fun r h c => ⟨(h c).1.trans (final m c), (h c).2⟩) (Cert.DhGabIdeal.Value.run_blocks (F := Ideal) m ρ),
    (θ_run _ _ _).mono (fun r h c => ⟨(h c).1.trans ((reference _ _ _).trans ?_), (h c).2⟩) (Cert.DhGabRefIdeal.Value.run (F := Ideal) m' ρ')⟩
  rw [(hagree c).1, (hagree c).2.1, (hagree c).2.2]

/-- The reference runs without fault, keeps its arguments, and has no counter. -/
theorem ref_frame : Cert.quiescent_DhGabRefIdeal := fun m ρ _ =>
  (θ_run _ _ _).mono (fun r h => ⟨fun c => (h c).2, sem_eq_zero_of_no_sems (by decide) r.2⟩) (Cert.DhGabRefIdeal.Value.run (F := Ideal) m ρ)

end Cert.DhGabIdeal.Mat

end
-- ==== Proof.MatDwGab.lean ====
/-
  The weight's gradient of the projection to the merge gates: the tiled product `aᵀ · d`, its summed axis in two
  blocks added up in a scratch, holds the product, and so does the reference's array.
-/
module

public import proofs.«01_k».proof.Defs
public import proofs.«01_k».proof.Proof.MatSum
public import proofs.«01_k».proof.Proof.Gen.DwGabIdeal.Value
public import proofs.«01_k».proof.Proof.Gen.DwGabRefIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.DwGabIdeal.Mat

open Idealize.ShloMosaic Idealize.ShloMosaic.TcCoe Idealize.ShloMosaic.Pipeline Idealize.SL.Sem
open Cert.DwGabIdeal Cert.DwGabIdeal.Gen Cert.Mat

variable (m : (ℓ : Loc nD τ sig) → Buf (Elt Ideal) ℓ) (c : Dev nD)

/-- Place `r` of block `s` of the summed axis. -/
abbrev kpos (s : Fin 2) (r : Fin 4096) : Fin 8192 := ⟨4096 * s.val + r.val, by omega⟩

/-- Where each window's block lies at a point. -/
theorem idx : ∀ t : Fin cfg0.N, win0_0.index t = ![t.val % 2, t.val / 8] ∧ win0_1.index t = ![t.val % 2, t.val / 2 % 4]
    ∧ win0_2.index t = ![t.val / 8, t.val / 2 % 4] :=
  (by decide +kernel : ∀ t : Fin grid0.N, _)

/-- The two arguments. -/
abbrev argA : FVec Ideal S8192x2048 .bf16 := V m c main_arg0
abbrev argB : FVec Ideal S8192x4096 .bf16 := V m c main_arg1

/-- A block's product: the part of the sum in that block. -/
theorem part (t : Fin cfg0.N) (s : Fin 2) (i : Fin 1024) (j : Fin 1024) (I : Fin 2048) (J : Fin 4096) (hs : t.val % 2 = s.val)
    (hI : I.val = t.val / 8 * 1024 + i.val) (hJ : J.val = t.val / 2 % 4 * 1024 + j.val) :
    tn (iblk m c 0 t : FVec Ideal S4096x1024 .bf16) (iblk m c 1 t : FVec Ideal S4096x1024 .bf16) i j
      = ∑ r : Fin 4096, argA m c (ix2 (kpos s r) I) * argB m c (ix2 (kpos s r) J) := by
  refine Finset.sum_congr rfl fun r _ => congrArg₂ (· * ·) ?_ ?_
  · blk_ext [iblk, idx t, kpos]
  · blk_ext [iblk, idx t, kpos]

/-- The scratch after the first block. -/
theorem acc (t : Fin cfg0.N) (h : t.val % 2 = 0) (i : Fin 1024) (j : Fin 1024) :
    (outsAt0 m c t.val t.isLt).2 (ix2 i j) = tn (iblk m c 0 t : FVec Ideal S4096x1024 .bf16) (iblk m c 1 t : FVec Ideal S4096x1024 .bf16) i j := by
  rw [outsAt0_A m c t h (by omega)]
  dsimp only
  frame_out
  pointwise [k0_pay1, tn]

/-- The output's block after the second. -/
theorem out_B (t : Fin cfg0.N) (h : t.val % 2 = 1) (i : Fin 1024) (j : Fin 1024) :
    (outsAt0 m c t.val t.isLt).1 (ix2 i j) = (outsAt0 m c (t.val - 1) (by omega)).2 (ix2 i j)
      + tn (iblk m c 0 t : FVec Ideal S4096x1024 .bf16) (iblk m c 1 t : FVec Ideal S4096x1024 .bf16) i j := by
  rw [outsAt0_B m c t (by omega) h]
  dsimp only
  frame_out
  simp only [read_unread_whole]
  pointwise [k0_pay2, tn]

/-- A block of the output is that block of the product. -/
theorem out (t : Fin cfg0.N) (h : t.val % 2 = 1) (i : Fin 1024) (j : Fin 1024) (I : Fin 2048) (J : Fin 4096)
    (hI : I.val = t.val / 8 * 1024 + i.val) (hJ : J.val = t.val / 2 % 4 * 1024 + j.val) :
    (outsAt0 m c t.val t.isLt).1 (ix2 i j) = tn (argA m c) (argB m c) I J := by
  rw [out_B m c t h, acc m c ⟨t.val - 1, by omega⟩ (by dsimp only; omega), part m c t 1 i j I J h hI hJ,
    part m c ⟨t.val - 1, by omega⟩ 0 i j I J (by dsimp only; omega) (by dsimp only; omega) (by dsimp only; omega)]
  unfold tn
  rw [sum_blocks 2 4096 rfl _ kpos fun _ _ => rfl, Fin.sum_univ_two]

/-- The output holds the product. -/
theorem final : (dats m 0 c).arrAt 2 cfg0.N = arr (tn (argA m c) (argB m c)) := by
  refine (dats m 0 c).arrAt_eq_of_covers 2 (arr (tn (argA m c) (argB m c))) (by decide +kernel) fun t hf y => ?_
  have h : t.val % 2 = 1 := (by decide +kernel : ∀ t : Fin cfg0.N, win0_2.flush t = true → t.val % 2 = 1) t hf
  blk_simp
  rw [after0_2]
  refine ((congrArg _ (eq_ix2 y)).trans (out m c t h (y 0) (y 1) _ _ ?_ ?_)).trans rfl
  · blk_simp [idx t]
  · blk_simp [idx t]

/-- The reference's array is the product too. -/
theorem reference (A : FVec Ideal S8192x2048 .bf16) (B : FVec Ideal S8192x4096 .bf16) :
    truncf .bf16 (transpose S2048x4096 [1, 0] (Host.dotGeneral Cert.DwGabRefIdeal.dot_S8192x4096_S8192x2048_S4096x2048_0_0_1_1_n_n none
      (extf .f32 B Cert.DwGabRefIdeal.Gen.bitsLt_bf16_f32) (extf .f32 A Cert.DwGabRefIdeal.Gen.bitsLt_bf16_f32))
      Cert.DwGabRefIdeal.Gen.transposes_S4096x2048_S2048x4096_1_0) Cert.DwGabRefIdeal.Gen.bitsLt_bf16_f32
      = arr (tn A B) := by
  funext y
  refine Eq.trans ?_ (arr_at (tn A B) (y 0) (y 1) y rfl rfl).symm
  pointwise [tn]
  exact Finset.sum_congr rfl fun k _ => mul_comm _ _

/-- From equal arguments the tiled product and the reference end with equal results. -/
theorem same : Cert.algebraic_DwGabIdeal_DwGabRefIdeal := by
  intro m ρ m' ρ' _ hagree
  refine ⟨fun c => arr (tn (argA m c) (argB m c)),
    (θ_run _ _ _).mono (fun r h c => ⟨(h c).1.trans (final m c), (h c).2⟩) (Cert.DwGabIdeal.Value.run_blocks (F := Ideal) m ρ),
    (θ_run _ _ _).mono (fun r h c => ⟨(h c).1.trans ((reference _ _).trans ?_), (h c).2⟩) (Cert.DwGabRefIdeal.Value.run (F := Ideal) m' ρ')⟩
  rw [(hagree c).1, (hagree c).2]

/-- The reference runs without fault, keeps its arguments, and has no counter. -/
theorem ref_frame : Cert.quiescent_DwGabRefIdeal := fun m ρ _ =>
  (θ_run _ _ _).mono (fun r h => ⟨fun c => (h c).2, sem_eq_zero_of_no_sems (by decide) r.2⟩) (Cert.DwGabRefIdeal.Value.run (F := Ideal) m ρ)

end Cert.DwGabIdeal.Mat

end
-- ==== Proof.MatKv.lean ====
/-
  The projection to the attention's keys and values: the tiled product `h · w`, each of its blocks formed at once,
  holds the product, and so does the reference's array.
-/
module

public import proofs.«01_k».proof.Defs
public import proofs.«01_k».proof.Proof.MatSum
public import proofs.«01_k».proof.Proof.Gen.KvIdeal.Value
public import proofs.«01_k».proof.Proof.Gen.KvRefIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.KvIdeal.Mat

open Idealize.ShloMosaic Idealize.ShloMosaic.TcCoe Idealize.ShloMosaic.Pipeline Idealize.SL.Sem
open Cert.KvIdeal Cert.KvIdeal.Gen Cert.Mat

variable (m : (ℓ : Loc nD τ sig) → Buf (Elt Ideal) ℓ) (c : Dev nD)

/-- Where each window's block lies at a point. -/
theorem idx : ∀ t : Fin cfg0.N, win0_0.index t = ![t.val, 0] ∧ win0_1.index t = ![0, 0]
    ∧ win0_2.index t = ![t.val, 0] :=
  (by decide +kernel : ∀ t : Fin grid0.N, _)

/-- The two arguments. -/
abbrev argA : FVec Ideal S8192x2048 .bf16 := V m c main_arg0
abbrev argB : FVec Ideal S2048x1024 .bf16 := V m c main_arg1

/-- A block of the output is that block of the product. -/
theorem out (t : Fin cfg0.N) (i : Fin 1024) (j : Fin 1024) (I : Fin 8192) (J : Fin 1024)
    (hI : I.val = t.val * 1024 + i.val) (hJ : J.val = j.val) :
    out0_2 (F := Ideal) (iblk m c 0 t) (iblk m c 1 t) (ix2 i j) = nn (argA m c) (argB m c) I J := by
  refine Eq.trans (b := nn (iblk m c 0 t : FVec Ideal S1024x2048 .bf16) (iblk m c 1 t : FVec Ideal S2048x1024 .bf16) i j) ?_
    (Finset.sum_congr rfl fun r _ => congrArg₂ (· * ·) ?_ ?_)
  · frame_out
    pointwise [k0_pay1, nn]
  · blk_ext [iblk, idx t]
  · blk_ext [iblk, idx t]

/-- The output holds the product. -/
theorem final : (dats m 0 c).arrAt 2 cfg0.N = arr (nn (argA m c) (argB m c)) := by
  refine (dats m 0 c).arrAt_eq_of_covers 2 (arr (nn (argA m c) (argB m c))) (by decide +kernel) fun t hf y => ?_
  blk_simp
  rw [after0_2]
  refine ((congrArg _ (eq_ix2 y)).trans (out m c t (y 0) (y 1) _ _ ?_ ?_)).trans rfl
  · blk_simp [idx t]
  · blk_simp [idx t]

/-- The reference's array is the product too. -/
theorem reference (A : FVec Ideal S8192x2048 .bf16) (B : FVec Ideal S2048x1024 .bf16) :
    Host.dotGeneral Cert.KvRefIdeal.dot_S8192x2048_S2048x1024_S8192x1024_1_0_0_1_n_n none (extf .f32 A Cert.KvRefIdeal.Gen.bitsLt_bf16_f32)
      (extf .f32 B Cert.KvRefIdeal.Gen.bitsLt_bf16_f32) = arr (nn A B) := by
  funext y
  refine Eq.trans ?_ (arr_at (nn A B) (y 0) (y 1) y rfl rfl).symm
  pointwise [nn]

/-- From equal arguments the tiled product and the reference end with equal results. -/
theorem same : Cert.algebraic_KvIdeal_KvRefIdeal := by
  intro m ρ m' ρ' _ hagree
  refine ⟨fun c => arr (nn (argA m c) (argB m c)),
    (θ_run _ _ _).mono (fun r h c => ⟨(h c).1.trans (final m c), (h c).2⟩) (Cert.KvIdeal.Value.run_blocks (F := Ideal) m ρ),
    (θ_run _ _ _).mono (fun r h c => ⟨(h c).1.trans ((reference _ _).trans ?_), (h c).2⟩) (Cert.KvRefIdeal.Value.run (F := Ideal) m' ρ')⟩
  rw [(hagree c).1, (hagree c).2]

/-- The reference runs without fault, keeps its arguments, and has no counter. -/
theorem ref_frame : Cert.quiescent_KvRefIdeal := fun m ρ _ =>
  (θ_run _ _ _).mono (fun r h => ⟨fun c => (h c).2, sem_eq_zero_of_no_sems (by decide) r.2⟩) (Cert.KvRefIdeal.Value.run (F := Ideal) m ρ)

end Cert.KvIdeal.Mat

end
-- ==== Proof.MatDhKv.lean ====
/-
  The input's gradient of the projection to keys and values: the tiled product `d · wᵀ`, each of its blocks formed at
  once and added to a block of another array, holds the sum, and so does the reference's array.
-/
module

public import proofs.«01_k».proof.Defs
public import proofs.«01_k».proof.Proof.MatSum
public import proofs.«01_k».proof.Proof.Gen.DhKvIdeal.Value
public import proofs.«01_k».proof.Proof.Gen.DhKvRefIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.DhKvIdeal.Mat

open Idealize.ShloMosaic Idealize.ShloMosaic.TcCoe Idealize.ShloMosaic.Pipeline Idealize.SL.Sem
open Cert.DhKvIdeal Cert.DhKvIdeal.Gen Cert.Mat

variable (m : (ℓ : Loc nD τ sig) → Buf (Elt Ideal) ℓ) (c : Dev nD)

/-- Where each window's block lies at a point. -/
theorem idx : ∀ t : Fin cfg0.N, win0_0.index t = ![t.val / 2, 0] ∧ win0_1.index t = ![t.val % 2, 0]
    ∧ win0_2.index t = ![t.val / 2, t.val % 2] ∧ win0_3.index t = ![t.val / 2, t.val % 2] :=
  (by decide +kernel : ∀ t : Fin grid0.N, _)

/-- The three arguments. -/
abbrev argA : FVec Ideal S8192x1024 .bf16 := V m c main_arg0
abbrev argB : FVec Ideal S2048x1024 .bf16 := V m c main_arg1
abbrev argC : FVec Ideal S8192x2048 .f32 := V m c main_arg2

/-- A block of the output is that block of the sum. -/
theorem out (t : Fin cfg0.N) (i : Fin 1024) (j : Fin 1024) (I : Fin 8192) (J : Fin 2048)
    (hI : I.val = t.val / 2 * 1024 + i.val) (hJ : J.val = t.val % 2 * 1024 + j.val) :
    out0_3 (F := Ideal) (iblk m c 0 t) (iblk m c 1 t) (iblk m c 2 t) (ix2 i j) = plus (argC m c) (nt (argA m c) (argB m c)) I J := by
  refine Eq.trans (b := plus (iblk m c 2 t : FVec Ideal S1024x1024 .f32)
    (nt (iblk m c 0 t : FVec Ideal S1024x1024 .bf16) (iblk m c 1 t : FVec Ideal S1024x1024 .bf16)) i j) ?_
    (congrArg₂ (· + ·) ?_ (Finset.sum_congr rfl fun r _ => congrArg₂ (· * ·) ?_ ?_))
  · frame_out
    pointwise [k0_pay1, plus, nt]
    exact add_comm _ _
  · blk_ext [iblk, idx t]
  · blk_ext [iblk, idx t]
  · blk_ext [iblk, idx t]

/-- The output holds the sum. -/
theorem final : (dats m 0 c).arrAt 3 cfg0.N = arr (plus (argC m c) (nt (argA m c) (argB m c))) := by
  refine (dats m 0 c).arrAt_eq_of_covers 3 (arr (plus (argC m c) (nt (argA m c) (argB m c)))) (by decide +kernel) fun t hf y => ?_
  blk_simp
  rw [after0_3]
  refine ((congrArg _ (eq_ix2 y)).trans (out m c t (y 0) (y 1) _ _ ?_ ?_)).trans rfl
  · blk_simp [idx t]
  · blk_simp [idx t]

/-- The reference's array is the sum too. -/
theorem reference (A : FVec Ideal S8192x1024 .bf16) (B : FVec Ideal S2048x1024 .bf16) (C : FVec Ideal S8192x2048 .f32) :
    addf C (Host.dotGeneral Cert.DhKvRefIdeal.dot_S8192x1024_S2048x1024_S8192x2048_1_1_0_0_n_n none (extf .f32 A Cert.DhKvRefIdeal.Gen.bitsLt_bf16_f32)
      (extf .f32 B Cert.DhKvRefIdeal.Gen.bitsLt_bf16_f32)) = arr (plus C (nt A B)) := by
  funext y
  refine Eq.trans ?_ (arr_at (plus C (nt A B)) (y 0) (y 1) y rfl rfl).symm
  pointwise [plus, nt]

/-- From equal arguments the optimised program and the reference end with equal results. -/
theorem same : Cert.algebraic_DhKvIdeal_DhKvRefIdeal := by
  intro m ρ m' ρ' _ hagree
  refine ⟨fun c => arr (plus (argC m c) (nt (argA m c) (argB m c))),
    (θ_run _ _ _).mono (fun r h c => ⟨(h c).1.trans (final m c), (h c).2⟩) (Cert.DhKvIdeal.Value.run_blocks (F := Ideal) m ρ),
    (θ_run _ _ _).mono (fun r h c => ⟨(h c).1.trans ((reference _ _ _).trans ?_), (h c).2⟩) (Cert.DhKvRefIdeal.Value.run (F := Ideal) m' ρ')⟩
  rw [(hagree c).1, (hagree c).2.1, (hagree c).2.2]

/-- The reference runs without fault, keeps its arguments, and has no counter. -/
theorem ref_frame : Cert.quiescent_DhKvRefIdeal := fun m ρ _ =>
  (θ_run _ _ _).mono (fun r h => ⟨fun c => (h c).2, sem_eq_zero_of_no_sems (by decide) r.2⟩) (Cert.DhKvRefIdeal.Value.run (F := Ideal) m ρ)

end Cert.DhKvIdeal.Mat

end
-- ==== Proof.MatDwKv.lean ====
/-
  The weight's gradient of the projection to keys and values, added to another: the tiled product `hᵀ · d`, its rows
  in four blocks added up in a scratch, and the array it is added to, hold the sum, and so does the reference's array.
-/
module

public import proofs.«01_k».proof.Defs
public import proofs.«01_k».proof.Proof.MatSum
public import proofs.«01_k».proof.Proof.Gen.DwKvIdeal.Value
public import proofs.«01_k».proof.Proof.Gen.DwKvRefIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.DwKvIdeal.Mat

open Idealize.ShloMosaic Idealize.ShloMosaic.TcCoe Idealize.ShloMosaic.Pipeline Idealize.SL.Sem
open Cert.DwKvIdeal Cert.DwKvIdeal.Gen Cert.Mat

variable (m : (ℓ : Loc nD τ sig) → Buf (Elt Ideal) ℓ) (c : Dev nD)

/-- Row `r` of block `s` of the summed axis. -/
abbrev kpos (s : Fin 4) (r : Fin 2048) : Fin 8192 := ⟨2048 * s.val + r.val, by omega⟩

/-- Where each window's block lies at a point. -/
theorem idx : ∀ t : Fin cfg0.N, win0_0.index t = ![t.val % 4, t.val / 4] ∧ win0_1.index t = ![t.val % 4, 0]
    ∧ win0_2.index t = ![t.val / 4, 0] ∧ win0_3.index t = ![t.val / 4, 0] :=
  (by decide +kernel : ∀ t : Fin grid0.N, _)

/-- The three arguments. -/
abbrev argA : FVec Ideal S8192x2048 .bf16 := V m c main_arg0
abbrev argB : FVec Ideal S8192x1024 .bf16 := V m c main_arg1
abbrev argC : FVec Ideal S2048x1024 .f32 := V m c main_arg2

/-- A block's product: the part of the sum in that block. -/
theorem part (t : Fin cfg0.N) (s : Fin 4) (i : Fin 1024) (j : Fin 1024) (I : Fin 2048) (J : Fin 1024) (hs : t.val % 4 = s.val)
    (hI : I.val = t.val / 4 * 1024 + i.val) (hJ : J.val = j.val) :
    tn (iblk m c 0 t : FVec Ideal S2048x1024 .bf16) (iblk m c 1 t : FVec Ideal S2048x1024 .bf16) i j
      = ∑ r : Fin 2048, argA m c (ix2 (kpos s r) I) * argB m c (ix2 (kpos s r) J) := by
  refine Finset.sum_congr rfl fun r _ => congrArg₂ (· * ·) ?_ ?_
  · blk_ext [iblk, idx t, kpos]
  · blk_ext [iblk, idx t, kpos]

/-- The scratch after the first block. -/
theorem acc_A (t : Fin cfg0.N) (h : t.val % 4 = 0) (i : Fin 1024) (j : Fin 1024) :
    (outsAt0 m c t.val t.isLt).2 (ix2 i j) = tn (iblk m c 0 t : FVec Ideal S2048x1024 .bf16) (iblk m c 1 t : FVec Ideal S2048x1024 .bf16) i j := by
  rw [outsAt0_A m c t h (by omega) (by omega)]
  dsimp only
  frame_out
  pointwise [k0_pay1, tn]

/-- The scratch after a later block. -/
theorem acc_B (t : Fin cfg0.N) (h : 1 ≤ t.val % 4 ∧ t.val % 4 ≤ 2) (i : Fin 1024) (j : Fin 1024) :
    (outsAt0 m c t.val t.isLt).2 (ix2 i j) = (outsAt0 m c (t.val - 1) (by omega)).2 (ix2 i j)
      + tn (iblk m c 0 t : FVec Ideal S2048x1024 .bf16) (iblk m c 1 t : FVec Ideal S2048x1024 .bf16) i j := by
  rw [outsAt0_B m c t (by omega) h (by omega)]
  dsimp only
  frame_out
  simp only [read_unread_whole]
  pointwise [k0_pay2, tn]

/-- The output's block after the last block. -/
theorem out_C (t : Fin cfg0.N) (h : t.val % 4 = 3) (i : Fin 1024) (j : Fin 1024) :
    (outsAt0 m c t.val t.isLt).1 (ix2 i j) = (outsAt0 m c (t.val - 1) (by omega)).2 (ix2 i j)
      + tn (iblk m c 0 t : FVec Ideal S2048x1024 .bf16) (iblk m c 1 t : FVec Ideal S2048x1024 .bf16) i j
      + (iblk m c 2 t : FVec Ideal S1024x1024 .f32) (ix2 i j) := by
  rw [outsAt0_C m c t (by omega) (by omega) h]
  dsimp only
  frame_out
  simp only [read_unread_whole]
  pointwise [k0_pay3, tn]

/-- A block of the output is that block of the sum. -/
theorem out (t : Fin cfg0.N) (h : t.val % 4 = 3) (i : Fin 1024) (j : Fin 1024) (I : Fin 2048) (J : Fin 1024)
    (hI : I.val = t.val / 4 * 1024 + i.val) (hJ : J.val = j.val) :
    (outsAt0 m c t.val t.isLt).1 (ix2 i j) = plus (argC m c) (tn (argA m c) (argB m c)) I J := by
  have hC : (iblk m c 2 t : FVec Ideal S1024x1024 .f32) (ix2 i j) = argC m c (ix2 I J) := by blk_ext [iblk, idx t]
  rw [out_C m c t h, acc_B m c ⟨t.val - 1, by omega⟩ (by dsimp only; omega), acc_B m c ⟨t.val - 1 - 1, by omega⟩ (by dsimp only; omega),
    acc_A m c ⟨t.val - 1 - 1 - 1, by omega⟩ (by dsimp only; omega),
    part m c t 3 i j I J h hI hJ, part m c ⟨t.val - 1, by omega⟩ 2 i j I J (by dsimp only; omega) (by dsimp only; omega) hJ,
    part m c ⟨t.val - 1 - 1, by omega⟩ 1 i j I J (by dsimp only; omega) (by dsimp only; omega) hJ,
    part m c ⟨t.val - 1 - 1 - 1, by omega⟩ 0 i j I J (by dsimp only; omega) (by dsimp only; omega) hJ, hC]
  unfold plus tn
  rw [sum_blocks 4 2048 rfl _ kpos fun _ _ => rfl, Fin.sum_univ_four]
  exact add_comm _ _

/-- The output holds the sum. -/
theorem final : (dats m 0 c).arrAt 3 cfg0.N = arr (plus (argC m c) (tn (argA m c) (argB m c))) := by
  refine (dats m 0 c).arrAt_eq_of_covers 3 (arr (plus (argC m c) (tn (argA m c) (argB m c)))) (by decide +kernel) fun t hf y => ?_
  have h : t.val % 4 = 3 := (by decide +kernel : ∀ t : Fin cfg0.N, win0_3.flush t = true → t.val % 4 = 3) t hf
  blk_simp
  rw [after0_3]
  refine ((congrArg _ (eq_ix2 y)).trans (out m c t h (y 0) (y 1) _ _ ?_ ?_)).trans rfl
  · blk_simp [idx t]
  · blk_simp [idx t]

/-- The reference's array is the sum too. -/
theorem reference (A : FVec Ideal S8192x2048 .bf16) (B : FVec Ideal S8192x1024 .bf16) (C : FVec Ideal S2048x1024 .f32) :
    truncf .bf16 (addf C (transpose S2048x1024 [1, 0] (Host.dotGeneral Cert.DwKvRefIdeal.dot_S8192x1024_S8192x2048_S1024x2048_0_0_1_1_n_n none
      (extf .f32 B Cert.DwKvRefIdeal.Gen.bitsLt_bf16_f32) (extf .f32 A Cert.DwKvRefIdeal.Gen.bitsLt_bf16_f32))
      Cert.DwKvRefIdeal.Gen.transposes_S1024x2048_S2048x1024_1_0)) Cert.DwKvRefIdeal.Gen.bitsLt_bf16_f32
      = arr (plus C (tn A B)) := by
  funext y
  refine Eq.trans ?_ (arr_at (plus C (tn A B)) (y 0) (y 1) y rfl rfl).symm
  pointwise [plus, tn]
  exact congrArg _ <| Finset.sum_congr rfl fun k _ => mul_comm _ _

/-- From equal arguments the optimised program and the reference end with equal results. -/
theorem same : Cert.algebraic_DwKvIdeal_DwKvRefIdeal := by
  intro m ρ m' ρ' _ hagree
  refine ⟨fun c => arr (plus (argC m c) (tn (argA m c) (argB m c))),
    (θ_run _ _ _).mono (fun r h c => ⟨(h c).1.trans (final m c), (h c).2⟩) (Cert.DwKvIdeal.Value.run_blocks (F := Ideal) m ρ),
    (θ_run _ _ _).mono (fun r h c => ⟨(h c).1.trans ((reference _ _ _).trans ?_), (h c).2⟩) (Cert.DwKvRefIdeal.Value.run (F := Ideal) m' ρ')⟩
  rw [(hagree c).1, (hagree c).2.1, (hagree c).2.2]

/-- The reference runs without fault, keeps its arguments, and has no counter. -/
theorem ref_frame : Cert.quiescent_DwKvRefIdeal := fun m ρ _ =>
  (θ_run _ _ _).mono (fun r h => ⟨fun c => (h c).2, sem_eq_zero_of_no_sems (by decide) r.2⟩) (Cert.DwKvRefIdeal.Value.run (F := Ideal) m ρ)

end Cert.DwKvIdeal.Mat

end
-- ==== Proof.MatKvCtx.lean ====
/-
  The projection of the context's rows to the attention's keys and values: the product `hc · w`, formed at once,
  holds the product, and so does the reference's array.
-/
module

public import proofs.«01_k».proof.Defs
public import proofs.«01_k».proof.Proof.MatSum
public import proofs.«01_k».proof.Proof.Gen.KvCtxIdeal.Value
public import proofs.«01_k».proof.Proof.Gen.KvCtxRefIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.KvCtxIdeal.Mat

open Idealize.ShloMosaic Idealize.ShloMosaic.TcCoe Idealize.ShloMosaic.Pipeline Idealize.SL.Sem
open Cert.KvCtxIdeal Cert.KvCtxIdeal.Gen Cert.Mat

variable (m : (ℓ : Loc nD τ sig) → Buf (Elt Ideal) ℓ) (c : Dev nD)

/-- Where each window's block lies at a point. -/
theorem idx : ∀ t : Fin cfg0.N, win0_0.index t = ![0, 0] ∧ win0_1.index t = ![0, 0]
    ∧ win0_2.index t = ![0, 0] :=
  (by decide +kernel : ∀ t : Fin grid0.N, _)

/-- The two arguments. -/
abbrev argA : FVec Ideal S256x2048 .bf16 := V m c main_arg0
abbrev argB : FVec Ideal S2048x1024 .bf16 := V m c main_arg1

/-- A block of the output is that block of the product. -/
theorem out (t : Fin cfg0.N) (i : Fin 256) (j : Fin 1024) (I : Fin 256) (J : Fin 1024)
    (hI : I.val = i.val) (hJ : J.val = j.val) :
    out0_2 (F := Ideal) (iblk m c 0 t) (iblk m c 1 t) (ix2 i j) = nn (argA m c) (argB m c) I J := by
  refine Eq.trans (b := nn (iblk m c 0 t : FVec Ideal S256x2048 .bf16) (iblk m c 1 t : FVec Ideal S2048x1024 .bf16) i j) ?_
    (Finset.sum_congr rfl fun r _ => congrArg₂ (· * ·) ?_ ?_)
  · frame_out
    pointwise [k0_pay1, nn]
  · blk_ext [iblk, idx t]
  · blk_ext [iblk, idx t]

/-- The output holds the product. -/
theorem final : (dats m 0 c).arrAt 2 cfg0.N = arr (nn (argA m c) (argB m c)) := by
  refine (dats m 0 c).arrAt_eq_of_covers 2 (arr (nn (argA m c) (argB m c))) (by decide +kernel) fun t hf y => ?_
  blk_simp
  rw [after0_2]
  refine ((congrArg _ (eq_ix2 y)).trans (out m c t (y 0) (y 1) _ _ ?_ ?_)).trans rfl
  · blk_simp [idx t]
  · blk_simp [idx t]

/-- The reference's array is the product too. -/
theorem reference (A : FVec Ideal S256x2048 .bf16) (B : FVec Ideal S2048x1024 .bf16) :
    Host.dotGeneral Cert.KvCtxRefIdeal.dot_S256x2048_S2048x1024_S256x1024_1_0_0_1_n_n none
      (extf .f32 A Cert.KvCtxRefIdeal.Gen.bitsLt_bf16_f32) (extf .f32 B Cert.KvCtxRefIdeal.Gen.bitsLt_bf16_f32) = arr (nn A B) := by
  funext y
  refine Eq.trans ?_ (arr_at (nn A B) (y 0) (y 1) y rfl rfl).symm
  pointwise [nn]

/-- From equal arguments the optimised program and the reference end with equal results. -/
theorem same : Cert.algebraic_KvCtxIdeal_KvCtxRefIdeal := by
  intro m ρ m' ρ' _ hagree
  refine ⟨fun c => arr (nn (argA m c) (argB m c)),
    (θ_run _ _ _).mono (fun r h c => ⟨(h c).1.trans (final m c), (h c).2⟩) (Cert.KvCtxIdeal.Value.run_blocks (F := Ideal) m ρ),
    (θ_run _ _ _).mono (fun r h c => ⟨(h c).1.trans ((reference _ _).trans ?_), (h c).2⟩) (Cert.KvCtxRefIdeal.Value.run (F := Ideal) m' ρ')⟩
  rw [(hagree c).1, (hagree c).2]

/-- The reference runs without fault, keeps its arguments, and has no counter. -/
theorem ref_frame : Cert.quiescent_KvCtxRefIdeal := fun m ρ _ =>
  (θ_run _ _ _).mono (fun r h => ⟨fun c => (h c).2, sem_eq_zero_of_no_sems (by decide) r.2⟩) (Cert.KvCtxRefIdeal.Value.run (F := Ideal) m ρ)

end Cert.KvCtxIdeal.Mat

end
-- ==== Proof.MatSqCtx.lean ====
/-
  A projection of the context's rows by a square matrix: the tiled product `hc · w`, each of its blocks formed at
  once, holds the product, and so does the reference's array.
-/
module

public import proofs.«01_k».proof.Defs
public import proofs.«01_k».proof.Proof.MatSum
public import proofs.«01_k».proof.Proof.Gen.SqCtxIdeal.Value
public import proofs.«01_k».proof.Proof.Gen.SqCtxRefIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.SqCtxIdeal.Mat

open Idealize.ShloMosaic Idealize.ShloMosaic.TcCoe Idealize.ShloMosaic.Pipeline Idealize.SL.Sem
open Cert.SqCtxIdeal Cert.SqCtxIdeal.Gen Cert.Mat

variable (m : (ℓ : Loc nD τ sig) → Buf (Elt Ideal) ℓ) (c : Dev nD)

/-- Where each window's block lies at a point. -/
theorem idx : ∀ t : Fin cfg0.N, win0_0.index t = ![0, 0] ∧ win0_1.index t = ![0, t.val]
    ∧ win0_2.index t = ![0, t.val] :=
  (by decide +kernel : ∀ t : Fin grid0.N, _)

/-- The two arguments. -/
abbrev argA : FVec Ideal S256x2048 .bf16 := V m c main_arg0
abbrev argB : FVec Ideal S2048x2048 .bf16 := V m c main_arg1

/-- A block of the output is that block of the product. -/
theorem out (t : Fin cfg0.N) (i : Fin 256) (j : Fin 1024) (I : Fin 256) (J : Fin 2048)
    (hI : I.val = i.val) (hJ : J.val = t.val * 1024 + j.val) :
    out0_2 (F := Ideal) (iblk m c 0 t) (iblk m c 1 t) (ix2 i j) = nn (argA m c) (argB m c) I J := by
  refine Eq.trans (b := nn (iblk m c 0 t : FVec Ideal S256x2048 .bf16) (iblk m c 1 t : FVec Ideal S2048x1024 .bf16) i j) ?_
    (Finset.sum_congr rfl fun r _ => congrArg₂ (· * ·) ?_ ?_)
  · frame_out
    pointwise [k0_pay1, nn]
  · blk_ext [iblk, idx t]
  · blk_ext [iblk, idx t]

/-- The output holds the product. -/
theorem final : (dats m 0 c).arrAt 2 cfg0.N = arr (nn (argA m c) (argB m c)) := by
  refine (dats m 0 c).arrAt_eq_of_covers 2 (arr (nn (argA m c) (argB m c))) (by decide +kernel) fun t hf y => ?_
  blk_simp
  rw [after0_2]
  refine ((congrArg _ (eq_ix2 y)).trans (out m c t (y 0) (y 1) _ _ ?_ ?_)).trans rfl
  · blk_simp [idx t]
  · blk_simp [idx t]

/-- The reference's array is the product too. -/
theorem reference (A : FVec Ideal S256x2048 .bf16) (B : FVec Ideal S2048x2048 .bf16) :
    Host.dotGeneral Cert.SqCtxRefIdeal.dot_S256x2048_S2048x2048_S256x2048_1_0_0_1_n_n none
      (extf .f32 A Cert.SqCtxRefIdeal.Gen.bitsLt_bf16_f32) (extf .f32 B Cert.SqCtxRefIdeal.Gen.bitsLt_bf16_f32) = arr (nn A B) := by
  funext y
  refine Eq.trans ?_ (arr_at (nn A B) (y 0) (y 1) y rfl rfl).symm
  pointwise [nn]

/-- From equal arguments the optimised program and the reference end with equal results. -/
theorem same : Cert.algebraic_SqCtxIdeal_SqCtxRefIdeal := by
  intro m ρ m' ρ' _ hagree
  refine ⟨fun c => arr (nn (argA m c) (argB m c)),
    (θ_run _ _ _).mono (fun r h c => ⟨(h c).1.trans (final m c), (h c).2⟩) (Cert.SqCtxIdeal.Value.run_blocks (F := Ideal) m ρ),
    (θ_run _ _ _).mono (fun r h c => ⟨(h c).1.trans ((reference _ _).trans ?_), (h c).2⟩) (Cert.SqCtxRefIdeal.Value.run (F := Ideal) m' ρ')⟩
  rw [(hagree c).1, (hagree c).2]

/-- The reference runs without fault, keeps its arguments, and has no counter. -/
theorem ref_frame : Cert.quiescent_SqCtxRefIdeal := fun m ρ _ =>
  (θ_run _ _ _).mono (fun r h => ⟨fun c => (h c).2, sem_eq_zero_of_no_sems (by decide) r.2⟩) (Cert.SqCtxRefIdeal.Value.run (F := Ideal) m ρ)

end Cert.SqCtxIdeal.Mat

end
-- ==== Proof.MatLrCtx.lean ====
/-
  The projection of the context's rows to the gates' low rank: the product `hc · w`, formed at once, holds the
  product, and so does the reference's array.
-/
module

public import proofs.«01_k».proof.Defs
public import proofs.«01_k».proof.Proof.MatSum
public import proofs.«01_k».proof.Proof.Gen.LrCtxIdeal.Value
public import proofs.«01_k».proof.Proof.Gen.LrCtxRefIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.LrCtxIdeal.Mat

open Idealize.ShloMosaic Idealize.ShloMosaic.TcCoe Idealize.ShloMosaic.Pipeline Idealize.SL.Sem
open Cert.LrCtxIdeal Cert.LrCtxIdeal.Gen Cert.Mat

variable (m : (ℓ : Loc nD τ sig) → Buf (Elt Ideal) ℓ) (c : Dev nD)

/-- Where each window's block lies at a point. -/
theorem idx : ∀ t : Fin cfg0.N, win0_0.index t = ![0, 0] ∧ win0_1.index t = ![0, 0]
    ∧ win0_2.index t = ![0, 0] :=
  (by decide +kernel : ∀ t : Fin grid0.N, _)

/-- The two arguments. -/
abbrev argA : FVec Ideal S256x2048 .bf16 := V m c main_arg0
abbrev argB : FVec Ideal S2048x128 .bf16 := V m c main_arg1

/-- A block of the output is that block of the product. -/
theorem out (t : Fin cfg0.N) (i : Fin 256) (j : Fin 128) (I : Fin 256) (J : Fin 128)
    (hI : I.val = i.val) (hJ : J.val = j.val) :
    out0_2 (F := Ideal) (iblk m c 0 t) (iblk m c 1 t) (ix2 i j) = nn (argA m c) (argB m c) I J := by
  refine Eq.trans (b := nn (iblk m c 0 t : FVec Ideal S256x2048 .bf16) (iblk m c 1 t : FVec Ideal S2048x128 .bf16) i j) ?_
    (Finset.sum_congr rfl fun r _ => congrArg₂ (· * ·) ?_ ?_)
  · frame_out
    pointwise [k0_pay1, nn]
  · blk_ext [iblk, idx t]
  · blk_ext [iblk, idx t]

/-- The output holds the product. -/
theorem final : (dats m 0 c).arrAt 2 cfg0.N = arr (nn (argA m c) (argB m c)) := by
  refine (dats m 0 c).arrAt_eq_of_covers 2 (arr (nn (argA m c) (argB m c))) (by decide +kernel) fun t hf y => ?_
  blk_simp
  rw [after0_2]
  refine ((congrArg _ (eq_ix2 y)).trans (out m c t (y 0) (y 1) _ _ ?_ ?_)).trans rfl
  · blk_simp [idx t]
  · blk_simp [idx t]

/-- The reference's array is the product too. -/
theorem reference (A : FVec Ideal S256x2048 .bf16) (B : FVec Ideal S2048x128 .bf16) :
    Host.dotGeneral Cert.LrCtxRefIdeal.dot_S256x2048_S2048x128_S256x128_1_0_0_1_n_n none
      (extf .f32 A Cert.LrCtxRefIdeal.Gen.bitsLt_bf16_f32) (extf .f32 B Cert.LrCtxRefIdeal.Gen.bitsLt_bf16_f32) = arr (nn A B) := by
  funext y
  refine Eq.trans ?_ (arr_at (nn A B) (y 0) (y 1) y rfl rfl).symm
  pointwise [nn]

/-- From equal arguments the optimised program and the reference end with equal results. -/
theorem same : Cert.algebraic_LrCtxIdeal_LrCtxRefIdeal := by
  intro m ρ m' ρ' _ hagree
  refine ⟨fun c => arr (nn (argA m c) (argB m c)),
    (θ_run _ _ _).mono (fun r h c => ⟨(h c).1.trans (final m c), (h c).2⟩) (Cert.LrCtxIdeal.Value.run_blocks (F := Ideal) m ρ),
    (θ_run _ _ _).mono (fun r h c => ⟨(h c).1.trans ((reference _ _).trans ?_), (h c).2⟩) (Cert.LrCtxRefIdeal.Value.run (F := Ideal) m' ρ')⟩
  rw [(hagree c).1, (hagree c).2]

/-- The reference runs without fault, keeps its arguments, and has no counter. -/
theorem ref_frame : Cert.quiescent_LrCtxRefIdeal := fun m ρ _ =>
  (θ_run _ _ _).mono (fun r h => ⟨fun c => (h c).2, sem_eq_zero_of_no_sems (by decide) r.2⟩) (Cert.LrCtxRefIdeal.Value.run (F := Ideal) m ρ)

end Cert.LrCtxIdeal.Mat

end
-- ==== Proof.MatDwKvCtx.lean ====
/-
  The context's part of the weight's gradient of the keys and values: the tiled product `hcᵀ · d`, each of its
  blocks formed at once, holds the product, and so does the reference's array.
-/
module

public import proofs.«01_k».proof.Defs
public import proofs.«01_k».proof.Proof.MatSum
public import proofs.«01_k».proof.Proof.Gen.DwKvCtxIdeal.Value
public import proofs.«01_k».proof.Proof.Gen.DwKvCtxRefIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.DwKvCtxIdeal.Mat

open Idealize.ShloMosaic Idealize.ShloMosaic.TcCoe Idealize.ShloMosaic.Pipeline Idealize.SL.Sem
open Cert.DwKvCtxIdeal Cert.DwKvCtxIdeal.Gen Cert.Mat

variable (m : (ℓ : Loc nD τ sig) → Buf (Elt Ideal) ℓ) (c : Dev nD)

/-- Where each window's block lies at a point. -/
theorem idx : ∀ t : Fin cfg0.N, win0_0.index t = ![0, t.val] ∧ win0_1.index t = ![0, 0]
    ∧ win0_2.index t = ![t.val, 0] :=
  (by decide +kernel : ∀ t : Fin grid0.N, _)

/-- The two arguments. -/
abbrev argA : FVec Ideal S256x2048 .bf16 := V m c main_arg0
abbrev argB : FVec Ideal S256x1024 .bf16 := V m c main_arg1

/-- A block of the output is that block of the product. -/
theorem out (t : Fin cfg0.N) (i : Fin 1024) (j : Fin 1024) (I : Fin 2048) (J : Fin 1024)
    (hI : I.val = t.val * 1024 + i.val) (hJ : J.val = j.val) :
    out0_2 (F := Ideal) (iblk m c 0 t) (iblk m c 1 t) (ix2 i j) = tn (argA m c) (argB m c) I J := by
  refine Eq.trans (b := tn (iblk m c 0 t : FVec Ideal S256x1024 .bf16) (iblk m c 1 t : FVec Ideal S256x1024 .bf16) i j) ?_
    (Finset.sum_congr rfl fun r _ => congrArg₂ (· * ·) ?_ ?_)
  · frame_out
    pointwise [k0_pay1, tn]
  · blk_ext [iblk, idx t]
  · blk_ext [iblk, idx t]

/-- The output holds the product. -/
theorem final : (dats m 0 c).arrAt 2 cfg0.N = arr (tn (argA m c) (argB m c)) := by
  refine (dats m 0 c).arrAt_eq_of_covers 2 (arr (tn (argA m c) (argB m c))) (by decide +kernel) fun t hf y => ?_
  blk_simp
  rw [after0_2]
  refine ((congrArg _ (eq_ix2 y)).trans (out m c t (y 0) (y 1) _ _ ?_ ?_)).trans rfl
  · blk_simp [idx t]
  · blk_simp [idx t]

/-- The reference's array is the product too. -/
theorem reference (A : FVec Ideal S256x2048 .bf16) (B : FVec Ideal S256x1024 .bf16) :
    transpose S2048x1024 [1, 0] (Host.dotGeneral Cert.DwKvCtxRefIdeal.dot_S256x1024_S256x2048_S1024x2048_0_0_1_1_n_n none
      (extf .f32 B Cert.DwKvCtxRefIdeal.Gen.bitsLt_bf16_f32) (extf .f32 A Cert.DwKvCtxRefIdeal.Gen.bitsLt_bf16_f32))
      Cert.DwKvCtxRefIdeal.Gen.transposes_S1024x2048_S2048x1024_1_0 = arr (tn A B) := by
  funext y
  refine Eq.trans ?_ (arr_at (tn A B) (y 0) (y 1) y rfl rfl).symm
  pointwise [tn]
  exact Finset.sum_congr rfl fun k _ => mul_comm _ _

/-- From equal arguments the optimised program and the reference end with equal results. -/
theorem same : Cert.algebraic_DwKvCtxIdeal_DwKvCtxRefIdeal := by
  intro m ρ m' ρ' _ hagree
  refine ⟨fun c => arr (tn (argA m c) (argB m c)),
    (θ_run _ _ _).mono (fun r h c => ⟨(h c).1.trans (final m c), (h c).2⟩) (Cert.DwKvCtxIdeal.Value.run_blocks (F := Ideal) m ρ),
    (θ_run _ _ _).mono (fun r h c => ⟨(h c).1.trans ((reference _ _).trans ?_), (h c).2⟩) (Cert.DwKvCtxRefIdeal.Value.run (F := Ideal) m' ρ')⟩
  rw [(hagree c).1, (hagree c).2]

/-- The reference runs without fault, keeps its arguments, and has no counter. -/
theorem ref_frame : Cert.quiescent_DwKvCtxRefIdeal := fun m ρ _ =>
  (θ_run _ _ _).mono (fun r h => ⟨fun c => (h c).2, sem_eq_zero_of_no_sems (by decide) r.2⟩) (Cert.DwKvCtxRefIdeal.Value.run (F := Ideal) m ρ)

end Cert.DwKvCtxIdeal.Mat

end
-- ==== Proof.MatDwSqCtx.lean ====
/-
  The context's part of the weight's gradient of a projection by a square matrix: the tiled product `hcᵀ · d`, each
  of its blocks formed at once, holds the product, and so does the reference's array.
-/
module

public import proofs.«01_k».proof.Defs
public import proofs.«01_k».proof.Proof.MatSum
public import proofs.«01_k».proof.Proof.Gen.DwSqCtxIdeal.Value
public import proofs.«01_k».proof.Proof.Gen.DwSqCtxRefIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.DwSqCtxIdeal.Mat

open Idealize.ShloMosaic Idealize.ShloMosaic.TcCoe Idealize.ShloMosaic.Pipeline Idealize.SL.Sem
open Cert.DwSqCtxIdeal Cert.DwSqCtxIdeal.Gen Cert.Mat

variable (m : (ℓ : Loc nD τ sig) → Buf (Elt Ideal) ℓ) (c : Dev nD)

/-- Where each window's block lies at a point. -/
theorem idx : ∀ t : Fin cfg0.N, win0_0.index t = ![0, t.val / 2] ∧ win0_1.index t = ![0, t.val % 2]
    ∧ win0_2.index t = ![t.val / 2, t.val % 2] :=
  (by decide +kernel : ∀ t : Fin grid0.N, _)

/-- The two arguments. -/
abbrev argA : FVec Ideal S256x2048 .bf16 := V m c main_arg0
abbrev argB : FVec Ideal S256x2048 .bf16 := V m c main_arg1

/-- A block of the output is that block of the product. -/
theorem out (t : Fin cfg0.N) (i : Fin 1024) (j : Fin 1024) (I : Fin 2048) (J : Fin 2048)
    (hI : I.val = t.val / 2 * 1024 + i.val) (hJ : J.val = t.val % 2 * 1024 + j.val) :
    out0_2 (F := Ideal) (iblk m c 0 t) (iblk m c 1 t) (ix2 i j) = tn (argA m c) (argB m c) I J := by
  refine Eq.trans (b := tn (iblk m c 0 t : FVec Ideal S256x1024 .bf16) (iblk m c 1 t : FVec Ideal S256x1024 .bf16) i j) ?_
    (Finset.sum_congr rfl fun r _ => congrArg₂ (· * ·) ?_ ?_)
  · frame_out
    pointwise [k0_pay1, tn]
  · blk_ext [iblk, idx t]
  · blk_ext [iblk, idx t]

/-- The output holds the product. -/
theorem final : (dats m 0 c).arrAt 2 cfg0.N = arr (tn (argA m c) (argB m c)) := by
  refine (dats m 0 c).arrAt_eq_of_covers 2 (arr (tn (argA m c) (argB m c))) (by decide +kernel) fun t hf y => ?_
  blk_simp
  rw [after0_2]
  refine ((congrArg _ (eq_ix2 y)).trans (out m c t (y 0) (y 1) _ _ ?_ ?_)).trans rfl
  · blk_simp [idx t]
  · blk_simp [idx t]

/-- The reference's array is the product too. -/
theorem reference (A : FVec Ideal S256x2048 .bf16) (B : FVec Ideal S256x2048 .bf16) :
    transpose S2048x2048 [1, 0] (Host.dotGeneral Cert.DwSqCtxRefIdeal.dot_S256x2048_S256x2048_S2048x2048_0_0_1_1_n_n none
      (extf .f32 B Cert.DwSqCtxRefIdeal.Gen.bitsLt_bf16_f32) (extf .f32 A Cert.DwSqCtxRefIdeal.Gen.bitsLt_bf16_f32))
      Cert.DwSqCtxRefIdeal.Gen.transposes_S2048x2048_S2048x2048_1_0 = arr (tn A B) := by
  funext y
  refine Eq.trans ?_ (arr_at (tn A B) (y 0) (y 1) y rfl rfl).symm
  pointwise [tn]
  exact Finset.sum_congr rfl fun k _ => mul_comm _ _

/-- From equal arguments the optimised program and the reference end with equal results. -/
theorem same : Cert.algebraic_DwSqCtxIdeal_DwSqCtxRefIdeal := by
  intro m ρ m' ρ' _ hagree
  refine ⟨fun c => arr (tn (argA m c) (argB m c)),
    (θ_run _ _ _).mono (fun r h c => ⟨(h c).1.trans (final m c), (h c).2⟩) (Cert.DwSqCtxIdeal.Value.run_blocks (F := Ideal) m ρ),
    (θ_run _ _ _).mono (fun r h c => ⟨(h c).1.trans ((reference _ _).trans ?_), (h c).2⟩) (Cert.DwSqCtxRefIdeal.Value.run (F := Ideal) m' ρ')⟩
  rw [(hagree c).1, (hagree c).2]

/-- The reference runs without fault, keeps its arguments, and has no counter. -/
theorem ref_frame : Cert.quiescent_DwSqCtxRefIdeal := fun m ρ _ =>
  (θ_run _ _ _).mono (fun r h => ⟨fun c => (h c).2, sem_eq_zero_of_no_sems (by decide) r.2⟩) (Cert.DwSqCtxRefIdeal.Value.run (F := Ideal) m ρ)

end Cert.DwSqCtxIdeal.Mat

end
-- ==== Proof.MatDwLrCtx.lean ====
/-
  The context's part of the weight's gradient of the gates' low rank: the tiled product `hcᵀ · d`, each of its
  blocks formed at once, holds the product, and so does the reference's array.
-/
module

public import proofs.«01_k».proof.Defs
public import proofs.«01_k».proof.Proof.MatSum
public import proofs.«01_k».proof.Proof.Gen.DwLrCtxIdeal.Value
public import proofs.«01_k».proof.Proof.Gen.DwLrCtxRefIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.DwLrCtxIdeal.Mat

open Idealize.ShloMosaic Idealize.ShloMosaic.TcCoe Idealize.ShloMosaic.Pipeline Idealize.SL.Sem
open Cert.DwLrCtxIdeal Cert.DwLrCtxIdeal.Gen Cert.Mat

variable (m : (ℓ : Loc nD τ sig) → Buf (Elt Ideal) ℓ) (c : Dev nD)

/-- Where each window's block lies at a point. -/
theorem idx : ∀ t : Fin cfg0.N, win0_0.index t = ![0, t.val] ∧ win0_1.index t = ![0, 0]
    ∧ win0_2.index t = ![t.val, 0] :=
  (by decide +kernel : ∀ t : Fin grid0.N, _)

/-- The two arguments. -/
abbrev argA : FVec Ideal S256x2048 .bf16 := V m c main_arg0
abbrev argB : FVec Ideal S256x128 .bf16 := V m c main_arg1

/-- A block of the output is that block of the product. -/
theorem out (t : Fin cfg0.N) (i : Fin 1024) (j : Fin 128) (I : Fin 2048) (J : Fin 128)
    (hI : I.val = t.val * 1024 + i.val) (hJ : J.val = j.val) :
    out0_2 (F := Ideal) (iblk m c 0 t) (iblk m c 1 t) (ix2 i j) = tn (argA m c) (argB m c) I J := by
  refine Eq.trans (b := tn (iblk m c 0 t : FVec Ideal S256x1024 .bf16) (iblk m c 1 t : FVec Ideal S256x128 .bf16) i j) ?_
    (Finset.sum_congr rfl fun r _ => congrArg₂ (· * ·) ?_ ?_)
  · frame_out
    pointwise [k0_pay1, tn]
  · blk_ext [iblk, idx t]
  · blk_ext [iblk, idx t]

/-- The output holds the product. -/
theorem final : (dats m 0 c).arrAt 2 cfg0.N = arr (tn (argA m c) (argB m c)) := by
  refine (dats m 0 c).arrAt_eq_of_covers 2 (arr (tn (argA m c) (argB m c))) (by decide +kernel) fun t hf y => ?_
  blk_simp
  rw [after0_2]
  refine ((congrArg _ (eq_ix2 y)).trans (out m c t (y 0) (y 1) _ _ ?_ ?_)).trans rfl
  · blk_simp [idx t]
  · blk_simp [idx t]

/-- The reference's array is the product too. -/
theorem reference (A : FVec Ideal S256x2048 .bf16) (B : FVec Ideal S256x128 .bf16) :
    transpose S2048x128 [1, 0] (Host.dotGeneral Cert.DwLrCtxRefIdeal.dot_S256x128_S256x2048_S128x2048_0_0_1_1_n_n none
      (extf .f32 B Cert.DwLrCtxRefIdeal.Gen.bitsLt_bf16_f32) (extf .f32 A Cert.DwLrCtxRefIdeal.Gen.bitsLt_bf16_f32))
      Cert.DwLrCtxRefIdeal.Gen.transposes_S128x2048_S2048x128_1_0 = arr (tn A B) := by
  funext y
  refine Eq.trans ?_ (arr_at (tn A B) (y 0) (y 1) y rfl rfl).symm
  pointwise [tn]
  exact Finset.sum_congr rfl fun k _ => mul_comm _ _

/-- From equal arguments the optimised program and the reference end with equal results. -/
theorem same : Cert.algebraic_DwLrCtxIdeal_DwLrCtxRefIdeal := by
  intro m ρ m' ρ' _ hagree
  refine ⟨fun c => arr (tn (argA m c) (argB m c)),
    (θ_run _ _ _).mono (fun r h c => ⟨(h c).1.trans (final m c), (h c).2⟩) (Cert.DwLrCtxIdeal.Value.run_blocks (F := Ideal) m ρ),
    (θ_run _ _ _).mono (fun r h c => ⟨(h c).1.trans ((reference _ _).trans ?_), (h c).2⟩) (Cert.DwLrCtxRefIdeal.Value.run (F := Ideal) m' ρ')⟩
  rw [(hagree c).1, (hagree c).2]

/-- The reference runs without fault, keeps its arguments, and has no counter. -/
theorem ref_frame : Cert.quiescent_DwLrCtxRefIdeal := fun m ρ _ =>
  (θ_run _ _ _).mono (fun r h => ⟨fun c => (h c).2, sem_eq_zero_of_no_sems (by decide) r.2⟩) (Cert.DwLrCtxRefIdeal.Value.run (F := Ideal) m ρ)

end Cert.DwLrCtxIdeal.Mat

end
-- ==== Proof.MatDhcKv.lean ====
/-
  The gradient of the context's rows from the keys and values: the tiled product `d · wᵀ`, each of its blocks formed
  at once, holds the product, and so does the reference's array.
-/
module

public import proofs.«01_k».proof.Defs
public import proofs.«01_k».proof.Proof.MatSum
public import proofs.«01_k».proof.Proof.Gen.DhcKvIdeal.Value
public import proofs.«01_k».proof.Proof.Gen.DhcKvRefIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.DhcKvIdeal.Mat

open Idealize.ShloMosaic Idealize.ShloMosaic.TcCoe Idealize.ShloMosaic.Pipeline Idealize.SL.Sem
open Cert.DhcKvIdeal Cert.DhcKvIdeal.Gen Cert.Mat

variable (m : (ℓ : Loc nD τ sig) → Buf (Elt Ideal) ℓ) (c : Dev nD)

/-- Where each window's block lies at a point. -/
theorem idx : ∀ t : Fin cfg0.N, win0_0.index t = ![0, 0] ∧ win0_1.index t = ![t.val, 0]
    ∧ win0_2.index t = ![0, t.val] :=
  (by decide +kernel : ∀ t : Fin grid0.N, _)

/-- The two arguments. -/
abbrev argA : FVec Ideal S256x1024 .bf16 := V m c main_arg0
abbrev argB : FVec Ideal S2048x1024 .bf16 := V m c main_arg1

/-- A block of the output is that block of the product. -/
theorem out (t : Fin cfg0.N) (i : Fin 256) (j : Fin 1024) (I : Fin 256) (J : Fin 2048)
    (hI : I.val = i.val) (hJ : J.val = t.val * 1024 + j.val) :
    out0_2 (F := Ideal) (iblk m c 0 t) (iblk m c 1 t) (ix2 i j) = nt (argA m c) (argB m c) I J := by
  refine Eq.trans (b := nt (iblk m c 0 t : FVec Ideal S256x1024 .bf16) (iblk m c 1 t : FVec Ideal S1024x1024 .bf16) i j) ?_
    (Finset.sum_congr rfl fun r _ => congrArg₂ (· * ·) ?_ ?_)
  · frame_out
    pointwise [k0_pay1, nt]
  · blk_ext [iblk, idx t]
  · blk_ext [iblk, idx t]

/-- The output holds the product. -/
theorem final : (dats m 0 c).arrAt 2 cfg0.N = arr (nt (argA m c) (argB m c)) := by
  refine (dats m 0 c).arrAt_eq_of_covers 2 (arr (nt (argA m c) (argB m c))) (by decide +kernel) fun t hf y => ?_
  blk_simp
  rw [after0_2]
  refine ((congrArg _ (eq_ix2 y)).trans (out m c t (y 0) (y 1) _ _ ?_ ?_)).trans rfl
  · blk_simp [idx t]
  · blk_simp [idx t]

/-- The reference's array is the product too. -/
theorem reference (A : FVec Ideal S256x1024 .bf16) (B : FVec Ideal S2048x1024 .bf16) :
    Host.dotGeneral Cert.DhcKvRefIdeal.dot_S256x1024_S2048x1024_S256x2048_1_1_0_0_n_n none
      (extf .f32 A Cert.DhcKvRefIdeal.Gen.bitsLt_bf16_f32) (extf .f32 B Cert.DhcKvRefIdeal.Gen.bitsLt_bf16_f32) = arr (nt A B) := by
  funext y
  refine Eq.trans ?_ (arr_at (nt A B) (y 0) (y 1) y rfl rfl).symm
  pointwise [nt]

/-- From equal arguments the optimised program and the reference end with equal results. -/
theorem same : Cert.algebraic_DhcKvIdeal_DhcKvRefIdeal := by
  intro m ρ m' ρ' _ hagree
  refine ⟨fun c => arr (nt (argA m c) (argB m c)),
    (θ_run _ _ _).mono (fun r h c => ⟨(h c).1.trans (final m c), (h c).2⟩) (Cert.DhcKvIdeal.Value.run_blocks (F := Ideal) m ρ),
    (θ_run _ _ _).mono (fun r h c => ⟨(h c).1.trans ((reference _ _).trans ?_), (h c).2⟩) (Cert.DhcKvRefIdeal.Value.run (F := Ideal) m' ρ')⟩
  rw [(hagree c).1, (hagree c).2]

/-- The reference runs without fault, keeps its arguments, and has no counter. -/
theorem ref_frame : Cert.quiescent_DhcKvRefIdeal := fun m ρ _ =>
  (θ_run _ _ _).mono (fun r h => ⟨fun c => (h c).2, sem_eq_zero_of_no_sems (by decide) r.2⟩) (Cert.DhcKvRefIdeal.Value.run (F := Ideal) m ρ)

end Cert.DhcKvIdeal.Mat

end
-- ==== Proof.MatDhcSq.lean ====
/-
  The gradient of the context's rows from a projection by a square matrix, added to the sum so far: each block of `d
  · wᵀ` is formed at once and added, holds the sum, and so does the reference's array.
-/
module

public import proofs.«01_k».proof.Defs
public import proofs.«01_k».proof.Proof.MatSum
public import proofs.«01_k».proof.Proof.Gen.DhcSqIdeal.Value
public import proofs.«01_k».proof.Proof.Gen.DhcSqRefIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.DhcSqIdeal.Mat

open Idealize.ShloMosaic Idealize.ShloMosaic.TcCoe Idealize.ShloMosaic.Pipeline Idealize.SL.Sem
open Cert.DhcSqIdeal Cert.DhcSqIdeal.Gen Cert.Mat

variable (m : (ℓ : Loc nD τ sig) → Buf (Elt Ideal) ℓ) (c : Dev nD)

/-- Where each window's block lies at a point. -/
theorem idx : ∀ t : Fin cfg0.N, win0_0.index t = ![0, 0] ∧ win0_1.index t = ![t.val, 0]
    ∧ win0_2.index t = ![0, t.val] ∧ win0_3.index t = ![0, t.val] :=
  (by decide +kernel : ∀ t : Fin grid0.N, _)

/-- The three arguments. -/
abbrev argA : FVec Ideal S256x2048 .bf16 := V m c main_arg0
abbrev argB : FVec Ideal S2048x2048 .bf16 := V m c main_arg1
abbrev argC : FVec Ideal S256x2048 .f32 := V m c main_arg2

/-- A block of the output is that block of the sum. -/
theorem out (t : Fin cfg0.N) (i : Fin 256) (j : Fin 1024) (I : Fin 256) (J : Fin 2048)
    (hI : I.val = i.val) (hJ : J.val = t.val * 1024 + j.val) :
    out0_3 (F := Ideal) (iblk m c 0 t) (iblk m c 1 t) (iblk m c 2 t) (ix2 i j) = plus (argC m c) (nt (argA m c) (argB m c)) I J := by
  refine Eq.trans (b := plus (iblk m c 2 t : FVec Ideal S256x1024 .f32)
    (nt (iblk m c 0 t : FVec Ideal S256x2048 .bf16) (iblk m c 1 t : FVec Ideal S1024x2048 .bf16)) i j) ?_
    (congrArg₂ (· + ·) ?_ (Finset.sum_congr rfl fun r _ => congrArg₂ (· * ·) ?_ ?_))
  · frame_out
    pointwise [k0_pay1, plus, nt]
    exact add_comm _ _
  · blk_ext [iblk, idx t]
  · blk_ext [iblk, idx t]
  · blk_ext [iblk, idx t]

/-- The output holds the sum. -/
theorem final : (dats m 0 c).arrAt 3 cfg0.N = arr (plus (argC m c) (nt (argA m c) (argB m c))) := by
  refine (dats m 0 c).arrAt_eq_of_covers 3 (arr (plus (argC m c) (nt (argA m c) (argB m c)))) (by decide +kernel) fun t hf y => ?_
  blk_simp
  rw [after0_3]
  refine ((congrArg _ (eq_ix2 y)).trans (out m c t (y 0) (y 1) _ _ ?_ ?_)).trans rfl
  · blk_simp [idx t]
  · blk_simp [idx t]

/-- The reference's array is the sum too. -/
theorem reference (A : FVec Ideal S256x2048 .bf16) (B : FVec Ideal S2048x2048 .bf16) (C : FVec Ideal S256x2048 .f32) :
    addf C (Host.dotGeneral Cert.DhcSqRefIdeal.dot_S256x2048_S2048x2048_S256x2048_1_1_0_0_n_n none
      (extf .f32 A Cert.DhcSqRefIdeal.Gen.bitsLt_bf16_f32) (extf .f32 B Cert.DhcSqRefIdeal.Gen.bitsLt_bf16_f32)) = arr (plus C (nt A B)) := by
  funext y
  refine Eq.trans ?_ (arr_at (plus C (nt A B)) (y 0) (y 1) y rfl rfl).symm
  pointwise [plus, nt]

/-- From equal arguments the optimised program and the reference end with equal results. -/
theorem same : Cert.algebraic_DhcSqIdeal_DhcSqRefIdeal := by
  intro m ρ m' ρ' _ hagree
  refine ⟨fun c => arr (plus (argC m c) (nt (argA m c) (argB m c))),
    (θ_run _ _ _).mono (fun r h c => ⟨(h c).1.trans (final m c), (h c).2⟩) (Cert.DhcSqIdeal.Value.run_blocks (F := Ideal) m ρ),
    (θ_run _ _ _).mono (fun r h c => ⟨(h c).1.trans ((reference _ _ _).trans ?_), (h c).2⟩) (Cert.DhcSqRefIdeal.Value.run (F := Ideal) m' ρ')⟩
  rw [(hagree c).1, (hagree c).2.1, (hagree c).2.2]

/-- The reference runs without fault, keeps its arguments, and has no counter. -/
theorem ref_frame : Cert.quiescent_DhcSqRefIdeal := fun m ρ _ =>
  (θ_run _ _ _).mono (fun r h => ⟨fun c => (h c).2, sem_eq_zero_of_no_sems (by decide) r.2⟩) (Cert.DhcSqRefIdeal.Value.run (F := Ideal) m ρ)

end Cert.DhcSqIdeal.Mat

end
-- ==== Proof.MatDhcLr.lean ====
/-
  The gradient of the context's rows from the gates' low rank, added to the sum so far: each block of `d · wᵀ` is
  formed at once and added, holds the sum, and so does the reference's array.
-/
module

public import proofs.«01_k».proof.Defs
public import proofs.«01_k».proof.Proof.MatSum
public import proofs.«01_k».proof.Proof.Gen.DhcLrIdeal.Value
public import proofs.«01_k».proof.Proof.Gen.DhcLrRefIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.DhcLrIdeal.Mat

open Idealize.ShloMosaic Idealize.ShloMosaic.TcCoe Idealize.ShloMosaic.Pipeline Idealize.SL.Sem
open Cert.DhcLrIdeal Cert.DhcLrIdeal.Gen Cert.Mat

variable (m : (ℓ : Loc nD τ sig) → Buf (Elt Ideal) ℓ) (c : Dev nD)

/-- Where each window's block lies at a point. -/
theorem idx : ∀ t : Fin cfg0.N, win0_0.index t = ![0, 0] ∧ win0_1.index t = ![t.val, 0]
    ∧ win0_2.index t = ![0, t.val] ∧ win0_3.index t = ![0, t.val] :=
  (by decide +kernel : ∀ t : Fin grid0.N, _)

/-- The three arguments. -/
abbrev argA : FVec Ideal S256x128 .bf16 := V m c main_arg0
abbrev argB : FVec Ideal S2048x128 .bf16 := V m c main_arg1
abbrev argC : FVec Ideal S256x2048 .f32 := V m c main_arg2

/-- A block of the output is that block of the sum. -/
theorem out (t : Fin cfg0.N) (i : Fin 256) (j : Fin 1024) (I : Fin 256) (J : Fin 2048)
    (hI : I.val = i.val) (hJ : J.val = t.val * 1024 + j.val) :
    out0_3 (F := Ideal) (iblk m c 0 t) (iblk m c 1 t) (iblk m c 2 t) (ix2 i j) = plus (argC m c) (nt (argA m c) (argB m c)) I J := by
  refine Eq.trans (b := plus (iblk m c 2 t : FVec Ideal S256x1024 .f32)
    (nt (iblk m c 0 t : FVec Ideal S256x128 .bf16) (iblk m c 1 t : FVec Ideal S1024x128 .bf16)) i j) ?_
    (congrArg₂ (· + ·) ?_ (Finset.sum_congr rfl fun r _ => congrArg₂ (· * ·) ?_ ?_))
  · frame_out
    pointwise [k0_pay1, plus, nt]
    exact add_comm _ _
  · blk_ext [iblk, idx t]
  · blk_ext [iblk, idx t]
  · blk_ext [iblk, idx t]

/-- The output holds the sum. -/
theorem final : (dats m 0 c).arrAt 3 cfg0.N = arr (plus (argC m c) (nt (argA m c) (argB m c))) := by
  refine (dats m 0 c).arrAt_eq_of_covers 3 (arr (plus (argC m c) (nt (argA m c) (argB m c)))) (by decide +kernel) fun t hf y => ?_
  blk_simp
  rw [after0_3]
  refine ((congrArg _ (eq_ix2 y)).trans (out m c t (y 0) (y 1) _ _ ?_ ?_)).trans rfl
  · blk_simp [idx t]
  · blk_simp [idx t]

/-- The reference's array is the sum too. -/
theorem reference (A : FVec Ideal S256x128 .bf16) (B : FVec Ideal S2048x128 .bf16) (C : FVec Ideal S256x2048 .f32) :
    addf C (Host.dotGeneral Cert.DhcLrRefIdeal.dot_S256x128_S2048x128_S256x2048_1_1_0_0_n_n none
      (extf .f32 A Cert.DhcLrRefIdeal.Gen.bitsLt_bf16_f32) (extf .f32 B Cert.DhcLrRefIdeal.Gen.bitsLt_bf16_f32)) = arr (plus C (nt A B)) := by
  funext y
  refine Eq.trans ?_ (arr_at (plus C (nt A B)) (y 0) (y 1) y rfl rfl).symm
  pointwise [plus, nt]

/-- From equal arguments the optimised program and the reference end with equal results. -/
theorem same : Cert.algebraic_DhcLrIdeal_DhcLrRefIdeal := by
  intro m ρ m' ρ' _ hagree
  refine ⟨fun c => arr (plus (argC m c) (nt (argA m c) (argB m c))),
    (θ_run _ _ _).mono (fun r h c => ⟨(h c).1.trans (final m c), (h c).2⟩) (Cert.DhcLrIdeal.Value.run_blocks (F := Ideal) m ρ),
    (θ_run _ _ _).mono (fun r h c => ⟨(h c).1.trans ((reference _ _ _).trans ?_), (h c).2⟩) (Cert.DhcLrRefIdeal.Value.run (F := Ideal) m' ρ')⟩
  rw [(hagree c).1, (hagree c).2.1, (hagree c).2.2]

/-- The reference runs without fault, keeps its arguments, and has no counter. -/
theorem ref_frame : Cert.quiescent_DhcLrRefIdeal := fun m ρ _ =>
  (θ_run _ _ _).mono (fun r h => ⟨fun c => (h c).2, sem_eq_zero_of_no_sems (by decide) r.2⟩) (Cert.DhcLrRefIdeal.Value.run (F := Ideal) m ρ)

end Cert.DhcLrIdeal.Mat

end
-- ==== Proof.MatLr.lean ====
/-
  The projection to the gates' low rank: the tiled product `h · w`, each of its blocks formed at once, holds the
  product, and so does the reference's array.
-/
module

public import proofs.«01_k».proof.Defs
public import proofs.«01_k».proof.Proof.MatSum
public import proofs.«01_k».proof.Proof.Gen.LrIdeal.Value
public import proofs.«01_k».proof.Proof.Gen.LrRefIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.LrIdeal.Mat

open Idealize.ShloMosaic Idealize.ShloMosaic.TcCoe Idealize.ShloMosaic.Pipeline Idealize.SL.Sem
open Cert.LrIdeal Cert.LrIdeal.Gen Cert.Mat

variable (m : (ℓ : Loc nD τ sig) → Buf (Elt Ideal) ℓ) (c : Dev nD)

/-- Where each window's block lies at a point. -/
theorem idx : ∀ t : Fin cfg0.N, win0_0.index t = ![t.val, 0] ∧ win0_1.index t = ![0, 0]
    ∧ win0_2.index t = ![t.val, 0] :=
  (by decide +kernel : ∀ t : Fin grid0.N, _)

/-- The two arguments. -/
abbrev argA : FVec Ideal S8192x2048 .bf16 := V m c main_arg0
abbrev argB : FVec Ideal S2048x128 .bf16 := V m c main_arg1

/-- A block of the output is that block of the product. -/
theorem out (t : Fin cfg0.N) (i : Fin 1024) (j : Fin 128) (I : Fin 8192) (J : Fin 128)
    (hI : I.val = t.val * 1024 + i.val) (hJ : J.val = j.val) :
    out0_2 (F := Ideal) (iblk m c 0 t) (iblk m c 1 t) (ix2 i j) = nn (argA m c) (argB m c) I J := by
  refine Eq.trans (b := nn (iblk m c 0 t : FVec Ideal S1024x2048 .bf16) (iblk m c 1 t : FVec Ideal S2048x128 .bf16) i j) ?_
    (Finset.sum_congr rfl fun r _ => congrArg₂ (· * ·) ?_ ?_)
  · frame_out
    pointwise [k0_pay1, nn]
  · blk_ext [iblk, idx t]
  · blk_ext [iblk, idx t]

/-- The output holds the product. -/
theorem final : (dats m 0 c).arrAt 2 cfg0.N = arr (nn (argA m c) (argB m c)) := by
  refine (dats m 0 c).arrAt_eq_of_covers 2 (arr (nn (argA m c) (argB m c))) (by decide +kernel) fun t hf y => ?_
  blk_simp
  rw [after0_2]
  refine ((congrArg _ (eq_ix2 y)).trans (out m c t (y 0) (y 1) _ _ ?_ ?_)).trans rfl
  · blk_simp [idx t]
  · blk_simp [idx t]

/-- The reference's array is the product too. -/
theorem reference (A : FVec Ideal S8192x2048 .bf16) (B : FVec Ideal S2048x128 .bf16) :
    Host.dotGeneral Cert.LrRefIdeal.dot_S8192x2048_S2048x128_S8192x128_1_0_0_1_n_n none
      (extf .f32 A Cert.LrRefIdeal.Gen.bitsLt_bf16_f32) (extf .f32 B Cert.LrRefIdeal.Gen.bitsLt_bf16_f32) = arr (nn A B) := by
  funext y
  refine Eq.trans ?_ (arr_at (nn A B) (y 0) (y 1) y rfl rfl).symm
  pointwise [nn]

/-- From equal arguments the optimised program and the reference end with equal results. -/
theorem same : Cert.algebraic_LrIdeal_LrRefIdeal := by
  intro m ρ m' ρ' _ hagree
  refine ⟨fun c => arr (nn (argA m c) (argB m c)),
    (θ_run _ _ _).mono (fun r h c => ⟨(h c).1.trans (final m c), (h c).2⟩) (Cert.LrIdeal.Value.run_blocks (F := Ideal) m ρ),
    (θ_run _ _ _).mono (fun r h c => ⟨(h c).1.trans ((reference _ _).trans ?_), (h c).2⟩) (Cert.LrRefIdeal.Value.run (F := Ideal) m' ρ')⟩
  rw [(hagree c).1, (hagree c).2]

/-- The reference runs without fault, keeps its arguments, and has no counter. -/
theorem ref_frame : Cert.quiescent_LrRefIdeal := fun m ρ _ =>
  (θ_run _ _ _).mono (fun r h => ⟨fun c => (h c).2, sem_eq_zero_of_no_sems (by decide) r.2⟩) (Cert.LrRefIdeal.Value.run (F := Ideal) m ρ)

end Cert.LrIdeal.Mat

end
-- ==== Proof.MatDhLr.lean ====
/-
  The gradient of the rows from the gates' low rank, added to the sum so far: each block of `d · wᵀ` is formed at
  once and added, holds the sum, and so does the reference's array.
-/
module

public import proofs.«01_k».proof.Defs
public import proofs.«01_k».proof.Proof.MatSum
public import proofs.«01_k».proof.Proof.Gen.DhLrIdeal.Value
public import proofs.«01_k».proof.Proof.Gen.DhLrRefIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.DhLrIdeal.Mat

open Idealize.ShloMosaic Idealize.ShloMosaic.TcCoe Idealize.ShloMosaic.Pipeline Idealize.SL.Sem
open Cert.DhLrIdeal Cert.DhLrIdeal.Gen Cert.Mat

variable (m : (ℓ : Loc nD τ sig) → Buf (Elt Ideal) ℓ) (c : Dev nD)

/-- Where each window's block lies at a point. -/
theorem idx : ∀ t : Fin cfg0.N, win0_0.index t = ![t.val / 2, 0] ∧ win0_1.index t = ![t.val % 2, 0]
    ∧ win0_2.index t = ![t.val / 2, t.val % 2] ∧ win0_3.index t = ![t.val / 2, t.val % 2] :=
  (by decide +kernel : ∀ t : Fin grid0.N, _)

/-- The three arguments. -/
abbrev argA : FVec Ideal S8192x128 .bf16 := V m c main_arg0
abbrev argB : FVec Ideal S2048x128 .bf16 := V m c main_arg1
abbrev argC : FVec Ideal S8192x2048 .f32 := V m c main_arg2

/-- A block of the output is that block of the sum. -/
theorem out (t : Fin cfg0.N) (i : Fin 1024) (j : Fin 1024) (I : Fin 8192) (J : Fin 2048)
    (hI : I.val = t.val / 2 * 1024 + i.val) (hJ : J.val = t.val % 2 * 1024 + j.val) :
    out0_3 (F := Ideal) (iblk m c 0 t) (iblk m c 1 t) (iblk m c 2 t) (ix2 i j) = plus (argC m c) (nt (argA m c) (argB m c)) I J := by
  refine Eq.trans (b := plus (iblk m c 2 t : FVec Ideal S1024x1024 .f32)
    (nt (iblk m c 0 t : FVec Ideal S1024x128 .bf16) (iblk m c 1 t : FVec Ideal S1024x128 .bf16)) i j) ?_
    (congrArg₂ (· + ·) ?_ (Finset.sum_congr rfl fun r _ => congrArg₂ (· * ·) ?_ ?_))
  · frame_out
    pointwise [k0_pay1, plus, nt]
    exact add_comm _ _
  · blk_ext [iblk, idx t]
  · blk_ext [iblk, idx t]
  · blk_ext [iblk, idx t]

/-- The output holds the sum. -/
theorem final : (dats m 0 c).arrAt 3 cfg0.N = arr (plus (argC m c) (nt (argA m c) (argB m c))) := by
  refine (dats m 0 c).arrAt_eq_of_covers 3 (arr (plus (argC m c) (nt (argA m c) (argB m c)))) (by decide +kernel) fun t hf y => ?_
  blk_simp
  rw [after0_3]
  refine ((congrArg _ (eq_ix2 y)).trans (out m c t (y 0) (y 1) _ _ ?_ ?_)).trans rfl
  · blk_simp [idx t]
  · blk_simp [idx t]

/-- The reference's array is the sum too. -/
theorem reference (A : FVec Ideal S8192x128 .bf16) (B : FVec Ideal S2048x128 .bf16) (C : FVec Ideal S8192x2048 .f32) :
    addf C (Host.dotGeneral Cert.DhLrRefIdeal.dot_S8192x128_S2048x128_S8192x2048_1_1_0_0_n_n none
      (extf .f32 A Cert.DhLrRefIdeal.Gen.bitsLt_bf16_f32) (extf .f32 B Cert.DhLrRefIdeal.Gen.bitsLt_bf16_f32)) = arr (plus C (nt A B)) := by
  funext y
  refine Eq.trans ?_ (arr_at (plus C (nt A B)) (y 0) (y 1) y rfl rfl).symm
  pointwise [plus, nt]

/-- From equal arguments the optimised program and the reference end with equal results. -/
theorem same : Cert.algebraic_DhLrIdeal_DhLrRefIdeal := by
  intro m ρ m' ρ' _ hagree
  refine ⟨fun c => arr (plus (argC m c) (nt (argA m c) (argB m c))),
    (θ_run _ _ _).mono (fun r h c => ⟨(h c).1.trans (final m c), (h c).2⟩) (Cert.DhLrIdeal.Value.run_blocks (F := Ideal) m ρ),
    (θ_run _ _ _).mono (fun r h c => ⟨(h c).1.trans ((reference _ _ _).trans ?_), (h c).2⟩) (Cert.DhLrRefIdeal.Value.run (F := Ideal) m' ρ')⟩
  rw [(hagree c).1, (hagree c).2.1, (hagree c).2.2]

/-- The reference runs without fault, keeps its arguments, and has no counter. -/
theorem ref_frame : Cert.quiescent_DhLrRefIdeal := fun m ρ _ =>
  (θ_run _ _ _).mono (fun r h => ⟨fun c => (h c).2, sem_eq_zero_of_no_sems (by decide) r.2⟩) (Cert.DhLrRefIdeal.Value.run (F := Ideal) m ρ)

end Cert.DhLrIdeal.Mat

end
-- ==== Proof.MatDwLr.lean ====
/-
  The weight's gradient of the gates' low rank, added to the context's part: each block of `hᵀ · d` is formed at
  once and added, holds the sum, and so does the reference's array.
-/
module

public import proofs.«01_k».proof.Defs
public import proofs.«01_k».proof.Proof.MatSum
public import proofs.«01_k».proof.Proof.Gen.DwLrIdeal.Value
public import proofs.«01_k».proof.Proof.Gen.DwLrRefIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.DwLrIdeal.Mat

open Idealize.ShloMosaic Idealize.ShloMosaic.TcCoe Idealize.ShloMosaic.Pipeline Idealize.SL.Sem
open Cert.DwLrIdeal Cert.DwLrIdeal.Gen Cert.Mat

variable (m : (ℓ : Loc nD τ sig) → Buf (Elt Ideal) ℓ) (c : Dev nD)

/-- Where each window's block lies at a point. -/
theorem idx : ∀ t : Fin cfg0.N, win0_0.index t = ![0, t.val] ∧ win0_1.index t = ![0, 0]
    ∧ win0_2.index t = ![t.val, 0] ∧ win0_3.index t = ![t.val, 0] :=
  (by decide +kernel : ∀ t : Fin grid0.N, _)

/-- The three arguments. -/
abbrev argA : FVec Ideal S8192x2048 .bf16 := V m c main_arg0
abbrev argB : FVec Ideal S8192x128 .bf16 := V m c main_arg1
abbrev argC : FVec Ideal S2048x128 .f32 := V m c main_arg2

/-- A block of the output is that block of the sum. -/
theorem out (t : Fin cfg0.N) (i : Fin 1024) (j : Fin 128) (I : Fin 2048) (J : Fin 128)
    (hI : I.val = t.val * 1024 + i.val) (hJ : J.val = j.val) :
    out0_3 (F := Ideal) (iblk m c 0 t) (iblk m c 1 t) (iblk m c 2 t) (ix2 i j) = plus (argC m c) (tn (argA m c) (argB m c)) I J := by
  refine Eq.trans (b := plus (iblk m c 2 t : FVec Ideal S1024x128 .f32)
    (tn (iblk m c 0 t : FVec Ideal S8192x1024 .bf16) (iblk m c 1 t : FVec Ideal S8192x128 .bf16)) i j) ?_
    (congrArg₂ (· + ·) ?_ (Finset.sum_congr rfl fun r _ => congrArg₂ (· * ·) ?_ ?_))
  · frame_out
    pointwise [k0_pay1, plus, tn]
    exact add_comm _ _
  · blk_ext [iblk, idx t]
  · blk_ext [iblk, idx t]
  · blk_ext [iblk, idx t]

/-- The output holds the sum. -/
theorem final : (dats m 0 c).arrAt 3 cfg0.N = arr (plus (argC m c) (tn (argA m c) (argB m c))) := by
  refine (dats m 0 c).arrAt_eq_of_covers 3 (arr (plus (argC m c) (tn (argA m c) (argB m c)))) (by decide +kernel) fun t hf y => ?_
  blk_simp
  rw [after0_3]
  refine ((congrArg _ (eq_ix2 y)).trans (out m c t (y 0) (y 1) _ _ ?_ ?_)).trans rfl
  · blk_simp [idx t]
  · blk_simp [idx t]

/-- The reference's array is the sum too. -/
theorem reference (A : FVec Ideal S8192x2048 .bf16) (B : FVec Ideal S8192x128 .bf16) (C : FVec Ideal S2048x128 .f32) :
    truncf .bf16 (addf C (transpose S2048x128 [1, 0] (Host.dotGeneral Cert.DwLrRefIdeal.dot_S8192x128_S8192x2048_S128x2048_0_0_1_1_n_n none
      (extf .f32 B Cert.DwLrRefIdeal.Gen.bitsLt_bf16_f32) (extf .f32 A Cert.DwLrRefIdeal.Gen.bitsLt_bf16_f32))
      Cert.DwLrRefIdeal.Gen.transposes_S128x2048_S2048x128_1_0)) Cert.DwLrRefIdeal.Gen.bitsLt_bf16_f32 = arr (plus C (tn A B)) := by
  funext y
  refine Eq.trans ?_ (arr_at (plus C (tn A B)) (y 0) (y 1) y rfl rfl).symm
  pointwise [plus, tn]
  exact congrArg _ <| Finset.sum_congr rfl fun k _ => mul_comm _ _

/-- From equal arguments the optimised program and the reference end with equal results. -/
theorem same : Cert.algebraic_DwLrIdeal_DwLrRefIdeal := by
  intro m ρ m' ρ' _ hagree
  refine ⟨fun c => arr (plus (argC m c) (tn (argA m c) (argB m c))),
    (θ_run _ _ _).mono (fun r h c => ⟨(h c).1.trans (final m c), (h c).2⟩) (Cert.DwLrIdeal.Value.run_blocks (F := Ideal) m ρ),
    (θ_run _ _ _).mono (fun r h c => ⟨(h c).1.trans ((reference _ _ _).trans ?_), (h c).2⟩) (Cert.DwLrRefIdeal.Value.run (F := Ideal) m' ρ')⟩
  rw [(hagree c).1, (hagree c).2.1, (hagree c).2.2]

/-- The reference runs without fault, keeps its arguments, and has no counter. -/
theorem ref_frame : Cert.quiescent_DwLrRefIdeal := fun m ρ _ =>
  (θ_run _ _ _).mono (fun r h => ⟨fun c => (h c).2, sem_eq_zero_of_no_sems (by decide) r.2⟩) (Cert.DwLrRefIdeal.Value.run (F := Ideal) m ρ)

end Cert.DwLrIdeal.Mat

end
-- ==== Proof.GateMath.lean ====
/-
  The sigmoid as the programs write it, `1 / (1 + exp (0 - x))`, `1 / (1 + exp (-x))` and `(tanh (x / 2) + 1) / 2`: over the
  extended reals they are one function.
-/
module

public import Idealize.ShloMosaic.Lib.Pointwise
public import Mathlib.Analysis.SpecialFunctions.Trigonometric.DerivHyp

@[expose] public section

noncomputable section

namespace Cert.Gate

open Idealize.ShloMosaic

/-- Taking from zero is the negative, with the infinities too. -/
theorem zero_sub (x : EReal) : 0 - x = -x := by
  rw [sub_eq_add_neg, zero_add]

/-- The hyperbolic tangent of half a real number, moved and scaled, is its sigmoid. -/
theorem tanh_half (r : ℝ) : 1 / 2 * Real.tanh (1 / 2 * r) + 1 / 2 = (1 + Real.exp (-r))⁻¹ := by
  have h : Real.exp (-r) = Real.exp (-(1 / 2 * r)) * Real.exp (-(1 / 2 * r)) := by
    rw [← Real.exp_add]; congr 1; ring
  have e : Real.exp (1 / 2 * r) * Real.exp (-(1 / 2 * r)) = 1 := by
    rw [← Real.exp_add]; simp
  rw [Real.tanh_eq_sinh_div_cosh, Real.sinh_eq, Real.cosh_eq, h]
  generalize Real.exp (-(1 / 2 * r)) = b at e
  have ha : 0 < Real.exp (1 / 2 * r) := Real.exp_pos _
  generalize Real.exp (1 / 2 * r) = a at e ha
  have hb : 0 < b := by
    rcases lt_or_ge 0 b with hb | hb
    · exact hb
    · exact absurd e (by nlinarith)
  have h1 : a + b ≠ 0 := by positivity
  have h2 : 1 + b * b ≠ 0 := by positivity
  field_simp
  nlinarith [e]

/-- The literal one half. -/
theorem half_val : Ideal.ofBits .f32 0x3F000000#32 = ((1 / 2 : ℝ) : EReal) := by
  simp [Ideal.ofBits, Ideal.ieee, -EReal.coe_mul]; norm_num

/-- The sigmoid by the hyperbolic tangent is the sigmoid, at the infinities too. -/
theorem half_tanh (x : EReal) : Ideal.ofBits .f32 0x3F000000#32 * Ideal.tanh (Ideal.ofBits .f32 0x3F000000#32 * x)
    + Ideal.ofBits .f32 0x3F000000#32 = Ideal.logistic x := by
  rw [half_val]
  have hp : (0 : ℝ) < 1 / 2 := by norm_num
  induction x using EReal.rec with
  | bot =>
    rw [EReal.coe_mul_bot_of_pos hp, Ideal.tanh_bot, Ideal.logistic_bot, ← EReal.coe_one, ← EReal.coe_neg, ← EReal.coe_mul, ← EReal.coe_add]
    norm_num
  | top =>
    rw [EReal.coe_mul_top_of_pos hp, Ideal.tanh_top, Ideal.logistic_top, ← EReal.coe_one, ← EReal.coe_mul, ← EReal.coe_add]
    norm_num
  | coe r =>
    rw [← EReal.coe_mul, Ideal.tanh_coe, Ideal.logistic_coe, ← EReal.coe_mul, ← EReal.coe_add]
    exact congrArg _ (tanh_half r)

end Cert.Gate

end
-- ==== Proof.GateMerge.lean ====
/-
  The merge `sigmoid(ga) * ya + sigmoid(gb) * yg`, the two halves of the gate's columns taken apart: the program by blocks
  of rows and the reference hold the same array.
-/
module

public import proofs.«01_k».proof.Defs
public import proofs.«01_k».proof.Proof.GateMath
public import proofs.«01_k».proof.Proof.Gen.MergeIdeal.Value
public import proofs.«01_k».proof.Proof.Gen.MergeRefIdeal.Run
public import Idealize.ShloMosaic.Lib.Pointwise
public import Idealize.ShloMosaic.Lib.Quiescent

@[expose] public section

set_option maxRecDepth 16384

noncomputable section

namespace Cert.MergeIdeal.Gate

open Idealize.ShloMosaic Idealize.ShloMosaic.TcCoe Idealize.SL.Sem
open Cert.MergeIdeal

/-- The merge, entry by entry. -/
abbrev merged (ya yg : FVec Ideal S8192x2048 .f32) (g : FVec Ideal S8192x4096 .f32) : FVec Ideal S8192x2048 .bf16 :=
  Cert.MergeIdeal.Value.G4 (F := Ideal) ya yg g g

open Cert.MergeRefIdeal Cert.MergeRefIdeal.Gen in
/-- The reference's array is the merge: it takes the negative where the program takes from zero. -/
theorem reference (ya yg : FVec Ideal Cert.MergeIdeal.S8192x2048 .f32) (g : FVec Ideal Cert.MergeIdeal.S8192x4096 .f32) :
    (truncf .bf16 (addf (mulf (Host.divf (broadcastInDim S8192x2048 ![] bcast_S_S8192x2048 (constant S_ .f32 0x3F800000#32))
        (addf (broadcastInDim S8192x2048 ![] bcast_S_S8192x2048 (constant S_ .f32 0x3F800000#32))
          (Host.exp (Host.negf (extractStridedSlice S8192x2048 ![0, 0] g slices_S8192x4096_S8192x2048_0_0))))) ya)
      (mulf (Host.divf (broadcastInDim S8192x2048 ![] bcast_S_S8192x2048 (constant S_ .f32 0x3F800000#32))
        (addf (broadcastInDim S8192x2048 ![] bcast_S_S8192x2048 (constant S_ .f32 0x3F800000#32))
          (Host.exp (Host.negf (extractStridedSlice S8192x2048 ![0, 2048] g slices_S8192x4096_S8192x2048_0_2048))))) yg))
      bitsLt_bf16_f32 : FVec Ideal S8192x2048 .bf16) = merged ya yg g := by
  funext y
  have ha : Cert.MergeIdeal.Value.inIdx4_2 y = ix2 (y 0) ⟨(y 1).val, by have := (y 1).isLt; simp at this ⊢; omega⟩ := by
    funext a; fin_cases a <;> apply Fin.ext <;> simp
  have hb : Cert.MergeIdeal.Value.inIdx4_3 y = ix2 (y 0) ⟨2048 + (y 1).val, by have := (y 1).isLt; simp at this ⊢; omega⟩ := by
    funext a; fin_cases a <;> apply Fin.ext <;> simp <;> omega
  pointwise [merged, Cert.MergeIdeal.Value.G4, ha, hb, Cert.Gate.zero_sub]

/-- From equal arguments the merge and its reference end with equal results. -/
theorem same : Cert.algebraic_MergeIdeal_MergeRefIdeal := by
  intro m ρ m' ρ' _ hagree
  refine ⟨fun c => merged (m ((c : Thread nD τ).loc main_arg0)) (m ((c : Thread nD τ).loc main_arg1)) (m ((c : Thread nD τ).loc main_arg2)),
    Cert.MergeIdeal.Value.run (F := Ideal) m ρ,
    (θ_run _ _ _).mono (fun r h c => ⟨(h c).1.trans ((reference _ _ _).trans ?_), (h c).2⟩) (Cert.MergeRefIdeal.Value.run (F := Ideal) m' ρ')⟩
  rw [(hagree c).1, (hagree c).2.1, (hagree c).2.2]

/-- The reference runs without fault, keeps its arguments, and has no counter. -/
theorem ref_frame : Cert.quiescent_MergeRefIdeal := fun m ρ _ =>
  (θ_run _ _ _).mono (fun r h => ⟨fun c => (h c).2, sem_eq_zero_of_no_sems (by decide) r.2⟩) (Cert.MergeRefIdeal.Value.run (F := Ideal) m ρ)

end Cert.MergeIdeal.Gate

end
-- ==== Proof.GateMergeBwd.lean ====
/-
  The gradient of the merge `sigmoid(ga) * ya + sigmoid(gb) * yg`: the gradients of the two merged arrays and of the gate,
  whose halves the program writes side by side. The reference, the derivative taken of the merge itself, holds the same
  arrays.
-/
module

public import proofs.«01_k».proof.Defs
public import proofs.«01_k».proof.Proof.MatSum
public import proofs.«01_k».proof.Proof.GateMath
public import proofs.«01_k».proof.Proof.Gen.MergeBwdIdeal.Value
public import proofs.«01_k».proof.Proof.Gen.MergeBwdRefIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.MergeBwdIdeal.Gate

open Idealize.ShloMosaic Idealize.ShloMosaic.TcCoe Idealize.ShloMosaic.Pipeline Idealize.SL.Sem
open Cert.MergeBwdIdeal Cert.MergeBwdIdeal.Gen Cert.Mat

variable (m : (ℓ : Loc nD τ sig) → Buf (Elt Ideal) ℓ) (c : Dev nD)

/-- Where each window's block lies at a point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 1] ∧ win0_5.index t = ![t.val, 0] ∧ win0_6.index t = ![t.val, 0]
    ∧ win0_7.index t = ![t.val, 0] :=
  (by decide +kernel : ∀ t : Fin grid0.N, _)

/-- The four arguments: the cotangent, the two merged arrays, the gate. -/
abbrev argZ : FVec Ideal S8192x2048 .f32 := V m c main_arg0
abbrev argA : FVec Ideal S8192x2048 .f32 := V m c main_arg1
abbrev argB : FVec Ideal S8192x2048 .f32 := V m c main_arg2
abbrev argG : FVec Ideal S8192x4096 .f32 := V m c main_arg3

/-- The gradient of a merged array, from the cotangent and its gate. -/
def dval (z g : EReal) : EReal := z * Ideal.logistic g

/-- The gradient of a gate, from the cotangent, the array it weighs and the gate. -/
def dgate (z y g : EReal) : EReal := z * y * (Ideal.logistic g * (1 - Ideal.logistic g))

/-- A column of the gate's left half, and one of its right half. -/
def left (j : Fin 2048) : Fin 4096 := ⟨j.val, by omega⟩
def right (j : Fin 2048) : Fin 4096 := ⟨2048 + j.val, by omega⟩

/-- The three results, entry by entry. -/
def da (z : Ix 8192 2048 → EReal) (g : Ix 8192 4096 → EReal) (i : Fin 8192) (j : Fin 2048) : EReal :=
  dval (z (ix2 i j)) (g (ix2 i (left j)))
def db (z : Ix 8192 2048 → EReal) (g : Ix 8192 4096 → EReal) (i : Fin 8192) (j : Fin 2048) : EReal :=
  dval (z (ix2 i j)) (g (ix2 i (right j)))
def dg (z a b : Ix 8192 2048 → EReal) (g : Ix 8192 4096 → EReal) (i : Fin 8192) (j : Fin 4096) : EReal :=
  if h : j.val < 2048 then dgate (z (ix2 i ⟨j.val, h⟩)) (a (ix2 i ⟨j.val, h⟩)) (g (ix2 i j))
  else dgate (z (ix2 i ⟨j.val - 2048, by omega⟩)) (b (ix2 i ⟨j.val - 2048, by omega⟩)) (g (ix2 i j))

/-- A block of the first result. -/
theorem out5 (t : Fin cfg0.N) (i : Fin 256) (j : Fin 2048) (I : Fin 8192) (hI : I.val = t.val * 256 + i.val) :
    out0_5 (F := Ideal) (iblk m c 0 t) (iblk m c 1 t) (iblk m c 2 t) (iblk m c 3 t) (iblk m c 4 t) (ix2 i j)
      = da (argZ m c) (argG m c) I j := by
  refine Eq.trans (b := dval ((iblk m c 0 t : FVec Ideal S256x2048 .f32) (ix2 i j)) ((iblk m c 3 t : FVec Ideal S256x2048 .f32) (ix2 i j))) ?_
    (congrArg₂ dval ?_ ?_)
  · frame_out
    pointwise [k0_pay5, k0_pay2, dval, Ideal.logistic, Cert.Gate.zero_sub]
  · blk_ext [iblk, idx t]
  · blk_ext [iblk, idx t, left]

/-- A block of the second result. -/
theorem out6 (t : Fin cfg0.N) (i : Fin 256) (j : Fin 2048) (I : Fin 8192) (hI : I.val = t.val * 256 + i.val) :
    out0_6 (F := Ideal) (iblk m c 0 t) (iblk m c 1 t) (iblk m c 2 t) (iblk m c 3 t) (iblk m c 4 t) (ix2 i j)
      = db (argZ m c) (argG m c) I j := by
  refine Eq.trans (b := dval ((iblk m c 0 t : FVec Ideal S256x2048 .f32) (ix2 i j)) ((iblk m c 4 t : FVec Ideal S256x2048 .f32) (ix2 i j))) ?_
    (congrArg₂ dval ?_ ?_)
  · frame_out
    pointwise [k0_pay6, k0_pay3, dval, Ideal.logistic, Cert.Gate.zero_sub]
  · blk_ext [iblk, idx t]
  · blk_ext [iblk, idx t, right]

/-- A block of the third result: its left half by the first array, its right half by the second. -/
theorem out7 (t : Fin cfg0.N) (i : Fin 256) (j : Fin 4096) (I : Fin 8192) (hI : I.val = t.val * 256 + i.val) :
    out0_7 (F := Ideal) (iblk m c 0 t) (iblk m c 1 t) (iblk m c 2 t) (iblk m c 3 t) (iblk m c 4 t) (ix2 i j)
      = dg (argZ m c) (argA m c) (argB m c) (argG m c) I j := by
  by_cases h : j.val < 2048
  · refine Eq.trans (b := dgate ((iblk m c 0 t : FVec Ideal S256x2048 .f32) (ix2 i ⟨j.val, h⟩))
      ((iblk m c 1 t : FVec Ideal S256x2048 .f32) (ix2 i ⟨j.val, h⟩)) ((iblk m c 3 t : FVec Ideal S256x2048 .f32) (ix2 i ⟨j.val, h⟩))) ?_
      (Eq.trans ?_ (dif_pos h).symm)
    · frame_out
      pointwise [k0_pay1, k0_pay4, k0_pay2, k0_pay3, dgate, Ideal.logistic, Cert.Gate.zero_sub, h, mul_assoc]
    · congr 1
      · blk_ext [iblk, idx t]
      · blk_ext [iblk, idx t]
      · blk_ext [iblk, idx t]
  · refine Eq.trans (b := dgate ((iblk m c 0 t : FVec Ideal S256x2048 .f32) (ix2 i ⟨j.val - 2048, by omega⟩))
      ((iblk m c 2 t : FVec Ideal S256x2048 .f32) (ix2 i ⟨j.val - 2048, by omega⟩)) ((iblk m c 4 t : FVec Ideal S256x2048 .f32) (ix2 i ⟨j.val - 2048, by omega⟩))) ?_
      (Eq.trans ?_ (dif_neg h).symm)
    · frame_out
      pointwise [k0_pay1, k0_pay4, k0_pay2, k0_pay3, dgate, Ideal.logistic, Cert.Gate.zero_sub, h, mul_assoc]
    · congr 1
      · blk_ext [iblk, idx t]
      · blk_ext [iblk, idx t]
      · blk_ext [iblk, idx t]

/-- The first output holds the gradient of the first array. -/
theorem final5 : (dats m 0 c).arrAt 5 cfg0.N = arr (da (argZ m c) (argG m c)) := by
  refine (dats m 0 c).arrAt_eq_of_covers 5 (arr (da (argZ m c) (argG m c))) (by decide +kernel) fun t hf y => ?_
  blk_simp
  rw [after0_5]
  refine ((congrArg _ (eq_ix2 y)).trans ((out5 m c t (y 0) (y 1) _ ?_).trans (congrArg _ (Fin.ext ?_)))).trans rfl
  · blk_simp [idx t]
  · blk_simp [idx t]

/-- The second holds that of the second. -/
theorem final6 : (dats m 0 c).arrAt 6 cfg0.N = arr (db (argZ m c) (argG m c)) := by
  refine (dats m 0 c).arrAt_eq_of_covers 6 (arr (db (argZ m c) (argG m c))) (by decide +kernel) fun t hf y => ?_
  blk_simp
  rw [after0_6]
  refine ((congrArg _ (eq_ix2 y)).trans ((out6 m c t (y 0) (y 1) _ ?_).trans (congrArg _ (Fin.ext ?_)))).trans rfl
  · blk_simp [idx t]
  · blk_simp [idx t]

/-- The third holds that of the gate. -/
theorem final7 : (dats m 0 c).arrAt 7 cfg0.N = arr (dg (argZ m c) (argA m c) (argB m c) (argG m c)) := by
  refine (dats m 0 c).arrAt_eq_of_covers 7 (arr (dg (argZ m c) (argA m c) (argB m c) (argG m c))) (by decide +kernel) fun t hf y => ?_
  blk_simp
  rw [after0_7]
  refine ((congrArg _ (eq_ix2 y)).trans ((out7 m c t (y 0) (y 1) _ ?_).trans (congrArg _ (Fin.ext ?_)))).trans rfl
  · blk_simp [idx t]
  · blk_simp [idx t]

section
open Cert.MergeBwdRefIdeal Cert.MergeBwdRefIdeal.Gen

/-- The reference's sigmoid of an array. -/
abbrev sigma (x : FVec Ideal Cert.MergeBwdIdeal.S8192x2048 .f32) : FVec Ideal Cert.MergeBwdIdeal.S8192x2048 .f32 :=
  Host.divf (broadcastInDim S8192x2048 ![] bcast_S_S8192x2048 (constant S_ .f32 0x3F800000#32))
    (addf (broadcastInDim S8192x2048 ![] bcast_S_S8192x2048 (constant S_ .f32 0x3F800000#32))
      (Host.exp (Host.negf x)))

/-- The halves of the gate, as the reference takes them. -/
abbrev lo (g : FVec Ideal Cert.MergeBwdIdeal.S8192x4096 .f32) : FVec Ideal Cert.MergeBwdIdeal.S8192x2048 .f32 :=
  extractStridedSlice S8192x2048 ![0, 0] g slices_S8192x4096_S8192x2048_0_0
abbrev hi (g : FVec Ideal Cert.MergeBwdIdeal.S8192x4096 .f32) : FVec Ideal Cert.MergeBwdIdeal.S8192x2048 .f32 :=
  extractStridedSlice S8192x2048 ![0, 2048] g slices_S8192x4096_S8192x2048_0_2048

/-- The reference's first result. -/
theorem reference5 (z : FVec Ideal Cert.MergeBwdIdeal.S8192x2048 .f32) (g : FVec Ideal Cert.MergeBwdIdeal.S8192x4096 .f32) :
    (truncf .bf16 (mulf (sigma (lo g)) (shapeCast _ z shapeCasts_S8192x2048_S8192x2048)) Cert.MergeBwdRefIdeal.Gen.bitsLt_bf16_f32 : FVec Ideal S8192x2048 .bf16)
      = arr (da z g) := by
  funext y
  refine Eq.trans ?_ (arr_at (da z g) (y 0) (y 1) y rfl rfl).symm
  pointwise [da, dval, left, Ideal.logistic, sigma, lo]
  exact mul_comm _ _

/-- The reference's second result. -/
theorem reference6 (z : FVec Ideal Cert.MergeBwdIdeal.S8192x2048 .f32) (g : FVec Ideal Cert.MergeBwdIdeal.S8192x4096 .f32) :
    (truncf .bf16 (mulf (sigma (hi g)) (shapeCast _ z shapeCasts_S8192x2048_S8192x2048)) Cert.MergeBwdRefIdeal.Gen.bitsLt_bf16_f32 : FVec Ideal S8192x2048 .bf16)
      = arr (db z g) := by
  funext y
  refine Eq.trans ?_ (arr_at (db z g) (y 0) (y 1) y rfl rfl).symm
  pointwise [db, dval, right, Ideal.logistic, sigma, hi]
  exact mul_comm _ _

/-- One half of the gate's gradient, as the reference forms it. -/
abbrev half (z y x : FVec Ideal Cert.MergeBwdIdeal.S8192x2048 .f32) : FVec Ideal Cert.MergeBwdIdeal.S8192x2048 .f32 :=
  mulf (mulf (shapeCast _ z shapeCasts_S8192x2048_S8192x2048) y)
    (mulf (sigma x) (subf (broadcastInDim S8192x2048 ![] bcast_S_S8192x2048 (constant S_ .f32 0x3F800000#32)) (sigma x)))

/-- The reference's third result: the two halves side by side. -/
theorem reference7 (z a b : FVec Ideal Cert.MergeBwdIdeal.S8192x2048 .f32) (g : FVec Ideal Cert.MergeBwdIdeal.S8192x4096 .f32) :
    (truncf .bf16 (concatenate S8192x4096 1 [⟨S8192x2048, half z a (lo g)⟩, ⟨S8192x2048, half z b (hi g)⟩]
      concatenates_S8192x2048_S8192x2048_S8192x4096_d1) Cert.MergeBwdRefIdeal.Gen.bitsLt_bf16_f32 : FVec Ideal S8192x4096 .bf16)
      = arr (dg z a b g) := by
  funext y
  refine Eq.trans ?_ (arr_at (dg z a b g) (y 0) (y 1) y rfl rfl).symm
  by_cases h : (y 1).val < 2048
  · refine Eq.trans ?_ (dif_pos h).symm
    pointwise [dgate, Ideal.logistic, half, sigma, lo, hi, h]
  · refine Eq.trans ?_ (dif_neg h).symm
    have e : 2048 + ((y 1).val - 2048) = (y 1).val := by omega
    pointwise [dgate, Ideal.logistic, half, sigma, lo, hi, h, e]

end

/-- From equal arguments the gradient and its reference end with equal results. -/
theorem same : Cert.algebraic_MergeBwdIdeal_MergeBwdRefIdeal := by
  intro m ρ m' ρ' _ hagree
  refine ⟨fun c => arr (da (argZ m c) (argG m c)), fun c => arr (db (argZ m c) (argG m c)),
    fun c => arr (dg (argZ m c) (argA m c) (argB m c) (argG m c)),
    (θ_run _ _ _).mono (fun r h c => ⟨(h c).1.trans (final5 m c), (h c).2.1.trans (final6 m c), (h c).2.2.1.trans (final7 m c), (h c).2.2.2⟩)
      (Cert.MergeBwdIdeal.Value.run_blocks (F := Ideal) m ρ),
    (θ_run _ _ _).mono (fun r h c => ⟨(h c).1.trans ((reference5 _ _).trans ?_), (h c).2.1.trans ((reference6 _ _).trans ?_),
        (h c).2.2.1.trans ((reference7 _ _ _ _).trans ?_), (h c).2.2.2⟩)
      (Cert.MergeBwdRefIdeal.Value.run (F := Ideal) m' ρ')⟩
  · rw [(hagree c).1, (hagree c).2.2.2]
  · rw [(hagree c).1, (hagree c).2.2.2]
  · rw [(hagree c).1, (hagree c).2.1, (hagree c).2.2.1, (hagree c).2.2.2]

/-- The reference runs without fault, keeps its arguments, and has no counter. -/
theorem ref_frame : Cert.quiescent_MergeBwdRefIdeal := fun m ρ _ =>
  (θ_run _ _ _).mono (fun r h => ⟨fun c => (h c).2.2.2, sem_eq_zero_of_no_sems (by decide) r.2⟩)
    (Cert.MergeBwdRefIdeal.Value.run (F := Ideal) m ρ)

end Cert.MergeBwdIdeal.Gate

end
-- ==== Proof.GateConv.lean ====
/-
  The gated convolution `silu(conv(u_a)) * conv(u_g)` over three rows. The program takes a block of rows with sixteen rows
  before it and sixteen after, zeroes those that lie outside the array, and moves the rows by rotating the block; the
  reference pads the array with a row of zeroes on each side. Both hold the same array.
-/
module

public import proofs.«01_k».proof.Defs
public import proofs.«01_k».proof.Proof.MatSum
public import proofs.«01_k».proof.Proof.GateMath
public import proofs.«01_k».proof.Proof.Gen.ConvIdeal.Value
public import proofs.«01_k».proof.Proof.Gen.ConvRefIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.ConvIdeal.Gate

open Idealize.ShloMosaic Idealize.ShloMosaic.TcCoe Idealize.ShloMosaic.Pipeline Idealize.SL.Sem
open Cert.ConvIdeal Cert.ConvIdeal.Gen Cert.Mat

/-- A row of the array with a row of zeroes before it and one after. -/
def padded (u : Ix 8192 5632 → EReal) (r : ℕ) (j : Fin 5632) : EReal :=
  if h : 1 ≤ r ∧ r ≤ 8192 then u (ix2 ⟨r - 1, by omega⟩ j) else 0

/-- One convolution: three weighted rows and the bias. -/
def mix (w0 w1 w2 b x y z : EReal) : EReal := w0 * x + w1 * y + w2 * z + b

/-- The gate of two convolutions. -/
def swish (a g : EReal) : EReal := a * Ideal.logistic a * g

/-- A convolution at a row, with the weights and the bias of a column `J` of the two halves side by side. -/
def conv (u : Ix 8192 5632 → EReal) (w : Shape.Idx ⟨3, ![3, 1, 11264]⟩ → EReal) (b : Ix 1 11264 → EReal) (i : Fin 8192) (j : Fin 5632)
    (J : Fin 11264) : EReal :=
  mix (w (ix3 0 0 J)) (w (ix3 1 0 J)) (w (ix3 2 0 J)) (b (ix2 0 J)) (padded u i.val j) (padded u (i.val + 1) j) (padded u (i.val + 2) j)

/-- The result, entry by entry. -/
def gated (ua ug : Ix 8192 5632 → EReal) (w : Shape.Idx ⟨3, ![3, 1, 11264]⟩ → EReal) (b : Ix 1 11264 → EReal) (i : Fin 8192) (j : Fin 5632) :
    EReal :=
  swish (conv ua w b i j ⟨j.val, by omega⟩) (conv ug w b i j ⟨5632 + j.val, by omega⟩)

/-- A block with the rows before it and after it, the outer ones weighted. -/
def ext (p q : EReal) (before : Ix 16 512 → EReal) (main : Ix 1024 512 → EReal) (after : Ix 16 512 → EReal) (k : Fin 1056) (j : Fin 512) :
    EReal :=
  if h : k.val < 16 then before (ix2 ⟨k.val, h⟩ j) * p
  else if h' : k.val - 16 < 1024 then main (ix2 ⟨k.val - 16, h'⟩ j)
  else after (ix2 ⟨k.val - 16 - 1024, by omega⟩ j) * q

/-- One convolution, of a block with its outer rows. -/
def part (p q : EReal) (before : Ix 16 512 → EReal) (main : Ix 1024 512 → EReal) (after : Ix 16 512 → EReal) (w0 w1 w2 b : EReal)
    (i : Fin 1024) (j : Fin 512) : EReal :=
  mix w0 w1 w2 b (ext p q before main after ⟨i.val + 15, by omega⟩ j) (main (ix2 i j))
    (ext p q before main after ⟨i.val + 17, by omega⟩ j)

/-- Where the rotations read. -/
theorem turn (a : ℕ) (h : a < 1024) : (16 + a + 1056 - 1) % 1056 = a + 15 ∧ (16 + a + 1056 - 1055) % 1056 = a + 17 := by
  constructor <;> omega

/-- The program's first convolution at a row. -/
theorem pay4 (i : grid0.Coords) (v6 : FVec Ideal S16x512 .f32) (v9 : FVec Ideal S1024x512 .f32) (v10 : FVec Ideal S16x512 .f32)
    (v18 v22 v28 : FVec Ideal S1x1x512 .f32) (v33 : FVec Ideal S1x512 .f32) (a : Fin 1024) (j : Fin 512) :
    k0_pay4 (F := Ideal) i v6 v9 v10 v18 v22 v28 v33 (ix2 a j)
      = part (k0_pay2 (F := Ideal) i) (k0_pay3 (F := Ideal) i) v6 v9 v10 (v18 (ix3 0 0 j)) (v22 (ix3 0 0 j)) (v28 (ix3 0 0 j)) (v33 (ix2 0 j)) a j := by
  pointwise [k0_pay4, part, mix, ext, turn a.val a.isLt]

/-- The program's second convolution at a row, and the gate. -/
theorem pay5 (p q : EReal) (v35 : FVec Ideal S1024x512 .f32) (v36 : FVec Ideal S16x512 .f32) (v39 : FVec Ideal S1024x512 .f32)
    (v40 : FVec Ideal S16x512 .f32) (v48 v52 v58 : FVec Ideal S1x1x512 .f32) (v63 : FVec Ideal S1x512 .f32) (a : Fin 1024) (j : Fin 512) :
    k0_pay5 (F := Ideal) p q v35 v36 v39 v40 v48 v52 v58 v63 (ix2 a j)
      = swish (v35 (ix2 a j)) (part p q v36 v39 v40 (v48 (ix3 0 0 j)) (v52 (ix3 0 0 j)) (v58 (ix3 0 0 j)) (v63 (ix2 0 j)) a j) := by
  refine Eq.trans ?_ (congrArg (fun s => v35 (ix2 a j) * s * _) (Cert.Gate.half_tanh (v35 (ix2 a j))))
  pointwise [k0_pay5, part, mix, ext, turn a.val a.isLt]

variable (m : (ℓ : Loc nD τ sig) → Buf (Elt Ideal) ℓ) (c : Dev nD)

/-- Where each window's block lies at a point, and the point's row. -/
theorem idx : ∀ t : Fin cfg0.N, win0_0.index t = ![t.val % 8, t.val / 8] ∧ win0_1.index t = ![t.val % 8 * 64 - 1, t.val / 8]
    ∧ win0_2.index t = ![min ((t.val % 8 + 1) * 64) 511, t.val / 8] ∧ win0_3.index t = ![t.val % 8, t.val / 8]
    ∧ win0_4.index t = ![t.val % 8 * 64 - 1, t.val / 8] ∧ win0_5.index t = ![min ((t.val % 8 + 1) * 64) 511, t.val / 8]
    ∧ win0_6.index t = ![0, 0, t.val / 8] ∧ win0_7.index t = ![0, 0, t.val / 8 + 11] ∧ win0_8.index t = ![0, t.val / 8]
    ∧ win0_9.index t = ![0, t.val / 8 + 11] ∧ win0_10.index t = ![t.val % 8, t.val / 8] ∧ ((grid0.coords t) 1).val = t.val % 8 :=
  (by decide +kernel : ∀ t : Fin grid0.N, _)

/-- The arguments. -/
abbrev argA : FVec Ideal S8192x5632 .f32 := V m c main_arg0
abbrev argG : FVec Ideal S8192x5632 .f32 := V m c main_arg1
abbrev argW : FVec Ideal S3x1x11264 .f32 := V m c main_arg2
abbrev argB : FVec Ideal S1x11264 .f32 := V m c main_arg3

/-- The weight of the rows before a block: zero at the first block. -/
theorem weight_before (i : grid0.Coords) : k0_pay2 (F := Ideal) i = if (i 1).val = 0 then 0 else 1 := by
  have h : ∀ r : Fin 8, (Scalar.extui (Scalar.cmpi .sgt (BitVec.ofNat 32 r.val) 0#32) : BitVec 32).toInt = if r.val = 0 then 0 else 1 := by decide
  have := h (i 1)
  simp only [k0_pay2]
  show (((_ : BitVec 32).toInt : ℝ) : EReal) = _
  rw [this]
  split_ifs <;> simp

/-- The weight of the rows after a block: zero at the last block. -/
theorem weight_after (i : grid0.Coords) : k0_pay3 (F := Ideal) i = if (i 1).val = 7 then 0 else 1 := by
  have h : ∀ r : Fin 8, (Scalar.extui (Scalar.cmpi .slt (BitVec.ofNat 32 r.val) 7#32) : BitVec 32).toInt = if r.val = 7 then 0 else 1 := by decide
  have := h (i 1)
  simp only [k0_pay3]
  show (((_ : BitVec 32).toInt : ℝ) : EReal) = _
  rw [this]
  split_ifs <;> simp

/-- A block with its outer rows is the padded array at those rows: outside the array the weight is zero. -/
theorem ext_eq (u : Ix 8192 5632 → EReal) (T : ℕ) (hT : T < 8) (before : Ix 16 512 → EReal) (main : Ix 1024 512 → EReal) (after : Ix 16 512 → EReal)
    (j : Fin 512) (J : Fin 5632)
    (hb : ∀ (r : Fin 16) (R : Fin 8192), R.val = (T * 64 - 1) * 16 + r.val → before (ix2 r j) = u (ix2 R J))
    (hm : ∀ (r : Fin 1024) (R : Fin 8192), R.val = T * 1024 + r.val → main (ix2 r j) = u (ix2 R J))
    (ha : ∀ (r : Fin 16) (R : Fin 8192), R.val = min ((T + 1) * 64) 511 * 16 + r.val → after (ix2 r j) = u (ix2 R J))
    (k : Fin 1056) (h15 : 15 ≤ k.val) (hk : k.val ≤ 1040) :
    ext (if T = 0 then 0 else 1) (if T = 7 then 0 else 1) before main after k j = padded u (T * 1024 + (k.val - 15)) J := by
  unfold ext padded
  by_cases h : k.val < 16
  · rw [dif_pos h]
    by_cases h0 : T = 0
    · rw [if_pos h0, mul_zero, dif_neg (by omega)]
    · rw [if_neg h0, mul_one, dif_pos (by omega)]
      exact hb _ _ (by dsimp only; omega)
  · rw [dif_neg h]
    by_cases h' : k.val - 16 < 1024
    · rw [dif_pos h', dif_pos (by omega)]
      exact hm _ _ (by dsimp only; omega)
    · rw [dif_neg h']
      by_cases h7 : T = 7
      · rw [if_pos h7, mul_zero, dif_neg (by omega)]
      · rw [if_neg h7, mul_one, dif_pos (by omega)]
        exact ha _ _ (by dsimp only; omega)

/-- So the convolution of a block is that of the array. -/
theorem part_eq (u : Ix 8192 5632 → EReal) (T : ℕ) (hT : T < 8) (before : Ix 16 512 → EReal) (main : Ix 1024 512 → EReal) (after : Ix 16 512 → EReal)
    (w0 w1 w2 b : EReal) (i : Fin 1024) (j : Fin 512) (I : Fin 8192) (J : Fin 5632) (hI : I.val = T * 1024 + i.val)
    (hb : ∀ (r : Fin 16) (R : Fin 8192), R.val = (T * 64 - 1) * 16 + r.val → before (ix2 r j) = u (ix2 R J))
    (hm : ∀ (r : Fin 1024) (R : Fin 8192), R.val = T * 1024 + r.val → main (ix2 r j) = u (ix2 R J))
    (ha : ∀ (r : Fin 16) (R : Fin 8192), R.val = min ((T + 1) * 64) 511 * 16 + r.val → after (ix2 r j) = u (ix2 R J)) :
    part (if T = 0 then 0 else 1) (if T = 7 then 0 else 1) before main after w0 w1 w2 b i j
      = mix w0 w1 w2 b (padded u I.val J) (padded u (I.val + 1) J) (padded u (I.val + 2) J) := by
  unfold part
  have e1 : main (ix2 i j) = padded u (I.val + 1) J := (hm i I hI).trans (Eq.symm (by unfold padded; rw [dif_pos (by omega)]; rfl))
  rw [ext_eq u T hT before main after j J hb hm ha _ (by dsimp only; omega) (by dsimp only; omega), e1,
    ext_eq u T hT before main after j J hb hm ha _ (by dsimp only; omega) (by dsimp only; omega)]
  have e0 : T * 1024 + (i.val + 15 - 15) = I.val := by omega
  have e2 : T * 1024 + (i.val + 17 - 15) = I.val + 2 := by omega
  simp only [e0, e2]

/-- The three rows of a block of weights. -/
theorem load0 (v : FVec Ideal S3x1x512 .f32) (j : Fin 512) : View.ld (Val := Elt Ideal) (e' := .f32) v r0_2 (ix3 0 0 j) = v (ix3 0 0 j) :=
  congrArg v (by funext a; fin_cases a <;> apply Fin.ext <;> simp)

theorem load1 (v : FVec Ideal S3x1x512 .f32) (j : Fin 512) : View.ld (Val := Elt Ideal) (e' := .f32) v r0_3 (ix3 0 0 j) = v (ix3 1 0 j) :=
  congrArg v (by funext a; fin_cases a <;> apply Fin.ext <;> simp)

theorem load2 (v : FVec Ideal S3x1x512 .f32) (j : Fin 512) : View.ld (Val := Elt Ideal) (e' := .f32) v r0_4 (ix3 0 0 j) = v (ix3 2 0 j) :=
  congrArg v (by funext a; fin_cases a <;> apply Fin.ext <;> simp)

/-- A block of the output is that block of the gated convolution. -/
theorem out (t : Fin cfg0.N) (i : Fin 1024) (j : Fin 512) (I : Fin 8192) (J : Fin 5632)
    (hI : I.val = t.val % 8 * 1024 + i.val) (hJ : J.val = t.val / 8 * 512 + j.val) :
    out0_10 (F := Ideal) (grid0.coords t) (iblk m c 0 t) (iblk m c 1 t) (iblk m c 2 t) (iblk m c 3 t) (iblk m c 4 t) (iblk m c 5 t)
      (iblk m c 6 t) (iblk m c 7 t) (iblk m c 8 t) (iblk m c 9 t) (ix2 i j) = gated (argA m c) (argG m c) (argW m c) (argB m c) I J := by
  have hT : t.val % 8 < 8 := Nat.mod_lt _ (by decide)
  have hr : ((grid0.coords t) 1).val = t.val % 8 := (idx t).2.2.2.2.2.2.2.2.2.2.2
  refine Eq.trans (b := k0_pay5 (F := Ideal) (k0_pay2 (F := Ideal) (grid0.coords t)) (k0_pay3 (F := Ideal) (grid0.coords t))
    (k0_pay4 (F := Ideal) (grid0.coords t) (iblk m c 1 t) (iblk m c 0 t) (iblk m c 2 t) (View.ld (iblk m c 6 t) r0_2)
      (View.ld (iblk m c 6 t) r0_3) (View.ld (iblk m c 6 t) r0_4) (iblk m c 8 t))
    (iblk m c 4 t) (iblk m c 3 t) (iblk m c 5 t) (View.ld (iblk m c 7 t) r0_2) (View.ld (iblk m c 7 t) r0_3)
    (View.ld (iblk m c 7 t) r0_4) (iblk m c 9 t) (ix2 i j)) ?_ ?_
  · frame_out
    pointwise [k0_pay1]
    rfl
  rw [pay5, pay4, weight_before, weight_after, hr]
  refine congrArg₂ swish ((part_eq (argA m c) (t.val % 8) hT _ _ _ _ _ _ _ i j I J hI ?_ ?_ ?_).trans ?_)
    ((part_eq (argG m c) (t.val % 8) hT _ _ _ _ _ _ _ i j I J hI ?_ ?_ ?_).trans ?_)
  · intro r R hR
    blk_ext [iblk, idx t]
  · intro r R hR
    blk_ext [iblk, idx t]
  · intro r R hR
    blk_ext [iblk, idx t]
  · unfold conv
    congr 1
    · refine (load0 (iblk m c 6 t) j).trans ?_
      blk_ext [iblk, idx t]
    · refine (load1 (iblk m c 6 t) j).trans ?_
      blk_ext [iblk, idx t]
    · refine (load2 (iblk m c 6 t) j).trans ?_
      blk_ext [iblk, idx t]
    · blk_ext [iblk, idx t]
  · intro r R hR
    blk_ext [iblk, idx t]
  · intro r R hR
    blk_ext [iblk, idx t]
  · intro r R hR
    blk_ext [iblk, idx t]
  · unfold conv
    congr 1
    · refine (load0 (iblk m c 7 t) j).trans ?_
      blk_ext [iblk, idx t]
    · refine (load1 (iblk m c 7 t) j).trans ?_
      blk_ext [iblk, idx t]
    · refine (load2 (iblk m c 7 t) j).trans ?_
      blk_ext [iblk, idx t]
    · blk_ext [iblk, idx t]

/-- The output holds the gated convolution. -/
theorem final : (dats m 0 c).arrAt 10 cfg0.N = arr (gated (argA m c) (argG m c) (argW m c) (argB m c)) := by
  refine (dats m 0 c).arrAt_eq_of_covers 10 (arr (gated (argA m c) (argG m c) (argW m c) (argB m c))) (by decide +kernel) fun t hf y => ?_
  blk_simp
  rw [after0_10]
  refine ((congrArg _ (eq_ix2 y)).trans (out m c t (y 0) (y 1) _ _ ?_ ?_)).trans rfl
  · blk_simp [idx t]
  · blk_simp [idx t]

section
open Cert.ConvRefIdeal

/-- An array with a row of zeroes on each side, as the reference pads it. -/
abbrev wide (u : FVec Ideal Cert.ConvIdeal.S8192x5632 .f32) : FVec Ideal S8194x5632 .f32 :=
  pad S8194x5632 ![1, 0] ![1, 0] ![0, 0] u (sitofp .f32 (constantI S_ 32 0#32) : FVec Ideal S_ .f32)
    Cert.ConvRefIdeal.Gen.pads_S8192x5632_S8194x5632_110_000 Cert.ConvRefIdeal.Gen.h_S_

/-- Its entry at a row. -/
theorem wide_at (u : FVec Ideal Cert.ConvIdeal.S8192x5632 .f32) (r : Fin 8194) (j : Fin 5632) : wide u (ix2 r j) = padded u r.val j := by
  have e : (FloatOps.sitofp .f32 (0#32 : BitVec 32) : Ideal .f32) = 0 := by
    show (((0#32 : BitVec 32).toInt : ℝ) : EReal) = 0
    simp
  have h : (1 ≤ r.val ∧ r.val - 1 < 8192) ↔ (1 ≤ r.val ∧ r.val ≤ 8192) := by omega
  pointwise [wide, padded, e, h]

/-- One convolution, as the reference forms it from the padded array. -/
abbrev taps (x : FVec Ideal S8194x5632 .f32) (w : FVec Ideal S3x1x5632 .f32) (b : FVec Ideal S1x5632 .f32) :
    FVec Ideal Cert.ConvIdeal.S8192x5632 .f32 :=
  addf (addf (addf (addf (broadcastInDim Cert.ConvRefIdeal.S8192x5632 ![] Cert.ConvRefIdeal.Gen.bcast_S_S8192x5632 (constant S_ .f32 0x00000000#32))
    (mulf (extractStridedSlice Cert.ConvRefIdeal.S8192x5632 ![0, 0] x Cert.ConvRefIdeal.Gen.slices_S8194x5632_S8192x5632_0_0)
      (broadcastInDim Cert.ConvRefIdeal.S8192x5632 ![0, 1] Cert.ConvRefIdeal.Gen.bcast_S1x5632_S8192x5632_0_1
        (shapeCast _ (extractStridedSlice S1x1x5632 ![0, 0, 0] w Cert.ConvRefIdeal.Gen.slices_S3x1x5632_S1x1x5632_0_0_0) Cert.ConvRefIdeal.Gen.shapeCasts_S1x1x5632_S1x5632))))
    (mulf (extractStridedSlice Cert.ConvRefIdeal.S8192x5632 ![1, 0] x Cert.ConvRefIdeal.Gen.slices_S8194x5632_S8192x5632_1_0)
      (broadcastInDim Cert.ConvRefIdeal.S8192x5632 ![0, 1] Cert.ConvRefIdeal.Gen.bcast_S1x5632_S8192x5632_0_1
        (shapeCast _ (extractStridedSlice S1x1x5632 ![1, 0, 0] w Cert.ConvRefIdeal.Gen.slices_S3x1x5632_S1x1x5632_1_0_0) Cert.ConvRefIdeal.Gen.shapeCasts_S1x1x5632_S1x5632))))
    (mulf (extractStridedSlice Cert.ConvRefIdeal.S8192x5632 ![2, 0] x Cert.ConvRefIdeal.Gen.slices_S8194x5632_S8192x5632_2_0)
      (broadcastInDim Cert.ConvRefIdeal.S8192x5632 ![0, 1] Cert.ConvRefIdeal.Gen.bcast_S1x5632_S8192x5632_0_1
        (shapeCast _ (extractStridedSlice S1x1x5632 ![2, 0, 0] w Cert.ConvRefIdeal.Gen.slices_S3x1x5632_S1x1x5632_2_0_0) Cert.ConvRefIdeal.Gen.shapeCasts_S1x1x5632_S1x5632))))
    (broadcastInDim Cert.ConvRefIdeal.S8192x5632 ![0, 1] Cert.ConvRefIdeal.Gen.bcast_S1x5632_S8192x5632_0_1 b)

/-- Its entry: the same three weighted rows and the bias. -/
theorem taps_at (x : FVec Ideal S8194x5632 .f32) (w : FVec Ideal S3x1x5632 .f32) (b : FVec Ideal S1x5632 .f32) (i : Fin 8192) (j : Fin 5632) :
    taps x w b (ix2 i j) = mix (w (ix3 0 0 j)) (w (ix3 1 0 j)) (w (ix3 2 0 j)) (b (ix2 0 j)) (x (ix2 ⟨i.val, by omega⟩ j))
      (x (ix2 ⟨i.val + 1, by omega⟩ j)) (x (ix2 ⟨i.val + 2, by omega⟩ j)) := by
  pointwise [taps, mix]
  simp only [mul_comm, Nat.add_comm]

/-- The two convolutions of the reference. -/
abbrev tapsA (u : FVec Ideal Cert.ConvIdeal.S8192x5632 .f32) (w : FVec Ideal Cert.ConvIdeal.S3x1x11264 .f32)
    (b : FVec Ideal Cert.ConvIdeal.S1x11264 .f32) : FVec Ideal Cert.ConvIdeal.S8192x5632 .f32 :=
  taps (wide u) (extractStridedSlice S3x1x5632 ![0, 0, 0] w Cert.ConvRefIdeal.Gen.slices_S3x1x11264_S3x1x5632_0_0_0)
    (extractStridedSlice S1x5632 ![0, 0] b Cert.ConvRefIdeal.Gen.slices_S1x11264_S1x5632_0_0)
abbrev tapsG (u : FVec Ideal Cert.ConvIdeal.S8192x5632 .f32) (w : FVec Ideal Cert.ConvIdeal.S3x1x11264 .f32)
    (b : FVec Ideal Cert.ConvIdeal.S1x11264 .f32) : FVec Ideal Cert.ConvIdeal.S8192x5632 .f32 :=
  taps (wide u) (extractStridedSlice S3x1x5632 ![0, 0, 5632] w Cert.ConvRefIdeal.Gen.slices_S3x1x11264_S3x1x5632_0_0_5632)
    (extractStridedSlice S1x5632 ![0, 5632] b Cert.ConvRefIdeal.Gen.slices_S1x11264_S1x5632_0_5632)

theorem tapsA_at (u : FVec Ideal Cert.ConvIdeal.S8192x5632 .f32) (w : FVec Ideal Cert.ConvIdeal.S3x1x11264 .f32)
    (b : FVec Ideal Cert.ConvIdeal.S1x11264 .f32) (i : Fin 8192) (j : Fin 5632) : tapsA u w b (ix2 i j) = conv u w b i j ⟨j.val, by omega⟩ := by
  rw [tapsA, taps_at, wide_at, wide_at, wide_at]
  pointwise [conv]

theorem tapsG_at (u : FVec Ideal Cert.ConvIdeal.S8192x5632 .f32) (w : FVec Ideal Cert.ConvIdeal.S3x1x11264 .f32)
    (b : FVec Ideal Cert.ConvIdeal.S1x11264 .f32) (i : Fin 8192) (j : Fin 5632) : tapsG u w b (ix2 i j) = conv u w b i j ⟨5632 + j.val, by omega⟩ := by
  rw [tapsG, taps_at, wide_at, wide_at, wide_at]
  pointwise [conv]

/-- The gate as the reference forms it from the two convolutions. -/
abbrev silu (A G : FVec Ideal Cert.ConvIdeal.S8192x5632 .f32) : FVec Ideal Cert.ConvIdeal.S8192x5632 .bf16 :=
  truncf .bf16 (mulf (mulf A (Host.divf (broadcastInDim Cert.ConvRefIdeal.S8192x5632 ![] Cert.ConvRefIdeal.Gen.bcast_S_S8192x5632 (constant S_ .f32 0x3F800000#32))
    (addf (broadcastInDim Cert.ConvRefIdeal.S8192x5632 ![] Cert.ConvRefIdeal.Gen.bcast_S_S8192x5632 (constant S_ .f32 0x3F800000#32))
      (Host.exp (Host.negf A))))) G) Cert.ConvRefIdeal.Gen.bitsLt_bf16_f32

theorem silu_at (A G : FVec Ideal Cert.ConvIdeal.S8192x5632 .f32) (y : Ix 8192 5632) : silu A G y = swish (A y) (G y) := by
  pointwise [silu, swish, Ideal.logistic]

/-- The reference's array is the gated convolution too. -/
theorem reference (ua ug : FVec Ideal Cert.ConvIdeal.S8192x5632 .f32) (w : FVec Ideal Cert.ConvIdeal.S3x1x11264 .f32)
    (b : FVec Ideal Cert.ConvIdeal.S1x11264 .f32) : silu (tapsA ua w b) (tapsG ug w b) = arr (gated ua ug w b) := by
  funext y
  refine (silu_at _ _ y).trans (Eq.trans ?_ (arr_at (gated ua ug w b) (y 0) (y 1) y rfl rfl).symm)
  exact congrArg₂ swish ((congrArg _ (eq_ix2 y)).trans (tapsA_at ua w b (y 0) (y 1))) ((congrArg _ (eq_ix2 y)).trans (tapsG_at ug w b (y 0) (y 1)))

end

/-- From equal arguments the gated convolution and its reference end with equal results. -/
theorem same : Cert.algebraic_ConvIdeal_ConvRefIdeal := by
  intro m ρ m' ρ' _ hagree
  refine ⟨fun c => arr (gated (argA m c) (argG m c) (argW m c) (argB m c)),
    (θ_run _ _ _).mono (fun r h c => ⟨(h c).1.trans (final m c), (h c).2⟩) (Cert.ConvIdeal.Value.run_blocks (F := Ideal) m ρ),
    (θ_run _ _ _).mono (fun r h c => ⟨((h c).1.trans (show _ = silu (tapsA _ _ _) (tapsG _ _ _) from rfl)).trans ((reference _ _ _ _).trans ?_), (h c).2⟩)
      (Cert.ConvRefIdeal.Value.run (F := Ideal) m' ρ')⟩
  rw [(hagree c).1, (hagree c).2.1, (hagree c).2.2.1, (hagree c).2.2.2]

/-- The reference runs without fault, keeps its arguments, and has no counter. -/
theorem ref_frame : Cert.quiescent_ConvRefIdeal := fun m ρ _ =>
  (θ_run _ _ _).mono (fun r h => ⟨fun c => (h c).2, sem_eq_zero_of_no_sems (by decide) r.2⟩) (Cert.ConvRefIdeal.Value.run (F := Ideal) m ρ)

end Cert.ConvIdeal.Gate

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.KernelRun
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Run
public import proofs.«01_k».proof.Proof.Gen.ReferenceIdeal
public import proofs.«01_k».proof.Proof.Gen.ReferenceIdeal.Run
public import proofs.«01_k».proof.Proof.Pre
public import proofs.«01_k».proof.Proof.Values
public import proofs.«01_k».proof.Proof.RefValues
public import proofs.«01_k».proof.Proof.Gen.Up.Frame
public import proofs.«01_k».proof.Proof.Gen.UpIdeal.Value
public import proofs.«01_k».proof.Proof.Gen.UpRefIdeal.Run
public import proofs.«01_k».proof.Proof.Gen.Down.Frame
public import proofs.«01_k».proof.Proof.Gen.DownIdeal.Value
public import proofs.«01_k».proof.Proof.Gen.DownRefIdeal.Run
public import proofs.«01_k».proof.Proof.Gen.Df.Frame
public import proofs.«01_k».proof.Proof.Gen.DfIdeal.Value
public import proofs.«01_k».proof.Proof.Gen.DfRefIdeal.Run
public import proofs.«01_k».proof.Proof.Gen.DwDown.Frame
public import proofs.«01_k».proof.Proof.Gen.DwDownIdeal.Value
public import proofs.«01_k».proof.Proof.Gen.DwDownRefIdeal.Run
public import proofs.«01_k».proof.Proof.Gen.Dh.Frame
public import proofs.«01_k».proof.Proof.Gen.DhIdeal.Value
public import proofs.«01_k».proof.Proof.Gen.DhRefIdeal.Run
public import proofs.«01_k».proof.Proof.Gen.DhAdd.Frame
public import proofs.«01_k».proof.Proof.Gen.DhAddIdeal.Value
public import proofs.«01_k».proof.Proof.Gen.DhAddRefIdeal.Run
public import proofs.«01_k».proof.Proof.Gen.DwUp.Frame
public import proofs.«01_k».proof.Proof.Gen.DwUpIdeal.Value
public import proofs.«01_k».proof.Proof.Gen.DwUpRefIdeal.Run
public import proofs.«01_k».proof.Proof.Gen.Sq.Frame
public import proofs.«01_k».proof.Proof.Gen.SqIdeal.Value
public import proofs.«01_k».proof.Proof.Gen.SqRefIdeal.Run
public import proofs.«01_k».proof.Proof.Gen.Dsq.Frame
public import proofs.«01_k».proof.Proof.Gen.DsqIdeal.Value
public import proofs.«01_k».proof.Proof.Gen.DsqRefIdeal.Run
public import proofs.«01_k».proof.Proof.Gen.DwSq.Frame
public import proofs.«01_k».proof.Proof.Gen.DwSqIdeal.Value
public import proofs.«01_k».proof.Proof.Gen.DwSqRefIdeal.Run
public import proofs.«01_k».proof.Proof.Gen.DoAttn.Frame
public import proofs.«01_k».proof.Proof.Gen.DoAttnIdeal.Value
public import proofs.«01_k».proof.Proof.Gen.DoAttnRefIdeal.Run
public import proofs.«01_k».proof.Proof.Gen.DsqAdd.Frame
public import proofs.«01_k».proof.Proof.Gen.DsqAddIdeal.Value
public import proofs.«01_k».proof.Proof.Gen.DsqAddRefIdeal.Run
public import proofs.«01_k».proof.Proof.Gen.DwSqAdd.Frame
public import proofs.«01_k».proof.Proof.Gen.DwSqAddIdeal.Value
public import proofs.«01_k».proof.Proof.Gen.DwSqAddRefIdeal.Run
public import proofs.«01_k».proof.Proof.Gen.Gab.Frame
public import proofs.«01_k».proof.Proof.Gen.GabIdeal.Value
public import proofs.«01_k».proof.Proof.Gen.GabRefIdeal.Run
public import proofs.«01_k».proof.Proof.Gen.DhGab.Frame
public import proofs.«01_k».proof.Proof.Gen.DhGabIdeal.Value
public import proofs.«01_k».proof.Proof.Gen.DhGabRefIdeal.Run
public import proofs.«01_k».proof.Proof.Gen.DwGab.Frame
public import proofs.«01_k».proof.Proof.Gen.DwGabIdeal.Value
public import proofs.«01_k».proof.Proof.Gen.DwGabRefIdeal.Run
public import proofs.«01_k».proof.Proof.Gen.Kv.Frame
public import proofs.«01_k».proof.Proof.Gen.KvIdeal.Value
public import proofs.«01_k».proof.Proof.Gen.KvRefIdeal.Run
public import proofs.«01_k».proof.Proof.Gen.DhKv.Frame
public import proofs.«01_k».proof.Proof.Gen.DhKvIdeal.Value
public import proofs.«01_k».proof.Proof.Gen.DhKvRefIdeal.Run
public import proofs.«01_k».proof.Proof.Gen.DwKv.Frame
public import proofs.«01_k».proof.Proof.Gen.DwKvIdeal.Value
public import proofs.«01_k».proof.Proof.Gen.DwKvRefIdeal.Run
public import proofs.«01_k».proof.Proof.Gen.KvCtx.Frame
public import proofs.«01_k».proof.Proof.Gen.KvCtxIdeal.Value
public import proofs.«01_k».proof.Proof.Gen.KvCtxRefIdeal.Run
public import proofs.«01_k».proof.Proof.Gen.SqCtx.Frame
public import proofs.«01_k».proof.Proof.Gen.SqCtxIdeal.Value
public import proofs.«01_k».proof.Proof.Gen.SqCtxRefIdeal.Run
public import proofs.«01_k».proof.Proof.Gen.LrCtx.Frame
public import proofs.«01_k».proof.Proof.Gen.LrCtxIdeal.Value
public import proofs.«01_k».proof.Proof.Gen.LrCtxRefIdeal.Run
public import proofs.«01_k».proof.Proof.Gen.DwKvCtx.Frame
public import proofs.«01_k».proof.Proof.Gen.DwKvCtxIdeal.Value
public import proofs.«01_k».proof.Proof.Gen.DwKvCtxRefIdeal.Run
public import proofs.«01_k».proof.Proof.Gen.DwSqCtx.Frame
public import proofs.«01_k».proof.Proof.Gen.DwSqCtxIdeal.Value
public import proofs.«01_k».proof.Proof.Gen.DwSqCtxRefIdeal.Run
public import proofs.«01_k».proof.Proof.Gen.DwLrCtx.Frame
public import proofs.«01_k».proof.Proof.Gen.DwLrCtxIdeal.Value
public import proofs.«01_k».proof.Proof.Gen.DwLrCtxRefIdeal.Run
public import proofs.«01_k».proof.Proof.Gen.DhcKv.Frame
public import proofs.«01_k».proof.Proof.Gen.DhcKvIdeal.Value
public import proofs.«01_k».proof.Proof.Gen.DhcKvRefIdeal.Run
public import proofs.«01_k».proof.Proof.Gen.DhcSq.Frame
public import proofs.«01_k».proof.Proof.Gen.DhcSqIdeal.Value
public import proofs.«01_k».proof.Proof.Gen.DhcSqRefIdeal.Run
public import proofs.«01_k».proof.Proof.Gen.DhcLr.Frame
public import proofs.«01_k».proof.Proof.Gen.DhcLrIdeal.Value
public import proofs.«01_k».proof.Proof.Gen.DhcLrRefIdeal.Run
public import proofs.«01_k».proof.Proof.Gen.Lr.Frame
public import proofs.«01_k».proof.Proof.Gen.LrIdeal.Value
public import proofs.«01_k».proof.Proof.Gen.LrRefIdeal.Run
public import proofs.«01_k».proof.Proof.Gen.DhLr.Frame
public import proofs.«01_k».proof.Proof.Gen.DhLrIdeal.Value
public import proofs.«01_k».proof.Proof.Gen.DhLrRefIdeal.Run
public import proofs.«01_k».proof.Proof.Gen.DwLr.Frame
public import proofs.«01_k».proof.Proof.Gen.DwLrIdeal.Value
public import proofs.«01_k».proof.Proof.Gen.DwLrRefIdeal.Run
public import proofs.«01_k».proof.Proof.Gen.Merge.Frame
public import proofs.«01_k».proof.Proof.Gen.MergeIdeal.Value
public import proofs.«01_k».proof.Proof.Gen.MergeRefIdeal.Run
public import proofs.«01_k».proof.Proof.Gen.MergeBwd.Frame
public import proofs.«01_k».proof.Proof.Gen.MergeBwdIdeal.Value
public import proofs.«01_k».proof.Proof.Gen.MergeBwdRefIdeal.Run
public import proofs.«01_k».proof.Proof.Gen.Conv.Frame
public import proofs.«01_k».proof.Proof.Gen.ConvIdeal.Value
public import proofs.«01_k».proof.Proof.Gen.ConvRefIdeal.Run
public import proofs.«01_k».proof.Proof.MatUp
public import proofs.«01_k».proof.Proof.MatDown
public import proofs.«01_k».proof.Proof.MatDf
public import proofs.«01_k».proof.Proof.MatDwDown
public import proofs.«01_k».proof.Proof.MatDh
public import proofs.«01_k».proof.Proof.MatDhAdd
public import proofs.«01_k».proof.Proof.MatDwUp
public import proofs.«01_k».proof.Proof.MatSq
public import proofs.«01_k».proof.Proof.MatDsq
public import proofs.«01_k».proof.Proof.MatDwSq
public import proofs.«01_k».proof.Proof.MatDoAttn
public import proofs.«01_k».proof.Proof.MatDsqAdd
public import proofs.«01_k».proof.Proof.MatDwSqAdd
public import proofs.«01_k».proof.Proof.MatGab
public import proofs.«01_k».proof.Proof.MatDhGab
public import proofs.«01_k».proof.Proof.MatDwGab
public import proofs.«01_k».proof.Proof.MatKv
public import proofs.«01_k».proof.Proof.MatDhKv
public import proofs.«01_k».proof.Proof.MatDwKv
public import proofs.«01_k».proof.Proof.MatKvCtx
public import proofs.«01_k».proof.Proof.MatSqCtx
public import proofs.«01_k».proof.Proof.MatLrCtx
public import proofs.«01_k».proof.Proof.MatDwKvCtx
public import proofs.«01_k».proof.Proof.MatDwSqCtx
public import proofs.«01_k».proof.Proof.MatDwLrCtx
public import proofs.«01_k».proof.Proof.MatDhcKv
public import proofs.«01_k».proof.Proof.MatDhcSq
public import proofs.«01_k».proof.Proof.MatDhcLr
public import proofs.«01_k».proof.Proof.MatLr
public import proofs.«01_k».proof.Proof.MatDhLr
public import proofs.«01_k».proof.Proof.MatDwLr
public import proofs.«01_k».proof.Proof.GateMerge
public import proofs.«01_k».proof.Proof.GateMergeBwd
public import proofs.«01_k».proof.Proof.GateConv
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The optimised program as it runs on words: no fault, arguments kept, counters at zero. -/
theorem frame_kernel : Cert.quiescent_Kernel := fun m ρ _ => Cert.Kernel.Bwd.frame m ρ

/-- The same of the program over the extended reals. -/
theorem frame_ideal : Cert.quiescent_KernelIdeal := fun m ρ _ => Cert.KernelIdeal.Bwd.frame m ρ

/-- The reference runs without fault, keeps its arguments, and has no counter. -/
theorem frame_reference : Cert.quiescent_ReferenceIdeal := fun m ρ _ =>
  (θ_run Cert.ReferenceIdeal.defs _ _).mono
    (fun r h => ⟨fun c => (h c).2.2.2.2.2.2.2, sem_eq_zero_of_no_sems (by decide) r.2⟩)
    (Cert.ReferenceIdeal.Value.run (F := Ideal) m ρ)

/-- The one named constant: the mask's fill value is minus infinity over the extended reals. -/
theorem mask_named : Cert.preserves_Kernel_KernelIdeal :=
  IdealRules.named_const.statement Cert.KernelIdeal.κ "mask" .f32 0xF149F2CA#32 ⊥ rfl

/-- The frame of the ideal program, under the precondition. -/
theorem frame_ideal_finite : Cert.quiescent_KernelIdeal_pre_finite := fun m ρ _ => Cert.KernelIdeal.Bwd.frame m ρ

/-- The frame of the reference, under the precondition. -/
theorem frame_reference_finite : Cert.quiescent_ReferenceIdeal_pre_finite := fun m ρ _ => frame_reference m ρ trivial

/-- From equal arguments that hold real numbers, the optimised program and the reference end with equal results. -/
theorem same_function : Cert.algebraic_KernelIdeal_ReferenceIdeal_pre_finite := by
  intro m ρ m' ρ' hpre hagree
  have R : ∀ c, Cert.KernelIdeal.Bwd.Launch (Cert.Attn.dataOf _ _ _ _ _ _ _) m c := fun c => Cert.Attn.reads_of _ _ _ _ _ _ _ (hpre c)
  have H : ∀ c, Cert.ReferenceIdeal.Attn.Holds (StableHlo.launchContents m' c) (Cert.Attn.dataOf _ _ _ _ _ _ _) := fun c => by
    obtain ⟨h0, h1, h2, h3, h4, h5, h6⟩ := hagree c
    exact Cert.ReferenceIdeal.Attn.holds_of h0 h1 h2 h3 h4 h5 h6 (R c)
  exact ⟨_, _, _, _, _, _, _, Cert.KernelIdeal.Bwd.values m ρ _ R, Cert.ReferenceIdeal.Attn.values m' ρ' _ H⟩

theorem claim : Cert.Claim := ⟨Cert.Kernel.Gen.facts, Cert.KernelIdeal.Gen.facts, Cert.ReferenceIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.Df.Gen.facts, Cert.DfIdeal.Gen.facts, Cert.DfRefIdeal.Gen.facts,
  Cert.DwDown.Gen.facts, Cert.DwDownIdeal.Gen.facts, Cert.DwDownRefIdeal.Gen.facts,
  Cert.Dh.Gen.facts, Cert.DhIdeal.Gen.facts, Cert.DhRefIdeal.Gen.facts,
  Cert.DhAdd.Gen.facts, Cert.DhAddIdeal.Gen.facts, Cert.DhAddRefIdeal.Gen.facts,
  Cert.DwUp.Gen.facts, Cert.DwUpIdeal.Gen.facts, Cert.DwUpRefIdeal.Gen.facts,
  Cert.Sq.Gen.facts, Cert.SqIdeal.Gen.facts, Cert.SqRefIdeal.Gen.facts,
  Cert.Dsq.Gen.facts, Cert.DsqIdeal.Gen.facts, Cert.DsqRefIdeal.Gen.facts,
  Cert.DwSq.Gen.facts, Cert.DwSqIdeal.Gen.facts, Cert.DwSqRefIdeal.Gen.facts,
  Cert.DoAttn.Gen.facts, Cert.DoAttnIdeal.Gen.facts, Cert.DoAttnRefIdeal.Gen.facts,
  Cert.DsqAdd.Gen.facts, Cert.DsqAddIdeal.Gen.facts, Cert.DsqAddRefIdeal.Gen.facts,
  Cert.DwSqAdd.Gen.facts, Cert.DwSqAddIdeal.Gen.facts, Cert.DwSqAddRefIdeal.Gen.facts,
  Cert.Gab.Gen.facts, Cert.GabIdeal.Gen.facts, Cert.GabRefIdeal.Gen.facts,
  Cert.DhGab.Gen.facts, Cert.DhGabIdeal.Gen.facts, Cert.DhGabRefIdeal.Gen.facts,
  Cert.DwGab.Gen.facts, Cert.DwGabIdeal.Gen.facts, Cert.DwGabRefIdeal.Gen.facts,
  Cert.Kv.Gen.facts, Cert.KvIdeal.Gen.facts, Cert.KvRefIdeal.Gen.facts,
  Cert.DhKv.Gen.facts, Cert.DhKvIdeal.Gen.facts, Cert.DhKvRefIdeal.Gen.facts,
  Cert.DwKv.Gen.facts, Cert.DwKvIdeal.Gen.facts, Cert.DwKvRefIdeal.Gen.facts,
  Cert.KvCtx.Gen.facts, Cert.KvCtxIdeal.Gen.facts, Cert.KvCtxRefIdeal.Gen.facts,
  Cert.SqCtx.Gen.facts, Cert.SqCtxIdeal.Gen.facts, Cert.SqCtxRefIdeal.Gen.facts,
  Cert.LrCtx.Gen.facts, Cert.LrCtxIdeal.Gen.facts, Cert.LrCtxRefIdeal.Gen.facts,
  Cert.DwKvCtx.Gen.facts, Cert.DwKvCtxIdeal.Gen.facts, Cert.DwKvCtxRefIdeal.Gen.facts,
  Cert.DwSqCtx.Gen.facts, Cert.DwSqCtxIdeal.Gen.facts, Cert.DwSqCtxRefIdeal.Gen.facts,
  Cert.DwLrCtx.Gen.facts, Cert.DwLrCtxIdeal.Gen.facts, Cert.DwLrCtxRefIdeal.Gen.facts,
  Cert.DhcKv.Gen.facts, Cert.DhcKvIdeal.Gen.facts, Cert.DhcKvRefIdeal.Gen.facts,
  Cert.DhcSq.Gen.facts, Cert.DhcSqIdeal.Gen.facts, Cert.DhcSqRefIdeal.Gen.facts,
  Cert.DhcLr.Gen.facts, Cert.DhcLrIdeal.Gen.facts, Cert.DhcLrRefIdeal.Gen.facts,
  Cert.Lr.Gen.facts, Cert.LrIdeal.Gen.facts, Cert.LrRefIdeal.Gen.facts,
  Cert.DhLr.Gen.facts, Cert.DhLrIdeal.Gen.facts, Cert.DhLrRefIdeal.Gen.facts,
  Cert.DwLr.Gen.facts, Cert.DwLrIdeal.Gen.facts, Cert.DwLrRefIdeal.Gen.facts,
  Cert.Merge.Gen.facts, Cert.MergeIdeal.Gen.facts, Cert.MergeRefIdeal.Gen.facts,
  Cert.MergeBwd.Gen.facts, Cert.MergeBwdIdeal.Gen.facts, Cert.MergeBwdRefIdeal.Gen.facts,
  Cert.Conv.Gen.facts, Cert.ConvIdeal.Gen.facts, Cert.ConvRefIdeal.Gen.facts,
  Cert.Pre_finite.Gen.facts, frame_kernel, frame_ideal, frame_ideal_finite, frame_reference, frame_reference_finite,
  fun m ρ _ => Cert.Up.Gen.frame m ρ, fun m ρ _ => Cert.UpIdeal.Gen.frame m ρ, Cert.UpIdeal.Mat.ref_frame,
  fun m ρ _ => Cert.Down.Gen.frame m ρ, fun m ρ _ => Cert.DownIdeal.Gen.frame m ρ, Cert.DownIdeal.Mat.ref_frame,
  fun m ρ _ => Cert.Df.Gen.frame m ρ, fun m ρ _ => Cert.DfIdeal.Gen.frame m ρ, Cert.DfIdeal.Mat.ref_frame,
  fun m ρ _ => Cert.DwDown.Gen.frame m ρ, fun m ρ _ => Cert.DwDownIdeal.Gen.frame m ρ, Cert.DwDownIdeal.Mat.ref_frame,
  fun m ρ _ => Cert.Dh.Gen.frame m ρ, fun m ρ _ => Cert.DhIdeal.Gen.frame m ρ, Cert.DhIdeal.Mat.ref_frame,
  fun m ρ _ => Cert.DhAdd.Gen.frame m ρ, fun m ρ _ => Cert.DhAddIdeal.Gen.frame m ρ, Cert.DhAddIdeal.Mat.ref_frame,
  fun m ρ _ => Cert.DwUp.Gen.frame m ρ, fun m ρ _ => Cert.DwUpIdeal.Gen.frame m ρ, Cert.DwUpIdeal.Mat.ref_frame,
  fun m ρ _ => Cert.Sq.Gen.frame m ρ, fun m ρ _ => Cert.SqIdeal.Gen.frame m ρ, Cert.SqIdeal.Mat.ref_frame,
  fun m ρ _ => Cert.Dsq.Gen.frame m ρ, fun m ρ _ => Cert.DsqIdeal.Gen.frame m ρ, Cert.DsqIdeal.Mat.ref_frame,
  fun m ρ _ => Cert.DwSq.Gen.frame m ρ, fun m ρ _ => Cert.DwSqIdeal.Gen.frame m ρ, Cert.DwSqIdeal.Mat.ref_frame,
  fun m ρ _ => Cert.DoAttn.Gen.frame m ρ, fun m ρ _ => Cert.DoAttnIdeal.Gen.frame m ρ, Cert.DoAttnIdeal.Mat.ref_frame,
  fun m ρ _ => Cert.DsqAdd.Gen.frame m ρ, fun m ρ _ => Cert.DsqAddIdeal.Gen.frame m ρ, Cert.DsqAddIdeal.Mat.ref_frame,
  fun m ρ _ => Cert.DwSqAdd.Gen.frame m ρ, fun m ρ _ => Cert.DwSqAddIdeal.Gen.frame m ρ, Cert.DwSqAddIdeal.Mat.ref_frame,
  fun m ρ _ => Cert.Gab.Gen.frame m ρ, fun m ρ _ => Cert.GabIdeal.Gen.frame m ρ, Cert.GabIdeal.Mat.ref_frame,
  fun m ρ _ => Cert.DhGab.Gen.frame m ρ, fun m ρ _ => Cert.DhGabIdeal.Gen.frame m ρ, Cert.DhGabIdeal.Mat.ref_frame,
  fun m ρ _ => Cert.DwGab.Gen.frame m ρ, fun m ρ _ => Cert.DwGabIdeal.Gen.frame m ρ, Cert.DwGabIdeal.Mat.ref_frame,
  fun m ρ _ => Cert.Kv.Gen.frame m ρ, fun m ρ _ => Cert.KvIdeal.Gen.frame m ρ, Cert.KvIdeal.Mat.ref_frame,
  fun m ρ _ => Cert.DhKv.Gen.frame m ρ, fun m ρ _ => Cert.DhKvIdeal.Gen.frame m ρ, Cert.DhKvIdeal.Mat.ref_frame,
  fun m ρ _ => Cert.DwKv.Gen.frame m ρ, fun m ρ _ => Cert.DwKvIdeal.Gen.frame m ρ, Cert.DwKvIdeal.Mat.ref_frame,
  fun m ρ _ => Cert.KvCtx.Gen.frame m ρ, fun m ρ _ => Cert.KvCtxIdeal.Gen.frame m ρ, Cert.KvCtxIdeal.Mat.ref_frame,
  fun m ρ _ => Cert.SqCtx.Gen.frame m ρ, fun m ρ _ => Cert.SqCtxIdeal.Gen.frame m ρ, Cert.SqCtxIdeal.Mat.ref_frame,
  fun m ρ _ => Cert.LrCtx.Gen.frame m ρ, fun m ρ _ => Cert.LrCtxIdeal.Gen.frame m ρ, Cert.LrCtxIdeal.Mat.ref_frame,
  fun m ρ _ => Cert.DwKvCtx.Gen.frame m ρ, fun m ρ _ => Cert.DwKvCtxIdeal.Gen.frame m ρ, Cert.DwKvCtxIdeal.Mat.ref_frame,
  fun m ρ _ => Cert.DwSqCtx.Gen.frame m ρ, fun m ρ _ => Cert.DwSqCtxIdeal.Gen.frame m ρ, Cert.DwSqCtxIdeal.Mat.ref_frame,
  fun m ρ _ => Cert.DwLrCtx.Gen.frame m ρ, fun m ρ _ => Cert.DwLrCtxIdeal.Gen.frame m ρ, Cert.DwLrCtxIdeal.Mat.ref_frame,
  fun m ρ _ => Cert.DhcKv.Gen.frame m ρ, fun m ρ _ => Cert.DhcKvIdeal.Gen.frame m ρ, Cert.DhcKvIdeal.Mat.ref_frame,
  fun m ρ _ => Cert.DhcSq.Gen.frame m ρ, fun m ρ _ => Cert.DhcSqIdeal.Gen.frame m ρ, Cert.DhcSqIdeal.Mat.ref_frame,
  fun m ρ _ => Cert.DhcLr.Gen.frame m ρ, fun m ρ _ => Cert.DhcLrIdeal.Gen.frame m ρ, Cert.DhcLrIdeal.Mat.ref_frame,
  fun m ρ _ => Cert.Lr.Gen.frame m ρ, fun m ρ _ => Cert.LrIdeal.Gen.frame m ρ, Cert.LrIdeal.Mat.ref_frame,
  fun m ρ _ => Cert.DhLr.Gen.frame m ρ, fun m ρ _ => Cert.DhLrIdeal.Gen.frame m ρ, Cert.DhLrIdeal.Mat.ref_frame,
  fun m ρ _ => Cert.DwLr.Gen.frame m ρ, fun m ρ _ => Cert.DwLrIdeal.Gen.frame m ρ, Cert.DwLrIdeal.Mat.ref_frame,
  fun m ρ _ => Cert.Merge.Gen.frame m ρ, fun m ρ _ => Cert.MergeIdeal.Gen.frame m ρ, Cert.MergeIdeal.Gate.ref_frame,
  fun m ρ _ => Cert.MergeBwd.Gen.frame m ρ, fun m ρ _ => Cert.MergeBwdIdeal.Gen.frame m ρ, Cert.MergeBwdIdeal.Gate.ref_frame,
  fun m ρ _ => Cert.Conv.Gen.frame m ρ, fun m ρ _ => Cert.ConvIdeal.Gen.frame m ρ, Cert.ConvIdeal.Gate.ref_frame,
  mask_named, same_function,
  trivial, Cert.UpIdeal.Mat.same,
  trivial, Cert.DownIdeal.Mat.same,
  trivial, Cert.DfIdeal.Mat.same,
  trivial, Cert.DwDownIdeal.Mat.same,
  trivial, Cert.DhIdeal.Mat.same,
  trivial, Cert.DhAddIdeal.Mat.same,
  trivial, Cert.DwUpIdeal.Mat.same,
  trivial, Cert.SqIdeal.Mat.same,
  trivial, Cert.DsqIdeal.Mat.same,
  trivial, Cert.DwSqIdeal.Mat.same,
  trivial, Cert.DoAttnIdeal.Mat.same,
  trivial, Cert.DsqAddIdeal.Mat.same,
  trivial, Cert.DwSqAddIdeal.Mat.same,
  trivial, Cert.GabIdeal.Mat.same,
  trivial, Cert.DhGabIdeal.Mat.same,
  trivial, Cert.DwGabIdeal.Mat.same,
  trivial, Cert.KvIdeal.Mat.same,
  trivial, Cert.DhKvIdeal.Mat.same,
  trivial, Cert.DwKvIdeal.Mat.same,
  trivial, Cert.KvCtxIdeal.Mat.same,
  trivial, Cert.SqCtxIdeal.Mat.same,
  trivial, Cert.LrCtxIdeal.Mat.same,
  trivial, Cert.DwKvCtxIdeal.Mat.same,
  trivial, Cert.DwSqCtxIdeal.Mat.same,
  trivial, Cert.DwLrCtxIdeal.Mat.same,
  trivial, Cert.DhcKvIdeal.Mat.same,
  trivial, Cert.DhcSqIdeal.Mat.same,
  trivial, Cert.DhcLrIdeal.Mat.same,
  trivial, Cert.LrIdeal.Mat.same,
  trivial, Cert.DhLrIdeal.Mat.same,
  trivial, Cert.DwLrIdeal.Mat.same,
  trivial, Cert.MergeIdeal.Gate.same,
  trivial, Cert.MergeBwdIdeal.Gate.same,
  trivial, Cert.ConvIdeal.Gate.same⟩

end Cert.Proof

end
